-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_MlpAct (m : (ℓ : Loc Cert.MlpAct.nD Cert.MlpAct.τ Cert.MlpAct.sig) → Buf (Elt Bits) ℓ) : Prop :=
  True

def Pre_MlpActIdeal (m : (ℓ : Loc Cert.MlpActIdeal.nD Cert.MlpActIdeal.τ Cert.MlpActIdeal.sig) → Buf (Elt Ideal) ℓ) : Prop :=
  True

def Pre_MlpActRefIdeal (m : (ℓ : Loc Cert.MlpActRefIdeal.nD Cert.MlpActRefIdeal.τ Cert.MlpActRefIdeal.sig) → Buf (Elt Ideal) ℓ) : Prop :=
  True

def Pre_MlpW (m : (ℓ : Loc Cert.MlpW.nD Cert.MlpW.τ Cert.MlpW.sig) → Buf (Elt Bits) ℓ) : Prop :=
  True

def Pre_MlpWIdeal (m : (ℓ : Loc Cert.MlpWIdeal.nD Cert.MlpWIdeal.τ Cert.MlpWIdeal.sig) → Buf (Elt Ideal) ℓ) : Prop :=
  True

def Pre_MlpWRefIdeal (m : (ℓ : Loc Cert.MlpWRefIdeal.nD Cert.MlpWRefIdeal.τ Cert.MlpWRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_MlpFwd (m : (ℓ : Loc Cert.MlpFwd.nD Cert.MlpFwd.τ Cert.MlpFwd.sig) → Buf (Elt Bits) ℓ) : Prop :=
  True

def Pre_MlpFwdIdeal (m : (ℓ : Loc Cert.MlpFwdIdeal.nD Cert.MlpFwdIdeal.τ Cert.MlpFwdIdeal.sig) → Buf (Elt Ideal) ℓ) : Prop :=
  True

def Pre_MlpFwdRefIdeal (m : (ℓ : Loc Cert.MlpFwdRefIdeal.nD Cert.MlpFwdRefIdeal.τ Cert.MlpFwdRefIdeal.sig) → Buf (Elt Ideal) ℓ) : Prop :=
  True

def Pre_LastFwd (m : (ℓ : Loc Cert.LastFwd.nD Cert.LastFwd.τ Cert.LastFwd.sig) → Buf (Elt Bits) ℓ) : Prop :=
  True

def Pre_LastFwdIdeal (m : (ℓ : Loc Cert.LastFwdIdeal.nD Cert.LastFwdIdeal.τ Cert.LastFwdIdeal.sig) → Buf (Elt Ideal) ℓ) : Prop :=
  True

def Pre_LastFwdRefIdeal (m : (ℓ : Loc Cert.LastFwdRefIdeal.nD Cert.LastFwdRefIdeal.τ Cert.LastFwdRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_scores [hPre_finite_scores : Cert.Pre_finite_scores.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_scores.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_scores [hPre_finite_scores : Cert.Pre_finite_scores.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_scores.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))) = (fun _ => 1#1)

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_MlpAct [hMlpAct : Cert.MlpAct.Facts] : Prop :=
  ∀ (m : (ℓ : Loc Cert.MlpAct.nD Cert.MlpAct.τ Cert.MlpAct.sig) → Buf (Elt Bits) ℓ) (g : Dev Cert.MlpAct.nD → PrngReg), Pre_MlpAct m →
    θ_run (Cert.MlpAct.defs (F := Bits)) (onTc (τ := Cert.MlpAct.τ) (Cert.MlpAct.main (F := Bits))) ⟨m, fun _ => 0, g⟩ (fun r => (∀ c : Dev Cert.MlpAct.nD,
      r.2.mem ((c.tc : Thread Cert.MlpAct.nD Cert.MlpAct.τ).loc Cert.MlpAct.main_arg0) = m ((c.tc : Thread Cert.MlpAct.nD Cert.MlpAct.τ).loc Cert.MlpAct.main_arg0)
      ∧ r.2.mem ((c.tc : Thread Cert.MlpAct.nD Cert.MlpAct.τ).loc Cert.MlpAct.main_arg1) = m ((c.tc : Thread Cert.MlpAct.nD Cert.MlpAct.τ).loc Cert.MlpAct.main_arg1)
      ∧ r.2.mem ((c.tc : Thread Cert.MlpAct.nD Cert.MlpAct.τ).loc Cert.MlpAct.main_arg2) = m ((c.tc : Thread Cert.MlpAct.nD Cert.MlpAct.τ).loc Cert.MlpAct.main_arg2)
      ∧ r.2.mem ((c.tc : Thread Cert.MlpAct.nD Cert.MlpAct.τ).loc Cert.MlpAct.main_arg3) = m ((c.tc : Thread Cert.MlpAct.nD Cert.MlpAct.τ).loc Cert.MlpAct.main_arg3)
      ∧ r.2.mem ((c.tc : Thread Cert.MlpAct.nD Cert.MlpAct.τ).loc Cert.MlpAct.main_arg4) = m ((c.tc : Thread Cert.MlpAct.nD Cert.MlpAct.τ).loc Cert.MlpAct.main_arg4))
      ∧ r.2.sem = fun _ => 0)

def quiescent_MlpActIdeal [hMlpActIdeal : Cert.MlpActIdeal.Facts] : Prop :=
  ∀ (m : (ℓ : Loc Cert.MlpActIdeal.nD Cert.MlpActIdeal.τ Cert.MlpActIdeal.sig) → Buf (Elt Ideal) ℓ) (g : Dev Cert.MlpActIdeal.nD → PrngReg), Pre_MlpActIdeal m →
    θ_run (Cert.MlpActIdeal.defs (F := Ideal)) (onTc (τ := Cert.MlpActIdeal.τ) (Cert.MlpActIdeal.main (F := Ideal))) ⟨m, fun _ => 0, g⟩ (fun r => (∀ c : Dev Cert.MlpActIdeal.nD,
      r.2.mem ((c.tc : Thread Cert.MlpActIdeal.nD Cert.MlpActIdeal.τ).loc Cert.MlpActIdeal.main_arg0) = m ((c.tc : Thread Cert.MlpActIdeal.nD Cert.MlpActIdeal.τ).loc Cert.MlpActIdeal.main_arg0)
      ∧ r.2.mem ((c.tc : Thread Cert.MlpActIdeal.nD Cert.MlpActIdeal.τ).loc Cert.MlpActIdeal.main_arg1) = m ((c.tc : Thread Cert.MlpActIdeal.nD Cert.MlpActIdeal.τ).loc Cert.MlpActIdeal.main_arg1)
      ∧ r.2.mem ((c.tc : Thread Cert.MlpActIdeal.nD Cert.MlpActIdeal.τ).loc Cert.MlpActIdeal.main_arg2) = m ((c.tc : Thread Cert.MlpActIdeal.nD Cert.MlpActIdeal.τ).loc Cert.MlpActIdeal.main_arg2)
      ∧ r.2.mem ((c.tc : Thread Cert.MlpActIdeal.nD Cert.MlpActIdeal.τ).loc Cert.MlpActIdeal.main_arg3) = m ((c.tc : Thread Cert.MlpActIdeal.nD Cert.MlpActIdeal.τ).loc Cert.MlpActIdeal.main_arg3)
      ∧ r.2.mem ((c.tc : Thread Cert.MlpActIdeal.nD Cert.MlpActIdeal.τ).loc Cert.MlpActIdeal.main_arg4) = m ((c.tc : Thread Cert.MlpActIdeal.nD Cert.MlpActIdeal.τ).loc Cert.MlpActIdeal.main_arg4))
      ∧ r.2.sem = fun _ => 0)

def quiescent_MlpActRefIdeal [hMlpActRefIdeal : Cert.MlpActRefIdeal.Facts] : Prop :=
  ∀ (m : (ℓ : Loc Cert.MlpActRefIdeal.nD Cert.MlpActRefIdeal.τ Cert.MlpActRefIdeal.sig) → Buf (Elt Ideal) ℓ) (g : Dev Cert.MlpActRefIdeal.nD → PrngReg), Pre_MlpActRefIdeal m →
    θ_run (Cert.MlpActRefIdeal.defs (F := Ideal)) (onTc (τ := Cert.MlpActRefIdeal.τ) (Cert.MlpActRefIdeal.main (F := Ideal))) ⟨m, fun _ => 0, g⟩ (fun r => (∀ c : Dev Cert.MlpActRefIdeal.nD,
      r.2.mem ((c.tc : Thread Cert.MlpActRefIdeal.nD Cert.MlpActRefIdeal.τ).loc Cert.MlpActRefIdeal.main_arg0) = m ((c.tc : Thread Cert.MlpActRefIdeal.nD Cert.MlpActRefIdeal.τ).loc Cert.MlpActRefIdeal.main_arg0)
      ∧ r.2.mem ((c.tc : Thread Cert.MlpActRefIdeal.nD Cert.MlpActRefIdeal.τ).loc Cert.MlpActRefIdeal.main_arg1) = m ((c.tc : Thread Cert.MlpActRefIdeal.nD Cert.MlpActRefIdeal.τ).loc Cert.MlpActRefIdeal.main_arg1)
      ∧ r.2.mem ((c.tc : Thread Cert.MlpActRefIdeal.nD Cert.MlpActRefIdeal.τ).loc Cert.MlpActRefIdeal.main_arg2) = m ((c.tc : Thread Cert.MlpActRefIdeal.nD Cert.MlpActRefIdeal.τ).loc Cert.MlpActRefIdeal.main_arg2)
      ∧ r.2.mem ((c.tc : Thread Cert.MlpActRefIdeal.nD Cert.MlpActRefIdeal.τ).loc Cert.MlpActRefIdeal.main_arg3) = m ((c.tc : Thread Cert.MlpActRefIdeal.nD Cert.MlpActRefIdeal.τ).loc Cert.MlpActRefIdeal.main_arg3)
      ∧ r.2.mem ((c.tc : Thread Cert.MlpActRefIdeal.nD Cert.MlpActRefIdeal.τ).loc Cert.MlpActRefIdeal.main_arg4) = m ((c.tc : Thread Cert.MlpActRefIdeal.nD Cert.MlpActRefIdeal.τ).loc Cert.MlpActRefIdeal.main_arg4))
      ∧ r.2.sem = fun _ => 0)

def quiescent_MlpW [hMlpW : Cert.MlpW.Facts] : Prop :=
  ∀ (m : (ℓ : Loc Cert.MlpW.nD Cert.MlpW.τ Cert.MlpW.sig) → Buf (Elt Bits) ℓ) (g : Dev Cert.MlpW.nD → PrngReg), Pre_MlpW m →
    θ_run (Cert.MlpW.defs (F := Bits)) (onTc (τ := Cert.MlpW.τ) (Cert.MlpW.main (F := Bits))) ⟨m, fun _ => 0, g⟩ (fun r => (∀ c : Dev Cert.MlpW.nD,
      r.2.mem ((c.tc : Thread Cert.MlpW.nD Cert.MlpW.τ).loc Cert.MlpW.main_arg0) = m ((c.tc : Thread Cert.MlpW.nD Cert.MlpW.τ).loc Cert.MlpW.main_arg0)
      ∧ r.2.mem ((c.tc : Thread Cert.MlpW.nD Cert.MlpW.τ).loc Cert.MlpW.main_arg1) = m ((c.tc : Thread Cert.MlpW.nD Cert.MlpW.τ).loc Cert.MlpW.main_arg1)
      ∧ r.2.mem ((c.tc : Thread Cert.MlpW.nD Cert.MlpW.τ).loc Cert.MlpW.main_arg2) = m ((c.tc : Thread Cert.MlpW.nD Cert.MlpW.τ).loc Cert.MlpW.main_arg2)
      ∧ r.2.mem ((c.tc : Thread Cert.MlpW.nD Cert.MlpW.τ).loc Cert.MlpW.main_arg3) = m ((c.tc : Thread Cert.MlpW.nD Cert.MlpW.τ).loc Cert.MlpW.main_arg3)
      ∧ r.2.mem ((c.tc : Thread Cert.MlpW.nD Cert.MlpW.τ).loc Cert.MlpW.main_arg4) = m ((c.tc : Thread Cert.MlpW.nD Cert.MlpW.τ).loc Cert.MlpW.main_arg4))
      ∧ r.2.sem = fun _ => 0)

def quiescent_MlpWIdeal [hMlpWIdeal : Cert.MlpWIdeal.Facts] : Prop :=
  ∀ (m : (ℓ : Loc Cert.MlpWIdeal.nD Cert.MlpWIdeal.τ Cert.MlpWIdeal.sig) → Buf (Elt Ideal) ℓ) (g : Dev Cert.MlpWIdeal.nD → PrngReg), Pre_MlpWIdeal m →
    θ_run (Cert.MlpWIdeal.defs (F := Ideal)) (onTc (τ := Cert.MlpWIdeal.τ) (Cert.MlpWIdeal.main (F := Ideal))) ⟨m, fun _ => 0, g⟩ (fun r => (∀ c : Dev Cert.MlpWIdeal.nD,
      r.2.mem ((c.tc : Thread Cert.MlpWIdeal.nD Cert.MlpWIdeal.τ).loc Cert.MlpWIdeal.main_arg0) = m ((c.tc : Thread Cert.MlpWIdeal.nD Cert.MlpWIdeal.τ).loc Cert.MlpWIdeal.main_arg0)
      ∧ r.2.mem ((c.tc : Thread Cert.MlpWIdeal.nD Cert.MlpWIdeal.τ).loc Cert.MlpWIdeal.main_arg1) = m ((c.tc : Thread Cert.MlpWIdeal.nD Cert.MlpWIdeal.τ).loc Cert.MlpWIdeal.main_arg1)
      ∧ r.2.mem ((c.tc : Thread Cert.MlpWIdeal.nD Cert.MlpWIdeal.τ).loc Cert.MlpWIdeal.main_arg2) = m ((c.tc : Thread Cert.MlpWIdeal.nD Cert.MlpWIdeal.τ).loc Cert.MlpWIdeal.main_arg2)
      ∧ r.2.mem ((c.tc : Thread Cert.MlpWIdeal.nD Cert.MlpWIdeal.τ).loc Cert.MlpWIdeal.main_arg3) = m ((c.tc : Thread Cert.MlpWIdeal.nD Cert.MlpWIdeal.τ).loc Cert.MlpWIdeal.main_arg3)
      ∧ r.2.mem ((c.tc : Thread Cert.MlpWIdeal.nD Cert.MlpWIdeal.τ).loc Cert.MlpWIdeal.main_arg4) = m ((c.tc : Thread Cert.MlpWIdeal.nD Cert.MlpWIdeal.τ).loc Cert.MlpWIdeal.main_arg4))
      ∧ r.2.sem = fun _ => 0)

def quiescent_MlpWRefIdeal [hMlpWRefIdeal : Cert.MlpWRefIdeal.Facts] : Prop :=
  ∀ (m : (ℓ : Loc Cert.MlpWRefIdeal.nD Cert.MlpWRefIdeal.τ Cert.MlpWRefIdeal.sig) → Buf (Elt Ideal) ℓ) (g : Dev Cert.MlpWRefIdeal.nD → PrngReg), Pre_MlpWRefIdeal m →
    θ_run (Cert.MlpWRefIdeal.defs (F := Ideal)) (onTc (τ := Cert.MlpWRefIdeal.τ) (Cert.MlpWRefIdeal.main (F := Ideal))) ⟨m, fun _ => 0, g⟩ (fun r => (∀ c : Dev Cert.MlpWRefIdeal.nD,
      r.2.mem ((c.tc : Thread Cert.MlpWRefIdeal.nD Cert.MlpWRefIdeal.τ).loc Cert.MlpWRefIdeal.main_arg0) = m ((c.tc : Thread Cert.MlpWRefIdeal.nD Cert.MlpWRefIdeal.τ).loc Cert.MlpWRefIdeal.main_arg0)
      ∧ r.2.mem ((c.tc : Thread Cert.MlpWRefIdeal.nD Cert.MlpWRefIdeal.τ).loc Cert.MlpWRefIdeal.main_arg1) = m ((c.tc : Thread Cert.MlpWRefIdeal.nD Cert.MlpWRefIdeal.τ).loc Cert.MlpWRefIdeal.main_arg1)
      ∧ r.2.mem ((c.tc : Thread Cert.MlpWRefIdeal.nD Cert.MlpWRefIdeal.τ).loc Cert.MlpWRefIdeal.main_arg2) = m ((c.tc : Thread Cert.MlpWRefIdeal.nD Cert.MlpWRefIdeal.τ).loc Cert.MlpWRefIdeal.main_arg2)
      ∧ r.2.mem ((c.tc : Thread Cert.MlpWRefIdeal.nD Cert.MlpWRefIdeal.τ).loc Cert.MlpWRefIdeal.main_arg3) = m ((c.tc : Thread Cert.MlpWRefIdeal.nD Cert.MlpWRefIdeal.τ).loc Cert.MlpWRefIdeal.main_arg3)
      ∧ r.2.mem ((c.tc : Thread Cert.MlpWRefIdeal.nD Cert.MlpWRefIdeal.τ).loc Cert.MlpWRefIdeal.main_arg4) = m ((c.tc : Thread Cert.MlpWRefIdeal.nD Cert.MlpWRefIdeal.τ).loc Cert.MlpWRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4)
      ∧ r.2.mem ((c.tc : Thread Cert.OutFwd.nD Cert.OutFwd.τ).loc Cert.OutFwd.main_arg5) = m ((c.tc : Thread Cert.OutFwd.nD Cert.OutFwd.τ).loc Cert.OutFwd.main_arg5))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
      ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3)
      ∧ r.2.mem ((c.tc : Thread Cert.OutFwdRefIdeal.nD Cert.OutFwdRefIdeal.τ).loc Cert.OutFwdRefIdeal.main_arg4) = m ((c.tc : Thread Cert.OutFwdRefIdeal.nD Cert.OutFwdRefIdeal.τ).loc Cert.OutFwdRefIdeal.main_arg4)
      ∧ r.2.mem ((c.tc : Thread Cert.OutFwdRefIdeal.nD Cert.OutFwdRefIdeal.τ).loc Cert.OutFwdRefIdeal.main_arg5) = m ((c.tc : Thread Cert.OutFwdRefIdeal.nD Cert.OutFwdRefIdeal.τ).loc Cert.OutFwdRefIdeal.main_arg5))
      ∧ r.2.sem = fun _ => 0)

def quiescent_MlpFwd [hMlpFwd : Cert.MlpFwd.Facts] : Prop :=
  ∀ (m : (ℓ : Loc Cert.MlpFwd.nD Cert.MlpFwd.τ Cert.MlpFwd.sig) → Buf (Elt Bits) ℓ) (g : Dev Cert.MlpFwd.nD → PrngReg), Pre_MlpFwd m →
    θ_run (Cert.MlpFwd.defs (F := Bits)) (onTc (τ := Cert.MlpFwd.τ) (Cert.MlpFwd.main (F := Bits))) ⟨m, fun _ => 0, g⟩ (fun r => (∀ c : Dev Cert.MlpFwd.nD,
      r.2.mem ((c.tc : Thread Cert.MlpFwd.nD Cert.MlpFwd.τ).loc Cert.MlpFwd.main_arg0) = m ((c.tc : Thread Cert.MlpFwd.nD Cert.MlpFwd.τ).loc Cert.MlpFwd.main_arg0)
      ∧ r.2.mem ((c.tc : Thread Cert.MlpFwd.nD Cert.MlpFwd.τ).loc Cert.MlpFwd.main_arg1) = m ((c.tc : Thread Cert.MlpFwd.nD Cert.MlpFwd.τ).loc Cert.MlpFwd.main_arg1)
      ∧ r.2.mem ((c.tc : Thread Cert.MlpFwd.nD Cert.MlpFwd.τ).loc Cert.MlpFwd.main_arg2) = m ((c.tc : Thread Cert.MlpFwd.nD Cert.MlpFwd.τ).loc Cert.MlpFwd.main_arg2)
      ∧ r.2.mem ((c.tc : Thread Cert.MlpFwd.nD Cert.MlpFwd.τ).loc Cert.MlpFwd.main_arg3) = m ((c.tc : Thread Cert.MlpFwd.nD Cert.MlpFwd.τ).loc Cert.MlpFwd.main_arg3))
      ∧ r.2.sem = fun _ => 0)

def quiescent_MlpFwdIdeal [hMlpFwdIdeal : Cert.MlpFwdIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg), Pre_MlpFwdIdeal m →
    θ_run (Cert.MlpFwdIdeal.defs (F := Ideal)) (onTc (τ := Cert.MlpFwdIdeal.τ) (Cert.MlpFwdIdeal.main (F := Ideal))) ⟨m, fun _ => 0, g⟩ (fun r => (∀ c : Dev Cert.MlpFwdIdeal.nD,
      r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
      ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
      ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
      ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3))
      ∧ r.2.sem = fun _ => 0)

def quiescent_MlpFwdRefIdeal [hMlpFwdRefIdeal : Cert.MlpFwdRefIdeal.Facts] : Prop :=
  ∀ (m : (ℓ : Loc Cert.MlpFwdRefIdeal.nD Cert.MlpFwdRefIdeal.τ Cert.MlpFwdRefIdeal.sig) → Buf (Elt Ideal) ℓ) (g : Dev Cert.MlpFwdRefIdeal.nD → PrngReg), Pre_MlpFwdRefIdeal m →
    θ_run (Cert.MlpFwdRefIdeal.defs (F := Ideal)) (onTc (τ := Cert.MlpFwdRefIdeal.τ) (Cert.MlpFwdRefIdeal.main (F := Ideal))) ⟨m, fun _ => 0, g⟩ (fun r => (∀ c : Dev Cert.MlpFwdRefIdeal.nD,
      r.2.mem ((c.tc : Thread Cert.MlpFwdRefIdeal.nD Cert.MlpFwdRefIdeal.τ).loc Cert.MlpFwdRefIdeal.main_arg0) = m ((c.tc : Thread Cert.MlpFwdRefIdeal.nD Cert.MlpFwdRefIdeal.τ).loc Cert.MlpFwdRefIdeal.main_arg0)
      ∧ r.2.mem ((c.tc : Thread Cert.MlpFwdRefIdeal.nD Cert.MlpFwdRefIdeal.τ).loc Cert.MlpFwdRefIdeal.main_arg1) = m ((c.tc : Thread Cert.MlpFwdRefIdeal.nD Cert.MlpFwdRefIdeal.τ).loc Cert.MlpFwdRefIdeal.main_arg1)
      ∧ r.2.mem ((c.tc : Thread Cert.MlpFwdRefIdeal.nD Cert.MlpFwdRefIdeal.τ).loc Cert.MlpFwdRefIdeal.main_arg2) = m ((c.tc : Thread Cert.MlpFwdRefIdeal.nD Cert.MlpFwdRefIdeal.τ).loc Cert.MlpFwdRefIdeal.main_arg2)
      ∧ r.2.mem ((c.tc : Thread Cert.MlpFwdRefIdeal.nD Cert.MlpFwdRefIdeal.τ).loc Cert.MlpFwdRefIdeal.main_arg3) = m ((c.tc : Thread Cert.MlpFwdRefIdeal.nD Cert.MlpFwdRefIdeal.τ).loc Cert.MlpFwdRefIdeal.main_arg3))
      ∧ r.2.sem = fun _ => 0)

def quiescent_LastFwd [hLastFwd : Cert.LastFwd.Facts] : Prop :=
  ∀ (m : (ℓ : Loc Cert.LastFwd.nD Cert.LastFwd.τ Cert.LastFwd.sig) → Buf (Elt Bits) ℓ) (g : Dev Cert.LastFwd.nD → PrngReg), Pre_LastFwd m →
    θ_run (Cert.LastFwd.defs (F := Bits)) (onTc (τ := Cert.LastFwd.τ) (Cert.LastFwd.main (F := Bits))) ⟨m, fun _ => 0, g⟩ (fun r => (∀ c : Dev Cert.LastFwd.nD,
      r.2.mem ((c.tc : Thread Cert.LastFwd.nD Cert.LastFwd.τ).loc Cert.LastFwd.main_arg0) = m ((c.tc : Thread Cert.LastFwd.nD Cert.LastFwd.τ).loc Cert.LastFwd.main_arg0)
      ∧ r.2.mem ((c.tc : Thread Cert.LastFwd.nD Cert.LastFwd.τ).loc Cert.LastFwd.main_arg1) = m ((c.tc : Thread Cert.LastFwd.nD Cert.LastFwd.τ).loc Cert.LastFwd.main_arg1)
      ∧ r.2.mem ((c.tc : Thread Cert.LastFwd.nD Cert.LastFwd.τ).loc Cert.LastFwd.main_arg2) = m ((c.tc : Thread Cert.LastFwd.nD Cert.LastFwd.τ).loc Cert.LastFwd.main_arg2)
      ∧ r.2.mem ((c.tc : Thread Cert.LastFwd.nD Cert.LastFwd.τ).loc Cert.LastFwd.main_arg3) = m ((c.tc : Thread Cert.LastFwd.nD Cert.LastFwd.τ).loc Cert.LastFwd.main_arg3)
      ∧ r.2.mem ((c.tc : Thread Cert.LastFwd.nD Cert.LastFwd.τ).loc Cert.LastFwd.main_arg4) = m ((c.tc : Thread Cert.LastFwd.nD Cert.LastFwd.τ).loc Cert.LastFwd.main_arg4)
      ∧ r.2.mem ((c.tc : Thread Cert.LastFwd.nD Cert.LastFwd.τ).loc Cert.LastFwd.main_arg5) = m ((c.tc : Thread Cert.LastFwd.nD Cert.LastFwd.τ).loc Cert.LastFwd.main_arg5)
      ∧ r.2.mem ((c.tc : Thread Cert.LastFwd.nD Cert.LastFwd.τ).loc Cert.LastFwd.main_arg6) = m ((c.tc : Thread Cert.LastFwd.nD Cert.LastFwd.τ).loc Cert.LastFwd.main_arg6)
      ∧ r.2.mem ((c.tc : Thread Cert.LastFwd.nD Cert.LastFwd.τ).loc Cert.LastFwd.main_arg7) = m ((c.tc : Thread Cert.LastFwd.nD Cert.LastFwd.τ).loc Cert.LastFwd.main_arg7)
      ∧ r.2.mem ((c.tc : Thread Cert.LastFwd.nD Cert.LastFwd.τ).loc Cert.LastFwd.main_arg8) = m ((c.tc : Thread Cert.LastFwd.nD Cert.LastFwd.τ).loc Cert.LastFwd.main_arg8)
      ∧ r.2.mem ((c.tc : Thread Cert.LastFwd.nD Cert.LastFwd.τ).loc Cert.LastFwd.main_arg9) = m ((c.tc : Thread Cert.LastFwd.nD Cert.LastFwd.τ).loc Cert.LastFwd.main_arg9))
      ∧ r.2.sem = fun _ => 0)

def quiescent_LastFwdIdeal [hLastFwdIdeal : Cert.LastFwdIdeal.Facts] : Prop :=
  ∀ (m : (ℓ : Loc Cert.LastFwdIdeal.nD Cert.LastFwdIdeal.τ Cert.LastFwdIdeal.sig) → Buf (Elt Ideal) ℓ) (g : Dev Cert.LastFwdIdeal.nD → PrngReg), Pre_LastFwdIdeal m →
    θ_run (Cert.LastFwdIdeal.defs (F := Ideal)) (onTc (τ := Cert.LastFwdIdeal.τ) (Cert.LastFwdIdeal.main (F := Ideal))) ⟨m, fun _ => 0, g⟩ (fun r => (∀ c : Dev Cert.LastFwdIdeal.nD,
      r.2.mem ((c.tc : Thread Cert.LastFwdIdeal.nD Cert.LastFwdIdeal.τ).loc Cert.LastFwdIdeal.main_arg0) = m ((c.tc : Thread Cert.LastFwdIdeal.nD Cert.LastFwdIdeal.τ).loc Cert.LastFwdIdeal.main_arg0)
      ∧ r.2.mem ((c.tc : Thread Cert.LastFwdIdeal.nD Cert.LastFwdIdeal.τ).loc Cert.LastFwdIdeal.main_arg1) = m ((c.tc : Thread Cert.LastFwdIdeal.nD Cert.LastFwdIdeal.τ).loc Cert.LastFwdIdeal.main_arg1)
      ∧ r.2.mem ((c.tc : Thread Cert.LastFwdIdeal.nD Cert.LastFwdIdeal.τ).loc Cert.LastFwdIdeal.main_arg2) = m ((c.tc : Thread Cert.LastFwdIdeal.nD Cert.LastFwdIdeal.τ).loc Cert.LastFwdIdeal.main_arg2)
      ∧ r.2.mem ((c.tc : Thread Cert.LastFwdIdeal.nD Cert.LastFwdIdeal.τ).loc Cert.LastFwdIdeal.main_arg3) = m ((c.tc : Thread Cert.LastFwdIdeal.nD Cert.LastFwdIdeal.τ).loc Cert.LastFwdIdeal.main_arg3)
      ∧ r.2.mem ((c.tc : Thread Cert.LastFwdIdeal.nD Cert.LastFwdIdeal.τ).loc Cert.LastFwdIdeal.main_arg4) = m ((c.tc : Thread Cert.LastFwdIdeal.nD Cert.LastFwdIdeal.τ).loc Cert.LastFwdIdeal.main_arg4)
      ∧ r.2.mem ((c.tc : Thread Cert.LastFwdIdeal.nD Cert.LastFwdIdeal.τ).loc Cert.LastFwdIdeal.main_arg5) = m ((c.tc : Thread Cert.LastFwdIdeal.nD Cert.LastFwdIdeal.τ).loc Cert.LastFwdIdeal.main_arg5)
      ∧ r.2.mem ((c.tc : Thread Cert.LastFwdIdeal.nD Cert.LastFwdIdeal.τ).loc Cert.LastFwdIdeal.main_arg6) = m ((c.tc : Thread Cert.LastFwdIdeal.nD Cert.LastFwdIdeal.τ).loc Cert.LastFwdIdeal.main_arg6)
      ∧ r.2.mem ((c.tc : Thread Cert.LastFwdIdeal.nD Cert.LastFwdIdeal.τ).loc Cert.LastFwdIdeal.main_arg7) = m ((c.tc : Thread Cert.LastFwdIdeal.nD Cert.LastFwdIdeal.τ).loc Cert.LastFwdIdeal.main_arg7)
      ∧ r.2.mem ((c.tc : Thread Cert.LastFwdIdeal.nD Cert.LastFwdIdeal.τ).loc Cert.LastFwdIdeal.main_arg8) = m ((c.tc : Thread Cert.LastFwdIdeal.nD Cert.LastFwdIdeal.τ).loc Cert.LastFwdIdeal.main_arg8)
      ∧ r.2.mem ((c.tc : Thread Cert.LastFwdIdeal.nD Cert.LastFwdIdeal.τ).loc Cert.LastFwdIdeal.main_arg9) = m ((c.tc : Thread Cert.LastFwdIdeal.nD Cert.LastFwdIdeal.τ).loc Cert.LastFwdIdeal.main_arg9))
      ∧ r.2.sem = fun _ => 0)

def quiescent_LastFwdRefIdeal [hLastFwdRefIdeal : Cert.LastFwdRefIdeal.Facts] : Prop :=
  ∀ (m : (ℓ : Loc Cert.LastFwdRefIdeal.nD Cert.LastFwdRefIdeal.τ Cert.LastFwdRefIdeal.sig) → Buf (Elt Ideal) ℓ) (g : Dev Cert.LastFwdRefIdeal.nD → PrngReg), Pre_LastFwdRefIdeal m →
    θ_run (Cert.LastFwdRefIdeal.defs (F := Ideal)) (onTc (τ := Cert.LastFwdRefIdeal.τ) (Cert.LastFwdRefIdeal.main (F := Ideal))) ⟨m, fun _ => 0, g⟩ (fun r => (∀ c : Dev Cert.LastFwdRefIdeal.nD,
      r.2.mem ((c.tc : Thread Cert.LastFwdRefIdeal.nD Cert.LastFwdRefIdeal.τ).loc Cert.LastFwdRefIdeal.main_arg0) = m ((c.tc : Thread Cert.LastFwdRefIdeal.nD Cert.LastFwdRefIdeal.τ).loc Cert.LastFwdRefIdeal.main_arg0)
      ∧ r.2.mem ((c.tc : Thread Cert.LastFwdRefIdeal.nD Cert.LastFwdRefIdeal.τ).loc Cert.LastFwdRefIdeal.main_arg1) = m ((c.tc : Thread Cert.LastFwdRefIdeal.nD Cert.LastFwdRefIdeal.τ).loc Cert.LastFwdRefIdeal.main_arg1)
      ∧ r.2.mem ((c.tc : Thread Cert.LastFwdRefIdeal.nD Cert.LastFwdRefIdeal.τ).loc Cert.LastFwdRefIdeal.main_arg2) = m ((c.tc : Thread Cert.LastFwdRefIdeal.nD Cert.LastFwdRefIdeal.τ).loc Cert.LastFwdRefIdeal.main_arg2)
      ∧ r.2.mem ((c.tc : Thread Cert.LastFwdRefIdeal.nD Cert.LastFwdRefIdeal.τ).loc Cert.LastFwdRefIdeal.main_arg3) = m ((c.tc : Thread Cert.LastFwdRefIdeal.nD Cert.LastFwdRefIdeal.τ).loc Cert.LastFwdRefIdeal.main_arg3)
      ∧ r.2.mem ((c.tc : Thread Cert.LastFwdRefIdeal.nD Cert.LastFwdRefIdeal.τ).loc Cert.LastFwdRefIdeal.main_arg4) = m ((c.tc : Thread Cert.LastFwdRefIdeal.nD Cert.LastFwdRefIdeal.τ).loc Cert.LastFwdRefIdeal.main_arg4)
      ∧ r.2.mem ((c.tc : Thread Cert.LastFwdRefIdeal.nD Cert.LastFwdRefIdeal.τ).loc Cert.LastFwdRefIdeal.main_arg5) = m ((c.tc : Thread Cert.LastFwdRefIdeal.nD Cert.LastFwdRefIdeal.τ).loc Cert.LastFwdRefIdeal.main_arg5)
      ∧ r.2.mem ((c.tc : Thread Cert.LastFwdRefIdeal.nD Cert.LastFwdRefIdeal.τ).loc Cert.LastFwdRefIdeal.main_arg6) = m ((c.tc : Thread Cert.LastFwdRefIdeal.nD Cert.LastFwdRefIdeal.τ).loc Cert.LastFwdRefIdeal.main_arg6)
      ∧ r.2.mem ((c.tc : Thread Cert.LastFwdRefIdeal.nD Cert.LastFwdRefIdeal.τ).loc Cert.LastFwdRefIdeal.main_arg7) = m ((c.tc : Thread Cert.LastFwdRefIdeal.nD Cert.LastFwdRefIdeal.τ).loc Cert.LastFwdRefIdeal.main_arg7)
      ∧ r.2.mem ((c.tc : Thread Cert.LastFwdRefIdeal.nD Cert.LastFwdRefIdeal.τ).loc Cert.LastFwdRefIdeal.main_arg8) = m ((c.tc : Thread Cert.LastFwdRefIdeal.nD Cert.LastFwdRefIdeal.τ).loc Cert.LastFwdRefIdeal.main_arg8)
      ∧ r.2.mem ((c.tc : Thread Cert.LastFwdRefIdeal.nD Cert.LastFwdRefIdeal.τ).loc Cert.LastFwdRefIdeal.main_arg9) = m ((c.tc : Thread Cert.LastFwdRefIdeal.nD Cert.LastFwdRefIdeal.τ).loc Cert.LastFwdRefIdeal.main_arg9))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_finite_scores [hAttnFwdIdeal : Cert.AttnFwdIdeal.Facts] [hPre_finite_scores : Cert.Pre_finite_scores.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_scores m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_finite_scores [hAttnFwdRefIdeal : Cert.AttnFwdRefIdeal.Facts] [hPre_finite_scores : Cert.Pre_finite_scores.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_scores m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v2_0)) (v1 : (c : Dev Cert.ConvIdeal.nD) → Buf (Elt Ideal) ((c.tc : Thread Cert.ConvIdeal.nD Cert.ConvIdeal.τ).loc Cert.ConvIdeal.main_v2_1)) (v2 : (c : Dev Cert.ConvIdeal.nD) → Buf (Elt Ideal) ((c.tc : Thread Cert.ConvIdeal.nD Cert.ConvIdeal.τ).loc Cert.ConvIdeal.main_v2_2)) (v3 : (c : Dev Cert.ConvIdeal.nD) → Buf (Elt Ideal) ((c.tc : Thread Cert.ConvIdeal.nD Cert.ConvIdeal.τ).loc Cert.ConvIdeal.main_v2_3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v2_0) = v0 c
          ∧ r.2.mem ((c.tc : Thread Cert.ConvIdeal.nD Cert.ConvIdeal.τ).loc Cert.ConvIdeal.main_v2_1) = v1 c
          ∧ r.2.mem ((c.tc : Thread Cert.ConvIdeal.nD Cert.ConvIdeal.τ).loc Cert.ConvIdeal.main_v2_2) = v2 c
          ∧ r.2.mem ((c.tc : Thread Cert.ConvIdeal.nD Cert.ConvIdeal.τ).loc Cert.ConvIdeal.main_v2_3) = v3 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v262) = v0 c
          ∧ r.2.mem ((c.tc : Thread Cert.ConvRefIdeal.nD Cert.ConvRefIdeal.τ).loc Cert.ConvRefIdeal.main_v263) = v1 c
          ∧ r.2.mem ((c.tc : Thread Cert.ConvRefIdeal.nD Cert.ConvRefIdeal.τ).loc Cert.ConvRefIdeal.main_v264) = v2 c
          ∧ r.2.mem ((c.tc : Thread Cert.ConvRefIdeal.nD Cert.ConvRefIdeal.τ).loc Cert.ConvRefIdeal.main_v265) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_MlpAct_MlpActIdeal : Prop :=
  True

def algebraic_MlpActIdeal_MlpActRefIdeal [hMlpActIdeal : Cert.MlpActIdeal.Facts] [hMlpActRefIdeal : Cert.MlpActRefIdeal.Facts] : Prop :=
  ∀ (m : (ℓ : Loc Cert.MlpActIdeal.nD Cert.MlpActIdeal.τ Cert.MlpActIdeal.sig) → Buf (Elt Ideal) ℓ) (g : Dev Cert.MlpActIdeal.nD → PrngReg)
    (m' : (ℓ : Loc Cert.MlpActRefIdeal.nD Cert.MlpActRefIdeal.τ Cert.MlpActRefIdeal.sig) → Buf (Elt Ideal) ℓ) (g' : Dev Cert.MlpActRefIdeal.nD → PrngReg), Pre_MlpActIdeal m →
    (∀ c : Dev Cert.MlpActIdeal.nD,
      m' ((c.tc : Thread Cert.MlpActRefIdeal.nD Cert.MlpActRefIdeal.τ).loc Cert.MlpActRefIdeal.main_arg0) = m ((c.tc : Thread Cert.MlpActIdeal.nD Cert.MlpActIdeal.τ).loc Cert.MlpActIdeal.main_arg0)
      ∧ m' ((c.tc : Thread Cert.MlpActRefIdeal.nD Cert.MlpActRefIdeal.τ).loc Cert.MlpActRefIdeal.main_arg1) = m ((c.tc : Thread Cert.MlpActIdeal.nD Cert.MlpActIdeal.τ).loc Cert.MlpActIdeal.main_arg1)
      ∧ m' ((c.tc : Thread Cert.MlpActRefIdeal.nD Cert.MlpActRefIdeal.τ).loc Cert.MlpActRefIdeal.main_arg2) = m ((c.tc : Thread Cert.MlpActIdeal.nD Cert.MlpActIdeal.τ).loc Cert.MlpActIdeal.main_arg2)
      ∧ m' ((c.tc : Thread Cert.MlpActRefIdeal.nD Cert.MlpActRefIdeal.τ).loc Cert.MlpActRefIdeal.main_arg3) = m ((c.tc : Thread Cert.MlpActIdeal.nD Cert.MlpActIdeal.τ).loc Cert.MlpActIdeal.main_arg3)
      ∧ m' ((c.tc : Thread Cert.MlpActRefIdeal.nD Cert.MlpActRefIdeal.τ).loc Cert.MlpActRefIdeal.main_arg4) = m ((c.tc : Thread Cert.MlpActIdeal.nD Cert.MlpActIdeal.τ).loc Cert.MlpActIdeal.main_arg4)) →
    ∃ (v0 : (c : Dev Cert.MlpActIdeal.nD) → Buf (Elt Ideal) ((c.tc : Thread Cert.MlpActIdeal.nD Cert.MlpActIdeal.τ).loc Cert.MlpActIdeal.main_v21_0)) (v1 : (c : Dev Cert.MlpActIdeal.nD) → Buf (Elt Ideal) ((c.tc : Thread Cert.MlpActIdeal.nD Cert.MlpActIdeal.τ).loc Cert.MlpActIdeal.main_v21_1)) (v2 : (c : Dev Cert.MlpActIdeal.nD) → Buf (Elt Ideal) ((c.tc : Thread Cert.MlpActIdeal.nD Cert.MlpActIdeal.τ).loc Cert.MlpActIdeal.main_v21_2)),
      θ_run (Cert.MlpActIdeal.defs (F := Ideal)) (onTc (τ := Cert.MlpActIdeal.τ) (Cert.MlpActIdeal.main (F := Ideal))) ⟨m, fun _ => 0, g⟩ (fun r => ∀ c : Dev Cert.MlpActIdeal.nD,
          r.2.mem ((c.tc : Thread Cert.MlpActIdeal.nD Cert.MlpActIdeal.τ).loc Cert.MlpActIdeal.main_v21_0) = v0 c
          ∧ r.2.mem ((c.tc : Thread Cert.MlpActIdeal.nD Cert.MlpActIdeal.τ).loc Cert.MlpActIdeal.main_v21_1) = v1 c
          ∧ r.2.mem ((c.tc : Thread Cert.MlpActIdeal.nD Cert.MlpActIdeal.τ).loc Cert.MlpActIdeal.main_v21_2) = v2 c
          ∧ r.2.mem ((c.tc : Thread Cert.MlpActIdeal.nD Cert.MlpActIdeal.τ).loc Cert.MlpActIdeal.main_arg0) = m ((c.tc : Thread Cert.MlpActIdeal.nD Cert.MlpActIdeal.τ).loc Cert.MlpActIdeal.main_arg0)
          ∧ r.2.mem ((c.tc : Thread Cert.MlpActIdeal.nD Cert.MlpActIdeal.τ).loc Cert.MlpActIdeal.main_arg1) = m ((c.tc : Thread Cert.MlpActIdeal.nD Cert.MlpActIdeal.τ).loc Cert.MlpActIdeal.main_arg1)
          ∧ r.2.mem ((c.tc : Thread Cert.MlpActIdeal.nD Cert.MlpActIdeal.τ).loc Cert.MlpActIdeal.main_arg2) = m ((c.tc : Thread Cert.MlpActIdeal.nD Cert.MlpActIdeal.τ).loc Cert.MlpActIdeal.main_arg2)
          ∧ r.2.mem ((c.tc : Thread Cert.MlpActIdeal.nD Cert.MlpActIdeal.τ).loc Cert.MlpActIdeal.main_arg3) = m ((c.tc : Thread Cert.MlpActIdeal.nD Cert.MlpActIdeal.τ).loc Cert.MlpActIdeal.main_arg3)
          ∧ r.2.mem ((c.tc : Thread Cert.MlpActIdeal.nD Cert.MlpActIdeal.τ).loc Cert.MlpActIdeal.main_arg4) = m ((c.tc : Thread Cert.MlpActIdeal.nD Cert.MlpActIdeal.τ).loc Cert.MlpActIdeal.main_arg4))
      ∧ θ_run (Cert.MlpActRefIdeal.defs (F := Ideal)) (onTc (τ := Cert.MlpActRefIdeal.τ) (Cert.MlpActRefIdeal.main (F := Ideal))) ⟨m', fun _ => 0, g'⟩ (fun r => ∀ c : Dev Cert.MlpActRefIdeal.nD,
          r.2.mem ((c.tc : Thread Cert.MlpActRefIdeal.nD Cert.MlpActRefIdeal.τ).loc Cert.MlpActRefIdeal.main_v79) = v0 c
          ∧ r.2.mem ((c.tc : Thread Cert.MlpActRefIdeal.nD Cert.MlpActRefIdeal.τ).loc Cert.MlpActRefIdeal.main_v78) = v1 c
          ∧ r.2.mem ((c.tc : Thread Cert.MlpActRefIdeal.nD Cert.MlpActRefIdeal.τ).loc Cert.MlpActRefIdeal.main_v80) = v2 c
          ∧ r.2.mem ((c.tc : Thread Cert.MlpActRefIdeal.nD Cert.MlpActRefIdeal.τ).loc Cert.MlpActRefIdeal.main_arg0) = m' ((c.tc : Thread Cert.MlpActRefIdeal.nD Cert.MlpActRefIdeal.τ).loc Cert.MlpActRefIdeal.main_arg0)
          ∧ r.2.mem ((c.tc : Thread Cert.MlpActRefIdeal.nD Cert.MlpActRefIdeal.τ).loc Cert.MlpActRefIdeal.main_arg1) = m' ((c.tc : Thread Cert.MlpActRefIdeal.nD Cert.MlpActRefIdeal.τ).loc Cert.MlpActRefIdeal.main_arg1)
          ∧ r.2.mem ((c.tc : Thread Cert.MlpActRefIdeal.nD Cert.MlpActRefIdeal.τ).loc Cert.MlpActRefIdeal.main_arg2) = m' ((c.tc : Thread Cert.MlpActRefIdeal.nD Cert.MlpActRefIdeal.τ).loc Cert.MlpActRefIdeal.main_arg2)
          ∧ r.2.mem ((c.tc : Thread Cert.MlpActRefIdeal.nD Cert.MlpActRefIdeal.τ).loc Cert.MlpActRefIdeal.main_arg3) = m' ((c.tc : Thread Cert.MlpActRefIdeal.nD Cert.MlpActRefIdeal.τ).loc Cert.MlpActRefIdeal.main_arg3)
          ∧ r.2.mem ((c.tc : Thread Cert.MlpActRefIdeal.nD Cert.MlpActRefIdeal.τ).loc Cert.MlpActRefIdeal.main_arg4) = m' ((c.tc : Thread Cert.MlpActRefIdeal.nD Cert.MlpActRefIdeal.τ).loc Cert.MlpActRefIdeal.main_arg4))

def preserves_MlpW_MlpWIdeal : Prop :=
  True

def algebraic_MlpWIdeal_MlpWRefIdeal [hMlpWIdeal : Cert.MlpWIdeal.Facts] [hMlpWRefIdeal : Cert.MlpWRefIdeal.Facts] : Prop :=
  ∀ (m : (ℓ : Loc Cert.MlpWIdeal.nD Cert.MlpWIdeal.τ Cert.MlpWIdeal.sig) → Buf (Elt Ideal) ℓ) (g : Dev Cert.MlpWIdeal.nD → PrngReg)
    (m' : (ℓ : Loc Cert.MlpWRefIdeal.nD Cert.MlpWRefIdeal.τ Cert.MlpWRefIdeal.sig) → Buf (Elt Ideal) ℓ) (g' : Dev Cert.MlpWRefIdeal.nD → PrngReg), Pre_MlpWIdeal m →
    (∀ c : Dev Cert.MlpWIdeal.nD,
      m' ((c.tc : Thread Cert.MlpWRefIdeal.nD Cert.MlpWRefIdeal.τ).loc Cert.MlpWRefIdeal.main_arg0) = m ((c.tc : Thread Cert.MlpWIdeal.nD Cert.MlpWIdeal.τ).loc Cert.MlpWIdeal.main_arg0)
      ∧ m' ((c.tc : Thread Cert.MlpWRefIdeal.nD Cert.MlpWRefIdeal.τ).loc Cert.MlpWRefIdeal.main_arg1) = m ((c.tc : Thread Cert.MlpWIdeal.nD Cert.MlpWIdeal.τ).loc Cert.MlpWIdeal.main_arg1)
      ∧ m' ((c.tc : Thread Cert.MlpWRefIdeal.nD Cert.MlpWRefIdeal.τ).loc Cert.MlpWRefIdeal.main_arg2) = m ((c.tc : Thread Cert.MlpWIdeal.nD Cert.MlpWIdeal.τ).loc Cert.MlpWIdeal.main_arg2)
      ∧ m' ((c.tc : Thread Cert.MlpWRefIdeal.nD Cert.MlpWRefIdeal.τ).loc Cert.MlpWRefIdeal.main_arg3) = m ((c.tc : Thread Cert.MlpWIdeal.nD Cert.MlpWIdeal.τ).loc Cert.MlpWIdeal.main_arg3)
      ∧ m' ((c.tc : Thread Cert.MlpWRefIdeal.nD Cert.MlpWRefIdeal.τ).loc Cert.MlpWRefIdeal.main_arg4) = m ((c.tc : Thread Cert.MlpWIdeal.nD Cert.MlpWIdeal.τ).loc Cert.MlpWIdeal.main_arg4)) →
    ∃ (v0 : (c : Dev Cert.MlpWIdeal.nD) → Buf (Elt Ideal) ((c.tc : Thread Cert.MlpWIdeal.nD Cert.MlpWIdeal.τ).loc Cert.MlpWIdeal.main_v29_0)) (v1 : (c : Dev Cert.MlpWIdeal.nD) → Buf (Elt Ideal) ((c.tc : Thread Cert.MlpWIdeal.nD Cert.MlpWIdeal.τ).loc Cert.MlpWIdeal.main_v29_1)),
      θ_run (Cert.MlpWIdeal.defs (F := Ideal)) (onTc (τ := Cert.MlpWIdeal.τ) (Cert.MlpWIdeal.main (F := Ideal))) ⟨m, fun _ => 0, g⟩ (fun r => ∀ c : Dev Cert.MlpWIdeal.nD,
          r.2.mem ((c.tc : Thread Cert.MlpWIdeal.nD Cert.MlpWIdeal.τ).loc Cert.MlpWIdeal.main_v29_0) = v0 c
          ∧ r.2.mem ((c.tc : Thread Cert.MlpWIdeal.nD Cert.MlpWIdeal.τ).loc Cert.MlpWIdeal.main_v29_1) = v1 c
          ∧ r.2.mem ((c.tc : Thread Cert.MlpWIdeal.nD Cert.MlpWIdeal.τ).loc Cert.MlpWIdeal.main_arg0) = m ((c.tc : Thread Cert.MlpWIdeal.nD Cert.MlpWIdeal.τ).loc Cert.MlpWIdeal.main_arg0)
          ∧ r.2.mem ((c.tc : Thread Cert.MlpWIdeal.nD Cert.MlpWIdeal.τ).loc Cert.MlpWIdeal.main_arg1) = m ((c.tc : Thread Cert.MlpWIdeal.nD Cert.MlpWIdeal.τ).loc Cert.MlpWIdeal.main_arg1)
          ∧ r.2.mem ((c.tc : Thread Cert.MlpWIdeal.nD Cert.MlpWIdeal.τ).loc Cert.MlpWIdeal.main_arg2) = m ((c.tc : Thread Cert.MlpWIdeal.nD Cert.MlpWIdeal.τ).loc Cert.MlpWIdeal.main_arg2)
          ∧ r.2.mem ((c.tc : Thread Cert.MlpWIdeal.nD Cert.MlpWIdeal.τ).loc Cert.MlpWIdeal.main_arg3) = m ((c.tc : Thread Cert.MlpWIdeal.nD Cert.MlpWIdeal.τ).loc Cert.MlpWIdeal.main_arg3)
          ∧ r.2.mem ((c.tc : Thread Cert.MlpWIdeal.nD Cert.MlpWIdeal.τ).loc Cert.MlpWIdeal.main_arg4) = m ((c.tc : Thread Cert.MlpWIdeal.nD Cert.MlpWIdeal.τ).loc Cert.MlpWIdeal.main_arg4))
      ∧ θ_run (Cert.MlpWRefIdeal.defs (F := Ideal)) (onTc (τ := Cert.MlpWRefIdeal.τ) (Cert.MlpWRefIdeal.main (F := Ideal))) ⟨m', fun _ => 0, g'⟩ (fun r => ∀ c : Dev Cert.MlpWRefIdeal.nD,
          r.2.mem ((c.tc : Thread Cert.MlpWRefIdeal.nD Cert.MlpWRefIdeal.τ).loc Cert.MlpWRefIdeal.main_v32) = v0 c
          ∧ r.2.mem ((c.tc : Thread Cert.MlpWRefIdeal.nD Cert.MlpWRefIdeal.τ).loc Cert.MlpWRefIdeal.main_v33) = v1 c
          ∧ r.2.mem ((c.tc : Thread Cert.MlpWRefIdeal.nD Cert.MlpWRefIdeal.τ).loc Cert.MlpWRefIdeal.main_arg0) = m' ((c.tc : Thread Cert.MlpWRefIdeal.nD Cert.MlpWRefIdeal.τ).loc Cert.MlpWRefIdeal.main_arg0)
          ∧ r.2.mem ((c.tc : Thread Cert.MlpWRefIdeal.nD Cert.MlpWRefIdeal.τ).loc Cert.MlpWRefIdeal.main_arg1) = m' ((c.tc : Thread Cert.MlpWRefIdeal.nD Cert.MlpWRefIdeal.τ).loc Cert.MlpWRefIdeal.main_arg1)
          ∧ r.2.mem ((c.tc : Thread Cert.MlpWRefIdeal.nD Cert.MlpWRefIdeal.τ).loc Cert.MlpWRefIdeal.main_arg2) = m' ((c.tc : Thread Cert.MlpWRefIdeal.nD Cert.MlpWRefIdeal.τ).loc Cert.MlpWRefIdeal.main_arg2)
          ∧ r.2.mem ((c.tc : Thread Cert.MlpWRefIdeal.nD Cert.MlpWRefIdeal.τ).loc Cert.MlpWRefIdeal.main_arg3) = m' ((c.tc : Thread Cert.MlpWRefIdeal.nD Cert.MlpWRefIdeal.τ).loc Cert.MlpWRefIdeal.main_arg3)
          ∧ r.2.mem ((c.tc : Thread Cert.MlpWRefIdeal.nD Cert.MlpWRefIdeal.τ).loc Cert.MlpWRefIdeal.main_arg4) = m' ((c.tc : Thread Cert.MlpWRefIdeal.nD Cert.MlpWRefIdeal.τ).loc Cert.MlpWRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v1_0)) (v1 : (c : Dev Cert.OutProjIdeal.nD) → Buf (Elt Ideal) ((c.tc : Thread Cert.OutProjIdeal.nD Cert.OutProjIdeal.τ).loc Cert.OutProjIdeal.main_v1_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1_0) = v0 c
          ∧ r.2.mem ((c.tc : Thread Cert.OutProjIdeal.nD Cert.OutProjIdeal.τ).loc Cert.OutProjIdeal.main_v1_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v5) = v0 c
          ∧ r.2.mem ((c.tc : Thread Cert.OutProjRefIdeal.nD Cert.OutProjRefIdeal.τ).loc Cert.OutProjRefIdeal.main_v4) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)) →
    ∃ (v0 : (c : Dev Cert.InProjIdeal.nD) → Buf (Elt Ideal) ((c.tc : Thread Cert.InProjIdeal.nD Cert.InProjIdeal.τ).loc Cert.InProjIdeal.main_v3_0)) (v1 : (c : Dev Cert.InProjIdeal.nD) → Buf (Elt Ideal) ((c.tc : Thread Cert.InProjIdeal.nD Cert.InProjIdeal.τ).loc Cert.InProjIdeal.main_v3_1)) (v2 : (c : Dev Cert.InProjIdeal.nD) → Buf (Elt Ideal) ((c.tc : Thread Cert.InProjIdeal.nD Cert.InProjIdeal.τ).loc Cert.InProjIdeal.main_v3_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3_0) = v0 c
          ∧ r.2.mem ((c.tc : Thread Cert.InProjIdeal.nD Cert.InProjIdeal.τ).loc Cert.InProjIdeal.main_v3_1) = v1 c
          ∧ r.2.mem ((c.tc : Thread Cert.InProjIdeal.nD Cert.InProjIdeal.τ).loc Cert.InProjIdeal.main_v3_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v42) = v0 c
          ∧ r.2.mem ((c.tc : Thread Cert.InProjRefIdeal.nD Cert.InProjRefIdeal.τ).loc Cert.InProjRefIdeal.main_v43) = v1 c
          ∧ r.2.mem ((c.tc : Thread Cert.InProjRefIdeal.nD Cert.InProjRefIdeal.τ).loc Cert.InProjRefIdeal.main_v44) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v3)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v3) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v14) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)
      ∧ m' ((c.tc : Thread Cert.OutFwdRefIdeal.nD Cert.OutFwdRefIdeal.τ).loc Cert.OutFwdRefIdeal.main_arg4) = m ((c.tc : Thread Cert.OutFwdIdeal.nD Cert.OutFwdIdeal.τ).loc Cert.OutFwdIdeal.main_arg4)
      ∧ m' ((c.tc : Thread Cert.OutFwdRefIdeal.nD Cert.OutFwdRefIdeal.τ).loc Cert.OutFwdRefIdeal.main_arg5) = m ((c.tc : Thread Cert.OutFwdIdeal.nD Cert.OutFwdIdeal.τ).loc Cert.OutFwdIdeal.main_arg5)) →
    ∃ (v0 : (c : Dev Cert.OutFwdIdeal.nD) → Buf (Elt Ideal) ((c.tc : Thread Cert.OutFwdIdeal.nD Cert.OutFwdIdeal.τ).loc Cert.OutFwdIdeal.main_v2_0)) (v1 : (c : Dev Cert.OutFwdIdeal.nD) → Buf (Elt Ideal) ((c.tc : Thread Cert.OutFwdIdeal.nD Cert.OutFwdIdeal.τ).loc Cert.OutFwdIdeal.main_v2_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v2_0) = v0 c
          ∧ r.2.mem ((c.tc : Thread Cert.OutFwdIdeal.nD Cert.OutFwdIdeal.τ).loc Cert.OutFwdIdeal.main_v2_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
          ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v3) = v0 c
          ∧ r.2.mem ((c.tc : Thread Cert.OutFwdRefIdeal.nD Cert.OutFwdRefIdeal.τ).loc Cert.OutFwdRefIdeal.main_v17) = v1 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3)
          ∧ r.2.mem ((c.tc : Thread Cert.OutFwdRefIdeal.nD Cert.OutFwdRefIdeal.τ).loc Cert.OutFwdRefIdeal.main_arg4) = m' ((c.tc : Thread Cert.OutFwdRefIdeal.nD Cert.OutFwdRefIdeal.τ).loc Cert.OutFwdRefIdeal.main_arg4)
          ∧ r.2.mem ((c.tc : Thread Cert.OutFwdRefIdeal.nD Cert.OutFwdRefIdeal.τ).loc Cert.OutFwdRefIdeal.main_arg5) = m' ((c.tc : Thread Cert.OutFwdRefIdeal.nD Cert.OutFwdRefIdeal.τ).loc Cert.OutFwdRefIdeal.main_arg5))

def preserves_MlpFwd_MlpFwdIdeal : Prop :=
  True

def algebraic_MlpFwdIdeal_MlpFwdRefIdeal [hMlpFwdIdeal : Cert.MlpFwdIdeal.Facts] [hMlpFwdRefIdeal : Cert.MlpFwdRefIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg)
    (m' : (ℓ : Loc Cert.MlpFwdRefIdeal.nD Cert.MlpFwdRefIdeal.τ Cert.MlpFwdRefIdeal.sig) → Buf (Elt Ideal) ℓ) (g' : Dev Cert.MlpFwdRefIdeal.nD → PrngReg), Pre_MlpFwdIdeal m →
    (∀ c : Dev Cert.MlpFwdIdeal.nD,
      m' ((c.tc : Thread Cert.MlpFwdRefIdeal.nD Cert.MlpFwdRefIdeal.τ).loc Cert.MlpFwdRefIdeal.main_arg0) = m ((c.tc : Thread Cert.MlpFwdIdeal.nD Cert.MlpFwdIdeal.τ).loc Cert.MlpFwdIdeal.main_arg0)
      ∧ m' ((c.tc : Thread Cert.MlpFwdRefIdeal.nD Cert.MlpFwdRefIdeal.τ).loc Cert.MlpFwdRefIdeal.main_arg1) = m ((c.tc : Thread Cert.MlpFwdIdeal.nD Cert.MlpFwdIdeal.τ).loc Cert.MlpFwdIdeal.main_arg1)
      ∧ m' ((c.tc : Thread Cert.MlpFwdRefIdeal.nD Cert.MlpFwdRefIdeal.τ).loc Cert.MlpFwdRefIdeal.main_arg2) = m ((c.tc : Thread Cert.MlpFwdIdeal.nD Cert.MlpFwdIdeal.τ).loc Cert.MlpFwdIdeal.main_arg2)
      ∧ m' ((c.tc : Thread Cert.MlpFwdRefIdeal.nD Cert.MlpFwdRefIdeal.τ).loc Cert.MlpFwdRefIdeal.main_arg3) = m ((c.tc : Thread Cert.MlpFwdIdeal.nD Cert.MlpFwdIdeal.τ).loc Cert.MlpFwdIdeal.main_arg3)) →
    ∃ (v0 : (c : Dev Cert.MlpFwdIdeal.nD) → Buf (Elt Ideal) ((c.tc : Thread Cert.MlpFwdIdeal.nD Cert.MlpFwdIdeal.τ).loc Cert.MlpFwdIdeal.main_v19_0)) (v1 : (c : Dev Cert.MlpFwdIdeal.nD) → Buf (Elt Ideal) ((c.tc : Thread Cert.MlpFwdIdeal.nD Cert.MlpFwdIdeal.τ).loc Cert.MlpFwdIdeal.main_v19_1)),
      θ_run (Cert.MlpFwdIdeal.defs (F := Ideal)) (onTc (τ := Cert.MlpFwdIdeal.τ) (Cert.MlpFwdIdeal.main (F := Ideal))) ⟨m, fun _ => 0, g⟩ (fun r => ∀ c : Dev Cert.MlpFwdIdeal.nD,
          r.2.mem ((c.tc : Thread Cert.MlpFwdIdeal.nD Cert.MlpFwdIdeal.τ).loc Cert.MlpFwdIdeal.main_v19_0) = v0 c
          ∧ r.2.mem ((c.tc : Thread Cert.MlpFwdIdeal.nD Cert.MlpFwdIdeal.τ).loc Cert.MlpFwdIdeal.main_v19_1) = v1 c
          ∧ r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
          ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
          ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
          ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3))
      ∧ θ_run (Cert.MlpFwdRefIdeal.defs (F := Ideal)) (onTc (τ := Cert.MlpFwdRefIdeal.τ) (Cert.MlpFwdRefIdeal.main (F := Ideal))) ⟨m', fun _ => 0, g'⟩ (fun r => ∀ c : Dev Cert.MlpFwdRefIdeal.nD,
          r.2.mem ((c.tc : Thread Cert.MlpFwdRefIdeal.nD Cert.MlpFwdRefIdeal.τ).loc Cert.MlpFwdRefIdeal.main_v14) = v0 c
          ∧ r.2.mem ((c.tc : Thread Cert.MlpFwdRefIdeal.nD Cert.MlpFwdRefIdeal.τ).loc Cert.MlpFwdRefIdeal.main_v32) = v1 c
          ∧ r.2.mem ((c.tc : Thread Cert.MlpFwdRefIdeal.nD Cert.MlpFwdRefIdeal.τ).loc Cert.MlpFwdRefIdeal.main_arg0) = m' ((c.tc : Thread Cert.MlpFwdRefIdeal.nD Cert.MlpFwdRefIdeal.τ).loc Cert.MlpFwdRefIdeal.main_arg0)
          ∧ r.2.mem ((c.tc : Thread Cert.MlpFwdRefIdeal.nD Cert.MlpFwdRefIdeal.τ).loc Cert.MlpFwdRefIdeal.main_arg1) = m' ((c.tc : Thread Cert.MlpFwdRefIdeal.nD Cert.MlpFwdRefIdeal.τ).loc Cert.MlpFwdRefIdeal.main_arg1)
          ∧ r.2.mem ((c.tc : Thread Cert.MlpFwdRefIdeal.nD Cert.MlpFwdRefIdeal.τ).loc Cert.MlpFwdRefIdeal.main_arg2) = m' ((c.tc : Thread Cert.MlpFwdRefIdeal.nD Cert.MlpFwdRefIdeal.τ).loc Cert.MlpFwdRefIdeal.main_arg2)
          ∧ r.2.mem ((c.tc : Thread Cert.MlpFwdRefIdeal.nD Cert.MlpFwdRefIdeal.τ).loc Cert.MlpFwdRefIdeal.main_arg3) = m' ((c.tc : Thread Cert.MlpFwdRefIdeal.nD Cert.MlpFwdRefIdeal.τ).loc Cert.MlpFwdRefIdeal.main_arg3))

def preserves_LastFwd_LastFwdIdeal : Prop :=
  True

def algebraic_LastFwdIdeal_LastFwdRefIdeal [hLastFwdIdeal : Cert.LastFwdIdeal.Facts] [hLastFwdRefIdeal : Cert.LastFwdRefIdeal.Facts] : Prop :=
  ∀ (m : (ℓ : Loc Cert.LastFwdIdeal.nD Cert.LastFwdIdeal.τ Cert.LastFwdIdeal.sig) → Buf (Elt Ideal) ℓ) (g : Dev Cert.LastFwdIdeal.nD → PrngReg)
    (m' : (ℓ : Loc Cert.LastFwdRefIdeal.nD Cert.LastFwdRefIdeal.τ Cert.LastFwdRefIdeal.sig) → Buf (Elt Ideal) ℓ) (g' : Dev Cert.LastFwdRefIdeal.nD → PrngReg), Pre_LastFwdIdeal m →
    (∀ c : Dev Cert.LastFwdIdeal.nD,
      m' ((c.tc : Thread Cert.LastFwdRefIdeal.nD Cert.LastFwdRefIdeal.τ).loc Cert.LastFwdRefIdeal.main_arg0) = m ((c.tc : Thread Cert.LastFwdIdeal.nD Cert.LastFwdIdeal.τ).loc Cert.LastFwdIdeal.main_arg0)
      ∧ m' ((c.tc : Thread Cert.LastFwdRefIdeal.nD Cert.LastFwdRefIdeal.τ).loc Cert.LastFwdRefIdeal.main_arg1) = m ((c.tc : Thread Cert.LastFwdIdeal.nD Cert.LastFwdIdeal.τ).loc Cert.LastFwdIdeal.main_arg1)
      ∧ m' ((c.tc : Thread Cert.LastFwdRefIdeal.nD Cert.LastFwdRefIdeal.τ).loc Cert.LastFwdRefIdeal.main_arg2) = m ((c.tc : Thread Cert.LastFwdIdeal.nD Cert.LastFwdIdeal.τ).loc Cert.LastFwdIdeal.main_arg2)
      ∧ m' ((c.tc : Thread Cert.LastFwdRefIdeal.nD Cert.LastFwdRefIdeal.τ).loc Cert.LastFwdRefIdeal.main_arg3) = m ((c.tc : Thread Cert.LastFwdIdeal.nD Cert.LastFwdIdeal.τ).loc Cert.LastFwdIdeal.main_arg3)
      ∧ m' ((c.tc : Thread Cert.LastFwdRefIdeal.nD Cert.LastFwdRefIdeal.τ).loc Cert.LastFwdRefIdeal.main_arg4) = m ((c.tc : Thread Cert.LastFwdIdeal.nD Cert.LastFwdIdeal.τ).loc Cert.LastFwdIdeal.main_arg4)
      ∧ m' ((c.tc : Thread Cert.LastFwdRefIdeal.nD Cert.LastFwdRefIdeal.τ).loc Cert.LastFwdRefIdeal.main_arg5) = m ((c.tc : Thread Cert.LastFwdIdeal.nD Cert.LastFwdIdeal.τ).loc Cert.LastFwdIdeal.main_arg5)
      ∧ m' ((c.tc : Thread Cert.LastFwdRefIdeal.nD Cert.LastFwdRefIdeal.τ).loc Cert.LastFwdRefIdeal.main_arg6) = m ((c.tc : Thread Cert.LastFwdIdeal.nD Cert.LastFwdIdeal.τ).loc Cert.LastFwdIdeal.main_arg6)
      ∧ m' ((c.tc : Thread Cert.LastFwdRefIdeal.nD Cert.LastFwdRefIdeal.τ).loc Cert.LastFwdRefIdeal.main_arg7) = m ((c.tc : Thread Cert.LastFwdIdeal.nD Cert.LastFwdIdeal.τ).loc Cert.LastFwdIdeal.main_arg7)
      ∧ m' ((c.tc : Thread Cert.LastFwdRefIdeal.nD Cert.LastFwdRefIdeal.τ).loc Cert.LastFwdRefIdeal.main_arg8) = m ((c.tc : Thread Cert.LastFwdIdeal.nD Cert.LastFwdIdeal.τ).loc Cert.LastFwdIdeal.main_arg8)
      ∧ m' ((c.tc : Thread Cert.LastFwdRefIdeal.nD Cert.LastFwdRefIdeal.τ).loc Cert.LastFwdRefIdeal.main_arg9) = m ((c.tc : Thread Cert.LastFwdIdeal.nD Cert.LastFwdIdeal.τ).loc Cert.LastFwdIdeal.main_arg9)) →
    ∃ (v0 : (c : Dev Cert.LastFwdIdeal.nD) → Buf (Elt Ideal) ((c.tc : Thread Cert.LastFwdIdeal.nD Cert.LastFwdIdeal.τ).loc Cert.LastFwdIdeal.main_v8_0)) (v1 : (c : Dev Cert.LastFwdIdeal.nD) → Buf (Elt Ideal) ((c.tc : Thread Cert.LastFwdIdeal.nD Cert.LastFwdIdeal.τ).loc Cert.LastFwdIdeal.main_v8_1)) (v2 : (c : Dev Cert.LastFwdIdeal.nD) → Buf (Elt Ideal) ((c.tc : Thread Cert.LastFwdIdeal.nD Cert.LastFwdIdeal.τ).loc Cert.LastFwdIdeal.main_v8_2)) (v3 : (c : Dev Cert.LastFwdIdeal.nD) → Buf (Elt Ideal) ((c.tc : Thread Cert.LastFwdIdeal.nD Cert.LastFwdIdeal.τ).loc Cert.LastFwdIdeal.main_v8_3)) (v4 : (c : Dev Cert.LastFwdIdeal.nD) → Buf (Elt Ideal) ((c.tc : Thread Cert.LastFwdIdeal.nD Cert.LastFwdIdeal.τ).loc Cert.LastFwdIdeal.main_v8_4)) (v5 : (c : Dev Cert.LastFwdIdeal.nD) → Buf (Elt Ideal) ((c.tc : Thread Cert.LastFwdIdeal.nD Cert.LastFwdIdeal.τ).loc Cert.LastFwdIdeal.main_v8_5)),
      θ_run (Cert.LastFwdIdeal.defs (F := Ideal)) (onTc (τ := Cert.LastFwdIdeal.τ) (Cert.LastFwdIdeal.main (F := Ideal))) ⟨m, fun _ => 0, g⟩ (fun r => ∀ c : Dev Cert.LastFwdIdeal.nD,
          r.2.mem ((c.tc : Thread Cert.LastFwdIdeal.nD Cert.LastFwdIdeal.τ).loc Cert.LastFwdIdeal.main_v8_0) = v0 c
          ∧ r.2.mem ((c.tc : Thread Cert.LastFwdIdeal.nD Cert.LastFwdIdeal.τ).loc Cert.LastFwdIdeal.main_v8_1) = v1 c
          ∧ r.2.mem ((c.tc : Thread Cert.LastFwdIdeal.nD Cert.LastFwdIdeal.τ).loc Cert.LastFwdIdeal.main_v8_2) = v2 c
          ∧ r.2.mem ((c.tc : Thread Cert.LastFwdIdeal.nD Cert.LastFwdIdeal.τ).loc Cert.LastFwdIdeal.main_v8_3) = v3 c
          ∧ r.2.mem ((c.tc : Thread Cert.LastFwdIdeal.nD Cert.LastFwdIdeal.τ).loc Cert.LastFwdIdeal.main_v8_4) = v4 c
          ∧ r.2.mem ((c.tc : Thread Cert.LastFwdIdeal.nD Cert.LastFwdIdeal.τ).loc Cert.LastFwdIdeal.main_v8_5) = v5 c
          ∧ r.2.mem ((c.tc : Thread Cert.LastFwdIdeal.nD Cert.LastFwdIdeal.τ).loc Cert.LastFwdIdeal.main_arg0) = m ((c.tc : Thread Cert.LastFwdIdeal.nD Cert.LastFwdIdeal.τ).loc Cert.LastFwdIdeal.main_arg0)
          ∧ r.2.mem ((c.tc : Thread Cert.LastFwdIdeal.nD Cert.LastFwdIdeal.τ).loc Cert.LastFwdIdeal.main_arg1) = m ((c.tc : Thread Cert.LastFwdIdeal.nD Cert.LastFwdIdeal.τ).loc Cert.LastFwdIdeal.main_arg1)
          ∧ r.2.mem ((c.tc : Thread Cert.LastFwdIdeal.nD Cert.LastFwdIdeal.τ).loc Cert.LastFwdIdeal.main_arg2) = m ((c.tc : Thread Cert.LastFwdIdeal.nD Cert.LastFwdIdeal.τ).loc Cert.LastFwdIdeal.main_arg2)
          ∧ r.2.mem ((c.tc : Thread Cert.LastFwdIdeal.nD Cert.LastFwdIdeal.τ).loc Cert.LastFwdIdeal.main_arg3) = m ((c.tc : Thread Cert.LastFwdIdeal.nD Cert.LastFwdIdeal.τ).loc Cert.LastFwdIdeal.main_arg3)
          ∧ r.2.mem ((c.tc : Thread Cert.LastFwdIdeal.nD Cert.LastFwdIdeal.τ).loc Cert.LastFwdIdeal.main_arg4) = m ((c.tc : Thread Cert.LastFwdIdeal.nD Cert.LastFwdIdeal.τ).loc Cert.LastFwdIdeal.main_arg4)
          ∧ r.2.mem ((c.tc : Thread Cert.LastFwdIdeal.nD Cert.LastFwdIdeal.τ).loc Cert.LastFwdIdeal.main_arg5) = m ((c.tc : Thread Cert.LastFwdIdeal.nD Cert.LastFwdIdeal.τ).loc Cert.LastFwdIdeal.main_arg5)
          ∧ r.2.mem ((c.tc : Thread Cert.LastFwdIdeal.nD Cert.LastFwdIdeal.τ).loc Cert.LastFwdIdeal.main_arg6) = m ((c.tc : Thread Cert.LastFwdIdeal.nD Cert.LastFwdIdeal.τ).loc Cert.LastFwdIdeal.main_arg6)
          ∧ r.2.mem ((c.tc : Thread Cert.LastFwdIdeal.nD Cert.LastFwdIdeal.τ).loc Cert.LastFwdIdeal.main_arg7) = m ((c.tc : Thread Cert.LastFwdIdeal.nD Cert.LastFwdIdeal.τ).loc Cert.LastFwdIdeal.main_arg7)
          ∧ r.2.mem ((c.tc : Thread Cert.LastFwdIdeal.nD Cert.LastFwdIdeal.τ).loc Cert.LastFwdIdeal.main_arg8) = m ((c.tc : Thread Cert.LastFwdIdeal.nD Cert.LastFwdIdeal.τ).loc Cert.LastFwdIdeal.main_arg8)
          ∧ r.2.mem ((c.tc : Thread Cert.LastFwdIdeal.nD Cert.LastFwdIdeal.τ).loc Cert.LastFwdIdeal.main_arg9) = m ((c.tc : Thread Cert.LastFwdIdeal.nD Cert.LastFwdIdeal.τ).loc Cert.LastFwdIdeal.main_arg9))
      ∧ θ_run (Cert.LastFwdRefIdeal.defs (F := Ideal)) (onTc (τ := Cert.LastFwdRefIdeal.τ) (Cert.LastFwdRefIdeal.main (F := Ideal))) ⟨m', fun _ => 0, g'⟩ (fun r => ∀ c : Dev Cert.LastFwdRefIdeal.nD,
          r.2.mem ((c.tc : Thread Cert.LastFwdRefIdeal.nD Cert.LastFwdRefIdeal.τ).loc Cert.LastFwdRefIdeal.main_v3) = v0 c
          ∧ r.2.mem ((c.tc : Thread Cert.LastFwdRefIdeal.nD Cert.LastFwdRefIdeal.τ).loc Cert.LastFwdRefIdeal.main_v86) = v1 c
          ∧ r.2.mem ((c.tc : Thread Cert.LastFwdRefIdeal.nD Cert.LastFwdRefIdeal.τ).loc Cert.LastFwdRefIdeal.main_v88) = v2 c
          ∧ r.2.mem ((c.tc : Thread Cert.LastFwdRefIdeal.nD Cert.LastFwdRefIdeal.τ).loc Cert.LastFwdRefIdeal.main_v85) = v3 c
          ∧ r.2.mem ((c.tc : Thread Cert.LastFwdRefIdeal.nD Cert.LastFwdRefIdeal.τ).loc Cert.LastFwdRefIdeal.main_v89) = v4 c
          ∧ r.2.mem ((c.tc : Thread Cert.LastFwdRefIdeal.nD Cert.LastFwdRefIdeal.τ).loc Cert.LastFwdRefIdeal.main_v90) = v5 c
          ∧ r.2.mem ((c.tc : Thread Cert.LastFwdRefIdeal.nD Cert.LastFwdRefIdeal.τ).loc Cert.LastFwdRefIdeal.main_arg0) = m' ((c.tc : Thread Cert.LastFwdRefIdeal.nD Cert.LastFwdRefIdeal.τ).loc Cert.LastFwdRefIdeal.main_arg0)
          ∧ r.2.mem ((c.tc : Thread Cert.LastFwdRefIdeal.nD Cert.LastFwdRefIdeal.τ).loc Cert.LastFwdRefIdeal.main_arg1) = m' ((c.tc : Thread Cert.LastFwdRefIdeal.nD Cert.LastFwdRefIdeal.τ).loc Cert.LastFwdRefIdeal.main_arg1)
          ∧ r.2.mem ((c.tc : Thread Cert.LastFwdRefIdeal.nD Cert.LastFwdRefIdeal.τ).loc Cert.LastFwdRefIdeal.main_arg2) = m' ((c.tc : Thread Cert.LastFwdRefIdeal.nD Cert.LastFwdRefIdeal.τ).loc Cert.LastFwdRefIdeal.main_arg2)
          ∧ r.2.mem ((c.tc : Thread Cert.LastFwdRefIdeal.nD Cert.LastFwdRefIdeal.τ).loc Cert.LastFwdRefIdeal.main_arg3) = m' ((c.tc : Thread Cert.LastFwdRefIdeal.nD Cert.LastFwdRefIdeal.τ).loc Cert.LastFwdRefIdeal.main_arg3)
          ∧ r.2.mem ((c.tc : Thread Cert.LastFwdRefIdeal.nD Cert.LastFwdRefIdeal.τ).loc Cert.LastFwdRefIdeal.main_arg4) = m' ((c.tc : Thread Cert.LastFwdRefIdeal.nD Cert.LastFwdRefIdeal.τ).loc Cert.LastFwdRefIdeal.main_arg4)
          ∧ r.2.mem ((c.tc : Thread Cert.LastFwdRefIdeal.nD Cert.LastFwdRefIdeal.τ).loc Cert.LastFwdRefIdeal.main_arg5) = m' ((c.tc : Thread Cert.LastFwdRefIdeal.nD Cert.LastFwdRefIdeal.τ).loc Cert.LastFwdRefIdeal.main_arg5)
          ∧ r.2.mem ((c.tc : Thread Cert.LastFwdRefIdeal.nD Cert.LastFwdRefIdeal.τ).loc Cert.LastFwdRefIdeal.main_arg6) = m' ((c.tc : Thread Cert.LastFwdRefIdeal.nD Cert.LastFwdRefIdeal.τ).loc Cert.LastFwdRefIdeal.main_arg6)
          ∧ r.2.mem ((c.tc : Thread Cert.LastFwdRefIdeal.nD Cert.LastFwdRefIdeal.τ).loc Cert.LastFwdRefIdeal.main_arg7) = m' ((c.tc : Thread Cert.LastFwdRefIdeal.nD Cert.LastFwdRefIdeal.τ).loc Cert.LastFwdRefIdeal.main_arg7)
          ∧ r.2.mem ((c.tc : Thread Cert.LastFwdRefIdeal.nD Cert.LastFwdRefIdeal.τ).loc Cert.LastFwdRefIdeal.main_arg8) = m' ((c.tc : Thread Cert.LastFwdRefIdeal.nD Cert.LastFwdRefIdeal.τ).loc Cert.LastFwdRefIdeal.main_arg8)
          ∧ r.2.mem ((c.tc : Thread Cert.LastFwdRefIdeal.nD Cert.LastFwdRefIdeal.τ).loc Cert.LastFwdRefIdeal.main_arg9) = m' ((c.tc : Thread Cert.LastFwdRefIdeal.nD Cert.LastFwdRefIdeal.τ).loc Cert.LastFwdRefIdeal.main_arg9))

def preserves_AttnFwd_AttnFwdIdeal : Prop :=
  True

def algebraic_AttnFwdIdeal_AttnFwdRefIdeal_pre_finite_scores [hAttnFwdIdeal : Cert.AttnFwdIdeal.Facts] [hAttnFwdRefIdeal : Cert.AttnFwdRefIdeal.Facts] [hPre_finite_scores : Cert.Pre_finite_scores.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_scores m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v29_0)) (v1 : (c : Dev Cert.AttnFwdIdeal.nD) → Buf (Elt Ideal) ((c.tc : Thread Cert.AttnFwdIdeal.nD Cert.AttnFwdIdeal.τ).loc Cert.AttnFwdIdeal.main_v29_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v29_0) = v0 c
          ∧ r.2.mem ((c.tc : Thread Cert.AttnFwdIdeal.nD Cert.AttnFwdIdeal.τ).loc Cert.AttnFwdIdeal.main_v29_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v76) = v0 c
          ∧ r.2.mem ((c.tc : Thread Cert.AttnFwdRefIdeal.nD Cert.AttnFwdRefIdeal.τ).loc Cert.AttnFwdRefIdeal.main_v90) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_arg1) = v0 c
          ∧ r.2.mem ((c.tc : Thread Cert.AdamUpRefIdeal.nD Cert.AdamUpRefIdeal.τ).loc Cert.AdamUpRefIdeal.main_v23) = v1 c
          ∧ r.2.mem ((c.tc : Thread Cert.AdamUpRefIdeal.nD Cert.AdamUpRefIdeal.τ).loc Cert.AdamUpRefIdeal.main_v4) = v2 c
          ∧ r.2.mem ((c.tc : Thread Cert.AdamUpRefIdeal.nD Cert.AdamUpRefIdeal.τ).loc Cert.AdamUpRefIdeal.main_v10) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_arg1) = v0 c
          ∧ r.2.mem ((c.tc : Thread Cert.AdamOutRefIdeal.nD Cert.AdamOutRefIdeal.τ).loc Cert.AdamOutRefIdeal.main_v23) = v1 c
          ∧ r.2.mem ((c.tc : Thread Cert.AdamOutRefIdeal.nD Cert.AdamOutRefIdeal.τ).loc Cert.AdamOutRefIdeal.main_v4) = v2 c
          ∧ r.2.mem ((c.tc : Thread Cert.AdamOutRefIdeal.nD Cert.AdamOutRefIdeal.τ).loc Cert.AdamOutRefIdeal.main_v10) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v3_0)) (v1 : (c : Dev Cert.AdamInIdeal.nD) → Buf (Elt Ideal) ((c.tc : Thread Cert.AdamInIdeal.nD Cert.AdamInIdeal.τ).loc Cert.AdamInIdeal.main_v3_1)) (v2 : (c : Dev Cert.AdamInIdeal.nD) → Buf (Elt Ideal) ((c.tc : Thread Cert.AdamInIdeal.nD Cert.AdamInIdeal.τ).loc Cert.AdamInIdeal.main_v3_2)) (v3 : (c : Dev Cert.AdamInIdeal.nD) → Buf (Elt Ideal) ((c.tc : Thread Cert.AdamInIdeal.nD Cert.AdamInIdeal.τ).loc Cert.AdamInIdeal.main_v3_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v3_0) = v0 c
          ∧ r.2.mem ((c.tc : Thread Cert.AdamInIdeal.nD Cert.AdamInIdeal.τ).loc Cert.AdamInIdeal.main_v3_1) = v1 c
          ∧ r.2.mem ((c.tc : Thread Cert.AdamInIdeal.nD Cert.AdamInIdeal.τ).loc Cert.AdamInIdeal.main_v3_2) = v2 c
          ∧ r.2.mem ((c.tc : Thread Cert.AdamInIdeal.nD Cert.AdamInIdeal.τ).loc Cert.AdamInIdeal.main_v3_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_arg1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v26) = v2 c
          ∧ r.2.mem ((c.tc : Thread Cert.AdamInRefIdeal.nD Cert.AdamInRefIdeal.τ).loc Cert.AdamInRefIdeal.main_v27) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def Claim : Prop :=
  ∃ (hConv : Cert.Conv.Facts) (hConvIdeal : Cert.ConvIdeal.Facts) (hConvRefIdeal : Cert.ConvRefIdeal.Facts) (hMlpAct : Cert.MlpAct.Facts) (hMlpActIdeal : Cert.MlpActIdeal.Facts) (hMlpActRefIdeal : Cert.MlpActRefIdeal.Facts) (hMlpW : Cert.MlpW.Facts) (hMlpWIdeal : Cert.MlpWIdeal.Facts) (hMlpWRefIdeal : Cert.MlpWRefIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts) (hInFwd : Cert.InFwd.Facts) (hInFwdIdeal : Cert.InFwdIdeal.Facts) (hInFwdRefIdeal : Cert.InFwdRefIdeal.Facts) (hOutFwd : Cert.OutFwd.Facts) (hOutFwdIdeal : Cert.OutFwdIdeal.Facts) (hOutFwdRefIdeal : Cert.OutFwdRefIdeal.Facts) (hMlpFwd : Cert.MlpFwd.Facts) (hMlpFwdIdeal : Cert.MlpFwdIdeal.Facts) (hMlpFwdRefIdeal : Cert.MlpFwdRefIdeal.Facts) (hLastFwd : Cert.LastFwd.Facts) (hLastFwdIdeal : Cert.LastFwdIdeal.Facts) (hLastFwdRefIdeal : Cert.LastFwdRefIdeal.Facts) (hAttnFwd : Cert.AttnFwd.Facts) (hAttnFwdIdeal : Cert.AttnFwdIdeal.Facts) (hAttnFwdRefIdeal : Cert.AttnFwdRefIdeal.Facts) (hAdamUp : Cert.AdamUp.Facts) (hAdamUpIdeal : Cert.AdamUpIdeal.Facts) (hAdamUpRefIdeal : Cert.AdamUpRefIdeal.Facts) (hAdamOut : Cert.AdamOut.Facts) (hAdamOutIdeal : Cert.AdamOutIdeal.Facts) (hAdamOutRefIdeal : Cert.AdamOutRefIdeal.Facts) (hAdamIn : Cert.AdamIn.Facts) (hAdamInIdeal : Cert.AdamInIdeal.Facts) (hAdamInRefIdeal : Cert.AdamInRefIdeal.Facts) (hPre_finite_scores : Cert.Pre_finite_scores.Facts),
    quiescent_Conv (hConv := hConv)
    ∧ quiescent_ConvIdeal (hConvIdeal := hConvIdeal)
    ∧ quiescent_ConvRefIdeal (hConvRefIdeal := hConvRefIdeal)
    ∧ quiescent_MlpAct (hMlpAct := hMlpAct)
    ∧ quiescent_MlpActIdeal (hMlpActIdeal := hMlpActIdeal)
    ∧ quiescent_MlpActRefIdeal (hMlpActRefIdeal := hMlpActRefIdeal)
    ∧ quiescent_MlpW (hMlpW := hMlpW)
    ∧ quiescent_MlpWIdeal (hMlpWIdeal := hMlpWIdeal)
    ∧ quiescent_MlpWRefIdeal (hMlpWRefIdeal := hMlpWRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjRefIdeal (hInProjRefIdeal := hInProjRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_MlpFwd (hMlpFwd := hMlpFwd)
    ∧ quiescent_MlpFwdIdeal (hMlpFwdIdeal := hMlpFwdIdeal)
    ∧ quiescent_MlpFwdRefIdeal (hMlpFwdRefIdeal := hMlpFwdRefIdeal)
    ∧ quiescent_LastFwd (hLastFwd := hLastFwd)
    ∧ quiescent_LastFwdIdeal (hLastFwdIdeal := hLastFwdIdeal)
    ∧ quiescent_LastFwdRefIdeal (hLastFwdRefIdeal := hLastFwdRefIdeal)
    ∧ quiescent_AttnFwd (hAttnFwd := hAttnFwd)
    ∧ quiescent_AttnFwdIdeal (hAttnFwdIdeal := hAttnFwdIdeal)
    ∧ quiescent_AttnFwdIdeal_pre_finite_scores (hAttnFwdIdeal := hAttnFwdIdeal) (hPre_finite_scores := hPre_finite_scores)
    ∧ quiescent_AttnFwdRefIdeal (hAttnFwdRefIdeal := hAttnFwdRefIdeal)
    ∧ quiescent_AttnFwdRefIdeal_pre_finite_scores (hAttnFwdRefIdeal := hAttnFwdRefIdeal) (hPre_finite_scores := hPre_finite_scores)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ preserves_Conv_ConvIdeal
    ∧ algebraic_ConvIdeal_ConvRefIdeal (hConvIdeal := hConvIdeal) (hConvRefIdeal := hConvRefIdeal)
    ∧ preserves_MlpAct_MlpActIdeal
    ∧ algebraic_MlpActIdeal_MlpActRefIdeal (hMlpActIdeal := hMlpActIdeal) (hMlpActRefIdeal := hMlpActRefIdeal)
    ∧ preserves_MlpW_MlpWIdeal
    ∧ algebraic_MlpWIdeal_MlpWRefIdeal (hMlpWIdeal := hMlpWIdeal) (hMlpWRefIdeal := hMlpWRefIdeal)
    ∧ preserves_OutProj_OutProjIdeal
    ∧ algebraic_OutProjIdeal_OutProjRefIdeal (hOutProjIdeal := hOutProjIdeal) (hOutProjRefIdeal := hOutProjRefIdeal)
    ∧ preserves_InProj_InProjIdeal
    ∧ algebraic_InProjIdeal_InProjRefIdeal (hInProjIdeal := hInProjIdeal) (hInProjRefIdeal := hInProjRefIdeal)
    ∧ preserves_InFwd_InFwdIdeal
    ∧ algebraic_InFwdIdeal_InFwdRefIdeal (hInFwdIdeal := hInFwdIdeal) (hInFwdRefIdeal := hInFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_MlpFwd_MlpFwdIdeal
    ∧ algebraic_MlpFwdIdeal_MlpFwdRefIdeal (hMlpFwdIdeal := hMlpFwdIdeal) (hMlpFwdRefIdeal := hMlpFwdRefIdeal)
    ∧ preserves_LastFwd_LastFwdIdeal
    ∧ algebraic_LastFwdIdeal_LastFwdRefIdeal (hLastFwdIdeal := hLastFwdIdeal) (hLastFwdRefIdeal := hLastFwdRefIdeal)
    ∧ preserves_AttnFwd_AttnFwdIdeal
    ∧ algebraic_AttnFwdIdeal_AttnFwdRefIdeal_pre_finite_scores (hAttnFwdIdeal := hAttnFwdIdeal) (hAttnFwdRefIdeal := hAttnFwdRefIdeal) (hPre_finite_scores := hPre_finite_scores)
    ∧ preserves_AdamUp_AdamUpIdeal
    ∧ algebraic_AdamUpIdeal_AdamUpRefIdeal (hAdamUpIdeal := hAdamUpIdeal) (hAdamUpRefIdeal := hAdamUpRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamIn_AdamInIdeal
    ∧ algebraic_AdamInIdeal_AdamInRefIdeal (hAdamInIdeal := hAdamInIdeal) (hAdamInRefIdeal := hAdamInRefIdeal)
-- ==== Pre_finite_scores.lean ====
abbrev S8192x1792 : Shape := ⟨2, ![8192, 1792]⟩
abbrev S8 : Shape := ⟨1, ![8]⟩
abbrev S512 : Shape := ⟨1, ![512]⟩
abbrev S8192x640 : Shape := ⟨2, ![8192, 640]⟩
abbrev S_ : Shape := ⟨0, ![]⟩

class Facts : Prop where
  slices_S8192x1792_S8192x640_0_0 : S8192x1792.Slices ![0, 0] S8192x640
  bitsLt_bf16_f32 : FTy.bits .bf16 < FTy.bits .f32
  bcast_S_S8192x640 : S_.BroadcastsInDim S8192x640 (![] : Fin 0 → Fin S8192x640.rank)
  reducesTo_S8192x640_S_d0_1 : S8192x640.ReducesTo [0, 1] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S8192x1792 .bf16) (main_arg1 : FVec F S8 .f32) (main_arg2 : FVec F S512 .f32) : IVec S_ 1 :=
  let main_v0 : FVec F S8192x640 .bf16 := (extractStridedSlice S8192x640 ![0, 0] · slices_S8192x1792_S8192x640_0_0) main_arg0
  let main_v1 : FVec F S8192x640 .f32 := (extf .f32 · bitsLt_bf16_f32) main_v0
  let main_v2 : FVec F S8192x640 .f32 := Host.absf main_v1
  let main_cst : FVec F S_ .f32 := constant S_ .f32 0x7F800000#32
  let main_v3 : FVec F S8192x640 .f32 := broadcastInDim S8192x640 ![] bcast_S_S8192x640 main_cst
  let main_v4 : IVec S8192x640 1 := cmpf .olt main_v2 main_v3
  let main_c : IVec S_ 1 := constantI S_ 1 1#1
  let main_v5 : IVec S_ 1 := (fun x v => Host.reduce IntOp.andi x v reducesTo_S8192x640_S_d0_1 h_S_) main_v4 main_c
  let main_cst_0 : FVec F S_ .f32 := constant S_ .f32 0x7F800000#32
  let main_v6 : FVec F S8 .f32 := broadcastInDim S8 ![] bcast_S_S8 main_cst_0
  let main_v7 : IVec S8 1 := cmpf .olt main_arg1 main_v6
  let main_c_1 : IVec S_ 1 := constantI S_ 1 1#1
  let main_v8 : IVec S_ 1 := (fun x v => Host.reduce IntOp.andi x v reducesTo_S8_S_d0 h_S_) main_v7 main_c_1
  let main_v9 : IVec S_ 1 := andi main_v5 main_v8
  main_v9
-- ==== Conv.lean ====
abbrev S8192x1792 : Shape := ⟨2, ![8192, 1792]⟩
abbrev S8192x256 : Shape := ⟨2, ![8192, 256]⟩
abbrev S31x256 : Shape := ⟨2, ![31, 256]⟩
abbrev S4x256 : Shape := ⟨2, ![4, 256]⟩
abbrev S_ : Shape := ⟨0, ![]⟩
abbrev S32x256 : Shape := ⟨2, ![32, 256]⟩
abbrev S8x256 : Shape := ⟨2, ![8, 256]⟩
abbrev S8192x512 : Shape := ⟨2, ![8192, 512]⟩
abbrev S512x256 : Shape := ⟨2, ![512, 256]⟩
abbrev S512x512 : Shape := ⟨2, ![512, 512]⟩
abbrev S544x256 : Shape := ⟨2, ![544, 256]⟩
abbrev S1x256 : Shape := ⟨2, ![1, 256]⟩
abbrev S256 : Shape := ⟨1, ![256]⟩

abbrev nBuf : Space → Nat
  | .hbm => 15
  | .vmem => 28
  | .smem => 0
  | _ => 0

abbrev bufTy : (tb : Table) → Fin (tcTables nBuf tb) → BufTy
  | .hbm, ⟨0, _⟩ => ⟨S8192x1792, .bf16⟩
  | .hbm, ⟨1, _⟩ => ⟨S8192x256, .f32⟩
  | .hbm, ⟨2, _⟩ => ⟨S8192x256, .f32⟩
  | .hbm, ⟨3, _⟩ => ⟨S31x256, .f32⟩
  | .hbm, ⟨4, _⟩ => ⟨S4x256, .f32⟩
  | .hbm, ⟨5, _⟩ => ⟨S_, .i32⟩
  | .hbm, ⟨6, _⟩ => ⟨S_, .f32⟩
  | .hbm, ⟨7, _⟩ => ⟨S32x256, .f32⟩
  | .hbm, ⟨8, _⟩ => ⟨S_, .i32⟩
  | .hbm, ⟨9, _⟩ => ⟨S_, .f32⟩
  | .hbm, ⟨10, _⟩ => ⟨S8x256, .f32⟩
  | .hbm, ⟨11, _⟩ => ⟨S8192x512, .bf16⟩
  | .hbm, ⟨12, _⟩ => ⟨S8192x256, .bf16⟩
  | .hbm, ⟨13, _⟩ => ⟨S32x256, .f32⟩
  | .hbm, ⟨14, _⟩ => ⟨S8x256, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S32x256, .bf16⟩
  | .local _ .vmem, ⟨5, _⟩ => ⟨S32x256, .bf16⟩
  | .local _ .vmem, ⟨6, _⟩ => ⟨S32x256, .bf16⟩
  | .local _ .vmem, ⟨7, _⟩ => ⟨S32x256, .bf16⟩
  | .local _ .vmem, ⟨8, _⟩ => ⟨S512x256, .bf16⟩
  | .local _ .vmem, ⟨9, _⟩ => ⟨S512x256, .bf16⟩
  | .local _ .vmem, ⟨10, _⟩ => ⟨S32x256, .bf16⟩
  | .local _ .vmem, ⟨11, _⟩ => ⟨S32x256, .bf16⟩
  | .local _ .vmem, ⟨12, _⟩ => ⟨S512x256, .f32⟩
  | .local _ .vmem, ⟨13, _⟩ => ⟨S512x256, .f32⟩
  | .local _ .vmem, ⟨14, _⟩ => ⟨S32x256, .f32⟩
  | .local _ .vmem, ⟨15, _⟩ => ⟨S32x256, .f32⟩
  | .local _ .vmem, ⟨16, _⟩ => ⟨S512x256, .f32⟩
  | .local _ .vmem, ⟨17, _⟩ => ⟨S512x256, .f32⟩
  | .local _ .vmem, ⟨18, _⟩ => ⟨S32x256, .f32⟩
  | .local _ .vmem, ⟨19, _⟩ => ⟨S32x256, .f32⟩
  | .local _ .vmem, ⟨20, _⟩ => ⟨S32x256, .f32⟩
  | .local _ .vmem, ⟨21, _⟩ => ⟨S8x256, .f32⟩
  | .local _ .vmem, ⟨22, _⟩ => ⟨S512x512, .bf16⟩
  | .local _ .vmem, ⟨23, _⟩ => ⟨S512x512, .bf16⟩
  | .local _ .vmem, ⟨24, _⟩ => ⟨S512x256, .bf16⟩
  | .local _ .vmem, ⟨25, _⟩ => ⟨S512x256, .bf16⟩
  | .local _ .vmem, ⟨26, _⟩ => ⟨S32x256, .f32⟩
  | .local _ .vmem, ⟨27, _⟩ => ⟨S8x256, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg15_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem15_0 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S32x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S32x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ConvRefIdeal.lean ====
abbrev S8192x1792 : Shape := ⟨2, ![8192, 1792]⟩
abbrev S8192x256 : Shape := ⟨2, ![8192, 256]⟩
abbrev S31x256 : Shape := ⟨2, ![31, 256]⟩
abbrev S4x256 : Shape := ⟨2, ![4, 256]⟩
abbrev S_ : Shape := ⟨0, ![]⟩
abbrev S30x256 : Shape := ⟨2, ![30, 256]⟩
abbrev S8222x256 : Shape := ⟨2, ![8222, 256]⟩
abbrev S1x8192x256 : Shape := ⟨3, ![1, 8192, 256]⟩
abbrev S16x8192x256 : Shape := ⟨3, ![16, 8192, 256]⟩
abbrev S15x8192x256 : Shape := ⟨3, ![15, 8192, 256]⟩
abbrev S31x8192x256 : Shape := ⟨3, ![31, 8192, 256]⟩
abbrev S31x1x256 : Shape := ⟨3, ![31, 1, 256]⟩
abbrev S3x256 : Shape := ⟨2, ![3, 256]⟩
abbrev S8195x256 : Shape := ⟨2, ![8195, 256]⟩
abbrev S4x8192x256 : Shape := ⟨3, ![4, 8192, 256]⟩
abbrev S4x1x256 : Shape := ⟨3, ![4, 1, 256]⟩
abbrev S8192x512 : Shape := ⟨2, ![8192, 512]⟩
abbrev S32x256 : Shape := ⟨2, ![32, 256]⟩
abbrev S8x256 : Shape := ⟨2, ![8, 256]⟩

abbrev nBuf : Space → Nat
  | .hbm => 323
  | .vmem => 0
  | .smem => 0
  | _ => 0

abbrev hbmTy0_0 (i : Nat) : BufTy := match i % 128 with
  | 0 => ⟨S8192x1792, .bf16⟩
  | 1 => ⟨S8192x256, .f32⟩
  | 2 => ⟨S8192x256, .f32⟩
  | 3 => ⟨S31x256, .f32⟩
  | 4 => ⟨S4x256, .f32⟩
  | 5 => ⟨S8192x1792, .f32⟩
  | 6 => ⟨S8192x256, .f32⟩
  | 7 => ⟨S8192x256, .f32⟩
  | 8 => ⟨S8192x256, .f32⟩
  | 9 => ⟨S8192x256, .f32⟩
  | 10 => ⟨S8192x256, .f32⟩
  | 11 => ⟨S_, .f32⟩
  | 12 => ⟨S8192x256, .f32⟩
  | 13 => ⟨S8192x256, .f32⟩
  | 14 => ⟨S_, .f32⟩
  | 15 => ⟨S8192x256, .f32⟩
  | 16 => ⟨S8192x256, .f32⟩
  | 17 => ⟨S_, .f32⟩
  | 18 => ⟨S8192x256, .f32⟩
  | 19 => ⟨S8192x256, .f32⟩
  | 20 => ⟨S8192x256, .f32⟩
  | 21 => ⟨S8192x256, .f32⟩
  | 22 => ⟨S_, .f32⟩
  | 23 => ⟨S30x256, .f32⟩
  | 24 => ⟨S8222x256, .f32⟩
  | 25 => ⟨S_, .f32⟩
  | 26 => ⟨S30x256, .f32⟩
  | 27 => ⟨S8192x256, .f32⟩
  | 28 => ⟨S8192x256, .f32⟩
  | 29 => ⟨S8192x256, .f32⟩
  | 30 => ⟨S8192x256, .f32⟩
  | 31 => ⟨S8192x256, .f32⟩
  | 32 => ⟨S8192x256, .f32⟩
  | 33 => ⟨S8192x256, .f32⟩
  | 34 => ⟨S8192x256, .f32⟩
  | 35 => ⟨S8192x256, .f32⟩
  | 36 => ⟨S8192x256, .f32⟩
  | 37 => ⟨S8192x256, .f32⟩
  | 38 => ⟨S8192x256, .f32⟩
  | 39 => ⟨S8192x256, .f32⟩
  | 40 => ⟨S8192x256, .f32⟩
  | 41 => ⟨S8192x256, .f32⟩
  | 42 => ⟨S8192x256, .f32⟩
  | 43 => ⟨S8192x256, .f32⟩
  | 44 => ⟨S8192x256, .f32⟩
  | 45 => ⟨S8192x256, .f32⟩
  | 46 => ⟨S8192x256, .f32⟩
  | 47 => ⟨S8192x256, .f32⟩
  | 48 => ⟨S8192x256, .f32⟩
  | 49 => ⟨S8192x256, .f32⟩
  | 50 => ⟨S8192x256, .f32⟩
  | 51 => ⟨S8192x256, .f32⟩
  | 52 => ⟨S8192x256, .f32⟩
  | 53 => ⟨S8192x256, .f32⟩
  | 54 => ⟨S8192x256, .f32⟩
  | 55 => ⟨S8192x256, .f32⟩
  | 56 => ⟨S8192x256, .f32⟩
  | 57 => ⟨S8192x256, .f32⟩
  | 58 => ⟨S1x8192x256, .f32⟩
  | 59 => ⟨S1x8192x256, .f32⟩
  | 60 => ⟨S1x8192x256, .f32⟩
  | 61 => ⟨S1x8192x256, .f32⟩
  | 62 => ⟨S1x8192x256, .f32⟩
  | 63 => ⟨S1x8192x256, .f32⟩
  | 64 => ⟨S1x8192x256, .f32⟩
  | 65 => ⟨S1x8192x256, .f32⟩
  | 66 => ⟨S1x8192x256, .f32⟩
  | 67 => ⟨S1x8192x256, .f32⟩
  | 68 => ⟨S1x8192x256, .f32⟩
  | 69 => ⟨S1x8192x256, .f32⟩
  | 70 => ⟨S1x8192x256, .f32⟩
  | 71 => ⟨S1x8192x256, .f32⟩
  | 72 => ⟨S1x8192x256, .f32⟩
  | 73 => ⟨S1x8192x256, .f32⟩
  | 74 => ⟨S1x8192x256, .f32⟩
  | 75 => ⟨S1x8192x256, .f32⟩
  | 76 => ⟨S1x8192x256, .f32⟩
  | 77 => ⟨S1x8192x256, .f32⟩
  | 78 => ⟨S1x8192x256, .f32⟩
  | 79 => ⟨S1x8192x256, .f32⟩
  | 80 => ⟨S1x8192x256, .f32⟩
  | 81 => ⟨S1x8192x256, .f32⟩
  | 82 => ⟨S1x8192x256, .f32⟩
  | 83 => ⟨S1x8192x256, .f32⟩
  | 84 => ⟨S1x8192x256, .f32⟩
  | 85 => ⟨S1x8192x256, .f32⟩
  | 86 => ⟨S1x8192x256, .f32⟩
  | 87 => ⟨S1x8192x256, .f32⟩
  | 88 => ⟨S1x8192x256, .f32⟩
  | 89 => ⟨S16x8192x256, .f32⟩
  | 90 => ⟨S15x8192x256, .f32⟩
  | 91 => ⟨S31x8192x256, .f32⟩
  | 92 => ⟨S31x1x256, .f32⟩
  | 93 => ⟨S31x8192x256, .f32⟩
  | 94 => ⟨S31x8192x256, .f32⟩
  | 95 => ⟨S_, .f32⟩
  | 96 => ⟨S8192x256, .f32⟩
  | 97 => ⟨S31x8192x256, .f32⟩
  | 98 => ⟨S31x8192x256, .f32⟩
  | 99 => ⟨S_, .f32⟩
  | 100 => ⟨S31x256, .f32⟩
  | 101 => ⟨S31x1x256, .f32⟩
  | 102 => ⟨S31x8192x256, .f32⟩
  | 103 => ⟨S31x8192x256, .f32⟩
  | 104 => ⟨S_, .f32⟩
  | 105 => ⟨S31x256, .f32⟩
  | 106 => ⟨S1x8192x256, .f32⟩
  | 107 => ⟨S8192x256, .f32⟩
  | 108 => ⟨S1x8192x256, .f32⟩
  | 109 => ⟨S8192x256, .f32⟩
  | 110 => ⟨S1x8192x256, .f32⟩
  | 111 => ⟨S8192x256, .f32⟩
  | 112 => ⟨S1x8192x256, .f32⟩
  | 113 => ⟨S8192x256, .f32⟩
  | 114 => ⟨S1x8192x256, .f32⟩
  | 115 => ⟨S8192x256, .f32⟩
  | 116 => ⟨S1x8192x256, .f32⟩
  | 117 => ⟨S8192x256, .f32⟩
  | 118 => ⟨S1x8192x256, .f32⟩
  | 119 => ⟨S8192x256, .f32⟩
  | 120 => ⟨S1x8192x256, .f32⟩
  | 121 => ⟨S8192x256, .f32⟩
  | 122 => ⟨S1x8192x256, .f32⟩
  | 123 => ⟨S8192x256, .f32⟩
  | 124 => ⟨S1x8192x256, .f32⟩
  | 125 => ⟨S8192x256, .f32⟩
  | 126 => ⟨S1x8192x256, .f32⟩
  | 127 => ⟨S8192x256, .f32⟩
  | _ => ⟨S8192x1792, .bf16⟩

abbrev hbmTy0_1 (i : Nat) : BufTy := match i % 128 with
  | 0 => ⟨S1x8192x256, .f32⟩
  | 1 => ⟨S8192x256, .f32⟩
  | 2 => ⟨S1x8192x256, .f32⟩
  | 3 => ⟨S8192x256, .f32⟩
  | 4 => ⟨S1x8192x256, .f32⟩
  | 5 => ⟨S8192x256, .f32⟩
  | 6 => ⟨S1x8192x256, .f32⟩
  | 7 => ⟨S8192x256, .f32⟩
  | 8 => ⟨S1x8192x256, .f32⟩
  | 9 => ⟨S8192x256, .f32⟩
  | 10 => ⟨S1x8192x256, .f32⟩
  | 11 => ⟨S8192x256, .f32⟩
  | 12 => ⟨S1x8192x256, .f32⟩
  | 13 => ⟨S8192x256, .f32⟩
  | 14 => ⟨S1x8192x256, .f32⟩
  | 15 => ⟨S8192x256, .f32⟩
  | 16 => ⟨S1x8192x256, .f32⟩
  | 17 => ⟨S8192x256, .f32⟩
  | 18 => ⟨S1x8192x256, .f32⟩
  | 19 => ⟨S8192x256, .f32⟩
  | 20 => ⟨S1x8192x256, .f32⟩
  | 21 => ⟨S8192x256, .f32⟩
  | 22 => ⟨S1x8192x256, .f32⟩
  | 23 => ⟨S8192x256, .f32⟩
  | 24 => ⟨S1x8192x256, .f32⟩
  | 25 => ⟨S8192x256, .f32⟩
  | 26 => ⟨S1x8192x256, .f32⟩
  | 27 => ⟨S8192x256, .f32⟩
  | 28 => ⟨S1x8192x256, .f32⟩
  | 29 => ⟨S8192x256, .f32⟩
  | 30 => ⟨S1x8192x256, .f32⟩
  | 31 => ⟨S8192x256, .f32⟩
  | 32 => ⟨S1x8192x256, .f32⟩
  | 33 => ⟨S8192x256, .f32⟩
  | 34 => ⟨S1x8192x256, .f32⟩
  | 35 => ⟨S8192x256, .f32⟩
  | 36 => ⟨S1x8192x256, .f32⟩
  | 37 => ⟨S8192x256, .f32⟩
  | 38 => ⟨S1x8192x256, .f32⟩
  | 39 => ⟨S8192x256, .f32⟩
  | 40 => ⟨S_, .f32⟩
  | 41 => ⟨S8222x256, .f32⟩
  | 42 => ⟨S_, .f32⟩
  | 43 => ⟨S8222x256, .f32⟩
  | 44 => ⟨S8222x256, .f32⟩
  | 45 => ⟨S_, .f32⟩
  | 46 => ⟨S8222x256, .f32⟩
  | 47 => ⟨S8222x256, .f32⟩
  | 48 => ⟨S_, .f32⟩
  | 49 => ⟨S8222x256, .f32⟩
  | 50 => ⟨S8222x256, .f32⟩
  | 51 => ⟨S_, .f32⟩
  | 52 => ⟨S8222x256, .f32⟩
  | 53 => ⟨S8222x256, .f32⟩
  | 54 => ⟨S_, .f32⟩
  | 55 => ⟨S8222x256, .f32⟩
  | 56 => ⟨S8222x256, .f32⟩
  | 57 => ⟨S_, .f32⟩
  | 58 => ⟨S8222x256, .f32⟩
  | 59 => ⟨S8222x256, .f32⟩
  | 60 => ⟨S_, .f32⟩
  | 61 => ⟨S8222x256, .f32⟩
  | 62 => ⟨S8222x256, .f32⟩
  | 63 => ⟨S_, .f32⟩
  | 64 => ⟨S8222x256, .f32⟩
  | 65 => ⟨S8222x256, .f32⟩
  | 66 => ⟨S_, .f32⟩
  | 67 => ⟨S8222x256, .f32⟩
  | 68 => ⟨S8222x256, .f32⟩
  | 69 => ⟨S_, .f32⟩
  | 70 => ⟨S8222x256, .f32⟩
  | 71 => ⟨S8222x256, .f32⟩
  | 72 => ⟨S_, .f32⟩
  | 73 => ⟨S8222x256, .f32⟩
  | 74 => ⟨S8222x256, .f32⟩
  | 75 => ⟨S_, .f32⟩
  | 76 => ⟨S8222x256, .f32⟩
  | 77 => ⟨S8222x256, .f32⟩
  | 78 => ⟨S_, .f32⟩
  | 79 => ⟨S8222x256, .f32⟩
  | 80 => ⟨S8222x256, .f32⟩
  | 81 => ⟨S_, .f32⟩
  | 82 => ⟨S8222x256, .f32⟩
  | 83 => ⟨S8222x256, .f32⟩
  | 84 => ⟨S_, .f32⟩
  | 85 => ⟨S8222x256, .f32⟩
  | 86 => ⟨S8222x256, .f32⟩
  | 87 => ⟨S_, .f32⟩
  | 88 => ⟨S8222x256, .f32⟩
  | 89 => ⟨S8222x256, .f32⟩
  | 90 => ⟨S_, .f32⟩
  | 91 => ⟨S8222x256, .f32⟩
  | 92 => ⟨S8222x256, .f32⟩
  | 93 => ⟨S_, .f32⟩
  | 94 => ⟨S8222x256, .f32⟩
  | 95 => ⟨S8222x256, .f32⟩
  | 96 => ⟨S_, .f32⟩
  | 97 => ⟨S8222x256, .f32⟩
  | 98 => ⟨S8222x256, .f32⟩
  | 99 => ⟨S_, .f32⟩
  | 100 => ⟨S8222x256, .f32⟩
  | 101 => ⟨S8222x256, .f32⟩
  | 102 => ⟨S_, .f32⟩
  | 103 => ⟨S8222x256, .f32⟩
  | 104 => ⟨S8222x256, .f32⟩
  | 105 => ⟨S_, .f32⟩
  | 106 => ⟨S8222x256, .f32⟩
  | 107 => ⟨S8222x256, .f32⟩
  | 108 => ⟨S_, .f32⟩
  | 109 => ⟨S8222x256, .f32⟩
  | 110 => ⟨S8222x256, .f32⟩
  | 111 => ⟨S_, .f32⟩
  | 112 => ⟨S8222x256, .f32⟩
  | 113 => ⟨S8222x256, .f32⟩
  | 114 => ⟨S_, .f32⟩
  | 115 => ⟨S8222x256, .f32⟩
  | 116 => ⟨S8222x256, .f32⟩
  | 117 => ⟨S_, .f32⟩
  | 118 => ⟨S8222x256, .f32⟩
  | 119 => ⟨S8222x256, .f32⟩
  | 120 => ⟨S_, .f32⟩
  | 121 => ⟨S8222x256, .f32⟩
  | 122 => ⟨S8222x256, .f32⟩
  | 123 => ⟨S_, .f32⟩
  | 124 => ⟨S8222x256, .f32⟩
  | 125 => ⟨S8222x256, .f32⟩
  | 126 => ⟨S_, .f32⟩
  | 127 => ⟨S8222x256, .f32⟩
  | _ => ⟨S8192x1792, .bf16⟩

abbrev hbmTy0_2 (i : Nat) : BufTy := match i % 128 with
  | 0 => ⟨S8222x256, .f32⟩
  | 1 => ⟨S_, .f32⟩
  | 2 => ⟨S8222x256, .f32⟩
  | 3 => ⟨S8222x256, .f32⟩
  | 4 => ⟨S30x256, .f32⟩
  | 5 => ⟨S8192x256, .f32⟩
  | 6 => ⟨S8192x256, .f32⟩
  | 7 => ⟨S8192x256, .f32⟩
  | 8 => ⟨S8192x256, .f32⟩
  | 9 => ⟨S_, .f32⟩
  | 10 => ⟨S3x256, .f32⟩
  | 11 => ⟨S8195x256, .f32⟩
  | 12 => ⟨S_, .f32⟩
  | 13 => ⟨S3x256, .f32⟩
  | 14 => ⟨S8192x256, .f32⟩
  | 15 => ⟨S8192x256, .f32⟩
  | 16 => ⟨S8192x256, .f32⟩
  | 17 => ⟨S8192x256, .f32⟩
  | 18 => ⟨S1x8192x256, .f32⟩
  | 19 => ⟨S1x8192x256, .f32⟩
  | 20 => ⟨S1x8192x256, .f32⟩
  | 21 => ⟨S1x8192x256, .f32⟩
  | 22 => ⟨S4x8192x256, .f32⟩
  | 23 => ⟨S4x1x256, .f32⟩
  | 24 => ⟨S4x8192x256, .f32⟩
  | 25 => ⟨S4x8192x256, .f32⟩
  | 26 => ⟨S_, .f32⟩
  | 27 => ⟨S8192x256, .f32⟩
  | 28 => ⟨S4x8192x256, .f32⟩
  | 29 => ⟨S4x8192x256, .f32⟩
  | 30 => ⟨S_, .f32⟩
  | 31 => ⟨S4x256, .f32⟩
  | 32 => ⟨S4x1x256, .f32⟩
  | 33 => ⟨S4x8192x256, .f32⟩
  | 34 => ⟨S4x8192x256, .f32⟩
  | 35 => ⟨S_, .f32⟩
  | 36 => ⟨S4x256, .f32⟩
  | 37 => ⟨S1x8192x256, .f32⟩
  | 38 => ⟨S8192x256, .f32⟩
  | 39 => ⟨S1x8192x256, .f32⟩
  | 40 => ⟨S8192x256, .f32⟩
  | 41 => ⟨S1x8192x256, .f32⟩
  | 42 => ⟨S8192x256, .f32⟩
  | 43 => ⟨S1x8192x256, .f32⟩
  | 44 => ⟨S8192x256, .f32⟩
  | 45 => ⟨S_, .f32⟩
  | 46 => ⟨S8195x256, .f32⟩
  | 47 => ⟨S_, .f32⟩
  | 48 => ⟨S8195x256, .f32⟩
  | 49 => ⟨S8195x256, .f32⟩
  | 50 => ⟨S_, .f32⟩
  | 51 => ⟨S8195x256, .f32⟩
  | 52 => ⟨S8195x256, .f32⟩
  | 53 => ⟨S_, .f32⟩
  | 54 => ⟨S8195x256, .f32⟩
  | 55 => ⟨S8195x256, .f32⟩
  | 56 => ⟨S3x256, .f32⟩
  | 57 => ⟨S8192x256, .f32⟩
  | 58 => ⟨S8192x512, .f32⟩
  | 59 => ⟨S8192x512, .bf16⟩
  | 60 => ⟨S8192x256, .bf16⟩
  | 61 => ⟨S_, .i32⟩
  | 62 => ⟨S_, .f32⟩
  | 63 => ⟨S32x256, .f32⟩
  | 64 => ⟨S_, .i32⟩
  | 65 => ⟨S_, .f32⟩
  | 66 => ⟨S8x256, .f32⟩
  | _ => ⟨S8192x1792, .bf16⟩

abbrev hbmTy (i : Nat) : BufTy := match i / 128 with
  | 0 => hbmTy0_0 i
  | 1 => hbmTy0_1 i
  | 2 => hbmTy0_2 i
  | _ => ⟨S8192x1792, .bf16⟩

abbrev bufTy : (tb : Table) → Fin (tcTables nBuf tb) → BufTy
  | .hbm, ⟨i, _⟩ => hbmTy i
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_cst_4 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_cst_5 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_cst_6 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_cst_7 : Ref sig .tc := ⟨.hbm, 168, rfl⟩
abbrev main_v155 : Ref sig .tc := ⟨.hbm, 169, rfl⟩
abbrev main_cst_8 : Ref sig .tc := ⟨.hbm, 170, rfl⟩
abbrev main_v156 : Ref sig .tc := ⟨.hbm, 171, rfl⟩
abbrev main_v157 : Ref sig .tc := ⟨.hbm, 172, rfl⟩
abbrev main_cst_9 : Ref sig .tc := ⟨.hbm, 173, rfl⟩
abbrev main_v158 : Ref sig .tc := ⟨.hbm, 174, rfl⟩
abbrev main_v159 : Ref sig .tc := ⟨.hbm, 175, rfl⟩
abbrev main_cst_10 : Ref sig .tc := ⟨.hbm, 176, rfl⟩
abbrev main_v160 : Ref sig .tc := ⟨.hbm, 177, rfl⟩
abbrev main_v161 : Ref sig .tc := ⟨.hbm, 178, rfl⟩
abbrev main_cst_11 : Ref sig .tc := ⟨.hbm, 179, rfl⟩
abbrev main_v162 : Ref sig .tc := ⟨.hbm, 180, rfl⟩
abbrev main_v163 : Ref sig .tc := ⟨.hbm, 181, rfl⟩
abbrev main_cst_12 : Ref sig .tc := ⟨.hbm, 182, rfl⟩
abbrev main_v164 : Ref sig .tc := ⟨.hbm, 183, rfl⟩
abbrev main_v165 : Ref sig .tc := ⟨.hbm, 184, rfl⟩
abbrev main_cst_13 : Ref sig .tc := ⟨.hbm, 185, rfl⟩
abbrev main_v166 : Ref sig .tc := ⟨.hbm, 186, rfl⟩
abbrev main_v167 : Ref sig .tc := ⟨.hbm, 187, rfl⟩
abbrev main_cst_14 : Ref sig .tc := ⟨.hbm, 188, rfl⟩
abbrev main_v168 : Ref sig .tc := ⟨.hbm, 189, rfl⟩
abbrev main_v169 : Ref sig .tc := ⟨.hbm, 190, rfl⟩
abbrev main_cst_15 : Ref sig .tc := ⟨.hbm, 191, rfl⟩
abbrev main_v170 : Ref sig .tc := ⟨.hbm, 192, rfl⟩
abbrev main_v171 : Ref sig .tc := ⟨.hbm, 193, rfl⟩
abbrev main_cst_16 : Ref sig .tc := ⟨.hbm, 194, rfl⟩
abbrev main_v172 : Ref sig .tc := ⟨.hbm, 195, rfl⟩
abbrev main_v173 : Ref sig .tc := ⟨.hbm, 196, rfl⟩
abbrev main_cst_17 : Ref sig .tc := ⟨.hbm, 197, rfl⟩
abbrev main_v174 : Ref sig .tc := ⟨.hbm, 198, rfl⟩
abbrev main_v175 : Ref sig .tc := ⟨.hbm, 199, rfl⟩
abbrev main_cst_18 : Ref sig .tc := ⟨.hbm, 200, rfl⟩
abbrev main_v176 : Ref sig .tc := ⟨.hbm, 201, rfl⟩
abbrev main_v177 : Ref sig .tc := ⟨.hbm, 202, rfl⟩
abbrev main_cst_19 : Ref sig .tc := ⟨.hbm, 203, rfl⟩
abbrev main_v178 : Ref sig .tc := ⟨.hbm, 204, rfl⟩
abbrev main_v179 : Ref sig .tc := ⟨.hbm, 205, rfl⟩
abbrev main_cst_20 : Ref sig .tc := ⟨.hbm, 206, rfl⟩
abbrev main_v180 : Ref sig .tc := ⟨.hbm, 207, rfl⟩
abbrev main_v181 : Ref sig .tc := ⟨.hbm, 208, rfl⟩
abbrev main_cst_21 : Ref sig .tc := ⟨.hbm, 209, rfl⟩
abbrev main_v182 : Ref sig .tc := ⟨.hbm, 210, rfl⟩
abbrev main_v183 : Ref sig .tc := ⟨.hbm, 211, rfl⟩
abbrev main_cst_22 : Ref sig .tc := ⟨.hbm, 212, rfl⟩
abbrev main_v184 : Ref sig .tc := ⟨.hbm, 213, rfl⟩
abbrev main_v185 : Ref sig .tc := ⟨.hbm, 214, rfl⟩
abbrev main_cst_23 : Ref sig .tc := ⟨.hbm, 215, rfl⟩
abbrev main_v186 : Ref sig .tc := ⟨.hbm, 216, rfl⟩
abbrev main_v187 : Ref sig .tc := ⟨.hbm, 217, rfl⟩
abbrev main_cst_24 : Ref sig .tc := ⟨.hbm, 218, rfl⟩
abbrev main_v188 : Ref sig .tc := ⟨.hbm, 219, rfl⟩
abbrev main_v189 : Ref sig .tc := ⟨.hbm, 220, rfl⟩
abbrev main_cst_25 : Ref sig .tc := ⟨.hbm, 221, rfl⟩
abbrev main_v190 : Ref sig .tc := ⟨.hbm, 222, rfl⟩
abbrev main_v191 : Ref sig .tc := ⟨.hbm, 223, rfl⟩
abbrev main_cst_26 : Ref sig .tc := ⟨.hbm, 224, rfl⟩
abbrev main_v192 : Ref sig .tc := ⟨.hbm, 225, rfl⟩
abbrev main_v193 : Ref sig .tc := ⟨.hbm, 226, rfl⟩
abbrev main_cst_27 : Ref sig .tc := ⟨.hbm, 227, rfl⟩
abbrev main_v194 : Ref sig .tc := ⟨.hbm, 228, rfl⟩
abbrev main_v195 : Ref sig .tc := ⟨.hbm, 229, rfl⟩
abbrev main_cst_28 : Ref sig .tc := ⟨.hbm, 230, rfl⟩
abbrev main_v196 : Ref sig .tc := ⟨.hbm, 231, rfl⟩
abbrev main_v197 : Ref sig .tc := ⟨.hbm, 232, rfl⟩
abbrev main_cst_29 : Ref sig .tc := ⟨.hbm, 233, rfl⟩
abbrev main_v198 : Ref sig .tc := ⟨.hbm, 234, rfl⟩
abbrev main_v199 : Ref sig .tc := ⟨.hbm, 235, rfl⟩
abbrev main_cst_30 : Ref sig .tc := ⟨.hbm, 236, rfl⟩
abbrev main_v200 : Ref sig .tc := ⟨.hbm, 237, rfl⟩
abbrev main_v201 : Ref sig .tc := ⟨.hbm, 238, rfl⟩
abbrev main_cst_31 : Ref sig .tc := ⟨.hbm, 239, rfl⟩
abbrev main_v202 : Ref sig .tc := ⟨.hbm, 240, rfl⟩
abbrev main_v203 : Ref sig .tc := ⟨.hbm, 241, rfl⟩
abbrev main_cst_32 : Ref sig .tc := ⟨.hbm, 242, rfl⟩
abbrev main_v204 : Ref sig .tc := ⟨.hbm, 243, rfl⟩
abbrev main_v205 : Ref sig .tc := ⟨.hbm, 244, rfl⟩
abbrev main_cst_33 : Ref sig .tc := ⟨.hbm, 245, rfl⟩
abbrev main_v206 : Ref sig .tc := ⟨.hbm, 246, rfl⟩
abbrev main_v207 : Ref sig .tc := ⟨.hbm, 247, rfl⟩
abbrev main_cst_34 : Ref sig .tc := ⟨.hbm, 248, rfl⟩
abbrev main_v208 : Ref sig .tc := ⟨.hbm, 249, rfl⟩
abbrev main_v209 : Ref sig .tc := ⟨.hbm, 250, rfl⟩
abbrev main_cst_35 : Ref sig .tc := ⟨.hbm, 251, rfl⟩
abbrev main_v210 : Ref sig .tc := ⟨.hbm, 252, rfl⟩
abbrev main_v211 : Ref sig .tc := ⟨.hbm, 253, rfl⟩
abbrev main_cst_36 : Ref sig .tc := ⟨.hbm, 254, rfl⟩
abbrev main_v212 : Ref sig .tc := ⟨.hbm, 255, rfl⟩
abbrev main_v213 : Ref sig .tc := ⟨.hbm, 256, rfl⟩
abbrev main_cst_37 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_cst_38 : Ref sig .tc := ⟨.hbm, 265, rfl⟩
abbrev main_v221 : Ref sig .tc := ⟨.hbm, 266, rfl⟩
abbrev main_v222 : Ref sig .tc := ⟨.hbm, 267, rfl⟩
abbrev main_cst_39 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩
abbrev main_v228 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_cst_40 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_cst_41 : Ref sig .tc := ⟨.hbm, 286, rfl⟩
abbrev main_v239 : Ref sig .tc := ⟨.hbm, 287, rfl⟩
abbrev main_v240 : Ref sig .tc := ⟨.hbm, 288, rfl⟩
abbrev main_v241 : Ref sig .tc := ⟨.hbm, 289, rfl⟩
abbrev main_v242 : Ref sig .tc := ⟨.hbm, 290, rfl⟩
abbrev main_cst_42 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_v251 : Ref sig .tc := ⟨.hbm, 300, rfl⟩
abbrev main_cst_43 : Ref sig .tc := ⟨.hbm, 301, rfl⟩
abbrev main_v252 : Ref sig .tc := ⟨.hbm, 302, rfl⟩
abbrev main_cst_44 : Ref sig .tc := ⟨.hbm, 303, rfl⟩
abbrev main_v253 : Ref sig .tc := ⟨.hbm, 304, rfl⟩
abbrev main_v254 : Ref sig .tc := ⟨.hbm, 305, rfl⟩
abbrev main_cst_45 : Ref sig .tc := ⟨.hbm, 306, rfl⟩
abbrev main_v255 : Ref sig .tc := ⟨.hbm, 307, rfl⟩
abbrev main_v256 : Ref sig .tc := ⟨.hbm, 308, rfl⟩
abbrev main_cst_46 : Ref sig .tc := ⟨.hbm, 309, rfl⟩
abbrev main_v257 : Ref sig .tc := ⟨.hbm, 310, rfl⟩
abbrev main_v258 : Ref sig .tc := ⟨.hbm, 311, rfl⟩
abbrev main_v259 : Ref sig .tc := ⟨.hbm, 312, rfl⟩
abbrev main_v260 : Ref sig .tc := ⟨.hbm, 313, rfl⟩
abbrev main_v261 : Ref sig .tc := ⟨.hbm, 314, rfl⟩
abbrev main_v262 : Ref sig .tc := ⟨.hbm, 315, rfl⟩
abbrev main_v263 : Ref sig .tc := ⟨.hbm, 316, rfl⟩
abbrev main_c : Ref sig .tc := ⟨.hbm, 317, rfl⟩
abbrev main_call0_v0 : Ref sig .tc := ⟨.hbm, 318, rfl⟩
abbrev main_v264 : Ref sig .tc := ⟨.hbm, 319, rfl⟩
abbrev main_c_47 : Ref sig .tc := ⟨.hbm, 320, rfl⟩
abbrev main_call1_v0 : Ref sig .tc := ⟨.hbm, 321, rfl⟩
abbrev main_v265 : Ref sig .tc := ⟨.hbm, 322, rfl⟩

abbrev nD : Nat := 1
abbrev τ : Topo := Topo.v7x

variable {F : FTy → Type} [FloatOps F]
-- ==== MlpAct.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S1024x4x1024 : Shape := ⟨3, ![1024, 4, 1024]⟩
abbrev S4x1024x1024 : Shape := ⟨3, ![4, 1024, 1024]⟩
abbrev S512x1024 : Shape := ⟨2, ![512, 1024]⟩
abbrev S512x4096 : Shape := ⟨2, ![512, 4096]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 32
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S8192x4096, .bf16⟩
  | .hbm, ⟨23, _⟩ => ⟨S1x1024, .f32⟩
  | .hbm, ⟨24, _⟩ => ⟨S1024x4x1024, .f32⟩
  | .hbm, ⟨25, _⟩ => ⟨S4x1024x1024, .f32⟩
  | .hbm, ⟨26, _⟩ => ⟨S4x1024x1024, .bf16⟩
  | .hbm, ⟨27, _⟩ => ⟨S4x1024x1024, .f32⟩
  | .hbm, ⟨28, _⟩ => ⟨S4x1024x1024, .bf16⟩
  | .hbm, ⟨29, _⟩ => ⟨S8192x4096, .bf16⟩
  | .hbm, ⟨30, _⟩ => ⟨S8192x1024, .f32⟩
  | .hbm, ⟨31, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S4x1024x1024, .bf16⟩
  | .local _ .vmem, ⟨8, _⟩ => ⟨S4x1024x1024, .bf16⟩
  | .local _ .vmem, ⟨9, _⟩ => ⟨S512x4096, .bf16⟩
  | .local _ .vmem, ⟨10, _⟩ => ⟨S512x4096, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev main_v21_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MlpActRefIdeal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 110
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .i1⟩
  | .hbm, ⟨28, _⟩ => ⟨S_, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192x4096, .f32⟩
  | .hbm, ⟨33, _⟩ => ⟨S8192x4096, .f32⟩
  | .hbm, ⟨34, _⟩ => ⟨S8192x1024, .f32⟩
  | .hbm, ⟨35, _⟩ => ⟨S8192x4096, .f32⟩
  | .hbm, ⟨36, _⟩ => ⟨S8192x4096, .f32⟩
  | .hbm, ⟨37, _⟩ => ⟨S_, .f32⟩
  | .hbm, ⟨38, _⟩ => ⟨S8192x4096, .f32⟩
  | .hbm, ⟨39, _⟩ => ⟨S8192x4096, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x4096, .f32⟩
  | .hbm, ⟨61, _⟩ => ⟨S_, .f32⟩
  | .hbm, ⟨62, _⟩ => ⟨S8192x4096, .f32⟩
  | .hbm, ⟨63, _⟩ => ⟨S8192x4096, .f32⟩
  | .hbm, ⟨64, _⟩ => ⟨S_, .f32⟩
  | .hbm, ⟨65, _⟩ => ⟨S8192x4096, .f32⟩
  | .hbm, ⟨66, _⟩ => ⟨S8192x4096, .i1⟩
  | .hbm, ⟨67, _⟩ => ⟨S_, .f32⟩
  | .hbm, ⟨68, _⟩ => ⟨S8192x4096, .f32⟩
  | .hbm, ⟨69, _⟩ => ⟨S8192x4096, .f32⟩
  | .hbm, ⟨70, _⟩ => ⟨S_, .f32⟩
  | .hbm, ⟨71, _⟩ => ⟨S8192x4096, .f32⟩
  | .hbm, ⟨72, _⟩ => ⟨S8192x4096, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x4096, .f32⟩
  | .hbm, ⟨77, _⟩ => ⟨S8192x4096, .f32⟩
  | .hbm, ⟨78, _⟩ => ⟨S_, .f32⟩
  | .hbm, ⟨79, _⟩ => ⟨S8192x4096, .f32⟩
  | .hbm, ⟨80, _⟩ => ⟨S8192x4096, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S1024, .f32⟩
  | .hbm, ⟨90, _⟩ => ⟨S8192x1024, .f32⟩
  | .hbm, ⟨91, _⟩ => ⟨S_, .f32⟩
  | .hbm, ⟨92, _⟩ => ⟨S8192, .f32⟩
  | .hbm, ⟨93, _⟩ => ⟨S8192x1, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1, .f32⟩
  | .hbm, ⟨98, _⟩ => ⟨S_, .f32⟩
  | .hbm, ⟨99, _⟩ => ⟨S8192x1, .f32⟩
  | .hbm, ⟨100, _⟩ => ⟨S8192x1, .f32⟩
  | .hbm, ⟨101, _⟩ => ⟨S_, .f32⟩
  | .hbm, ⟨102, _⟩ => ⟨S8192, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x4096, .bf16⟩
  | .hbm, ⟨109, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call1_cst : Ref sig .tc := ⟨.hbm, 61, rfl⟩
abbrev main_call1_v0 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_14 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_15 : Ref sig .tc := ⟨.hbm, 88, rfl⟩
abbrev main_v63 : Ref sig .tc := ⟨.hbm, 89, rfl⟩
abbrev main_v64 : Ref sig .tc := ⟨.hbm, 90, rfl⟩
abbrev main_cst_16 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_17 : Ref sig .tc := ⟨.hbm, 98, rfl⟩
abbrev main_v71 : Ref sig .tc := ⟨.hbm, 99, rfl⟩
abbrev main_v72 : Ref sig .tc := ⟨.hbm, 100, rfl⟩
abbrev main_cst_18 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩

abbrev nD : Nat := 1
abbrev τ : Topo := Topo.v7x

variable {F : FTy → Type} [FloatOps F]
-- ==== MlpW.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 45
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .i1⟩
  | .hbm, ⟨28, _⟩ => ⟨S_, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192x4096, .f32⟩
  | .hbm, ⟨33, _⟩ => ⟨S8192x4096, .f32⟩
  | .hbm, ⟨34, _⟩ => ⟨S8192x1024, .f32⟩
  | .hbm, ⟨35, _⟩ => ⟨S8192x4096, .f32⟩
  | .hbm, ⟨36, _⟩ => ⟨S8192x4096, .f32⟩
  | .hbm, ⟨37, _⟩ => ⟨S_, .f32⟩
  | .hbm, ⟨38, _⟩ => ⟨S8192x4096, .f32⟩
  | .hbm, ⟨39, _⟩ => ⟨S8192x4096, .f32⟩
  | .hbm, ⟨40, _⟩ => ⟨S8192x1024, .bf16⟩
  | .hbm, ⟨41, _⟩ => ⟨S8192x4096, .bf16⟩
  | .hbm, ⟨42, _⟩ => ⟨S8192x4096, .bf16⟩
  | .hbm, ⟨43, _⟩ => ⟨S4x1024x1024, .f32⟩
  | .hbm, ⟨44, _⟩ => ⟨S4x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29_0 : Ref sig .tc := ⟨.hbm, 43, rfl⟩
abbrev main_v29_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpWRefIdeal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S1024x4x1024 : Shape := ⟨3, ![1024, 4, 1024]⟩
abbrev S4x1024x1024 : Shape := ⟨3, ![4, 1024, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .i1⟩
  | .hbm, ⟨28, _⟩ => ⟨S_, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192x4096, .f32⟩
  | .hbm, ⟨33, _⟩ => ⟨S8192x4096, .f32⟩
  | .hbm, ⟨34, _⟩ => ⟨S8192x1024, .f32⟩
  | .hbm, ⟨35, _⟩ => ⟨S8192x1024, .f32⟩
  | .hbm, ⟨36, _⟩ => ⟨S1024x4096, .f32⟩
  | .hbm, ⟨37, _⟩ => ⟨S4096x1024, .f32⟩
  | .hbm, ⟨38, _⟩ => ⟨S8192x4096, .f32⟩
  | .hbm, ⟨39, _⟩ => ⟨S8192x4096, .f32⟩
  | .hbm, ⟨40, _⟩ => ⟨S_, .f32⟩
  | .hbm, ⟨41, _⟩ => ⟨S8192x4096, .f32⟩
  | .hbm, ⟨42, _⟩ => ⟨S8192x4096, .f32⟩
  | .hbm, ⟨43, _⟩ => ⟨S4096x1024, .f32⟩
  | .hbm, ⟨44, _⟩ => ⟨S1024x4096, .f32⟩
  | .hbm, ⟨45, _⟩ => ⟨S1024x4x1024, .f32⟩
  | .hbm, ⟨46, _⟩ => ⟨S4x1024x1024, .f32⟩
  | .hbm, ⟨47, _⟩ => ⟨S4x1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== OutProj.lean ====
abbrev S8192x512 : Shape := ⟨2, ![8192, 512]⟩
abbrev S8192x256 : Shape := ⟨2, ![8192, 256]⟩
abbrev S1024x1024 : Shape := ⟨2, ![1024, 1024]⟩
abbrev S8192x1024 : Shape := ⟨2, ![8192, 1024]⟩
abbrev S1024x512 : Shape := ⟨2, ![1024, 512]⟩
abbrev S1024x256 : Shape := ⟨2, ![1024, 256]⟩

abbrev nBuf : Space → Nat
  | .hbm => 8
  | .vmem => 12
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S8192x256, .bf16⟩
  | .hbm, ⟨3, _⟩ => ⟨S1024x1024, .f32⟩
  | .hbm, ⟨4, _⟩ => ⟨S8192x1024, .f32⟩
  | .hbm, ⟨5, _⟩ => ⟨S1024x1024, .bf16⟩
  | .hbm, ⟨6, _⟩ => ⟨S8192x1024, .f32⟩
  | .hbm, ⟨7, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== OutProjRefIdeal.lean ====
abbrev S8192x512 : Shape := ⟨2, ![8192, 512]⟩
abbrev S8192x256 : Shape := ⟨2, ![8192, 256]⟩
abbrev S1024x1024 : Shape := ⟨2, ![1024, 1024]⟩
abbrev S8192x1024 : Shape := ⟨2, ![8192, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S8192x256, .bf16⟩
  | .hbm, ⟨3, _⟩ => ⟨S1024x1024, .f32⟩
  | .hbm, ⟨4, _⟩ => ⟨S8192x1024, .f32⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== InProj.lean ====
abbrev S8192x1024 : Shape := ⟨2, ![8192, 1024]⟩
abbrev S1024 : Shape := ⟨1, ![1024]⟩
abbrev S1024x1792 : Shape := ⟨2, ![1024, 1792]⟩
abbrev S8192x512 : Shape := ⟨2, ![8192, 512]⟩
abbrev S8192x256 : Shape := ⟨2, ![8192, 256]⟩
abbrev S1x1024 : Shape := ⟨2, ![1, 1024]⟩
abbrev S1792x1024 : Shape := ⟨2, ![1792, 1024]⟩
abbrev S512x512 : Shape := ⟨2, ![512, 512]⟩
abbrev S512x256 : Shape := ⟨2, ![512, 256]⟩
abbrev S512x1024 : Shape := ⟨2, ![512, 1024]⟩
abbrev S512x1792 : Shape := ⟨2, ![512, 1792]⟩
abbrev S512 : Shape := ⟨1, ![512]⟩
abbrev S512x1 : Shape := ⟨2, ![512, 1]⟩

abbrev nBuf : Space → Nat
  | .hbm => 15
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S8192x512, .bf16⟩
  | .hbm, ⟨4, _⟩ => ⟨S8192x256, .bf16⟩
  | .hbm, ⟨5, _⟩ => ⟨S8192x512, .bf16⟩
  | .hbm, ⟨6, _⟩ => ⟨S8192x256, .bf16⟩
  | .hbm, ⟨7, _⟩ => ⟨S8192x256, .bf16⟩
  | .hbm, ⟨8, _⟩ => ⟨S8192x1024, .f32⟩
  | .hbm, ⟨9, _⟩ => ⟨S1x1024, .f32⟩
  | .hbm, ⟨10, _⟩ => ⟨S1792x1024, .f32⟩
  | .hbm, ⟨11, _⟩ => ⟨S1792x1024, .bf16⟩
  | .hbm, ⟨12, _⟩ => ⟨S8192x1024, .f32⟩
  | .hbm, ⟨13, _⟩ => ⟨S1792x1024, .f32⟩
  | .hbm, ⟨14, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1792x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1792x1024, .f32⟩
  | .local _ .vmem, ⟨19, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1792x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1792x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== InProjRefIdeal.lean ====
abbrev S8192x1024 : Shape := ⟨2, ![8192, 1024]⟩
abbrev S1024 : Shape := ⟨1, ![1024]⟩
abbrev S1024x1792 : Shape := ⟨2, ![1024, 1792]⟩
abbrev S8192x512 : Shape := ⟨2, ![8192, 512]⟩
abbrev S8192x256 : Shape := ⟨2, ![8192, 256]⟩
abbrev S8192x1792 : Shape := ⟨2, ![8192, 1792]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1792x1024 : Shape := ⟨2, ![1792, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S8192x512, .bf16⟩
  | .hbm, ⟨4, _⟩ => ⟨S8192x256, .bf16⟩
  | .hbm, ⟨5, _⟩ => ⟨S8192x512, .bf16⟩
  | .hbm, ⟨6, _⟩ => ⟨S8192x256, .bf16⟩
  | .hbm, ⟨7, _⟩ => ⟨S8192x256, .bf16⟩
  | .hbm, ⟨8, _⟩ => ⟨S8192x1024, .f32⟩
  | .hbm, ⟨9, _⟩ => ⟨S8192x1792, .bf16⟩
  | .hbm, ⟨10, _⟩ => ⟨S8192x1792, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1792, .f32⟩
  | .hbm, ⟨32, _⟩ => ⟨S1792x1024, .f32⟩
  | .hbm, ⟨33, _⟩ => ⟨S1024x1792, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S1792x1024, .f32⟩
  | .hbm, ⟨62, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== InFwd.lean ====
abbrev S8192x1024 : Shape := ⟨2, ![8192, 1024]⟩
abbrev S1024 : Shape := ⟨1, ![1024]⟩
abbrev S1024x1792 : Shape := ⟨2, ![1024, 1792]⟩
abbrev S1x1024 : Shape := ⟨2, ![1, 1024]⟩
abbrev S1792x1024 : Shape := ⟨2, ![1792, 1024]⟩
abbrev S8192x1792 : Shape := ⟨2, ![8192, 1792]⟩
abbrev S512x1024 : Shape := ⟨2, ![512, 1024]⟩
abbrev S512x1792 : Shape := ⟨2, ![512, 1792]⟩
abbrev S512 : Shape := ⟨1, ![512]⟩
abbrev S512x1 : Shape := ⟨2, ![512, 1]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S1x1024, .f32⟩
  | .hbm, ⟨4, _⟩ => ⟨S1792x1024, .f32⟩
  | .hbm, ⟨5, _⟩ => ⟨S1792x1024, .bf16⟩
  | .hbm, ⟨6, _⟩ => ⟨S8192x1792, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1792x1024, .bf16⟩
  | .local _ .vmem, ⟨4, _⟩ => ⟨S512x1792, .bf16⟩
  | .local _ .vmem, ⟨5, _⟩ => ⟨S512x1792, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InFwdRefIdeal.lean ====
abbrev S8192x1024 : Shape := ⟨2, ![8192, 1024]⟩
abbrev S1024 : Shape := ⟨1, ![1024]⟩
abbrev S1024x1792 : Shape := ⟨2, ![1024, 1792]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1792 : Shape := ⟨2, ![8192, 1792]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1792, .f32⟩
  | .hbm, ⟨20, _⟩ => ⟨S8192x1792, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== OutFwd.lean ====
abbrev S8192x512 : Shape := ⟨2, ![8192, 512]⟩
abbrev S8192x256 : Shape := ⟨2, ![8192, 256]⟩
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S8192x256, .bf16⟩
  | .hbm, ⟨3, _⟩ => ⟨S8192x1024, .f32⟩
  | .hbm, ⟨4, _⟩ => ⟨S1024x1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S8192x1024, .f32⟩
  | .hbm, ⟨9, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutFwdRefIdeal.lean ====
abbrev S8192x512 : Shape := ⟨2, ![8192, 512]⟩
abbrev S8192x256 : Shape := ⟨2, ![8192, 256]⟩
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S8192x256, .bf16⟩
  | .hbm, ⟨3, _⟩ => ⟨S8192x1024, .f32⟩
  | .hbm, ⟨4, _⟩ => ⟨S1024x1024, .f32⟩
  | .hbm, ⟨5, _⟩ => ⟨S1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== MlpFwd.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x4x1024 : Shape := ⟨3, ![1024, 4, 1024]⟩
abbrev S4x1024x1024 : Shape := ⟨3, ![4, 1024, 1024]⟩
abbrev S8192x4096 : Shape := ⟨2, ![8192, 4096]⟩
abbrev S512x1024 : Shape := ⟨2, ![512, 1024]⟩
abbrev S512x4096 : Shape := ⟨2, ![512, 4096]⟩
abbrev S1x1024x1024 : Shape := ⟨3, ![1, 1024, 1024]⟩
abbrev S1024x1024 : Shape := ⟨2, ![1024, 1024]⟩

abbrev nBuf : Space → Nat
  | .hbm => 28
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S1024x4x1024, .f32⟩
  | .hbm, ⟨22, _⟩ => ⟨S4x1024x1024, .f32⟩
  | .hbm, ⟨23, _⟩ => ⟨S4x1024x1024, .bf16⟩
  | .hbm, ⟨24, _⟩ => ⟨S4x1024x1024, .f32⟩
  | .hbm, ⟨25, _⟩ => ⟨S4x1024x1024, .bf16⟩
  | .hbm, ⟨26, _⟩ => ⟨S8192x4096, .bf16⟩
  | .hbm, ⟨27, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S4x1024x1024, .bf16⟩
  | .local _ .vmem, ⟨5, _⟩ => ⟨S4x1024x1024, .bf16⟩
  | .local _ .vmem, ⟨6, _⟩ => ⟨S512x4096, .bf16⟩
  | .local _ .vmem, ⟨7, _⟩ => ⟨S512x4096, .bf16⟩
  | .local _ .vmem, ⟨8, _⟩ => ⟨S512x1024, .f32⟩
  | .local _ .vmem, ⟨9, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpFwdRefIdeal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S8192x4096, .bf16⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x4096, .f32⟩
  | .hbm, ⟨39, _⟩ => ⟨S_, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S8192x1024, .f32⟩
  | .hbm, ⟨44, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_cst : Ref sig .tc := ⟨.hbm, 39, rfl⟩
abbrev main_call0_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== LastFwd.lean ====
abbrev S8192x512 : Shape := ⟨2, ![8192, 512]⟩
abbrev S8192x256 : Shape := ⟨2, ![8192, 256]⟩
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x4x1024 : Shape := ⟨3, ![1024, 4, 1024]⟩
abbrev S4x1024x1024 : Shape := ⟨3, ![4, 1024, 1024]⟩
abbrev S8192x4096 : Shape := ⟨2, ![8192, 4096]⟩
abbrev S8x128 : Shape := ⟨2, ![8, 128]⟩
abbrev S256x512 : Shape := ⟨2, ![256, 512]⟩
abbrev S256x256 : Shape := ⟨2, ![256, 256]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1x1024x1024 : Shape := ⟨3, ![1, 1024, 1024]⟩
abbrev S1 : Shape := ⟨1, ![1]⟩
abbrev S1x1 : Shape := ⟨2, ![1, 1]⟩

abbrev nBuf : Space → Nat
  | .hbm => 24
  | .vmem => 25
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S8192x256, .bf16⟩
  | .hbm, ⟨3, _⟩ => ⟨S8192x1024, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S8192x1024, .f32⟩
  | .hbm, ⟨9, _⟩ => ⟨S1024, .f32⟩
  | .hbm, ⟨10, _⟩ => ⟨S1024x1024, .bf16⟩
  | .hbm, ⟨11, _⟩ => ⟨S1x1024, .f32⟩
  | .hbm, ⟨12, _⟩ => ⟨S1024x4x1024, .f32⟩
  | .hbm, ⟨13, _⟩ => ⟨S4x1024x1024, .f32⟩
  | .hbm, ⟨14, _⟩ => ⟨S4x1024x1024, .bf16⟩
  | .hbm, ⟨15, _⟩ => ⟨S4x1024x1024, .f32⟩
  | .hbm, ⟨16, _⟩ => ⟨S4x1024x1024, .bf16⟩
  | .hbm, ⟨17, _⟩ => ⟨S1x1024, .f32⟩
  | .hbm, ⟨18, _⟩ => ⟨S8192x1024, .f32⟩
  | .hbm, ⟨19, _⟩ => ⟨S8192x1024, .bf16⟩
  | .hbm, ⟨20, _⟩ => ⟨S8192x4096, .bf16⟩
  | .hbm, ⟨21, _⟩ => ⟨S8192x1024, .f32⟩
  | .hbm, ⟨22, _⟩ => ⟨S8x128, .f32⟩
  | .hbm, ⟨23, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x1024, .f32⟩
  | .local _ .vmem, ⟨7, _⟩ => ⟨S256x1024, .f32⟩
  | .local _ .vmem, ⟨8, _⟩ => ⟨S1024x1024, .bf16⟩
  | .local _ .vmem, ⟨9, _⟩ => ⟨S1x1024, .f32⟩
  | .local _ .vmem, ⟨10, _⟩ => ⟨S4x1024x1024, .bf16⟩
  | .local _ .vmem, ⟨11, _⟩ => ⟨S4x1024x1024, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x4096, .bf16⟩
  | .local _ .vmem, ⟨20, _⟩ => ⟨S256x4096, .bf16⟩
  | .local _ .vmem, ⟨21, _⟩ => ⟨S256x1024, .f32⟩
  | .local _ .vmem, ⟨22, _⟩ => ⟨S256x1024, .f32⟩
  | .local _ .vmem, ⟨23, _⟩ => ⟨S8x128, .f32⟩
  | .local _ .vmem, ⟨24, _⟩ => ⟨S1x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev main_v8_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== LastFwdRefIdeal.lean ====
abbrev S8192x512 : Shape := ⟨2, ![8192, 512]⟩
abbrev S8192x256 : Shape := ⟨2, ![8192, 256]⟩
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S8x128 : Shape := ⟨2, ![8, 128]⟩

abbrev nBuf : Space → Nat
  | .hbm => 126
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S8192x256, .bf16⟩
  | .hbm, ⟨3, _⟩ => ⟨S8192x1024, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S8192x1024, .f32⟩
  | .hbm, ⟨9, _⟩ => ⟨S1024, .f32⟩
  | .hbm, ⟨10, _⟩ => ⟨S8192x1024, .bf16⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x4096, .f32⟩
  | .hbm, ⟨47, _⟩ => ⟨S_, .f32⟩
  | .hbm, ⟨48, _⟩ => ⟨S8192x4096, .f32⟩
  | .hbm, ⟨49, _⟩ => ⟨S8192x4096, .f32⟩
  | .hbm, ⟨50, _⟩ => ⟨S8192x4096, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S8192, .f32⟩
  | .hbm, ⟨80, _⟩ => ⟨S_, .f32⟩
  | .hbm, ⟨81, _⟩ => ⟨S8192, .f32⟩
  | .hbm, ⟨82, _⟩ => ⟨S8192, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S8192, .f32⟩
  | .hbm, ⟨91, _⟩ => ⟨S_, .f32⟩
  | .hbm, ⟨92, _⟩ => ⟨S8192, .f32⟩
  | .hbm, ⟨93, _⟩ => ⟨S8192, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S_, .f32⟩
  | .hbm, ⟨98, _⟩ => ⟨S1024, .f32⟩
  | .hbm, ⟨99, _⟩ => ⟨S1x1024, .f32⟩
  | .hbm, ⟨100, _⟩ => ⟨S8192x1024, .f32⟩
  | .hbm, ⟨101, _⟩ => ⟨S8192x1024, .f32⟩
  | .hbm, ⟨102, _⟩ => ⟨S_, .f32⟩
  | .hbm, ⟨103, _⟩ => ⟨S1024, .f32⟩
  | .hbm, ⟨104, _⟩ => ⟨S8192x1024, .f32⟩
  | .hbm, ⟨105, _⟩ => ⟨S_, .f32⟩
  | .hbm, ⟨106, _⟩ => ⟨S8192, .f32⟩
  | .hbm, ⟨107, _⟩ => ⟨S8192x1, .f32⟩
  | .hbm, ⟨108, _⟩ => ⟨S8192x1024, .f32⟩
  | .hbm, ⟨109, _⟩ => ⟨S8192x1024, .f32⟩
  | .hbm, ⟨110, _⟩ => ⟨S8192x1, .f32⟩
  | .hbm, ⟨111, _⟩ => ⟨S_, .f32⟩
  | .hbm, ⟨112, _⟩ => ⟨S8192x1, .f32⟩
  | .hbm, ⟨113, _⟩ => ⟨S8192x1, .f32⟩
  | .hbm, ⟨114, _⟩ => ⟨S_, .f32⟩
  | .hbm, ⟨115, _⟩ => ⟨S8192, .f32⟩
  | .hbm, ⟨116, _⟩ => ⟨S8192x1024, .f32⟩
  | .hbm, ⟨117, _⟩ => ⟨S8192x1024, .f32⟩
  | .hbm, ⟨118, _⟩ => ⟨S8192x1024, .f32⟩
  | .hbm, ⟨119, _⟩ => ⟨S8192x1024, .f32⟩
  | .hbm, ⟨120, _⟩ => ⟨S8192x1024, .f32⟩
  | .hbm, ⟨121, _⟩ => ⟨S8192x1024, .bf16⟩
  | .hbm, ⟨122, _⟩ => ⟨S8192x4096, .f32⟩
  | .hbm, ⟨123, _⟩ => ⟨S8192x4096, .bf16⟩
  | .hbm, ⟨124, _⟩ => ⟨S8x128, .f32⟩
  | .hbm, ⟨125, _⟩ => ⟨S1x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_cst_13 : Ref sig .tc := ⟨.hbm, 85, rfl⟩
abbrev main_v59 : Ref sig .tc := ⟨.hbm, 86, rfl⟩
abbrev main_cst_14 : Ref sig .tc := ⟨.hbm, 87, rfl⟩
abbrev main_cst_15 : Ref sig .tc := ⟨.hbm, 88, rfl⟩
abbrev main_v60 : Ref sig .tc := ⟨.hbm, 89, rfl⟩
abbrev main_v61 : Ref sig .tc := ⟨.hbm, 90, rfl⟩
abbrev main_cst_16 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_17 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_18 : Ref sig .tc := ⟨.hbm, 102, rfl⟩
abbrev main_v71 : Ref sig .tc := ⟨.hbm, 103, rfl⟩
abbrev main_v72 : Ref sig .tc := ⟨.hbm, 104, rfl⟩
abbrev main_cst_19 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_20 : Ref sig .tc := ⟨.hbm, 111, rfl⟩
abbrev main_v78 : Ref sig .tc := ⟨.hbm, 112, rfl⟩
abbrev main_v79 : Ref sig .tc := ⟨.hbm, 113, rfl⟩
abbrev main_cst_21 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩

abbrev nD : Nat := 1
abbrev τ : Topo := Topo.v7x

variable {F : FTy → Type} [FloatOps F]
-- ==== AttnFwd.lean ====
abbrev S8192x1792 : Shape := ⟨2, ![8192, 1792]⟩
abbrev S8 : Shape := ⟨1, ![8]⟩
abbrev S512 : Shape := ⟨1, ![512]⟩
abbrev S8x128 : Shape := ⟨2, ![8, 128]⟩
abbrev S1024 : Shape := ⟨1, ![1024]⟩
abbrev S1x1024 : Shape := ⟨2, ![1, 1024]⟩
abbrev S128 : Shape := ⟨1, ![128]⟩
abbrev S1x128 : Shape := ⟨2, ![1, 128]⟩
abbrev S256 : Shape := ⟨1, ![256]⟩
abbrev S256x1 : Shape := ⟨2, ![256, 1]⟩
abbrev S256x128 : Shape := ⟨2, ![256, 128]⟩
abbrev S_ : Shape := ⟨0, ![]⟩
abbrev S1x256x128 : Shape := ⟨3, ![1, 256, 128]⟩
abbrev S2x256x128 : Shape := ⟨3, ![2, 256, 128]⟩
abbrev S1x2x1x256x1x128 : Shape := ⟨6, ![1, 2, 1, 256, 1, 128]⟩
abbrev S1x2x1x256x4x128 : Shape := ⟨6, ![1, 2, 1, 256, 4, 128]⟩
abbrev S2x256x512 : Shape := ⟨3, ![2, 256, 512]⟩
abbrev S1x512 : Shape := ⟨2, ![1, 512]⟩
abbrev S8192x512 : Shape := ⟨2, ![8192, 512]⟩
abbrev S1024x512 : Shape := ⟨2, ![1024, 512]⟩
abbrev S1024x256 : Shape := ⟨2, ![1024, 256]⟩
abbrev S128x256 : Shape := ⟨2, ![128, 256]⟩
abbrev S128x128 : Shape := ⟨2, ![128, 128]⟩
abbrev S1x256x512 : Shape := ⟨3, ![1, 256, 512]⟩
abbrev S256x512 : Shape := ⟨2, ![256, 512]⟩
abbrev S128x512 : Shape := ⟨2, ![128, 512]⟩
abbrev S512x128 : Shape := ⟨2, ![512, 128]⟩
abbrev S128x1 : Shape := ⟨2, ![128, 1]⟩

abbrev nBuf : Space → Nat
  | .hbm => 40
  | .vmem => 13
  | .smem => 0
  | _ => 0

abbrev bufTy : (tb : Table) → Fin (tcTables nBuf tb) → BufTy
  | .hbm, ⟨0, _⟩ => ⟨S8192x1792, .bf16⟩
  | .hbm, ⟨1, _⟩ => ⟨S8, .f32⟩
  | .hbm, ⟨2, _⟩ => ⟨S512, .f32⟩
  | .hbm, ⟨3, _⟩ => ⟨S8x128, .f32⟩
  | .hbm, ⟨4, _⟩ => ⟨S1024, .f32⟩
  | .hbm, ⟨5, _⟩ => ⟨S1x1024, .f32⟩
  | .hbm, ⟨6, _⟩ => ⟨S128, .i32⟩
  | .hbm, ⟨7, _⟩ => ⟨S1x128, .i32⟩
  | .hbm, ⟨8, _⟩ => ⟨S256, .i32⟩
  | .hbm, ⟨9, _⟩ => ⟨S256x1, .i32⟩
  | .hbm, ⟨10, _⟩ => ⟨S256x128, .i32⟩
  | .hbm, ⟨11, _⟩ => ⟨S256x128, .i32⟩
  | .hbm, ⟨12, _⟩ => ⟨S256x128, .i1⟩
  | .hbm, ⟨13, _⟩ => ⟨S_, .i32⟩
  | .hbm, ⟨14, _⟩ => ⟨S1x128, .i32⟩
  | .hbm, ⟨15, _⟩ => ⟨S1x128, .i32⟩
  | .hbm, ⟨16, _⟩ => ⟨S256x128, .i32⟩
  | .hbm, ⟨17, _⟩ => ⟨S256x128, .i32⟩
  | .hbm, ⟨18, _⟩ => ⟨S256x128, .i1⟩
  | .hbm, ⟨19, _⟩ => ⟨S256x128, .i1⟩
  | .hbm, ⟨20, _⟩ => ⟨S_, .i32⟩
  | .hbm, ⟨21, _⟩ => ⟨S256x1, .i32⟩
  | .hbm, ⟨22, _⟩ => ⟨S256x1, .i1⟩
  | .hbm, ⟨23, _⟩ => ⟨S256x128, .i1⟩
  | .hbm, ⟨24, _⟩ => ⟨S256x128, .i1⟩
  | .hbm, ⟨25, _⟩ => ⟨S1x256x128, .i1⟩
  | .hbm, ⟨26, _⟩ => ⟨S1x256x128, .i1⟩
  | .hbm, ⟨27, _⟩ => ⟨S2x256x128, .i1⟩
  | .hbm, ⟨28, _⟩ => ⟨S_, .f32⟩
  | .hbm, ⟨29, _⟩ => ⟨S_, .f32⟩
  | .hbm, ⟨30, _⟩ => ⟨S2x256x128, .f32⟩
  | .hbm, ⟨31, _⟩ => ⟨S2x256x128, .f32⟩
  | .hbm, ⟨32, _⟩ => ⟨S2x256x128, .f32⟩
  | .hbm, ⟨33, _⟩ => ⟨S2x256x128, .f32⟩
  | .hbm, ⟨34, _⟩ => ⟨S1x2x1x256x1x128, .f32⟩
  | .hbm, ⟨35, _⟩ => ⟨S1x2x1x256x4x128, .f32⟩
  | .hbm, ⟨36, _⟩ => ⟨S2x256x512, .f32⟩
  | .hbm, ⟨37, _⟩ => ⟨S1x512, .f32⟩
  | .hbm, ⟨38, _⟩ => ⟨S8192x512, .bf16⟩
  | .hbm, ⟨39, _⟩ => ⟨S8192x512, .bf16⟩
  | .local _ .vmem, ⟨0, _⟩ => ⟨S1024x512, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | .local _ .vmem, ⟨4, _⟩ => ⟨S128x256, .bf16⟩
  | .local _ .vmem, ⟨5, _⟩ => ⟨S128x256, .bf16⟩
  | .local _ .vmem, ⟨6, _⟩ => ⟨S1x1024, .f32⟩
  | .local _ .vmem, ⟨7, _⟩ => ⟨S2x256x512, .f32⟩
  | .local _ .vmem, ⟨8, _⟩ => ⟨S1x512, .f32⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29_0 : Ref sig .tc := ⟨.hbm, 38, rfl⟩
abbrev main_v29_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let arg0 : BitVec 32 := BitVec.ofNat 32 (i 0).val
  let c1_i32 : BitVec 32 := 1#32
  let v4 : BitVec 32 := Scalar.minsi arg0 c1_i32
  let v5 : Index := Scalar.indexCast v4
  let c0_1 : Index := 0#32
  let c0_2 : Index := 0#32
  ![v5.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnFwdRefIdeal.lean ====
abbrev S8192x1792 : Shape := ⟨2, ![8192, 1792]⟩
abbrev S8 : Shape := ⟨1, ![8]⟩
abbrev S512 : Shape := ⟨1, ![512]⟩
abbrev S8192x512 : Shape := ⟨2, ![8192, 512]⟩
abbrev S8192x128 : Shape := ⟨2, ![8192, 128]⟩
abbrev S64x128x2x4x64 : Shape := ⟨5, ![64, 128, 2, 4, 64]⟩
abbrev S64x128x2x64 : Shape := ⟨4, ![64, 128, 2, 64]⟩
abbrev S1x128x2x64 : Shape := ⟨4, ![1, 128, 2, 64]⟩
abbrev S_ : Shape := ⟨0, ![]⟩
abbrev S63x128x2x64 : Shape := ⟨4, ![63, 128, 2, 64]⟩
abbrev S64x256x2x64 : Shape := ⟨4, ![64, 256, 2, 64]⟩
abbrev S64x2x256x128x4 : Shape := ⟨5, ![64, 2, 256, 128, 4]⟩
abbrev S64x2x4x128x256 : Shape := ⟨5, ![64, 2, 4, 128, 256]⟩
abbrev S64 : Shape := ⟨1, ![64]⟩
abbrev S64x1 : Shape := ⟨2, ![64, 1]⟩
abbrev S128 : Shape := ⟨1, ![128]⟩
abbrev S1x128 : Shape := ⟨2, ![1, 128]⟩
abbrev S64x128 : Shape := ⟨2, ![64, 128]⟩
abbrev S256 : Shape := ⟨1, ![256]⟩
abbrev S1x256 : Shape := ⟨2, ![1, 256]⟩
abbrev S64x256 : Shape := ⟨2, ![64, 256]⟩
abbrev S64x128x1 : Shape := ⟨3, ![64, 128, 1]⟩
abbrev S64x1x256 : Shape := ⟨3, ![64, 1, 256]⟩
abbrev S64x128x256 : Shape := ⟨3, ![64, 128, 256]⟩
abbrev S64x1x1x128x256 : Shape := ⟨5, ![64, 1, 1, 128, 256]⟩
abbrev S2x4 : Shape := ⟨2, ![2, 4]⟩
abbrev S1x2x4x1x1 : Shape := ⟨5, ![1, 2, 4, 1, 1]⟩
abbrev S64x2x4x128 : Shape := ⟨4, ![64, 2, 4, 128]⟩
abbrev S64x2x4x128x1 : Shape := ⟨5, ![64, 2, 4, 128, 1]⟩
abbrev S64x2x64x4x128 : Shape := ⟨5, ![64, 2, 64, 4, 128]⟩
abbrev S8192 : Shape := ⟨1, ![8192]⟩
abbrev S8192x1 : Shape := ⟨2, ![8192, 1]⟩
abbrev S1x512 : Shape := ⟨2, ![1, 512]⟩

abbrev nBuf : Space → Nat
  | .hbm => 112
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S8, .f32⟩
  | .hbm, ⟨2, _⟩ => ⟨S512, .f32⟩
  | .hbm, ⟨3, _⟩ => ⟨S8192x1792, .f32⟩
  | .hbm, ⟨4, _⟩ => ⟨S8192x512, .f32⟩
  | .hbm, ⟨5, _⟩ => ⟨S8192x128, .f32⟩
  | .hbm, ⟨6, _⟩ => ⟨S8192x128, .f32⟩
  | .hbm, ⟨7, _⟩ => ⟨S64x128x2x4x64, .f32⟩
  | .hbm, ⟨8, _⟩ => ⟨S64x128x2x64, .f32⟩
  | .hbm, ⟨9, _⟩ => ⟨S64x128x2x64, .f32⟩
  | .hbm, ⟨10, _⟩ => ⟨S1x128x2x64, .f32⟩
  | .hbm, ⟨11, _⟩ => ⟨S_, .f32⟩
  | .hbm, ⟨12, _⟩ => ⟨S1x128x2x64, .f32⟩
  | .hbm, ⟨13, _⟩ => ⟨S63x128x2x64, .f32⟩
  | .hbm, ⟨14, _⟩ => ⟨S64x128x2x64, .f32⟩
  | .hbm, ⟨15, _⟩ => ⟨S64x256x2x64, .f32⟩
  | .hbm, ⟨16, _⟩ => ⟨S1x128x2x64, .f32⟩
  | .hbm, ⟨17, _⟩ => ⟨S_, .f32⟩
  | .hbm, ⟨18, _⟩ => ⟨S1x128x2x64, .f32⟩
  | .hbm, ⟨19, _⟩ => ⟨S63x128x2x64, .f32⟩
  | .hbm, ⟨20, _⟩ => ⟨S64x128x2x64, .f32⟩
  | .hbm, ⟨21, _⟩ => ⟨S64x256x2x64, .f32⟩
  | .hbm, ⟨22, _⟩ => ⟨S64x2x256x128x4, .f32⟩
  | .hbm, ⟨23, _⟩ => ⟨S64x2x4x128x256, .f32⟩
  | .hbm, ⟨24, _⟩ => ⟨S_, .f32⟩
  | .hbm, ⟨25, _⟩ => ⟨S64x2x4x128x256, .f32⟩
  | .hbm, ⟨26, _⟩ => ⟨S64x2x4x128x256, .f32⟩
  | .hbm, ⟨27, _⟩ => ⟨S64, .i32⟩
  | .hbm, ⟨28, _⟩ => ⟨S64x1, .i32⟩
  | .hbm, ⟨29, _⟩ => ⟨S_, .i32⟩
  | .hbm, ⟨30, _⟩ => ⟨S64x1, .i32⟩
  | .hbm, ⟨31, _⟩ => ⟨S64x1, .i32⟩
  | .hbm, ⟨32, _⟩ => ⟨S128, .i32⟩
  | .hbm, ⟨33, _⟩ => ⟨S1x128, .i32⟩
  | .hbm, ⟨34, _⟩ => ⟨S64x128, .i32⟩
  | .hbm, ⟨35, _⟩ => ⟨S64x128, .i32⟩
  | .hbm, ⟨36, _⟩ => ⟨S64x128, .i32⟩
  | .hbm, ⟨37, _⟩ => ⟨S_, .i32⟩
  | .hbm, ⟨38, _⟩ => ⟨S64x1, .i32⟩
  | .hbm, ⟨39, _⟩ => ⟨S64x1, .i32⟩
  | .hbm, ⟨40, _⟩ => ⟨S_, .i32⟩
  | .hbm, ⟨41, _⟩ => ⟨S64x1, .i32⟩
  | .hbm, ⟨42, _⟩ => ⟨S64x1, .i32⟩
  | .hbm, ⟨43, _⟩ => ⟨S256, .i32⟩
  | .hbm, ⟨44, _⟩ => ⟨S1x256, .i32⟩
  | .hbm, ⟨45, _⟩ => ⟨S64x256, .i32⟩
  | .hbm, ⟨46, _⟩ => ⟨S64x256, .i32⟩
  | .hbm, ⟨47, _⟩ => ⟨S64x256, .i32⟩
  | .hbm, ⟨48, _⟩ => ⟨S64x128x1, .i32⟩
  | .hbm, ⟨49, _⟩ => ⟨S64x1x256, .i32⟩
  | .hbm, ⟨50, _⟩ => ⟨S64x128x256, .i32⟩
  | .hbm, ⟨51, _⟩ => ⟨S64x128x256, .i32⟩
  | .hbm, ⟨52, _⟩ => ⟨S64x128x256, .i32⟩
  | .hbm, ⟨53, _⟩ => ⟨S_, .i32⟩
  | .hbm, ⟨54, _⟩ => ⟨S64x128x256, .i32⟩
  | .hbm, ⟨55, _⟩ => ⟨S64x128x256, .i1⟩
  | .hbm, ⟨56, _⟩ => ⟨S_, .i32⟩
  | .hbm, ⟨57, _⟩ => ⟨S64x128x256, .i32⟩
  | .hbm, ⟨58, _⟩ => ⟨S64x128x256, .i1⟩
  | .hbm, ⟨59, _⟩ => ⟨S64x128x256, .i1⟩
  | .hbm, ⟨60, _⟩ => ⟨S64x1x256, .i32⟩
  | .hbm, ⟨61, _⟩ => ⟨S_, .i32⟩
  | .hbm, ⟨62, _⟩ => ⟨S64x1x256, .i32⟩
  | .hbm, ⟨63, _⟩ => ⟨S64x1x256, .i1⟩
  | .hbm, ⟨64, _⟩ => ⟨S64x128x256, .i1⟩
  | .hbm, ⟨65, _⟩ => ⟨S64x128x256, .i1⟩
  | .hbm, ⟨66, _⟩ => ⟨S64x1x1x128x256, .i1⟩
  | .hbm, ⟨67, _⟩ => ⟨S_, .f32⟩
  | .hbm, ⟨68, _⟩ => ⟨S_, .f32⟩
  | .hbm, ⟨69, _⟩ => ⟨S64x2x4x128x256, .i1⟩
  | .hbm, ⟨70, _⟩ => ⟨S64x2x4x128x256, .f32⟩
  | .hbm, ⟨71, _⟩ => ⟨S64x2x4x128x256, .f32⟩
  | .hbm, ⟨72, _⟩ => ⟨S2x4, .f32⟩
  | .hbm, ⟨73, _⟩ => ⟨S1x2x4x1x1, .f32⟩
  | .hbm, ⟨74, _⟩ => ⟨S_, .f32⟩
  | .hbm, ⟨75, _⟩ => ⟨S64x2x4x128, .f32⟩
  | .hbm, ⟨76, _⟩ => ⟨S64x2x4x128x1, .f32⟩
  | .hbm, ⟨77, _⟩ => ⟨S64x2x4x128x1, .f32⟩
  | .hbm, ⟨78, _⟩ => ⟨S64x2x4x128x1, .f32⟩
  | .hbm, ⟨79, _⟩ => ⟨S64x2x4x128x256, .f32⟩
  | .hbm, ⟨80, _⟩ => ⟨S64x2x4x128x256, .f32⟩
  | .hbm, ⟨81, _⟩ => ⟨S64x2x4x128x256, .f32⟩
  | .hbm, ⟨82, _⟩ => ⟨S_, .f32⟩
  | .hbm, ⟨83, _⟩ => ⟨S64x2x4x128, .f32⟩
  | .hbm, ⟨84, _⟩ => ⟨S64x2x4x128x1, .f32⟩
  | .hbm, ⟨85, _⟩ => ⟨S64x2x4x128x1, .f32⟩
  | .hbm, ⟨86, _⟩ => ⟨S64x2x4x128x1, .f32⟩
  | .hbm, ⟨87, _⟩ => ⟨S64x2x4x128x1, .f32⟩
  | .hbm, ⟨88, _⟩ => ⟨S64x2x4x128x1, .f32⟩
  | .hbm, ⟨89, _⟩ => ⟨S64x2x4x128x256, .f32⟩
  | .hbm, ⟨90, _⟩ => ⟨S64x2x4x128x256, .f32⟩
  | .hbm, ⟨91, _⟩ => ⟨S64x2x64x4x128, .f32⟩
  | .hbm, ⟨92, _⟩ => ⟨S64x128x2x4x64, .f32⟩
  | .hbm, ⟨93, _⟩ => ⟨S8192x512, .f32⟩
  | .hbm, ⟨94, _⟩ => ⟨S8192x512, .bf16⟩
  | .hbm, ⟨95, _⟩ => ⟨S8192x512, .f32⟩
  | .hbm, ⟨96, _⟩ => ⟨S_, .f32⟩
  | .hbm, ⟨97, _⟩ => ⟨S8192, .f32⟩
  | .hbm, ⟨98, _⟩ => ⟨S8192x1, .f32⟩
  | .hbm, ⟨99, _⟩ => ⟨S_, .f32⟩
  | .hbm, ⟨100, _⟩ => ⟨S8192x1, .f32⟩
  | .hbm, ⟨101, _⟩ => ⟨S8192x1, .f32⟩
  | .hbm, ⟨102, _⟩ => ⟨S_, .f32⟩
  | .hbm, ⟨103, _⟩ => ⟨S8192x1, .f32⟩
  | .hbm, ⟨104, _⟩ => ⟨S8192x1, .f32⟩
  | .hbm, ⟨105, _⟩ => ⟨S8192x1, .f32⟩
  | .hbm, ⟨106, _⟩ => ⟨S8192x512, .f32⟩
  | .hbm, ⟨107, _⟩ => ⟨S8192x512, .f32⟩
  | .hbm, ⟨108, _⟩ => ⟨S1x512, .f32⟩
  | .hbm, ⟨109, _⟩ => ⟨S8192x512, .f32⟩
  | .hbm, ⟨110, _⟩ => ⟨S8192x512, .f32⟩
  | .hbm, ⟨111, _⟩ => ⟨S8192x512, .bf16⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_2 : Ref sig .tc := ⟨.hbm, 37, rfl⟩
abbrev main_v30 : Ref sig .tc := ⟨.hbm, 38, rfl⟩
abbrev main_v31 : Ref sig .tc := ⟨.hbm, 39, rfl⟩
abbrev main_c_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_c_4 : Ref sig .tc := ⟨.hbm, 53, rfl⟩
abbrev main_v44 : Ref sig .tc := ⟨.hbm, 54, rfl⟩
abbrev main_v45 : Ref sig .tc := ⟨.hbm, 55, rfl⟩
abbrev main_c_5 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_c_6 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_7 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_8 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_9 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_10 : Ref sig .tc := ⟨.hbm, 96, rfl⟩
abbrev main_v78 : Ref sig .tc := ⟨.hbm, 97, rfl⟩
abbrev main_v79 : Ref sig .tc := ⟨.hbm, 98, rfl⟩
abbrev main_cst_11 : Ref sig .tc := ⟨.hbm, 99, rfl⟩
abbrev main_v80 : Ref sig .tc := ⟨.hbm, 100, rfl⟩
abbrev main_v81 : Ref sig .tc := ⟨.hbm, 101, rfl⟩
abbrev main_cst_12 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩

abbrev nD : Nat := 1
abbrev τ : Topo := Topo.v7x

variable {F : FTy → Type} [FloatOps F]
-- ==== AdamUp.lean ====
abbrev S2x1024x1024 : Shape := ⟨3, ![2, 1024, 1024]⟩
abbrev S1x512x1024 : Shape := ⟨3, ![1, 512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S2x1024x1024, .f32⟩
  | .hbm, ⟨4, _⟩ => ⟨S2x1024x1024, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamUpIdeal.lean ====
abbrev S2x1024x1024 : Shape := ⟨3, ![2, 1024, 1024]⟩
abbrev S1x512x1024 : Shape := ⟨3, ![1, 512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S2x1024x1024, .f32⟩
  | .hbm, ⟨4, _⟩ => ⟨S2x1024x1024, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamUpRefIdeal.lean ====
abbrev S2x1024x1024 : Shape := ⟨3, ![2, 1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S2x1024x1024, .f32⟩
  | .hbm, ⟨4, _⟩ => ⟨S_, .f32⟩
  | .hbm, ⟨5, _⟩ => ⟨S2x1024x1024, .f32⟩
  | .hbm, ⟨6, _⟩ => ⟨S2x1024x1024, .f32⟩
  | .hbm, ⟨7, _⟩ => ⟨S_, .f32⟩
  | .hbm, ⟨8, _⟩ => ⟨S2x1024x1024, .f32⟩
  | .hbm, ⟨9, _⟩ => ⟨S2x1024x1024, .f32⟩
  | .hbm, ⟨10, _⟩ => ⟨S2x1024x1024, .f32⟩
  | .hbm, ⟨11, _⟩ => ⟨S_, .f32⟩
  | .hbm, ⟨12, _⟩ => ⟨S2x1024x1024, .f32⟩
  | .hbm, ⟨13, _⟩ => ⟨S2x1024x1024, .f32⟩
  | .hbm, ⟨14, _⟩ => ⟨S2x1024x1024, .f32⟩
  | .hbm, ⟨15, _⟩ => ⟨S_, .f32⟩
  | .hbm, ⟨16, _⟩ => ⟨S2x1024x1024, .f32⟩
  | .hbm, ⟨17, _⟩ => ⟨S2x1024x1024, .f32⟩
  | .hbm, ⟨18, _⟩ => ⟨S2x1024x1024, .f32⟩
  | .hbm, ⟨19, _⟩ => ⟨S_, .f32⟩
  | .hbm, ⟨20, _⟩ => ⟨S2x1024x1024, .f32⟩
  | .hbm, ⟨21, _⟩ => ⟨S2x1024x1024, .f32⟩
  | .hbm, ⟨22, _⟩ => ⟨S_, .f32⟩
  | .hbm, ⟨23, _⟩ => ⟨S2x1024x1024, .f32⟩
  | .hbm, ⟨24, _⟩ => ⟨S2x1024x1024, .f32⟩
  | .hbm, ⟨25, _⟩ => ⟨S2x1024x1024, .f32⟩
  | .hbm, ⟨26, _⟩ => ⟨S_, .f32⟩
  | .hbm, ⟨27, _⟩ => ⟨S2x1024x1024, .f32⟩
  | .hbm, ⟨28, _⟩ => ⟨S2x1024x1024, .f32⟩
  | .hbm, ⟨29, _⟩ => ⟨S2x1024x1024, .f32⟩
  | .hbm, ⟨30, _⟩ => ⟨S_, .f32⟩
  | .hbm, ⟨31, _⟩ => ⟨S2x1024x1024, .f32⟩
  | .hbm, ⟨32, _⟩ => ⟨S2x1024x1024, .f32⟩
  | .hbm, ⟨33, _⟩ => ⟨S2x1024x1024, .f32⟩
  | .hbm, ⟨34, _⟩ => ⟨S_, .f32⟩
  | .hbm, ⟨35, _⟩ => ⟨S2x1024x1024, .f32⟩
  | .hbm, ⟨36, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S2x256x1024 : Shape := ⟨3, ![2, 256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamOutRefIdeal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S2x1024x448 : Shape := ⟨3, ![2, 1024, 448]⟩
abbrev S2x448x1024 : Shape := ⟨3, ![2, 448, 1024]⟩
abbrev S1x448x1024 : Shape := ⟨3, ![1, 448, 1024]⟩

abbrev nBuf : Space → Nat
  | .hbm => 11
  | .vmem => 16
  | .smem => 0
  | _ => 0

abbrev bufTy : (tb : Table) → Fin (tcTables nBuf tb) → BufTy
  | .hbm, ⟨0, _⟩ => ⟨S2x1024x448, .f32⟩
  | .hbm, ⟨1, _⟩ => ⟨S2x448x1024, .f32⟩
  | .hbm, ⟨2, _⟩ => ⟨S2x1024x448, .f32⟩
  | .hbm, ⟨3, _⟩ => ⟨S2x1024x448, .f32⟩
  | .hbm, ⟨4, _⟩ => ⟨S2x448x1024, .f32⟩
  | .hbm, ⟨5, _⟩ => ⟨S2x448x1024, .f32⟩
  | .hbm, ⟨6, _⟩ => ⟨S2x448x1024, .f32⟩
  | .hbm, ⟨7, _⟩ => ⟨S2x448x1024, .f32⟩
  | .hbm, ⟨8, _⟩ => ⟨S2x448x1024, .f32⟩
  | .hbm, ⟨9, _⟩ => ⟨S2x448x1024, .f32⟩
  | .hbm, ⟨10, _⟩ => ⟨S2x448x1024, .f32⟩
  | .local _ .vmem, ⟨0, _⟩ => ⟨S1x448x1024, .f32⟩
  | .local _ .vmem, ⟨1, _⟩ => ⟨S1x448x1024, .f32⟩
  | .local _ .vmem, ⟨2, _⟩ => ⟨S1x448x1024, .f32⟩
  | .local _ .vmem, ⟨3, _⟩ => ⟨S1x448x1024, .f32⟩
  | .local _ .vmem, ⟨4, _⟩ => ⟨S1x448x1024, .f32⟩
  | .local _ .vmem, ⟨5, _⟩ => ⟨S1x448x1024, .f32⟩
  | .local _ .vmem, ⟨6, _⟩ => ⟨S1x448x1024, .f32⟩
  | .local _ .vmem, ⟨7, _⟩ => ⟨S1x448x1024, .f32⟩
  | .local _ .vmem, ⟨8, _⟩ => ⟨S1x448x1024, .f32⟩
  | .local _ .vmem, ⟨9, _⟩ => ⟨S1x448x1024, .f32⟩
  | .local _ .vmem, ⟨10, _⟩ => ⟨S1x448x1024, .f32⟩
  | .local _ .vmem, ⟨11, _⟩ => ⟨S1x448x1024, .f32⟩
  | .local _ .vmem, ⟨12, _⟩ => ⟨S1x448x1024, .f32⟩
  | .local _ .vmem, ⟨13, _⟩ => ⟨S1x448x1024, .f32⟩
  | .local _ .vmem, ⟨14, _⟩ => ⟨S1x448x1024, .f32⟩
  | .local _ .vmem, ⟨15, _⟩ => ⟨S1x448x1024, .f32⟩
  | _, _ => ⟨S2x1024x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x448x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x448x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x448x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x448x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x448x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x448x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x448x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x448x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInRefIdeal.lean ====
abbrev S2x1024x448 : Shape := ⟨3, ![2, 1024, 448]⟩
abbrev S2x448x1024 : Shape := ⟨3, ![2, 448, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x448, .f32⟩
  | .hbm, ⟨1, _⟩ => ⟨S2x448x1024, .f32⟩
  | .hbm, ⟨2, _⟩ => ⟨S2x1024x448, .f32⟩
  | .hbm, ⟨3, _⟩ => ⟨S2x1024x448, .f32⟩
  | .hbm, ⟨4, _⟩ => ⟨S2x1024x448, .f32⟩
  | .hbm, ⟨5, _⟩ => ⟨S_, .f32⟩
  | .hbm, ⟨6, _⟩ => ⟨S2x1024x448, .f32⟩
  | .hbm, ⟨7, _⟩ => ⟨S2x1024x448, .f32⟩
  | .hbm, ⟨8, _⟩ => ⟨S_, .f32⟩
  | .hbm, ⟨9, _⟩ => ⟨S2x1024x448, .f32⟩
  | .hbm, ⟨10, _⟩ => ⟨S2x1024x448, .f32⟩
  | .hbm, ⟨11, _⟩ => ⟨S2x1024x448, .f32⟩
  | .hbm, ⟨12, _⟩ => ⟨S_, .f32⟩
  | .hbm, ⟨13, _⟩ => ⟨S2x1024x448, .f32⟩
  | .hbm, ⟨14, _⟩ => ⟨S2x1024x448, .f32⟩
  | .hbm, ⟨15, _⟩ => ⟨S2x1024x448, .f32⟩
  | .hbm, ⟨16, _⟩ => ⟨S_, .f32⟩
  | .hbm, ⟨17, _⟩ => ⟨S2x1024x448, .f32⟩
  | .hbm, ⟨18, _⟩ => ⟨S2x1024x448, .f32⟩
  | .hbm, ⟨19, _⟩ => ⟨S2x1024x448, .f32⟩
  | .hbm, ⟨20, _⟩ => ⟨S_, .f32⟩
  | .hbm, ⟨21, _⟩ => ⟨S2x1024x448, .f32⟩
  | .hbm, ⟨22, _⟩ => ⟨S2x1024x448, .f32⟩
  | .hbm, ⟨23, _⟩ => ⟨S_, .f32⟩
  | .hbm, ⟨24, _⟩ => ⟨S2x1024x448, .f32⟩
  | .hbm, ⟨25, _⟩ => ⟨S2x1024x448, .f32⟩
  | .hbm, ⟨26, _⟩ => ⟨S2x1024x448, .f32⟩
  | .hbm, ⟨27, _⟩ => ⟨S_, .f32⟩
  | .hbm, ⟨28, _⟩ => ⟨S2x1024x448, .f32⟩
  | .hbm, ⟨29, _⟩ => ⟨S2x1024x448, .f32⟩
  | .hbm, ⟨30, _⟩ => ⟨S2x1024x448, .f32⟩
  | .hbm, ⟨31, _⟩ => ⟨S_, .f32⟩
  | .hbm, ⟨32, _⟩ => ⟨S2x1024x448, .f32⟩
  | .hbm, ⟨33, _⟩ => ⟨S2x1024x448, .f32⟩
  | .hbm, ⟨34, _⟩ => ⟨S2x1024x448, .f32⟩
  | .hbm, ⟨35, _⟩ => ⟨S_, .f32⟩
  | .hbm, ⟨36, _⟩ => ⟨S2x1024x448, .f32⟩
  | .hbm, ⟨37, _⟩ => ⟨S2x1024x448, .f32⟩
  | .hbm, ⟨38, _⟩ => ⟨S2x448x1024, .f32⟩
  | .hbm, ⟨39, _⟩ => ⟨S2x448x1024, .f32⟩
  | .hbm, ⟨40, _⟩ => ⟨S2x448x1024, .f32⟩
  | _, _ => ⟨S2x1024x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proof.ConvOpen.lean ====
/-
  The gradient of the gated convolution, opened: what one grid point leaves in each of its four output blocks, as one
  term of the blocks it was given. The thirty-one taps are the printed payloads composed over two arrays, the padded
  gradient `dp` and the padded input `up`, so that the later modules read them at an index without naming a payload.
-/
module

public import proofs.«01_k».proof.Proof.Gen.ConvIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.ConvGrad

open Cert.ConvIdeal Cert.ConvIdeal.Gen

variable {F : FTy → Type} [FloatOps F]

/-- The zero offsets. -/
theorem hz : (![0, 0] : Fin 2 → Nat) = fun _ => 0 := funext fun a => by fin_cases a <;> rfl

/-- A padded array turned by `b` rows. -/
abbrev rot (b : BitVec 32) (x : FVec F S544x256 .f32) : FVec F S544x256 .f32 := dynamicRotate 0 b none x rotates_S544x256_d0

/-- The first twenty-eight taps of the gradient through the convolution, added up in the body's order. -/
def taps (dp : FVec F S544x256 .f32) (w : FVec F S32x256 .f32) : FVec F S512x256 .f32 :=
  k0_pay64 w (rot 541#32 dp) (rot 540#32 dp) (rot 539#32 dp) (rot 538#32 dp) (rot 537#32 dp)
    (k0_pay55 w (rot 543#32 dp) (rot 542#32 dp) (rot 541#32 dp) (rot 540#32 dp) (rot 539#32 dp)
      (k0_pay46 dp w (rot 543#32 dp) (rot 542#32 dp) (rot 541#32 dp) (rot 537#32 dp)
        (k0_pay37 dp w (rot 543#32 dp) (rot 539#32 dp) (rot 538#32 dp) (rot 537#32 dp)
          (k0_pay28 dp w (rot 541#32 dp) (rot 540#32 dp) (rot 539#32 dp) 538#32)
          (k0_pay30 (rot 542#32 dp)) (k0_pay31 w))
        (k0_pay39 (rot 540#32 dp)) (k0_pay40 w))
      (k0_pay48 (rot 538#32 dp)) (k0_pay49 w))
    (k0_pay57 dp) (k0_pay58 w)

/-- The block of the gated unit's gradient: the value half beside the gate half. -/
def glu (x0 x1 : Vec F S512x256 .bf16) (dp : FVec F S544x256 .f32) (w : FVec F S32x256 .f32) : FVec F S512x512 .bf16 :=
  k0_pay69 (k0_pay5 x0) (k0_pay6 x1) dp w (rot 543#32 dp) (taps dp w) (k0_pay66 (rot 542#32 dp)) (k0_pay67 w)

/-- The tap weights' gradient of one block, added to what `xo` holds. -/
def convW (dp up : FVec F S544x256 .f32) (xo : Vec F S32x256 .f32) : FVec F S32x256 .f32 :=
  k0_pay68 up (rot 1#32 up) (rot 2#32 up) (k0_pay24 dp) (k0_pay25 dp up) (k0_pay26 dp up) (k0_pay27 dp up) (k0_pay29 dp up) (k0_pay32 (rot 2#32 up) (k0_pay24 dp)) (k0_pay33 (rot 1#32 up) (k0_pay24 dp)) (k0_pay34 up (k0_pay24 dp)) (k0_pay35 (rot 7#32 up) (k0_pay24 dp)) (k0_pay36 (rot 6#32 up) (k0_pay24 dp)) (k0_pay38 (rot 5#32 up) (k0_pay24 dp)) (k0_pay41 (rot 4#32 up) (k0_pay24 dp)) (k0_pay42 (rot 3#32 up) (k0_pay24 dp)) (k0_pay43 (rot 2#32 up) (k0_pay24 dp)) (k0_pay44 (rot 1#32 up) (k0_pay24 dp)) (k0_pay45 up (k0_pay24 dp)) (k0_pay47 (rot 7#32 up) (k0_pay24 dp)) (k0_pay50 (rot 6#32 up) (k0_pay24 dp)) (k0_pay51 (rot 5#32 up) (k0_pay24 dp)) (k0_pay52 (rot 4#32 up) (k0_pay24 dp)) (k0_pay53 (rot 3#32 up) (k0_pay24 dp)) (k0_pay54 (rot 2#32 up) (k0_pay24 dp)) (k0_pay56 (rot 1#32 up) (k0_pay24 dp)) (k0_pay59 up (k0_pay24 dp)) (k0_pay60 (rot 7#32 up) (k0_pay24 dp)) (k0_pay61 (rot 6#32 up) (k0_pay24 dp)) (k0_pay62 (rot 5#32 up) (k0_pay24 dp)) (k0_pay63 (rot 4#32 up) (k0_pay24 dp)) (k0_pay65 (rot 3#32 up) (k0_pay24 dp)) xo

/-- Whether point `n` is the first, as the bit the body computes. -/
abbrev isFirst (n : ℕ) : BitVec 1 := Scalar.cmpi .eq (BitVec.ofNat 32 n) 0#32
/-- Whether point `n` is the last, as the bit the body computes. -/
abbrev isLast (n : ℕ) : BitVec 1 := Scalar.cmpi .eq (BitVec.ofNat 32 n) 15#32

/-- The block of the gradient through the four taps. -/
def lruIn (n : ℕ) (x8 : Vec F S512x256 .f32) (x9 : Vec F S32x256 .f32) (x11 : Vec F S8x256 .f32) : FVec F S512x256 .bf16 :=
  k0_pay2 (k0_pay72 (isLast n) x8 x9) (k0_pay74 x11) (k0_pay78 (isLast n) x8 x9 x11)

/-- The four taps' weight gradient of one block, added to what `xo` holds. -/
def lruW (n : ℕ) (x4 : Vec F S512x256 .bf16) (x5 : Vec F S32x256 .bf16) (x8 : Vec F S512x256 .f32)
    (x9 : Vec F S32x256 .f32) (xo : Vec F S8x256 .f32) : FVec F S8x256 .f32 :=
  k0_pay1 (k0_pay73 (isFirst n) (k0_pay70 x4) (k0_pay71 x5)) (k0_pay75 (isLast n) x8 x9)
    (k0_pay76 (isFirst n) (isLast n) (k0_pay70 x4) (k0_pay71 x5) x8 x9)
    (k0_pay77 (isFirst n) (isLast n) (k0_pay70 x4) (k0_pay71 x5) x8 x9)
    (k0_pay79 (isFirst n) (isLast n) (k0_pay70 x4) (k0_pay71 x5) x8 x9) xo

/-- What the first point leaves in output 12: the gradient of the gated unit, both halves. -/
theorem out_A_12 (c : Dev nD) (i : grid0.Coords) (a1 : Memref sig .tc .vmem S512x256 .bf16) (h1 : a1.IsWhole) (a2 : Memref sig .tc .vmem S512x256 .bf16) (h2 : a2.IsWhole) (a3 : Memref sig .tc .vmem S32x256 .bf16) (h3 : a3.IsWhole) (a4 : Memref sig .tc .vmem S32x256 .bf16) (h4 : a4.IsWhole) (a5 : Memref sig .tc .vmem S512x256 .bf16) (h5 : a5.IsWhole) (a6 : Memref sig .tc .vmem S32x256 .bf16) (h6 : a6.IsWhole) (a7 : Memref sig .tc .vmem S512x256 .f32) (h7 : a7.IsWhole) (a8 : Memref sig .tc .vmem S32x256 .f32) (h8 : a8.IsWhole) (a9 : Memref sig .tc .vmem S512x256 .f32) (h9 : a9.IsWhole) (a10 : Memref sig .tc .vmem S32x256 .f32) (h10 : a10.IsWhole) (a11 : Memref sig .tc .vmem S32x256 .f32) (h11 : a11.IsWhole) (a12 : Memref sig .tc .vmem S8x256 .f32) (h12 : a12.IsWhole) (a13 : Memref sig .tc .vmem S512x512 .bf16) (h13 : a13.IsWhole) (a14 : Memref sig .tc .vmem S512x256 .bf16) (h14 : a14.IsWhole) (a15 : Memref sig .tc .vmem S32x256 .f32) (h15 : a15.IsWhole) (a16 : Memref sig .tc .vmem S8x256 .f32) (h16 : a16.IsWhole)
    (hc : cond0_0 i) (x0 x1 : Vec F S512x256 .bf16) (x2 x3 : Vec F S32x256 .bf16) (x4 : Vec F S512x256 .bf16) (x5 : Vec F S32x256 .bf16)
    (x6 : Vec F S512x256 .f32) (x7 : Vec F S32x256 .f32) (x8 : Vec F S512x256 .f32) (x9 : Vec F S32x256 .f32)
    (x10 : Vec F S32x256 .f32) (x11 : Vec F S8x256 .f32) :
    out0_A_12 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 = glu x0 x1 (k0_pay7 i x6 x7) (k0_pay9 x10) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11)]
  unfold kernelRun0_A
  dsimp only
  sl_unfold_words
  rw [View.canon_unit_zero (S := S512x512) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread,
    View.ld_unit_zero (S := S512x256) hz, View.ld_unit_zero (S := S32x256) hz, View.ld_unit_zero (S := S8x256) hz]
  rfl

/-- What the first point leaves in output 13: the gradient through the four taps. -/
theorem out_A_13 (c : Dev nD) (i : grid0.Coords) (a1 : Memref sig .tc .vmem S512x256 .bf16) (h1 : a1.IsWhole) (a2 : Memref sig .tc .vmem S512x256 .bf16) (h2 : a2.IsWhole) (a3 : Memref sig .tc .vmem S32x256 .bf16) (h3 : a3.IsWhole) (a4 : Memref sig .tc .vmem S32x256 .bf16) (h4 : a4.IsWhole) (a5 : Memref sig .tc .vmem S512x256 .bf16) (h5 : a5.IsWhole) (a6 : Memref sig .tc .vmem S32x256 .bf16) (h6 : a6.IsWhole) (a7 : Memref sig .tc .vmem S512x256 .f32) (h7 : a7.IsWhole) (a8 : Memref sig .tc .vmem S32x256 .f32) (h8 : a8.IsWhole) (a9 : Memref sig .tc .vmem S512x256 .f32) (h9 : a9.IsWhole) (a10 : Memref sig .tc .vmem S32x256 .f32) (h10 : a10.IsWhole) (a11 : Memref sig .tc .vmem S32x256 .f32) (h11 : a11.IsWhole) (a12 : Memref sig .tc .vmem S8x256 .f32) (h12 : a12.IsWhole) (a13 : Memref sig .tc .vmem S512x512 .bf16) (h13 : a13.IsWhole) (a14 : Memref sig .tc .vmem S512x256 .bf16) (h14 : a14.IsWhole) (a15 : Memref sig .tc .vmem S32x256 .f32) (h15 : a15.IsWhole) (a16 : Memref sig .tc .vmem S8x256 .f32) (h16 : a16.IsWhole)
    (hc : cond0_0 i) (x0 x1 : Vec F S512x256 .bf16) (x2 x3 : Vec F S32x256 .bf16) (x4 : Vec F S512x256 .bf16) (x5 : Vec F S32x256 .bf16)
    (x6 : Vec F S512x256 .f32) (x7 : Vec F S32x256 .f32) (x8 : Vec F S512x256 .f32) (x9 : Vec F S32x256 .f32)
    (x10 : Vec F S32x256 .f32) (x11 : Vec F S8x256 .f32) :
    out0_A_13 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 = lruIn (i 0).val x8 x9 x11 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11)]
  unfold kernelRun0_A
  dsimp only
  sl_unfold_words
  rw [View.canon_unit_zero (S := S512x256) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread,
    View.ld_unit_zero (S := S512x256) hz, View.ld_unit_zero (S := S32x256) hz, View.ld_unit_zero (S := S8x256) hz]
  rfl

/-- What the first point leaves in output 14: the accumulated gradient of the thirty-one taps. -/
theorem out_A_14 (c : Dev nD) (i : grid0.Coords) (a1 : Memref sig .tc .vmem S512x256 .bf16) (h1 : a1.IsWhole) (a2 : Memref sig .tc .vmem S512x256 .bf16) (h2 : a2.IsWhole) (a3 : Memref sig .tc .vmem S32x256 .bf16) (h3 : a3.IsWhole) (a4 : Memref sig .tc .vmem S32x256 .bf16) (h4 : a4.IsWhole) (a5 : Memref sig .tc .vmem S512x256 .bf16) (h5 : a5.IsWhole) (a6 : Memref sig .tc .vmem S32x256 .bf16) (h6 : a6.IsWhole) (a7 : Memref sig .tc .vmem S512x256 .f32) (h7 : a7.IsWhole) (a8 : Memref sig .tc .vmem S32x256 .f32) (h8 : a8.IsWhole) (a9 : Memref sig .tc .vmem S512x256 .f32) (h9 : a9.IsWhole) (a10 : Memref sig .tc .vmem S32x256 .f32) (h10 : a10.IsWhole) (a11 : Memref sig .tc .vmem S32x256 .f32) (h11 : a11.IsWhole) (a12 : Memref sig .tc .vmem S8x256 .f32) (h12 : a12.IsWhole) (a13 : Memref sig .tc .vmem S512x512 .bf16) (h13 : a13.IsWhole) (a14 : Memref sig .tc .vmem S512x256 .bf16) (h14 : a14.IsWhole) (a15 : Memref sig .tc .vmem S32x256 .f32) (h15 : a15.IsWhole) (a16 : Memref sig .tc .vmem S8x256 .f32) (h16 : a16.IsWhole)
    (hc : cond0_0 i) (x0 x1 : Vec F S512x256 .bf16) (x2 x3 : Vec F S32x256 .bf16) (x4 : Vec F S512x256 .bf16) (x5 : Vec F S32x256 .bf16)
    (x6 : Vec F S512x256 .f32) (x7 : Vec F S32x256 .f32) (x8 : Vec F S512x256 .f32) (x9 : Vec F S32x256 .f32)
    (x10 : Vec F S32x256 .f32) (x11 : Vec F S8x256 .f32) :
    out0_A_14 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 = convW (k0_pay7 i x6 x7) (k0_pay8 i x0 x1 x2 x3) k0_pay3 := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11)]
  unfold kernelRun0_A
  dsimp only
  sl_unfold_words
  rw [View.canon_cons_unit_zero (S := S32x256) hz, View.readCov_unit_zero (S := S32x256) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread,
    View.ld_unit_zero (S := S512x256) hz, View.ld_unit_zero (S := S32x256) hz, View.ld_unit_zero (S := S8x256) hz]
  rfl

/-- What the first point leaves in output 15: the accumulated gradient of the four taps. -/
theorem out_A_15 (c : Dev nD) (i : grid0.Coords) (a1 : Memref sig .tc .vmem S512x256 .bf16) (h1 : a1.IsWhole) (a2 : Memref sig .tc .vmem S512x256 .bf16) (h2 : a2.IsWhole) (a3 : Memref sig .tc .vmem S32x256 .bf16) (h3 : a3.IsWhole) (a4 : Memref sig .tc .vmem S32x256 .bf16) (h4 : a4.IsWhole) (a5 : Memref sig .tc .vmem S512x256 .bf16) (h5 : a5.IsWhole) (a6 : Memref sig .tc .vmem S32x256 .bf16) (h6 : a6.IsWhole) (a7 : Memref sig .tc .vmem S512x256 .f32) (h7 : a7.IsWhole) (a8 : Memref sig .tc .vmem S32x256 .f32) (h8 : a8.IsWhole) (a9 : Memref sig .tc .vmem S512x256 .f32) (h9 : a9.IsWhole) (a10 : Memref sig .tc .vmem S32x256 .f32) (h10 : a10.IsWhole) (a11 : Memref sig .tc .vmem S32x256 .f32) (h11 : a11.IsWhole) (a12 : Memref sig .tc .vmem S8x256 .f32) (h12 : a12.IsWhole) (a13 : Memref sig .tc .vmem S512x512 .bf16) (h13 : a13.IsWhole) (a14 : Memref sig .tc .vmem S512x256 .bf16) (h14 : a14.IsWhole) (a15 : Memref sig .tc .vmem S32x256 .f32) (h15 : a15.IsWhole) (a16 : Memref sig .tc .vmem S8x256 .f32) (h16 : a16.IsWhole)
    (hc : cond0_0 i) (x0 x1 : Vec F S512x256 .bf16) (x2 x3 : Vec F S32x256 .bf16) (x4 : Vec F S512x256 .bf16) (x5 : Vec F S32x256 .bf16)
    (x6 : Vec F S512x256 .f32) (x7 : Vec F S32x256 .f32) (x8 : Vec F S512x256 .f32) (x9 : Vec F S32x256 .f32)
    (x10 : Vec F S32x256 .f32) (x11 : Vec F S8x256 .f32) :
    out0_A_15 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 = lruW (i 0).val x4 x5 x8 x9 k0_pay4 := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11)]
  unfold kernelRun0_A
  dsimp only
  sl_unfold_words
  rw [View.canon_cons_unit_zero (S := S8x256) hz, View.readCov_unit_zero (S := S8x256) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread,
    View.ld_unit_zero (S := S512x256) hz, View.ld_unit_zero (S := S32x256) hz, View.ld_unit_zero (S := S8x256) hz]
  rfl

/-- What a later point leaves in output 12: the gradient of the gated unit, both halves. -/
theorem out_B_12 (c : Dev nD) (i : grid0.Coords) (a1 : Memref sig .tc .vmem S512x256 .bf16) (h1 : a1.IsWhole) (a2 : Memref sig .tc .vmem S512x256 .bf16) (h2 : a2.IsWhole) (a3 : Memref sig .tc .vmem S32x256 .bf16) (h3 : a3.IsWhole) (a4 : Memref sig .tc .vmem S32x256 .bf16) (h4 : a4.IsWhole) (a5 : Memref sig .tc .vmem S512x256 .bf16) (h5 : a5.IsWhole) (a6 : Memref sig .tc .vmem S32x256 .bf16) (h6 : a6.IsWhole) (a7 : Memref sig .tc .vmem S512x256 .f32) (h7 : a7.IsWhole) (a8 : Memref sig .tc .vmem S32x256 .f32) (h8 : a8.IsWhole) (a9 : Memref sig .tc .vmem S512x256 .f32) (h9 : a9.IsWhole) (a10 : Memref sig .tc .vmem S32x256 .f32) (h10 : a10.IsWhole) (a11 : Memref sig .tc .vmem S32x256 .f32) (h11 : a11.IsWhole) (a12 : Memref sig .tc .vmem S8x256 .f32) (h12 : a12.IsWhole) (a13 : Memref sig .tc .vmem S512x512 .bf16) (h13 : a13.IsWhole) (a14 : Memref sig .tc .vmem S512x256 .bf16) (h14 : a14.IsWhole) (a15 : Memref sig .tc .vmem S32x256 .f32) (h15 : a15.IsWhole) (a16 : Memref sig .tc .vmem S8x256 .f32) (h16 : a16.IsWhole)
    (hc : ¬cond0_0 i) (x0 x1 : Vec F S512x256 .bf16) (x2 x3 : Vec F S32x256 .bf16) (x4 : Vec F S512x256 .bf16) (x5 : Vec F S32x256 .bf16)
    (x6 : Vec F S512x256 .f32) (x7 : Vec F S32x256 .f32) (x8 : Vec F S512x256 .f32) (x9 : Vec F S32x256 .f32)
    (x10 : Vec F S32x256 .f32) (x11 : Vec F S8x256 .f32) (x14 : Vec F S32x256 .f32) (x15 : Vec F S8x256 .f32) :
    out0_B_12 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 x14 x15 = glu x0 x1 (k0_pay7 i x6 x7) (k0_pay9 x10) := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 x14 x15)]
  unfold kernelRun0_B
  dsimp only
  sl_unfold_words
  rw [View.canon_unit_zero (S := S512x512) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread,
    View.ld_unit_zero (S := S512x256) hz, View.ld_unit_zero (S := S32x256) hz, View.ld_unit_zero (S := S8x256) hz]
  rfl

/-- What a later point leaves in output 13: the gradient through the four taps. -/
theorem out_B_13 (c : Dev nD) (i : grid0.Coords) (a1 : Memref sig .tc .vmem S512x256 .bf16) (h1 : a1.IsWhole) (a2 : Memref sig .tc .vmem S512x256 .bf16) (h2 : a2.IsWhole) (a3 : Memref sig .tc .vmem S32x256 .bf16) (h3 : a3.IsWhole) (a4 : Memref sig .tc .vmem S32x256 .bf16) (h4 : a4.IsWhole) (a5 : Memref sig .tc .vmem S512x256 .bf16) (h5 : a5.IsWhole) (a6 : Memref sig .tc .vmem S32x256 .bf16) (h6 : a6.IsWhole) (a7 : Memref sig .tc .vmem S512x256 .f32) (h7 : a7.IsWhole) (a8 : Memref sig .tc .vmem S32x256 .f32) (h8 : a8.IsWhole) (a9 : Memref sig .tc .vmem S512x256 .f32) (h9 : a9.IsWhole) (a10 : Memref sig .tc .vmem S32x256 .f32) (h10 : a10.IsWhole) (a11 : Memref sig .tc .vmem S32x256 .f32) (h11 : a11.IsWhole) (a12 : Memref sig .tc .vmem S8x256 .f32) (h12 : a12.IsWhole) (a13 : Memref sig .tc .vmem S512x512 .bf16) (h13 : a13.IsWhole) (a14 : Memref sig .tc .vmem S512x256 .bf16) (h14 : a14.IsWhole) (a15 : Memref sig .tc .vmem S32x256 .f32) (h15 : a15.IsWhole) (a16 : Memref sig .tc .vmem S8x256 .f32) (h16 : a16.IsWhole)
    (hc : ¬cond0_0 i) (x0 x1 : Vec F S512x256 .bf16) (x2 x3 : Vec F S32x256 .bf16) (x4 : Vec F S512x256 .bf16) (x5 : Vec F S32x256 .bf16)
    (x6 : Vec F S512x256 .f32) (x7 : Vec F S32x256 .f32) (x8 : Vec F S512x256 .f32) (x9 : Vec F S32x256 .f32)
    (x10 : Vec F S32x256 .f32) (x11 : Vec F S8x256 .f32) (x14 : Vec F S32x256 .f32) (x15 : Vec F S8x256 .f32) :
    out0_B_13 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 x14 x15 = lruIn (i 0).val x8 x9 x11 := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 x14 x15)]
  unfold kernelRun0_B
  dsimp only
  sl_unfold_words
  rw [View.canon_unit_zero (S := S512x256) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread,
    View.ld_unit_zero (S := S512x256) hz, View.ld_unit_zero (S := S32x256) hz, View.ld_unit_zero (S := S8x256) hz]
  rfl

/-- What a later point leaves in output 14: the accumulated gradient of the thirty-one taps. -/
theorem out_B_14 (c : Dev nD) (i : grid0.Coords) (a1 : Memref sig .tc .vmem S512x256 .bf16) (h1 : a1.IsWhole) (a2 : Memref sig .tc .vmem S512x256 .bf16) (h2 : a2.IsWhole) (a3 : Memref sig .tc .vmem S32x256 .bf16) (h3 : a3.IsWhole) (a4 : Memref sig .tc .vmem S32x256 .bf16) (h4 : a4.IsWhole) (a5 : Memref sig .tc .vmem S512x256 .bf16) (h5 : a5.IsWhole) (a6 : Memref sig .tc .vmem S32x256 .bf16) (h6 : a6.IsWhole) (a7 : Memref sig .tc .vmem S512x256 .f32) (h7 : a7.IsWhole) (a8 : Memref sig .tc .vmem S32x256 .f32) (h8 : a8.IsWhole) (a9 : Memref sig .tc .vmem S512x256 .f32) (h9 : a9.IsWhole) (a10 : Memref sig .tc .vmem S32x256 .f32) (h10 : a10.IsWhole) (a11 : Memref sig .tc .vmem S32x256 .f32) (h11 : a11.IsWhole) (a12 : Memref sig .tc .vmem S8x256 .f32) (h12 : a12.IsWhole) (a13 : Memref sig .tc .vmem S512x512 .bf16) (h13 : a13.IsWhole) (a14 : Memref sig .tc .vmem S512x256 .bf16) (h14 : a14.IsWhole) (a15 : Memref sig .tc .vmem S32x256 .f32) (h15 : a15.IsWhole) (a16 : Memref sig .tc .vmem S8x256 .f32) (h16 : a16.IsWhole)
    (hc : ¬cond0_0 i) (x0 x1 : Vec F S512x256 .bf16) (x2 x3 : Vec F S32x256 .bf16) (x4 : Vec F S512x256 .bf16) (x5 : Vec F S32x256 .bf16)
    (x6 : Vec F S512x256 .f32) (x7 : Vec F S32x256 .f32) (x8 : Vec F S512x256 .f32) (x9 : Vec F S32x256 .f32)
    (x10 : Vec F S32x256 .f32) (x11 : Vec F S8x256 .f32) (x14 : Vec F S32x256 .f32) (x15 : Vec F S8x256 .f32) :
    out0_B_14 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 x14 x15 = convW (k0_pay7 i x6 x7) (k0_pay8 i x0 x1 x2 x3) x14 := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 x14 x15)]
  unfold kernelRun0_B
  dsimp only
  sl_unfold_words
  rw [View.canon_unit_zero (S := S32x256) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread,
    View.ld_unit_zero (S := S512x256) hz, View.ld_unit_zero (S := S32x256) hz, View.ld_unit_zero (S := S8x256) hz]
  rfl

/-- What a later point leaves in output 15: the accumulated gradient of the four taps. -/
theorem out_B_15 (c : Dev nD) (i : grid0.Coords) (a1 : Memref sig .tc .vmem S512x256 .bf16) (h1 : a1.IsWhole) (a2 : Memref sig .tc .vmem S512x256 .bf16) (h2 : a2.IsWhole) (a3 : Memref sig .tc .vmem S32x256 .bf16) (h3 : a3.IsWhole) (a4 : Memref sig .tc .vmem S32x256 .bf16) (h4 : a4.IsWhole) (a5 : Memref sig .tc .vmem S512x256 .bf16) (h5 : a5.IsWhole) (a6 : Memref sig .tc .vmem S32x256 .bf16) (h6 : a6.IsWhole) (a7 : Memref sig .tc .vmem S512x256 .f32) (h7 : a7.IsWhole) (a8 : Memref sig .tc .vmem S32x256 .f32) (h8 : a8.IsWhole) (a9 : Memref sig .tc .vmem S512x256 .f32) (h9 : a9.IsWhole) (a10 : Memref sig .tc .vmem S32x256 .f32) (h10 : a10.IsWhole) (a11 : Memref sig .tc .vmem S32x256 .f32) (h11 : a11.IsWhole) (a12 : Memref sig .tc .vmem S8x256 .f32) (h12 : a12.IsWhole) (a13 : Memref sig .tc .vmem S512x512 .bf16) (h13 : a13.IsWhole) (a14 : Memref sig .tc .vmem S512x256 .bf16) (h14 : a14.IsWhole) (a15 : Memref sig .tc .vmem S32x256 .f32) (h15 : a15.IsWhole) (a16 : Memref sig .tc .vmem S8x256 .f32) (h16 : a16.IsWhole)
    (hc : ¬cond0_0 i) (x0 x1 : Vec F S512x256 .bf16) (x2 x3 : Vec F S32x256 .bf16) (x4 : Vec F S512x256 .bf16) (x5 : Vec F S32x256 .bf16)
    (x6 : Vec F S512x256 .f32) (x7 : Vec F S32x256 .f32) (x8 : Vec F S512x256 .f32) (x9 : Vec F S32x256 .f32)
    (x10 : Vec F S32x256 .f32) (x11 : Vec F S8x256 .f32) (x14 : Vec F S32x256 .f32) (x15 : Vec F S8x256 .f32) :
    out0_B_15 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 x14 x15 = lruW (i 0).val x4 x5 x8 x9 x15 := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 x14 x15)]
  unfold kernelRun0_B
  dsimp only
  sl_unfold_words
  rw [View.canon_unit_zero (S := S8x256) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread,
    View.ld_unit_zero (S := S512x256) hz, View.ld_unit_zero (S := S32x256) hz, View.ld_unit_zero (S := S8x256) hz]
  rfl

end Cert.ConvGrad

end
-- ==== Proof.ConvRead.lean ====
/-
  One grid point's arithmetic of the gated convolution's gradient, read at an index.
-/
module

public import proofs.«01_k».proof.Proof.ConvOpen
public import Idealize.ShloMosaic.Lib.Pointwise
public import Idealize.ShloMosaic.Lib.KernelVsHost
public import Idealize.ShloMosaic.Lib.IdealHost

@[expose] public section

set_option maxRecDepth 16384

noncomputable section

open Idealize.ShloMosaic Idealize.ShloMosaic.TcCoe Idealize.SL.Sem

namespace Cert.ConvGrad

open Cert.ConvIdeal Cert.ConvIdeal.Gen

/-- Row `n`, lane `l` of a padded array, the row number taken round the array's 544 rows. -/
def rd (x : FVec Ideal S544x256 .f32) (n : ℕ) (l : Fin 256) : EReal := x (ix2 ⟨n % 544, Nat.mod_lt _ (by decide)⟩ l)

/-- Row `k`, lane `l` of the thirty-two rows of weights. -/
def wr (w : FVec Ideal S32x256 .f32) (k : ℕ) (l : Fin 256) : EReal := w (ix2 ⟨k % 32, Nat.mod_lt _ (by decide)⟩ l)

/-- A row read modulo 544 is the row itself. -/
theorem rd_eq (x : FVec Ideal S544x256 .f32) (a b : ℕ) (h : a < 544) (l : Fin 256) (e : a = b % 544) :
    x (ix2 ⟨a, h⟩ l) = rd x b l := by
  subst e; rfl

/-- Equal summands and factors make equal sums of products. -/
theorem add_mul_congr {a b c d e f : EReal} (h : a = b) (h' : c = d) (h'' : e = f) : a + c * e = b + d * f := by
  rw [h, h', h'']

/-- The first twenty-eight taps at an index. -/
theorem taps_apply (dp : FVec Ideal S544x256 .f32) (w : FVec Ideal S32x256 .f32) (r : Fin 512) (l : Fin 256) :
    taps dp w (ix2 r l) = ∑ k ∈ Finset.range 28, rd dp (r.val + 30 - k) l * wr w k l := by
  have hr := r.isLt
  simp only [Finset.sum_range_succ, Finset.sum_range_zero, zero_add]
  pointwise [taps, k0_pay64, k0_pay55, k0_pay46, k0_pay37, k0_pay28, k0_pay30, k0_pay31, k0_pay39, k0_pay40, k0_pay48, k0_pay49, k0_pay57, k0_pay58, k0_pay15, k0_pay16]
  repeat refine add_mul_congr ?_ (rd_eq _ _ _ _ _ (by omega)) rfl
  refine congrArg₂ HMul.hMul (rd_eq _ _ _ _ _ ?_) rfl
  omega

/-- The tap weights' gradient of one block at an index: row `k` is the products `2 + k` rows apart, the last row nothing. -/
theorem convW_apply (dp up : FVec Ideal S544x256 .f32) (xo : FVec Ideal S32x256 .f32) (k : Fin 32) (l : Fin 256) :
    convW dp up xo (ix2 k l)
      = xo (ix2 k l) + if k.val < 31 then ∑ r : Fin 512, rd dp r.val l * rd up (r.val + 2 + k.val) l else 0 := by
  pointwise [convW, k0_pay68, k0_pay24, k0_pay17, k0_pay18, k0_pay19, k0_pay20, k0_pay21, k0_pay22, k0_pay23, k0_pay25, k0_pay26, k0_pay27, k0_pay29, k0_pay32, k0_pay33, k0_pay34, k0_pay35, k0_pay36, k0_pay38, k0_pay41, k0_pay42, k0_pay43, k0_pay44, k0_pay45, k0_pay47, k0_pay50, k0_pay51, k0_pay52, k0_pay53, k0_pay54, k0_pay56, k0_pay59, k0_pay60, k0_pay61, k0_pay62, k0_pay63, k0_pay65]
  fin_vals k with hk
  all_goals simp only [hk, Nat.reduceSub, Nat.reduceLT, ↓reduceDIte, ↓reduceIte]
  all_goals
    refine congrArg₂ HAdd.hAdd rfl (Finset.sum_congr rfl fun x _ => ?_)
    have hx := x.isLt
    exact congrArg₂ HMul.hMul (rd_eq _ _ _ _ _ (by omega)) (rd_eq _ _ _ _ _ (by omega))

/-- All thirty-one taps at an index. -/
def tapSum (dp : FVec Ideal S544x256 .f32) (w : FVec Ideal S32x256 .f32) (r : ℕ) (l : Fin 256) : EReal :=
  ∑ k ∈ Finset.range 31, rd dp (r + 30 - k) l * wr w k l

/-- The last three taps close the sum. -/
theorem tapSum_eq (dp : FVec Ideal S544x256 .f32) (w : FVec Ideal S32x256 .f32) (r : Fin 512) (l : Fin 256)
    (a b c : ℕ) (ha : a < 544) (hb : b < 544) (hc : c < 544) (ea : a = r.val + 2) (eb : b = r.val + 1) (ec : c = r.val) :
    taps dp w (ix2 r l) + dp (ix2 ⟨a, ha⟩ l) * w (ix2 28 l) + dp (ix2 ⟨b, hb⟩ l) * w (ix2 29 l)
      + dp (ix2 ⟨c, hc⟩ l) * w (ix2 30 l) = tapSum dp w r.val l := by
  have hr := r.isLt
  rw [taps_apply, tapSum, Finset.sum_range_succ _ 30, Finset.sum_range_succ _ 29, Finset.sum_range_succ _ 28]
  refine add_mul_congr (add_mul_congr (add_mul_congr rfl (rd_eq _ _ _ _ _ ?_) rfl) (rd_eq _ _ _ _ _ ?_) rfl) (rd_eq _ _ _ _ _ ?_) rfl
  all_goals omega

/-- The gated unit's gradient at an index. -/
theorem glu_apply (x0 x1 : FVec Ideal S512x256 .bf16) (dp : FVec Ideal S544x256 .f32) (w : FVec Ideal S32x256 .f32) (r l : Fin 512) :
    glu (F := Ideal) x0 x1 dp w (ix2 r l) =
      if h : l.val < 256 then tapSum dp w r.val ⟨l.val, h⟩ * Ideal.logistic (x1 (ix2 r ⟨l.val, h⟩))
      else tapSum dp w r.val ⟨l.val - 256, by omega⟩ * x0 (ix2 r ⟨l.val - 256, by omega⟩)
        * Ideal.logistic (x1 (ix2 r ⟨l.val - 256, by omega⟩)) * (1 - Ideal.logistic (x1 (ix2 r ⟨l.val - 256, by omega⟩))) := by
  have hr := r.isLt
  pointwise [glu, k0_pay69, k0_pay5, k0_pay6, k0_pay66, k0_pay67]
  split
  · rw [tapSum_eq]
    all_goals omega
  · rw [tapSum_eq]
    all_goals omega

/-- The gradient through the four taps at an index. -/
theorem lruIn_apply (n : ℕ) (x8 : FVec Ideal S512x256 .f32) (x9 : FVec Ideal S32x256 .f32) (x11 : FVec Ideal S8x256 .f32)
    (r : Fin 512) (l : Fin 256) :
    lruIn (F := Ideal) n x8 x9 x11 (ix2 r l)
      = ∑ k ∈ Finset.range 4, rd (k0_pay72 (isLast n) x8 x9) (r.val + 3 - k) l * x11 (ix2 ⟨k % 8, Nat.mod_lt _ (by decide)⟩ l) := by
  have hr := r.isLt
  simp only [Finset.sum_range_succ, Finset.sum_range_zero, zero_add]
  pointwise [lruIn, k0_pay2, k0_pay74, k0_pay78]
  repeat refine add_mul_congr ?_ (rd_eq _ _ _ _ _ (by omega)) rfl
  refine congrArg₂ HMul.hMul (rd_eq _ _ _ _ _ ?_) rfl
  omega

/-- The four taps' weight gradient of one block at an index; the last four rows get nothing. -/
theorem lruW_apply (n : ℕ) (x4 : FVec Ideal S512x256 .bf16) (x5 : FVec Ideal S32x256 .bf16) (x8 : FVec Ideal S512x256 .f32)
    (x9 : FVec Ideal S32x256 .f32) (xo : FVec Ideal S8x256 .f32) (k : Fin 8) (l : Fin 256) :
    lruW (F := Ideal) n x4 x5 x8 x9 xo (ix2 k l)
      = xo (ix2 k l) + if k.val < 4 then ∑ r : Fin 512, rd (k0_pay72 (isLast n) x8 x9) r.val l
          * rd (k0_pay73 (isFirst n) (k0_pay70 x4) (k0_pay71 x5)) (r.val + 29 + k.val) l else 0 := by
  pointwise [lruW, k0_pay1, k0_pay75, k0_pay76, k0_pay77, k0_pay79]
  fin_vals k with hk
  all_goals simp only [hk, Nat.reduceSub, Nat.reduceLT, ↓reduceDIte, ↓reduceIte]
  all_goals
    refine congrArg₂ HAdd.hAdd rfl (Finset.sum_congr rfl fun x _ => ?_)
    have hx := x.isLt
    exact congrArg₂ HMul.hMul (rd_eq _ _ _ _ _ (by omega)) (rd_eq _ _ _ _ _ (by omega))

/-- The padded gradient: the block's rows, then the next block's first rows, zeros after the last block. -/
theorem dpad_apply (i : grid0.Coords) (x6 : FVec Ideal S512x256 .f32) (x7 : FVec Ideal S32x256 .f32) (r : Fin 544) (l : Fin 256) :
    k0_pay7 (F := Ideal) i x6 x7 (ix2 r l) = if h : r.val < 512 then x6 (ix2 ⟨r.val, h⟩ l)
      else Scalar.select (isLast (i 0).val) 0 (x7 (ix2 ⟨r.val - 512, by omega⟩ l)) := by
  pointwise [k0_pay7]

/-- The padded gated unit: the block before's last rows, zeros before the first block, then the block's rows. -/
theorem upad_apply (i : grid0.Coords) (x0 x1 : FVec Ideal S512x256 .bf16) (x2 x3 : FVec Ideal S32x256 .bf16) (r : Fin 544) (l : Fin 256) :
    k0_pay8 (F := Ideal) i x0 x1 x2 x3 (ix2 r l) = if h : r.val < 32 then
        Scalar.select (isFirst (i 0).val) 0 (x2 (ix2 ⟨r.val, h⟩ l) * Ideal.logistic (x3 (ix2 ⟨r.val, h⟩ l)))
      else x0 (ix2 ⟨r.val - 32, by omega⟩ l) * Ideal.logistic (x1 (ix2 ⟨r.val - 32, by omega⟩ l)) := by
  pointwise [k0_pay8, k0_pay5, k0_pay6]

/-- The padded gradient of the four taps. -/
theorem dxpad_apply (n : BitVec 1) (x6 : FVec Ideal S512x256 .f32) (x7 : FVec Ideal S32x256 .f32) (r : Fin 544) (l : Fin 256) :
    k0_pay72 (F := Ideal) n x6 x7 (ix2 r l) = if h : r.val < 512 then x6 (ix2 ⟨r.val, h⟩ l)
      else Scalar.select n 0 (x7 (ix2 ⟨r.val - 512, by omega⟩ l)) := by
  pointwise [k0_pay72]

/-- The padded input of the four taps. -/
theorem uxpad_apply (n : BitVec 1) (x4 : FVec Ideal S512x256 .bf16) (x5 : FVec Ideal S32x256 .bf16) (r : Fin 544) (l : Fin 256) :
    k0_pay73 (F := Ideal) n (k0_pay70 x4) (k0_pay71 x5) (ix2 r l) = if h : r.val < 32 then
        Scalar.select n 0 (x5 (ix2 ⟨r.val, h⟩ l)) else x4 (ix2 ⟨r.val - 32, by omega⟩ l) := by
  pointwise [k0_pay73, k0_pay70, k0_pay71]

end Cert.ConvGrad

end
-- ==== Proof.ConvSpec.lean ====
/-
  The gradients of the gated thirty-one-tap convolution and of the four-tap convolution as formulas over the rows of the
  whole sequence. An array of 8192 rows is continued by zero rows on both sides.
-/
module

public import Idealize.ShloMosaic.Lib.Pointwise

@[expose] public section

noncomputable section

open Idealize.ShloMosaic

namespace Cert.ConvGrad

/-- Row `n` of `f`, and zero past the last row. -/
def ext (f : Fin 8192 → Fin 256 → EReal) (n : ℕ) (l : Fin 256) : EReal := if h : n < 8192 then f ⟨n, h⟩ l else 0

/-- `f` moved down by 32 rows, zeros above it. -/
def lag (f : Fin 8192 → Fin 256 → EReal) (n : ℕ) (l : Fin 256) : EReal := if n < 32 then 0 else ext f (n - 32) l

/-- The value half of the gated unit. -/
def cval (Z : Fin 8192 → Fin 1792 → EReal) (s : Fin 8192) (l : Fin 256) : EReal := Z s ⟨768 + l.val, by omega⟩
/-- The sigmoid of its gate half. -/
def csig (Z : Fin 8192 → Fin 1792 → EReal) (s : Fin 8192) (l : Fin 256) : EReal := Ideal.logistic (Z s ⟨1024 + l.val, by omega⟩)
/-- The gated unit: the input of the thirty-one taps. -/
def cunit (Z : Fin 8192 → Fin 1792 → EReal) (s : Fin 8192) (l : Fin 256) : EReal := cval Z s l * csig Z s l
/-- The input of the four taps. -/
def rxin (Z : Fin 8192 → Fin 1792 → EReal) (s : Fin 8192) (l : Fin 256) : EReal := Z s ⟨1280 + l.val, by omega⟩

/-- Row `k` of `K` rows of tap weights. -/
def tap {K : ℕ} (W : Fin K → Fin 256 → EReal) (k : ℕ) (l : Fin 256) : EReal := if h : k < K then W ⟨k, h⟩ l else 0

/-- The gradient of a causal convolution of `K` taps in its input: row `s` gathers the rows up to `K - 1` later. -/
def dIn {K : ℕ} (D : Fin 8192 → Fin 256 → EReal) (W : Fin K → Fin 256 → EReal) (s : ℕ) (l : Fin 256) : EReal :=
  ∑ k ∈ Finset.range K, ext D (s + (K - 1) - k) l * tap W k l

/-- The gradient of a causal convolution in tap `k` of `K`: the products of the gradient and the input `K - 1 - k` rows before. -/
def dTap (K : ℕ) (D U : Fin 8192 → Fin 256 → EReal) (k : ℕ) (l : Fin 256) : EReal :=
  if k < K then ∑ s : Fin 8192, D s l * lag U (s.val + (33 - K) + k) l else 0

/-- The gradient of the gated unit: the value half beside the gate half. -/
def dGlu (Z : Fin 8192 → Fin 1792 → EReal) (D : Fin 8192 → Fin 256 → EReal) (W : Fin 31 → Fin 256 → EReal) (s : Fin 8192) (l : Fin 512) : EReal :=
  if h : l.val < 256 then dIn D W s.val ⟨l.val, h⟩ * csig Z s ⟨l.val, h⟩
  else dIn D W s.val ⟨l.val - 256, by omega⟩ * cval Z s ⟨l.val - 256, by omega⟩ * csig Z s ⟨l.val - 256, by omega⟩
    * (1 - csig Z s ⟨l.val - 256, by omega⟩)

end Cert.ConvGrad

end
-- ==== Proof.Rows.lean ====
/-
  Rows of zeros put above and below a matrix, read at an index.
-/
module

public import Idealize.ShloMosaic.Lib.Pointwise
public import Idealize.ShloMosaic.Lib.KernelVsHost

@[expose] public section

noncomputable section

open Idealize.ShloMosaic

namespace Cert.Rows

/-- A matrix with `lo` rows above it and `hi` rows below it, at row `r`: the matrix inside, the padding value outside. -/
theorem pad_rows {α : Type} {n N w : ℕ} (lo hi : ℕ) (x : (⟨2, ![n, w]⟩ : Shape).Idx → α) {u : Shape} (v : u.Idx → α)
    (hp : (⟨2, ![n, w]⟩ : Shape).Pads ![lo, 0] ![hi, 0] ![0, 0] ⟨2, ![N, w]⟩) (hu : 0 < u.numel) (r : Fin N) (l : Fin w) :
    pad ⟨2, ![N, w]⟩ ![lo, 0] ![hi, 0] ![0, 0] x v hp hu (ix2 r l)
      = if h : lo ≤ r.val ∧ r.val - lo < n then x (ix2 ⟨r.val - lo, h.2⟩ l) else v (Shape.Idx.first hu) := by
  split
  · next h =>
    refine pad_apply_of_inside _ _ _ x v hp hu _ _ fun a => ?_
    match a with
    | ⟨0, _⟩ => show r.val = lo + (r.val - lo) * (0 + 1); omega
    | ⟨1, _⟩ => show l.val = 0 + l.val * (0 + 1); omega
  · next h =>
    refine pad_apply_of_not_inside _ _ _ x v hp hu _ ⟨0, Nat.zero_lt_two⟩ fun h' => h ⟨h'.1, ?_⟩
    have : (r.val - lo) / 1 < n := h'.2.2
    rwa [Nat.div_one] at this

end Cert.Rows

end
-- ==== Proof.ConvBlocks.lean ====
/-
  The four results of the gated convolution's gradient after the run, as the formulas over the whole sequence.
-/
module

public import proofs.«01_k».proof.Proof.ConvRead
public import proofs.«01_k».proof.Proof.ConvSpec
public import proofs.«01_k».proof.Proof.Rows
public import proofs.«01_k».proof.Proof.Gen.ConvIdeal.Value
public import Idealize.ShloMosaic.Lib.Pipeline.ValueKit

@[expose] public section

set_option maxRecDepth 16384

noncomputable section

open Idealize.ShloMosaic Idealize.ShloMosaic.TcCoe Idealize.SL.Sem

namespace Cert.ConvGrad

open Cert.ConvIdeal Cert.ConvIdeal.Gen

variable (m : (l : Loc nD τ sig) → Buf (Elt Ideal) l)

/-- Where each window's block lies at point `t`. -/
theorem idx : ∀ t : Fin grid0.N, win0_0.index t = ![t.val, 3] ∧ win0_1.index t = ![t.val, 4]
    ∧ win0_2.index t = ![16 * t.val - 1, 3] ∧ win0_3.index t = ![16 * t.val - 1, 4]
    ∧ win0_4.index t = ![t.val, 5] ∧ win0_5.index t = ![16 * t.val - 1, 5]
    ∧ win0_6.index t = ![t.val, 0] ∧ win0_7.index t = ![min (16 * t.val + 16) 255, 0]
    ∧ win0_8.index t = ![t.val, 0] ∧ win0_9.index t = ![min (16 * t.val + 16) 255, 0]
    ∧ win0_10.index t = ![0, 0] ∧ win0_11.index t = ![0, 0]
    ∧ win0_12.index t = ![t.val, 0] ∧ win0_13.index t = ![t.val, 0]
    ∧ win0_14.index t = ![0, 0] ∧ win0_15.index t = ![0, 0] ∧ (grid0.coords t 0).val = t.val := by decide +kernel

/-- The first-point bit. -/
theorem isFirst_eq : ∀ t : Fin grid0.N, isFirst t.val = if t.val = 0 then 1#1 else 0#1 := by decide +kernel
/-- The last-point bit. -/
theorem isLast_eq : ∀ t : Fin grid0.N, isLast t.val = if t.val = 15 then 1#1 else 0#1 := by decide +kernel

/-- The stored activations, at an index. -/
def zOf (c : Dev nD) (s : Fin 8192) (l : Fin 1792) : EReal := (m ((c : Thread nD τ).loc main_arg0) : FVec Ideal S8192x1792 .bf16) (ix2 s l)
/-- The gradient behind the thirty-one taps. -/
def dcOf (c : Dev nD) (s : Fin 8192) (l : Fin 256) : EReal := (m ((c : Thread nD τ).loc main_arg1) : FVec Ideal S8192x256 .f32) (ix2 s l)
/-- The gradient behind the four taps. -/
def dxOf (c : Dev nD) (s : Fin 8192) (l : Fin 256) : EReal := (m ((c : Thread nD τ).loc main_arg2) : FVec Ideal S8192x256 .f32) (ix2 s l)
/-- The thirty-one taps. -/
def cwOf (c : Dev nD) (k : Fin 31) (l : Fin 256) : EReal := (m ((c : Thread nD τ).loc main_arg3) : FVec Ideal S31x256 .f32) (ix2 k l)
/-- The four taps. -/
def lwOf (c : Dev nD) (k : Fin 4) (l : Fin 256) : EReal := (m ((c : Thread nD τ).loc main_arg4) : FVec Ideal S4x256 .f32) (ix2 k l)

/-! The input blocks, read in the whole arrays. -/

/-- Block `t` of the first gradient: 512 rows. -/
theorem blk6 (c : Dev nD) (t : Fin cfg0.N) (r : Fin 512) (l : Fin 256) (s : Fin 8192) (hs : s.val = 512 * t.val + r.val) :
    (iblk m c 6 t : FVec Ideal S512x256 .f32) (ix2 r l) = dcOf m c s l := by
  have := t.isLt
  unfold dcOf
  blk_ext [iblk, V, idx t]

/-- Block `t` of the second gradient. -/
theorem blk8 (c : Dev nD) (t : Fin cfg0.N) (r : Fin 512) (l : Fin 256) (s : Fin 8192) (hs : s.val = 512 * t.val + r.val) :
    (iblk m c 8 t : FVec Ideal S512x256 .f32) (ix2 r l) = dxOf m c s l := by
  have := t.isLt
  unfold dxOf
  blk_ext [iblk, V, idx t]

/-- The 32 rows of the first gradient after block `t`. -/
theorem blk7 (c : Dev nD) (t : Fin cfg0.N) (r : Fin 32) (l : Fin 256) (s : Fin 8192) (hs : s.val = 512 * t.val + 512 + r.val) :
    (iblk m c 7 t : FVec Ideal S32x256 .f32) (ix2 r l) = dcOf m c s l := by
  have := t.isLt
  unfold dcOf
  blk_ext [iblk, V, idx t]

/-- The 32 rows of the second gradient after block `t`. -/
theorem blk9 (c : Dev nD) (t : Fin cfg0.N) (r : Fin 32) (l : Fin 256) (s : Fin 8192) (hs : s.val = 512 * t.val + 512 + r.val) :
    (iblk m c 9 t : FVec Ideal S32x256 .f32) (ix2 r l) = dxOf m c s l := by
  have := t.isLt
  unfold dxOf
  blk_ext [iblk, V, idx t]

/-- Block `t` of the value half. -/
theorem blk0 (c : Dev nD) (t : Fin cfg0.N) (r : Fin 512) (l : Fin 256) (s : Fin 8192) (hs : s.val = 512 * t.val + r.val) :
    (iblk m c 0 t : FVec Ideal S512x256 .bf16) (ix2 r l) = zOf m c s ⟨768 + l.val, by omega⟩ := by
  have := t.isLt
  unfold zOf
  blk_ext [iblk, V, idx t]

/-- Block `t` of the gate half. -/
theorem blk1 (c : Dev nD) (t : Fin cfg0.N) (r : Fin 512) (l : Fin 256) (s : Fin 8192) (hs : s.val = 512 * t.val + r.val) :
    (iblk m c 1 t : FVec Ideal S512x256 .bf16) (ix2 r l) = zOf m c s ⟨1024 + l.val, by omega⟩ := by
  have := t.isLt
  unfold zOf
  blk_ext [iblk, V, idx t]

/-- Block `t` of the four taps' input. -/
theorem blk4 (c : Dev nD) (t : Fin cfg0.N) (r : Fin 512) (l : Fin 256) (s : Fin 8192) (hs : s.val = 512 * t.val + r.val) :
    (iblk m c 4 t : FVec Ideal S512x256 .bf16) (ix2 r l) = zOf m c s ⟨1280 + l.val, by omega⟩ := by
  have := t.isLt
  unfold zOf
  blk_ext [iblk, V, idx t]

/-- The 32 rows of the value half before block `t`. -/
theorem blk2 (c : Dev nD) (t : Fin cfg0.N) (r : Fin 32) (l : Fin 256) (s : Fin 8192) (hs : s.val + 32 = 512 * t.val + r.val) :
    (iblk m c 2 t : FVec Ideal S32x256 .bf16) (ix2 r l) = zOf m c s ⟨768 + l.val, by omega⟩ := by
  have := t.isLt
  unfold zOf
  blk_ext [iblk, V, idx t]

/-- The 32 rows of the gate half before block `t`. -/
theorem blk3 (c : Dev nD) (t : Fin cfg0.N) (r : Fin 32) (l : Fin 256) (s : Fin 8192) (hs : s.val + 32 = 512 * t.val + r.val) :
    (iblk m c 3 t : FVec Ideal S32x256 .bf16) (ix2 r l) = zOf m c s ⟨1024 + l.val, by omega⟩ := by
  have := t.isLt
  unfold zOf
  blk_ext [iblk, V, idx t]

/-- The 32 rows of the four taps' input before block `t`. -/
theorem blk5 (c : Dev nD) (t : Fin cfg0.N) (r : Fin 32) (l : Fin 256) (s : Fin 8192) (hs : s.val + 32 = 512 * t.val + r.val) :
    (iblk m c 5 t : FVec Ideal S32x256 .bf16) (ix2 r l) = zOf m c s ⟨1280 + l.val, by omega⟩ := by
  have := t.isLt
  unfold zOf
  blk_ext [iblk, V, idx t]

/-- The thirty-one taps as the region reads them: one zero row below. -/
theorem entry10 (c : Dev nD) (k : Fin 32) (l : Fin 256) :
    (V m c main_v0 : FVec Ideal S32x256 .f32) (ix2 k l) = tap (cwOf m c) k.val l := by
  unfold tap cwOf V
  simp only [hostOps0, hostOps0_1, hostOps0_2, hostOps0_3, List.flatten_cons, List.flatten_nil, List.cons_append,
    List.nil_append, StableHlo.TRef.unary, StableHlo.TRef.binary]
  entry_read
  show (pad S32x256 ![0, 0] ![1, 0] ![0, 0] (m ((c : Thread nD τ).loc main_arg3) : FVec Ideal S31x256 .f32)
    (sitofp (F := Ideal) .f32 (constantI S_ 32 0#32)) pads_S31x256_S32x256_010_000 h_S_ : FVec Ideal S32x256 .f32) (ix2 k l) = _
  refine (Rows.pad_rows 0 _ _ _ _ _ k l).trans ?_
  by_cases h : k.val < 31
  · rw [dif_pos ⟨Nat.zero_le _, h⟩, dif_pos h]; rfl
  · rw [dif_neg fun h' => h h'.2, dif_neg h]; exact sitofp_zero

/-- The four taps as the region reads them: four zero rows below. -/
theorem entry11 (c : Dev nD) (k : Fin 8) (l : Fin 256) :
    (V m c main_v1 : FVec Ideal S8x256 .f32) (ix2 k l) = tap (lwOf m c) k.val l := by
  unfold tap lwOf V
  simp only [hostOps0, hostOps0_1, hostOps0_2, hostOps0_3, List.flatten_cons, List.flatten_nil, List.cons_append,
    List.nil_append, StableHlo.TRef.unary, StableHlo.TRef.binary]
  entry_read
  show (pad S8x256 ![0, 0] ![4, 0] ![0, 0] (m ((c : Thread nD τ).loc main_arg4) : FVec Ideal S4x256 .f32)
    (sitofp (F := Ideal) .f32 (constantI S_ 32 0#32)) pads_S4x256_S8x256_040_000 h_S_ : FVec Ideal S8x256 .f32) (ix2 k l) = _
  refine (Rows.pad_rows 0 _ _ _ _ _ k l).trans ?_
  by_cases h : k.val < 4
  · rw [dif_pos ⟨Nat.zero_le _, h⟩, dif_pos h]; rfl
  · rw [dif_neg fun h' => h h'.2, dif_neg h]; exact sitofp_zero

/-- The thirty-one taps' weights, with a zero row below. -/
theorem blk10 (c : Dev nD) (t : Fin cfg0.N) (k : ℕ) (hk : k < 32) (l : Fin 256) :
    wr (k0_pay9 (iblk m c 10 t : FVec Ideal S32x256 .f32)) k l = tap (cwOf m c) k l := by
  have e := entry10 m c ⟨k % 32, Nat.mod_lt _ (by decide)⟩ l
  simp only [Nat.mod_eq_of_lt hk] at e
  rw [← e]
  unfold wr
  simp only [Nat.mod_eq_of_lt hk]
  pointwise [k0_pay9]
  blk_ext [iblk, idx t]

/-- The four taps' weights, with zero rows below. -/
theorem blk11 (c : Dev nD) (t : Fin cfg0.N) (k : Fin 8) (l : Fin 256) :
    (iblk m c 11 t : FVec Ideal S8x256 .f32) (ix2 k l) = tap (lwOf m c) k.val l := by
  rw [← entry11 m c k l]
  blk_ext [iblk, idx t]

/-- The coordinate of a grid point is its number. -/
theorem coord : ∀ t : Fin grid0.N, (grid0.coords t 0).val = t.val := by decide +kernel

/-- A row of the padded gradient is the row of the whole gradient. -/
theorem dpad (c : Dev nD) (t : Fin cfg0.N) (n : ℕ) (hn : n < 544) (l : Fin 256) :
    rd (k0_pay7 (grid0.coords t) (iblk m c 6 t) (iblk m c 7 t)) n l = ext (dcOf m c) (512 * t.val + n) l := by
  have ht : t.val < 16 := t.isLt
  unfold rd ext
  rw [dpad_apply, coord, isLast_eq]
  simp only [Nat.mod_eq_of_lt hn]
  split
  · rw [dif_pos (by omega)]
    exact blk6 m c t _ l _ rfl
  · split
    · rw [dif_neg (by omega)]; rfl
    · rw [dif_pos (by omega)]
      exact blk7 m c t _ l _ (by simp only; omega)

/-- A row of the padded gradient is the row of the whole gradient. -/
theorem dxpad (c : Dev nD) (t : Fin cfg0.N) (n : ℕ) (hn : n < 544) (l : Fin 256) :
    rd (k0_pay72 (isLast t.val) (iblk m c 8 t) (iblk m c 9 t)) n l = ext (dxOf m c) (512 * t.val + n) l := by
  have ht : t.val < 16 := t.isLt
  unfold rd ext
  rw [dxpad_apply, isLast_eq]
  simp only [Nat.mod_eq_of_lt hn]
  split
  · rw [dif_pos (by omega)]
    exact blk8 m c t _ l _ rfl
  · split
    · rw [dif_neg (by omega)]; rfl
    · rw [dif_pos (by omega)]
      exact blk9 m c t _ l _ (by simp only; omega)

/-- A row of the padded input is the row 32 rows before of the whole input. -/
theorem upad (c : Dev nD) (t : Fin cfg0.N) (n : ℕ) (hn : n < 544) (l : Fin 256) :
    rd (k0_pay8 (grid0.coords t) (iblk m c 0 t) (iblk m c 1 t) (iblk m c 2 t) (iblk m c 3 t)) n l = lag (cunit (zOf m c)) (512 * t.val + n) l := by
  have ht : t.val < 16 := t.isLt
  unfold rd lag ext
  rw [upad_apply, coord, isFirst_eq]
  simp only [Nat.mod_eq_of_lt hn]
  split
  · split
    · rw [if_pos (by omega)]; rfl
    · rw [if_neg (by omega), dif_pos (by omega)]
      exact congrArg₂ HMul.hMul (blk2 m c t _ l _ (by simp only; omega)) (congrArg Ideal.logistic (blk3 m c t _ l _ (by simp only; omega)))
  · rw [if_neg (by omega), dif_pos (by omega)]
    exact congrArg₂ HMul.hMul (blk0 m c t _ l _ (by simp only; omega)) (congrArg Ideal.logistic (blk1 m c t _ l _ (by simp only; omega)))

/-- A row of the padded input is the row 32 rows before of the whole input. -/
theorem uxpad (c : Dev nD) (t : Fin cfg0.N) (n : ℕ) (hn : n < 544) (l : Fin 256) :
    rd (k0_pay73 (isFirst t.val) (k0_pay70 (iblk m c 4 t)) (k0_pay71 (iblk m c 5 t))) n l = lag (rxin (zOf m c)) (512 * t.val + n) l := by
  have ht : t.val < 16 := t.isLt
  unfold rd lag ext
  rw [uxpad_apply, isFirst_eq]
  simp only [Nat.mod_eq_of_lt hn]
  split
  · split
    · rw [if_pos (by omega)]; rfl
    · rw [if_neg (by omega), dif_pos (by omega)]
      exact blk5 m c t _ l _ (by simp only; omega)
  · rw [if_neg (by omega), dif_pos (by omega)]
    exact blk4 m c t _ l _ (by simp only; omega)

/-- Thirty-one taps at row `r` of block `t` are the taps at that row of the sequence. -/
theorem tapSum_blk (c : Dev nD) (t : Fin cfg0.N) (r : Fin 512) (l : Fin 256) :
    tapSum (k0_pay7 (grid0.coords t) (iblk m c 6 t) (iblk m c 7 t)) (k0_pay9 (iblk m c 10 t)) r.val l
      = dIn (dcOf m c) (cwOf m c) (512 * t.val + r.val) l := by
  unfold tapSum dIn
  refine Finset.sum_congr rfl fun k hk => ?_
  have hk := Finset.mem_range.mp hk
  have hr := r.isLt
  rw [dpad m c t _ (by omega) l, blk10 m c t k (by omega) l]
  congr 2
  omega

/-- What a point leaves in the gated unit's block. -/
theorem outs12 (c : Dev nD) (t : Fin cfg0.N) : (outsAt0 m c t.val t.isLt).1
    = glu (iblk m c 0 t) (iblk m c 1 t) (k0_pay7 (grid0.coords t) (iblk m c 6 t) (iblk m c 7 t)) (k0_pay9 (iblk m c 10 t)) := by
  by_cases h : t.val % 16 = 0
  · rw [outsAt0_A m c t h]; dsimp only; exact out_A_12 ..
  · rw [outsAt0_B m c t h]; dsimp only; exact out_B_12 ..

/-- The gated unit's block, in the rows of the sequence. -/
theorem glu_blk (c : Dev nD) (t : Fin cfg0.N) (r l : Fin 512) (p : Fin 8192) (hp : p.val = 512 * t.val + r.val) :
    glu (F := Ideal) (iblk m c 0 t) (iblk m c 1 t) (k0_pay7 (grid0.coords t) (iblk m c 6 t) (iblk m c 7 t))
      (k0_pay9 (iblk m c 10 t)) (ix2 r l) = dGlu (zOf m c) (dcOf m c) (cwOf m c) p l := by
  rw [glu_apply, dGlu, hp]
  split
  · rw [tapSum_blk, blk1 m c t r _ p hp]; rfl
  · rw [tapSum_blk, blk1 m c t r _ p hp, blk0 m c t r _ p hp]; rfl

/-- The first result: the gradient of the gated unit. -/
theorem arr12 (c : Dev nD) : (dats m 0 c).arrAt 12 cfg0.N
    = fun i : S8192x512.Idx => dGlu (zOf m c) (dcOf m c) (cwOf m c) (i 0) (i 1) := by
  refine (dats m 0 c).arrAt_eq_of_covers 12 _ (by decide +kernel) fun t hf y => ?_
  have ht : t.val < 16 := t.isLt
  obtain ⟨r, l, rfl⟩ : ∃ r l, y = ix2 r l := ⟨_, _, eq_ix2 y⟩
  have hr : r.val < 512 := r.isLt
  blk_simp
  rw [after0_12, outs12]
  refine (glu_blk m c t r l ⟨512 * t.val + r.val, by omega⟩ rfl).trans
    (congrArg₂ (dGlu _ _ _) (Fin.ext ?_) (Fin.ext ?_)) <;> blk_simp [idx t] <;> (simp only; omega)

/-- What a point leaves in the four taps' block. -/
theorem outs13 (c : Dev nD) (t : Fin cfg0.N) : (outsAt0 m c t.val t.isLt).2.1
    = lruIn (grid0.coords t 0).val (iblk m c 8 t) (iblk m c 9 t) (iblk m c 11 t) := by
  by_cases h : t.val % 16 = 0
  · rw [outsAt0_A m c t h]; dsimp only; exact out_A_13 ..
  · rw [outsAt0_B m c t h]; dsimp only; exact out_B_13 ..

/-- The first point starts the thirty-one taps' gradient from zero. -/
theorem outs14_A (c : Dev nD) (t : Fin cfg0.N) (h : t.val % 16 = 0) : (outsAt0 m c t.val t.isLt).2.2.1
    = convW (k0_pay7 (grid0.coords t) (iblk m c 6 t) (iblk m c 7 t))
        (k0_pay8 (grid0.coords t) (iblk m c 0 t) (iblk m c 1 t) (iblk m c 2 t) (iblk m c 3 t)) (k0_pay3 (F := Ideal)) := by
  rw [outsAt0_A m c t h]; dsimp only; exact out_A_14 ..

/-- A later point adds to it. -/
theorem outs14_B (c : Dev nD) (t : Fin cfg0.N) (h : ¬t.val % 16 = 0) : (outsAt0 m c t.val t.isLt).2.2.1
    = convW (k0_pay7 (grid0.coords t) (iblk m c 6 t) (iblk m c 7 t))
        (k0_pay8 (grid0.coords t) (iblk m c 0 t) (iblk m c 1 t) (iblk m c 2 t) (iblk m c 3 t))
        (outsAt0 m c (t.val - 1) (Nat.lt_of_le_of_lt (Nat.sub_le _ _) t.isLt)).2.2.1 := by
  rw [outsAt0_B m c t h]; dsimp only; exact out_B_14 ..

/-- The first point starts the four taps' gradient from zero. -/
theorem outs15_A (c : Dev nD) (t : Fin cfg0.N) (h : t.val % 16 = 0) : (outsAt0 m c t.val t.isLt).2.2.2
    = lruW (grid0.coords t 0).val (iblk m c 4 t) (iblk m c 5 t) (iblk m c 8 t) (iblk m c 9 t) (k0_pay4 (F := Ideal)) := by
  rw [outsAt0_A m c t h]; dsimp only; exact out_A_15 ..

/-- A later point adds to it. -/
theorem outs15_B (c : Dev nD) (t : Fin cfg0.N) (h : ¬t.val % 16 = 0) : (outsAt0 m c t.val t.isLt).2.2.2
    = lruW (grid0.coords t 0).val (iblk m c 4 t) (iblk m c 5 t) (iblk m c 8 t) (iblk m c 9 t)
        (outsAt0 m c (t.val - 1) (Nat.lt_of_le_of_lt (Nat.sub_le _ _) t.isLt)).2.2.2 := by
  rw [outsAt0_B m c t h]; dsimp only; exact out_B_15 ..

/-- The four taps' block, in the rows of the sequence. -/
theorem lru_blk (c : Dev nD) (t : Fin cfg0.N) (r : Fin 512) (q : Fin 256) :
    lruIn (F := Ideal) (grid0.coords t 0).val (iblk m c 8 t) (iblk m c 9 t) (iblk m c 11 t) (ix2 r q)
      = dIn (dxOf m c) (lwOf m c) (512 * t.val + r.val) q := by
  rw [lruIn_apply, coord, dIn]
  refine Finset.sum_congr rfl fun k hk => ?_
  have hk := Finset.mem_range.mp hk
  have hr := r.isLt
  rw [dxpad m c t _ (by omega) q, blk11 m c t _ q]
  congr 2
  · omega
  · exact Nat.mod_eq_of_lt (by omega)

/-- The second result: the gradient through the four taps. -/
theorem arr13 (c : Dev nD) : (dats m 0 c).arrAt 13 cfg0.N
    = fun i : S8192x256.Idx => dIn (dxOf m c) (lwOf m c) (i 0).val (i 1) := by
  refine (dats m 0 c).arrAt_eq_of_covers 13 _ (by decide +kernel) fun t hf y => ?_
  obtain ⟨r, l, rfl⟩ : ∃ r l, y = ix2 r l := ⟨_, _, eq_ix2 y⟩
  blk_simp
  rw [after0_13, outs13]
  refine (lru_blk m c t r l).trans (congrArg₂ (dIn _ _) ?_ (Fin.ext ?_)) <;> blk_simp [idx t] <;> (try simp only) <;> omega

/-- What block `n` adds to row `k` of the thirty-one taps' gradient. -/
def part14 (c : Dev nD) (n : ℕ) (k : ℕ) (l : Fin 256) : EReal :=
  if k < 31 then ∑ r : Fin 512, ext (dcOf m c) (512 * n + r.val) l
    * lag (cunit (zOf m c)) (512 * n + r.val + 2 + k) l else 0

/-- What block `n` adds to row `k` of the four taps' gradient. -/
def part15 (c : Dev nD) (n : ℕ) (k : ℕ) (l : Fin 256) : EReal :=
  if k < 4 then ∑ r : Fin 512, ext (dxOf m c) (512 * n + r.val) l
    * lag (rxin (zOf m c)) (512 * n + r.val + 29 + k) l else 0

/-- One grid point adds its block's products to the thirty-one taps' gradient. -/
theorem step14 (c : Dev nD) (t : Fin cfg0.N) (xo : FVec Ideal S32x256 .f32) (k : Fin 32) (l : Fin 256) :
    convW (k0_pay7 (grid0.coords t) (iblk m c 6 t) (iblk m c 7 t))
        (k0_pay8 (grid0.coords t) (iblk m c 0 t) (iblk m c 1 t) (iblk m c 2 t) (iblk m c 3 t)) xo (ix2 k l)
      = xo (ix2 k l) + part14 m c t.val k l := by
  rw [convW_apply, part14]
  congr 1
  split
  · refine Finset.sum_congr rfl fun r _ => ?_
    have hr := r.isLt
    rw [dpad m c t _ (by omega) l, upad m c t _ (by omega) l]
    congr 2; omega
  · rfl

/-- One grid point adds its block's products to the four taps' gradient. -/
theorem step15 (c : Dev nD) (t : Fin cfg0.N) (xo : FVec Ideal S8x256 .f32) (k : Fin 8) (l : Fin 256) :
    lruW (grid0.coords t 0).val (iblk m c 4 t) (iblk m c 5 t) (iblk m c 8 t) (iblk m c 9 t) xo (ix2 k l)
      = xo (ix2 k l) + part15 m c t.val k l := by
  rw [lruW_apply, part15, coord]
  congr 1
  split
  · refine Finset.sum_congr rfl fun r _ => ?_
    have hr := r.isLt
    rw [dxpad m c t _ (by omega) l, uxpad m c t _ (by omega) l]
    congr 2; omega
  · rfl

/-- The thirty-one taps' gradient after grid point `t`. -/
theorem outs14 (c : Dev nD) (k : Fin 32) (l : Fin 256) (t : Fin cfg0.N) :
    (outsAt0 m c t.val t.isLt).2.2.1 (ix2 k l) = ∑ n ∈ Finset.range (t.val + 1), part14 m c n k l := by
  refine (Pipeline.eq_sum_of_reset_step_apply_single (fun n h => fun _ : Unit => (outsAt0 m c n h).2.2.1 (ix2 k l)) 16 (fun _ => 0)
    (fun n _ => part14 m c n k l) (fun t h _ => ?_) (fun t h _ => ?_) (by decide) t ()).trans (zero_add _)
  · show (outsAt0 m c t.val t.isLt).2.2.1 (ix2 k l) = _
    rw [outs14_A m c t h, step14]
    congr 1
    pointwise [k0_pay3]
  · show (outsAt0 m c t.val t.isLt).2.2.1 (ix2 k l) = _
    rw [outs14_B m c t h, step14]

/-- The four taps' gradient after grid point `t`. -/
theorem outs15 (c : Dev nD) (k : Fin 8) (l : Fin 256) (t : Fin cfg0.N) :
    (outsAt0 m c t.val t.isLt).2.2.2 (ix2 k l) = ∑ n ∈ Finset.range (t.val + 1), part15 m c n k l := by
  refine (Pipeline.eq_sum_of_reset_step_apply_single (fun n h => fun _ : Unit => (outsAt0 m c n h).2.2.2 (ix2 k l)) 16 (fun _ => 0)
    (fun n _ => part15 m c n k l) (fun t h _ => ?_) (fun t h _ => ?_) (by decide) t ()).trans (zero_add _)
  · show (outsAt0 m c t.val t.isLt).2.2.2 (ix2 k l) = _
    rw [outs15_A m c t h, step15]
    congr 1
    pointwise [k0_pay4]
  · show (outsAt0 m c t.val t.isLt).2.2.2 (ix2 k l) = _
    rw [outs15_B m c t h, step15]

/-- Sixteen blocks of 512 rows are the 8192 rows. -/
theorem sum_rows (g : ℕ → EReal) : ∑ n ∈ Finset.range 16, ∑ r : Fin 512, g (512 * n + r.val) = ∑ s : Fin 8192, g s.val := by
  rw [Fin.sum_univ_eq_sum_range (fun s => g s) 8192, show (8192 : ℕ) = 16 * 512 from rfl, Finset.sum_range_mul_split 16 512 g]
  refine Finset.sum_congr rfl fun n _ => ?_
  rw [Fin.sum_univ_eq_sum_range (fun r => g (512 * n + r)) 512, Nat.mul_comm]

/-- The blocks' sums make the sum over the sequence, thirty-one taps. -/
theorem tot14 (c : Dev nD) (k : ℕ) (l : Fin 256) :
    ∑ n ∈ Finset.range 16, part14 m c n k l = dTap 31 (dcOf m c) (cunit (zOf m c)) k l := by
  unfold part14 dTap
  split
  · rw [sum_rows fun s => ext (dcOf m c) s l * lag (cunit (zOf m c)) (s + 2 + k) l]
    exact Finset.sum_congr rfl fun s _ => congrArg₂ HMul.hMul (dif_pos s.isLt) rfl
  · exact Finset.sum_const_zero

/-- The blocks' sums make the sum over the sequence, four taps. -/
theorem tot15 (c : Dev nD) (k : ℕ) (l : Fin 256) :
    ∑ n ∈ Finset.range 16, part15 m c n k l = dTap 4 (dxOf m c) (rxin (zOf m c)) k l := by
  unfold part15 dTap
  split
  · rw [sum_rows fun s => ext (dxOf m c) s l * lag (rxin (zOf m c)) (s + 29 + k) l]
    exact Finset.sum_congr rfl fun s _ => congrArg₂ HMul.hMul (dif_pos s.isLt) rfl
  · exact Finset.sum_const_zero

/-- The third result: the gradient in the thirty-one taps. -/
theorem arr14 (c : Dev nD) : (dats m 0 c).arrAt 14 cfg0.N
    = fun i : S32x256.Idx => dTap 31 (dcOf m c) (cunit (zOf m c)) (i 0).val (i 1) := by
  refine (dats m 0 c).arrAt_eq_of_after_last 14 t0_15 (by decide +kernel) _ fun j => ?_
  blk_simp
  rw [after0_14]
  obtain ⟨k, l, rfl⟩ : ∃ k l, j = ix2 k l := ⟨_, _, eq_ix2 j⟩
  exact (outs14 m c k l t0_15).trans (tot14 m c k l)

/-- The fourth result: the gradient in the four taps. -/
theorem arr15 (c : Dev nD) : (dats m 0 c).arrAt 15 cfg0.N
    = fun i : S8x256.Idx => dTap 4 (dxOf m c) (rxin (zOf m c)) (i 0).val (i 1) := by
  refine (dats m 0 c).arrAt_eq_of_after_last 15 t0_15 (by decide +kernel) _ fun j => ?_
  blk_simp
  rw [after0_15]
  obtain ⟨k, l, rfl⟩ : ∃ k l, j = ix2 k l := ⟨_, _, eq_ix2 j⟩
  exact (outs15 m c k l t0_15).trans (tot15 m c k l)

end Cert.ConvGrad

end
-- ==== Proof.ConvRefRead.lean ====
/-
  The plain gradients of the two causal convolutions, read at an index.
-/
module

public import proofs.«01_k».proof.Proof.ConvSpec
public import proofs.«01_k».proof.Proof.Rows
public import proofs.«01_k».proof.Proof.Gen.ConvRefIdeal.Read
public import Idealize.ShloMosaic.Lib.Pointwise
public import Idealize.ShloMosaic.Lib.KernelVsHost
public import Idealize.ShloMosaic.Lib.IdealHost
public import Idealize.ShloMosaic.Lib.Pipeline.ValueKit

@[expose] public section

set_option maxRecDepth 16384

noncomputable section

open Idealize.ShloMosaic Idealize.ShloMosaic.TcCoe Idealize.SL.Sem

namespace Cert.ConvGrad.Plain

open Cert.ConvRefIdeal Cert.ConvRefIdeal.Read

variable (x0 : FVec Ideal S8192x1792 .bf16) (x1 x2 : FVec Ideal S8192x256 .f32) (x3 : FVec Ideal S31x256 .f32) (x4 : FVec Ideal S4x256 .f32)

/-- The sigmoid of the gate half. -/
theorem sig (s : Fin 8192) (l : Fin 256) : val_main_v9 (F := Ideal) x0 (ix2 s l) = csig (fun s l => x0 (ix2 s l)) s l := by
  unfold csig
  pointwise [val_main_v9, val_main_v8, val_main_v7, val_main_v6, val_main_v5, val_main_v4, val_main_v2, val_main_v0, val_main_cst, val_main_cst_0]
  rfl

/-- The gated unit. -/
theorem unit (s : Fin 8192) (l : Fin 256) : val_main_v13 (F := Ideal) x0 (ix2 s l) = cunit (fun s l => x0 (ix2 s l)) s l := by
  unfold cunit cval
  rw [← sig]
  pointwise [val_main_v13, val_main_v1, val_main_v0]

/-- Thirty zero rows above the gated unit. -/
theorem above15 (p : Fin 8222) (l : Fin 256) (n : ℕ) (hn : n = p.val + 2) :
    val_main_v15 (F := Ideal) x0 (ix2 p l) = lag (cunit fun s l => x0 (ix2 s l)) n l := by
  have hp := p.isLt
  pointwise [val_main_v15, val_main_v14, val_main_cst_2]
  unfold lag ext
  split
  · rw [if_pos (by omega)]
  · refine Eq.trans ?_ (Eq.trans (dif_pos (show n - 32 < 8192 by omega)) rfl).symm |>.trans (if_neg (show ¬ n < 32 by omega)).symm
    refine (unit x0 _ l).trans (congrArg (fun q => cunit (fun s l => x0 (ix2 s l)) q l) (Fin.ext ?_))
    show p.val - 30 = n - 32
    omega

/-- Three zero rows above the four taps' input. -/
theorem above222 (p : Fin 8195) (l : Fin 256) (n : ℕ) (hn : n = p.val + 29) :
    val_main_v222 (F := Ideal) x0 (ix2 p l) = lag (rxin fun s l => x0 (ix2 s l)) n l := by
  have hp := p.isLt
  pointwise [val_main_v222, val_main_v221, val_main_cst_38, val_main_v3, val_main_v0]
  unfold lag ext rxin
  split
  · rw [if_pos (by omega)]
  · refine Eq.trans ?_ (Eq.trans (dif_pos (show n - 32 < 8192 by omega)) rfl).symm |>.trans (if_neg (show ¬ n < 32 by omega)).symm
    exact congrArg x0 (funext fun a => Fin.ext (match a with
      | ⟨0, _⟩ => by show p.val - 3 = n - 32; omega
      | ⟨1, _⟩ => rfl))

/-- Piece `k` of the stack is the padded input from row `k` on. -/
theorem stack79 (k : Fin 16) (s : Fin 8192) (l : Fin 256) (p : Fin 8222) (hp : p.val = s.val + k.val + 0) :
    val_main_v79 (F := Ideal) x0 (ix3 k s l) = val_main_v15 (F := Ideal) x0 (ix2 p l) := by
  unfold val_main_v79
  concat_tiles i h
  · have h : k.val = 0 := h
    have h1 : (i 1).val = s.val := h1
    have h2 : (i 2).val = l.val := h2
    rw [val_main_v48_apply, val_main_v17_apply]
    exact congrArg _ (funext fun a => Fin.ext (match a with
      | ⟨0, _⟩ => by show (i 1).val = p.val; omega
      | ⟨1, _⟩ => h2))
  · have h : k.val = 1 := h
    have h1 : (i 1).val = s.val := h1
    have h2 : (i 2).val = l.val := h2
    rw [val_main_v49_apply, val_main_v18_apply]
    exact congrArg _ (funext fun a => Fin.ext (match a with
      | ⟨0, _⟩ => by show 1 + (i 1).val = p.val; omega
      | ⟨1, _⟩ => h2))
  · have h : k.val = 2 := h
    have h1 : (i 1).val = s.val := h1
    have h2 : (i 2).val = l.val := h2
    rw [val_main_v50_apply, val_main_v19_apply]
    exact congrArg _ (funext fun a => Fin.ext (match a with
      | ⟨0, _⟩ => by show 2 + (i 1).val = p.val; omega
      | ⟨1, _⟩ => h2))
  · have h : k.val = 3 := h
    have h1 : (i 1).val = s.val := h1
    have h2 : (i 2).val = l.val := h2
    rw [val_main_v51_apply, val_main_v20_apply]
    exact congrArg _ (funext fun a => Fin.ext (match a with
      | ⟨0, _⟩ => by show 3 + (i 1).val = p.val; omega
      | ⟨1, _⟩ => h2))
  · have h : k.val = 4 := h
    have h1 : (i 1).val = s.val := h1
    have h2 : (i 2).val = l.val := h2
    rw [val_main_v52_apply, val_main_v21_apply]
    exact congrArg _ (funext fun a => Fin.ext (match a with
      | ⟨0, _⟩ => by show 4 + (i 1).val = p.val; omega
      | ⟨1, _⟩ => h2))
  · have h : k.val = 5 := h
    have h1 : (i 1).val = s.val := h1
    have h2 : (i 2).val = l.val := h2
    rw [val_main_v53_apply, val_main_v22_apply]
    exact congrArg _ (funext fun a => Fin.ext (match a with
      | ⟨0, _⟩ => by show 5 + (i 1).val = p.val; omega
      | ⟨1, _⟩ => h2))
  · have h : k.val = 6 := h
    have h1 : (i 1).val = s.val := h1
    have h2 : (i 2).val = l.val := h2
    rw [val_main_v54_apply, val_main_v23_apply]
    exact congrArg _ (funext fun a => Fin.ext (match a with
      | ⟨0, _⟩ => by show 6 + (i 1).val = p.val; omega
      | ⟨1, _⟩ => h2))
  · have h : k.val = 7 := h
    have h1 : (i 1).val = s.val := h1
    have h2 : (i 2).val = l.val := h2
    rw [val_main_v55_apply, val_main_v24_apply]
    exact congrArg _ (funext fun a => Fin.ext (match a with
      | ⟨0, _⟩ => by show 7 + (i 1).val = p.val; omega
      | ⟨1, _⟩ => h2))
  · have h : k.val = 8 := h
    have h1 : (i 1).val = s.val := h1
    have h2 : (i 2).val = l.val := h2
    rw [val_main_v56_apply, val_main_v25_apply]
    exact congrArg _ (funext fun a => Fin.ext (match a with
      | ⟨0, _⟩ => by show 8 + (i 1).val = p.val; omega
      | ⟨1, _⟩ => h2))
  · have h : k.val = 9 := h
    have h1 : (i 1).val = s.val := h1
    have h2 : (i 2).val = l.val := h2
    rw [val_main_v57_apply, val_main_v26_apply]
    exact congrArg _ (funext fun a => Fin.ext (match a with
      | ⟨0, _⟩ => by show 9 + (i 1).val = p.val; omega
      | ⟨1, _⟩ => h2))
  · have h : k.val = 10 := h
    have h1 : (i 1).val = s.val := h1
    have h2 : (i 2).val = l.val := h2
    rw [val_main_v58_apply, val_main_v27_apply]
    exact congrArg _ (funext fun a => Fin.ext (match a with
      | ⟨0, _⟩ => by show 10 + (i 1).val = p.val; omega
      | ⟨1, _⟩ => h2))
  · have h : k.val = 11 := h
    have h1 : (i 1).val = s.val := h1
    have h2 : (i 2).val = l.val := h2
    rw [val_main_v59_apply, val_main_v28_apply]
    exact congrArg _ (funext fun a => Fin.ext (match a with
      | ⟨0, _⟩ => by show 11 + (i 1).val = p.val; omega
      | ⟨1, _⟩ => h2))
  · have h : k.val = 12 := h
    have h1 : (i 1).val = s.val := h1
    have h2 : (i 2).val = l.val := h2
    rw [val_main_v60_apply, val_main_v29_apply]
    exact congrArg _ (funext fun a => Fin.ext (match a with
      | ⟨0, _⟩ => by show 12 + (i 1).val = p.val; omega
      | ⟨1, _⟩ => h2))
  · have h : k.val = 13 := h
    have h1 : (i 1).val = s.val := h1
    have h2 : (i 2).val = l.val := h2
    rw [val_main_v61_apply, val_main_v30_apply]
    exact congrArg _ (funext fun a => Fin.ext (match a with
      | ⟨0, _⟩ => by show 13 + (i 1).val = p.val; omega
      | ⟨1, _⟩ => h2))
  · have h : k.val = 14 := h
    have h1 : (i 1).val = s.val := h1
    have h2 : (i 2).val = l.val := h2
    rw [val_main_v62_apply, val_main_v31_apply]
    exact congrArg _ (funext fun a => Fin.ext (match a with
      | ⟨0, _⟩ => by show 14 + (i 1).val = p.val; omega
      | ⟨1, _⟩ => h2))
  · have h : k.val = 15 := h
    have h1 : (i 1).val = s.val := h1
    have h2 : (i 2).val = l.val := h2
    rw [val_main_v63_apply, val_main_v32_apply]
    exact congrArg _ (funext fun a => Fin.ext (match a with
      | ⟨0, _⟩ => by show 15 + (i 1).val = p.val; omega
      | ⟨1, _⟩ => h2))

/-- Piece `k` of the stack is the padded input from row `k` on. -/
theorem stack80 (k : Fin 15) (s : Fin 8192) (l : Fin 256) (p : Fin 8222) (hp : p.val = s.val + k.val + 16) :
    val_main_v80 (F := Ideal) x0 (ix3 k s l) = val_main_v15 (F := Ideal) x0 (ix2 p l) := by
  unfold val_main_v80
  concat_tiles i h
  · have h : k.val = 0 := h
    have h1 : (i 1).val = s.val := h1
    have h2 : (i 2).val = l.val := h2
    rw [val_main_v64_apply, val_main_v33_apply]
    exact congrArg _ (funext fun a => Fin.ext (match a with
      | ⟨0, _⟩ => by show 16 + (i 1).val = p.val; omega
      | ⟨1, _⟩ => h2))
  · have h : k.val = 1 := h
    have h1 : (i 1).val = s.val := h1
    have h2 : (i 2).val = l.val := h2
    rw [val_main_v65_apply, val_main_v34_apply]
    exact congrArg _ (funext fun a => Fin.ext (match a with
      | ⟨0, _⟩ => by show 17 + (i 1).val = p.val; omega
      | ⟨1, _⟩ => h2))
  · have h : k.val = 2 := h
    have h1 : (i 1).val = s.val := h1
    have h2 : (i 2).val = l.val := h2
    rw [val_main_v66_apply, val_main_v35_apply]
    exact congrArg _ (funext fun a => Fin.ext (match a with
      | ⟨0, _⟩ => by show 18 + (i 1).val = p.val; omega
      | ⟨1, _⟩ => h2))
  · have h : k.val = 3 := h
    have h1 : (i 1).val = s.val := h1
    have h2 : (i 2).val = l.val := h2
    rw [val_main_v67_apply, val_main_v36_apply]
    exact congrArg _ (funext fun a => Fin.ext (match a with
      | ⟨0, _⟩ => by show 19 + (i 1).val = p.val; omega
      | ⟨1, _⟩ => h2))
  · have h : k.val = 4 := h
    have h1 : (i 1).val = s.val := h1
    have h2 : (i 2).val = l.val := h2
    rw [val_main_v68_apply, val_main_v37_apply]
    exact congrArg _ (funext fun a => Fin.ext (match a with
      | ⟨0, _⟩ => by show 20 + (i 1).val = p.val; omega
      | ⟨1, _⟩ => h2))
  · have h : k.val = 5 := h
    have h1 : (i 1).val = s.val := h1
    have h2 : (i 2).val = l.val := h2
    rw [val_main_v69_apply, val_main_v38_apply]
    exact congrArg _ (funext fun a => Fin.ext (match a with
      | ⟨0, _⟩ => by show 21 + (i 1).val = p.val; omega
      | ⟨1, _⟩ => h2))
  · have h : k.val = 6 := h
    have h1 : (i 1).val = s.val := h1
    have h2 : (i 2).val = l.val := h2
    rw [val_main_v70_apply, val_main_v39_apply]
    exact congrArg _ (funext fun a => Fin.ext (match a with
      | ⟨0, _⟩ => by show 22 + (i 1).val = p.val; omega
      | ⟨1, _⟩ => h2))
  · have h : k.val = 7 := h
    have h1 : (i 1).val = s.val := h1
    have h2 : (i 2).val = l.val := h2
    rw [val_main_v71_apply, val_main_v40_apply]
    exact congrArg _ (funext fun a => Fin.ext (match a with
      | ⟨0, _⟩ => by show 23 + (i 1).val = p.val; omega
      | ⟨1, _⟩ => h2))
  · have h : k.val = 8 := h
    have h1 : (i 1).val = s.val := h1
    have h2 : (i 2).val = l.val := h2
    rw [val_main_v72_apply, val_main_v41_apply]
    exact congrArg _ (funext fun a => Fin.ext (match a with
      | ⟨0, _⟩ => by show 24 + (i 1).val = p.val; omega
      | ⟨1, _⟩ => h2))
  · have h : k.val = 9 := h
    have h1 : (i 1).val = s.val := h1
    have h2 : (i 2).val = l.val := h2
    rw [val_main_v73_apply, val_main_v42_apply]
    exact congrArg _ (funext fun a => Fin.ext (match a with
      | ⟨0, _⟩ => by show 25 + (i 1).val = p.val; omega
      | ⟨1, _⟩ => h2))
  · have h : k.val = 10 := h
    have h1 : (i 1).val = s.val := h1
    have h2 : (i 2).val = l.val := h2
    rw [val_main_v74_apply, val_main_v43_apply]
    exact congrArg _ (funext fun a => Fin.ext (match a with
      | ⟨0, _⟩ => by show 26 + (i 1).val = p.val; omega
      | ⟨1, _⟩ => h2))
  · have h : k.val = 11 := h
    have h1 : (i 1).val = s.val := h1
    have h2 : (i 2).val = l.val := h2
    rw [val_main_v75_apply, val_main_v44_apply]
    exact congrArg _ (funext fun a => Fin.ext (match a with
      | ⟨0, _⟩ => by show 27 + (i 1).val = p.val; omega
      | ⟨1, _⟩ => h2))
  · have h : k.val = 12 := h
    have h1 : (i 1).val = s.val := h1
    have h2 : (i 2).val = l.val := h2
    rw [val_main_v76_apply, val_main_v45_apply]
    exact congrArg _ (funext fun a => Fin.ext (match a with
      | ⟨0, _⟩ => by show 28 + (i 1).val = p.val; omega
      | ⟨1, _⟩ => h2))
  · have h : k.val = 13 := h
    have h1 : (i 1).val = s.val := h1
    have h2 : (i 2).val = l.val := h2
    rw [val_main_v77_apply, val_main_v46_apply]
    exact congrArg _ (funext fun a => Fin.ext (match a with
      | ⟨0, _⟩ => by show 29 + (i 1).val = p.val; omega
      | ⟨1, _⟩ => h2))
  · have h : k.val = 14 := h
    have h1 : (i 1).val = s.val := h1
    have h2 : (i 2).val = l.val := h2
    rw [val_main_v78_apply, val_main_v47_apply]
    exact congrArg _ (funext fun a => Fin.ext (match a with
      | ⟨0, _⟩ => by show 30 + (i 1).val = p.val; omega
      | ⟨1, _⟩ => h2))

/-- Piece `k` of the stack is the padded input from row `k` on. -/
theorem stack232 (k : Fin 4) (s : Fin 8192) (l : Fin 256) (p : Fin 8195) (hp : p.val = s.val + k.val + 0) :
    val_main_v232 (F := Ideal) x0 (ix3 k s l) = val_main_v222 (F := Ideal) x0 (ix2 p l) := by
  unfold val_main_v232
  concat_tiles i h
  · have h : k.val = 0 := h
    have h1 : (i 1).val = s.val := h1
    have h2 : (i 2).val = l.val := h2
    rw [val_main_v228_apply, val_main_v224_apply]
    exact congrArg _ (funext fun a => Fin.ext (match a with
      | ⟨0, _⟩ => by show (i 1).val = p.val; omega
      | ⟨1, _⟩ => h2))
  · have h : k.val = 1 := h
    have h1 : (i 1).val = s.val := h1
    have h2 : (i 2).val = l.val := h2
    rw [val_main_v229_apply, val_main_v225_apply]
    exact congrArg _ (funext fun a => Fin.ext (match a with
      | ⟨0, _⟩ => by show 1 + (i 1).val = p.val; omega
      | ⟨1, _⟩ => h2))
  · have h : k.val = 2 := h
    have h1 : (i 1).val = s.val := h1
    have h2 : (i 2).val = l.val := h2
    rw [val_main_v230_apply, val_main_v226_apply]
    exact congrArg _ (funext fun a => Fin.ext (match a with
      | ⟨0, _⟩ => by show 2 + (i 1).val = p.val; omega
      | ⟨1, _⟩ => h2))
  · have h : k.val = 3 := h
    have h1 : (i 1).val = s.val := h1
    have h2 : (i 2).val = l.val := h2
    rw [val_main_v231_apply, val_main_v227_apply]
    exact congrArg _ (funext fun a => Fin.ext (match a with
      | ⟨0, _⟩ => by show 3 + (i 1).val = p.val; omega
      | ⟨1, _⟩ => h2))

/-- The stack of the thirty-one shifted inputs. -/
theorem stack81 (k : Fin 31) (s : Fin 8192) (l : Fin 256) :
    val_main_v81 (F := Ideal) x0 (ix3 k s l) = lag (cunit fun s l => x0 (ix2 s l)) (s.val + (33 - 31) + k.val) l := by
  pointwise [val_main_v81]
  split
  · rw [stack79 x0 _ s l ⟨s.val + k.val, by omega⟩ rfl]
    exact above15 x0 _ l _ (by simp only; omega)
  · rw [stack80 x0 _ s l ⟨s.val + k.val, by omega⟩ (by simp only; omega)]
    exact above15 x0 _ l _ (by simp only; omega)

/-- The stack of the four shifted inputs. -/
theorem stack4 (k : Fin 4) (s : Fin 8192) (l : Fin 256) :
    val_main_v232 (F := Ideal) x0 (ix3 k s l) = lag (rxin fun s l => x0 (ix2 s l)) (s.val + (33 - 4) + k.val) l := by
  rw [stack232 x0 _ s l ⟨s.val + k.val, by omega⟩ rfl]
  exact above222 x0 _ l _ (by simp only; omega)

/-- A row of the thirty-one taps' gradient: the sum over the sequence. -/
theorem rows92 (k : Fin 31) (l : Fin 256) : val_main_v92 (F := Ideal) x0 x1 (ix2 k l)
    = ∑ s : Fin 8192, x1 (ix2 s l) * lag (cunit fun s l => x0 (ix2 s l)) (s.val + (33 - 31) + k.val) l := by
  pointwise [val_main_v92, val_main_v89, val_main_v88, val_main_v87, val_main_v86, val_main_cst_5, val_main_cst_6]
  simp only [Finset.sum_const, Finset.card_univ, Fintype.card_fin, one_smul]
  refine Finset.sum_congr rfl fun s _ => ?_
  rw [stack81]
  exact mul_comm _ _

/-- A row of the four taps' gradient: the sum over the sequence. -/
theorem rows243 (k : Fin 4) (l : Fin 256) : val_main_v243 (F := Ideal) x0 x2 (ix2 k l)
    = ∑ s : Fin 8192, x2 (ix2 s l) * lag (rxin fun s l => x0 (ix2 s l)) (s.val + (33 - 4) + k.val) l := by
  pointwise [val_main_v243, val_main_v240, val_main_v239, val_main_v238, val_main_v237, val_main_cst_41, val_main_cst_42]
  simp only [Finset.sum_const, Finset.card_univ, Fintype.card_fin, one_smul]
  refine Finset.sum_congr rfl fun s _ => ?_
  rw [stack4]
  exact mul_comm _ _

/-- The products of a tap. -/
theorem prod91 (k : Fin 31) (s : Fin 8192) (l : Fin 256) :
    val_main_v91 (F := Ideal) x1 x3 (ix3 k s l) = x1 (ix2 s l) * x3 (ix2 k l) := by
  pointwise [val_main_v91, val_main_v86, val_main_v90, val_main_v82]

/-- The products of one of the four taps. -/
theorem prod242 (k : Fin 4) (s : Fin 8192) (l : Fin 256) :
    val_main_v242 (F := Ideal) x2 x4 (ix3 k s l) = x2 (ix2 s l) * x4 (ix2 k l) := by
  pointwise [val_main_v242, val_main_v237, val_main_v241, val_main_v233]

/-- Products of rows with a weight, moved down by `lo` rows between rows of zeros: zero rows outside give zero products. -/
theorem pad_ext {N hi : ℕ} (D : Fin 8192 → Fin 256 → EReal) (w : Fin 256 → EReal) (y : FVec Ideal S8192x256 .f32) (v : FVec Ideal S_ .f32)
    (hu : 0 < S_.numel) (hv : v (Shape.Idx.first hu) = 0) (hy : ∀ s l, y (ix2 s l) = D s l * w l)
    (p : Fin N) (l : Fin 256) (lo : ℕ) (hlo : lo ≤ p.val)
    (h : S8192x256.Pads ![lo, 0] ![hi, 0] ![0, 0] ⟨2, ![N, 256]⟩) :
    pad ⟨2, ![N, 256]⟩ ![lo, 0] ![hi, 0] ![0, 0] y v h hu (ix2 p l) = ext D (p.val - lo) l * w l := by
  refine (Rows.pad_rows lo hi y v h hu p l).trans ?_
  unfold ext
  by_cases hb : p.val - lo < 8192
  · rw [dif_pos ⟨hlo, hb⟩, dif_pos hb, hy]
  · rw [dif_neg fun h' => hb h'.2, dif_neg hb, hv, zero_mul]

/-- The products of tap 30, 30 rows down. -/
theorem tap31_30 (s : Fin 8192) (l : Fin 256) (p : Fin 8222) (hp : p.val = s.val + 30) :
    val_main_v155 (F := Ideal) x1 x3 (ix2 p l)
      = ext (fun s l => x1 (ix2 s l)) (s.val + 30 - 30) l * tap (fun k l => x3 (ix2 k l)) 30 l := by
  rw [← hp]
  refine (pad_ext (fun s l => x1 (ix2 s l)) (tap (fun k l => x3 (ix2 k l)) 30) _ _ _ ?_ (fun s l => ?_) p l 30 (by omega) _)
  · pointwise [val_main_cst_7]
  · rw [tap, dif_pos (by decide)]
    refine Eq.trans ?_ (prod91 x1 x3 ⟨30, by decide⟩ s l)
    pointwise [val_main_v154, val_main_v153]

/-- The products of tap 29, 29 rows down. -/
theorem tap31_29 (s : Fin 8192) (l : Fin 256) (p : Fin 8222) (hp : p.val = s.val + 30) :
    val_main_v156 (F := Ideal) x1 x3 (ix2 p l)
      = ext (fun s l => x1 (ix2 s l)) (s.val + 30 - 29) l * tap (fun k l => x3 (ix2 k l)) 29 l := by
  rw [← hp]
  refine (pad_ext (fun s l => x1 (ix2 s l)) (tap (fun k l => x3 (ix2 k l)) 29) _ _ _ ?_ (fun s l => ?_) p l 29 (by omega) _)
  · pointwise [val_main_cst_8]
  · rw [tap, dif_pos (by decide)]
    refine Eq.trans ?_ (prod91 x1 x3 ⟨29, by decide⟩ s l)
    pointwise [val_main_v152, val_main_v151]

/-- The products of tap 28, 28 rows down. -/
theorem tap31_28 (s : Fin 8192) (l : Fin 256) (p : Fin 8222) (hp : p.val = s.val + 30) :
    val_main_v158 (F := Ideal) x1 x3 (ix2 p l)
      = ext (fun s l => x1 (ix2 s l)) (s.val + 30 - 28) l * tap (fun k l => x3 (ix2 k l)) 28 l := by
  rw [← hp]
  refine (pad_ext (fun s l => x1 (ix2 s l)) (tap (fun k l => x3 (ix2 k l)) 28) _ _ _ ?_ (fun s l => ?_) p l 28 (by omega) _)
  · pointwise [val_main_cst_9]
  · rw [tap, dif_pos (by decide)]
    refine Eq.trans ?_ (prod91 x1 x3 ⟨28, by decide⟩ s l)
    pointwise [val_main_v150, val_main_v149]

/-- The products of tap 27, 27 rows down. -/
theorem tap31_27 (s : Fin 8192) (l : Fin 256) (p : Fin 8222) (hp : p.val = s.val + 30) :
    val_main_v160 (F := Ideal) x1 x3 (ix2 p l)
      = ext (fun s l => x1 (ix2 s l)) (s.val + 30 - 27) l * tap (fun k l => x3 (ix2 k l)) 27 l := by
  rw [← hp]
  refine (pad_ext (fun s l => x1 (ix2 s l)) (tap (fun k l => x3 (ix2 k l)) 27) _ _ _ ?_ (fun s l => ?_) p l 27 (by omega) _)
  · pointwise [val_main_cst_10]
  · rw [tap, dif_pos (by decide)]
    refine Eq.trans ?_ (prod91 x1 x3 ⟨27, by decide⟩ s l)
    pointwise [val_main_v148, val_main_v147]

/-- The products of tap 26, 26 rows down. -/
theorem tap31_26 (s : Fin 8192) (l : Fin 256) (p : Fin 8222) (hp : p.val = s.val + 30) :
    val_main_v162 (F := Ideal) x1 x3 (ix2 p l)
      = ext (fun s l => x1 (ix2 s l)) (s.val + 30 - 26) l * tap (fun k l => x3 (ix2 k l)) 26 l := by
  rw [← hp]
  refine (pad_ext (fun s l => x1 (ix2 s l)) (tap (fun k l => x3 (ix2 k l)) 26) _ _ _ ?_ (fun s l => ?_) p l 26 (by omega) _)
  · pointwise [val_main_cst_11]
  · rw [tap, dif_pos (by decide)]
    refine Eq.trans ?_ (prod91 x1 x3 ⟨26, by decide⟩ s l)
    pointwise [val_main_v146, val_main_v145]

/-- The products of tap 25, 25 rows down. -/
theorem tap31_25 (s : Fin 8192) (l : Fin 256) (p : Fin 8222) (hp : p.val = s.val + 30) :
    val_main_v164 (F := Ideal) x1 x3 (ix2 p l)
      = ext (fun s l => x1 (ix2 s l)) (s.val + 30 - 25) l * tap (fun k l => x3 (ix2 k l)) 25 l := by
  rw [← hp]
  refine (pad_ext (fun s l => x1 (ix2 s l)) (tap (fun k l => x3 (ix2 k l)) 25) _ _ _ ?_ (fun s l => ?_) p l 25 (by omega) _)
  · pointwise [val_main_cst_12]
  · rw [tap, dif_pos (by decide)]
    refine Eq.trans ?_ (prod91 x1 x3 ⟨25, by decide⟩ s l)
    pointwise [val_main_v144, val_main_v143]

/-- The products of tap 24, 24 rows down. -/
theorem tap31_24 (s : Fin 8192) (l : Fin 256) (p : Fin 8222) (hp : p.val = s.val + 30) :
    val_main_v166 (F := Ideal) x1 x3 (ix2 p l)
      = ext (fun s l => x1 (ix2 s l)) (s.val + 30 - 24) l * tap (fun k l => x3 (ix2 k l)) 24 l := by
  rw [← hp]
  refine (pad_ext (fun s l => x1 (ix2 s l)) (tap (fun k l => x3 (ix2 k l)) 24) _ _ _ ?_ (fun s l => ?_) p l 24 (by omega) _)
  · pointwise [val_main_cst_13]
  · rw [tap, dif_pos (by decide)]
    refine Eq.trans ?_ (prod91 x1 x3 ⟨24, by decide⟩ s l)
    pointwise [val_main_v142, val_main_v141]

/-- The products of tap 23, 23 rows down. -/
theorem tap31_23 (s : Fin 8192) (l : Fin 256) (p : Fin 8222) (hp : p.val = s.val + 30) :
    val_main_v168 (F := Ideal) x1 x3 (ix2 p l)
      = ext (fun s l => x1 (ix2 s l)) (s.val + 30 - 23) l * tap (fun k l => x3 (ix2 k l)) 23 l := by
  rw [← hp]
  refine (pad_ext (fun s l => x1 (ix2 s l)) (tap (fun k l => x3 (ix2 k l)) 23) _ _ _ ?_ (fun s l => ?_) p l 23 (by omega) _)
  · pointwise [val_main_cst_14]
  · rw [tap, dif_pos (by decide)]
    refine Eq.trans ?_ (prod91 x1 x3 ⟨23, by decide⟩ s l)
    pointwise [val_main_v140, val_main_v139]

/-- The products of tap 22, 22 rows down. -/
theorem tap31_22 (s : Fin 8192) (l : Fin 256) (p : Fin 8222) (hp : p.val = s.val + 30) :
    val_main_v170 (F := Ideal) x1 x3 (ix2 p l)
      = ext (fun s l => x1 (ix2 s l)) (s.val + 30 - 22) l * tap (fun k l => x3 (ix2 k l)) 22 l := by
  rw [← hp]
  refine (pad_ext (fun s l => x1 (ix2 s l)) (tap (fun k l => x3 (ix2 k l)) 22) _ _ _ ?_ (fun s l => ?_) p l 22 (by omega) _)
  · pointwise [val_main_cst_15]
  · rw [tap, dif_pos (by decide)]
    refine Eq.trans ?_ (prod91 x1 x3 ⟨22, by decide⟩ s l)
    pointwise [val_main_v138, val_main_v137]

/-- The products of tap 21, 21 rows down. -/
theorem tap31_21 (s : Fin 8192) (l : Fin 256) (p : Fin 8222) (hp : p.val = s.val + 30) :
    val_main_v172 (F := Ideal) x1 x3 (ix2 p l)
      = ext (fun s l => x1 (ix2 s l)) (s.val + 30 - 21) l * tap (fun k l => x3 (ix2 k l)) 21 l := by
  rw [← hp]
  refine (pad_ext (fun s l => x1 (ix2 s l)) (tap (fun k l => x3 (ix2 k l)) 21) _ _ _ ?_ (fun s l => ?_) p l 21 (by omega) _)
  · pointwise [val_main_cst_16]
  · rw [tap, dif_pos (by decide)]
    refine Eq.trans ?_ (prod91 x1 x3 ⟨21, by decide⟩ s l)
    pointwise [val_main_v136, val_main_v135]

/-- The products of tap 20, 20 rows down. -/
theorem tap31_20 (s : Fin 8192) (l : Fin 256) (p : Fin 8222) (hp : p.val = s.val + 30) :
    val_main_v174 (F := Ideal) x1 x3 (ix2 p l)
      = ext (fun s l => x1 (ix2 s l)) (s.val + 30 - 20) l * tap (fun k l => x3 (ix2 k l)) 20 l := by
  rw [← hp]
  refine (pad_ext (fun s l => x1 (ix2 s l)) (tap (fun k l => x3 (ix2 k l)) 20) _ _ _ ?_ (fun s l => ?_) p l 20 (by omega) _)
  · pointwise [val_main_cst_17]
  · rw [tap, dif_pos (by decide)]
    refine Eq.trans ?_ (prod91 x1 x3 ⟨20, by decide⟩ s l)
    pointwise [val_main_v134, val_main_v133]

/-- The products of tap 19, 19 rows down. -/
theorem tap31_19 (s : Fin 8192) (l : Fin 256) (p : Fin 8222) (hp : p.val = s.val + 30) :
    val_main_v176 (F := Ideal) x1 x3 (ix2 p l)
      = ext (fun s l => x1 (ix2 s l)) (s.val + 30 - 19) l * tap (fun k l => x3 (ix2 k l)) 19 l := by
  rw [← hp]
  refine (pad_ext (fun s l => x1 (ix2 s l)) (tap (fun k l => x3 (ix2 k l)) 19) _ _ _ ?_ (fun s l => ?_) p l 19 (by omega) _)
  · pointwise [val_main_cst_18]
  · rw [tap, dif_pos (by decide)]
    refine Eq.trans ?_ (prod91 x1 x3 ⟨19, by decide⟩ s l)
    pointwise [val_main_v132, val_main_v131]

/-- The products of tap 18, 18 rows down. -/
theorem tap31_18 (s : Fin 8192) (l : Fin 256) (p : Fin 8222) (hp : p.val = s.val + 30) :
    val_main_v178 (F := Ideal) x1 x3 (ix2 p l)
      = ext (fun s l => x1 (ix2 s l)) (s.val + 30 - 18) l * tap (fun k l => x3 (ix2 k l)) 18 l := by
  rw [← hp]
  refine (pad_ext (fun s l => x1 (ix2 s l)) (tap (fun k l => x3 (ix2 k l)) 18) _ _ _ ?_ (fun s l => ?_) p l 18 (by omega) _)
  · pointwise [val_main_cst_19]
  · rw [tap, dif_pos (by decide)]
    refine Eq.trans ?_ (prod91 x1 x3 ⟨18, by decide⟩ s l)
    pointwise [val_main_v130, val_main_v129]

/-- The products of tap 17, 17 rows down. -/
theorem tap31_17 (s : Fin 8192) (l : Fin 256) (p : Fin 8222) (hp : p.val = s.val + 30) :
    val_main_v180 (F := Ideal) x1 x3 (ix2 p l)
      = ext (fun s l => x1 (ix2 s l)) (s.val + 30 - 17) l * tap (fun k l => x3 (ix2 k l)) 17 l := by
  rw [← hp]
  refine (pad_ext (fun s l => x1 (ix2 s l)) (tap (fun k l => x3 (ix2 k l)) 17) _ _ _ ?_ (fun s l => ?_) p l 17 (by omega) _)
  · pointwise [val_main_cst_20]
  · rw [tap, dif_pos (by decide)]
    refine Eq.trans ?_ (prod91 x1 x3 ⟨17, by decide⟩ s l)
    pointwise [val_main_v128, val_main_v127]

/-- The products of tap 16, 16 rows down. -/
theorem tap31_16 (s : Fin 8192) (l : Fin 256) (p : Fin 8222) (hp : p.val = s.val + 30) :
    val_main_v182 (F := Ideal) x1 x3 (ix2 p l)
      = ext (fun s l => x1 (ix2 s l)) (s.val + 30 - 16) l * tap (fun k l => x3 (ix2 k l)) 16 l := by
  rw [← hp]
  refine (pad_ext (fun s l => x1 (ix2 s l)) (tap (fun k l => x3 (ix2 k l)) 16) _ _ _ ?_ (fun s l => ?_) p l 16 (by omega) _)
  · pointwise [val_main_cst_21]
  · rw [tap, dif_pos (by decide)]
    refine Eq.trans ?_ (prod91 x1 x3 ⟨16, by decide⟩ s l)
    pointwise [val_main_v126, val_main_v125]

/-- The products of tap 15, 15 rows down. -/
theorem tap31_15 (s : Fin 8192) (l : Fin 256) (p : Fin 8222) (hp : p.val = s.val + 30) :
    val_main_v184 (F := Ideal) x1 x3 (ix2 p l)
      = ext (fun s l => x1 (ix2 s l)) (s.val + 30 - 15) l * tap (fun k l => x3 (ix2 k l)) 15 l := by
  rw [← hp]
  refine (pad_ext (fun s l => x1 (ix2 s l)) (tap (fun k l => x3 (ix2 k l)) 15) _ _ _ ?_ (fun s l => ?_) p l 15 (by omega) _)
  · pointwise [val_main_cst_22]
  · rw [tap, dif_pos (by decide)]
    refine Eq.trans ?_ (prod91 x1 x3 ⟨15, by decide⟩ s l)
    pointwise [val_main_v124, val_main_v123]

/-- The products of tap 14, 14 rows down. -/
theorem tap31_14 (s : Fin 8192) (l : Fin 256) (p : Fin 8222) (hp : p.val = s.val + 30) :
    val_main_v186 (F := Ideal) x1 x3 (ix2 p l)
      = ext (fun s l => x1 (ix2 s l)) (s.val + 30 - 14) l * tap (fun k l => x3 (ix2 k l)) 14 l := by
  rw [← hp]
  refine (pad_ext (fun s l => x1 (ix2 s l)) (tap (fun k l => x3 (ix2 k l)) 14) _ _ _ ?_ (fun s l => ?_) p l 14 (by omega) _)
  · pointwise [val_main_cst_23]
  · rw [tap, dif_pos (by decide)]
    refine Eq.trans ?_ (prod91 x1 x3 ⟨14, by decide⟩ s l)
    pointwise [val_main_v122, val_main_v121]

/-- The products of tap 13, 13 rows down. -/
theorem tap31_13 (s : Fin 8192) (l : Fin 256) (p : Fin 8222) (hp : p.val = s.val + 30) :
    val_main_v188 (F := Ideal) x1 x3 (ix2 p l)
      = ext (fun s l => x1 (ix2 s l)) (s.val + 30 - 13) l * tap (fun k l => x3 (ix2 k l)) 13 l := by
  rw [← hp]
  refine (pad_ext (fun s l => x1 (ix2 s l)) (tap (fun k l => x3 (ix2 k l)) 13) _ _ _ ?_ (fun s l => ?_) p l 13 (by omega) _)
  · pointwise [val_main_cst_24]
  · rw [tap, dif_pos (by decide)]
    refine Eq.trans ?_ (prod91 x1 x3 ⟨13, by decide⟩ s l)
    pointwise [val_main_v120, val_main_v119]

/-- The products of tap 12, 12 rows down. -/
theorem tap31_12 (s : Fin 8192) (l : Fin 256) (p : Fin 8222) (hp : p.val = s.val + 30) :
    val_main_v190 (F := Ideal) x1 x3 (ix2 p l)
      = ext (fun s l => x1 (ix2 s l)) (s.val + 30 - 12) l * tap (fun k l => x3 (ix2 k l)) 12 l := by
  rw [← hp]
  refine (pad_ext (fun s l => x1 (ix2 s l)) (tap (fun k l => x3 (ix2 k l)) 12) _ _ _ ?_ (fun s l => ?_) p l 12 (by omega) _)
  · pointwise [val_main_cst_25]
  · rw [tap, dif_pos (by decide)]
    refine Eq.trans ?_ (prod91 x1 x3 ⟨12, by decide⟩ s l)
    pointwise [val_main_v118, val_main_v117]

/-- The products of tap 11, 11 rows down. -/
theorem tap31_11 (s : Fin 8192) (l : Fin 256) (p : Fin 8222) (hp : p.val = s.val + 30) :
    val_main_v192 (F := Ideal) x1 x3 (ix2 p l)
      = ext (fun s l => x1 (ix2 s l)) (s.val + 30 - 11) l * tap (fun k l => x3 (ix2 k l)) 11 l := by
  rw [← hp]
  refine (pad_ext (fun s l => x1 (ix2 s l)) (tap (fun k l => x3 (ix2 k l)) 11) _ _ _ ?_ (fun s l => ?_) p l 11 (by omega) _)
  · pointwise [val_main_cst_26]
  · rw [tap, dif_pos (by decide)]
    refine Eq.trans ?_ (prod91 x1 x3 ⟨11, by decide⟩ s l)
    pointwise [val_main_v116, val_main_v115]

/-- The products of tap 10, 10 rows down. -/
theorem tap31_10 (s : Fin 8192) (l : Fin 256) (p : Fin 8222) (hp : p.val = s.val + 30) :
    val_main_v194 (F := Ideal) x1 x3 (ix2 p l)
      = ext (fun s l => x1 (ix2 s l)) (s.val + 30 - 10) l * tap (fun k l => x3 (ix2 k l)) 10 l := by
  rw [← hp]
  refine (pad_ext (fun s l => x1 (ix2 s l)) (tap (fun k l => x3 (ix2 k l)) 10) _ _ _ ?_ (fun s l => ?_) p l 10 (by omega) _)
  · pointwise [val_main_cst_27]
  · rw [tap, dif_pos (by decide)]
    refine Eq.trans ?_ (prod91 x1 x3 ⟨10, by decide⟩ s l)
    pointwise [val_main_v114, val_main_v113]

/-- The products of tap 9, 9 rows down. -/
theorem tap31_9 (s : Fin 8192) (l : Fin 256) (p : Fin 8222) (hp : p.val = s.val + 30) :
    val_main_v196 (F := Ideal) x1 x3 (ix2 p l)
      = ext (fun s l => x1 (ix2 s l)) (s.val + 30 - 9) l * tap (fun k l => x3 (ix2 k l)) 9 l := by
  rw [← hp]
  refine (pad_ext (fun s l => x1 (ix2 s l)) (tap (fun k l => x3 (ix2 k l)) 9) _ _ _ ?_ (fun s l => ?_) p l 9 (by omega) _)
  · pointwise [val_main_cst_28]
  · rw [tap, dif_pos (by decide)]
    refine Eq.trans ?_ (prod91 x1 x3 ⟨9, by decide⟩ s l)
    pointwise [val_main_v112, val_main_v111]

/-- The products of tap 8, 8 rows down. -/
theorem tap31_8 (s : Fin 8192) (l : Fin 256) (p : Fin 8222) (hp : p.val = s.val + 30) :
    val_main_v198 (F := Ideal) x1 x3 (ix2 p l)
      = ext (fun s l => x1 (ix2 s l)) (s.val + 30 - 8) l * tap (fun k l => x3 (ix2 k l)) 8 l := by
  rw [← hp]
  refine (pad_ext (fun s l => x1 (ix2 s l)) (tap (fun k l => x3 (ix2 k l)) 8) _ _ _ ?_ (fun s l => ?_) p l 8 (by omega) _)
  · pointwise [val_main_cst_29]
  · rw [tap, dif_pos (by decide)]
    refine Eq.trans ?_ (prod91 x1 x3 ⟨8, by decide⟩ s l)
    pointwise [val_main_v110, val_main_v109]

/-- The products of tap 7, 7 rows down. -/
theorem tap31_7 (s : Fin 8192) (l : Fin 256) (p : Fin 8222) (hp : p.val = s.val + 30) :
    val_main_v200 (F := Ideal) x1 x3 (ix2 p l)
      = ext (fun s l => x1 (ix2 s l)) (s.val + 30 - 7) l * tap (fun k l => x3 (ix2 k l)) 7 l := by
  rw [← hp]
  refine (pad_ext (fun s l => x1 (ix2 s l)) (tap (fun k l => x3 (ix2 k l)) 7) _ _ _ ?_ (fun s l => ?_) p l 7 (by omega) _)
  · pointwise [val_main_cst_30]
  · rw [tap, dif_pos (by decide)]
    refine Eq.trans ?_ (prod91 x1 x3 ⟨7, by decide⟩ s l)
    pointwise [val_main_v108, val_main_v107]

/-- The products of tap 6, 6 rows down. -/
theorem tap31_6 (s : Fin 8192) (l : Fin 256) (p : Fin 8222) (hp : p.val = s.val + 30) :
    val_main_v202 (F := Ideal) x1 x3 (ix2 p l)
      = ext (fun s l => x1 (ix2 s l)) (s.val + 30 - 6) l * tap (fun k l => x3 (ix2 k l)) 6 l := by
  rw [← hp]
  refine (pad_ext (fun s l => x1 (ix2 s l)) (tap (fun k l => x3 (ix2 k l)) 6) _ _ _ ?_ (fun s l => ?_) p l 6 (by omega) _)
  · pointwise [val_main_cst_31]
  · rw [tap, dif_pos (by decide)]
    refine Eq.trans ?_ (prod91 x1 x3 ⟨6, by decide⟩ s l)
    pointwise [val_main_v106, val_main_v105]

/-- The products of tap 5, 5 rows down. -/
theorem tap31_5 (s : Fin 8192) (l : Fin 256) (p : Fin 8222) (hp : p.val = s.val + 30) :
    val_main_v204 (F := Ideal) x1 x3 (ix2 p l)
      = ext (fun s l => x1 (ix2 s l)) (s.val + 30 - 5) l * tap (fun k l => x3 (ix2 k l)) 5 l := by
  rw [← hp]
  refine (pad_ext (fun s l => x1 (ix2 s l)) (tap (fun k l => x3 (ix2 k l)) 5) _ _ _ ?_ (fun s l => ?_) p l 5 (by omega) _)
  · pointwise [val_main_cst_32]
  · rw [tap, dif_pos (by decide)]
    refine Eq.trans ?_ (prod91 x1 x3 ⟨5, by decide⟩ s l)
    pointwise [val_main_v104, val_main_v103]

/-- The products of tap 4, 4 rows down. -/
theorem tap31_4 (s : Fin 8192) (l : Fin 256) (p : Fin 8222) (hp : p.val = s.val + 30) :
    val_main_v206 (F := Ideal) x1 x3 (ix2 p l)
      = ext (fun s l => x1 (ix2 s l)) (s.val + 30 - 4) l * tap (fun k l => x3 (ix2 k l)) 4 l := by
  rw [← hp]
  refine (pad_ext (fun s l => x1 (ix2 s l)) (tap (fun k l => x3 (ix2 k l)) 4) _ _ _ ?_ (fun s l => ?_) p l 4 (by omega) _)
  · pointwise [val_main_cst_33]
  · rw [tap, dif_pos (by decide)]
    refine Eq.trans ?_ (prod91 x1 x3 ⟨4, by decide⟩ s l)
    pointwise [val_main_v102, val_main_v101]

/-- The products of tap 3, 3 rows down. -/
theorem tap31_3 (s : Fin 8192) (l : Fin 256) (p : Fin 8222) (hp : p.val = s.val + 30) :
    val_main_v208 (F := Ideal) x1 x3 (ix2 p l)
      = ext (fun s l => x1 (ix2 s l)) (s.val + 30 - 3) l * tap (fun k l => x3 (ix2 k l)) 3 l := by
  rw [← hp]
  refine (pad_ext (fun s l => x1 (ix2 s l)) (tap (fun k l => x3 (ix2 k l)) 3) _ _ _ ?_ (fun s l => ?_) p l 3 (by omega) _)
  · pointwise [val_main_cst_34]
  · rw [tap, dif_pos (by decide)]
    refine Eq.trans ?_ (prod91 x1 x3 ⟨3, by decide⟩ s l)
    pointwise [val_main_v100, val_main_v99]

/-- The products of tap 2, 2 rows down. -/
theorem tap31_2 (s : Fin 8192) (l : Fin 256) (p : Fin 8222) (hp : p.val = s.val + 30) :
    val_main_v210 (F := Ideal) x1 x3 (ix2 p l)
      = ext (fun s l => x1 (ix2 s l)) (s.val + 30 - 2) l * tap (fun k l => x3 (ix2 k l)) 2 l := by
  rw [← hp]
  refine (pad_ext (fun s l => x1 (ix2 s l)) (tap (fun k l => x3 (ix2 k l)) 2) _ _ _ ?_ (fun s l => ?_) p l 2 (by omega) _)
  · pointwise [val_main_cst_35]
  · rw [tap, dif_pos (by decide)]
    refine Eq.trans ?_ (prod91 x1 x3 ⟨2, by decide⟩ s l)
    pointwise [val_main_v98, val_main_v97]

/-- The products of tap 1, 1 rows down. -/
theorem tap31_1 (s : Fin 8192) (l : Fin 256) (p : Fin 8222) (hp : p.val = s.val + 30) :
    val_main_v212 (F := Ideal) x1 x3 (ix2 p l)
      = ext (fun s l => x1 (ix2 s l)) (s.val + 30 - 1) l * tap (fun k l => x3 (ix2 k l)) 1 l := by
  rw [← hp]
  refine (pad_ext (fun s l => x1 (ix2 s l)) (tap (fun k l => x3 (ix2 k l)) 1) _ _ _ ?_ (fun s l => ?_) p l 1 (by omega) _)
  · pointwise [val_main_cst_36]
  · rw [tap, dif_pos (by decide)]
    refine Eq.trans ?_ (prod91 x1 x3 ⟨1, by decide⟩ s l)
    pointwise [val_main_v96, val_main_v95]

/-- The products of tap 0, 0 rows down. -/
theorem tap31_0 (s : Fin 8192) (l : Fin 256) (p : Fin 8222) (hp : p.val = s.val + 30) :
    val_main_v214 (F := Ideal) x1 x3 (ix2 p l)
      = ext (fun s l => x1 (ix2 s l)) (s.val + 30 - 0) l * tap (fun k l => x3 (ix2 k l)) 0 l := by
  rw [← hp]
  refine (pad_ext (fun s l => x1 (ix2 s l)) (tap (fun k l => x3 (ix2 k l)) 0) _ _ _ ?_ (fun s l => ?_) p l 0 (by omega) _)
  · pointwise [val_main_cst_37]
  · rw [tap, dif_pos (by decide)]
    refine Eq.trans ?_ (prod91 x1 x3 ⟨0, by decide⟩ s l)
    pointwise [val_main_v94, val_main_v93]

/-- The gradient of the convolution of 31 taps in its input: the taps' products added up, last tap first. -/
theorem tap31_sum (s : Fin 8192) (l : Fin 256) (p : Fin 8222) (hp : p.val = s.val + 30) :
    val_main_v215 (F := Ideal) x1 x3 (ix2 p l) = dIn (fun s l => x1 (ix2 s l)) (fun k l => x3 (ix2 k l)) s.val l := by
  rw [dIn, ← Finset.sum_range_reflect]
  simp only [Finset.sum_range_succ, Finset.sum_range_zero, zero_add, Nat.reduceSub, Nat.reduceAdd]
  rw [val_main_v215_apply, val_main_v213_apply, val_main_v211_apply, val_main_v209_apply, val_main_v207_apply, val_main_v205_apply, val_main_v203_apply, val_main_v201_apply, val_main_v199_apply, val_main_v197_apply, val_main_v195_apply, val_main_v193_apply, val_main_v191_apply, val_main_v189_apply, val_main_v187_apply, val_main_v185_apply, val_main_v183_apply, val_main_v181_apply, val_main_v179_apply, val_main_v177_apply, val_main_v175_apply, val_main_v173_apply, val_main_v171_apply, val_main_v169_apply, val_main_v167_apply, val_main_v165_apply, val_main_v163_apply, val_main_v161_apply, val_main_v159_apply, val_main_v157_apply]
  rw [tap31_0 x1 x3 s l p hp, tap31_1 x1 x3 s l p hp, tap31_2 x1 x3 s l p hp, tap31_3 x1 x3 s l p hp, tap31_4 x1 x3 s l p hp, tap31_5 x1 x3 s l p hp, tap31_6 x1 x3 s l p hp, tap31_7 x1 x3 s l p hp, tap31_8 x1 x3 s l p hp, tap31_9 x1 x3 s l p hp, tap31_10 x1 x3 s l p hp, tap31_11 x1 x3 s l p hp, tap31_12 x1 x3 s l p hp, tap31_13 x1 x3 s l p hp, tap31_14 x1 x3 s l p hp, tap31_15 x1 x3 s l p hp, tap31_16 x1 x3 s l p hp, tap31_17 x1 x3 s l p hp, tap31_18 x1 x3 s l p hp, tap31_19 x1 x3 s l p hp, tap31_20 x1 x3 s l p hp, tap31_21 x1 x3 s l p hp, tap31_22 x1 x3 s l p hp, tap31_23 x1 x3 s l p hp, tap31_24 x1 x3 s l p hp, tap31_25 x1 x3 s l p hp, tap31_26 x1 x3 s l p hp, tap31_27 x1 x3 s l p hp, tap31_28 x1 x3 s l p hp, tap31_29 x1 x3 s l p hp, tap31_30 x1 x3 s l p hp]
  rfl

/-- The products of tap 3, 3 rows down. -/
theorem tap4_3 (s : Fin 8192) (l : Fin 256) (p : Fin 8195) (hp : p.val = s.val + 3) :
    val_main_v252 (F := Ideal) x2 x4 (ix2 p l)
      = ext (fun s l => x2 (ix2 s l)) (s.val + 3 - 3) l * tap (fun k l => x4 (ix2 k l)) 3 l := by
  rw [← hp]
  refine (pad_ext (fun s l => x2 (ix2 s l)) (tap (fun k l => x4 (ix2 k l)) 3) _ _ _ ?_ (fun s l => ?_) p l 3 (by omega) _)
  · pointwise [val_main_cst_43]
  · rw [tap, dif_pos (by decide)]
    refine Eq.trans ?_ (prod242 x2 x4 ⟨3, by decide⟩ s l)
    pointwise [val_main_v251, val_main_v250]

/-- The products of tap 2, 2 rows down. -/
theorem tap4_2 (s : Fin 8192) (l : Fin 256) (p : Fin 8195) (hp : p.val = s.val + 3) :
    val_main_v253 (F := Ideal) x2 x4 (ix2 p l)
      = ext (fun s l => x2 (ix2 s l)) (s.val + 3 - 2) l * tap (fun k l => x4 (ix2 k l)) 2 l := by
  rw [← hp]
  refine (pad_ext (fun s l => x2 (ix2 s l)) (tap (fun k l => x4 (ix2 k l)) 2) _ _ _ ?_ (fun s l => ?_) p l 2 (by omega) _)
  · pointwise [val_main_cst_44]
  · rw [tap, dif_pos (by decide)]
    refine Eq.trans ?_ (prod242 x2 x4 ⟨2, by decide⟩ s l)
    pointwise [val_main_v249, val_main_v248]

/-- The products of tap 1, 1 rows down. -/
theorem tap4_1 (s : Fin 8192) (l : Fin 256) (p : Fin 8195) (hp : p.val = s.val + 3) :
    val_main_v255 (F := Ideal) x2 x4 (ix2 p l)
      = ext (fun s l => x2 (ix2 s l)) (s.val + 3 - 1) l * tap (fun k l => x4 (ix2 k l)) 1 l := by
  rw [← hp]
  refine (pad_ext (fun s l => x2 (ix2 s l)) (tap (fun k l => x4 (ix2 k l)) 1) _ _ _ ?_ (fun s l => ?_) p l 1 (by omega) _)
  · pointwise [val_main_cst_45]
  · rw [tap, dif_pos (by decide)]
    refine Eq.trans ?_ (prod242 x2 x4 ⟨1, by decide⟩ s l)
    pointwise [val_main_v247, val_main_v246]

/-- The products of tap 0, 0 rows down. -/
theorem tap4_0 (s : Fin 8192) (l : Fin 256) (p : Fin 8195) (hp : p.val = s.val + 3) :
    val_main_v257 (F := Ideal) x2 x4 (ix2 p l)
      = ext (fun s l => x2 (ix2 s l)) (s.val + 3 - 0) l * tap (fun k l => x4 (ix2 k l)) 0 l := by
  rw [← hp]
  refine (pad_ext (fun s l => x2 (ix2 s l)) (tap (fun k l => x4 (ix2 k l)) 0) _ _ _ ?_ (fun s l => ?_) p l 0 (by omega) _)
  · pointwise [val_main_cst_46]
  · rw [tap, dif_pos (by decide)]
    refine Eq.trans ?_ (prod242 x2 x4 ⟨0, by decide⟩ s l)
    pointwise [val_main_v245, val_main_v244]

/-- The gradient of the convolution of 4 taps in its input: the taps' products added up, last tap first. -/
theorem tap4_sum (s : Fin 8192) (l : Fin 256) (p : Fin 8195) (hp : p.val = s.val + 3) :
    val_main_v258 (F := Ideal) x2 x4 (ix2 p l) = dIn (fun s l => x2 (ix2 s l)) (fun k l => x4 (ix2 k l)) s.val l := by
  rw [dIn, ← Finset.sum_range_reflect]
  simp only [Finset.sum_range_succ, Finset.sum_range_zero, zero_add, Nat.reduceSub, Nat.reduceAdd]
  rw [val_main_v258_apply, val_main_v256_apply, val_main_v254_apply]
  rw [tap4_0 x2 x4 s l p hp, tap4_1 x2 x4 s l p hp, tap4_2 x2 x4 s l p hp, tap4_3 x2 x4 s l p hp]
  rfl

/-- The first result of the plain gradients. -/
theorem res262 (s : Fin 8192) (l : Fin 512) : val_main_v262 (F := Ideal) x0 x1 x3 (ix2 s l)
    = dGlu (fun s l => x0 (ix2 s l)) (fun s l => x1 (ix2 s l)) (fun k l => x3 (ix2 k l)) s l := by
  pointwise [val_main_v262, val_main_v261, val_main_v219, val_main_v220, val_main_v218, val_main_v217, val_main_v12, val_main_v11, val_main_v10, val_main_cst_1]
  unfold dGlu
  split
  · rw [sig, tap31_sum x1 x3 s _ _ (by simp only; omega)]
  · rw [sig, tap31_sum x1 x3 s _ _ (by simp only; omega)]
    rw [show val_main_v1 (F := Ideal) x0 (ix2 s ⟨l.val - 256, by omega⟩) = cval (fun s l => x0 (ix2 s l)) s ⟨l.val - 256, by omega⟩ from by
      unfold cval
      pointwise [val_main_v1, val_main_v0]]
    rw [mul_comm (cval _ _ _), mul_assoc, mul_assoc, mul_assoc]

/-- The second result. -/
theorem res263 (s : Fin 8192) (l : Fin 256) : val_main_v263 (F := Ideal) x2 x4 (ix2 s l)
    = dIn (fun s l => x2 (ix2 s l)) (fun k l => x4 (ix2 k l)) s.val l := by
  pointwise [val_main_v263, val_main_v260]
  exact tap4_sum x2 x4 s l _ (by simp only; omega)

/-- The third result. -/
theorem res264 (k : Fin 32) (l : Fin 256) : val_main_v264 (F := Ideal) x0 x1 (ix2 k l)
    = dTap 31 (fun s l => x1 (ix2 s l)) (cunit fun s l => x0 (ix2 s l)) k.val l := by
  refine (Rows.pad_rows 0 1 (val_main_v92 (F := Ideal) x0 x1) _ _ _ k l).trans ?_
  unfold dTap
  by_cases h : k.val < 31
  · rw [dif_pos ⟨Nat.zero_le _, h⟩, if_pos h]; exact rows92 x0 x1 ⟨k.val, h⟩ l
  · rw [dif_neg fun h' => h h'.2, if_neg h]; exact sitofp_zero (φ := .f32)

/-- The fourth result. -/
theorem res265 (k : Fin 8) (l : Fin 256) : val_main_v265 (F := Ideal) x0 x2 (ix2 k l)
    = dTap 4 (fun s l => x2 (ix2 s l)) (rxin fun s l => x0 (ix2 s l)) k.val l := by
  refine (Rows.pad_rows 0 4 (val_main_v243 (F := Ideal) x0 x2) _ _ _ k l).trans ?_
  unfold dTap
  by_cases h : k.val < 4
  · rw [dif_pos ⟨Nat.zero_le _, h⟩, if_pos h]; exact rows243 x0 x2 ⟨k.val, h⟩ l
  · rw [dif_neg fun h' => h h'.2, if_neg h]; exact sitofp_zero (φ := .f32)

end Cert.ConvGrad.Plain

end
-- ==== Proof.ConvValue.lean ====
/-
  The value claim of the convolutions' backward call: the call and the plain gradients leave the same four arrays.
-/
module

public import proofs.«01_k».proof.Defs
public import proofs.«01_k».proof.Proof.ConvBlocks
public import proofs.«01_k».proof.Proof.ConvRefRead
public import proofs.«01_k».proof.Proof.Gen.ConvIdeal.Value
public import proofs.«01_k».proof.Proof.Gen.ConvRefIdeal

@[expose] public section

noncomputable section

open Idealize.ShloMosaic Idealize.ShloMosaic.TcCoe Idealize.SL.Sem Idealize.ShloMosaic.StableHlo

namespace Cert.ConvGrad

open Cert.ConvRefIdeal Cert.ConvRefIdeal.Read in
/-- The first plain result as a whole array. -/
theorem plain0 (x0 : FVec Ideal S8192x1792 .bf16) (x1 : FVec Ideal S8192x256 .f32) (x3 : FVec Ideal S31x256 .f32) :
    val_main_v262 (F := Ideal) x0 x1 x3 = fun i : S8192x512.Idx => dGlu (fun s l => x0 (ix2 s l)) (fun s l => x1 (ix2 s l)) (fun k l => x3 (ix2 k l)) (i 0) (i 1) :=
  funext fun i => (congrArg _ (eq_ix2 i)).trans (Plain.res262 x0 x1 x3 (i 0) (i 1))

open Cert.ConvRefIdeal Cert.ConvRefIdeal.Read in
/-- The second plain result as a whole array. -/
theorem plain1 (x2 : FVec Ideal S8192x256 .f32) (x4 : FVec Ideal S4x256 .f32) :
    val_main_v263 (F := Ideal) x2 x4 = fun i : S8192x256.Idx => dIn (fun s l => x2 (ix2 s l)) (fun k l => x4 (ix2 k l)) (i 0).val (i 1) :=
  funext fun i => (congrArg _ (eq_ix2 i)).trans (Plain.res263 x2 x4 (i 0) (i 1))

open Cert.ConvRefIdeal Cert.ConvRefIdeal.Read in
/-- The third plain result as a whole array. -/
theorem plain2 (x0 : FVec Ideal S8192x1792 .bf16) (x1 : FVec Ideal S8192x256 .f32) :
    val_main_v264 (F := Ideal) x0 x1 = fun i : S32x256.Idx => dTap 31 (fun s l => x1 (ix2 s l)) (cunit fun s l => x0 (ix2 s l)) (i 0).val (i 1) :=
  funext fun i => (congrArg _ (eq_ix2 i)).trans (Plain.res264 x0 x1 (i 0) (i 1))

open Cert.ConvRefIdeal Cert.ConvRefIdeal.Read in
/-- The fourth plain result as a whole array. -/
theorem plain3 (x0 : FVec Ideal S8192x1792 .bf16) (x2 : FVec Ideal S8192x256 .f32) :
    val_main_v265 (F := Ideal) x0 x2 = fun i : S8x256.Idx => dTap 4 (fun s l => x2 (ix2 s l)) (rxin fun s l => x0 (ix2 s l)) (i 0).val (i 1) :=
  funext fun i => (congrArg _ (eq_ix2 i)).trans (Plain.res265 x0 x2 (i 0) (i 1))

/-- The plain gradients leave their arguments and stop quietly: they use no semaphore. -/
theorem plainFrame : Cert.quiescent_ConvRefIdeal (hConvRefIdeal := Cert.ConvRefIdeal.Gen.facts) := fun m ρ _ =>
  (θ_run _ _ _).mono (fun r h => ⟨fun c => (h c).2.2.2.2, sem_eq_zero_of_no_sems (by decide) r.2⟩) (Cert.ConvRefIdeal.Value.run m ρ)

/-- Over the reals with infinities, the call and the plain gradients of the two convolutions have equal results. -/
theorem algebraic : Cert.algebraic_ConvIdeal_ConvRefIdeal (hConvIdeal := Cert.ConvIdeal.Gen.facts) (hConvRefIdeal := Cert.ConvRefIdeal.Gen.facts) := by
  intro m g m' g' _ hm
  refine ⟨fun c => fun i : Cert.ConvIdeal.S8192x512.Idx => dGlu (zOf m c) (dcOf m c) (cwOf m c) (i 0) (i 1),
    fun c => fun i : Cert.ConvIdeal.S8192x256.Idx => dIn (dxOf m c) (lwOf m c) (i 0).val (i 1),
    fun c => fun i : Cert.ConvIdeal.S32x256.Idx => dTap 31 (dcOf m c) (cunit (zOf m c)) (i 0).val (i 1),
    fun c => fun i : Cert.ConvIdeal.S8x256.Idx => dTap 4 (dxOf m c) (rxin (zOf m c)) (i 0).val (i 1), ?_, ?_⟩
  · refine (θ_run _ _ _).mono (fun r h c => ?_) (Cert.ConvIdeal.Value.run_blocks m g)
    obtain ⟨h0, h1, h2, h3, ha⟩ := h c
    exact ⟨h0.trans (arr12 m c), h1.trans (arr13 m c), h2.trans (arr14 m c), h3.trans (arr15 m c), ha⟩
  · refine (θ_run _ _ _).mono (fun r h c => ?_) (Cert.ConvRefIdeal.Value.run m' g')
    obtain ⟨h0, h1, h2, h3, ha⟩ := h c
    obtain ⟨e0, e1, e2, e3, e4⟩ := hm c
    refine ⟨(h0.trans (Cert.ConvRefIdeal.Read.val_main_v262_eq (launchContents m' c))).trans ?_,
      (h1.trans (Cert.ConvRefIdeal.Read.val_main_v263_eq (launchContents m' c))).trans ?_,
      (h2.trans (Cert.ConvRefIdeal.Read.val_main_v264_eq (launchContents m' c))).trans ?_,
      (h3.trans (Cert.ConvRefIdeal.Read.val_main_v265_eq (launchContents m' c))).trans ?_, ha⟩
    · refine (plain0 _ _ _).trans ?_
      rw [show launchContents m' c _ = _ from e0, show launchContents m' c _ = _ from e1, show launchContents m' c _ = _ from e3]
      rfl
    · refine (plain1 _ _).trans ?_
      rw [show launchContents m' c _ = _ from e2, show launchContents m' c _ = _ from e4]
      rfl
    · refine (plain2 _ _).trans ?_
      rw [show launchContents m' c _ = _ from e0, show launchContents m' c _ = _ from e1]
      rfl
    · refine (plain3 _ _).trans ?_
      rw [show launchContents m' c _ = _ from e0, show launchContents m' c _ = _ from e2]
      rfl

end Cert.ConvGrad

end
-- ==== Proof.Sums.lean ====
/-
  Sums over the blocks of a sequence are sums over the sequence.
-/
module

public import Idealize.ShloMosaic.Lib.Pipeline.ValueKit

@[expose] public section

noncomputable section

open Idealize.ShloMosaic

namespace Cert.Sums

/-- `A` blocks of `B` rows are the `A * B` rows. -/
theorem rows (A B N : ℕ) (hN : N = A * B) (g : ℕ → EReal) :
    ∑ n ∈ Finset.range A, ∑ r : Fin B, g (B * n + r.val) = ∑ s : Fin N, g s.val := by
  subst hN
  rw [Fin.sum_univ_eq_sum_range (fun s => g s) (A * B), Finset.sum_range_mul_split A B g]
  refine Finset.sum_congr rfl fun n _ => ?_
  rw [Fin.sum_univ_eq_sum_range (fun r => g (B * n + r)) B, Nat.mul_comm]

end Cert.Sums

end
-- ==== Proof.Rms.lean ====
/- The backward step of the RMS normalisation, read over the extended reals. With v the mean square of a row plus
   its guard, r = 1/√v and t the gradient that reaches the normalised row, the step is written in two ways: with
   r·r·r and the mean of t·x, or as the derivative of 1/√v, −½·(r/v), times the derivative of the square, x + x.
   The two agree at every extended real: an infinite entry makes r zero, and otherwise every factor besides the
   sum is a real number. -/
module

public import Idealize.ShloMosaic.PureOps.Ideal
public import Idealize.ShloMosaic.PureOps.Ideal.Laws

@[expose] public section

noncomputable section

namespace Cert.Rms

open Idealize.ShloMosaic

/-- The row length, 1024. -/
theorem width_eq : Ideal.ofBits .f32 0x44800000#32 = ((1024 : ℝ) : EReal) := by
  simp [Ideal.ofBits, Ideal.ieee, -EReal.coe_mul]; norm_num

/-- The factor of the derivative of 1/√v, minus one half. -/
theorem half_eq : Ideal.ofBits .f32 0xBF000000#32 = ((-(1 / 2) : ℝ) : EReal) := by
  simp [Ideal.ofBits, Ideal.ieee, -EReal.coe_mul]; norm_num

/-- The guard added to the mean square is a positive real number. -/
theorem guard_pos : ∃ e : ℝ, 0 < e ∧ Ideal.ofBits .f32 0x358637BD#32 = (e : EReal) := by
  refine ⟨_, ?_, by simp [Ideal.ofBits, Ideal.ieee, -EReal.coe_mul]; rfl⟩
  norm_num

/-- The square of an extended real is not negative. -/
theorem sq_nonneg (x : EReal) : 0 ≤ x * x := by
  induction x with
  | bot => simp
  | top => simp
  | coe x => exact_mod_cast mul_self_nonneg x

/-- The same extended real times a real number, twice. -/
theorem twice (S : EReal) (q : ℝ) : S * (q : EReal) + S * (q : EReal) = S * ((q + q : ℝ) : EReal) := by
  induction S with
  | coe S => norm_cast; ring
  | bot =>
    rcases lt_trichotomy q 0 with h | h | h
    · rw [EReal.bot_mul_coe_of_neg h, EReal.bot_mul_coe_of_neg (by linarith)]; simp
    · subst h; simp
    · rw [EReal.bot_mul_coe_of_pos h, EReal.bot_mul_coe_of_pos (by linarith)]; simp
  | top =>
    rcases lt_trichotomy q 0 with h | h | h
    · rw [EReal.top_mul_coe_of_neg h, EReal.top_mul_coe_of_neg (by linarith)]; simp
    · subst h; simp
    · rw [EReal.top_mul_coe_of_pos h, EReal.top_mul_coe_of_pos (by linarith)]; simp

/-- A sum of real numbers, among the extended reals. -/
theorem coe_sum {n : Nat} (f : Fin n → ℝ) : ((∑ k, f k : ℝ) : EReal) = ∑ k, (f k : EReal) := by
  induction n with
  | zero => simp
  | succ n ih => rw [Fin.sum_univ_succ, Fin.sum_univ_succ, EReal.coe_add, ih]

/-- One over the root of the guarded mean square of a row. -/
def rs {n : Nat} (x : Fin n → EReal) : EReal :=
  Ideal.rsqrt (Ideal.div (∑ k, x k * x k) (Ideal.ofBits .f32 0x44800000#32) + Ideal.ofBits .f32 0x358637BD#32)

/-- The guarded mean square of a row. -/
def ms {n : Nat} (x : Fin n → EReal) : EReal :=
  Ideal.div (∑ k, x k * x k) (Ideal.ofBits .f32 0x44800000#32) + Ideal.ofBits .f32 0x358637BD#32

/-- A sum of squares with an infinite entry is infinite. -/
theorem sum_top {n : Nat} (x : Fin n → EReal) (k : Fin n) (h : x k = ⊤ ∨ x k = ⊥) : (∑ k, x k * x k) = ⊤ := by
  have hk : x k * x k = ⊤ := by rcases h with h | h <;> rw [h] <;> rfl
  refine top_le_iff.mp ?_
  rw [← hk]
  exact Finset.single_le_sum (f := fun k => x k * x k) (fun i _ => sq_nonneg (x i)) (Finset.mem_univ k)

/-- Either an entry of the row is infinite and the mean square with it, or all of the row is real and the guarded mean
    square is a positive real. -/
theorem ms_cases {n : Nat} (x : Fin n → EReal) :
    ms x = ⊤ ∨ ((∀ k, ∃ a : ℝ, x k = (a : EReal)) ∧ ∃ v : ℝ, 0 < v ∧ ms x = (v : EReal)) := by
  obtain ⟨e, he, hee⟩ := guard_pos
  by_cases h : ∃ k, x k = ⊤ ∨ x k = ⊥
  · obtain ⟨k, hk⟩ := h
    left
    rw [ms, sum_top x k hk, hee, width_eq, Ideal.div_coe (by norm_num),
      EReal.top_mul_coe_of_pos (by norm_num)]
    rfl
  · right
    have hr : ∀ k, ∃ a : ℝ, x k = (a : EReal) := fun k => by
      have h1 : x k ≠ ⊤ := fun h' => h ⟨k, .inl h'⟩
      have h2 : x k ≠ ⊥ := fun h' => h ⟨k, .inr h'⟩
      exact ⟨(x k).toReal, (EReal.coe_toReal h1 h2).symm⟩
    refine ⟨hr, ?_⟩
    choose a ha using hr
    refine ⟨(∑ k, a k * a k) * (1 / 1024) + e, ?_, ?_⟩
    · have : 0 ≤ ∑ k, a k * a k := Finset.sum_nonneg fun k _ => mul_self_nonneg _
      positivity
    · have : (∑ k, x k * x k) = ((∑ k, a k * a k : ℝ) : EReal) := by
        rw [coe_sum]
        exact Finset.sum_congr rfl fun k _ => by rw [ha k, EReal.coe_mul]
      rw [ms, this, hee, width_eq, Ideal.div_coe (by norm_num)]
      norm_cast

/-- The two spellings of the normalisation's backward step agree, whatever the gradient's row sum S is. -/
theorem back {n : Nat} (x : Fin n → EReal) (l : Fin n) (t S dh : EReal) :
    dh + (rs x * t - x l * (rs x * rs x * rs x) * Ideal.div S (Ideal.ofBits .f32 0x44800000#32))
      = (dh + t * rs x
          + x l * Ideal.div (S * (Ideal.ofBits .f32 0xBF000000#32 * Ideal.div (rs x) (ms x)))
              (Ideal.ofBits .f32 0x44800000#32))
        + Ideal.div (S * (Ideal.ofBits .f32 0xBF000000#32 * Ideal.div (rs x) (ms x)))
              (Ideal.ofBits .f32 0x44800000#32) * x l := by
  have hrs : rs x = Ideal.rsqrt (ms x) := rfl
  rw [width_eq, half_eq, Ideal.div_coe (by norm_num), Ideal.div_coe (by norm_num)]
  rcases ms_cases x with h | ⟨hx, v, hv, h⟩
  · rw [hrs, h, Ideal.rsqrt_top]
    simp [Ideal.div]
  · obtain ⟨a, ha⟩ := hx l
    have hs : (√v) ≠ 0 := (Real.sqrt_pos.mpr hv).ne'
    have hr : rs x = (((√v)⁻¹ : ℝ) : EReal) := by
      rw [hrs, h, Ideal.rsqrt_coe, if_neg (not_lt.mpr hv.le), if_neg hv.ne']
    rw [hr, h, ha, Ideal.div_coe hv.ne']
    have hvv : v = √v * √v := (Real.mul_self_sqrt hv.le).symm
    generalize √v = w at hs hvv
    subst hvv
    have e1 : (a : EReal) * (((w⁻¹ : ℝ) : EReal) * ((w⁻¹ : ℝ) : EReal) * ((w⁻¹ : ℝ) : EReal)) * (S * ((1 / 1024 : ℝ) : EReal))
        = S * ((a * (w⁻¹ * w⁻¹ * w⁻¹) * (1 / 1024) : ℝ) : EReal) := by
      push_cast; ac_rfl
    have e2 : (a : EReal) * (S * (((-(1 / 2) : ℝ) : EReal) * (((w⁻¹ : ℝ) : EReal) * ((1 / (w * w) : ℝ) : EReal))) * ((1 / 1024 : ℝ) : EReal))
        = S * ((a * (-(1 / 2) * (w⁻¹ * (1 / (w * w)))) * (1 / 1024) : ℝ) : EReal) := by
      rw [EReal.coe_mul, EReal.coe_mul a, EReal.coe_mul (-(1/2)), EReal.coe_mul w⁻¹]; ac_rfl
    rw [e1, mul_comm _ (a : EReal), e2, sub_eq_add_neg, ← mul_neg, ← EReal.coe_neg, mul_comm t, add_assoc (dh + _), twice, add_assoc]
    congr 4
    field_simp
    ring

/-! The gradients of the normalisation at an index, of the gradient `dh` that passes it by, the gradient `dhn` in the
  normalised rows, the rows `x` and the scale `g`. -/

/-- The gradient in the rows. -/
def dIn {N : ℕ} (dh dhn x : Fin N → Fin 1024 → EReal) (g : Fin 1024 → EReal) (s : Fin N) (i : Fin 1024) : EReal :=
  dh s i + (rs (x s) * (dhn s i * g i) - x s i * (rs (x s) * rs (x s) * rs (x s))
    * Ideal.div (∑ k : Fin 1024, dhn s k * g k * x s k) (Ideal.ofBits .f32 0x44800000#32))

/-- The gradient of the scale. -/
def dG {N : ℕ} (dhn x : Fin N → Fin 1024 → EReal) (i : Fin 1024) : EReal := ∑ s : Fin N, dhn s i * x s i * rs (x s)

end Cert.Rms

end
-- ==== Proof.MlpActValue.lean ====
/-
  The feed-forward layer's activation gradients: each grid point opened, the three results after the run at an index, the
  plain gradients read at an index, and the value claim.
-/
module

public import proofs.«01_k».proof.Defs
public import proofs.«01_k».proof.Proof.Sums
public import proofs.«01_k».proof.Proof.Rms
public import proofs.«01_k».proof.Proof.Gen.MlpActIdeal.Value
public import proofs.«01_k».proof.Proof.Gen.MlpActRefIdeal
public import proofs.«01_k».proof.Proof.Gen.MlpActRefIdeal.Read
public import Idealize.ShloMosaic.Lib.Pipeline.ValueKit
public import Idealize.ShloMosaic.Lib.Pointwise
public import Idealize.ShloMosaic.Lib.KernelVsHost
public import Idealize.ShloMosaic.Lib.IdealHost

@[expose] public section

set_option maxRecDepth 16384

noncomputable section

open Idealize.ShloMosaic Idealize.ShloMosaic.TcCoe Idealize.SL.Sem Idealize.ShloMosaic.StableHlo

namespace Cert.MlpActGrad

open Cert.MlpActIdeal Cert.MlpActIdeal.Gen Cert.Rms

variable (m : (l : Loc nD τ sig) → Buf (Elt Ideal) l)

/-- The derivative of the squared positive part, twice the positive part. -/
def slope (u : EReal) : EReal := Ideal.ofBits .f32 0x40000000#32 * max u 0

/-! The three results at an index, of the gradient `dh` behind the layer, the hidden layer `up`, the activations `x` in front
  of the layer, the norm's scale `g` and the two weights. -/

/-- The gradient in the hidden layer. -/
def dU {N J : ℕ} (dh : Fin N → Fin 1024 → EReal) (up : Fin N → Fin J → EReal) (wd : Fin J → Fin 1024 → EReal) (s : Fin N) (j : Fin J) : EReal :=
  (∑ k : Fin 1024, dh s k * wd j k) * slope (up s j)

/-- The gradient in the normalised activations. -/
def dHn {N J : ℕ} (du : Fin N → Fin J → EReal) (wu : Fin 1024 → Fin J → EReal) (s : Fin N) (i : Fin 1024) : EReal :=
  ∑ j : Fin J, du s j * wu i j

/-! The stored values at an index. -/

/-- The first chunk of the hidden layer's gradient. -/
theorem du0_apply (d : FVec Ideal S512x1024 .f32) (w : FVec Ideal S1x1024x1024 .bf16) (u : FVec Ideal S512x1024 .bf16) (r : Fin 512) (j : Fin 1024) :
    k0_pay5 (F := Ideal) d w u (ix2 r j) = (∑ k, d (ix2 r k) * w (ix3 0 j k)) * slope (u (ix2 r j)) := by
  pointwise [k0_pay5, k0_pay4]
  rfl

/-- The second chunk. -/
theorem du1_apply (d : FVec Ideal S512x1024 .f32) (w : FVec Ideal S1x1024x1024 .bf16) (u : FVec Ideal S512x1024 .bf16) (r : Fin 512) (j : Fin 1024) :
    k0_pay9 (F := Ideal) (k0_pay7 d w) (k0_pay8 u) (ix2 r j) = (∑ k, d (ix2 r k) * w (ix3 0 j k)) * slope (u (ix2 r j)) := by
  pointwise [k0_pay7, k0_pay8, k0_pay9, k0_pay4]
  rfl

/-- The third chunk. -/
theorem du2_apply (d : FVec Ideal S512x1024 .f32) (w : FVec Ideal S1x1024x1024 .bf16) (u : FVec Ideal S512x1024 .bf16) (r : Fin 512) (j : Fin 1024) :
    k0_pay10 (F := Ideal) (k0_pay4 d) w u (ix2 r j) = (∑ k, d (ix2 r k) * w (ix3 0 j k)) * slope (u (ix2 r j)) := by
  pointwise [k0_pay10, k0_pay4]
  rfl

/-- The fourth chunk. -/
theorem du3_apply (d : FVec Ideal S512x1024 .f32) (w : FVec Ideal S1x1024x1024 .bf16) (u : FVec Ideal S512x1024 .bf16) (r : Fin 512) (j : Fin 1024) :
    k0_pay14 (F := Ideal) (k0_pay12 (k0_pay4 d) w) (k0_pay13 u) (ix2 r j) = (∑ k, d (ix2 r k) * w (ix3 0 j k)) * slope (u (ix2 r j)) := by
  pointwise [k0_pay14, k0_pay12, k0_pay13, k0_pay4]
  rfl

/-- What the first chunk gives the normalised activations' gradient. -/
theorem hn0_apply (d : FVec Ideal S512x1024 .f32) (w v : FVec Ideal S1x1024x1024 .bf16) (u : FVec Ideal S512x1024 .bf16) (r : Fin 512) (i : Fin 1024) :
    k0_pay6 (F := Ideal) d w u v (ix2 r i)
      = ∑ j, (∑ k, d (ix2 r k) * w (ix3 0 j k)) * slope (u (ix2 r j)) * v (ix3 0 i j) := by
  pointwise [k0_pay6, k0_pay4, k0_pay5]
  rfl

/-- What the second and third chunks add to it. -/
theorem hn2_apply (d a : FVec Ideal S512x1024 .f32) (w1 v1 w2 v2 : FVec Ideal S1x1024x1024 .bf16) (u1 u2 : FVec Ideal S512x1024 .bf16)
    (r : Fin 512) (i : Fin 1024) :
    k0_pay11 (F := Ideal) (k0_pay4 d) a (k0_pay7 d w1) (k0_pay8 u1) v1 w2 u2 v2 (ix2 r i)
      = a (ix2 r i) + (∑ j, (∑ k, d (ix2 r k) * w1 (ix3 0 j k)) * slope (u1 (ix2 r j)) * v1 (ix3 0 i j))
        + ∑ j, (∑ k, d (ix2 r k) * w2 (ix3 0 j k)) * slope (u2 (ix2 r j)) * v2 (ix3 0 i j) := by
  pointwise [k0_pay11, k0_pay7, k0_pay8, k0_pay4, k0_pay9, k0_pay10]
  rfl

/-- What the last chunk adds to it. -/
theorem hn3_apply (d a : FVec Ideal S512x1024 .f32) (w v : FVec Ideal S1x1024x1024 .bf16) (u : FVec Ideal S512x1024 .bf16) (r : Fin 512) (i : Fin 1024) :
    k0_pay15 (F := Ideal) a (k0_pay12 (k0_pay4 d) w) (k0_pay13 u) v (ix2 r i)
      = a (ix2 r i) + ∑ j, (∑ k, d (ix2 r k) * w (ix3 0 j k)) * slope (u (ix2 r j)) * v (ix3 0 i j) := by
  pointwise [k0_pay15, k0_pay14, k0_pay12, k0_pay13, k0_pay4]
  rfl

/-- The gradient in front of the layer, of the normalised activations' gradient `b`. -/
theorem in_apply (d a x b f : FVec Ideal S512x1024 .f32) (g : FVec Ideal S1x1024 .f32) (v : FVec Ideal S1x1024x1024 .bf16) (r : Fin 512) (i : Fin 1024) :
    k0_pay1 (F := Ideal) d (k0_pay17 a b f v x g) (ix2 r i)
      = dIn (fun r k => d (ix2 r k)) (fun r k => k0_pay15 a b f v (ix2 r k)) (fun r k => x (ix2 r k)) (fun k => g (ix2 0 k)) r i := by
  pointwise [k0_pay1, k0_pay17, k0_pay16]
  rfl

/-- What a block adds to the gradient of the norm's scale. -/
theorem g_apply (o : FVec Ideal S1x1024 .f32) (a x b f : FVec Ideal S512x1024 .f32) (v : FVec Ideal S1x1024x1024 .bf16) (i : Fin 1024) :
    k0_pay2 (F := Ideal) (k0_pay18 a b f v x) o (ix2 0 i)
      = o (ix2 0 i) + dG (fun r k => k0_pay15 a b f v (ix2 r k)) (fun r k => x (ix2 r k)) i := by
  pointwise [k0_pay2, k0_pay18, k0_pay16]
  rfl

/-! The windows' blocks. -/

/-- Where each window's block lies at point `t`. -/
theorem idx : ∀ t : Fin grid0.N, win0_0.index t = ![t.val, 0] ∧ win0_1.index t = ![t.val, 0]
    ∧ win0_2.index t = ![t.val, 0] ∧ win0_3.index t = ![0, 0] ∧ win0_4.index t = ![0, 0, 0] ∧ win0_5.index t = ![0, 0, 0]
    ∧ win0_6.index t = ![t.val, 0] ∧ win0_7.index t = ![t.val, 0] ∧ win0_8.index t = ![0, 0] := by decide +kernel

/-- The gradient behind the layer. -/
def dhOf (c : Dev nD) (s : Fin 8192) (k : Fin 1024) : EReal := (m ((c : Thread nD τ).loc main_arg4) : FVec Ideal S8192x1024 .f32) (ix2 s k)
/-- The activations in front of the layer. -/
def xOf (c : Dev nD) (s : Fin 8192) (k : Fin 1024) : EReal := (m ((c : Thread nD τ).loc main_arg0) : FVec Ideal S8192x1024 .f32) (ix2 s k)
/-- The norm's scale. -/
def gOf (c : Dev nD) (k : Fin 1024) : EReal := (m ((c : Thread nD τ).loc main_arg1) : FVec Ideal S1024 .f32) (ix1 k)
/-- The first weights. -/
def wuOf (c : Dev nD) (i : Fin 1024) (j : Fin 4096) : EReal := (m ((c : Thread nD τ).loc main_arg2) : FVec Ideal S1024x4096 .f32) (ix2 i j)
/-- The second weights. -/
def wdOf (c : Dev nD) (j : Fin 4096) (k : Fin 1024) : EReal := (m ((c : Thread nD τ).loc main_arg3) : FVec Ideal S4096x1024 .f32) (ix2 j k)
/-- The hidden layer before its activation, at an index. -/
def upOf (c : Dev nD) (s : Fin 8192) (j : Fin 4096) : EReal :=
  Cert.MlpActRefIdeal.Read.val_main_v13 (F := Ideal) (m ((c : Thread nD τ).loc main_arg0)) (m ((c : Thread nD τ).loc main_arg1))
    (m ((c : Thread nD τ).loc main_arg2)) (ix2 s j)

/-- Column `j` of chunk `q`. -/
def col (q : Fin 4) (j : Fin 1024) : Fin 4096 := ⟨q.val * 1024 + j.val, by omega⟩

/-- The hidden layer as the region reads it. -/
theorem entry14 (c : Dev nD) (s : Fin 8192) (j : Fin 4096) : (V m c main_v14 : FVec Ideal S8192x4096 .bf16) (ix2 s j) = upOf m c s j := by
  unfold upOf V
  simp only [hostOps0, List.flatten_cons, List.flatten_nil, List.cons_append, List.nil_append, List.append_nil,
    TRef.nullary, TRef.unary, TRef.binary, TRef.ternary]
  entry_read
  rfl

/-- The norm's scale as the region reads it. -/
theorem entry15 (c : Dev nD) (k : Fin 1024) : (V m c main_v15 : FVec Ideal S1x1024 .f32) (ix2 0 k) = gOf m c k := by
  unfold gOf V
  simp only [hostOps0, List.flatten_cons, List.flatten_nil, List.cons_append, List.nil_append, List.append_nil,
    TRef.nullary, TRef.unary, TRef.binary, TRef.ternary]
  entry_read
  pointwise

/-- The first weights as the region reads them: four chunks of columns. -/
theorem entry18 (c : Dev nD) (q : Fin 4) (i j : Fin 1024) : (V m c main_v18 : FVec Ideal S4x1024x1024 .bf16) (ix3 q i j) = wuOf m c i (col q j) := by
  unfold wuOf V
  simp only [hostOps0, List.flatten_cons, List.flatten_nil, List.cons_append, List.nil_append, List.append_nil,
    TRef.nullary, TRef.unary, TRef.binary, TRef.ternary]
  entry_read
  pointwise
  rfl

/-- The second weights as the region reads them: four chunks of rows. -/
theorem entry20 (c : Dev nD) (q : Fin 4) (j k : Fin 1024) : (V m c main_v20 : FVec Ideal S4x1024x1024 .bf16) (ix3 q j k) = wdOf m c (col q j) k := by
  unfold wdOf V
  simp only [hostOps0, List.flatten_cons, List.flatten_nil, List.cons_append, List.nil_append, List.append_nil,
    TRef.nullary, TRef.unary, TRef.binary, TRef.ternary]
  entry_read
  pointwise
  rfl

/-- Row `r` of block `t`. -/
def row (t : Fin cfg0.N) (r : Fin 512) : Fin 8192 := ⟨512 * t.val + r.val, by have := t.isLt; have : t.val < 16 := this; omega⟩

/-- A point's block of the gradient behind the layer. -/
theorem blk0 (c : Dev nD) (t : Fin cfg0.N) (r : Fin 512) (k : Fin 1024) :
    (iblk m c 0 t : FVec Ideal S512x1024 .f32) (ix2 r k) = dhOf m c (row t r) k := by
  unfold dhOf
  blk_ext [iblk, V, idx t, row]

/-- A point's block of the hidden layer. -/
theorem blk1 (c : Dev nD) (t : Fin cfg0.N) (r : Fin 512) (j : Fin 4096) :
    (iblk m c 1 t : FVec Ideal S512x4096 .bf16) (ix2 r j) = upOf m c (row t r) j := by
  rw [← entry14 m c _ j]
  blk_ext [iblk, idx t, row]

/-- A point's block of the activations. -/
theorem blk2 (c : Dev nD) (t : Fin cfg0.N) (r : Fin 512) (k : Fin 1024) :
    (iblk m c 2 t : FVec Ideal S512x1024 .f32) (ix2 r k) = xOf m c (row t r) k := by
  unfold xOf
  blk_ext [iblk, V, idx t, row]

/-- The block of the norm's scale. -/
theorem blk3 (c : Dev nD) (t : Fin cfg0.N) (k : Fin 1024) : (iblk m c 3 t : FVec Ideal S1x1024 .f32) (ix2 0 k) = gOf m c k := by
  rw [← entry15 m c k]
  blk_ext [iblk, idx t]

/-- The block of the first weights. -/
theorem blk4 (c : Dev nD) (t : Fin cfg0.N) (q : Fin 4) (i j : Fin 1024) :
    (iblk m c 4 t : FVec Ideal S4x1024x1024 .bf16) (ix3 q i j) = wuOf m c i (col q j) := by
  rw [← entry18 m c q i j]
  blk_ext [iblk, idx t]

/-- The block of the second weights. -/
theorem blk5 (c : Dev nD) (t : Fin cfg0.N) (q : Fin 4) (j k : Fin 1024) :
    (iblk m c 5 t : FVec Ideal S4x1024x1024 .bf16) (ix3 q j k) = wdOf m c (col q j) k := by
  rw [← entry20 m c q j k]
  blk_ext [iblk, idx t]

/-- One chunk of a block of weights. -/
theorem ld_w (w : FVec Ideal S4x1024x1024 .bf16) (q : Fin 4) (q' : ℕ) (hq : q' = q.val) (h) (i j : Fin 1024) :
    View.ld (Val := Elt Ideal) (e' := EltTy.bf16) w (Rect.unit ![q', 0, 0] ![1, 1024, 1024] h) (ix3 0 i j) = w (ix3 q i j) := by
  subst hq
  refine View.ld_unit_apply_of _ _ _ _ _ _ fun a => ?_
  match a with
  | ⟨0, _⟩ => simp
  | ⟨1, _⟩ => simp
  | ⟨2, _⟩ => simp

/-- One chunk of a block of the hidden layer. -/
theorem ld_u (u : FVec Ideal S512x4096 .bf16) (o : ℕ) (q : Fin 4) (ho : o = q.val * 1024) (h) (r : Fin 512) (j : Fin 1024) :
    View.ld (Val := Elt Ideal) (e' := EltTy.bf16) u (Rect.unit ![0, o] ![512, 1024] h) (ix2 r j) = u (ix2 r (col q j)) := by
  subst ho
  refine View.ld_unit_apply_of _ _ _ _ _ _ fun a => ?_
  match a with
  | ⟨0, _⟩ => simp
  | ⟨1, _⟩ => simp [col]

/-- A sum over the hidden layer's columns, chunk by chunk. -/
theorem sum_cols (f : Fin 4096 → EReal) : ∑ j : Fin 4096, f j
    = (∑ j, f (col 0 j)) + (∑ j, f (col 1 j)) + (∑ j, f (col 2 j)) + ∑ j, f (col 3 j) := by
  rw [← Equiv.sum_comp (finProdFinEquiv (m := 4) (n := 1024)) f, Fintype.sum_prod_type, Fin.sum_univ_four]
  have e : ∀ (q : Fin 4) (j : Fin 1024), finProdFinEquiv (q, j) = col q j := fun q j =>
    Fin.ext (by simp [col, finProdFinEquiv]; omega)
  simp only [e]

/-- The hidden layer's gradient, over the call's operands. -/
def duOf (c : Dev nD) : Fin 8192 → Fin 4096 → EReal := dU (dhOf m c) (upOf m c) (wdOf m c)
/-- The normalised activations' gradient, over the call's operands. -/
def dhnOf (c : Dev nD) : Fin 8192 → Fin 1024 → EReal := dHn (duOf m c) (wuOf m c)

/-- One entry of a chunk of the hidden layer's gradient. -/
theorem chunk (c : Dev nD) (t : Fin cfg0.N) (q : Fin 4) (r : Fin 512) (j : Fin 1024) (d : FVec Ideal S512x1024 .f32) (w : FVec Ideal S1x1024x1024 .bf16)
    (u : FVec Ideal S512x1024 .bf16) (hd : ∀ r k, d (ix2 r k) = dhOf m c (row t r) k) (hw : ∀ j k, w (ix3 0 j k) = wdOf m c (col q j) k) (hu : ∀ r j, u (ix2 r j) = upOf m c (row t r) (col q j)) :
    (∑ k, d (ix2 r k) * w (ix3 0 j k)) * slope (u (ix2 r j)) = duOf m c (row t r) (col q j) := by
  rw [hu]
  unfold duOf dU
  congr 1
  exact Finset.sum_congr rfl fun k _ => by rw [hw, hd]

/-- One entry of what a chunk gives the normalised activations' gradient. -/
theorem chunkSum (c : Dev nD) (t : Fin cfg0.N) (q : Fin 4) (r : Fin 512) (i : Fin 1024) (d : FVec Ideal S512x1024 .f32) (w v : FVec Ideal S1x1024x1024 .bf16)
    (u : FVec Ideal S512x1024 .bf16) (hd : ∀ r k, d (ix2 r k) = dhOf m c (row t r) k) (hw : ∀ j k, w (ix3 0 j k) = wdOf m c (col q j) k) (hu : ∀ r j, u (ix2 r j) = upOf m c (row t r) (col q j))
    (hv : ∀ i j, v (ix3 0 i j) = wuOf m c i (col q j)) :
    (∑ j, (∑ k, d (ix2 r k) * w (ix3 0 j k)) * slope (u (ix2 r j)) * v (ix3 0 i j))
      = ∑ j, duOf m c (row t r) (col q j) * wuOf m c i (col q j) :=
  Finset.sum_congr rfl fun j _ => by rw [chunk m c t q r j d w u hd hw hu, hv]

/-- A chunk of the second weights' block. -/
theorem wd_q (c : Dev nD) (t : Fin cfg0.N) (q : Fin 4) (q' : ℕ) (hq : q' = q.val) (h) (j k : Fin 1024) :
    View.ld (Val := Elt Ideal) (e' := EltTy.bf16) (iblk m c 5 t : FVec Ideal S4x1024x1024 .bf16) (Rect.unit ![q', 0, 0] ![1, 1024, 1024] h) (ix3 0 j k) = wdOf m c (col q j) k :=
  (ld_w _ q q' hq h j k).trans (blk5 m c t q j k)

/-- A chunk of the first weights' block. -/
theorem wu_q (c : Dev nD) (t : Fin cfg0.N) (q : Fin 4) (q' : ℕ) (hq : q' = q.val) (h) (i j : Fin 1024) :
    View.ld (Val := Elt Ideal) (e' := EltTy.bf16) (iblk m c 4 t : FVec Ideal S4x1024x1024 .bf16) (Rect.unit ![q', 0, 0] ![1, 1024, 1024] h) (ix3 0 i j) = wuOf m c i (col q j) :=
  (ld_w _ q q' hq h i j).trans (blk4 m c t q i j)

/-- A chunk of the hidden layer's block. -/
theorem up_q (c : Dev nD) (t : Fin cfg0.N) (q : Fin 4) (o : ℕ) (ho : o = q.val * 1024) (h) (r : Fin 512) (j : Fin 1024) :
    View.ld (Val := Elt Ideal) (e' := EltTy.bf16) (iblk m c 1 t : FVec Ideal S512x4096 .bf16) (Rect.unit ![0, o] ![512, 1024] h) (ix2 r j) = upOf m c (row t r) (col q j) :=
  (ld_u _ o q ho h r j).trans (blk1 m c t r _)

/-- The normalised activations' gradient of a block, as the body forms it chunk by chunk. -/
theorem hn_eq (c : Dev nD) (t : Fin cfg0.N) (d : FVec Ideal S512x1024 .f32) (w0 v0 w1 v1 w2 v2 w3 v3 : FVec Ideal S1x1024x1024 .bf16) (u0 u1 u2 u3 : FVec Ideal S512x1024 .bf16)
    (hd : ∀ r k, d (ix2 r k) = dhOf m c (row t r) k)
    (hw0 : ∀ j k, w0 (ix3 0 j k) = wdOf m c (col 0 j) k) (hu0 : ∀ r j, u0 (ix2 r j) = upOf m c (row t r) (col 0 j))
    (hv0 : ∀ i j, v0 (ix3 0 i j) = wuOf m c i (col 0 j))
    (hw1 : ∀ j k, w1 (ix3 0 j k) = wdOf m c (col 1 j) k) (hu1 : ∀ r j, u1 (ix2 r j) = upOf m c (row t r) (col 1 j))
    (hv1 : ∀ i j, v1 (ix3 0 i j) = wuOf m c i (col 1 j))
    (hw2 : ∀ j k, w2 (ix3 0 j k) = wdOf m c (col 2 j) k) (hu2 : ∀ r j, u2 (ix2 r j) = upOf m c (row t r) (col 2 j))
    (hv2 : ∀ i j, v2 (ix3 0 i j) = wuOf m c i (col 2 j))
    (hw3 : ∀ j k, w3 (ix3 0 j k) = wdOf m c (col 3 j) k) (hu3 : ∀ r j, u3 (ix2 r j) = upOf m c (row t r) (col 3 j))
    (hv3 : ∀ i j, v3 (ix3 0 i j) = wuOf m c i (col 3 j)) (r : Fin 512) (i : Fin 1024) :
    k0_pay15 (F := Ideal) (k0_pay11 (k0_pay4 d) (k0_pay6 d w0 u0 v0) (k0_pay7 d w1) (k0_pay8 u1) v1 w2 u2 v2)
      (k0_pay12 (k0_pay4 d) w3) (k0_pay13 u3) v3 (ix2 r i) = dhnOf m c (row t r) i := by
  refine (hn3_apply _ _ _ _ _ r i).trans ?_
  refine (congrArg (· + _) (hn2_apply _ _ _ _ _ _ _ _ r i)).trans ?_
  rw [hn0_apply, chunkSum m c t 0 r i d w0 v0 u0 hd hw0 hu0 hv0, chunkSum m c t 1 r i d w1 v1 u1 hd hw1 hu1 hv1,
    chunkSum m c t 2 r i d w2 v2 u2 hd hw2 hu2 hv2, chunkSum m c t 3 r i d w3 v3 u3 hd hw3 hu3 hv3]
  unfold dhnOf dHn
  exact (sum_cols fun j => duOf m c (row t r) j * wuOf m c i j).symm

/-! What the outputs hold after a point. -/

/-- The hidden layer's gradient after point `t`. -/
theorem outs6 (c : Dev nD) (t : Fin cfg0.N) (r : Fin 512) (l : Fin 4096) : (outsAt0 m c t.val t.isLt).1 (ix2 r l) = duOf m c (row t r) l := by
  have key : ∀ (q : Fin 4) (x : S512x1024.Idx), r.val = (x 0).val → l.val = q.val * 1024 + (x 1).val →
      duOf m c (row t (x 0)) (col q (x 1)) = duOf m c (row t r) l := fun q x h0 h1 => by
    obtain rfl : r = x 0 := Fin.ext h0
    exact congrArg _ (Fin.ext h1.symm)
  by_cases h : t.val % 16 = 0
  · rw [outsAt0_A m c t h]; frame_out
    canon_tiles x h
    · rw [eq_ix2 x]
      exact ((du3_apply _ _ _ _ _).trans (chunk m c t 3 _ _ _ _ _ (blk0 m c t) (wd_q m c t 3 3 rfl _) (up_q m c t 3 _ rfl _))).trans (key 3 x (by simpa using h0) (by simpa using h1))
    · rw [eq_ix2 x]
      exact ((du2_apply _ _ _ _ _).trans (chunk m c t 2 _ _ _ _ _ (blk0 m c t) (wd_q m c t 2 2 rfl _) (up_q m c t 2 _ rfl _))).trans (key 2 x (by simpa using h0) (by simpa using h1))
    · rw [eq_ix2 x]
      exact ((du1_apply _ _ _ _ _).trans (chunk m c t 1 _ _ _ _ _ (blk0 m c t) (wd_q m c t 1 1 rfl _) (up_q m c t 1 _ rfl _))).trans (key 1 x (by simpa using h0) (by simpa using h1))
    · rw [eq_ix2 x]
      exact ((du0_apply _ _ _ _ _).trans (chunk m c t 0 _ _ _ _ _ (blk0 m c t) (wd_q m c t 0 0 rfl _) (up_q m c t 0 _ rfl _))).trans (key 0 x (by simpa using h0) (by simpa using h1))
  · rw [outsAt0_B m c t h]; frame_out
    canon_tiles x h
    · rw [eq_ix2 x]
      exact ((du3_apply _ _ _ _ _).trans (chunk m c t 3 _ _ _ _ _ (blk0 m c t) (wd_q m c t 3 3 rfl _) (up_q m c t 3 _ rfl _))).trans (key 3 x (by simpa using h0) (by simpa using h1))
    · rw [eq_ix2 x]
      exact ((du2_apply _ _ _ _ _).trans (chunk m c t 2 _ _ _ _ _ (blk0 m c t) (wd_q m c t 2 2 rfl _) (up_q m c t 2 _ rfl _))).trans (key 2 x (by simpa using h0) (by simpa using h1))
    · rw [eq_ix2 x]
      exact ((du1_apply _ _ _ _ _).trans (chunk m c t 1 _ _ _ _ _ (blk0 m c t) (wd_q m c t 1 1 rfl _) (up_q m c t 1 _ rfl _))).trans (key 1 x (by simpa using h0) (by simpa using h1))
    · rw [eq_ix2 x]
      exact ((du0_apply _ _ _ _ _).trans (chunk m c t 0 _ _ _ _ _ (blk0 m c t) (wd_q m c t 0 0 rfl _) (up_q m c t 0 _ rfl _))).trans (key 0 x (by simpa using h0) (by simpa using h1))

/-- The gradient in front of the layer after point `t`. -/
theorem outs7 (c : Dev nD) (t : Fin cfg0.N) (r : Fin 512) (i : Fin 1024) :
    (outsAt0 m c t.val t.isLt).2.1 (ix2 r i) = dIn (dhOf m c) (dhnOf m c) (xOf m c) (gOf m c) (row t r) i := by
  have key : ∀ (a b f : FVec Ideal S512x1024 .f32) (v : FVec Ideal S1x1024x1024 .bf16),
      (∀ k, k0_pay15 (F := Ideal) a b f v (ix2 r k) = dhnOf m c (row t r) k) →
      k0_pay1 (F := Ideal) (iblk m c 0 t) (k0_pay17 a b f v (iblk m c 2 t) (iblk m c 3 t)) (ix2 r i)
        = dIn (dhOf m c) (dhnOf m c) (xOf m c) (gOf m c) (row t r) i := fun a b f v h => by
    refine (in_apply _ _ _ _ _ _ _ r i).trans ?_
    unfold dIn
    simp only [h, blk0, blk2, blk3]
  by_cases h : t.val % 16 = 0
  · rw [outsAt0_A m c t h]; frame_out
    exact key _ _ _ _ fun k => hn_eq m c t _ _ _ _ _ _ _ _ _ _ _ _ _ (blk0 m c t) (wd_q m c t 0 0 rfl _) (up_q m c t 0 _ rfl _) (wu_q m c t 0 0 rfl _)
      (wd_q m c t 1 1 rfl _) (up_q m c t 1 _ rfl _) (wu_q m c t 1 1 rfl _) (wd_q m c t 2 2 rfl _) (up_q m c t 2 _ rfl _) (wu_q m c t 2 2 rfl _)
      (wd_q m c t 3 3 rfl _) (up_q m c t 3 _ rfl _) (wu_q m c t 3 3 rfl _) r k
  · rw [outsAt0_B m c t h]; frame_out
    exact key _ _ _ _ fun k => hn_eq m c t _ _ _ _ _ _ _ _ _ _ _ _ _ (blk0 m c t) (wd_q m c t 0 0 rfl _) (up_q m c t 0 _ rfl _) (wu_q m c t 0 0 rfl _)
      (wd_q m c t 1 1 rfl _) (up_q m c t 1 _ rfl _) (wu_q m c t 1 1 rfl _) (wd_q m c t 2 2 rfl _) (up_q m c t 2 _ rfl _) (wu_q m c t 2 2 rfl _)
      (wd_q m c t 3 3 rfl _) (up_q m c t 3 _ rfl _) (wu_q m c t 3 3 rfl _) r k

/-- What row `n` adds to the gradient of the norm's scale. -/
def term (c : Dev nD) (i : Fin 1024) (n : ℕ) : EReal :=
  (fun s : Fin 8192 => dhnOf m c s i * xOf m c s i * rs (xOf m c s)) ⟨n % 8192, Nat.mod_lt _ (by decide)⟩

/-- One block's part of that gradient. -/
theorem g_step (c : Dev nD) (t : Fin cfg0.N) (i : Fin 1024) (a b f : FVec Ideal S512x1024 .f32) (v : FVec Ideal S1x1024x1024 .bf16)
    (o : FVec Ideal S1x1024 .f32) (h : ∀ r k, k0_pay15 (F := Ideal) a b f v (ix2 r k) = dhnOf m c (row t r) k) :
    k0_pay2 (F := Ideal) (k0_pay18 a b f v (iblk m c 2 t)) o (ix2 0 i) = o (ix2 0 i) + ∑ r : Fin 512, term m c i (512 * t.val + r.val) := by
  refine (g_apply _ _ _ _ _ _ i).trans (congrArg _ ?_)
  unfold dG term
  have ht : t.val < 16 := t.isLt
  refine Finset.sum_congr rfl fun r _ => ?_
  have e : (⟨(512 * t.val + r.val) % 8192, Nat.mod_lt _ (by decide)⟩ : Fin 8192) = row t r :=
    Fin.ext (Nat.mod_eq_of_lt (by omega))
  simp only [e, h, blk2]

/-- The gradient of the norm's scale after point `t`. -/
theorem outs8 (c : Dev nD) (i : Fin 1024) (t : Fin cfg0.N) : (outsAt0 m c t.val t.isLt).2.2 (ix2 0 i)
    = ∑ n ∈ Finset.range (t.val + 1), ∑ r : Fin 512, term m c i (512 * n + r.val) := by
  refine (Pipeline.eq_sum_of_reset_step_apply_single (fun n h => fun _ : Unit => (outsAt0 m c n h).2.2 (ix2 0 i)) 16 (fun _ => 0)
    (fun n _ => ∑ r : Fin 512, term m c i (512 * n + r.val)) (fun t h _ => ?_) (fun t h _ => ?_) (by decide) t ()).trans (zero_add _)
  · show (outsAt0 m c t.val t.isLt).2.2 (ix2 0 i) = _
    rw [outsAt0_A m c t h]; frame_out
    refine (g_step m c t i _ _ _ _ _ fun r k => hn_eq m c t _ _ _ _ _ _ _ _ _ _ _ _ _ (blk0 m c t) (wd_q m c t 0 0 rfl _) (up_q m c t 0 _ rfl _) (wu_q m c t 0 0 rfl _)
      (wd_q m c t 1 1 rfl _) (up_q m c t 1 _ rfl _) (wu_q m c t 1 1 rfl _) (wd_q m c t 2 2 rfl _) (up_q m c t 2 _ rfl _) (wu_q m c t 2 2 rfl _)
      (wd_q m c t 3 3 rfl _) (up_q m c t 3 _ rfl _) (wu_q m c t 3 3 rfl _) r k).trans ?_
    congr 1
    pointwise [k0_pay3]
  · show (outsAt0 m c t.val t.isLt).2.2 (ix2 0 i) = _
    rw [outsAt0_B m c t h]; frame_out
    exact g_step m c t i _ _ _ _ _ fun r k => hn_eq m c t _ _ _ _ _ _ _ _ _ _ _ _ _ (blk0 m c t) (wd_q m c t 0 0 rfl _) (up_q m c t 0 _ rfl _) (wu_q m c t 0 0 rfl _)
      (wd_q m c t 1 1 rfl _) (up_q m c t 1 _ rfl _) (wu_q m c t 1 1 rfl _) (wd_q m c t 2 2 rfl _) (up_q m c t 2 _ rfl _) (wu_q m c t 2 2 rfl _)
      (wd_q m c t 3 3 rfl _) (up_q m c t 3 _ rfl _) (wu_q m c t 3 3 rfl _) r k

/-! The results after the run. -/

/-- The first result: the hidden layer's gradient. -/
theorem arr6 (c : Dev nD) : (dats m 0 c).arrAt 6 cfg0.N = fun i : S8192x4096.Idx => duOf m c (i 0) (i 1) := by
  refine (dats m 0 c).arrAt_eq_of_covers 6 _ (by decide +kernel) fun t hf y => ?_
  obtain ⟨r, j, rfl⟩ : ∃ r j, y = ix2 r j := ⟨_, _, eq_ix2 y⟩
  blk_simp
  rw [after0_6]
  refine (outs6 m c t r j).trans (congrArg₂ (duOf m c) (Fin.ext ?_) (Fin.ext ?_))
  all_goals blk_simp [idx t]
  all_goals (try simp only [row]; omega)

/-- The second result: the gradient in front of the layer. -/
theorem arr7 (c : Dev nD) : (dats m 0 c).arrAt 7 cfg0.N
    = fun i : S8192x1024.Idx => dIn (dhOf m c) (dhnOf m c) (xOf m c) (gOf m c) (i 0) (i 1) := by
  refine (dats m 0 c).arrAt_eq_of_covers 7 _ (by decide +kernel) fun t hf y => ?_
  obtain ⟨r, j, rfl⟩ : ∃ r j, y = ix2 r j := ⟨_, _, eq_ix2 y⟩
  blk_simp
  rw [after0_7]
  refine (outs7 m c t r j).trans (congrArg₂ (dIn (dhOf m c) (dhnOf m c) (xOf m c) (gOf m c)) (Fin.ext ?_) (Fin.ext ?_))
  all_goals blk_simp [idx t]
  all_goals (try simp only [row]; omega)

/-- The third result: the gradient of the norm's scale. -/
theorem arr8 (c : Dev nD) : (dats m 0 c).arrAt 8 cfg0.N = fun i : S1x1024.Idx => dG (dhnOf m c) (xOf m c) (i 1) := by
  refine (dats m 0 c).arrAt_eq_of_after_last 8 t0_15 (by decide +kernel) _ fun y => ?_
  obtain ⟨z, i, rfl⟩ : ∃ z i, y = ix2 z i := ⟨_, _, eq_ix2 y⟩
  obtain rfl : z = 0 := Fin.eq_zero z
  blk_simp
  rw [after0_8]
  refine (outs8 m c i t0_15).trans ?_
  refine (Cert.Sums.rows 16 512 8192 rfl _).trans ?_
  refine Eq.trans (b := dG (dhnOf m c) (xOf m c) i) ?_ (congrArg (dG (dhnOf m c) (xOf m c)) (Fin.ext ?_))
  rotate_left
  · blk_simp [idx t0_15]
  refine Finset.sum_congr rfl fun s _ => ?_
  unfold term
  have e : (⟨s.val % 8192, Nat.mod_lt _ (by decide)⟩ : Fin 8192) = s := Fin.ext (Nat.mod_eq_of_lt s.isLt)
  simp only [e]

end Cert.MlpActGrad

namespace Cert.MlpActGrad

open Cert.MlpActRefIdeal Cert.MlpActRefIdeal.Read Cert.Rms

variable (x0 : FVec Ideal S8192x1024 .f32) (x1 : FVec Ideal S1024 .f32) (x2 : FVec Ideal S1024x4096 .f32)
  (x3 : FVec Ideal S4096x1024 .f32) (x4 : FVec Ideal S8192x1024 .f32)

/-- A positive slope or none: the choice by the sign gives the same product. -/
theorem sel (a u : EReal) : (if 0 < u then a * slope u else 0) = a * slope u := by
  split
  · rfl
  · rename_i h
    rw [slope, max_eq_right (not_lt.mp h), mul_zero, mul_zero]

/-- The plain gradient in the hidden layer, at an index. -/
theorem plain25_apply (s : Fin 8192) (j : Fin 4096) : val_main_v25 (F := Ideal) x0 x1 x2 x3 x4 (ix2 s j)
    = dU (fun s k => x4 (ix2 s k)) (fun s j => val_main_v13 (F := Ideal) x0 x1 x2 (ix2 s j)) (fun j k => x3 (ix2 j k)) s j := by
  pointwise [val_main_v25, val_main_v24, val_main_v23, val_main_v22, val_main_v20, val_main_v19, val_main_v16, val_main_v15,
    val_main_v14, val_main_call0_v0, val_main_call0_cst, val_main_cst_2, val_main_cst_4, val_main_cst_5]
  exact sel _ _

/-- The same gradient as the norm's step takes it. -/
theorem plain56_apply (s : Fin 8192) (j : Fin 4096) : val_main_v56 (F := Ideal) x0 x1 x2 x3 x4 (ix2 s j)
    = dU (fun s k => x4 (ix2 s k)) (fun s j => val_main_v13 (F := Ideal) x0 x1 x2 (ix2 s j)) (fun j k => x3 (ix2 j k)) s j := by
  pointwise [val_main_v56, val_main_v55, val_main_v54, val_main_v53, val_main_v52, val_main_v49, val_main_v48, val_main_v45, val_main_v44,
    val_main_v43, val_main_call1_v0, val_main_call1_cst, val_main_cst_10, val_main_cst_12, val_main_cst_13]
  exact sel _ _

/-- The plain gradient in the normalised activations. -/
theorem plain57_apply (s : Fin 8192) (i : Fin 1024) : val_main_v57 (F := Ideal) x0 x1 x2 x3 x4 (ix2 s i)
    = dHn (fun s j => val_main_v56 (F := Ideal) x0 x1 x2 x3 x4 (ix2 s j)) (fun i j => x2 (ix2 i j)) s i := by
  pointwise [val_main_v57]
  rfl

/-- The plain norm's guarded mean square. -/
theorem plain32_apply (s : Fin 8192) : val_main_v32 (F := Ideal) x0 (ix2 s 0) = ms (fun k => x0 (ix2 s k)) := by
  pointwise [val_main_v32, val_main_v31, val_main_v30, val_main_v29, val_main_v28, val_main_v27, val_main_v26, val_main_cst_6, val_main_cst_7,
    val_main_cst_8]
  rfl

/-- One over its root. -/
theorem plain33_apply (s : Fin 8192) : val_main_v33 (F := Ideal) x0 (ix2 s 0) = rs (fun k => x0 (ix2 s k)) := by
  pointwise [val_main_v33]
  rw [plain32_apply]
  rfl

/-- The plain gradient in front of the layer. -/
theorem plain78_apply (s : Fin 8192) (i : Fin 1024) : val_main_v78 (F := Ideal) x0 x1 x2 x3 x4 (ix2 s i)
    = dIn (fun s k => x4 (ix2 s k)) (fun s i => val_main_v57 (F := Ideal) x0 x1 x2 x3 x4 (ix2 s i)) (fun s k => x0 (ix2 s k))
        (fun k => x1 (ix1 k)) s i := by
  pointwise [val_main_v78, val_main_v77, val_main_v76, val_main_v75, val_main_v74, val_main_v73, val_main_v72, val_main_v71, val_main_v70,
    val_main_v69, val_main_v68, val_main_v67, val_main_v66, val_main_v65, val_main_v64, val_main_v62, val_main_v61, val_main_v39,
    val_main_v36, val_main_v35, val_main_v34, val_main_cst_9, val_main_cst_16, val_main_cst_17, val_main_cst_18]
  have e : (∑ k, x0 (ix2 s k) * (val_main_v57 (F := Ideal) x0 x1 x2 x3 x4 (ix2 s k) * x1 (ix1 k)))
      = ∑ k, val_main_v57 (F := Ideal) x0 x1 x2 x3 x4 (ix2 s k) * x1 (ix1 k) * x0 (ix2 s k) :=
    Finset.sum_congr rfl fun k _ => mul_comm _ _
  simp only [Fin.sum_univ_one, plain33_apply, plain32_apply, e]
  exact (back (fun k => x0 (ix2 s k)) i (val_main_v57 (F := Ideal) x0 x1 x2 x3 x4 (ix2 s i) * x1 (ix1 i))
    (∑ k, val_main_v57 (F := Ideal) x0 x1 x2 x3 x4 (ix2 s k) * x1 (ix1 k) * x0 (ix2 s k)) (x4 (ix2 s i))).symm

/-- The plain gradient of the norm's scale. -/
theorem plain80_apply (i : Fin 1024) : val_main_v80 (F := Ideal) x0 x1 x2 x3 x4 (ix2 0 i)
    = dG (fun s i => val_main_v57 (F := Ideal) x0 x1 x2 x3 x4 (ix2 s i)) (fun s k => x0 (ix2 s k)) i := by
  pointwise [val_main_v80, val_main_v63, val_main_v60, val_main_v59, val_main_v58, val_main_v38, val_main_v37, val_main_cst_14, val_main_cst_15]
  simp only [Fin.sum_univ_one, plain33_apply]
  exact Finset.sum_congr rfl fun s _ => by rw [mul_right_comm, mul_comm (x0 (ix2 s i))]

/-- The plain normalised activations' gradient over the arguments alone. -/
theorem plain57_eq : (fun (s : Fin 8192) (i : Fin 1024) => val_main_v57 (F := Ideal) x0 x1 x2 x3 x4 (ix2 s i))
    = dHn (dU (fun s k => x4 (ix2 s k)) (fun s j => val_main_v13 (F := Ideal) x0 x1 x2 (ix2 s j)) (fun j k => x3 (ix2 j k))) (fun i j => x2 (ix2 i j)) :=
  funext fun s => funext fun i => (plain57_apply x0 x1 x2 x3 x4 s i).trans
    (congrArg (fun f => dHn f (fun i j => x2 (ix2 i j)) s i) (funext fun s => funext fun j => plain56_apply x0 x1 x2 x3 x4 s j))

/-- The first plain result as a whole array. -/
theorem plain79 : val_main_v79 (F := Ideal) x0 x1 x2 x3 x4 = fun i : S8192x4096.Idx =>
    dU (fun s k => x4 (ix2 s k)) (fun s j => val_main_v13 (F := Ideal) x0 x1 x2 (ix2 s j)) (fun j k => x3 (ix2 j k)) (i 0) (i 1) :=
  funext fun i => (congrArg _ (eq_ix2 i)).trans (plain25_apply x0 x1 x2 x3 x4 (i 0) (i 1))

/-- The second plain result as a whole array. -/
theorem plain78 : val_main_v78 (F := Ideal) x0 x1 x2 x3 x4 = fun i : S8192x1024.Idx =>
    dIn (fun s k => x4 (ix2 s k)) (dHn (dU (fun s k => x4 (ix2 s k)) (fun s j => val_main_v13 (F := Ideal) x0 x1 x2 (ix2 s j)) (fun j k => x3 (ix2 j k)))
      (fun i j => x2 (ix2 i j))) (fun s k => x0 (ix2 s k)) (fun k => x1 (ix1 k)) (i 0) (i 1) := by
  rw [← plain57_eq]
  exact funext fun i => (congrArg _ (eq_ix2 i)).trans (plain78_apply x0 x1 x2 x3 x4 (i 0) (i 1))

/-- The third plain result as a whole array. -/
theorem plain80 : val_main_v80 (F := Ideal) x0 x1 x2 x3 x4 = fun i : S1x1024.Idx =>
    dG (dHn (dU (fun s k => x4 (ix2 s k)) (fun s j => val_main_v13 (F := Ideal) x0 x1 x2 (ix2 s j)) (fun j k => x3 (ix2 j k)))
      (fun i j => x2 (ix2 i j))) (fun s k => x0 (ix2 s k)) (i 1) := by
  rw [← plain57_eq]
  refine funext fun i => ?_
  obtain ⟨z, k, rfl⟩ : ∃ z k, i = ix2 z k := ⟨_, _, eq_ix2 i⟩
  obtain rfl : z = 0 := Fin.eq_zero z
  exact plain80_apply x0 x1 x2 x3 x4 k

/-- The plain gradients leave their arguments and stop quietly: they use no semaphore. -/
theorem plainFrame : Cert.quiescent_MlpActRefIdeal (hMlpActRefIdeal := Cert.MlpActRefIdeal.Gen.facts) := fun m ρ _ =>
  (θ_run _ _ _).mono (fun r h => ⟨fun c => (h c).2.2.2, sem_eq_zero_of_no_sems (by decide) r.2⟩) (Cert.MlpActRefIdeal.Value.run m ρ)

/-- Over the reals with infinities, the call and the plain gradients have equal results. -/
theorem algebraic : Cert.algebraic_MlpActIdeal_MlpActRefIdeal (hMlpActIdeal := Cert.MlpActIdeal.Gen.facts) (hMlpActRefIdeal := Cert.MlpActRefIdeal.Gen.facts) := by
  intro m g m' g' _ hm
  refine ⟨fun c => fun i : Cert.MlpActIdeal.S8192x4096.Idx => duOf m c (i 0) (i 1),
    fun c => fun i : Cert.MlpActIdeal.S8192x1024.Idx => dIn (dhOf m c) (dhnOf m c) (xOf m c) (gOf m c) (i 0) (i 1),
    fun c => fun i : Cert.MlpActIdeal.S1x1024.Idx => dG (dhnOf m c) (xOf m c) (i 1), ?_, ?_⟩
  · refine (θ_run _ _ _).mono (fun r h c => ?_) (Cert.MlpActIdeal.Value.run_blocks m g)
    obtain ⟨h0, h1, h2, ha⟩ := h c
    exact ⟨h0.trans (arr6 m c), h1.trans (arr7 m c), h2.trans (arr8 m c), ha⟩
  · refine (θ_run _ _ _).mono (fun r h c => ?_) (Cert.MlpActRefIdeal.Value.run m' g')
    obtain ⟨h0, h1, h2, ha⟩ := h c
    obtain ⟨e0, e1, e2, e3, e4⟩ := hm c
    refine ⟨(h0.trans (val_main_v79_eq _ _ _ _ _)).trans ?_, (h1.trans (val_main_v78_eq m' c)).trans ?_,
      (h2.trans (val_main_v80_eq _ _ _ _ _)).trans ?_, ha⟩
    · refine (plain79 _ _ _ _ _).trans ?_
      rw [e0, e1, e2, e3, e4]; rfl
    · refine (plain78 _ _ _ _ _).trans ?_
      rw [e0, e1, e2, e3, e4]; rfl
    · refine (plain80 _ _ _ _ _).trans ?_
      rw [e0, e1, e2, e3, e4]; rfl

end Cert.MlpActGrad

end
-- ==== Proof.MlpWValue.lean ====
/-
  The feed-forward layer's weight gradients: each grid point opened, the two results after the run as sums over the whole
  sequence, the plain gradients read at an index, and the value claim.
-/
module

public import proofs.«01_k».proof.Defs
public import proofs.«01_k».proof.Proof.Sums
public import proofs.«01_k».proof.Proof.Gen.MlpWIdeal.Value
public import proofs.«01_k».proof.Proof.Gen.MlpWRefIdeal
public import proofs.«01_k».proof.Proof.Gen.MlpWRefIdeal.Read
public import Idealize.ShloMosaic.Lib.Pipeline.ValueKit
public import Idealize.ShloMosaic.Lib.Pointwise
public import Idealize.ShloMosaic.Lib.KernelVsHost
public import Idealize.ShloMosaic.Lib.IdealHost

@[expose] public section

set_option maxRecDepth 16384

noncomputable section

open Idealize.ShloMosaic Idealize.ShloMosaic.TcCoe Idealize.SL.Sem Idealize.ShloMosaic.StableHlo

namespace Cert.MlpWGrad

open Cert.MlpWIdeal Cert.MlpWIdeal.Gen

variable (m : (l : Loc nD τ sig) → Buf (Elt Ideal) l)

/-- Where each window's block lies at point `t`. -/
theorem idx : ∀ t : Fin grid0.N, win0_0.index t = ![t.val % 8, 0] ∧ win0_1.index t = ![t.val % 8, t.val / 8]
    ∧ win0_2.index t = ![t.val % 8, t.val / 8] ∧ win0_3.index t = ![t.val % 8, 0]
    ∧ win0_4.index t = ![t.val / 8, 0, 0] ∧ win0_5.index t = ![t.val / 8, 0, 0] := by decide +kernel

/-- The first point of a chunk starts the first gradient from zero. -/
theorem outs4_A (c : Dev nD) (t : Fin cfg0.N) (h : t.val % 8 = 0) : (outsAt0 m c t.val t.isLt).1
    = k0_pay3 (k0_pay1 (F := Ideal)) (iblk m c 0 t) (iblk m c 1 t) := by
  rw [outsAt0_A m c t h]; frame_out

/-- A later point adds to it. -/
theorem outs4_B (c : Dev nD) (t : Fin cfg0.N) (h : ¬t.val % 8 = 0) : (outsAt0 m c t.val t.isLt).1
    = k0_pay3 (outsAt0 m c (t.val - 1) (Nat.lt_of_le_of_lt (Nat.sub_le _ _) t.isLt)).1 (iblk m c 0 t) (iblk m c 1 t) := by
  rw [outsAt0_B m c t h]; frame_out

/-- The first point of a chunk starts the second gradient from zero. -/
theorem outs5_A (c : Dev nD) (t : Fin cfg0.N) (h : t.val % 8 = 0) : (outsAt0 m c t.val t.isLt).2
    = k0_pay4 (iblk m c 2 t) (k0_pay2 (F := Ideal)) (iblk m c 3 t) := by
  rw [outsAt0_A m c t h]; frame_out

/-- A later point adds to it. -/
theorem outs5_B (c : Dev nD) (t : Fin cfg0.N) (h : ¬t.val % 8 = 0) : (outsAt0 m c t.val t.isLt).2
    = k0_pay4 (iblk m c 2 t) (outsAt0 m c (t.val - 1) (Nat.lt_of_le_of_lt (Nat.sub_le _ _) t.isLt)).2 (iblk m c 3 t) := by
  rw [outsAt0_B m c t h]; frame_out

/-- One block's contribution to the first gradient, at an index. -/
theorem dwu_apply (o : FVec Ideal S1x1024x1024 .f32) (x d : FVec Ideal S1024x1024 .bf16) (i j : Fin 1024) :
    k0_pay3 (F := Ideal) o x d (ix3 0 i j) = o (ix3 0 i j) + ∑ r : Fin 1024, x (ix2 r i) * d (ix2 r j) := by
  pointwise [k0_pay3]

/-- The square of the positive part. -/
def act (u : EReal) : EReal := max u 0 * max u 0

/-- One block's contribution to the second gradient, at an index. -/
theorem dwd_apply (u : FVec Ideal S1024x1024 .bf16) (o : FVec Ideal S1x1024x1024 .f32) (d : FVec Ideal S1024x1024 .f32) (i j : Fin 1024) :
    k0_pay4 (F := Ideal) u o d (ix3 0 i j) = o (ix3 0 i j) + ∑ r : Fin 1024, act (u (ix2 r i)) * d (ix2 r j) := by
  pointwise [k0_pay4]
  rfl

/-- The normalised activations, at an index. -/
def hnOf (c : Dev nD) (s : Fin 8192) (i : Fin 1024) : EReal :=
  Cert.MlpWRefIdeal.Read.val_main_v12 (F := Ideal) (m ((c : Thread nD τ).loc main_arg0)) (m ((c : Thread nD τ).loc main_arg1)) (ix2 s i)
/-- The hidden layer before its activation, at an index. -/
def upOf (c : Dev nD) (s : Fin 8192) (j : Fin 4096) : EReal :=
  Cert.MlpWRefIdeal.Read.val_main_v13 (F := Ideal) (m ((c : Thread nD τ).loc main_arg0)) (m ((c : Thread nD τ).loc main_arg1))
    (m ((c : Thread nD τ).loc main_arg2)) (ix2 s j)
/-- The gradient in the hidden layer before its activation, at an index. -/
def duOf (c : Dev nD) (s : Fin 8192) (j : Fin 4096) : EReal :=
  Cert.MlpWRefIdeal.Read.val_main_v28 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (ix2 s j)
/-- The gradient behind the layer. -/
def dhOf (c : Dev nD) (s : Fin 8192) (k : Fin 1024) : EReal := (m ((c : Thread nD τ).loc main_arg4) : FVec Ideal S8192x1024 .f32) (ix2 s k)

/-- The normalised activations as the region reads them. -/
theorem entry26 (c : Dev nD) (s : Fin 8192) (i : Fin 1024) : (V m c main_v26 : FVec Ideal S8192x1024 .bf16) (ix2 s i) = hnOf m c s i := by
  unfold hnOf V
  simp only [hostOps0, hostOps0_1, hostOps0_2, List.flatten_cons, List.flatten_nil, List.cons_append, List.nil_append, List.append_nil,
    TRef.nullary, TRef.unary, TRef.binary, TRef.ternary]
  entry_read
  rfl

/-- The hidden layer's gradient as the region reads it. -/
theorem entry27 (c : Dev nD) (s : Fin 8192) (j : Fin 4096) : (V m c main_v27 : FVec Ideal S8192x4096 .bf16) (ix2 s j) = duOf m c s j := by
  unfold duOf V
  simp only [hostOps0, hostOps0_1, hostOps0_2, List.flatten_cons, List.flatten_nil, List.cons_append, List.nil_append, List.append_nil,
    TRef.nullary, TRef.unary, TRef.binary, TRef.ternary]
  entry_read
  rfl

/-- The hidden layer as the region reads it. -/
theorem entry28 (c : Dev nD) (s : Fin 8192) (j : Fin 4096) : (V m c main_v28 : FVec Ideal S8192x4096 .bf16) (ix2 s j) = upOf m c s j := by
  unfold upOf V
  simp only [hostOps0, hostOps0_1, hostOps0_2, List.flatten_cons, List.flatten_nil, List.cons_append, List.nil_append, List.append_nil,
    TRef.nullary, TRef.unary, TRef.binary, TRef.ternary]
  entry_read
  rfl

/-! The input blocks, read in the whole arrays. -/

/-- A point's block of the normalised activations. -/
theorem blk0 (c : Dev nD) (t : Fin cfg0.N) (r i : Fin 1024) (s : Fin 8192) (hs : s.val = 1024 * (t.val % 8) + r.val) :
    (iblk m c 0 t : FVec Ideal S1024x1024 .bf16) (ix2 r i) = hnOf m c s i := by
  rw [← entry26 m c s i]
  blk_ext [iblk, idx t]

/-- A point's block of the hidden layer's gradient. -/
theorem blk1 (c : Dev nD) (t : Fin cfg0.N) (r j : Fin 1024) (s : Fin 8192) (l : Fin 4096) (hs : s.val = 1024 * (t.val % 8) + r.val)
    (hl : l.val = 1024 * (t.val / 8) + j.val) : (iblk m c 1 t : FVec Ideal S1024x1024 .bf16) (ix2 r j) = duOf m c s l := by
  rw [← entry27 m c s l]
  blk_ext [iblk, idx t]

/-- A point's block of the hidden layer. -/
theorem blk2 (c : Dev nD) (t : Fin cfg0.N) (r j : Fin 1024) (s : Fin 8192) (l : Fin 4096) (hs : s.val = 1024 * (t.val % 8) + r.val)
    (hl : l.val = 1024 * (t.val / 8) + j.val) : (iblk m c 2 t : FVec Ideal S1024x1024 .bf16) (ix2 r j) = upOf m c s l := by
  rw [← entry28 m c s l]
  blk_ext [iblk, idx t]

/-- A point's block of the gradient behind the layer. -/
theorem blk3 (c : Dev nD) (t : Fin cfg0.N) (r k : Fin 1024) (s : Fin 8192) (hs : s.val = 1024 * (t.val % 8) + r.val) :
    (iblk m c 3 t : FVec Ideal S1024x1024 .f32) (ix2 r k) = dhOf m c s k := by
  unfold dhOf
  blk_ext [iblk, V, idx t]

/-- Row `n` of the sequence, counted round it. -/
def row (n : ℕ) : Fin 8192 := ⟨n % 8192, Nat.mod_lt _ (by decide)⟩
/-- Column `j` of chunk `q`, counted round the columns. -/
def col (q : ℕ) (j : Fin 1024) : Fin 4096 := ⟨(1024 * q + j.val) % 4096, Nat.mod_lt _ (by decide)⟩

/-- What row `n` adds to chunk `q` of the first gradient. -/
def term4 (c : Dev nD) (i j : Fin 1024) (q n : ℕ) : EReal := hnOf m c (row n) i * duOf m c (row n) (col q j)
/-- What row `n` adds to chunk `q` of the second gradient. -/
def term5 (c : Dev nD) (i j : Fin 1024) (q n : ℕ) : EReal := act (upOf m c (row n) (col q i)) * dhOf m c (row n) j

/-- One grid point adds its block's products to the first gradient. -/
theorem step4 (c : Dev nD) (t : Fin cfg0.N) (o : FVec Ideal S1x1024x1024 .f32) (i j : Fin 1024) :
    k0_pay3 o (iblk m c 0 t) (iblk m c 1 t) (ix3 0 i j)
      = o (ix3 0 i j) + ∑ r : Fin 1024, term4 m c i j (t.val / 8) (1024 * (t.val % 8) + r.val) := by
  have ht : t.val < 32 := t.isLt
  refine (dwu_apply _ _ _ i j).trans (congrArg _ (Finset.sum_congr rfl fun r _ => ?_))
  have hr := r.isLt
  have hj := j.isLt
  have e : (row (1024 * (t.val % 8) + r.val)).val = 1024 * (t.val % 8) + r.val := Nat.mod_eq_of_lt (by omega)
  exact congrArg₂ HMul.hMul (blk0 m c t r i _ e) (blk1 m c t r j _ _ e (Nat.mod_eq_of_lt (by omega)))

/-- One grid point adds its block's products to the second gradient. -/
theorem step5 (c : Dev nD) (t : Fin cfg0.N) (o : FVec Ideal S1x1024x1024 .f32) (i j : Fin 1024) :
    k0_pay4 (iblk m c 2 t) o (iblk m c 3 t) (ix3 0 i j)
      = o (ix3 0 i j) + ∑ r : Fin 1024, term5 m c i j (t.val / 8) (1024 * (t.val % 8) + r.val) := by
  have ht : t.val < 32 := t.isLt
  refine (dwd_apply _ _ _ i j).trans (congrArg _ (Finset.sum_congr rfl fun r _ => ?_))
  have hr := r.isLt
  have hi := i.isLt
  have e : (row (1024 * (t.val % 8) + r.val)).val = 1024 * (t.val % 8) + r.val := Nat.mod_eq_of_lt (by omega)
  exact congrArg₂ HMul.hMul (congrArg act (blk2 m c t r i _ _ e (Nat.mod_eq_of_lt (by omega)))) (blk3 m c t r j _ e)

/-- The first gradient's chunk after grid point `t`. -/
theorem outs4 (c : Dev nD) (i j : Fin 1024) (t : Fin cfg0.N) : (outsAt0 m c t.val t.isLt).1 (ix3 0 i j)
    = ∑ k ∈ Finset.range (t.val % 8 + 1), ∑ r : Fin 1024, term4 m c i j (t.val / 8) (1024 * k + r.val) := by
  refine (Pipeline.eq_sum_of_reset_step_apply_divmod (fun n h => fun _ : Unit => (outsAt0 m c n h).1 (ix3 0 i j)) 8 (fun _ => 0)
    (fun q k _ => ∑ r : Fin 1024, term4 m c i j q (1024 * k + r.val)) (fun t h _ => ?_) (fun t h _ => ?_) t ()).trans (zero_add _)
  · show (outsAt0 m c t.val t.isLt).1 (ix3 0 i j) = _
    rw [outs4_A m c t h, step4]
    congr 1
    pointwise [k0_pay1]
  · show (outsAt0 m c t.val t.isLt).1 (ix3 0 i j) = _
    rw [outs4_B m c t h, step4]

/-- The second gradient's chunk after grid point `t`. -/
theorem outs5 (c : Dev nD) (i j : Fin 1024) (t : Fin cfg0.N) : (outsAt0 m c t.val t.isLt).2 (ix3 0 i j)
    = ∑ k ∈ Finset.range (t.val % 8 + 1), ∑ r : Fin 1024, term5 m c i j (t.val / 8) (1024 * k + r.val) := by
  refine (Pipeline.eq_sum_of_reset_step_apply_divmod (fun n h => fun _ : Unit => (outsAt0 m c n h).2 (ix3 0 i j)) 8 (fun _ => 0)
    (fun q k _ => ∑ r : Fin 1024, term5 m c i j q (1024 * k + r.val)) (fun t h _ => ?_) (fun t h _ => ?_) t ()).trans (zero_add _)
  · show (outsAt0 m c t.val t.isLt).2 (ix3 0 i j) = _
    rw [outs5_A m c t h, step5]
    congr 1
    pointwise [k0_pay2]
  · show (outsAt0 m c t.val t.isLt).2 (ix3 0 i j) = _
    rw [outs5_B m c t h, step5]

/-- Chunk `q` of the gradient of the first weights. -/
def dUp (hn : Fin 8192 → Fin 1024 → EReal) (du : Fin 8192 → Fin 4096 → EReal) (q : ℕ) (i j : Fin 1024) : EReal :=
  ∑ s : Fin 8192, hn s i * du s (col q j)

/-- Chunk `q` of the gradient of the second weights. -/
def dDown (up : Fin 8192 → Fin 4096 → EReal) (dh : Fin 8192 → Fin 1024 → EReal) (q : ℕ) (i j : Fin 1024) : EReal :=
  ∑ s : Fin 8192, act (up s (col q i)) * dh s j

/-- A row within the sequence is itself. -/
theorem row_eq (s : Fin 8192) : row s.val = s := Fin.ext (Nat.mod_eq_of_lt s.isLt)

/-- The first result: the gradient of the first weights. -/
theorem arr4 (c : Dev nD) : (dats m 0 c).arrAt 4 cfg0.N
    = fun i : S4x1024x1024.Idx => dUp (hnOf m c) (duOf m c) (i 0).val (i 1) (i 2) := by
  refine (dats m 0 c).arrAt_eq_of_covers 4 _ (by decide +kernel) fun t hf y => ?_
  have ht : t.val < 32 := t.isLt
  have h7 : t.val % 8 = 7 := (flush0_4 t).mp hf
  obtain ⟨z, i, j, rfl⟩ : ∃ z i j, y = ix3 z i j := ⟨_, _, _, eq_ix3 y⟩
  obtain rfl : z = 0 := Fin.eq_zero z
  blk_simp
  rw [after0_4]
  refine (outs4 m c i j t).trans ?_
  rw [h7]
  refine (Cert.Sums.rows 8 1024 8192 rfl _).trans ?_
  refine Eq.trans (b := dUp (hnOf m c) (duOf m c) (t.val / 8) i j) ?_
    (congr (congr (congrArg (dUp (hnOf m c) (duOf m c)) ?_) (Fin.ext ?_)) (Fin.ext ?_))
  rotate_left
  · blk_simp [idx t]; rfl
  · blk_simp [idx t]
  · blk_simp [idx t]
  refine Finset.sum_congr rfl fun s _ => ?_
  unfold term4
  rw [row_eq]

/-- The second result: the gradient of the second weights. -/
theorem arr5 (c : Dev nD) : (dats m 0 c).arrAt 5 cfg0.N
    = fun i : S4x1024x1024.Idx => dDown (upOf m c) (dhOf m c) (i 0).val (i 1) (i 2) := by
  refine (dats m 0 c).arrAt_eq_of_covers 5 _ (by decide +kernel) fun t hf y => ?_
  have ht : t.val < 32 := t.isLt
  have h7 : t.val % 8 = 7 := (flush0_5 t).mp hf
  obtain ⟨z, i, j, rfl⟩ : ∃ z i j, y = ix3 z i j := ⟨_, _, _, eq_ix3 y⟩
  obtain rfl : z = 0 := Fin.eq_zero z
  blk_simp
  rw [after0_5]
  refine (outs5 m c i j t).trans ?_
  rw [h7]
  refine (Cert.Sums.rows 8 1024 8192 rfl _).trans ?_
  refine Eq.trans (b := dDown (upOf m c) (dhOf m c) (t.val / 8) i j) ?_
    (congr (congr (congrArg (dDown (upOf m c) (dhOf m c)) ?_) (Fin.ext ?_)) (Fin.ext ?_))
  rotate_left
  · blk_simp [idx t]; rfl
  · blk_simp [idx t]
  · blk_simp [idx t]
  refine Finset.sum_congr rfl fun s _ => ?_
  unfold term5
  rw [row_eq]

end Cert.MlpWGrad

namespace Cert.MlpWGrad

open Cert.MlpWRefIdeal Cert.MlpWRefIdeal.Read

/-- The first plain result at an index. -/
theorem plain32_apply (x0 : FVec Ideal S8192x1024 .f32) (x1 : FVec Ideal S1024 .f32) (x2 : FVec Ideal S1024x4096 .f32)
    (x3 : FVec Ideal S4096x1024 .f32) (x4 : FVec Ideal S8192x1024 .f32) (q : Fin 4) (i j : Fin 1024) :
    val_main_v32 (F := Ideal) x0 x1 x2 x3 x4 (ix3 q i j) = dUp (fun s i => val_main_v12 (F := Ideal) x0 x1 (ix2 s i))
      (fun s j => val_main_v28 (F := Ideal) x0 x1 x2 x3 x4 (ix2 s j)) q.val i j := by
  have hq := q.isLt
  have hi := i.isLt
  have hj := j.isLt
  rw [val_main_v32_apply, val_main_v31_apply, val_main_v30_apply, val_main_v29_apply]
  refine Finset.sum_congr rfl fun s _ => (mul_comm _ _).trans (congrArg₂ HMul.hMul ?_ ?_)
  · refine congrArg (val_main_v12 (F := Ideal) x0 x1) ?_
    exact funext fun a => Fin.ext (match a with | ⟨0, _⟩ => by simp [col]; try omega | ⟨1, _⟩ => by simp [col]; try omega)
  · refine congrArg (val_main_v28 (F := Ideal) x0 x1 x2 x3 x4) ?_
    exact funext fun a => Fin.ext (match a with | ⟨0, _⟩ => by simp [col]; try omega | ⟨1, _⟩ => by simp [col]; try omega)

/-- The second plain result at an index. -/
theorem plain33_apply (x0 : FVec Ideal S8192x1024 .f32) (x1 : FVec Ideal S1024 .f32) (x2 : FVec Ideal S1024x4096 .f32)
    (x4 : FVec Ideal S8192x1024 .f32) (q : Fin 4) (i j : Fin 1024) :
    val_main_v33 (F := Ideal) x0 x1 x2 x4 (ix3 q i j) = dDown (fun s j => val_main_v13 (F := Ideal) x0 x1 x2 (ix2 s j))
      (fun s k => x4 (ix2 s k)) q.val i j := by
  have hq := q.isLt
  have hi := i.isLt
  have hj := j.isLt
  rw [val_main_v33_apply, val_main_v24_apply, val_main_v23_apply]
  refine Finset.sum_congr rfl fun s _ => (mul_comm _ _).trans (congrArg₂ HMul.hMul ?_ ?_)
  · refine Eq.trans (b := act (val_main_v13 (F := Ideal) x0 x1 x2 (ridx_main_v23 (idx_main_v24 (idx_main_v33 (ix3 q i j))) s))) ?_ ?_
    · rw [val_main_v18_apply, val_main_v14_apply, val_main_call0_v0_apply]
      pointwise [val_main_call0_cst]
      rfl
    refine congrArg (fun k => act (val_main_v13 (F := Ideal) x0 x1 x2 k)) ?_
    exact funext fun a => Fin.ext (match a with | ⟨0, _⟩ => by simp [col]; try omega | ⟨1, _⟩ => by simp [col]; try omega)
  · refine congrArg x4 ?_
    exact funext fun a => Fin.ext (match a with | ⟨0, _⟩ => by simp [col]; try omega | ⟨1, _⟩ => by simp [col]; try omega)

/-- The first plain result as a whole array. -/
theorem plain32 (x0 : FVec Ideal S8192x1024 .f32) (x1 : FVec Ideal S1024 .f32) (x2 : FVec Ideal S1024x4096 .f32)
    (x3 : FVec Ideal S4096x1024 .f32) (x4 : FVec Ideal S8192x1024 .f32) :
    val_main_v32 (F := Ideal) x0 x1 x2 x3 x4 = fun i : S4x1024x1024.Idx => dUp (fun s i => val_main_v12 (F := Ideal) x0 x1 (ix2 s i))
      (fun s j => val_main_v28 (F := Ideal) x0 x1 x2 x3 x4 (ix2 s j)) (i 0).val (i 1) (i 2) :=
  funext fun i => (congrArg _ (eq_ix3 i)).trans (plain32_apply x0 x1 x2 x3 x4 (i 0) (i 1) (i 2))

/-- The second plain result as a whole array. -/
theorem plain33 (x0 : FVec Ideal S8192x1024 .f32) (x1 : FVec Ideal S1024 .f32) (x2 : FVec Ideal S1024x4096 .f32)
    (x4 : FVec Ideal S8192x1024 .f32) :
    val_main_v33 (F := Ideal) x0 x1 x2 x4 = fun i : S4x1024x1024.Idx => dDown (fun s j => val_main_v13 (F := Ideal) x0 x1 x2 (ix2 s j))
      (fun s k => x4 (ix2 s k)) (i 0).val (i 1) (i 2) :=
  funext fun i => (congrArg _ (eq_ix3 i)).trans (plain33_apply x0 x1 x2 x4 (i 0) (i 1) (i 2))

/-- The plain gradients leave their arguments and stop quietly: they use no semaphore. -/
theorem plainFrame : Cert.quiescent_MlpWRefIdeal (hMlpWRefIdeal := Cert.MlpWRefIdeal.Gen.facts) := fun m ρ _ =>
  (θ_run _ _ _).mono (fun r h => ⟨fun c => (h c).2.2, sem_eq_zero_of_no_sems (by decide) r.2⟩) (Cert.MlpWRefIdeal.Value.run m ρ)

/-- Over the reals with infinities, the call and the plain gradients of the two weights have equal results. -/
theorem algebraic : Cert.algebraic_MlpWIdeal_MlpWRefIdeal (hMlpWIdeal := Cert.MlpWIdeal.Gen.facts) (hMlpWRefIdeal := Cert.MlpWRefIdeal.Gen.facts) := by
  intro m g m' g' _ hm
  refine ⟨fun c => fun i : Cert.MlpWIdeal.S4x1024x1024.Idx => dUp (hnOf m c) (duOf m c) (i 0).val (i 1) (i 2),
    fun c => fun i : Cert.MlpWIdeal.S4x1024x1024.Idx => dDown (upOf m c) (dhOf m c) (i 0).val (i 1) (i 2), ?_, ?_⟩
  · refine (θ_run _ _ _).mono (fun r h c => ?_) (Cert.MlpWIdeal.Value.run_blocks m g)
    obtain ⟨h0, h1, ha⟩ := h c
    exact ⟨h0.trans (arr4 m c), h1.trans (arr5 m c), ha⟩
  · refine (θ_run _ _ _).mono (fun r h c => ?_) (Cert.MlpWRefIdeal.Value.run m' g')
    obtain ⟨h0, h1, ha⟩ := h c
    obtain ⟨e0, e1, e2, e3, e4⟩ := hm c
    refine ⟨(h0.trans (val_main_v32_eq _ _ _ _ _)).trans ?_, (h1.trans (val_main_v33_eq _ _ _ _)).trans ?_, ha⟩
    · refine (plain32 _ _ _ _ _).trans ?_
      rw [e0, e1, e2, e3, e4]; rfl
    · refine (plain33 _ _ _ _).trans ?_
      rw [e0, e1, e2, e4]; rfl

end Cert.MlpWGrad

end
-- ==== Proof.OutProjValue.lean ====
/-
  The output projection's backward call: each grid point opened, its two results after the run as sums over the whole
  sequence, the plain gradients read at an index, and the value claim.
-/
module

public import proofs.«01_k».proof.Defs
public import proofs.«01_k».proof.Proof.Sums
public import proofs.«01_k».proof.Proof.Gen.OutProjIdeal.Value
public import proofs.«01_k».proof.Proof.Gen.OutProjRefIdeal
public import proofs.«01_k».proof.Proof.Gen.OutProjRefIdeal.Read
public import Idealize.ShloMosaic.Lib.Pipeline.ValueKit
public import Idealize.ShloMosaic.Lib.Pointwise
public import Idealize.ShloMosaic.Lib.KernelVsHost
public import Idealize.ShloMosaic.Lib.IdealHost

@[expose] public section

set_option maxRecDepth 16384

noncomputable section

open Idealize.ShloMosaic Idealize.ShloMosaic.TcCoe Idealize.SL.Sem Idealize.ShloMosaic.StableHlo

namespace Cert.OutProjGrad

open Cert.OutProjIdeal Cert.OutProjIdeal.Gen

variable (m : (l : Loc nD τ sig) → Buf (Elt Ideal) l)

/-- Where each window's block lies at point `t`. -/
theorem idx : ∀ t : Fin grid0.N, win0_0.index t = ![t.val, 0] ∧ win0_1.index t = ![t.val, 0]
    ∧ win0_2.index t = ![t.val, 0] ∧ win0_3.index t = ![t.val, 0] ∧ win0_4.index t = ![0, 0]
    ∧ win0_5.index t = ![t.val, 0] ∧ win0_6.index t = ![0, 0] := by decide +kernel

/-- What a point leaves in the first output's block: its rows of the gradient against the weights. -/
theorem outs5 (c : Dev nD) (t : Fin cfg0.N) : (outsAt0 m c t.val t.isLt).1
    = k0_pay3 (iblk m c 0 t) (iblk m c 4 t) := by
  by_cases h : t.val % 8 = 0
  · rw [outsAt0_A m c t h]; frame_out
  · rw [outsAt0_B m c t h]; frame_out

/-- The first point starts the weights' gradient from zero. -/
theorem outs6_A (c : Dev nD) (t : Fin cfg0.N) (h : t.val % 8 = 0) : (outsAt0 m c t.val t.isLt).2
    = k0_pay4 (iblk m c 0 t) (iblk m c 1 t) (iblk m c 2 t) (iblk m c 3 t) (k0_pay1 (F := Ideal)) := by
  rw [outsAt0_A m c t h]; frame_out

/-- A later point adds to it. -/
theorem outs6_B (c : Dev nD) (t : Fin cfg0.N) (h : ¬t.val % 8 = 0) : (outsAt0 m c t.val t.isLt).2
    = k0_pay4 (iblk m c 0 t) (iblk m c 1 t) (iblk m c 2 t) (iblk m c 3 t)
      (outsAt0 m c (t.val - 1) (Nat.lt_of_le_of_lt (Nat.sub_le _ _) t.isLt)).2 := by
  rw [outsAt0_B m c t h]; frame_out

/-- Three arrays side by side, at row `s` and column `j`: 512 columns, then 256, then 256. -/
def side {N : ℕ} (a : Fin N → Fin 512 → EReal) (b d : Fin N → Fin 256 → EReal) (s : Fin N) (j : Fin 1024) : EReal :=
  if h : j.val < 512 then a s ⟨j.val, h⟩ else if h' : j.val - 512 < 256 then b s ⟨j.val - 512, h'⟩
    else d s ⟨j.val - 512 - 256, by omega⟩

/-- One block's rows against the weights, at an index. -/
theorem dy_apply (x : FVec Ideal S1024x1024 .f32) (w : FVec Ideal S1024x1024 .bf16) (r j : Fin 1024) :
    k0_pay3 (F := Ideal) x w (ix2 r j) = ∑ k : Fin 1024, x (ix2 r k) * w (ix2 j k) := by
  pointwise [k0_pay3, k0_pay2]

/-- One block's contribution to the weights' gradient, at an index. -/
theorem dw_apply (x : FVec Ideal S1024x1024 .f32) (a : FVec Ideal S1024x512 .bf16) (b d : FVec Ideal S1024x256 .bf16)
    (o : FVec Ideal S1024x1024 .f32) (j k : Fin 1024) :
    k0_pay4 (F := Ideal) x a b d o (ix2 j k) = o (ix2 j k)
      + ∑ r : Fin 1024, side (fun s l => a (ix2 s l)) (fun s l => b (ix2 s l)) (fun s l => d (ix2 s l)) r j * x (ix2 r k) := by
  pointwise [k0_pay4, k0_pay2]
  rfl

/-- The attention branch's output, at an index. -/
def yaOf (c : Dev nD) (s : Fin 8192) (l : Fin 512) : EReal := (m ((c : Thread nD τ).loc main_arg0) : FVec Ideal S8192x512 .bf16) (ix2 s l)
/-- The convolution branch's output. -/
def ycOf (c : Dev nD) (s : Fin 8192) (l : Fin 256) : EReal := (m ((c : Thread nD τ).loc main_arg1) : FVec Ideal S8192x256 .bf16) (ix2 s l)
/-- The recurrence branch's output. -/
def ylOf (c : Dev nD) (s : Fin 8192) (l : Fin 256) : EReal := (m ((c : Thread nD τ).loc main_arg2) : FVec Ideal S8192x256 .bf16) (ix2 s l)
/-- The weights. -/
def wOf (c : Dev nD) (j k : Fin 1024) : EReal := (m ((c : Thread nD τ).loc main_arg3) : FVec Ideal S1024x1024 .f32) (ix2 j k)
/-- The gradient behind the projection. -/
def dhOf (c : Dev nD) (s : Fin 8192) (k : Fin 1024) : EReal := (m ((c : Thread nD τ).loc main_arg4) : FVec Ideal S8192x1024 .f32) (ix2 s k)

/-! The input blocks, read in the whole arrays. -/

/-- Block `t` of the gradient. -/
theorem blk0 (c : Dev nD) (t : Fin cfg0.N) (r k : Fin 1024) (s : Fin 8192) (hs : s.val = 1024 * t.val + r.val) :
    (iblk m c 0 t : FVec Ideal S1024x1024 .f32) (ix2 r k) = dhOf m c s k := by
  have := t.isLt
  unfold dhOf
  blk_ext [iblk, V, idx t]

/-- Block `t` of the attention branch's output. -/
theorem blk1 (c : Dev nD) (t : Fin cfg0.N) (r : Fin 1024) (l : Fin 512) (s : Fin 8192) (hs : s.val = 1024 * t.val + r.val) :
    (iblk m c 1 t : FVec Ideal S1024x512 .bf16) (ix2 r l) = yaOf m c s l := by
  have := t.isLt
  unfold yaOf
  blk_ext [iblk, V, idx t]

/-- Block `t` of the convolution branch's output. -/
theorem blk2 (c : Dev nD) (t : Fin cfg0.N) (r : Fin 1024) (l : Fin 256) (s : Fin 8192) (hs : s.val = 1024 * t.val + r.val) :
    (iblk m c 2 t : FVec Ideal S1024x256 .bf16) (ix2 r l) = ycOf m c s l := by
  have := t.isLt
  unfold ycOf
  blk_ext [iblk, V, idx t]

/-- Block `t` of the recurrence branch's output. -/
theorem blk3 (c : Dev nD) (t : Fin cfg0.N) (r : Fin 1024) (l : Fin 256) (s : Fin 8192) (hs : s.val = 1024 * t.val + r.val) :
    (iblk m c 3 t : FVec Ideal S1024x256 .bf16) (ix2 r l) = ylOf m c s l := by
  have := t.isLt
  unfold ylOf
  blk_ext [iblk, V, idx t]

/-- The weights as the region reads them. -/
theorem entry4 (c : Dev nD) (j k : Fin 1024) : (V m c main_v0 : FVec Ideal S1024x1024 .bf16) (ix2 j k) = wOf m c j k := by
  unfold wOf V
  simp only [hostOps0, List.flatten_cons, List.flatten_nil, List.cons_append, List.nil_append, TRef.unary, TRef.binary]
  entry_read
  rfl

/-- The weights' block is the weights. -/
theorem blk4 (c : Dev nD) (t : Fin cfg0.N) (j k : Fin 1024) :
    (iblk m c 4 t : FVec Ideal S1024x1024 .bf16) (ix2 j k) = wOf m c j k := by
  rw [← entry4 m c j k]
  blk_ext [iblk, idx t]

/-- The gradient of the branches' outputs. -/
def dY {N : ℕ} (dh : Fin N → Fin 1024 → EReal) (w : Fin 1024 → Fin 1024 → EReal) (s : Fin N) (j : Fin 1024) : EReal :=
  ∑ k : Fin 1024, dh s k * w j k

/-- The gradient of the weights. -/
def dW {N : ℕ} (y : Fin N → Fin 1024 → EReal) (dh : Fin N → Fin 1024 → EReal) (j k : Fin 1024) : EReal :=
  ∑ s : Fin N, y s j * dh s k

/-- The first result: the gradient of the branches' outputs. -/
theorem arr5 (c : Dev nD) : (dats m 0 c).arrAt 5 cfg0.N
    = fun i : S8192x1024.Idx => dY (dhOf m c) (wOf m c) (i 0) (i 1) := by
  refine (dats m 0 c).arrAt_eq_of_covers 5 _ (by decide +kernel) fun t hf y => ?_
  have ht : t.val < 8 := t.isLt
  obtain ⟨r, j, rfl⟩ : ∃ r j, y = ix2 r j := ⟨_, _, eq_ix2 y⟩
  have hr : r.val < 1024 := r.isLt
  blk_simp
  rw [after0_5, outs5]
  refine (dy_apply _ _ r j).trans (Eq.trans ?_ (congrArg₂ (dY (dhOf m c) (wOf m c))
    (x := ⟨1024 * t.val + r.val, by omega⟩) (y := j) (Fin.ext ?_) (Fin.ext ?_)))
  · exact Finset.sum_congr rfl fun k _ => congrArg₂ HMul.hMul (blk0 m c t r k _ rfl) (blk4 m c t j k)
  all_goals blk_simp [idx t]
  all_goals (try simp only); omega

/-- Row `s` of the branches' outputs, side by side. -/
def yOf (c : Dev nD) : Fin 8192 → Fin 1024 → EReal := side (yaOf m c) (ycOf m c) (ylOf m c)

/-- What row `n` of the sequence adds to the weights' gradient. -/
def term6 (c : Dev nD) (j k : Fin 1024) (n : ℕ) : EReal :=
  yOf m c ⟨n % 8192, Nat.mod_lt _ (by decide)⟩ j * dhOf m c ⟨n % 8192, Nat.mod_lt _ (by decide)⟩ k

/-- One grid point adds its block's products. -/
theorem step6 (c : Dev nD) (t : Fin cfg0.N) (o : FVec Ideal S1024x1024 .f32) (j k : Fin 1024) :
    k0_pay4 (iblk m c 0 t) (iblk m c 1 t) (iblk m c 2 t) (iblk m c 3 t) o (ix2 j k)
      = o (ix2 j k) + ∑ r : Fin 1024, term6 m c j k (1024 * t.val + r.val) := by
  have ht : t.val < 8 := t.isLt
  refine (dw_apply _ _ _ _ _ j k).trans (congrArg _ (Finset.sum_congr rfl fun r _ => ?_))
  have hr := r.isLt
  have e : ∀ h, (⟨(1024 * t.val + r.val) % 8192, h⟩ : Fin 8192).val = 1024 * t.val + r.val := fun _ => Nat.mod_eq_of_lt (by omega)
  refine congrArg₂ HMul.hMul ?_ (blk0 m c t r k _ (e _))
  unfold yOf side
  split
  · exact blk1 m c t r _ _ (e _)
  · split
    · exact blk2 m c t r _ _ (e _)
    · exact blk3 m c t r _ _ (e _)

/-- The weights' gradient after grid point `t`. -/
theorem outs6 (c : Dev nD) (j k : Fin 1024) (t : Fin cfg0.N) : (outsAt0 m c t.val t.isLt).2 (ix2 j k)
    = ∑ n ∈ Finset.range (t.val + 1), ∑ r : Fin 1024, term6 m c j k (1024 * n + r.val) := by
  refine (Pipeline.eq_sum_of_reset_step_apply_single (fun n h => fun _ : Unit => (outsAt0 m c n h).2 (ix2 j k)) 8 (fun _ => 0)
    (fun n _ => ∑ r : Fin 1024, term6 m c j k (1024 * n + r.val)) (fun t h _ => ?_) (fun t h _ => ?_) (by decide) t ()).trans (zero_add _)
  · show (outsAt0 m c t.val t.isLt).2 (ix2 j k) = _
    rw [outs6_A m c t h, step6]
    congr 1
    pointwise [k0_pay1]
  · show (outsAt0 m c t.val t.isLt).2 (ix2 j k) = _
    rw [outs6_B m c t h, step6]

/-- The second result: the gradient of the weights. -/
theorem arr6 (c : Dev nD) : (dats m 0 c).arrAt 6 cfg0.N
    = fun i : S1024x1024.Idx => dW (yOf m c) (dhOf m c) (i 0) (i 1) := by
  refine (dats m 0 c).arrAt_eq_of_after_last 6 t0_7 (by decide +kernel) _ fun y => ?_
  blk_simp
  rw [after0_6]
  obtain ⟨j, k, rfl⟩ : ∃ j k, y = ix2 j k := ⟨_, _, eq_ix2 y⟩
  refine (outs6 m c j k t0_7).trans ((Cert.Sums.rows 8 1024 8192 rfl _).trans (Finset.sum_congr rfl fun s _ => ?_))
  have e : (⟨s.val % 8192, Nat.mod_lt _ (by decide)⟩ : Fin 8192) = s := Fin.ext (Nat.mod_eq_of_lt s.isLt)
  unfold term6
  rw [e]
  rfl

open Cert.OutProjRefIdeal Cert.OutProjRefIdeal.Read in
/-- The first plain result as a whole array. -/
theorem plain5 (x3 : FVec Ideal Cert.OutProjIdeal.S1024x1024 .f32) (x4 : FVec Ideal Cert.OutProjIdeal.S8192x1024 .f32) :
    val_main_v5 (F := Ideal) x3 x4 = fun i : Cert.OutProjIdeal.S8192x1024.Idx => dY (fun s k => x4 (ix2 s k)) (fun j k => x3 (ix2 j k)) (i 0) (i 1) :=
  funext fun i => (val_main_v5_apply x3 x4 i).trans (Finset.sum_congr rfl fun k _ =>
    congrArg₂ HMul.hMul (congrArg x4 (eq_ix2 _)) (congrArg x3 (eq_ix2 _)))

open Cert.OutProjRefIdeal Cert.OutProjRefIdeal.Read in
/-- The second plain result as a whole array. -/
theorem plain4 (x0 : FVec Ideal Cert.OutProjIdeal.S8192x512 .bf16) (x1 x2 : FVec Ideal Cert.OutProjIdeal.S8192x256 .bf16) (x4 : FVec Ideal Cert.OutProjIdeal.S8192x1024 .f32) :
    val_main_v4 (F := Ideal) x0 x1 x2 x4 = fun i : Cert.OutProjIdeal.S1024x1024.Idx => dW (side (fun s l => x0 (ix2 s l)) (fun s l => x1 (ix2 s l))
      (fun s l => x2 (ix2 s l))) (fun s k => x4 (ix2 s k)) (i 0) (i 1) := by
  refine funext fun i => ?_
  obtain ⟨j, k, rfl⟩ : ∃ j k, i = ix2 j k := ⟨_, _, eq_ix2 i⟩
  rw [val_main_v4_apply, val_main_v3_apply]
  refine Finset.sum_congr rfl fun s _ => (mul_comm _ _).trans (congrArg₂ HMul.hMul ?_ (congrArg x4 (eq_ix2 _)))
  refine Eq.trans (congrArg _ (eq_ix2 _)) ?_
  pointwise [val_main_v1, val_main_v0]
  rfl

/-- The plain gradients leave their arguments and stop quietly: they use no semaphore. -/
theorem plainFrame : Cert.quiescent_OutProjRefIdeal (hOutProjRefIdeal := Cert.OutProjRefIdeal.Gen.facts) := fun m ρ _ =>
  (θ_run _ _ _).mono (fun r h => ⟨fun c => (h c).2.2, sem_eq_zero_of_no_sems (by decide) r.2⟩) (Cert.OutProjRefIdeal.Value.run m ρ)

/-- Over the reals with infinities, the call and the plain gradients of the output projection have equal results. -/
theorem algebraic : Cert.algebraic_OutProjIdeal_OutProjRefIdeal (hOutProjIdeal := Cert.OutProjIdeal.Gen.facts) (hOutProjRefIdeal := Cert.OutProjRefIdeal.Gen.facts) := by
  intro m g m' g' _ hm
  refine ⟨fun c => fun i : Cert.OutProjIdeal.S8192x1024.Idx => dY (dhOf m c) (wOf m c) (i 0) (i 1),
    fun c => fun i : Cert.OutProjIdeal.S1024x1024.Idx => dW (yOf m c) (dhOf m c) (i 0) (i 1), ?_, ?_⟩
  · refine (θ_run _ _ _).mono (fun r h c => ?_) (Cert.OutProjIdeal.Value.run_blocks m g)
    obtain ⟨h0, h1, ha⟩ := h c
    exact ⟨h0.trans (arr5 m c), h1.trans (arr6 m c), ha⟩
  · refine (θ_run _ _ _).mono (fun r h c => ?_) (Cert.OutProjRefIdeal.Value.run m' g')
    obtain ⟨h0, h1, ha⟩ := h c
    obtain ⟨e0, e1, e2, e3, e4⟩ := hm c
    refine ⟨(h0.trans (Cert.OutProjRefIdeal.Read.val_main_v5_eq _ _)).trans ?_,
      (h1.trans (Cert.OutProjRefIdeal.Read.val_main_v4_eq _ _ _ _)).trans ?_, ha⟩
    · refine (plain5 _ _).trans ?_
      rw [e3, e4]; rfl
    · refine (plain4 _ _ _ _).trans ?_
      rw [e0, e1, e2, e4]; rfl

end Cert.OutProjGrad

end
-- ==== Proof.InProjValue.lean ====
/-
  The input projection's gradients: each grid point opened, the three results after the run at an index, the plain
  gradients read at an index, and the value claim.
-/
module

public import proofs.«01_k».proof.Defs
public import proofs.«01_k».proof.Proof.Sums
public import proofs.«01_k».proof.Proof.Rms
public import proofs.«01_k».proof.Proof.Gen.InProjIdeal.Value
public import proofs.«01_k».proof.Proof.Gen.InProjRefIdeal
public import proofs.«01_k».proof.Proof.Gen.InProjRefIdeal.Read
public import Idealize.ShloMosaic.Lib.Pipeline.ValueKit
public import Idealize.ShloMosaic.Lib.Pointwise
public import Idealize.ShloMosaic.Lib.KernelVsHost
public import Idealize.ShloMosaic.Lib.IdealHost

@[expose] public section

set_option maxRecDepth 16384

noncomputable section

open Idealize.ShloMosaic Idealize.ShloMosaic.TcCoe Idealize.SL.Sem Idealize.ShloMosaic.StableHlo

namespace Cert.InProjGrad

open Cert.InProjIdeal Cert.InProjIdeal.Gen Cert.Rms

variable (m : (l : Loc nD τ sig) → Buf (Elt Ideal) l)

/-- Five arrays side by side, at an index. -/
def parts {N : ℕ} (a : Fin N → Fin 512 → EReal) (b : Fin N → Fin 256 → EReal) (c : Fin N → Fin 512 → EReal) (d e : Fin N → Fin 256 → EReal)
    (s : Fin N) (i : Fin 1792) : EReal :=
  if h : i.val < 512 then a s ⟨i.val, h⟩
  else if h1 : i.val - 512 < 256 then b s ⟨i.val - 512, h1⟩
  else if h2 : i.val - 512 - 256 < 512 then c s ⟨i.val - 512 - 256, h2⟩
  else if h3 : i.val - 512 - 256 - 512 < 256 then d s ⟨i.val - 512 - 256 - 512, h3⟩
  else e s ⟨i.val - 512 - 256 - 512 - 256, by omega⟩

/-- The gradient in the normalised activations, of the projection's gradient and its weights. -/
def dHn {N : ℕ} (dz : Fin N → Fin 1792 → EReal) (w : Fin 1024 → Fin 1792 → EReal) (s : Fin N) (i : Fin 1024) : EReal :=
  ∑ j : Fin 1792, dz s j * w i j

/-- The gradient of the weights. -/
def dW {N : ℕ} (dz : Fin N → Fin 1792 → EReal) (x : Fin N → Fin 1024 → EReal) (g : Fin 1024 → EReal) (j : Fin 1792) (i : Fin 1024) : EReal :=
  ∑ s : Fin N, dz s j * (x s i * rs (x s) * g i)

/-! The stored values at an index. -/

/-- A block of the projection's gradient. -/
theorem dz_apply (a : FVec Ideal S512x512 .bf16) (b : FVec Ideal S512x256 .bf16) (c : FVec Ideal S512x512 .bf16) (d e : FVec Ideal S512x256 .bf16)
    (r : Fin 512) (j : Fin 1792) : k0_pay5 (F := Ideal) a b c d e (ix2 r j) = parts (fun r i => a (ix2 r i)) (fun r i => b (ix2 r i))
      (fun r i => c (ix2 r i)) (fun r i => d (ix2 r i)) (fun r i => e (ix2 r i)) r j := by
  pointwise [k0_pay5]
  rfl

/-- A block of the normalised activations' gradient. -/
theorem hn_apply (a : FVec Ideal S512x512 .bf16) (b : FVec Ideal S512x256 .bf16) (c : FVec Ideal S512x512 .bf16) (d e : FVec Ideal S512x256 .bf16)
    (w : FVec Ideal S1792x1024 .bf16) (r : Fin 512) (i : Fin 1024) : k0_pay8 (F := Ideal) a b c d e w (ix2 r i)
      = dHn (fun r j => k0_pay5 (F := Ideal) a b c d e (ix2 r j)) (fun i j => w (ix2 j i)) r i := by
  pointwise [k0_pay8]
  rfl

/-- What a block adds to the weights' gradient. -/
theorem w_apply (a : FVec Ideal S512x512 .bf16) (b : FVec Ideal S512x256 .bf16) (c : FVec Ideal S512x512 .bf16) (d e : FVec Ideal S512x256 .bf16)
    (x : FVec Ideal S512x1024 .f32) (g : FVec Ideal S1x1024 .f32) (o : FVec Ideal S1792x1024 .f32) (j : Fin 1792) (i : Fin 1024) :
    k0_pay9 (F := Ideal) a b c d e x g o (ix2 j i) = o (ix2 j i)
      + dW (fun r j => k0_pay5 (F := Ideal) a b c d e (ix2 r j)) (fun r i => x (ix2 r i)) (fun i => g (ix2 0 i)) j i := by
  pointwise [k0_pay9, k0_pay7, k0_pay6]
  rfl

/-- A block of the gradient in front of the projection. -/
theorem in_apply (x b dh : FVec Ideal S512x1024 .f32) (g : FVec Ideal S1x1024 .f32) (r : Fin 512) (i : Fin 1024) :
    k0_pay1 (F := Ideal) x (k0_pay6 g) (k0_pay7 x) b dh (ix2 r i)
      = dIn (fun r k => dh (ix2 r k)) (fun r k => b (ix2 r k)) (fun r k => x (ix2 r k)) (fun k => g (ix2 0 k)) r i := by
  pointwise [k0_pay1, k0_pay6, k0_pay7]
  rfl

/-- What a block adds to the gradient of the norm's scale. -/
theorem g_apply (x b : FVec Ideal S512x1024 .f32) (o : FVec Ideal S1x1024 .f32) (i : Fin 1024) :
    k0_pay2 (F := Ideal) x (k0_pay7 x) b o (ix2 0 i) = o (ix2 0 i) + dG (fun r k => b (ix2 r k)) (fun r k => x (ix2 r k)) i := by
  pointwise [k0_pay2, k0_pay7]
  rfl

/-! The windows' blocks. -/

/-- Where each window's block lies at point `t`. -/
theorem idx : ∀ t : Fin grid0.N, win0_0.index t = ![t.val, 0] ∧ win0_1.index t = ![t.val, 0]
    ∧ win0_2.index t = ![t.val, 0] ∧ win0_3.index t = ![t.val, 0] ∧ win0_4.index t = ![t.val, 0] ∧ win0_5.index t = ![t.val, 0]
    ∧ win0_6.index t = ![0, 0] ∧ win0_7.index t = ![0, 0] ∧ win0_8.index t = ![t.val, 0]
    ∧ win0_9.index t = ![t.val, 0] ∧ win0_10.index t = ![0, 0] ∧ win0_11.index t = ![0, 0] := by decide +kernel

/-- The activations in front of the projection. -/
def xOf (c : Dev nD) (s : Fin 8192) (k : Fin 1024) : EReal := (m ((c : Thread nD τ).loc main_arg0) : FVec Ideal S8192x1024 .f32) (ix2 s k)
/-- The norm's scale. -/
def gOf (c : Dev nD) (k : Fin 1024) : EReal := (m ((c : Thread nD τ).loc main_arg1) : FVec Ideal S1024 .f32) (ix1 k)
/-- The weights. -/
def wOf (c : Dev nD) (i : Fin 1024) (j : Fin 1792) : EReal := (m ((c : Thread nD τ).loc main_arg2) : FVec Ideal S1024x1792 .f32) (ix2 i j)
/-- The first part of the projection's gradient. -/
def z0Of (c : Dev nD) (s : Fin 8192) (k : Fin 512) : EReal := (m ((c : Thread nD τ).loc main_arg3) : FVec Ideal S8192x512 .bf16) (ix2 s k)
/-- The second part. -/
def z1Of (c : Dev nD) (s : Fin 8192) (k : Fin 256) : EReal := (m ((c : Thread nD τ).loc main_arg4) : FVec Ideal S8192x256 .bf16) (ix2 s k)
/-- The third part. -/
def z2Of (c : Dev nD) (s : Fin 8192) (k : Fin 512) : EReal := (m ((c : Thread nD τ).loc main_arg5) : FVec Ideal S8192x512 .bf16) (ix2 s k)
/-- The fourth part. -/
def z3Of (c : Dev nD) (s : Fin 8192) (k : Fin 256) : EReal := (m ((c : Thread nD τ).loc main_arg6) : FVec Ideal S8192x256 .bf16) (ix2 s k)
/-- The fifth part. -/
def z4Of (c : Dev nD) (s : Fin 8192) (k : Fin 256) : EReal := (m ((c : Thread nD τ).loc main_arg7) : FVec Ideal S8192x256 .bf16) (ix2 s k)
/-- The gradient that passes the projection by. -/
def dhOf (c : Dev nD) (s : Fin 8192) (k : Fin 1024) : EReal := (m ((c : Thread nD τ).loc main_arg8) : FVec Ideal S8192x1024 .f32) (ix2 s k)
/-- The projection's gradient. -/
def dzOf (c : Dev nD) : Fin 8192 → Fin 1792 → EReal := parts (z0Of m c) (z1Of m c) (z2Of m c) (z3Of m c) (z4Of m c)
/-- The normalised activations' gradient. -/
def dhnOf (c : Dev nD) : Fin 8192 → Fin 1024 → EReal := dHn (dzOf m c) (wOf m c)

/-- The norm's scale as the region reads it. -/
theorem entry0 (c : Dev nD) (k : Fin 1024) : (V m c main_v0 : FVec Ideal S1x1024 .f32) (ix2 0 k) = gOf m c k := by
  unfold gOf V
  simp only [hostOps0, List.flatten_cons, List.flatten_nil, List.cons_append, List.nil_append, List.append_nil,
    TRef.nullary, TRef.unary, TRef.binary, TRef.ternary]
  entry_read
  pointwise

/-- The weights as the region reads them. -/
theorem entry2 (c : Dev nD) (j : Fin 1792) (i : Fin 1024) : (V m c main_v2 : FVec Ideal S1792x1024 .bf16) (ix2 j i) = wOf m c i j := by
  unfold wOf V
  simp only [hostOps0, List.flatten_cons, List.flatten_nil, List.cons_append, List.nil_append, List.append_nil,
    TRef.nullary, TRef.unary, TRef.binary, TRef.ternary]
  entry_read
  pointwise

/-- Row `r` of block `t`. -/
def row (t : Fin cfg0.N) (r : Fin 512) : Fin 8192 := ⟨512 * t.val + r.val, by have := t.isLt; have : t.val < 16 := this; omega⟩

/-- A point's block of the first part. -/
theorem blk0 (c : Dev nD) (t : Fin cfg0.N) (r : Fin 512) (k : Fin 512) :
    (iblk m c 0 t : FVec Ideal S512x512 .bf16) (ix2 r k) = z0Of m c (row t r) k := by
  unfold z0Of
  blk_ext [iblk, V, idx t, row]

/-- A point's block of the second part. -/
theorem blk1 (c : Dev nD) (t : Fin cfg0.N) (r : Fin 512) (k : Fin 256) :
    (iblk m c 1 t : FVec Ideal S512x256 .bf16) (ix2 r k) = z1Of m c (row t r) k := by
  unfold z1Of
  blk_ext [iblk, V, idx t, row]

/-- A point's block of the third part. -/
theorem blk2 (c : Dev nD) (t : Fin cfg0.N) (r : Fin 512) (k : Fin 512) :
    (iblk m c 2 t : FVec Ideal S512x512 .bf16) (ix2 r k) = z2Of m c (row t r) k := by
  unfold z2Of
  blk_ext [iblk, V, idx t, row]

/-- A point's block of the fourth part. -/
theorem blk3 (c : Dev nD) (t : Fin cfg0.N) (r : Fin 512) (k : Fin 256) :
    (iblk m c 3 t : FVec Ideal S512x256 .bf16) (ix2 r k) = z3Of m c (row t r) k := by
  unfold z3Of
  blk_ext [iblk, V, idx t, row]

/-- A point's block of the fifth part. -/
theorem blk4 (c : Dev nD) (t : Fin cfg0.N) (r : Fin 512) (k : Fin 256) :
    (iblk m c 4 t : FVec Ideal S512x256 .bf16) (ix2 r k) = z4Of m c (row t r) k := by
  unfold z4Of
  blk_ext [iblk, V, idx t, row]

/-- A point's block of the activations. -/
theorem blk5 (c : Dev nD) (t : Fin cfg0.N) (r : Fin 512) (k : Fin 1024) :
    (iblk m c 5 t : FVec Ideal S512x1024 .f32) (ix2 r k) = xOf m c (row t r) k := by
  unfold xOf
  blk_ext [iblk, V, idx t, row]

/-- The block of the norm's scale. -/
theorem blk6 (c : Dev nD) (t : Fin cfg0.N) (k : Fin 1024) : (iblk m c 6 t : FVec Ideal S1x1024 .f32) (ix2 0 k) = gOf m c k := by
  rw [← entry0 m c k]
  blk_ext [iblk, idx t]

/-- The block of the weights. -/
theorem blk7 (c : Dev nD) (t : Fin cfg0.N) (j : Fin 1792) (i : Fin 1024) :
    (iblk m c 7 t : FVec Ideal S1792x1024 .bf16) (ix2 j i) = wOf m c i j := by
  rw [← entry2 m c j i]
  blk_ext [iblk, idx t]

/-- A point's block of the gradient that passes by. -/
theorem blk8 (c : Dev nD) (t : Fin cfg0.N) (r : Fin 512) (k : Fin 1024) :
    (iblk m c 8 t : FVec Ideal S512x1024 .f32) (ix2 r k) = dhOf m c (row t r) k := by
  unfold dhOf
  blk_ext [iblk, V, idx t, row]

/-- A point's block of the projection's gradient. -/
theorem dz_blk (c : Dev nD) (t : Fin cfg0.N) (r : Fin 512) (j : Fin 1792) :
    k0_pay5 (F := Ideal) (iblk m c 0 t) (iblk m c 1 t) (iblk m c 2 t) (iblk m c 3 t) (iblk m c 4 t) (ix2 r j) = dzOf m c (row t r) j := by
  refine (dz_apply _ _ _ _ _ r j).trans ?_
  unfold dzOf parts
  simp only [blk0, blk1, blk2, blk3, blk4]

/-- A point's block of the normalised activations' gradient. -/
theorem hn_blk (c : Dev nD) (t : Fin cfg0.N) (r : Fin 512) (i : Fin 1024) :
    k0_pay8 (F := Ideal) (iblk m c 0 t) (iblk m c 1 t) (iblk m c 2 t) (iblk m c 3 t) (iblk m c 4 t) (iblk m c 7 t) (ix2 r i) = dhnOf m c (row t r) i := by
  refine (hn_apply _ _ _ _ _ _ r i).trans ?_
  unfold dhnOf dHn
  exact Finset.sum_congr rfl fun j _ => congrArg₂ HMul.hMul (dz_blk m c t r j) (blk7 m c t j i)

/-! What the outputs hold after a point. -/

/-- The gradient in front of the projection after point `t`. -/
theorem outs9 (c : Dev nD) (t : Fin cfg0.N) (r : Fin 512) (i : Fin 1024) :
    (outsAt0 m c t.val t.isLt).1 (ix2 r i) = dIn (dhOf m c) (dhnOf m c) (xOf m c) (gOf m c) (row t r) i := by
  have key : k0_pay1 (F := Ideal) (iblk m c 5 t) (k0_pay6 (iblk m c 6 t)) (k0_pay7 (iblk m c 5 t))
      (k0_pay8 (iblk m c 0 t) (iblk m c 1 t) (iblk m c 2 t) (iblk m c 3 t) (iblk m c 4 t) (iblk m c 7 t)) (iblk m c 8 t) (ix2 r i)
        = dIn (dhOf m c) (dhnOf m c) (xOf m c) (gOf m c) (row t r) i := by
    refine (in_apply _ _ _ _ r i).trans ?_
    unfold dIn
    simp only [hn_blk, blk5, blk6, blk8]
  by_cases h : t.val % 16 = 0
  · rw [outsAt0_A m c t h]; frame_out
    exact key
  · rw [outsAt0_B m c t h]; frame_out
    exact key

/-- Row `n` of the sequence, counted round it. -/
def rnd (n : ℕ) : Fin 8192 := ⟨n % 8192, Nat.mod_lt _ (by decide)⟩

/-- A row of a block, counted in the sequence. -/
theorem rnd_row (t : Fin cfg0.N) (r : Fin 512) : rnd (512 * t.val + r.val) = row t r := by
  have ht : t.val < 16 := t.isLt
  exact Fin.ext (Nat.mod_eq_of_lt (by omega))

/-- A row within the sequence is itself. -/
theorem rnd_eq (s : Fin 8192) : rnd s.val = s := Fin.ext (Nat.mod_eq_of_lt s.isLt)

/-- What row `n` adds to the weights' gradient. -/
def term10 (c : Dev nD) (j : Fin 1792) (i : Fin 1024) (n : ℕ) : EReal :=
  dzOf m c (rnd n) j * (xOf m c (rnd n) i * rs (xOf m c (rnd n)) * gOf m c i)
/-- What row `n` adds to the gradient of the norm's scale. -/
def term11 (c : Dev nD) (i : Fin 1024) (n : ℕ) : EReal := dhnOf m c (rnd n) i * xOf m c (rnd n) i * rs (xOf m c (rnd n))

/-- One block's part of the weights' gradient. -/
theorem w_step (c : Dev nD) (t : Fin cfg0.N) (j : Fin 1792) (i : Fin 1024) (o : FVec Ideal S1792x1024 .f32) :
    k0_pay9 (F := Ideal) (iblk m c 0 t) (iblk m c 1 t) (iblk m c 2 t) (iblk m c 3 t) (iblk m c 4 t) (iblk m c 5 t) (iblk m c 6 t) o (ix2 j i)
      = o (ix2 j i) + ∑ r : Fin 512, term10 m c j i (512 * t.val + r.val) := by
  refine (w_apply _ _ _ _ _ _ _ _ j i).trans (congrArg _ ?_)
  unfold dW term10
  refine Finset.sum_congr rfl fun r _ => ?_
  rw [rnd_row]
  simp only [dz_blk, blk5, blk6]

/-- One block's part of the gradient of the norm's scale. -/
theorem g_step (c : Dev nD) (t : Fin cfg0.N) (i : Fin 1024) (o : FVec Ideal S1x1024 .f32) :
    k0_pay2 (F := Ideal) (iblk m c 5 t) (k0_pay7 (iblk m c 5 t))
      (k0_pay8 (iblk m c 0 t) (iblk m c 1 t) (iblk m c 2 t) (iblk m c 3 t) (iblk m c 4 t) (iblk m c 7 t)) o (ix2 0 i)
      = o (ix2 0 i) + ∑ r : Fin 512, term11 m c i (512 * t.val + r.val) := by
  refine (g_apply _ _ _ i).trans (congrArg _ ?_)
  unfold dG term11
  refine Finset.sum_congr rfl fun r _ => ?_
  rw [rnd_row]
  simp only [hn_blk, blk5]

/-- The weights' gradient after point `t`. -/
theorem outs10 (c : Dev nD) (j : Fin 1792) (i : Fin 1024) (t : Fin cfg0.N) : (outsAt0 m c t.val t.isLt).2.1 (ix2 j i)
    = ∑ n ∈ Finset.range (t.val + 1), ∑ r : Fin 512, term10 m c j i (512 * n + r.val) := by
  refine (Pipeline.eq_sum_of_reset_step_apply_single (fun n h => fun _ : Unit => (outsAt0 m c n h).2.1 (ix2 j i)) 16 (fun _ => 0)
    (fun n _ => ∑ r : Fin 512, term10 m c j i (512 * n + r.val)) (fun t h _ => ?_) (fun t h _ => ?_) (by decide) t ()).trans (zero_add _)
  · show (outsAt0 m c t.val t.isLt).2.1 (ix2 j i) = _
    rw [outsAt0_A m c t h]; frame_out
    refine (w_step m c t j i _).trans ?_
    congr 1
    pointwise [k0_pay3]
  · show (outsAt0 m c t.val t.isLt).2.1 (ix2 j i) = _
    rw [outsAt0_B m c t h]; frame_out
    exact w_step m c t j i _

/-- The gradient of the norm's scale after point `t`. -/
theorem outs11 (c : Dev nD) (i : Fin 1024) (t : Fin cfg0.N) : (outsAt0 m c t.val t.isLt).2.2 (ix2 0 i)
    = ∑ n ∈ Finset.range (t.val + 1), ∑ r : Fin 512, term11 m c i (512 * n + r.val) := by
  refine (Pipeline.eq_sum_of_reset_step_apply_single (fun n h => fun _ : Unit => (outsAt0 m c n h).2.2 (ix2 0 i)) 16 (fun _ => 0)
    (fun n _ => ∑ r : Fin 512, term11 m c i (512 * n + r.val)) (fun t h _ => ?_) (fun t h _ => ?_) (by decide) t ()).trans (zero_add _)
  · show (outsAt0 m c t.val t.isLt).2.2 (ix2 0 i) = _
    rw [outsAt0_A m c t h]; frame_out
    refine (g_step m c t i _).trans ?_
    congr 1
    pointwise [k0_pay4]
  · show (outsAt0 m c t.val t.isLt).2.2 (ix2 0 i) = _
    rw [outsAt0_B m c t h]; frame_out
    exact g_step m c t i _

/-! The results after the run. -/

/-- The first result: the gradient in front of the projection. -/
theorem arr9 (c : Dev nD) : (dats m 0 c).arrAt 9 cfg0.N
    = fun i : S8192x1024.Idx => dIn (dhOf m c) (dhnOf m c) (xOf m c) (gOf m c) (i 0) (i 1) := by
  refine (dats m 0 c).arrAt_eq_of_covers 9 _ (by decide +kernel) fun t hf y => ?_
  obtain ⟨r, j, rfl⟩ : ∃ r j, y = ix2 r j := ⟨_, _, eq_ix2 y⟩
  blk_simp
  rw [after0_9]
  refine (outs9 m c t r j).trans (congrArg₂ (dIn (dhOf m c) (dhnOf m c) (xOf m c) (gOf m c)) (Fin.ext ?_) (Fin.ext ?_))
  all_goals blk_simp [idx t]
  all_goals (try simp only [row]; omega)

/-- The second result: the gradient of the weights. -/
theorem arr10 (c : Dev nD) : (dats m 0 c).arrAt 10 cfg0.N = fun i : S1792x1024.Idx => dW (dzOf m c) (xOf m c) (gOf m c) (i 0) (i 1) := by
  refine (dats m 0 c).arrAt_eq_of_after_last 10 t0_15 (by decide +kernel) _ fun y => ?_
  obtain ⟨j, i, rfl⟩ : ∃ j i, y = ix2 j i := ⟨_, _, eq_ix2 y⟩
  blk_simp
  rw [after0_10]
  refine (outs10 m c j i t0_15).trans ?_
  refine (Cert.Sums.rows 16 512 8192 rfl _).trans ?_
  refine Eq.trans (b := dW (dzOf m c) (xOf m c) (gOf m c) j i) ?_ (congrArg₂ (dW (dzOf m c) (xOf m c) (gOf m c)) (Fin.ext ?_) (Fin.ext ?_))
  rotate_left
  · blk_simp [idx t0_15]
  · blk_simp [idx t0_15]
  refine Finset.sum_congr rfl fun s _ => ?_
  unfold term10
  rw [rnd_eq]

/-- The third result: the gradient of the norm's scale. -/
theorem arr11 (c : Dev nD) : (dats m 0 c).arrAt 11 cfg0.N = fun i : S1x1024.Idx => dG (dhnOf m c) (xOf m c) (i 1) := by
  refine (dats m 0 c).arrAt_eq_of_after_last 11 t0_15 (by decide +kernel) _ fun y => ?_
  obtain ⟨z, i, rfl⟩ : ∃ z i, y = ix2 z i := ⟨_, _, eq_ix2 y⟩
  obtain rfl : z = 0 := Fin.eq_zero z
  blk_simp
  rw [after0_11]
  refine (outs11 m c i t0_15).trans ?_
  refine (Cert.Sums.rows 16 512 8192 rfl _).trans ?_
  refine Eq.trans (b := dG (dhnOf m c) (xOf m c) i) ?_ (congrArg (dG (dhnOf m c) (xOf m c)) (Fin.ext ?_))
  rotate_left
  · blk_simp [idx t0_15]
  refine Finset.sum_congr rfl fun s _ => ?_
  unfold term11
  rw [rnd_eq]

end Cert.InProjGrad

namespace Cert.InProjGrad

open Cert.InProjRefIdeal Cert.InProjRefIdeal.Read Cert.Rms

variable (x0 : FVec Ideal S8192x1024 .f32) (x1 : FVec Ideal S1024 .f32) (x2 : FVec Ideal S1024x1792 .f32) (x3 : FVec Ideal S8192x512 .bf16)
  (x4 : FVec Ideal S8192x256 .bf16) (x5 : FVec Ideal S8192x512 .bf16) (x6 x7 : FVec Ideal S8192x256 .bf16) (x8 : FVec Ideal S8192x1024 .f32)

/-- The projection's gradient, of its five parts. -/
def dz : Fin 8192 → Fin 1792 → EReal :=
  parts (fun s k => x3 (ix2 s k)) (fun s k => x4 (ix2 s k)) (fun s k => x5 (ix2 s k)) (fun s k => x6 (ix2 s k)) (fun s k => x7 (ix2 s k))

/-- The plain projection's gradient, at an index. -/
theorem plain1_apply (s : Fin 8192) (j : Fin 1792) : val_main_v1 (F := Ideal) x3 x4 x5 x6 x7 (ix2 s j) = dz x3 x4 x5 x6 x7 s j := by
  pointwise [val_main_v1, val_main_v0]
  rfl

/-- The plain norm's guarded mean square. -/
theorem plain8_apply (s : Fin 8192) : val_main_v8 (F := Ideal) x0 (ix2 s 0) = ms (fun k => x0 (ix2 s k)) := by
  pointwise [val_main_v8, val_main_v7, val_main_v6, val_main_v5, val_main_v4, val_main_v3, val_main_v2, val_main_cst, val_main_cst_0, val_main_cst_1]
  rfl

/-- One over its root. -/
theorem plain9_apply (s : Fin 8192) : val_main_v9 (F := Ideal) x0 (ix2 s 0) = rs (fun k => x0 (ix2 s k)) := by
  pointwise [val_main_v9]
  rw [plain8_apply]
  rfl

/-- The plain gradient in the normalised activations. -/
theorem plain21_apply (s : Fin 8192) (i : Fin 1024) : val_main_v21 (F := Ideal) x2 x3 x4 x5 x6 x7 (ix2 s i)
    = dHn (dz x3 x4 x5 x6 x7) (fun i j => x2 (ix2 i j)) s i := by
  pointwise [val_main_v21]
  exact Finset.sum_congr rfl fun j _ => congrArg (· * _) (plain1_apply x3 x4 x5 x6 x7 s j)

/-- The same as a function of the row and the column. -/
theorem plain21_eq : (fun (s : Fin 8192) (i : Fin 1024) => val_main_v21 (F := Ideal) x2 x3 x4 x5 x6 x7 (ix2 s i))
    = dHn (dz x3 x4 x5 x6 x7) (fun i j => x2 (ix2 i j)) :=
  funext fun s => funext fun i => plain21_apply x2 x3 x4 x5 x6 x7 s i

/-- The plain gradient in front of the projection. -/
theorem plain42_apply (s : Fin 8192) (i : Fin 1024) : val_main_v42 (F := Ideal) x0 x1 x2 x3 x4 x5 x6 x7 x8 (ix2 s i)
    = dIn (fun s k => x8 (ix2 s k)) (fun s i => val_main_v21 (F := Ideal) x2 x3 x4 x5 x6 x7 (ix2 s i)) (fun s k => x0 (ix2 s k))
        (fun k => x1 (ix1 k)) s i := by
  pointwise [val_main_v42, val_main_v41, val_main_v40, val_main_v39, val_main_v38, val_main_v37, val_main_v36, val_main_v35, val_main_v34,
    val_main_v33, val_main_v32, val_main_v31, val_main_v30, val_main_v29, val_main_v28, val_main_v26, val_main_v25, val_main_v15,
    val_main_v12, val_main_v11, val_main_v10, val_main_cst_2, val_main_cst_5, val_main_cst_6, val_main_cst_7]
  have e : (∑ k, x0 (ix2 s k) * (val_main_v21 (F := Ideal) x2 x3 x4 x5 x6 x7 (ix2 s k) * x1 (ix1 k)))
      = ∑ k, val_main_v21 (F := Ideal) x2 x3 x4 x5 x6 x7 (ix2 s k) * x1 (ix1 k) * x0 (ix2 s k) :=
    Finset.sum_congr rfl fun k _ => mul_comm _ _
  simp only [Fin.sum_univ_one, plain9_apply, plain8_apply, e]
  exact (back (fun k => x0 (ix2 s k)) i (val_main_v21 (F := Ideal) x2 x3 x4 x5 x6 x7 (ix2 s i) * x1 (ix1 i))
    (∑ k, val_main_v21 (F := Ideal) x2 x3 x4 x5 x6 x7 (ix2 s k) * x1 (ix1 k) * x0 (ix2 s k)) (x8 (ix2 s i))).symm

/-- The plain gradient of the weights. -/
theorem plain43_apply (j : Fin 1792) (i : Fin 1024) : val_main_v43 (F := Ideal) x0 x1 x3 x4 x5 x6 x7 (ix2 j i)
    = dW (dz x3 x4 x5 x6 x7) (fun s k => x0 (ix2 s k)) (fun k => x1 (ix1 k)) j i := by
  pointwise [val_main_v43, val_main_v20, val_main_v19, val_main_v17, val_main_v16, val_main_v15, val_main_v14, val_main_v13]
  exact Finset.sum_congr rfl fun s _ => congrArg₂ HMul.hMul (plain1_apply x3 x4 x5 x6 x7 s j)
    (congrArg (fun r => x0 (ix2 s i) * r * x1 (ix1 i)) (plain9_apply x0 s))

/-- The plain gradient of the norm's scale. -/
theorem plain44_apply (i : Fin 1024) : val_main_v44 (F := Ideal) x0 x2 x3 x4 x5 x6 x7 (ix2 0 i)
    = dG (fun s i => val_main_v21 (F := Ideal) x2 x3 x4 x5 x6 x7 (ix2 s i)) (fun s k => x0 (ix2 s k)) i := by
  pointwise [val_main_v44, val_main_v27, val_main_v24, val_main_v23, val_main_v22, val_main_v14, val_main_v13, val_main_cst_3, val_main_cst_4]
  simp only [Fin.sum_univ_one, plain9_apply]
  exact Finset.sum_congr rfl fun s _ => by rw [mul_right_comm, mul_comm (x0 (ix2 s i))]

/-- The first plain result as a whole array. -/
theorem plain42 : val_main_v42 (F := Ideal) x0 x1 x2 x3 x4 x5 x6 x7 x8 = fun i : S8192x1024.Idx =>
    dIn (fun s k => x8 (ix2 s k)) (dHn (dz x3 x4 x5 x6 x7) (fun i j => x2 (ix2 i j))) (fun s k => x0 (ix2 s k)) (fun k => x1 (ix1 k)) (i 0) (i 1) := by
  rw [← plain21_eq]
  exact funext fun i => (congrArg _ (eq_ix2 i)).trans (plain42_apply x0 x1 x2 x3 x4 x5 x6 x7 x8 (i 0) (i 1))

/-- The second plain result as a whole array. -/
theorem plain43 : val_main_v43 (F := Ideal) x0 x1 x3 x4 x5 x6 x7 = fun i : S1792x1024.Idx =>
    dW (dz x3 x4 x5 x6 x7) (fun s k => x0 (ix2 s k)) (fun k => x1 (ix1 k)) (i 0) (i 1) :=
  funext fun i => (congrArg _ (eq_ix2 i)).trans (plain43_apply x0 x1 x3 x4 x5 x6 x7 (i 0) (i 1))

/-- The third plain result as a whole array. -/
theorem plain44 : val_main_v44 (F := Ideal) x0 x2 x3 x4 x5 x6 x7 = fun i : S1x1024.Idx =>
    dG (dHn (dz x3 x4 x5 x6 x7) (fun i j => x2 (ix2 i j))) (fun s k => x0 (ix2 s k)) (i 1) := by
  rw [← plain21_eq]
  refine funext fun i => ?_
  obtain ⟨z, k, rfl⟩ : ∃ z k, i = ix2 z k := ⟨_, _, eq_ix2 i⟩
  obtain rfl : z = 0 := Fin.eq_zero z
  exact plain44_apply x0 x2 x3 x4 x5 x6 x7 k

/-- The plain gradients leave their arguments and stop quietly: they use no semaphore. -/
theorem plainFrame : Cert.quiescent_InProjRefIdeal (hInProjRefIdeal := Cert.InProjRefIdeal.Gen.facts) := fun m ρ _ =>
  (θ_run _ _ _).mono (fun r h => ⟨fun c => (h c).2.2.2, sem_eq_zero_of_no_sems (by decide) r.2⟩) (Cert.InProjRefIdeal.Value.run m ρ)

/-- Over the reals with infinities, the call and the plain gradients have equal results. -/
theorem algebraic : Cert.algebraic_InProjIdeal_InProjRefIdeal (hInProjIdeal := Cert.InProjIdeal.Gen.facts) (hInProjRefIdeal := Cert.InProjRefIdeal.Gen.facts) := by
  intro m g m' g' _ hm
  refine ⟨fun c => fun i : Cert.InProjIdeal.S8192x1024.Idx => dIn (dhOf m c) (dhnOf m c) (xOf m c) (gOf m c) (i 0) (i 1),
    fun c => fun i : Cert.InProjIdeal.S1792x1024.Idx => dW (dzOf m c) (xOf m c) (gOf m c) (i 0) (i 1),
    fun c => fun i : Cert.InProjIdeal.S1x1024.Idx => dG (dhnOf m c) (xOf m c) (i 1), ?_, ?_⟩
  · refine (θ_run _ _ _).mono (fun r h c => ?_) (Cert.InProjIdeal.Value.run_blocks m g)
    obtain ⟨h0, h1, h2, ha⟩ := h c
    exact ⟨h0.trans (arr9 m c), h1.trans (arr10 m c), h2.trans (arr11 m c), ha⟩
  · refine (θ_run _ _ _).mono (fun r h c => ?_) (Cert.InProjRefIdeal.Value.run m' g')
    obtain ⟨h0, h1, h2, ha⟩ := h c
    obtain ⟨e0, e1, e2, e3, e4, e5, e6, e7, e8⟩ := hm c
    refine ⟨(h0.trans (val_main_v42_eq m' c)).trans ?_, (h1.trans (val_main_v43_eq _ _ _ _ _ _ _)).trans ?_,
      (h2.trans (val_main_v44_eq _ _ _ _ _ _ _)).trans ?_, ha⟩
    · refine (plain42 _ _ _ _ _ _ _ _ _).trans ?_
      rw [e0, e1, e2, e3, e4, e5, e6, e7, e8]; rfl
    · refine (plain43 _ _ _ _ _ _ _).trans ?_
      rw [e0, e1, e3, e4, e5, e6, e7]; rfl
    · refine (plain44 _ _ _ _ _ _ _).trans ?_
      rw [e0, e2, e3, e4, e5, e6, e7]; rfl

end Cert.InProjGrad

end
-- ==== Proof.Layers.lean ====
/-
  The forward layers at an index, over the reals with infinities: the normalisation, a product with weights, the skip
  connection around the output projection, and the feed-forward layer.
-/
module

public import proofs.«01_k».proof.Proof.Rms

@[expose] public section

noncomputable section

namespace Cert.Layers

open Idealize.ShloMosaic

/-- The normalised rows: each entry times one over the root of its row's guarded mean square, times the scale. -/
def normed {N : ℕ} (x : Fin N → Fin 1024 → EReal) (g : Fin 1024 → EReal) (s : Fin N) (i : Fin 1024) : EReal :=
  x s i * Cert.Rms.rs (x s) * g i

/-- Rows against weights. -/
def proj {N K J : ℕ} (a : Fin N → Fin K → EReal) (w : Fin K → Fin J → EReal) (s : Fin N) (j : Fin J) : EReal :=
  ∑ k : Fin K, a s k * w k j

/-- Rows with a product of others added. -/
def skip {N K J : ℕ} (h : Fin N → Fin J → EReal) (a : Fin N → Fin K → EReal) (w : Fin K → Fin J → EReal) (s : Fin N) (j : Fin J) : EReal :=
  h s j + proj a w s j

/-- The squared positive part. -/
def act (u : EReal) : EReal := max u 0 * max u 0

/-- The feed-forward layer with its skip connection, of the rows `h` and their normalised form `a`. -/
def feed {N J : ℕ} (h a : Fin N → Fin 1024 → EReal) (wu : Fin 1024 → Fin J → EReal) (wd : Fin J → Fin 1024 → EReal) (s : Fin N) (i : Fin 1024) : EReal :=
  skip h (fun s j => act (proj a wu s j)) wd s i

/-- Column `j` of chunk `q`. -/
def col (q : Fin 4) (j : Fin 1024) : Fin 4096 := ⟨q.val * 1024 + j.val, by omega⟩

/-- A sum over the hidden layer's columns, chunk by chunk. -/
theorem sum_cols (f : Fin 4096 → EReal) : ∑ j : Fin 4096, f j
    = (∑ j, f (col 0 j)) + (∑ j, f (col 1 j)) + (∑ j, f (col 2 j)) + ∑ j, f (col 3 j) := by
  rw [← Equiv.sum_comp (finProdFinEquiv (m := 4) (n := 1024)) f, Fintype.sum_prod_type, Fin.sum_univ_four]
  have e : ∀ (q : Fin 4) (j : Fin 1024), finProdFinEquiv (q, j) = col q j := fun q j =>
    Fin.ext (by simp [col, finProdFinEquiv]; omega)
  simp only [e]

/-- The feed-forward layer, chunk by chunk. -/
theorem feed_cols {N : ℕ} (h a : Fin N → Fin 1024 → EReal) (wu : Fin 1024 → Fin 4096 → EReal) (wd : Fin 4096 → Fin 1024 → EReal) (s : Fin N) (i : Fin 1024) :
    feed h a wu wd s i = h s i + (∑ j, act (proj a wu s (col 0 j)) * wd (col 0 j) i) + (∑ j, act (proj a wu s (col 1 j)) * wd (col 1 j) i)
      + (∑ j, act (proj a wu s (col 2 j)) * wd (col 2 j) i) + ∑ j, act (proj a wu s (col 3 j)) * wd (col 3 j) i := by
  unfold feed skip
  rw [show proj (fun s j => act (proj a wu s j)) wd s i = ∑ j, act (proj a wu s j) * wd j i from rfl, sum_cols fun j => act (proj a wu s j) * wd j i]
  simp only [add_assoc]

/-! The loss's head: the last activations `h` are normalised with the scale `g` and compared with the targets `t`. -/

/-- The difference from the targets. -/
def gap {N : ℕ} (h : Fin N → Fin 1024 → EReal) (g : Fin 1024 → EReal) (t : Fin N → Fin 1024 → EReal) (s : Fin N) (i : Fin 1024) : EReal :=
  normed h g s i - t s i

/-- The mean square of a row's differences. -/
def rowLoss {N : ℕ} (h : Fin N → Fin 1024 → EReal) (g : Fin 1024 → EReal) (t : Fin N → Fin 1024 → EReal) (s : Fin N) : EReal :=
  Ideal.div (∑ k, gap h g t s k * gap h g t s k) (Ideal.ofBits .f32 0x44800000#32)

/-- One half. -/
def half : EReal := Ideal.ofBits .f32 0x3F000000#32

/-- The loss, half the sum of the rows' mean squares. -/
def loss {N : ℕ} (h : Fin N → Fin 1024 → EReal) (g : Fin 1024 → EReal) (t : Fin N → Fin 1024 → EReal) : EReal :=
  half * ∑ s, rowLoss h g t s

/-- The loss's gradient in the normalised activations. -/
def dGap {N : ℕ} (h : Fin N → Fin 1024 → EReal) (g : Fin 1024 → EReal) (t : Fin N → Fin 1024 → EReal) (s : Fin N) (i : Fin 1024) : EReal :=
  gap h g t s i * Ideal.ofBits .f32 0x3A800000#32

/-- The loss's gradient in the activations. -/
def dHead {N : ℕ} (h : Fin N → Fin 1024 → EReal) (g : Fin 1024 → EReal) (t : Fin N → Fin 1024 → EReal) : Fin N → Fin 1024 → EReal :=
  Cert.Rms.dIn (fun _ _ => 0) (dGap h g t) h g

/-- The loss's gradient in the scale. -/
def dScale {N : ℕ} (h : Fin N → Fin 1024 → EReal) (g : Fin 1024 → EReal) (t : Fin N → Fin 1024 → EReal) : Fin 1024 → EReal :=
  Cert.Rms.dG (dGap h g t) h

/-- One half is the real number. -/
theorem half_eq : half = ((1 / 2 : ℝ) : EReal) := by
  unfold half
  simp [Ideal.ofBits, Ideal.ieee, -EReal.coe_mul]; norm_num

/-- One. -/
theorem one_eq : Ideal.ofBits .f32 0x3F800000#32 = ((1 : ℝ) : EReal) := by
  simp [Ideal.ofBits, Ideal.ieee, -EReal.coe_mul]; norm_num

/-- Two. -/
theorem two_eq : Ideal.ofBits .f32 0x40000000#32 = ((2 : ℝ) : EReal) := by
  simp [Ideal.ofBits, Ideal.ieee, -EReal.coe_mul]; norm_num

/-- One over the row length. -/
theorem inv_eq : Ideal.ofBits .f32 0x3A800000#32 = ((1 / 1024 : ℝ) : EReal) := by
  simp [Ideal.ofBits, Ideal.ieee, -EReal.coe_mul]; norm_num

/-- Half of one over the row length, times twice a difference, is the difference over the row length. -/
theorem slope_eq (e : EReal) : Ideal.div (half * Ideal.ofBits .f32 0x3F800000#32) (Ideal.ofBits .f32 0x44800000#32) * (Ideal.ofBits .f32 0x40000000#32 * e)
    = e * Ideal.ofBits .f32 0x3A800000#32 := by
  rw [half_eq, one_eq, two_eq, inv_eq, Cert.Rms.width_eq, Ideal.div_coe (by norm_num), ← mul_assoc, mul_comm]
  congr 1
  norm_cast
  norm_num

/-- A row's mean square is not negative. -/
theorem rowLoss_nonneg {N : ℕ} (h : Fin N → Fin 1024 → EReal) (g : Fin 1024 → EReal) (t : Fin N → Fin 1024 → EReal) (s : Fin N) : 0 ≤ rowLoss h g t s := by
  unfold rowLoss
  rw [Cert.Rms.width_eq, Ideal.div_coe (by norm_num)]
  exact mul_nonneg (Finset.sum_nonneg fun k _ => Cert.Rms.sq_nonneg _) (by exact_mod_cast (by norm_num : (0 : ℝ) ≤ 1 / 1024))

/-- Half of a sum of numbers that are not negative is the sum of their halves. -/
theorem half_sum {ι : Type} (S : Finset ι) (f : ι → EReal) (hf : ∀ i, 0 ≤ f i) : half * ∑ i ∈ S, f i = ∑ i ∈ S, half * f i := by
  classical
  induction S using Finset.induction_on with
  | empty => simp
  | insert a S ha ih =>
    rw [Finset.sum_insert ha, Finset.sum_insert ha, EReal.left_distrib_of_nonneg (hf a) (Finset.sum_nonneg fun i _ => hf i), ih]

end Cert.Layers

end
-- ==== Proof.InFwdValue.lean ====
/-
  The input projection's forward call: each grid point opened, its result after the run at an index, the plain lines read at
  an index, and the value claim.
-/
module

public import proofs.«01_k».proof.Defs
public import proofs.«01_k».proof.Proof.Sums
public import proofs.«01_k».proof.Proof.Rms
public import proofs.«01_k».proof.Proof.Layers
public import proofs.«01_k».proof.Proof.Gen.InFwdIdeal.Value
public import proofs.«01_k».proof.Proof.Gen.InFwdRefIdeal
public import proofs.«01_k».proof.Proof.Gen.InFwdRefIdeal.Read
public import Idealize.ShloMosaic.Lib.Pipeline.ValueKit
public import Idealize.ShloMosaic.Lib.Pointwise
public import Idealize.ShloMosaic.Lib.KernelVsHost
public import Idealize.ShloMosaic.Lib.IdealHost

@[expose] public section

set_option maxRecDepth 16384

noncomputable section

open Idealize.ShloMosaic Idealize.ShloMosaic.TcCoe Idealize.SL.Sem Idealize.ShloMosaic.StableHlo

namespace Cert.InFwdGrad

open Cert.InFwdIdeal Cert.InFwdIdeal.Gen Cert.Layers

variable (m : (l : Loc nD τ sig) → Buf (Elt Ideal) l)

/-- Where each window's block lies at point `t`. -/
theorem idx : ∀ t : Fin grid0.N, win0_0.index t = ![t.val, 0] ∧ win0_1.index t = ![0, 0]
    ∧ win0_2.index t = ![0, 0] ∧ win0_3.index t = ![t.val, 0] := by decide +kernel

/-- A block of the result at an index: its normalised rows against the transposed weights. -/
theorem z_apply (x : FVec Ideal S512x1024 .f32) (g : FVec Ideal S1x1024 .f32) (w : FVec Ideal S1792x1024 .bf16) (r : Fin 512) (j : Fin 1792) :
    k0_pay1 (F := Ideal) x g w (ix2 r j)
      = proj (normed (fun r k => x (ix2 r k)) fun k => g (ix2 0 k)) (fun k j => w (ix2 j k)) r j := by
  pointwise [k0_pay1]
  rfl

/-- The activations. -/
def xOf (c : Dev nD) (s : Fin 8192) (k : Fin 1024) : EReal := (m ((c : Thread nD τ).loc main_arg0) : FVec Ideal S8192x1024 .f32) (ix2 s k)
/-- The norm's scale. -/
def gOf (c : Dev nD) (k : Fin 1024) : EReal := (m ((c : Thread nD τ).loc main_arg1) : FVec Ideal S1024 .f32) (ix1 k)
/-- The weights. -/
def wOf (c : Dev nD) (k : Fin 1024) (j : Fin 1792) : EReal := (m ((c : Thread nD τ).loc main_arg2) : FVec Ideal S1024x1792 .f32) (ix2 k j)

/-- The norm's scale as the region reads it. -/
theorem entry0 (c : Dev nD) (k : Fin 1024) : (V m c main_v0 : FVec Ideal S1x1024 .f32) (ix2 0 k) = gOf m c k := by
  unfold gOf V
  simp only [hostOps0, List.flatten_cons, List.flatten_nil, List.cons_append, List.nil_append, List.append_nil,
    TRef.nullary, TRef.unary, TRef.binary, TRef.ternary]
  entry_read
  pointwise

/-- The weights as the region reads them: transposed. -/
theorem entry2 (c : Dev nD) (k : Fin 1024) (j : Fin 1792) : (V m c main_v2 : FVec Ideal S1792x1024 .bf16) (ix2 j k) = wOf m c k j := by
  unfold wOf V
  simp only [hostOps0, List.flatten_cons, List.flatten_nil, List.cons_append, List.nil_append, List.append_nil,
    TRef.nullary, TRef.unary, TRef.binary, TRef.ternary]
  entry_read
  pointwise

/-- Row `r` of block `t`. -/
def row (t : Fin cfg0.N) (r : Fin 512) : Fin 8192 := ⟨512 * t.val + r.val, by have := t.isLt; have : t.val < 16 := this; omega⟩

/-- A point's block of the activations. -/
theorem blk0 (c : Dev nD) (t : Fin cfg0.N) (r : Fin 512) (k : Fin 1024) :
    (iblk m c 0 t : FVec Ideal S512x1024 .f32) (ix2 r k) = xOf m c (row t r) k := by
  unfold xOf
  blk_ext [iblk, V, idx t, row]

/-- The block of the norm's scale. -/
theorem blk1 (c : Dev nD) (t : Fin cfg0.N) (k : Fin 1024) : (iblk m c 1 t : FVec Ideal S1x1024 .f32) (ix2 0 k) = gOf m c k := by
  rw [← entry0 m c k]
  blk_ext [iblk, idx t]

/-- The block of the weights. -/
theorem blk2 (c : Dev nD) (t : Fin cfg0.N) (j : Fin 1792) (k : Fin 1024) :
    (iblk m c 2 t : FVec Ideal S1792x1024 .bf16) (ix2 j k) = wOf m c k j := by
  rw [← entry2 m c k j]
  blk_ext [iblk, idx t]

/-- The result's block after point `t`. -/
theorem outs3 (c : Dev nD) (t : Fin cfg0.N) (r : Fin 512) (j : Fin 1792) :
    ((dats m 0 c).after 3 t : FVec Ideal S512x1792 .bf16) (ix2 r j) = proj (normed (xOf m c) (gOf m c)) (wOf m c) (row t r) j := by
  rw [after0_3]
  unfold out0_3
  frame_out
  refine (z_apply _ _ _ r j).trans ?_
  unfold proj normed
  simp only [blk0, blk1, blk2]

/-- The result: the normalised activations against the weights. -/
theorem arr3 (c : Dev nD) : (dats m 0 c).arrAt 3 cfg0.N
    = fun i : S8192x1792.Idx => proj (normed (xOf m c) (gOf m c)) (wOf m c) (i 0) (i 1) := by
  refine (dats m 0 c).arrAt_eq_of_covers 3 _ (by decide +kernel) fun t hf y => ?_
  obtain ⟨r, j, rfl⟩ : ∃ r j, y = ix2 r j := ⟨_, _, eq_ix2 y⟩
  blk_simp
  refine (outs3 m c t r j).trans (congrArg₂ (proj (normed (xOf m c) (gOf m c)) (wOf m c)) (Fin.ext ?_) (Fin.ext ?_))
  all_goals blk_simp [idx t]
  all_goals (try simp only [row]; omega)

end Cert.InFwdGrad

namespace Cert.InFwdGrad

open Cert.InFwdRefIdeal Cert.InFwdRefIdeal.Read Cert.Layers

/-- The plain result as a whole array. -/
theorem plain (x0 : FVec Ideal S8192x1024 .f32) (x1 : FVec Ideal S1024 .f32) (x2 : FVec Ideal S1024x1792 .f32) :
    val_main_v14 (F := Ideal) x0 x1 x2 = fun i : S8192x1792.Idx =>
      proj (normed (fun s k => x0 (ix2 s k)) fun k => x1 (ix1 k)) (fun k j => x2 (ix2 k j)) (i 0) (i 1) := by
  refine funext fun i => ?_
  obtain ⟨s, j, rfl⟩ : ∃ s j, i = ix2 s j := ⟨_, _, eq_ix2 i⟩
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The plain lines leave their arguments and stop quietly: they use no semaphore. -/
theorem plainFrame : Cert.quiescent_InFwdRefIdeal (hInFwdRefIdeal := Cert.InFwdRefIdeal.Gen.facts) := fun m ρ _ =>
  (θ_run _ _ _).mono (fun r h => ⟨fun c => (h c).2, sem_eq_zero_of_no_sems (by decide) r.2⟩) (Cert.InFwdRefIdeal.Value.run m ρ)

/-- Over the reals with infinities, the call and the plain lines have the same result. -/
theorem algebraic : Cert.algebraic_InFwdIdeal_InFwdRefIdeal (hInFwdIdeal := Cert.InFwdIdeal.Gen.facts) (hInFwdRefIdeal := Cert.InFwdRefIdeal.Gen.facts) := by
  intro m g m' g' _ hm
  refine ⟨fun c => fun i : Cert.InFwdIdeal.S8192x1792.Idx => proj (normed (xOf m c) (gOf m c)) (wOf m c) (i 0) (i 1), ?_, ?_⟩
  · refine (θ_run _ _ _).mono (fun r h c => ?_) (Cert.InFwdIdeal.Value.run_blocks m g)
    obtain ⟨h0, ha⟩ := h c
    exact ⟨h0.trans (arr3 m c), ha⟩
  · refine (θ_run _ _ _).mono (fun r h c => ?_) (Cert.InFwdRefIdeal.Value.run m' g')
    obtain ⟨h0, ha⟩ := h c
    obtain ⟨e0, e1, e2⟩ := hm c
    refine ⟨(h0.trans (val_main_v14_eq _ _ _)).trans ?_, ha⟩
    refine (plain _ _ _).trans ?_
    rw [e0, e1, e2]; rfl

end Cert.InFwdGrad

end
-- ==== Proof.OutFwdValue.lean ====
/-
  The output projection's forward call: each grid point opened, its two results after the run at an index, the plain lines
  read at an index, and the value claim.
-/
module

public import proofs.«01_k».proof.Defs
public import proofs.«01_k».proof.Proof.Sums
public import proofs.«01_k».proof.Proof.Rms
public import proofs.«01_k».proof.Proof.Layers
public import proofs.«01_k».proof.Proof.OutProjValue
public import proofs.«01_k».proof.Proof.Gen.OutFwdIdeal.Value
public import proofs.«01_k».proof.Proof.Gen.OutFwdRefIdeal
public import proofs.«01_k».proof.Proof.Gen.OutFwdRefIdeal.Read
public import Idealize.ShloMosaic.Lib.Pipeline.ValueKit
public import Idealize.ShloMosaic.Lib.Pointwise
public import Idealize.ShloMosaic.Lib.KernelVsHost
public import Idealize.ShloMosaic.Lib.IdealHost

@[expose] public section

set_option maxRecDepth 16384

noncomputable section

open Idealize.ShloMosaic Idealize.ShloMosaic.TcCoe Idealize.SL.Sem Idealize.ShloMosaic.StableHlo

namespace Cert.OutFwdGrad

open Cert.OutFwdIdeal Cert.OutFwdIdeal.Gen Cert.Layers
open Cert.OutProjGrad (side)

variable (m : (l : Loc nD τ sig) → Buf (Elt Ideal) l)

/-- Where each window's block lies at point `t`. -/
theorem idx : ∀ t : Fin grid0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] := by decide +kernel

/-- A block of the first result at an index: its rows and the product of the three branches side by side. -/
theorem h_apply (a : FVec Ideal S512x512 .bf16) (b d : FVec Ideal S512x256 .bf16) (x : FVec Ideal S512x1024 .f32)
    (w : FVec Ideal S1024x1024 .bf16) (r : Fin 512) (i : Fin 1024) :
    k0_pay1 (F := Ideal) a b d x w (ix2 r i)
      = skip (fun r k => x (ix2 r k)) (side (fun s l => a (ix2 s l)) (fun s l => b (ix2 s l)) fun s l => d (ix2 s l))
          (fun k i => w (ix2 k i)) r i := by
  pointwise [k0_pay1]
  rfl

/-- A block of the second result at an index: the first one's rows, normalised. -/
theorem n_apply (a : FVec Ideal S512x512 .bf16) (b d : FVec Ideal S512x256 .bf16) (x : FVec Ideal S512x1024 .f32)
    (w : FVec Ideal S1024x1024 .bf16) (g : FVec Ideal S1x1024 .f32) (r : Fin 512) (i : Fin 1024) :
    k0_pay2 (F := Ideal) a b d x w g (ix2 r i)
      = normed (fun r i => k0_pay1 (F := Ideal) a b d x w (ix2 r i)) (fun k => g (ix2 0 k)) r i := by
  pointwise [k0_pay2]
  rfl

/-- The attention branch's output, at an index. -/
def yaOf (c : Dev nD) (s : Fin 8192) (l : Fin 512) : EReal := (m ((c : Thread nD τ).loc main_arg0) : FVec Ideal S8192x512 .bf16) (ix2 s l)
/-- The convolution branch's output. -/
def ycOf (c : Dev nD) (s : Fin 8192) (l : Fin 256) : EReal := (m ((c : Thread nD τ).loc main_arg1) : FVec Ideal S8192x256 .bf16) (ix2 s l)
/-- The recurrence branch's output. -/
def ylOf (c : Dev nD) (s : Fin 8192) (l : Fin 256) : EReal := (m ((c : Thread nD τ).loc main_arg2) : FVec Ideal S8192x256 .bf16) (ix2 s l)
/-- The activations the projection is added to. -/
def xOf (c : Dev nD) (s : Fin 8192) (k : Fin 1024) : EReal := (m ((c : Thread nD τ).loc main_arg3) : FVec Ideal S8192x1024 .f32) (ix2 s k)
/-- The weights. -/
def wOf (c : Dev nD) (k i : Fin 1024) : EReal := (m ((c : Thread nD τ).loc main_arg4) : FVec Ideal S1024x1024 .f32) (ix2 k i)
/-- The norm's scale. -/
def gOf (c : Dev nD) (k : Fin 1024) : EReal := (m ((c : Thread nD τ).loc main_arg5) : FVec Ideal S1024 .f32) (ix1 k)

/-- The weights as the region reads them. -/
theorem entry0 (c : Dev nD) (k i : Fin 1024) : (V m c main_v0 : FVec Ideal S1024x1024 .bf16) (ix2 k i) = wOf m c k i := by
  unfold wOf V
  simp only [hostOps0, List.flatten_cons, List.flatten_nil, List.cons_append, List.nil_append, List.append_nil,
    TRef.nullary, TRef.unary, TRef.binary, TRef.ternary]
  entry_read
  rfl

/-- The norm's scale as the region reads it. -/
theorem entry1 (c : Dev nD) (k : Fin 1024) : (V m c main_v1 : FVec Ideal S1x1024 .f32) (ix2 0 k) = gOf m c k := by
  unfold gOf V
  simp only [hostOps0, List.flatten_cons, List.flatten_nil, List.cons_append, List.nil_append, List.append_nil,
    TRef.nullary, TRef.unary, TRef.binary, TRef.ternary]
  entry_read
  pointwise

/-- Row `r` of block `t`. -/
def row (t : Fin cfg0.N) (r : Fin 512) : Fin 8192 := ⟨512 * t.val + r.val, by have := t.isLt; have : t.val < 16 := this; omega⟩

/-- A point's block of the attention branch's output. -/
theorem blk0 (c : Dev nD) (t : Fin cfg0.N) (r : Fin 512) (l : Fin 512) :
    (iblk m c 0 t : FVec Ideal S512x512 .bf16) (ix2 r l) = yaOf m c (row t r) l := by
  unfold yaOf
  blk_ext [iblk, V, idx t, row]

/-- A point's block of the convolution branch's output. -/
theorem blk1 (c : Dev nD) (t : Fin cfg0.N) (r : Fin 512) (l : Fin 256) :
    (iblk m c 1 t : FVec Ideal S512x256 .bf16) (ix2 r l) = ycOf m c (row t r) l := by
  unfold ycOf
  blk_ext [iblk, V, idx t, row]

/-- A point's block of the recurrence branch's output. -/
theorem blk2 (c : Dev nD) (t : Fin cfg0.N) (r : Fin 512) (l : Fin 256) :
    (iblk m c 2 t : FVec Ideal S512x256 .bf16) (ix2 r l) = ylOf m c (row t r) l := by
  unfold ylOf
  blk_ext [iblk, V, idx t, row]

/-- A point's block of the activations. -/
theorem blk3 (c : Dev nD) (t : Fin cfg0.N) (r : Fin 512) (k : Fin 1024) :
    (iblk m c 3 t : FVec Ideal S512x1024 .f32) (ix2 r k) = xOf m c (row t r) k := by
  unfold xOf
  blk_ext [iblk, V, idx t, row]

/-- The block of the weights. -/
theorem blk4 (c : Dev nD) (t : Fin cfg0.N) (k i : Fin 1024) :
    (iblk m c 4 t : FVec Ideal S1024x1024 .bf16) (ix2 k i) = wOf m c k i := by
  rw [← entry0 m c k i]
  blk_ext [iblk, idx t]

/-- The block of the norm's scale. -/
theorem blk5 (c : Dev nD) (t : Fin cfg0.N) (k : Fin 1024) : (iblk m c 5 t : FVec Ideal S1x1024 .f32) (ix2 0 k) = gOf m c k := by
  rw [← entry1 m c k]
  blk_ext [iblk, idx t]

/-- The first result, at an index: the activations and the projected branches. -/
def hOf (c : Dev nD) : Fin 8192 → Fin 1024 → EReal := skip (xOf m c) (side (yaOf m c) (ycOf m c) (ylOf m c)) (wOf m c)

/-- A point's first block, read in the whole arrays. -/
theorem step6 (c : Dev nD) (t : Fin cfg0.N) (r : Fin 512) (i : Fin 1024) :
    k0_pay1 (F := Ideal) (iblk m c 0 t) (iblk m c 1 t) (iblk m c 2 t) (iblk m c 3 t) (iblk m c 4 t) (ix2 r i) = hOf m c (row t r) i := by
  refine (h_apply _ _ _ _ _ r i).trans ?_
  unfold hOf skip proj side
  simp only [blk0, blk1, blk2, blk3, blk4]

/-- The first result's block after point `t`. -/
theorem outs6 (c : Dev nD) (t : Fin cfg0.N) (r : Fin 512) (i : Fin 1024) :
    ((dats m 0 c).after 6 t : FVec Ideal S512x1024 .f32) (ix2 r i) = hOf m c (row t r) i := by
  rw [after0_6]
  unfold out0_6
  frame_out
  exact step6 m c t r i

/-- The second result's block after point `t`. -/
theorem outs7 (c : Dev nD) (t : Fin cfg0.N) (r : Fin 512) (i : Fin 1024) :
    ((dats m 0 c).after 7 t : FVec Ideal S512x1024 .bf16) (ix2 r i) = normed (hOf m c) (gOf m c) (row t r) i := by
  rw [after0_7]
  unfold out0_7
  frame_out
  refine (n_apply _ _ _ _ _ _ r i).trans ?_
  unfold normed
  simp only [step6, blk5]

/-- The first result. -/
theorem arr6 (c : Dev nD) : (dats m 0 c).arrAt 6 cfg0.N = fun i : S8192x1024.Idx => hOf m c (i 0) (i 1) := by
  refine (dats m 0 c).arrAt_eq_of_covers 6 _ (by decide +kernel) fun t hf y => ?_
  obtain ⟨r, j, rfl⟩ : ∃ r j, y = ix2 r j := ⟨_, _, eq_ix2 y⟩
  blk_simp
  refine (outs6 m c t r j).trans (congrArg₂ (hOf m c) (Fin.ext ?_) (Fin.ext ?_))
  all_goals blk_simp [idx t]
  all_goals (try simp only [row]; omega)

/-- The second result: the first, normalised. -/
theorem arr7 (c : Dev nD) : (dats m 0 c).arrAt 7 cfg0.N = fun i : S8192x1024.Idx => normed (hOf m c) (gOf m c) (i 0) (i 1) := by
  refine (dats m 0 c).arrAt_eq_of_covers 7 _ (by decide +kernel) fun t hf y => ?_
  obtain ⟨r, j, rfl⟩ : ∃ r j, y = ix2 r j := ⟨_, _, eq_ix2 y⟩
  blk_simp
  refine (outs7 m c t r j).trans (congrArg₂ (normed (hOf m c) (gOf m c)) (Fin.ext ?_) (Fin.ext ?_))
  all_goals blk_simp [idx t]
  all_goals (try simp only [row]; omega)

end Cert.OutFwdGrad

namespace Cert.OutFwdGrad

open Cert.OutFwdRefIdeal Cert.OutFwdRefIdeal.Read Cert.Layers
open Cert.OutProjGrad (side)

variable (x0 : FVec Ideal S8192x512 .bf16) (x1 x2 : FVec Ideal S8192x256 .bf16) (x3 : FVec Ideal S8192x1024 .f32)
  (x4 : FVec Ideal S1024x1024 .f32) (x5 : FVec Ideal S1024 .f32)

/-- The first plain result at an index. -/
theorem plain3_apply (s : Fin 8192) (i : Fin 1024) : val_main_v3 (F := Ideal) x0 x1 x2 x3 x4 (ix2 s i)
    = skip (fun s k => x3 (ix2 s k)) (side (fun s l => x0 (ix2 s l)) (fun s l => x1 (ix2 s l)) fun s l => x2 (ix2 s l))
        (fun k i => x4 (ix2 k i)) s i := by
  pointwise [val_main_v3, val_main_v2, val_main_v1, val_main_v0]
  rfl

/-- The second plain result at an index, of the first. -/
theorem plain17_apply (s : Fin 8192) (i : Fin 1024) : val_main_v17 (F := Ideal) x0 x1 x2 x3 x4 x5 (ix2 s i)
    = normed (fun s i => val_main_v3 (F := Ideal) x0 x1 x2 x3 x4 (ix2 s i)) (fun k => x5 (ix1 k)) s i := by
  pointwise [val_main_v17, val_main_v16, val_main_v15, val_main_v14, val_main_v13, val_main_v12, val_main_v11, val_main_v10, val_main_v9,
    val_main_v8, val_main_v7, val_main_v6, val_main_v5, val_main_v4, val_main_cst, val_main_cst_0, val_main_cst_1]
  rfl

/-- The first plain result as a whole array. -/
theorem plain3 : val_main_v3 (F := Ideal) x0 x1 x2 x3 x4 = fun i : S8192x1024.Idx =>
    skip (fun s k => x3 (ix2 s k)) (side (fun s l => x0 (ix2 s l)) (fun s l => x1 (ix2 s l)) fun s l => x2 (ix2 s l))
      (fun k i => x4 (ix2 k i)) (i 0) (i 1) := by
  refine funext fun i => ?_
  obtain ⟨s, j, rfl⟩ : ∃ s j, i = ix2 s j := ⟨_, _, eq_ix2 i⟩
  exact plain3_apply x0 x1 x2 x3 x4 s j

/-- The second plain result as a whole array. -/
theorem plain17 : val_main_v17 (F := Ideal) x0 x1 x2 x3 x4 x5 = fun i : S8192x1024.Idx =>
    normed (skip (fun s k => x3 (ix2 s k)) (side (fun s l => x0 (ix2 s l)) (fun s l => x1 (ix2 s l)) fun s l => x2 (ix2 s l))
      (fun k i => x4 (ix2 k i))) (fun k => x5 (ix1 k)) (i 0) (i 1) := by
  refine funext fun i => ?_
  obtain ⟨s, j, rfl⟩ : ∃ s j, i = ix2 s j := ⟨_, _, eq_ix2 i⟩
  refine (plain17_apply x0 x1 x2 x3 x4 x5 s j).trans ?_
  simp only [plain3_apply]
  rfl

/-- The plain lines leave their arguments and stop quietly: they use no semaphore. -/
theorem plainFrame : Cert.quiescent_OutFwdRefIdeal (hOutFwdRefIdeal := Cert.OutFwdRefIdeal.Gen.facts) := fun m ρ _ =>
  (θ_run _ _ _).mono (fun r h => ⟨fun c => (h c).2.2, sem_eq_zero_of_no_sems (by decide) r.2⟩) (Cert.OutFwdRefIdeal.Value.run m ρ)

/-- Over the reals with infinities, the call and the plain lines have the same results. -/
theorem algebraic : Cert.algebraic_OutFwdIdeal_OutFwdRefIdeal (hOutFwdIdeal := Cert.OutFwdIdeal.Gen.facts) (hOutFwdRefIdeal := Cert.OutFwdRefIdeal.Gen.facts) := by
  intro m g m' g' _ hm
  refine ⟨fun c => fun i : Cert.OutFwdIdeal.S8192x1024.Idx => hOf m c (i 0) (i 1),
    fun c => fun i : Cert.OutFwdIdeal.S8192x1024.Idx => normed (hOf m c) (gOf m c) (i 0) (i 1), ?_, ?_⟩
  · refine (θ_run _ _ _).mono (fun r h c => ?_) (Cert.OutFwdIdeal.Value.run_blocks m g)
    obtain ⟨h0, h1, ha⟩ := h c
    exact ⟨h0.trans (arr6 m c), h1.trans (arr7 m c), ha⟩
  · refine (θ_run _ _ _).mono (fun r h c => ?_) (Cert.OutFwdRefIdeal.Value.run m' g')
    obtain ⟨h0, h1, ha⟩ := h c
    obtain ⟨e0, e1, e2, e3, e4, e5⟩ := hm c
    refine ⟨(h0.trans (val_main_v3_eq _ _ _ _ _)).trans ?_, (h1.trans (val_main_v17_eq _ _ _ _ _ _)).trans ?_, ha⟩
    · refine (plain3 _ _ _ _ _).trans ?_
      rw [e0, e1, e2, e3, e4]; rfl
    · refine (plain17 _ _ _ _ _ _).trans ?_
      rw [e0, e1, e2, e3, e4, e5]; rfl

end Cert.OutFwdGrad

end
-- ==== Proof.MlpFwdValue.lean ====
/-
  The feed-forward layer's forward call: each grid point opened, its two results after the run at an index, the plain lines
  read at an index, and the value claim.
-/
module

public import proofs.«01_k».proof.Defs
public import proofs.«01_k».proof.Proof.Sums
public import proofs.«01_k».proof.Proof.Rms
public import proofs.«01_k».proof.Proof.Layers
public import proofs.«01_k».proof.Proof.Gen.MlpFwdIdeal.Value
public import proofs.«01_k».proof.Proof.Gen.MlpFwdRefIdeal
public import proofs.«01_k».proof.Proof.Gen.MlpFwdRefIdeal.Read
public import Idealize.ShloMosaic.Lib.Pipeline.ValueKit
public import Idealize.ShloMosaic.Lib.Pointwise
public import Idealize.ShloMosaic.Lib.KernelVsHost
public import Idealize.ShloMosaic.Lib.IdealHost

@[expose] public section

set_option maxRecDepth 16384

noncomputable section

open Idealize.ShloMosaic Idealize.ShloMosaic.TcCoe Idealize.SL.Sem Idealize.ShloMosaic.StableHlo

namespace Cert.MlpFwdGrad

open Cert.MlpFwdIdeal Cert.MlpFwdIdeal.Gen Cert.Layers

variable (m : (l : Loc nD τ sig) → Buf (Elt Ideal) l)

/-! The stored values at an index: `n` the normalised rows, `w` and `v` a chunk of the two weights. -/

/-- The first chunk of the hidden layer. -/
theorem up0_apply (n : FVec Ideal S512x1024 .bf16) (w : FVec Ideal S1x1024x1024 .bf16) (r : Fin 512) (j : Fin 1024) :
    k0_pay8 (F := Ideal) n w (ix2 r j) = proj (fun r k => n (ix2 r k)) (fun k j => w (ix3 0 k j)) r j := by
  pointwise [k0_pay8, k0_pay7, k0_pay6]
  rfl

/-- The second chunk. -/
theorem up1_apply (n : FVec Ideal S512x1024 .bf16) (w : FVec Ideal S1x1024x1024 .bf16) (r : Fin 512) (j : Fin 1024) :
    k0_pay10 (F := Ideal) n w (ix2 r j) = proj (fun r k => n (ix2 r k)) (fun k j => w (ix3 0 k j)) r j := by
  pointwise [k0_pay10, k0_pay9, k0_pay6]
  rfl

/-- The third chunk. -/
theorem up2_apply (n : FVec Ideal S512x1024 .bf16) (w : FVec Ideal S1x1024x1024 .bf16) (r : Fin 512) (j : Fin 1024) :
    k0_pay2 (F := Ideal) (k0_pay6 n) w (ix2 r j) = proj (fun r k => n (ix2 r k)) (fun k j => w (ix3 0 k j)) r j := by
  pointwise [k0_pay2, k0_pay1, k0_pay6]
  rfl

/-- The fourth chunk. -/
theorem up3_apply (n : FVec Ideal S512x1024 .bf16) (w : FVec Ideal S1x1024x1024 .bf16) (r : Fin 512) (j : Fin 1024) :
    k0_pay4 (F := Ideal) (k0_pay6 n) w (ix2 r j) = proj (fun r k => n (ix2 r k)) (fun k j => w (ix3 0 k j)) r j := by
  pointwise [k0_pay4, k0_pay3, k0_pay6]
  rfl

/-- What the first two chunks add to the rows. -/
theorem h1_apply (n : FVec Ideal S512x1024 .bf16) (x : FVec Ideal S512x1024 .f32) (w0 v0 w1 v1 : FVec Ideal S1x1024x1024 .bf16) (r : Fin 512) (i : Fin 1024) :
    k0_pay11 (F := Ideal) n x w0 v0 w1 v1 (ix2 r i)
      = x (ix2 r i) + (∑ j, act (proj (fun r k => n (ix2 r k)) (fun k j => w0 (ix3 0 k j)) r j) * v0 (ix3 0 j i))
        + ∑ j, act (proj (fun r k => n (ix2 r k)) (fun k j => w1 (ix3 0 k j)) r j) * v1 (ix3 0 j i) := by
  pointwise [k0_pay11, k0_pay9, k0_pay7, k0_pay6]
  rfl

/-- What the last two chunks add to that. -/
theorem h3_apply (n : FVec Ideal S512x1024 .bf16) (x : FVec Ideal S512x1024 .f32) (w2 v2 w3 v3 : FVec Ideal S1x1024x1024 .bf16) (r : Fin 512) (i : Fin 1024) :
    k0_pay5 (F := Ideal) (k0_pay6 n) x w2 v2 w3 v3 (ix2 r i)
      = x (ix2 r i) + (∑ j, act (proj (fun r k => n (ix2 r k)) (fun k j => w2 (ix3 0 k j)) r j) * v2 (ix3 0 j i))
        + ∑ j, act (proj (fun r k => n (ix2 r k)) (fun k j => w3 (ix3 0 k j)) r j) * v3 (ix3 0 j i) := by
  pointwise [k0_pay5, k0_pay3, k0_pay1, k0_pay6]
  rfl

/-! The windows' blocks. -/

/-- Where each window's block lies at point `t`. -/
theorem idx : ∀ t : Fin grid0.N, win0_0.index t = ![t.val, 0] ∧ win0_1.index t = ![t.val, 0]
    ∧ win0_2.index t = ![0, 0, 0] ∧ win0_3.index t = ![0, 0, 0] ∧ win0_4.index t = ![t.val, 0] ∧ win0_5.index t = ![t.val, 0] := by decide +kernel

/-- The activations in front of the layer. -/
def xOf (c : Dev nD) (s : Fin 8192) (k : Fin 1024) : EReal := (m ((c : Thread nD τ).loc main_arg0) : FVec Ideal S8192x1024 .f32) (ix2 s k)
/-- The norm's scale. -/
def gOf (c : Dev nD) (k : Fin 1024) : EReal := (m ((c : Thread nD τ).loc main_arg1) : FVec Ideal S1024 .f32) (ix1 k)
/-- The first weights. -/
def wuOf (c : Dev nD) (i : Fin 1024) (j : Fin 4096) : EReal := (m ((c : Thread nD τ).loc main_arg2) : FVec Ideal S1024x4096 .f32) (ix2 i j)
/-- The second weights. -/
def wdOf (c : Dev nD) (j : Fin 4096) (k : Fin 1024) : EReal := (m ((c : Thread nD τ).loc main_arg3) : FVec Ideal S4096x1024 .f32) (ix2 j k)
/-- The normalised activations. -/
def nOf (c : Dev nD) : Fin 8192 → Fin 1024 → EReal := normed (xOf m c) (gOf m c)

/-- The normalised activations as the region reads them. -/
theorem entry13 (c : Dev nD) (s : Fin 8192) (i : Fin 1024) : (V m c main_v13 : FVec Ideal S8192x1024 .bf16) (ix2 s i) = nOf m c s i := by
  unfold nOf xOf gOf V
  simp only [hostOps0, List.flatten_cons, List.flatten_nil, List.cons_append, List.nil_append, List.append_nil,
    TRef.nullary, TRef.unary, TRef.binary, TRef.ternary]
  entry_read
  pointwise
  rfl

/-- The first weights as the region reads them: four chunks of columns. -/
theorem entry16 (c : Dev nD) (q : Fin 4) (i j : Fin 1024) : (V m c main_v16 : FVec Ideal S4x1024x1024 .bf16) (ix3 q i j) = wuOf m c i (col q j) := by
  unfold wuOf V
  simp only [hostOps0, List.flatten_cons, List.flatten_nil, List.cons_append, List.nil_append, List.append_nil,
    TRef.nullary, TRef.unary, TRef.binary, TRef.ternary]
  entry_read
  pointwise
  rfl

/-- The second weights as the region reads them: four chunks of rows. -/
theorem entry18 (c : Dev nD) (q : Fin 4) (j k : Fin 1024) : (V m c main_v18 : FVec Ideal S4x1024x1024 .bf16) (ix3 q j k) = wdOf m c (col q j) k := by
  unfold wdOf V
  simp only [hostOps0, List.flatten_cons, List.flatten_nil, List.cons_append, List.nil_append, List.append_nil,
    TRef.nullary, TRef.unary, TRef.binary, TRef.ternary]
  entry_read
  pointwise
  rfl

/-- Row `r` of block `t`. -/
def row (t : Fin cfg0.N) (r : Fin 512) : Fin 8192 := ⟨512 * t.val + r.val, by have := t.isLt; have : t.val < 16 := this; omega⟩

/-- A point's block of the normalised activations. -/
theorem blk0 (c : Dev nD) (t : Fin cfg0.N) (r : Fin 512) (k : Fin 1024) :
    (iblk m c 0 t : FVec Ideal S512x1024 .bf16) (ix2 r k) = nOf m c (row t r) k := by
  rw [← entry13 m c _ k]
  blk_ext [iblk, idx t, row]

/-- A point's block of the activations. -/
theorem blk1 (c : Dev nD) (t : Fin cfg0.N) (r : Fin 512) (k : Fin 1024) :
    (iblk m c 1 t : FVec Ideal S512x1024 .f32) (ix2 r k) = xOf m c (row t r) k := by
  unfold xOf
  blk_ext [iblk, V, idx t, row]

/-- The block of the first weights. -/
theorem blk2 (c : Dev nD) (t : Fin cfg0.N) (q : Fin 4) (i j : Fin 1024) :
    (iblk m c 2 t : FVec Ideal S4x1024x1024 .bf16) (ix3 q i j) = wuOf m c i (col q j) := by
  rw [← entry16 m c q i j]
  blk_ext [iblk, idx t]

/-- The block of the second weights. -/
theorem blk3 (c : Dev nD) (t : Fin cfg0.N) (q : Fin 4) (j k : Fin 1024) :
    (iblk m c 3 t : FVec Ideal S4x1024x1024 .bf16) (ix3 q j k) = wdOf m c (col q j) k := by
  rw [← entry18 m c q j k]
  blk_ext [iblk, idx t]

/-- One chunk of a block of weights. -/
theorem ld_w (w : FVec Ideal S4x1024x1024 .bf16) (q : Fin 4) (q' : ℕ) (hq : q' = q.val) (h) (i j : Fin 1024) :
    View.ld (Val := Elt Ideal) (e' := EltTy.bf16) w (Rect.unit ![q', 0, 0] ![1, 1024, 1024] h) (ix3 0 i j) = w (ix3 q i j) := by
  subst hq
  refine View.ld_unit_apply_of _ _ _ _ _ _ fun a => ?_
  match a with
  | ⟨0, _⟩ => simp
  | ⟨1, _⟩ => simp
  | ⟨2, _⟩ => simp

/-- A chunk of the first weights' block. -/
theorem wu_q (c : Dev nD) (t : Fin cfg0.N) (q : Fin 4) (q' : ℕ) (hq : q' = q.val) (h) (i j : Fin 1024) :
    View.ld (Val := Elt Ideal) (e' := EltTy.bf16) (iblk m c 2 t : FVec Ideal S4x1024x1024 .bf16) (Rect.unit ![q', 0, 0] ![1, 1024, 1024] h) (ix3 0 i j) = wuOf m c i (col q j) :=
  (ld_w _ q q' hq h i j).trans (blk2 m c t q i j)

/-- A chunk of the second weights' block. -/
theorem wd_q (c : Dev nD) (t : Fin cfg0.N) (q : Fin 4) (q' : ℕ) (hq : q' = q.val) (h) (j k : Fin 1024) :
    View.ld (Val := Elt Ideal) (e' := EltTy.bf16) (iblk m c 3 t : FVec Ideal S4x1024x1024 .bf16) (Rect.unit ![q', 0, 0] ![1, 1024, 1024] h) (ix3 0 j k) = wdOf m c (col q j) k :=
  (ld_w _ q q' hq h j k).trans (blk3 m c t q j k)

/-- The hidden layer. -/
def upOf (c : Dev nD) : Fin 8192 → Fin 4096 → EReal := proj (nOf m c) (wuOf m c)

/-- One entry of a chunk of the hidden layer. -/
theorem chunk (c : Dev nD) (t : Fin cfg0.N) (q : Fin 4) (r : Fin 512) (j : Fin 1024) (n : FVec Ideal S512x1024 .bf16) (w : FVec Ideal S1x1024x1024 .bf16)
    (hn : ∀ r k, n (ix2 r k) = nOf m c (row t r) k) (hw : ∀ k j, w (ix3 0 k j) = wuOf m c k (col q j)) :
    proj (fun r k => n (ix2 r k)) (fun k j => w (ix3 0 k j)) r j = upOf m c (row t r) (col q j) := by
  unfold upOf proj
  exact Finset.sum_congr rfl fun k _ => by simp only [hn, hw]

/-- One entry of what a chunk adds to the rows. -/
theorem chunkSum (c : Dev nD) (t : Fin cfg0.N) (q : Fin 4) (r : Fin 512) (i : Fin 1024) (n : FVec Ideal S512x1024 .bf16) (w v : FVec Ideal S1x1024x1024 .bf16)
    (hn : ∀ r k, n (ix2 r k) = nOf m c (row t r) k) (hw : ∀ k j, w (ix3 0 k j) = wuOf m c k (col q j)) (hv : ∀ j i, v (ix3 0 j i) = wdOf m c (col q j) i) :
    (∑ j, act (proj (fun r k => n (ix2 r k)) (fun k j => w (ix3 0 k j)) r j) * v (ix3 0 j i))
      = ∑ j, act (proj (nOf m c) (wuOf m c) (row t r) (col q j)) * wdOf m c (col q j) i :=
  Finset.sum_congr rfl fun j _ => by rw [chunk m c t q r j n w hn hw, hv]; rfl

/-- The layer's result. -/
def hOf (c : Dev nD) : Fin 8192 → Fin 1024 → EReal := feed (xOf m c) (nOf m c) (wuOf m c) (wdOf m c)

/-- A block of the layer's result, as the body forms it chunk by chunk. -/
theorem h_eq (c : Dev nD) (t : Fin cfg0.N) (n : FVec Ideal S512x1024 .bf16) (x : FVec Ideal S512x1024 .f32) (w0 v0 w1 v1 w2 v2 w3 v3 : FVec Ideal S1x1024x1024 .bf16)
    (hn : ∀ r k, n (ix2 r k) = nOf m c (row t r) k) (hx : ∀ r k, x (ix2 r k) = xOf m c (row t r) k)
    (hw0 : ∀ k j, w0 (ix3 0 k j) = wuOf m c k (col 0 j)) (hv0 : ∀ j i, v0 (ix3 0 j i) = wdOf m c (col 0 j) i)
    (hw1 : ∀ k j, w1 (ix3 0 k j) = wuOf m c k (col 1 j)) (hv1 : ∀ j i, v1 (ix3 0 j i) = wdOf m c (col 1 j) i)
    (hw2 : ∀ k j, w2 (ix3 0 k j) = wuOf m c k (col 2 j)) (hv2 : ∀ j i, v2 (ix3 0 j i) = wdOf m c (col 2 j) i)
    (hw3 : ∀ k j, w3 (ix3 0 k j) = wuOf m c k (col 3 j)) (hv3 : ∀ j i, v3 (ix3 0 j i) = wdOf m c (col 3 j) i) (r : Fin 512) (i : Fin 1024) :
    k0_pay5 (F := Ideal) (k0_pay6 n) (k0_pay11 n x w0 v0 w1 v1) w2 v2 w3 v3 (ix2 r i) = hOf m c (row t r) i := by
  refine (h3_apply _ _ _ _ _ _ r i).trans ?_
  rw [h1_apply, chunkSum m c t 0 r i n w0 v0 hn hw0 hv0, chunkSum m c t 1 r i n w1 v1 hn hw1 hv1,
    chunkSum m c t 2 r i n w2 v2 hn hw2 hv2, chunkSum m c t 3 r i n w3 v3 hn hw3 hv3, hx]
  exact (feed_cols (xOf m c) (nOf m c) (wuOf m c) (wdOf m c) (row t r) i).symm

/-- The hidden layer after point `t`. -/
theorem outs4 (c : Dev nD) (t : Fin cfg0.N) (r : Fin 512) (l : Fin 4096) :
    ((dats m 0 c).after 4 t : FVec Ideal S512x4096 .bf16) (ix2 r l) = upOf m c (row t r) l := by
  have key : ∀ (q : Fin 4) (x : S512x1024.Idx), r.val = (x 0).val → l.val = q.val * 1024 + (x 1).val →
      upOf m c (row t (x 0)) (col q (x 1)) = upOf m c (row t r) l := fun q x h0 h1 => by
    obtain rfl : r = x 0 := Fin.ext h0
    exact congrArg _ (Fin.ext h1.symm)
  rw [after0_4]
  unfold out0_4 k0_pay12
  frame_out
  canon_tiles x h
  · rw [eq_ix2 x]
    exact ((up3_apply _ _ _ _).trans (chunk m c t 3 _ _ _ _ (blk0 m c t) (wu_q m c t 3 3 rfl _))).trans (key 3 x (by simpa using h0) (by simpa using h1))
  · rw [eq_ix2 x]
    exact ((up2_apply _ _ _ _).trans (chunk m c t 2 _ _ _ _ (blk0 m c t) (wu_q m c t 2 2 rfl _))).trans (key 2 x (by simpa using h0) (by simpa using h1))
  · rw [eq_ix2 x]
    exact ((up1_apply _ _ _ _).trans (chunk m c t 1 _ _ _ _ (blk0 m c t) (wu_q m c t 1 1 rfl _))).trans (key 1 x (by simpa using h0) (by simpa using h1))
  · rw [eq_ix2 x]
    exact ((up0_apply _ _ _ _).trans (chunk m c t 0 _ _ _ _ (blk0 m c t) (wu_q m c t 0 0 rfl _))).trans (key 0 x (by simpa using h0) (by simpa using h1))

/-- The layer's result after point `t`. -/
theorem outs5 (c : Dev nD) (t : Fin cfg0.N) (r : Fin 512) (i : Fin 1024) :
    ((dats m 0 c).after 5 t : FVec Ideal S512x1024 .f32) (ix2 r i) = hOf m c (row t r) i := by
  rw [after0_5]
  unfold out0_5 k0_pay12
  frame_out
  exact h_eq m c t _ _ _ _ _ _ _ _ _ _ (blk0 m c t) (blk1 m c t) (wu_q m c t 0 0 rfl _) (wd_q m c t 0 0 rfl _) (wu_q m c t 1 1 rfl _) (wd_q m c t 1 1 rfl _)
    (wu_q m c t 2 2 rfl _) (wd_q m c t 2 2 rfl _) (wu_q m c t 3 3 rfl _) (wd_q m c t 3 3 rfl _) r i

/-- The hidden layer, whole. -/
theorem arr4 (c : Dev nD) : (dats m 0 c).arrAt 4 cfg0.N = fun i : S8192x4096.Idx => upOf m c (i 0) (i 1) := by
  refine (dats m 0 c).arrAt_eq_of_covers 4 _ (by decide +kernel) fun t hf y => ?_
  obtain ⟨r, j, rfl⟩ : ∃ r j, y = ix2 r j := ⟨_, _, eq_ix2 y⟩
  blk_simp
  refine (outs4 m c t r j).trans (congrArg₂ (upOf m c) (Fin.ext ?_) (Fin.ext ?_))
  all_goals blk_simp [idx t]
  all_goals (try simp only [row]; omega)

/-- The layer's result, whole. -/
theorem arr5 (c : Dev nD) : (dats m 0 c).arrAt 5 cfg0.N = fun i : S8192x1024.Idx => hOf m c (i 0) (i 1) := by
  refine (dats m 0 c).arrAt_eq_of_covers 5 _ (by decide +kernel) fun t hf y => ?_
  obtain ⟨r, j, rfl⟩ : ∃ r j, y = ix2 r j := ⟨_, _, eq_ix2 y⟩
  blk_simp
  refine (outs5 m c t r j).trans (congrArg₂ (hOf m c) (Fin.ext ?_) (Fin.ext ?_))
  all_goals blk_simp [idx t]
  all_goals (try simp only [row]; omega)

end Cert.MlpFwdGrad

namespace Cert.MlpFwdGrad

open Cert.MlpFwdRefIdeal Cert.MlpFwdRefIdeal.Read Cert.Layers

variable (x0 : FVec Ideal S8192x1024 .f32) (x1 : FVec Ideal S1024 .f32) (x2 : FVec Ideal S1024x4096 .f32) (x3 : FVec Ideal S4096x1024 .f32)

/-- The plain hidden layer. -/
theorem plain14 : val_main_v14 (F := Ideal) x0 x1 x2 = fun i : S8192x4096.Idx =>
    proj (normed (fun s k => x0 (ix2 s k)) fun k => x1 (ix1 k)) (fun i j => x2 (ix2 i j)) (i 0) (i 1) := by
  refine funext fun i => ?_
  obtain ⟨s, j, rfl⟩ : ∃ s j, i = ix2 s j := ⟨_, _, eq_ix2 i⟩
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The plain result. -/
theorem plain32 : val_main_v32 (F := Ideal) x0 x1 x2 x3 = fun i : S8192x1024.Idx =>
    feed (fun s k => x0 (ix2 s k)) (normed (fun s k => x0 (ix2 s k)) fun k => x1 (ix1 k)) (fun i j => x2 (ix2 i j)) (fun j k => x3 (ix2 j k)) (i 0) (i 1) := by
  refine funext fun i => ?_
  obtain ⟨s, j, rfl⟩ : ∃ s j, i = ix2 s j := ⟨_, _, eq_ix2 i⟩
  pointwise [val_main_v32, val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_call0_v0,
    val_main_call0_cst, val_main_cst_2, val_main_cst_3, val_main_cst_4]
  rfl

/-- The plain lines leave their arguments and stop quietly: they use no semaphore. -/
theorem plainFrame : Cert.quiescent_MlpFwdRefIdeal (hMlpFwdRefIdeal := Cert.MlpFwdRefIdeal.Gen.facts) := fun m ρ _ =>
  (θ_run _ _ _).mono (fun r h => ⟨fun c => (h c).2.2, sem_eq_zero_of_no_sems (by decide) r.2⟩) (Cert.MlpFwdRefIdeal.Value.run m ρ)

/-- Over the reals with infinities, the call and the plain lines have the same results. -/
theorem algebraic : Cert.algebraic_MlpFwdIdeal_MlpFwdRefIdeal (hMlpFwdIdeal := Cert.MlpFwdIdeal.Gen.facts) (hMlpFwdRefIdeal := Cert.MlpFwdRefIdeal.Gen.facts) := by
  intro m g m' g' _ hm
  refine ⟨fun c => fun i : Cert.MlpFwdIdeal.S8192x4096.Idx => upOf m c (i 0) (i 1),
    fun c => fun i : Cert.MlpFwdIdeal.S8192x1024.Idx => hOf m c (i 0) (i 1), ?_, ?_⟩
  · refine (θ_run _ _ _).mono (fun r h c => ?_) (Cert.MlpFwdIdeal.Value.run_blocks m g)
    obtain ⟨h0, h1, ha⟩ := h c
    exact ⟨h0.trans (arr4 m c), h1.trans (arr5 m c), ha⟩
  · refine (θ_run _ _ _).mono (fun r h c => ?_) (Cert.MlpFwdRefIdeal.Value.run m' g')
    obtain ⟨h0, h1, ha⟩ := h c
    obtain ⟨e0, e1, e2, e3⟩ := hm c
    refine ⟨(h0.trans (val_main_v14_eq _ _ _)).trans ?_, (h1.trans (val_main_v32_eq _ _ _ _)).trans ?_, ha⟩
    · refine (plain14 _ _ _).trans ?_
      rw [e0, e1, e2]; rfl
    · refine (plain32 _ _ _ _).trans ?_
      rw [e0, e1, e2, e3]; rfl

end Cert.MlpFwdGrad

end
-- ==== Proof.LastFwdValue.lean ====
/-
  The last layer's forward call with the loss's head: each grid point opened, its six results after the run at an index, the
  plain lines read at an index, and the value claim.
-/
module

public import proofs.«01_k».proof.Defs
public import proofs.«01_k».proof.Proof.Sums
public import proofs.«01_k».proof.Proof.Rms
public import proofs.«01_k».proof.Proof.Layers
public import proofs.«01_k».proof.Proof.OutProjValue
public import proofs.«01_k».proof.Proof.Gen.LastFwdIdeal.Value
public import proofs.«01_k».proof.Proof.Gen.LastFwdRefIdeal
public import proofs.«01_k».proof.Proof.Gen.LastFwdRefIdeal.Read
public import Idealize.ShloMosaic.Lib.Pipeline.ValueKit
public import Idealize.ShloMosaic.Lib.Pointwise
public import Idealize.ShloMosaic.Lib.KernelVsHost
public import Idealize.ShloMosaic.Lib.IdealHost

@[expose] public section

set_option maxRecDepth 16384

noncomputable section

open Idealize.ShloMosaic Idealize.ShloMosaic.TcCoe Idealize.SL.Sem Idealize.ShloMosaic.StableHlo

namespace Cert.LastFwdGrad

open Cert.LastFwdIdeal Cert.LastFwdIdeal.Gen Cert.Layers Cert.Rms
open Cert.OutProjGrad (side)

variable (m : (l : Loc nD τ sig) → Buf (Elt Ideal) l)

/-! The stored values at an index. -/

/-- A block of the first result: its rows and the product of the three branches side by side. -/
theorem h_apply (a : FVec Ideal S256x512 .bf16) (b d : FVec Ideal S256x256 .bf16) (x : FVec Ideal S256x1024 .f32)
    (w : FVec Ideal S1024x1024 .bf16) (r : Fin 256) (i : Fin 1024) :
    k0_pay3 (F := Ideal) a b d x w (ix2 r i)
      = skip (fun r k => x (ix2 r k)) (side (fun s l => a (ix2 s l)) (fun s l => b (ix2 s l)) fun s l => d (ix2 s l))
          (fun k i => w (ix2 k i)) r i := by
  pointwise [k0_pay3]
  rfl

/-- A block of the second result: the first one's rows, normalised. -/
theorem n_apply (a : FVec Ideal S256x512 .bf16) (b d : FVec Ideal S256x256 .bf16) (x : FVec Ideal S256x1024 .f32)
    (w : FVec Ideal S1024x1024 .bf16) (g : FVec Ideal S1x1024 .f32) (r : Fin 256) (i : Fin 1024) :
    k0_pay4 (F := Ideal) a b d x w g (ix2 r i)
      = normed (fun r i => k0_pay3 (F := Ideal) a b d x w (ix2 r i)) (fun k => g (ix2 0 k)) r i := by
  pointwise [k0_pay4]
  rfl

/-! `n` are the normalised rows, `w` and `v` a chunk of the two weights. -/

/-- The first chunk of the hidden layer. -/
theorem up0_apply (n : FVec Ideal S256x1024 .bf16) (w : FVec Ideal S1x1024x1024 .bf16) (r : Fin 256) (j : Fin 1024) :
    k0_pay7 (F := Ideal) n (k0_pay5 w) (ix2 r j) = proj (fun r k => n (ix2 r k)) (fun k j => w (ix3 0 k j)) r j := by
  pointwise [k0_pay7, k0_pay6, k0_pay5]
  rfl

/-- The second chunk. -/
theorem up1_apply (n : FVec Ideal S256x1024 .bf16) (w : FVec Ideal S1x1024x1024 .bf16) (r : Fin 256) (j : Fin 1024) :
    k0_pay9 (F := Ideal) n w (ix2 r j) = proj (fun r k => n (ix2 r k)) (fun k j => w (ix3 0 k j)) r j := by
  pointwise [k0_pay9, k0_pay8]
  rfl

/-- The third chunk. -/
theorem up2_apply (n : FVec Ideal S256x1024 .bf16) (w : FVec Ideal S1x1024x1024 .bf16) (r : Fin 256) (j : Fin 1024) :
    k0_pay12 (F := Ideal) n w (ix2 r j) = proj (fun r k => n (ix2 r k)) (fun k j => w (ix3 0 k j)) r j := by
  pointwise [k0_pay12, k0_pay11]
  rfl

/-- The fourth chunk. -/
theorem up3_apply (n : FVec Ideal S256x1024 .bf16) (w : FVec Ideal S1x1024x1024 .bf16) (r : Fin 256) (j : Fin 1024) :
    k0_pay15 (F := Ideal) n w (ix2 r j) = proj (fun r k => n (ix2 r k)) (fun k j => w (ix3 0 k j)) r j := by
  pointwise [k0_pay15, k0_pay14]
  rfl

/-- What the first two chunks add to the rows. -/
theorem h1_apply (n : FVec Ideal S256x1024 .bf16) (x : FVec Ideal S256x1024 .f32) (w0 v0 w1 v1 : FVec Ideal S1x1024x1024 .bf16) (r : Fin 256) (i : Fin 1024) :
    k0_pay10 (F := Ideal) x n (k0_pay5 w0) v0 w1 v1 (ix2 r i)
      = x (ix2 r i) + (∑ j, act (proj (fun r k => n (ix2 r k)) (fun k j => w0 (ix3 0 k j)) r j) * v0 (ix3 0 j i))
        + ∑ j, act (proj (fun r k => n (ix2 r k)) (fun k j => w1 (ix3 0 k j)) r j) * v1 (ix3 0 j i) := by
  pointwise [k0_pay10, k0_pay8, k0_pay6, k0_pay5]
  rfl

/-- What the last two chunks add to that. -/
theorem h3_apply (n : FVec Ideal S256x1024 .bf16) (x : FVec Ideal S256x1024 .f32) (w2 v2 w3 v3 : FVec Ideal S1x1024x1024 .bf16) (r : Fin 256) (i : Fin 1024) :
    k0_pay16 (F := Ideal) n x (k0_pay13 n w2) v2 w3 v3 (ix2 r i)
      = x (ix2 r i) + (∑ j, act (proj (fun r k => n (ix2 r k)) (fun k j => w2 (ix3 0 k j)) r j) * v2 (ix3 0 j i))
        + ∑ j, act (proj (fun r k => n (ix2 r k)) (fun k j => w3 (ix3 0 k j)) r j) * v3 (ix3 0 j i) := by
  pointwise [k0_pay16, k0_pay14, k0_pay13, k0_pay11]
  rfl

/-! The head, over the last activations, whose block is the sum `k0_pay16` forms. -/

/-- One over the root of the guarded mean square of a row of the last activations. -/
theorem r_apply (n : FVec Ideal S256x1024 .bf16) (y f : FVec Ideal S256x1024 .f32) (v w3 v3 : FVec Ideal S1x1024x1024 .bf16) (r : Fin 256) :
    k0_pay18 (F := Ideal) n y f v w3 v3 (ix2 r 0) = rs (fun k => k0_pay16 (F := Ideal) n y f v w3 v3 (ix2 r k)) := by
  pointwise [k0_pay18]
  rfl

/-- The difference from the targets. -/
theorem e_apply (n : FVec Ideal S256x1024 .bf16) (y f : FVec Ideal S256x1024 .f32) (v w3 v3 : FVec Ideal S1x1024x1024 .bf16)
    (tg : FVec Ideal S256x1024 .f32) (g : FVec Ideal S1x1024 .f32) (r : Fin 256) (i : Fin 1024) :
    k0_pay19 (F := Ideal) n y f v w3 v3 tg g (ix2 r i)
      = gap (fun r k => k0_pay16 (F := Ideal) n y f v w3 v3 (ix2 r k)) (fun k => g (ix2 0 k)) (fun r k => tg (ix2 r k)) r i := by
  pointwise [k0_pay19, k0_pay17]
  rw [r_apply]
  rfl

/-- What a block adds to the loss. -/
theorem l_apply (n : FVec Ideal S256x1024 .bf16) (y f : FVec Ideal S256x1024 .f32) (v w3 v3 : FVec Ideal S1x1024x1024 .bf16)
    (tg : FVec Ideal S256x1024 .f32) (g : FVec Ideal S1x1024 .f32) (o : FVec Ideal S8x128 .f32) (a : Fin 8) (b : Fin 128) :
    k0_pay21 (F := Ideal) (k0_pay20 n y f v w3 v3 tg g) o (ix2 a b)
      = o (ix2 a b) + loss (fun r k => k0_pay16 (F := Ideal) n y f v w3 v3 (ix2 r k)) (fun k => g (ix2 0 k)) (fun r k => tg (ix2 r k)) := by
  pointwise [k0_pay21, k0_pay20]
  simp only [e_apply]
  rfl

/-- A block of the loss's gradient in the last activations. -/
theorem d_apply (n : FVec Ideal S256x1024 .bf16) (y f : FVec Ideal S256x1024 .f32) (v w3 v3 : FVec Ideal S1x1024x1024 .bf16)
    (tg : FVec Ideal S256x1024 .f32) (g : FVec Ideal S1x1024 .f32) (r : Fin 256) (i : Fin 1024) :
    k0_pay23 (F := Ideal) (k0_pay16 n y f v w3 v3) (k0_pay17 g) (k0_pay18 n y f v w3 v3) (k0_pay19 n y f v w3 v3 tg g) (ix2 r i)
      = dHead (fun r k => k0_pay16 (F := Ideal) n y f v w3 v3 (ix2 r k)) (fun k => g (ix2 0 k)) (fun r k => tg (ix2 r k)) r i := by
  pointwise [k0_pay23, k0_pay22, k0_pay17]
  simp only [e_apply, r_apply]
  exact (zero_add _).symm

/-- What a block adds to the loss's gradient in the scale. -/
theorem s_apply (n : FVec Ideal S256x1024 .bf16) (y f : FVec Ideal S256x1024 .f32) (v w3 v3 : FVec Ideal S1x1024x1024 .bf16)
    (tg : FVec Ideal S256x1024 .f32) (g o : FVec Ideal S1x1024 .f32) (i : Fin 1024) :
    k0_pay24 (F := Ideal) (k0_pay16 n y f v w3 v3) (k0_pay18 n y f v w3 v3) (k0_pay19 n y f v w3 v3 tg g) o (ix2 0 i)
      = o (ix2 0 i) + dScale (fun r k => k0_pay16 (F := Ideal) n y f v w3 v3 (ix2 r k)) (fun k => g (ix2 0 k)) (fun r k => tg (ix2 r k)) i := by
  pointwise [k0_pay24, k0_pay22]
  simp only [e_apply, r_apply]
  rfl

/-! The operands. -/

/-- The attention branch's output, at an index. -/
def yaOf (c : Dev nD) (s : Fin 8192) (l : Fin 512) : EReal := (m ((c : Thread nD τ).loc main_arg0) : FVec Ideal S8192x512 .bf16) (ix2 s l)
/-- The convolution branch's output. -/
def ycOf (c : Dev nD) (s : Fin 8192) (l : Fin 256) : EReal := (m ((c : Thread nD τ).loc main_arg1) : FVec Ideal S8192x256 .bf16) (ix2 s l)
/-- The recurrence branch's output. -/
def ylOf (c : Dev nD) (s : Fin 8192) (l : Fin 256) : EReal := (m ((c : Thread nD τ).loc main_arg2) : FVec Ideal S8192x256 .bf16) (ix2 s l)
/-- The activations the projection is added to. -/
def xOf (c : Dev nD) (s : Fin 8192) (k : Fin 1024) : EReal := (m ((c : Thread nD τ).loc main_arg3) : FVec Ideal S8192x1024 .f32) (ix2 s k)
/-- The projection's weights. -/
def woOf (c : Dev nD) (k i : Fin 1024) : EReal := (m ((c : Thread nD τ).loc main_arg4) : FVec Ideal S1024x1024 .f32) (ix2 k i)
/-- The norm's scale in front of the feed-forward layer. -/
def gOf (c : Dev nD) (k : Fin 1024) : EReal := (m ((c : Thread nD τ).loc main_arg5) : FVec Ideal S1024 .f32) (ix1 k)
/-- The first weights. -/
def wuOf (c : Dev nD) (i : Fin 1024) (j : Fin 4096) : EReal := (m ((c : Thread nD τ).loc main_arg6) : FVec Ideal S1024x4096 .f32) (ix2 i j)
/-- The second weights. -/
def wdOf (c : Dev nD) (j : Fin 4096) (k : Fin 1024) : EReal := (m ((c : Thread nD τ).loc main_arg7) : FVec Ideal S4096x1024 .f32) (ix2 j k)
/-- The targets. -/
def tOf (c : Dev nD) (s : Fin 8192) (k : Fin 1024) : EReal := (m ((c : Thread nD τ).loc main_arg8) : FVec Ideal S8192x1024 .f32) (ix2 s k)
/-- The last norm's scale. -/
def gfOf (c : Dev nD) (k : Fin 1024) : EReal := (m ((c : Thread nD τ).loc main_arg9) : FVec Ideal S1024 .f32) (ix1 k)

/-- The activations behind the projection. -/
def hOf (c : Dev nD) : Fin 8192 → Fin 1024 → EReal := skip (xOf m c) (side (yaOf m c) (ycOf m c) (ylOf m c)) (woOf m c)
/-- The same, normalised. -/
def nOf (c : Dev nD) : Fin 8192 → Fin 1024 → EReal := normed (hOf m c) (gOf m c)
/-- The hidden layer. -/
def upOf (c : Dev nD) : Fin 8192 → Fin 4096 → EReal := proj (nOf m c) (wuOf m c)
/-- The last activations. -/
def lastOf (c : Dev nD) : Fin 8192 → Fin 1024 → EReal := feed (hOf m c) (nOf m c) (wuOf m c) (wdOf m c)

/-- The projection's weights as the region reads them. -/
theorem entry0 (c : Dev nD) (k i : Fin 1024) : (V m c main_v0 : FVec Ideal S1024x1024 .bf16) (ix2 k i) = woOf m c k i := by
  unfold woOf V
  simp only [hostOps0, List.flatten_cons, List.flatten_nil, List.cons_append, List.nil_append, List.append_nil,
    TRef.nullary, TRef.unary, TRef.binary, TRef.ternary]
  entry_read
  rfl

/-- The norm's scale as the region reads it. -/
theorem entry1 (c : Dev nD) (k : Fin 1024) : (V m c main_v1 : FVec Ideal S1x1024 .f32) (ix2 0 k) = gOf m c k := by
  unfold gOf V
  simp only [hostOps0, List.flatten_cons, List.flatten_nil, List.cons_append, List.nil_append, List.append_nil,
    TRef.nullary, TRef.unary, TRef.binary, TRef.ternary]
  entry_read
  pointwise

/-- The first weights as the region reads them: four chunks of columns. -/
theorem entry4 (c : Dev nD) (q : Fin 4) (i j : Fin 1024) : (V m c main_v4 : FVec Ideal S4x1024x1024 .bf16) (ix3 q i j) = wuOf m c i (col q j) := by
  unfold wuOf V
  simp only [hostOps0, List.flatten_cons, List.flatten_nil, List.cons_append, List.nil_append, List.append_nil,
    TRef.nullary, TRef.unary, TRef.binary, TRef.ternary]
  entry_read
  pointwise
  rfl

/-- The second weights as the region reads them: four chunks of rows. -/
theorem entry6 (c : Dev nD) (q : Fin 4) (j k : Fin 1024) : (V m c main_v6 : FVec Ideal S4x1024x1024 .bf16) (ix3 q j k) = wdOf m c (col q j) k := by
  unfold wdOf V
  simp only [hostOps0, List.flatten_cons, List.flatten_nil, List.cons_append, List.nil_append, List.append_nil,
    TRef.nullary, TRef.unary, TRef.binary, TRef.ternary]
  entry_read
  pointwise
  rfl

/-- The last norm's scale as the region reads it. -/
theorem entry7 (c : Dev nD) (k : Fin 1024) : (V m c main_v7 : FVec Ideal S1x1024 .f32) (ix2 0 k) = gfOf m c k := by
  unfold gfOf V
  simp only [hostOps0, List.flatten_cons, List.flatten_nil, List.cons_append, List.nil_append, List.append_nil,
    TRef.nullary, TRef.unary, TRef.binary, TRef.ternary]
  entry_read
  pointwise

/-- Where each window's block lies at point `t`. -/
theorem idx : ∀ t : Fin grid0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0, 0]
    ∧ win0_7.index t = ![0, 0, 0] ∧ win0_8.index t = ![t.val, 0] ∧ win0_9.index t = ![0, 0] ∧ win0_10.index t = ![t.val, 0]
    ∧ win0_11.index t = ![t.val, 0] ∧ win0_12.index t = ![t.val, 0] ∧ win0_13.index t = ![t.val, 0] ∧ win0_14.index t = ![0, 0]
    ∧ win0_15.index t = ![0, 0] := by decide +kernel

/-- The last point. -/
def tLast : Fin grid0.N := ⟨31, by rw [N_0]; decide⟩

/-- Row `r` of block `t`. -/
def row (t : Fin cfg0.N) (r : Fin 256) : Fin 8192 := ⟨256 * t.val + r.val, by have := t.isLt; have : t.val < 32 := this; omega⟩

/-- A point's block of the attention branch's output. -/
theorem blk0 (c : Dev nD) (t : Fin cfg0.N) (r : Fin 256) (k : Fin 512) :
    (iblk m c 0 t : FVec Ideal S256x512 .bf16) (ix2 r k) = yaOf m c (row t r) k := by
  unfold yaOf
  blk_ext [iblk, V, idx t, row]

/-- A point's block of the convolution branch's output. -/
theorem blk1 (c : Dev nD) (t : Fin cfg0.N) (r : Fin 256) (k : Fin 256) :
    (iblk m c 1 t : FVec Ideal S256x256 .bf16) (ix2 r k) = ycOf m c (row t r) k := by
  unfold ycOf
  blk_ext [iblk, V, idx t, row]

/-- A point's block of the recurrence branch's output. -/
theorem blk2 (c : Dev nD) (t : Fin cfg0.N) (r : Fin 256) (k : Fin 256) :
    (iblk m c 2 t : FVec Ideal S256x256 .bf16) (ix2 r k) = ylOf m c (row t r) k := by
  unfold ylOf
  blk_ext [iblk, V, idx t, row]

/-- A point's block of the activations. -/
theorem blk3 (c : Dev nD) (t : Fin cfg0.N) (r : Fin 256) (k : Fin 1024) :
    (iblk m c 3 t : FVec Ideal S256x1024 .f32) (ix2 r k) = xOf m c (row t r) k := by
  unfold xOf
  blk_ext [iblk, V, idx t, row]

/-- A point's block of the targets. -/
theorem blk8 (c : Dev nD) (t : Fin cfg0.N) (r : Fin 256) (k : Fin 1024) :
    (iblk m c 8 t : FVec Ideal S256x1024 .f32) (ix2 r k) = tOf m c (row t r) k := by
  unfold tOf
  blk_ext [iblk, V, idx t, row]

/-- The block of the projection's weights. -/
theorem blk4 (c : Dev nD) (t : Fin cfg0.N) (k i : Fin 1024) :
    (iblk m c 4 t : FVec Ideal S1024x1024 .bf16) (ix2 k i) = woOf m c k i := by
  rw [← entry0 m c k i]
  blk_ext [iblk, idx t]

/-- The block of the norm's scale. -/
theorem blk5 (c : Dev nD) (t : Fin cfg0.N) (k : Fin 1024) : (iblk m c 5 t : FVec Ideal S1x1024 .f32) (ix2 0 k) = gOf m c k := by
  rw [← entry1 m c k]
  blk_ext [iblk, idx t]

/-- The block of the first weights. -/
theorem blk6 (c : Dev nD) (t : Fin cfg0.N) (q : Fin 4) (i j : Fin 1024) :
    (iblk m c 6 t : FVec Ideal S4x1024x1024 .bf16) (ix3 q i j) = wuOf m c i (col q j) := by
  rw [← entry4 m c q i j]
  blk_ext [iblk, idx t]

/-- The block of the second weights. -/
theorem blk7 (c : Dev nD) (t : Fin cfg0.N) (q : Fin 4) (j k : Fin 1024) :
    (iblk m c 7 t : FVec Ideal S4x1024x1024 .bf16) (ix3 q j k) = wdOf m c (col q j) k := by
  rw [← entry6 m c q j k]
  blk_ext [iblk, idx t]

/-- The block of the last norm's scale. -/
theorem blk9 (c : Dev nD) (t : Fin cfg0.N) (k : Fin 1024) : (iblk m c 9 t : FVec Ideal S1x1024 .f32) (ix2 0 k) = gfOf m c k := by
  rw [← entry7 m c k]
  blk_ext [iblk, idx t]

/-- One chunk of a block of weights. -/
theorem ld_w (w : FVec Ideal S4x1024x1024 .bf16) (q : Fin 4) (q' : ℕ) (hq : q' = q.val) (h) (i j : Fin 1024) :
    View.ld (Val := Elt Ideal) (e' := EltTy.bf16) w (Rect.unit ![q', 0, 0] ![1, 1024, 1024] h) (ix3 0 i j) = w (ix3 q i j) := by
  subst hq
  refine View.ld_unit_apply_of _ _ _ _ _ _ fun a => ?_
  match a with
  | ⟨0, _⟩ => simp
  | ⟨1, _⟩ => simp
  | ⟨2, _⟩ => simp

/-- A chunk of the first weights' block. -/
theorem wu_q (c : Dev nD) (t : Fin cfg0.N) (q : Fin 4) (q' : ℕ) (hq : q' = q.val) (h) (i j : Fin 1024) :
    View.ld (Val := Elt Ideal) (e' := EltTy.bf16) (iblk m c 6 t : FVec Ideal S4x1024x1024 .bf16) (Rect.unit ![q', 0, 0] ![1, 1024, 1024] h) (ix3 0 i j) = wuOf m c i (col q j) :=
  (ld_w _ q q' hq h i j).trans (blk6 m c t q i j)

/-- A chunk of the second weights' block. -/
theorem wd_q (c : Dev nD) (t : Fin cfg0.N) (q : Fin 4) (q' : ℕ) (hq : q' = q.val) (h) (j k : Fin 1024) :
    View.ld (Val := Elt Ideal) (e' := EltTy.bf16) (iblk m c 7 t : FVec Ideal S4x1024x1024 .bf16) (Rect.unit ![q', 0, 0] ![1, 1024, 1024] h) (ix3 0 j k) = wdOf m c (col q j) k :=
  (ld_w _ q q' hq h j k).trans (blk7 m c t q j k)

/-! A point's blocks, read in the whole arrays. -/

/-- The activations behind the projection. -/
theorem step_h (c : Dev nD) (t : Fin cfg0.N) (r : Fin 256) (i : Fin 1024) :
    k0_pay3 (F := Ideal) (iblk m c 0 t) (iblk m c 1 t) (iblk m c 2 t) (iblk m c 3 t) (iblk m c 4 t) (ix2 r i) = hOf m c (row t r) i := by
  refine (h_apply _ _ _ _ _ r i).trans ?_
  unfold hOf skip proj side
  simp only [blk0, blk1, blk2, blk3, blk4]

/-- The same, normalised. -/
theorem step_n (c : Dev nD) (t : Fin cfg0.N) (r : Fin 256) (i : Fin 1024) :
    k0_pay4 (F := Ideal) (iblk m c 0 t) (iblk m c 1 t) (iblk m c 2 t) (iblk m c 3 t) (iblk m c 4 t) (iblk m c 5 t) (ix2 r i) = nOf m c (row t r) i := by
  refine (n_apply _ _ _ _ _ _ r i).trans ?_
  unfold nOf normed
  simp only [step_h, blk5]

/-- One entry of a chunk of the hidden layer. -/
theorem chunk (c : Dev nD) (t : Fin cfg0.N) (q : Fin 4) (r : Fin 256) (j : Fin 1024) (n : FVec Ideal S256x1024 .bf16) (w : FVec Ideal S1x1024x1024 .bf16)
    (hn : ∀ r k, n (ix2 r k) = nOf m c (row t r) k) (hw : ∀ k j, w (ix3 0 k j) = wuOf m c k (col q j)) :
    proj (fun r k => n (ix2 r k)) (fun k j => w (ix3 0 k j)) r j = upOf m c (row t r) (col q j) := by
  unfold upOf proj
  exact Finset.sum_congr rfl fun k _ => by simp only [hn, hw]

/-- One entry of what a chunk adds to the rows. -/
theorem chunkSum (c : Dev nD) (t : Fin cfg0.N) (q : Fin 4) (r : Fin 256) (i : Fin 1024) (n : FVec Ideal S256x1024 .bf16) (w v : FVec Ideal S1x1024x1024 .bf16)
    (hn : ∀ r k, n (ix2 r k) = nOf m c (row t r) k) (hw : ∀ k j, w (ix3 0 k j) = wuOf m c k (col q j)) (hv : ∀ j i, v (ix3 0 j i) = wdOf m c (col q j) i) :
    (∑ j, act (proj (fun r k => n (ix2 r k)) (fun k j => w (ix3 0 k j)) r j) * v (ix3 0 j i))
      = ∑ j, act (proj (nOf m c) (wuOf m c) (row t r) (col q j)) * wdOf m c (col q j) i :=
  Finset.sum_congr rfl fun j _ => by rw [chunk m c t q r j n w hn hw, hv]; rfl

/-- A block of the last activations, as the body forms it chunk by chunk. -/
theorem last_eq (c : Dev nD) (t : Fin cfg0.N) (n : FVec Ideal S256x1024 .bf16) (x : FVec Ideal S256x1024 .f32) (w0 v0 w1 v1 w2 v2 w3 v3 : FVec Ideal S1x1024x1024 .bf16)
    (hn : ∀ r k, n (ix2 r k) = nOf m c (row t r) k) (hx : ∀ r k, x (ix2 r k) = hOf m c (row t r) k)
    (hw0 : ∀ k j, w0 (ix3 0 k j) = wuOf m c k (col 0 j)) (hv0 : ∀ j i, v0 (ix3 0 j i) = wdOf m c (col 0 j) i)
    (hw1 : ∀ k j, w1 (ix3 0 k j) = wuOf m c k (col 1 j)) (hv1 : ∀ j i, v1 (ix3 0 j i) = wdOf m c (col 1 j) i)
    (hw2 : ∀ k j, w2 (ix3 0 k j) = wuOf m c k (col 2 j)) (hv2 : ∀ j i, v2 (ix3 0 j i) = wdOf m c (col 2 j) i)
    (hw3 : ∀ k j, w3 (ix3 0 k j) = wuOf m c k (col 3 j)) (hv3 : ∀ j i, v3 (ix3 0 j i) = wdOf m c (col 3 j) i) (r : Fin 256) (i : Fin 1024) :
    k0_pay16 (F := Ideal) n (k0_pay10 x n (k0_pay5 w0) v0 w1 v1) (k0_pay13 n w2) v2 w3 v3 (ix2 r i) = lastOf m c (row t r) i := by
  refine (h3_apply _ _ _ _ _ _ r i).trans ?_
  rw [h1_apply, chunkSum m c t 0 r i n w0 v0 hn hw0 hv0, chunkSum m c t 1 r i n w1 v1 hn hw1 hv1,
    chunkSum m c t 2 r i n w2 v2 hn hw2 hv2, chunkSum m c t 3 r i n w3 v3 hn hw3 hv3, hx]
  exact (feed_cols (hOf m c) (nOf m c) (wuOf m c) (wdOf m c) (row t r) i).symm

/-! What the outputs hold after a point. -/

/-- The activations behind the projection. -/
theorem outs10 (c : Dev nD) (t : Fin cfg0.N) (r : Fin 256) (i : Fin 1024) : (outsAt0 m c t.val t.isLt).1 (ix2 r i) = hOf m c (row t r) i := by
  by_cases h : t.val % 32 = 0
  · rw [outsAt0_A m c t h]; frame_out
    exact step_h m c t r i
  · rw [outsAt0_B m c t h]; frame_out
    exact step_h m c t r i

/-- The same, normalised. -/
theorem outs11 (c : Dev nD) (t : Fin cfg0.N) (r : Fin 256) (i : Fin 1024) : (outsAt0 m c t.val t.isLt).2.1 (ix2 r i) = nOf m c (row t r) i := by
  by_cases h : t.val % 32 = 0
  · rw [outsAt0_A m c t h]; frame_out
    exact step_n m c t r i
  · rw [outsAt0_B m c t h]; frame_out
    exact step_n m c t r i

/-- The hidden layer. -/
theorem outs12 (c : Dev nD) (t : Fin cfg0.N) (r : Fin 256) (l : Fin 4096) : (outsAt0 m c t.val t.isLt).2.2.1 (ix2 r l) = upOf m c (row t r) l := by
  have key : ∀ (q : Fin 4) (x : S256x1024.Idx), r.val = (x 0).val → l.val = q.val * 1024 + (x 1).val →
      upOf m c (row t (x 0)) (col q (x 1)) = upOf m c (row t r) l := fun q x h0 h1 => by
    obtain rfl : r = x 0 := Fin.ext h0
    exact congrArg _ (Fin.ext h1.symm)
  by_cases h : t.val % 32 = 0
  · rw [outsAt0_A m c t h]; frame_out
    canon_tiles x h
    · rw [eq_ix2 x]
      exact ((up3_apply _ _ _ _).trans (chunk m c t 3 _ _ _ _ (step_n m c t) (wu_q m c t 3 3 rfl _))).trans (key 3 x (by simpa using h0) (by simpa using h1))
    · rw [eq_ix2 x]
      exact ((up2_apply _ _ _ _).trans (chunk m c t 2 _ _ _ _ (step_n m c t) (wu_q m c t 2 2 rfl _))).trans (key 2 x (by simpa using h0) (by simpa using h1))
    · rw [eq_ix2 x]
      exact ((up1_apply _ _ _ _).trans (chunk m c t 1 _ _ _ _ (step_n m c t) (wu_q m c t 1 1 rfl _))).trans (key 1 x (by simpa using h0) (by simpa using h1))
    · rw [eq_ix2 x]
      exact ((up0_apply _ _ _ _).trans (chunk m c t 0 _ _ _ _ (step_n m c t) (wu_q m c t 0 0 rfl _))).trans (key 0 x (by simpa using h0) (by simpa using h1))
  · rw [outsAt0_B m c t h]; frame_out
    canon_tiles x h
    · rw [eq_ix2 x]
      exact ((up3_apply _ _ _ _).trans (chunk m c t 3 _ _ _ _ (step_n m c t) (wu_q m c t 3 3 rfl _))).trans (key 3 x (by simpa using h0) (by simpa using h1))
    · rw [eq_ix2 x]
      exact ((up2_apply _ _ _ _).trans (chunk m c t 2 _ _ _ _ (step_n m c t) (wu_q m c t 2 2 rfl _))).trans (key 2 x (by simpa using h0) (by simpa using h1))
    · rw [eq_ix2 x]
      exact ((up1_apply _ _ _ _).trans (chunk m c t 1 _ _ _ _ (step_n m c t) (wu_q m c t 1 1 rfl _))).trans (key 1 x (by simpa using h0) (by simpa using h1))
    · rw [eq_ix2 x]
      exact ((up0_apply _ _ _ _).trans (chunk m c t 0 _ _ _ _ (step_n m c t) (wu_q m c t 0 0 rfl _))).trans (key 0 x (by simpa using h0) (by simpa using h1))

/-- What a block adds to the loss: half its rows' mean squares. -/
def lTerm (c : Dev nD) (n : ℕ) : EReal := half * rowLoss (lastOf m c) (gfOf m c) (tOf m c) ⟨n % 8192, Nat.mod_lt _ (by decide)⟩

/-- What a row adds to the gradient of the last norm's scale. -/
def sTerm (c : Dev nD) (i : Fin 1024) (n : ℕ) : EReal :=
  dGap (lastOf m c) (gfOf m c) (tOf m c) ⟨n % 8192, Nat.mod_lt _ (by decide)⟩ i * lastOf m c ⟨n % 8192, Nat.mod_lt _ (by decide)⟩ i
    * rs (lastOf m c ⟨n % 8192, Nat.mod_lt _ (by decide)⟩)

/-- Row `r` of block `t`, counted along the sequence. -/
theorem row_eq (t : Fin cfg0.N) (r : Fin 256) : (⟨(256 * t.val + r.val) % 8192, Nat.mod_lt _ (by decide)⟩ : Fin 8192) = row t r := by
  have := t.isLt
  have : t.val < 32 := this
  refine Fin.ext (Nat.mod_eq_of_lt ?_)
  omega

/-- A block's head over the last activations. -/
theorem d_step (c : Dev nD) (t : Fin cfg0.N) (r : Fin 256) (i : Fin 1024) (n : FVec Ideal S256x1024 .bf16) (y f : FVec Ideal S256x1024 .f32)
    (v w3 v3 : FVec Ideal S1x1024x1024 .bf16) (hy : ∀ r k, k0_pay16 (F := Ideal) n y f v w3 v3 (ix2 r k) = lastOf m c (row t r) k) :
    k0_pay23 (F := Ideal) (k0_pay16 n y f v w3 v3) (k0_pay17 (iblk m c 9 t)) (k0_pay18 n y f v w3 v3)
      (k0_pay19 n y f v w3 v3 (iblk m c 8 t) (iblk m c 9 t)) (ix2 r i) = dHead (lastOf m c) (gfOf m c) (tOf m c) (row t r) i := by
  refine (d_apply _ _ _ _ _ _ _ _ r i).trans ?_
  unfold dHead dIn dGap gap normed
  simp only [hy, blk8, blk9]

/-- A block's part of the loss. -/
theorem l_step (c : Dev nD) (t : Fin cfg0.N) (a : Fin 8) (b : Fin 128) (n : FVec Ideal S256x1024 .bf16) (y f : FVec Ideal S256x1024 .f32)
    (v w3 v3 : FVec Ideal S1x1024x1024 .bf16) (o : FVec Ideal S8x128 .f32)
    (hy : ∀ r k, k0_pay16 (F := Ideal) n y f v w3 v3 (ix2 r k) = lastOf m c (row t r) k) :
    k0_pay21 (F := Ideal) (k0_pay20 n y f v w3 v3 (iblk m c 8 t) (iblk m c 9 t)) o (ix2 a b)
      = o (ix2 a b) + ∑ r : Fin 256, lTerm m c (256 * t.val + r.val) := by
  refine (l_apply _ _ _ _ _ _ _ _ _ a b).trans (congrArg _ ?_)
  unfold loss
  rw [half_sum _ _ fun s => rowLoss_nonneg _ _ _ s]
  refine Finset.sum_congr rfl fun r _ => ?_
  unfold lTerm
  rw [row_eq]
  unfold rowLoss gap normed
  simp only [hy, blk8, blk9]

/-- A block's part of the gradient of the last norm's scale. -/
theorem s_step (c : Dev nD) (t : Fin cfg0.N) (i : Fin 1024) (n : FVec Ideal S256x1024 .bf16) (y f : FVec Ideal S256x1024 .f32)
    (v w3 v3 : FVec Ideal S1x1024x1024 .bf16) (o : FVec Ideal S1x1024 .f32)
    (hy : ∀ r k, k0_pay16 (F := Ideal) n y f v w3 v3 (ix2 r k) = lastOf m c (row t r) k) :
    k0_pay24 (F := Ideal) (k0_pay16 n y f v w3 v3) (k0_pay18 n y f v w3 v3) (k0_pay19 n y f v w3 v3 (iblk m c 8 t) (iblk m c 9 t)) o (ix2 0 i)
      = o (ix2 0 i) + ∑ r : Fin 256, sTerm m c i (256 * t.val + r.val) := by
  refine (s_apply _ _ _ _ _ _ _ _ _ i).trans (congrArg _ ?_)
  unfold dScale dG
  refine Finset.sum_congr rfl fun r _ => ?_
  unfold sTerm
  rw [row_eq]
  unfold dGap gap normed
  simp only [hy, blk8, blk9]

/-- The loss's gradient in the last activations. -/
theorem outs13 (c : Dev nD) (t : Fin cfg0.N) (r : Fin 256) (i : Fin 1024) :
    (outsAt0 m c t.val t.isLt).2.2.2.1 (ix2 r i) = dHead (lastOf m c) (gfOf m c) (tOf m c) (row t r) i := by
  by_cases h : t.val % 32 = 0
  · rw [outsAt0_A m c t h]; frame_out
    exact d_step m c t r i _ _ _ _ _ _ (last_eq m c t _ _ _ _ _ _ _ _ _ _ (step_n m c t) (step_h m c t) (wu_q m c t 0 0 rfl _) (wd_q m c t 0 0 rfl _)
      (wu_q m c t 1 1 rfl _) (wd_q m c t 1 1 rfl _) (wu_q m c t 2 2 rfl _) (wd_q m c t 2 2 rfl _) (wu_q m c t 3 3 rfl _) (wd_q m c t 3 3 rfl _))
  · rw [outsAt0_B m c t h]; frame_out
    exact d_step m c t r i _ _ _ _ _ _ (last_eq m c t _ _ _ _ _ _ _ _ _ _ (step_n m c t) (step_h m c t) (wu_q m c t 0 0 rfl _) (wd_q m c t 0 0 rfl _)
      (wu_q m c t 1 1 rfl _) (wd_q m c t 1 1 rfl _) (wu_q m c t 2 2 rfl _) (wd_q m c t 2 2 rfl _) (wu_q m c t 3 3 rfl _) (wd_q m c t 3 3 rfl _))

/-- The loss over the rows up to point `t`. -/
theorem outs14 (c : Dev nD) (a : Fin 8) (b : Fin 128) (t : Fin cfg0.N) : (outsAt0 m c t.val t.isLt).2.2.2.2.1 (ix2 a b)
    = ∑ n ∈ Finset.range (t.val + 1), ∑ r : Fin 256, lTerm m c (256 * n + r.val) := by
  refine (Pipeline.eq_sum_of_reset_step_apply_single (fun n h => fun _ : Unit => (outsAt0 m c n h).2.2.2.2.1 (ix2 a b)) 32 (fun _ => 0)
    (fun n _ => ∑ r : Fin 256, lTerm m c (256 * n + r.val)) (fun t h _ => ?_) (fun t h _ => ?_) (by decide) t ()).trans (zero_add _)
  · show (outsAt0 m c t.val t.isLt).2.2.2.2.1 (ix2 a b) = _
    rw [outsAt0_A m c t h]; frame_out
    refine (l_step m c t a b _ _ _ _ _ _ _ (last_eq m c t _ _ _ _ _ _ _ _ _ _ (step_n m c t) (step_h m c t) (wu_q m c t 0 0 rfl _) (wd_q m c t 0 0 rfl _)
      (wu_q m c t 1 1 rfl _) (wd_q m c t 1 1 rfl _) (wu_q m c t 2 2 rfl _) (wd_q m c t 2 2 rfl _) (wu_q m c t 3 3 rfl _) (wd_q m c t 3 3 rfl _))).trans ?_
    congr 1
    pointwise [k0_pay1]
  · show (outsAt0 m c t.val t.isLt).2.2.2.2.1 (ix2 a b) = _
    rw [outsAt0_B m c t h]; frame_out
    exact l_step m c t a b _ _ _ _ _ _ _ (last_eq m c t _ _ _ _ _ _ _ _ _ _ (step_n m c t) (step_h m c t) (wu_q m c t 0 0 rfl _) (wd_q m c t 0 0 rfl _)
      (wu_q m c t 1 1 rfl _) (wd_q m c t 1 1 rfl _) (wu_q m c t 2 2 rfl _) (wd_q m c t 2 2 rfl _) (wu_q m c t 3 3 rfl _) (wd_q m c t 3 3 rfl _))

/-- The gradient of the last norm's scale over the rows up to point `t`. -/
theorem outs15 (c : Dev nD) (i : Fin 1024) (t : Fin cfg0.N) : (outsAt0 m c t.val t.isLt).2.2.2.2.2 (ix2 0 i)
    = ∑ n ∈ Finset.range (t.val + 1), ∑ r : Fin 256, sTerm m c i (256 * n + r.val) := by
  refine (Pipeline.eq_sum_of_reset_step_apply_single (fun n h => fun _ : Unit => (outsAt0 m c n h).2.2.2.2.2 (ix2 0 i)) 32 (fun _ => 0)
    (fun n _ => ∑ r : Fin 256, sTerm m c i (256 * n + r.val)) (fun t h _ => ?_) (fun t h _ => ?_) (by decide) t ()).trans (zero_add _)
  · show (outsAt0 m c t.val t.isLt).2.2.2.2.2 (ix2 0 i) = _
    rw [outsAt0_A m c t h]; frame_out
    refine (s_step m c t i _ _ _ _ _ _ _ (last_eq m c t _ _ _ _ _ _ _ _ _ _ (step_n m c t) (step_h m c t) (wu_q m c t 0 0 rfl _) (wd_q m c t 0 0 rfl _)
      (wu_q m c t 1 1 rfl _) (wd_q m c t 1 1 rfl _) (wu_q m c t 2 2 rfl _) (wd_q m c t 2 2 rfl _) (wu_q m c t 3 3 rfl _) (wd_q m c t 3 3 rfl _))).trans ?_
    congr 1
    pointwise [k0_pay2]
  · show (outsAt0 m c t.val t.isLt).2.2.2.2.2 (ix2 0 i) = _
    rw [outsAt0_B m c t h]; frame_out
    exact s_step m c t i _ _ _ _ _ _ _ (last_eq m c t _ _ _ _ _ _ _ _ _ _ (step_n m c t) (step_h m c t) (wu_q m c t 0 0 rfl _) (wd_q m c t 0 0 rfl _)
      (wu_q m c t 1 1 rfl _) (wd_q m c t 1 1 rfl _) (wu_q m c t 2 2 rfl _) (wd_q m c t 2 2 rfl _) (wu_q m c t 3 3 rfl _) (wd_q m c t 3 3 rfl _))

/-! The results after the run. -/

/-- The activations behind the projection. -/
theorem arr10 (c : Dev nD) : (dats m 0 c).arrAt 10 cfg0.N = fun i : S8192x1024.Idx => hOf m c (i 0) (i 1) := by
  refine (dats m 0 c).arrAt_eq_of_covers 10 _ (by decide +kernel) fun t hf y => ?_
  obtain ⟨r, j, rfl⟩ : ∃ r j, y = ix2 r j := ⟨_, _, eq_ix2 y⟩
  blk_simp
  rw [after0_10]
  refine (outs10 m c t r j).trans (congrArg₂ (hOf m c) (Fin.ext ?_) (Fin.ext ?_))
  all_goals blk_simp [idx t]
  all_goals (try simp only [row]; omega)

/-- The same, normalised. -/
theorem arr11 (c : Dev nD) : (dats m 0 c).arrAt 11 cfg0.N = fun i : S8192x1024.Idx => nOf m c (i 0) (i 1) := by
  refine (dats m 0 c).arrAt_eq_of_covers 11 _ (by decide +kernel) fun t hf y => ?_
  obtain ⟨r, j, rfl⟩ : ∃ r j, y = ix2 r j := ⟨_, _, eq_ix2 y⟩
  blk_simp
  rw [after0_11]
  refine (outs11 m c t r j).trans (congrArg₂ (nOf m c) (Fin.ext ?_) (Fin.ext ?_))
  all_goals blk_simp [idx t]
  all_goals (try simp only [row]; omega)

/-- The hidden layer. -/
theorem arr12 (c : Dev nD) : (dats m 0 c).arrAt 12 cfg0.N = fun i : S8192x4096.Idx => upOf m c (i 0) (i 1) := by
  refine (dats m 0 c).arrAt_eq_of_covers 12 _ (by decide +kernel) fun t hf y => ?_
  obtain ⟨r, j, rfl⟩ : ∃ r j, y = ix2 r j := ⟨_, _, eq_ix2 y⟩
  blk_simp
  rw [after0_12]
  refine (outs12 m c t r j).trans (congrArg₂ (upOf m c) (Fin.ext ?_) (Fin.ext ?_))
  all_goals blk_simp [idx t]
  all_goals (try simp only [row]; omega)

/-- The loss's gradient in the last activations. -/
theorem arr13 (c : Dev nD) : (dats m 0 c).arrAt 13 cfg0.N = fun i : S8192x1024.Idx => dHead (lastOf m c) (gfOf m c) (tOf m c) (i 0) (i 1) := by
  refine (dats m 0 c).arrAt_eq_of_covers 13 _ (by decide +kernel) fun t hf y => ?_
  obtain ⟨r, j, rfl⟩ : ∃ r j, y = ix2 r j := ⟨_, _, eq_ix2 y⟩
  blk_simp
  rw [after0_13]
  refine (outs13 m c t r j).trans (congrArg₂ (dHead (lastOf m c) (gfOf m c) (tOf m c)) (Fin.ext ?_) (Fin.ext ?_))
  all_goals blk_simp [idx t]
  all_goals (try simp only [row]; omega)

/-- The loss. -/
theorem arr14 (c : Dev nD) : (dats m 0 c).arrAt 14 cfg0.N = fun _ : S8x128.Idx => loss (lastOf m c) (gfOf m c) (tOf m c) := by
  refine (dats m 0 c).arrAt_eq_of_after_last 14 tLast (by decide +kernel) _ fun y => ?_
  obtain ⟨a, b, rfl⟩ : ∃ a b, y = ix2 a b := ⟨_, _, eq_ix2 y⟩
  blk_simp
  rw [after0_14]
  refine (outs14 m c a b tLast).trans ?_
  refine (Cert.Sums.rows 32 256 8192 rfl _).trans ?_
  unfold loss
  rw [half_sum _ _ fun s => rowLoss_nonneg _ _ _ s]
  refine Finset.sum_congr rfl fun s _ => ?_
  unfold lTerm
  have e : (⟨s.val % 8192, Nat.mod_lt _ (by decide)⟩ : Fin 8192) = s := Fin.ext (Nat.mod_eq_of_lt s.isLt)
  simp only [e]

/-- The gradient of the last norm's scale. -/
theorem arr15 (c : Dev nD) : (dats m 0 c).arrAt 15 cfg0.N = fun i : S1x1024.Idx => dScale (lastOf m c) (gfOf m c) (tOf m c) (i 1) := by
  refine (dats m 0 c).arrAt_eq_of_after_last 15 tLast (by decide +kernel) _ fun y => ?_
  obtain ⟨z, i, rfl⟩ : ∃ z i, y = ix2 z i := ⟨_, _, eq_ix2 y⟩
  obtain rfl : z = 0 := Fin.eq_zero z
  blk_simp
  rw [after0_15]
  refine (outs15 m c i tLast).trans ?_
  refine (Cert.Sums.rows 32 256 8192 rfl _).trans ?_
  refine Eq.trans (b := dScale (lastOf m c) (gfOf m c) (tOf m c) i) ?_ (congrArg (dScale (lastOf m c) (gfOf m c) (tOf m c)) (Fin.ext ?_))
  rotate_left
  · blk_simp [idx tLast]
  unfold dScale dG
  refine Finset.sum_congr rfl fun s _ => ?_
  unfold sTerm
  have e : (⟨s.val % 8192, Nat.mod_lt _ (by decide)⟩ : Fin 8192) = s := Fin.ext (Nat.mod_eq_of_lt s.isLt)
  simp only [e]

end Cert.LastFwdGrad

namespace Cert.LastFwdGrad

open Cert.LastFwdRefIdeal Cert.LastFwdRefIdeal.Read Cert.Layers Cert.Rms
open Cert.OutProjGrad (side)

variable (x0 : FVec Ideal S8192x512 .bf16) (x1 x2 : FVec Ideal S8192x256 .bf16) (x3 : FVec Ideal S8192x1024 .f32)
  (x4 : FVec Ideal S1024x1024 .f32) (x5 : FVec Ideal S1024 .f32) (x6 : FVec Ideal S1024x4096 .f32) (x7 : FVec Ideal S4096x1024 .f32)
  (x8 : FVec Ideal S8192x1024 .f32) (x9 : FVec Ideal S1024 .f32)

/-- The plain activations behind the projection. -/
def pH : Fin 8192 → Fin 1024 → EReal :=
  skip (fun s k => x3 (ix2 s k)) (side (fun s l => x0 (ix2 s l)) (fun s l => x1 (ix2 s l)) fun s l => x2 (ix2 s l)) (fun k i => x4 (ix2 k i))
/-- The same, normalised. -/
def pN : Fin 8192 → Fin 1024 → EReal := normed (pH x0 x1 x2 x3 x4) fun k => x5 (ix1 k)
/-- The plain last activations. -/
def pL : Fin 8192 → Fin 1024 → EReal := feed (pH x0 x1 x2 x3 x4) (pN x0 x1 x2 x3 x4 x5) (fun i j => x6 (ix2 i j)) (fun j k => x7 (ix2 j k))

/-- The plain activations behind the projection, at an index. -/
theorem plain3_apply (s : Fin 8192) (i : Fin 1024) : val_main_v3 (F := Ideal) x0 x1 x2 x3 x4 (ix2 s i) = pH x0 x1 x2 x3 x4 s i := by
  pointwise [val_main_v3, val_main_v2, val_main_v1, val_main_v0]
  rfl

/-- The same, normalised. -/
theorem plain16_apply (s : Fin 8192) (i : Fin 1024) : val_main_v16 (F := Ideal) x0 x1 x2 x3 x4 x5 (ix2 s i) = pN x0 x1 x2 x3 x4 x5 s i := by
  pointwise [val_main_v16, val_main_v15, val_main_v14, val_main_v13, val_main_v12, val_main_v11, val_main_v10, val_main_v9,
    val_main_v8, val_main_v7, val_main_v6, val_main_v5, val_main_v4, val_main_cst, val_main_cst_0, val_main_cst_1]
  simp only [plain3_apply]
  rfl

/-- The same again, as the feed-forward layer takes it. -/
theorem plain29_apply (s : Fin 8192) (i : Fin 1024) : val_main_v29 (F := Ideal) x0 x1 x2 x3 x4 x5 (ix2 s i) = pN x0 x1 x2 x3 x4 x5 s i := by
  pointwise [val_main_v29, val_main_v28, val_main_v27, val_main_v26, val_main_v25, val_main_v24, val_main_v23, val_main_v22, val_main_v21,
    val_main_v20, val_main_v19, val_main_v18, val_main_v17, val_main_cst_2, val_main_cst_3, val_main_cst_4]
  simp only [plain3_apply]
  rfl

/-- The plain last activations, at an index. -/
theorem plain34_apply (s : Fin 8192) (i : Fin 1024) : val_main_v34 (F := Ideal) x0 x1 x2 x3 x4 x5 x6 x7 (ix2 s i) = pL x0 x1 x2 x3 x4 x5 x6 x7 s i := by
  pointwise [val_main_v34, val_main_v33, val_main_v32, val_main_v31, val_main_v30, val_main_call0_v0, val_main_call0_cst]
  simp only [plain3_apply, plain29_apply]
  rfl

/-- The plain last norm's guarded mean square. -/
theorem plain41_apply (s : Fin 8192) : val_main_v41 (F := Ideal) x0 x1 x2 x3 x4 x5 x6 x7 (ix2 s 0) = ms (pL x0 x1 x2 x3 x4 x5 x6 x7 s) := by
  pointwise [val_main_v41, val_main_v40, val_main_v39, val_main_v38, val_main_v37, val_main_v36, val_main_v35, val_main_cst_5, val_main_cst_6, val_main_cst_7]
  simp only [plain34_apply]
  rfl

/-- One over its root. -/
theorem plain42_apply (s : Fin 8192) : val_main_v42 (F := Ideal) x0 x1 x2 x3 x4 x5 x6 x7 (ix2 s 0) = rs (pL x0 x1 x2 x3 x4 x5 x6 x7 s) := by
  pointwise [val_main_v42]
  rw [plain41_apply]
  rfl

/-- The plain difference from the targets. -/
theorem plain51_apply (s : Fin 8192) (i : Fin 1024) : val_main_v51 (F := Ideal) x0 x1 x2 x3 x4 x5 x6 x7 x8 x9 (ix2 s i)
    = gap (pL x0 x1 x2 x3 x4 x5 x6 x7) (fun k => x9 (ix1 k)) (fun s k => x8 (ix2 s k)) s i := by
  pointwise [val_main_v51, val_main_v50, val_main_v49, val_main_v48, val_main_v47, val_main_v46]
  simp only [plain34_apply, plain42_apply]
  rfl

/-- The plain gradient in the normalised last activations. -/
theorem plain65_apply (s : Fin 8192) (i : Fin 1024) : val_main_v65 (F := Ideal) x0 x1 x2 x3 x4 x5 x6 x7 x8 x9 (ix2 s i)
    = dGap (pL x0 x1 x2 x3 x4 x5 x6 x7) (fun k => x9 (ix1 k)) (fun s k => x8 (ix2 s k)) s i := by
  pointwise [val_main_v65, val_main_v64, val_main_v63, val_main_v62, val_main_v61, val_main_v60, val_main_v54, val_main_v53,
    val_main_cst_9, val_main_cst_14, val_main_cst_15, val_main_cst_16]
  simp only [plain51_apply]
  have b := slope_eq (gap (pL x0 x1 x2 x3 x4 x5 x6 x7) (fun k => x9 (ix1 k)) (fun s k => x8 (ix2 s k)) s i)
  rw [one_eq, EReal.coe_one, mul_one] at b
  exact b

/-- The plain gradient in the last activations. -/
theorem plain85_apply (s : Fin 8192) (i : Fin 1024) : val_main_v85 (F := Ideal) x0 x1 x2 x3 x4 x5 x6 x7 x8 x9 (ix2 s i)
    = dHead (pL x0 x1 x2 x3 x4 x5 x6 x7) (fun k => x9 (ix1 k)) (fun s k => x8 (ix2 s k)) s i := by
  pointwise [val_main_v85, val_main_v84, val_main_v83, val_main_v82, val_main_v81, val_main_v80, val_main_v79, val_main_v78, val_main_v77,
    val_main_v76, val_main_v75, val_main_v74, val_main_v73, val_main_v72, val_main_v70, val_main_v69, val_main_v48, val_main_v45, val_main_v44, val_main_v43,
    val_main_cst_8, val_main_cst_19, val_main_cst_20, val_main_cst_21]
  simp only [Fin.sum_univ_one, plain41_apply, plain42_apply, plain65_apply, plain34_apply]
  set h := pL x0 x1 x2 x3 x4 x5 x6 x7
  set d := dGap h (fun k => x9 (ix1 k)) (fun s k => x8 (ix2 s k))
  have e : (∑ k, h s k * (d s k * x9 (ix1 k))) = ∑ k, d s k * x9 (ix1 k) * h s k := Finset.sum_congr rfl fun k _ => mul_comm _ _
  rw [e]
  have b := (back (h s) i (d s i * x9 (ix1 i)) (∑ k, d s k * x9 (ix1 k) * h s k) 0).symm
  rw [zero_add] at b
  exact b

/-- The plain loss. -/
theorem plain89_apply (a : Fin 8) (b : Fin 128) : val_main_v89 (F := Ideal) x0 x1 x2 x3 x4 x5 x6 x7 x8 x9 (ix2 a b)
    = loss (pL x0 x1 x2 x3 x4 x5 x6 x7) (fun k => x9 (ix1 k)) (fun s k => x8 (ix2 s k)) := by
  pointwise [val_main_v89, val_main_v59, val_main_v58, val_main_v57, val_main_v56, val_main_v55, val_main_v52, val_main_cst_10, val_main_cst_11,
    val_main_cst_12, val_main_cst_13]
  simp only [plain51_apply]
  rfl

/-- The plain gradient of the last norm's scale. -/
theorem plain90_apply (i : Fin 1024) : val_main_v90 (F := Ideal) x0 x1 x2 x3 x4 x5 x6 x7 x8 x9 (ix2 0 i)
    = dScale (pL x0 x1 x2 x3 x4 x5 x6 x7) (fun k => x9 (ix1 k)) (fun s k => x8 (ix2 s k)) i := by
  pointwise [val_main_v90, val_main_v71, val_main_v68, val_main_v67, val_main_v66, val_main_v47, val_main_v46, val_main_cst_17, val_main_cst_18]
  simp only [Fin.sum_univ_one, plain42_apply, plain65_apply, plain34_apply]
  unfold dScale dG
  exact Finset.sum_congr rfl fun s _ => (mul_right_comm _ _ _).trans (congrArg (· * _) (mul_comm _ _))

/-- The plain activations behind the projection, whole. -/
theorem plain3 : val_main_v3 (F := Ideal) x0 x1 x2 x3 x4 = fun i : S8192x1024.Idx => pH x0 x1 x2 x3 x4 (i 0) (i 1) := by
  refine funext fun i => ?_
  obtain ⟨s, j, rfl⟩ : ∃ s j, i = ix2 s j := ⟨_, _, eq_ix2 i⟩
  exact plain3_apply x0 x1 x2 x3 x4 s j

/-- The same, normalised. -/
theorem plain86 : val_main_v86 (F := Ideal) x0 x1 x2 x3 x4 x5 = fun i : S8192x1024.Idx => pN x0 x1 x2 x3 x4 x5 (i 0) (i 1) := by
  refine funext fun i => ?_
  obtain ⟨s, j, rfl⟩ : ∃ s j, i = ix2 s j := ⟨_, _, eq_ix2 i⟩
  pointwise [val_main_v86]
  exact plain16_apply x0 x1 x2 x3 x4 x5 s j

/-- The plain hidden layer. -/
theorem plain88 : val_main_v88 (F := Ideal) x0 x1 x2 x3 x4 x5 x6 = fun i : S8192x4096.Idx =>
    proj (pN x0 x1 x2 x3 x4 x5) (fun i j => x6 (ix2 i j)) (i 0) (i 1) := by
  refine funext fun i => ?_
  obtain ⟨s, j, rfl⟩ : ∃ s j, i = ix2 s j := ⟨_, _, eq_ix2 i⟩
  pointwise [val_main_v88, val_main_v87]
  simp only [plain16_apply]
  rfl

/-- The plain gradient in the last activations, whole. -/
theorem plain85 : val_main_v85 (F := Ideal) x0 x1 x2 x3 x4 x5 x6 x7 x8 x9 = fun i : S8192x1024.Idx =>
    dHead (pL x0 x1 x2 x3 x4 x5 x6 x7) (fun k => x9 (ix1 k)) (fun s k => x8 (ix2 s k)) (i 0) (i 1) := by
  refine funext fun i => ?_
  obtain ⟨s, j, rfl⟩ : ∃ s j, i = ix2 s j := ⟨_, _, eq_ix2 i⟩
  exact plain85_apply x0 x1 x2 x3 x4 x5 x6 x7 x8 x9 s j

/-- The plain loss, spread over the result. -/
theorem plain89 : val_main_v89 (F := Ideal) x0 x1 x2 x3 x4 x5 x6 x7 x8 x9 = fun _ : S8x128.Idx =>
    loss (pL x0 x1 x2 x3 x4 x5 x6 x7) (fun k => x9 (ix1 k)) (fun s k => x8 (ix2 s k)) := by
  refine funext fun i => ?_
  obtain ⟨a, b, rfl⟩ : ∃ a b, i = ix2 a b := ⟨_, _, eq_ix2 i⟩
  exact plain89_apply x0 x1 x2 x3 x4 x5 x6 x7 x8 x9 a b

/-- The plain gradient of the last norm's scale, whole. -/
theorem plain90 : val_main_v90 (F := Ideal) x0 x1 x2 x3 x4 x5 x6 x7 x8 x9 = fun i : S1x1024.Idx =>
    dScale (pL x0 x1 x2 x3 x4 x5 x6 x7) (fun k => x9 (ix1 k)) (fun s k => x8 (ix2 s k)) (i 1) := by
  refine funext fun i => ?_
  obtain ⟨z, j, rfl⟩ : ∃ z j, i = ix2 z j := ⟨_, _, eq_ix2 i⟩
  obtain rfl : z = 0 := Fin.eq_zero z
  exact plain90_apply x0 x1 x2 x3 x4 x5 x6 x7 x8 x9 j

/-- The plain lines leave their arguments and stop quietly: they use no semaphore. -/
theorem plainFrame : Cert.quiescent_LastFwdRefIdeal (hLastFwdRefIdeal := Cert.LastFwdRefIdeal.Gen.facts) := fun m ρ _ =>
  (θ_run _ _ _).mono (fun r h => ⟨fun c => (h c).2.2.2.2.2.2, sem_eq_zero_of_no_sems (by decide) r.2⟩) (Cert.LastFwdRefIdeal.Value.run m ρ)

/-- Over the reals with infinities, the call and the plain lines have the same results. -/
theorem algebraic : Cert.algebraic_LastFwdIdeal_LastFwdRefIdeal (hLastFwdIdeal := Cert.LastFwdIdeal.Gen.facts) (hLastFwdRefIdeal := Cert.LastFwdRefIdeal.Gen.facts) := by
  intro m g m' g' _ hm
  refine ⟨fun c => fun i : Cert.LastFwdIdeal.S8192x1024.Idx => hOf m c (i 0) (i 1),
    fun c => fun i : Cert.LastFwdIdeal.S8192x1024.Idx => nOf m c (i 0) (i 1),
    fun c => fun i : Cert.LastFwdIdeal.S8192x4096.Idx => upOf m c (i 0) (i 1),
    fun c => fun i : Cert.LastFwdIdeal.S8192x1024.Idx => dHead (lastOf m c) (gfOf m c) (tOf m c) (i 0) (i 1),
    fun c => fun _ : Cert.LastFwdIdeal.S8x128.Idx => loss (lastOf m c) (gfOf m c) (tOf m c),
    fun c => fun i : Cert.LastFwdIdeal.S1x1024.Idx => dScale (lastOf m c) (gfOf m c) (tOf m c) (i 1), ?_, ?_⟩
  · refine (θ_run _ _ _).mono (fun r h c => ?_) (Cert.LastFwdIdeal.Value.run_blocks m g)
    obtain ⟨h0, h1, h2, h3, h4, h5, ha⟩ := h c
    exact ⟨h0.trans (arr10 m c), h1.trans (arr11 m c), h2.trans (arr12 m c), h3.trans (arr13 m c), h4.trans (arr14 m c), h5.trans (arr15 m c), ha⟩
  · refine (θ_run _ _ _).mono (fun r h c => ?_) (Cert.LastFwdRefIdeal.Value.run m' g')
    obtain ⟨h0, h1, h2, h3, h4, h5, ha⟩ := h c
    obtain ⟨e0, e1, e2, e3, e4, e5, e6, e7, e8, e9⟩ := hm c
    have f0 : launchContents m' c (Proc.devRef .tc main_arg0) = m (c.tc.loc Cert.LastFwdIdeal.main_arg0) := e0
    have f1 : launchContents m' c (Proc.devRef .tc main_arg1) = m (c.tc.loc Cert.LastFwdIdeal.main_arg1) := e1
    have f2 : launchContents m' c (Proc.devRef .tc main_arg2) = m (c.tc.loc Cert.LastFwdIdeal.main_arg2) := e2
    have f3 : launchContents m' c (Proc.devRef .tc main_arg3) = m (c.tc.loc Cert.LastFwdIdeal.main_arg3) := e3
    have f4 : launchContents m' c (Proc.devRef .tc main_arg4) = m (c.tc.loc Cert.LastFwdIdeal.main_arg4) := e4
    have f5 : launchContents m' c (Proc.devRef .tc main_arg5) = m (c.tc.loc Cert.LastFwdIdeal.main_arg5) := e5
    have f6 : launchContents m' c (Proc.devRef .tc main_arg6) = m (c.tc.loc Cert.LastFwdIdeal.main_arg6) := e6
    have f7 : launchContents m' c (Proc.devRef .tc main_arg7) = m (c.tc.loc Cert.LastFwdIdeal.main_arg7) := e7
    have f8 : launchContents m' c (Proc.devRef .tc main_arg8) = m (c.tc.loc Cert.LastFwdIdeal.main_arg8) := e8
    have f9 : launchContents m' c (Proc.devRef .tc main_arg9) = m (c.tc.loc Cert.LastFwdIdeal.main_arg9) := e9
    refine ⟨(h0.trans (val_main_v3_eq _)).trans ?_, (h1.trans (val_main_v86_eq _)).trans ?_, (h2.trans (val_main_v88_eq _)).trans ?_,
      (h3.trans (val_main_v85_eq _)).trans ?_, (h4.trans (val_main_v89_eq _)).trans ?_, (h5.trans (val_main_v90_eq _)).trans ?_, ha⟩
    · refine (plain3 _ _ _ _ _).trans ?_
      rw [f0, f1, f2, f3, f4]; rfl
    · refine (plain86 _ _ _ _ _ _).trans ?_
      rw [f0, f1, f2, f3, f4, f5]; rfl
    · refine (plain88 _ _ _ _ _ _ _).trans ?_
      rw [f0, f1, f2, f3, f4, f5, f6]; rfl
    · refine (plain85 _ _ _ _ _ _ _ _ _ _).trans ?_
      rw [f0, f1, f2, f3, f4, f5, f6, f7, f8, f9]; rfl
    · refine (plain89 _ _ _ _ _ _ _ _ _ _).trans ?_
      rw [f0, f1, f2, f3, f4, f5, f6, f7, f8, f9]; rfl
    · refine (plain90 _ _ _ _ _ _ _ _ _ _).trans ?_
      rw [f0, f1, f2, f3, f4, f5, f6, f7, f8, f9]; rfl

end Cert.LastFwdGrad

end
-- ==== Proof.Attn.lean ====
/-
  The softmax with a sink over a band of 256 keys, on extended reals: where the largest score is a real number its
  denominator is a positive real number, keys behind the mask count for nothing, and multiplying by the denominator's
  reciprocal is dividing by it.
-/
module

public import proofs.«01_k».proof.Proof.Rms
public import Idealize.ShloMosaic.Lib.IdealHost
public import Idealize.ShloMosaic.Lib.Pointwise

@[expose] public section

noncomputable section

namespace Cert.Attn

open Idealize.ShloMosaic

/-- The larger of the scores and the sink. -/
def top (s : Fin 256 → EReal) (a : EReal) : EReal := max (Finset.univ.fold max ⊥ s) a

/-- A key's weight. -/
def wt (s : Fin 256 → EReal) (a : EReal) (c : Fin 256) : EReal := Ideal.exp (s c - top s a)

/-- The weights' sum with the sink's. -/
def den (s : Fin 256 → EReal) (a : EReal) : EReal := (∑ c, wt s a c) + Ideal.exp (a - top s a)

/-- A key's share. -/
def share (s : Fin 256 → EReal) (a : EReal) (c : Fin 256) : EReal := Ideal.div (wt s a c) (den s a)

/-- The values weighted by the shares. -/
def attend (s : Fin 256 → EReal) (a : EReal) (v : Fin 256 → EReal) : EReal := ∑ c, v c * share s a c

/-- No score and no sink is `+∞`, and some score is not `-∞`. -/
def Fine (s : Fin 256 → EReal) (a : EReal) : Prop := (∀ c, s c ≠ ⊤) ∧ a ≠ ⊤ ∧ ∃ c, s c ≠ ⊥

/-- Every score is at most the largest. -/
theorem le_top (s : Fin 256 → EReal) (a : EReal) (c : Fin 256) : s c ≤ top s a :=
  ((Finset.le_fold_max _).2 (Or.inr ⟨c, Finset.mem_univ c, le_refl _⟩)).trans (le_max_left _ _)

/-- The largest is a real number. -/
theorem top_real {s : Fin 256 → EReal} {a : EReal} (h : Fine s a) : ∃ t : ℝ, top s a = (t : EReal) := by
  obtain ⟨hs, ha, c, hc⟩ := h
  have h1 : top s a ≠ ⊤ := by
    refine ne_of_lt (max_lt ((Finset.fold_max_lt _).2 ⟨bot_lt_top, fun x _ => lt_top_iff_ne_top.2 (hs x)⟩) (lt_top_iff_ne_top.2 ha))
  have h2 : top s a ≠ ⊥ := fun e => hc (le_bot_iff.1 (e ▸ le_top s a c))
  exact ⟨_, (EReal.coe_toReal h1 h2).symm⟩

/-- The exponential of something that is not `+∞` less a real number is a real number, at least zero. -/
theorem exp_real {x : EReal} (t : ℝ) (h : x ≠ ⊤) : ∃ e : ℝ, 0 ≤ e ∧ (x ≠ ⊥ → 0 < e) ∧ Ideal.exp (x - (t : EReal)) = (e : EReal) := by
  induction x using EReal.rec with
  | bot => exact ⟨0, le_refl _, fun h => absurd rfl h, by simp⟩
  | coe x => exact ⟨Real.exp (x - t), (Real.exp_pos _).le, fun _ => Real.exp_pos _, by rw [← EReal.coe_sub, Ideal.exp_coe]⟩
  | top => exact absurd rfl h

/-- The denominator is a positive real number. -/
theorem den_real {s : Fin 256 → EReal} {a : EReal} (h : Fine s a) : ∃ d : ℝ, 0 < d ∧ den s a = (d : EReal) := by
  obtain ⟨t, ht⟩ := top_real h
  obtain ⟨hs, ha, c, hc⟩ := h
  choose e he he' hx using fun c => exp_real t (hs c)
  obtain ⟨f, hf, -, hy⟩ := exp_real t ha
  refine ⟨(∑ c, e c) + f, ?_, ?_⟩
  · exact add_pos_of_pos_of_nonneg (Finset.sum_pos' (fun c _ => he c) ⟨c, Finset.mem_univ c, he' c hc⟩) hf
  · have : ∀ c, wt s a c = (e c : EReal) := fun c => by rw [wt, ht, hx]
    rw [den, ht, hy, EReal.coe_add, Rms.coe_sum]
    simp only [this]

/-- Multiplying by the reciprocal of the denominator is dividing by it. -/
theorem mul_recip {s : Fin 256 → EReal} {a : EReal} (h : Fine s a) (x : EReal) : x * Ideal.div 1 (den s a) = Ideal.div x (den s a) := by
  obtain ⟨d, hd, e⟩ := den_real h
  rw [e, Ideal.div_coe hd.ne', Ideal.div_coe hd.ne', one_mul]

/-- A key behind the mask has no share. -/
theorem share_masked {s : Fin 256 → EReal} {a : EReal} (h : Fine s a) {c : Fin 256} (hc : s c = ⊥) : share s a c = 0 := by
  obtain ⟨d, hd, e⟩ := den_real h
  obtain ⟨t, ht⟩ := top_real h
  rw [share, e, Ideal.div_coe hd.ne', wt, hc, ht]
  simp

/-- The values behind the mask don't matter. -/
theorem attend_congr {s : Fin 256 → EReal} {a : EReal} (h : Fine s a) {v w : Fin 256 → EReal} (hv : ∀ c, s c ≠ ⊥ → v c = w c) :
    attend s a v = attend s a w := by
  refine Finset.sum_congr rfl fun c _ => ?_
  by_cases hc : s c = ⊥
  · rw [share_masked h hc, mul_zero, mul_zero]
  · rw [hv c hc]

/-- A product with a real number, at least zero, comes out of a sum. -/
theorem sum_mul_const {n : ℕ} (x : Fin n → EReal) (r : ℝ) (h : 0 ≤ r) : ∑ k, x k * (r : EReal) = (∑ k, x k) * (r : EReal) := by
  have : ∀ S : Finset (Fin n), ∑ k ∈ S, x k * (r : EReal) = (∑ k ∈ S, x k) * (r : EReal) := by
    intro S
    induction S using Finset.induction_on with
    | empty => simp
    | insert a S ha ih =>
      rw [Finset.sum_insert ha, Finset.sum_insert ha, ih,
        EReal.right_distrib_of_nonneg_of_ne_top (EReal.coe_nonneg.2 h) (EReal.coe_ne_top r)]
  exact this _

/-- The scores: the products over a head's 64 lanes, an eighth of them, and `-∞` behind the mask. -/
def score (k : Fin 256 → Fin 64 → EReal) (q : Fin 64 → EReal) (ok : Fin 256 → Prop) [DecidablePred ok] (c : Fin 256) : EReal :=
  if ok c then (∑ d, k c d * q d) * ((1 / 8 : ℝ) : EReal) else ⊥

/-- A finite number, as the extended reals have it. -/
def IsReal (x : EReal) : Prop := x ≠ ⊤ ∧ x ≠ ⊥

/-- A sum of products of finite numbers is finite. -/
theorem dot_real {n : ℕ} {x y : Fin n → EReal} (hx : ∀ d, IsReal (x d)) (hy : ∀ d, IsReal (y d)) :
    ∃ t : ℝ, ∑ d, x d * y d = (t : EReal) := by
  refine ⟨∑ d, (x d).toReal * (y d).toReal, ?_⟩
  rw [Rms.coe_sum]
  refine Finset.sum_congr rfl fun d _ => ?_
  rw [EReal.coe_mul, EReal.coe_toReal (hx d).1 (hx d).2, EReal.coe_toReal (hy d).1 (hy d).2]

/-- Scores of finite keys and queries. -/
theorem score_fine {k : Fin 256 → Fin 64 → EReal} {q : Fin 64 → EReal} {ok : Fin 256 → Prop} [DecidablePred ok] {a : EReal}
    (hk : ∀ c d, ok c → IsReal (k c d)) (hq : ∀ d, IsReal (q d)) (ha : a ≠ ⊤) (hok : ∃ c, ok c) : Fine (score k q ok) a := by
  have key : ∀ c, ok c → ∃ t : ℝ, score k q ok c = (t : EReal) := fun c hc => by
    obtain ⟨t, ht⟩ := dot_real (fun d => hk c d hc) hq
    exact ⟨t * (1 / 8), by rw [score, if_pos hc, ht, EReal.coe_mul]⟩
  refine ⟨fun c => ?_, ha, ?_⟩
  · by_cases hc : ok c
    · obtain ⟨t, ht⟩ := key c hc
      rw [ht]; exact EReal.coe_ne_top t
    · rw [score, if_neg hc]; exact bot_ne_top
  · obtain ⟨c, hc⟩ := hok
    obtain ⟨t, ht⟩ := key c hc
    exact ⟨c, by rw [ht]; exact EReal.coe_ne_bot t⟩

/-- A sum over 128 lanes of which only the first 64 count. -/
theorem lanes_lo (f : Fin 128 → EReal) (h : ∀ l : Fin 128, 64 ≤ l.val → f l = 0) : ∑ l, f l = ∑ d : Fin 64, f ⟨d.val, by omega⟩ := by
  have e := Fin.sum_univ_add (a := 64) (b := 64) f
  refine e.trans ?_
  rw [Finset.sum_eq_zero (s := Finset.univ) (f := fun i : Fin 64 => f (Fin.natAdd 64 i)) (fun i _ => h _ (by simp)), add_zero]
  rfl

/-- A sum over 128 lanes of which only the last 64 count. -/
theorem lanes_hi (f : Fin 128 → EReal) (h : ∀ l : Fin 128, l.val < 64 → f l = 0) : ∑ l, f l = ∑ d : Fin 64, f ⟨64 + d.val, by omega⟩ := by
  have e := Fin.sum_univ_add (a := 64) (b := 64) f
  refine e.trans ?_
  rw [Finset.sum_eq_zero (s := Finset.univ) (f := fun i : Fin 64 => f (Fin.castAdd 64 i)) (fun i _ => h _ (by simp)), zero_add]
  rfl

/-- The products over 128 lanes of which the first 64 hold the query, an eighth of it. -/
theorem collapse_lo {kx qx : Fin 128 → EReal} {k q : Fin 64 → EReal} (hk : ∀ d : Fin 64, kx ⟨d.val, by omega⟩ = k d)
    (hq : ∀ d : Fin 64, qx ⟨d.val, by omega⟩ = q d * ((1 / 8 : ℝ) : EReal)) (h0 : ∀ d : Fin 64, qx ⟨64 + d.val, by omega⟩ = 0) :
    ∑ l, kx l * qx l = (∑ d, k d * q d) * ((1 / 8 : ℝ) : EReal) := by
  rw [lanes_lo _ fun l hl => ?_, ← sum_mul_const _ _ (by norm_num)]
  · exact Finset.sum_congr rfl fun d _ => by rw [hk, hq, mul_assoc]
  · have e := h0 ⟨l.val - 64, by omega⟩
    simp only [show 64 + (l.val - 64) = l.val by omega] at e
    rw [e, mul_zero]

/-- The products over 128 lanes of which the last 64 hold the query, an eighth of it. -/
theorem collapse_hi {kx qx : Fin 128 → EReal} {k q : Fin 64 → EReal} (hk : ∀ d : Fin 64, kx ⟨64 + d.val, by omega⟩ = k d)
    (hq : ∀ d : Fin 64, qx ⟨64 + d.val, by omega⟩ = q d * ((1 / 8 : ℝ) : EReal)) (h0 : ∀ d : Fin 64, qx ⟨d.val, by omega⟩ = 0) :
    ∑ l, kx l * qx l = (∑ d, k d * q d) * ((1 / 8 : ℝ) : EReal) := by
  rw [lanes_hi _ fun l hl => ?_, ← sum_mul_const _ _ (by norm_num)]
  · exact Finset.sum_congr rfl fun d _ => by rw [hk, hq, mul_assoc]
  · rw [h0 ⟨l.val, hl⟩, mul_zero]

/-- The constants. -/
theorem eighth_f32 : Ideal.ofBits .f32 0x3E000000#32 = ((1 / 8 : ℝ) : EReal) := by
  simp [Ideal.ofBits, Ideal.ieee, -EReal.coe_mul]; norm_num

/-- An eighth as a short float. -/
theorem eighth_bf16 : Ideal.ofBits .bf16 0x3E00#16 = ((1 / 8 : ℝ) : EReal) := by
  simp [Ideal.ofBits, Ideal.ieee, -EReal.coe_mul]; norm_num

/-- Minus infinity. -/
theorem bot_f32 : Ideal.ofBits .f32 0xFF800000#32 = ⊥ := by
  simp [Ideal.ofBits, Ideal.ieee]

/-- Plus infinity. -/
theorem top_f32 : Ideal.ofBits .f32 0x7F800000#32 = ⊤ := by
  simp [Ideal.ofBits, Ideal.ieee]

end Cert.Attn

end
-- ==== Proof.AttnFwdBlocks.lean ====
/-
  The attention's forward call: the eight blocks of 128 queries that a grid point computes are one function of the keys and
  values in front, the block's own, the queries, the sinks and the mask.
-/
module

public import proofs.«01_k».proof.Defs
public import proofs.«01_k».proof.Proof.Sums
public import proofs.«01_k».proof.Proof.Rms
public import proofs.«01_k».proof.Proof.Layers
public import proofs.«01_k».proof.Proof.Gen.AttnFwdIdeal.Value
public import proofs.«01_k».proof.Proof.Gen.AttnFwdRefIdeal
public import proofs.«01_k».proof.Proof.Gen.AttnFwdRefIdeal.Read
public import Idealize.ShloMosaic.Lib.Pipeline.ValueKit
public import Idealize.ShloMosaic.Lib.Pointwise
public import Idealize.ShloMosaic.Lib.KernelVsHost
public import Idealize.ShloMosaic.Lib.IdealHost

@[expose] public section

set_option maxRecDepth 16384

noncomputable section

open Idealize.ShloMosaic Idealize.ShloMosaic.TcCoe Idealize.SL.Sem Idealize.ShloMosaic.StableHlo

namespace Cert.AttnFwdGrad

open Cert.AttnFwdIdeal Cert.AttnFwdIdeal.Gen

/-- A block's rows: keys and values `kvp` in front, `kv` of the block, queries `q`, sinks `sk`, mask `B`. -/
def blkO (kvp kv : FVec Ideal S128x256 .bf16) (q : FVec Ideal S128x512 .bf16) (sk : FVec Ideal S1x1024 .f32) (B : FVec Ideal S1x256x512 .f32) : FVec Ideal S128x512 .bf16 :=
  k0_pay19 k0_pay2 (k0_pay11 kvp kv) (k0_pay16 (k0_pay3 B) (k0_pay8 kvp kv) (k0_pay10 kvp kv) (k0_pay14 q) sk) (k0_pay17 k0_pay2 (k0_pay3 B) (k0_pay9 kvp kv) (k0_pay12 q) k0_pay13 sk) (constant S512x128 FTy.f32 0#32)

/-- A block's normalised rows, with the scale `g`. -/
def blkY (kvp kv : FVec Ideal S128x256 .bf16) (q : FVec Ideal S128x512 .bf16) (sk : FVec Ideal S1x1024 .f32) (B : FVec Ideal S1x256x512 .f32) (g : FVec Ideal S1x512 .f32) : FVec Ideal S128x512 .bf16 :=
  k0_pay20 k0_pay2 (k0_pay11 kvp kv) (k0_pay16 (k0_pay3 B) (k0_pay8 kvp kv) (k0_pay10 kvp kv) (k0_pay14 q) sk) (k0_pay17 k0_pay2 (k0_pay3 B) (k0_pay9 kvp kv) (k0_pay12 q) k0_pay13 sk) (constant S512x128 FTy.f32 0#32) g

variable (kvp kv : FVec Ideal S128x256 .bf16) (q : FVec Ideal S128x512 .bf16) (sk : FVec Ideal S1x1024 .f32) (B : FVec Ideal S1x256x512 .f32) (g : FVec Ideal S1x512 .f32)

/-- The second block's rows. -/
theorem sameO1 : k0_pay39 k0_pay2 (k0_pay21 B) (k0_pay26 (k0_pay22 kvp kv)) (k0_pay27 (k0_pay23 kvp kv)) (k0_pay28 (k0_pay23 kvp kv)) (k0_pay31 k0_pay2 q) (k0_pay32 sk) (k0_pay36 k0_pay2 (k0_pay21 B) (k0_pay22 kvp kv) q sk) (k0_pay37 k0_pay2 (k0_pay21 B) (k0_pay22 kvp kv) q sk) = blkO kvp kv q sk B := rfl

/-- The second block's normalised rows. -/
theorem sameY1 : k0_pay42 (k0_pay38 k0_pay2 (k0_pay21 B) (k0_pay26 (k0_pay22 kvp kv)) (k0_pay27 (k0_pay23 kvp kv)) (k0_pay28 (k0_pay23 kvp kv)) (k0_pay31 k0_pay2 q) (k0_pay32 sk) (k0_pay36 k0_pay2 (k0_pay21 B) (k0_pay22 kvp kv) q sk) (k0_pay37 k0_pay2 (k0_pay21 B) (k0_pay22 kvp kv) q sk)) (k0_pay40 g) (k0_pay41 k0_pay2 (k0_pay21 B) (k0_pay26 (k0_pay22 kvp kv)) (k0_pay27 (k0_pay23 kvp kv)) (k0_pay28 (k0_pay23 kvp kv)) (k0_pay31 k0_pay2 q) (k0_pay32 sk) (k0_pay36 k0_pay2 (k0_pay21 B) (k0_pay22 kvp kv) q sk) (k0_pay37 k0_pay2 (k0_pay21 B) (k0_pay22 kvp kv) q sk)) = blkY kvp kv q sk B g := rfl

/-- The third block's rows. -/
theorem sameO2 : k0_pay63 k0_pay2 (k0_pay50 kvp kv) (k0_pay51 kvp kv) (k0_pay55 k0_pay2 (k0_pay43 B) (k0_pay48 kvp kv) q sk) (k0_pay59 k0_pay2 (k0_pay43 B) (k0_pay49 kvp kv) q sk) (k0_pay60 k0_pay2 (k0_pay43 B) (k0_pay49 kvp kv) q sk) (k0_pay61 k0_pay2 (k0_pay43 B) (k0_pay49 kvp kv) q sk) = blkO kvp kv q sk B := rfl

/-- The third block's normalised rows. -/
theorem sameY2 : k0_pay64 k0_pay2 (k0_pay50 kvp kv) (k0_pay51 kvp kv) (k0_pay55 k0_pay2 (k0_pay43 B) (k0_pay48 kvp kv) q sk) (k0_pay59 k0_pay2 (k0_pay43 B) (k0_pay49 kvp kv) q sk) (k0_pay60 k0_pay2 (k0_pay43 B) (k0_pay49 kvp kv) q sk) (k0_pay61 k0_pay2 (k0_pay43 B) (k0_pay49 kvp kv) q sk) g = blkY kvp kv q sk B g := rfl

/-- The fourth block's rows. -/
theorem sameO3 : k0_pay87 k0_pay2 (k0_pay81 k0_pay2 (k0_pay65 B) (k0_pay70 kvp kv) (k0_pay72 kvp kv) (k0_pay76 k0_pay2 q) (k0_pay78 sk) (constant S256x512 FTy.f32 0#32)) (k0_pay82 k0_pay2 (k0_pay65 B) (k0_pay70 kvp kv) (k0_pay72 kvp kv) (k0_pay76 k0_pay2 q) (k0_pay78 sk) (constant S256x512 FTy.f32 0#32)) (k0_pay83 k0_pay2 (k0_pay65 B) (k0_pay71 kvp kv) (k0_pay73 kvp kv) (k0_pay77 k0_pay2 q) (k0_pay78 sk)) (k0_pay84 (k0_pay65 B) (k0_pay71 kvp kv) (k0_pay73 kvp kv) (k0_pay77 k0_pay2 q) (k0_pay78 sk)) (k0_pay85 (k0_pay65 B) (k0_pay71 kvp kv) (k0_pay73 kvp kv) (k0_pay77 k0_pay2 q) (k0_pay78 sk)) = blkO kvp kv q sk B := rfl

/-- The fourth block's normalised rows. -/
theorem sameY3 : k0_pay88 k0_pay2 (k0_pay81 k0_pay2 (k0_pay65 B) (k0_pay70 kvp kv) (k0_pay72 kvp kv) (k0_pay76 k0_pay2 q) (k0_pay78 sk) (constant S256x512 FTy.f32 0#32)) (k0_pay82 k0_pay2 (k0_pay65 B) (k0_pay70 kvp kv) (k0_pay72 kvp kv) (k0_pay76 k0_pay2 q) (k0_pay78 sk) (constant S256x512 FTy.f32 0#32)) (k0_pay83 k0_pay2 (k0_pay65 B) (k0_pay71 kvp kv) (k0_pay73 kvp kv) (k0_pay77 k0_pay2 q) (k0_pay78 sk)) (k0_pay84 (k0_pay65 B) (k0_pay71 kvp kv) (k0_pay73 kvp kv) (k0_pay77 k0_pay2 q) (k0_pay78 sk)) (k0_pay85 (k0_pay65 B) (k0_pay71 kvp kv) (k0_pay73 kvp kv) (k0_pay77 k0_pay2 q) (k0_pay78 sk)) g = blkY kvp kv q sk B g := rfl

/-- The fifth block's rows. -/
theorem sameO4 : k0_pay104 k0_pay2 (k0_pay96 (k0_pay91 kvp kv) (iota Kind.tc S256x128 32 [1] iota_S256x128_d1_w32) (k0_pay93 kvp kv)) (k0_pay97 (k0_pay91 kvp kv) (iota Kind.tc S256x128 32 [1] iota_S256x128_d1_w32) (k0_pay93 kvp kv)) (k0_pay100 sk) (k0_pay101 k0_pay2 (k0_pay89 B) (k0_pay94 kvp kv) q sk) (k0_pay102 k0_pay2 (k0_pay89 B) (k0_pay90 kvp kv) (k0_pay92 kvp kv) k0_pay95 q) = blkO kvp kv q sk B := rfl

/-- The fifth block's normalised rows. -/
theorem sameY4 : k0_pay107 (k0_pay105 g) (k0_pay106 k0_pay2 (k0_pay96 (k0_pay91 kvp kv) (iota Kind.tc S256x128 32 [1] iota_S256x128_d1_w32) (k0_pay93 kvp kv)) (k0_pay97 (k0_pay91 kvp kv) (iota Kind.tc S256x128 32 [1] iota_S256x128_d1_w32) (k0_pay93 kvp kv)) (k0_pay100 sk) (k0_pay101 k0_pay2 (k0_pay89 B) (k0_pay94 kvp kv) q sk) (k0_pay102 k0_pay2 (k0_pay89 B) (k0_pay90 kvp kv) (k0_pay92 kvp kv) k0_pay95 q)) = blkY kvp kv q sk B g := rfl

/-- The sixth block's rows. -/
theorem sameO5 : k0_pay124 k0_pay2 (k0_pay116 kvp kv) (k0_pay121 (k0_pay108 B) (k0_pay113 kvp kv) (k0_pay115 kvp kv) (k0_pay119 k0_pay2 q) sk) (k0_pay122 k0_pay2 (k0_pay108 B) (k0_pay114 kvp kv) (k0_pay117 q) k0_pay118 sk) (constant S512x128 FTy.f32 0#32) = blkO kvp kv q sk B := rfl

/-- The sixth block's normalised rows. -/
theorem sameY5 : k0_pay125 k0_pay2 (k0_pay116 kvp kv) (k0_pay121 (k0_pay108 B) (k0_pay113 kvp kv) (k0_pay115 kvp kv) (k0_pay119 k0_pay2 q) sk) (k0_pay122 k0_pay2 (k0_pay108 B) (k0_pay114 kvp kv) (k0_pay117 q) k0_pay118 sk) (constant S512x128 FTy.f32 0#32) g = blkY kvp kv q sk B g := rfl

/-- The seventh block's rows. -/
theorem sameO6 : k0_pay144 k0_pay2 (k0_pay126 B) (k0_pay131 (k0_pay127 kvp kv)) (k0_pay132 (k0_pay128 kvp kv)) (k0_pay133 (k0_pay128 kvp kv)) (k0_pay136 k0_pay2 q) (k0_pay137 sk) (k0_pay141 k0_pay2 (k0_pay126 B) (k0_pay127 kvp kv) q sk) (k0_pay142 k0_pay2 (k0_pay126 B) (k0_pay127 kvp kv) q sk) = blkO kvp kv q sk B := rfl

/-- The seventh block's normalised rows. -/
theorem sameY6 : k0_pay147 (k0_pay143 k0_pay2 (k0_pay126 B) (k0_pay131 (k0_pay127 kvp kv)) (k0_pay132 (k0_pay128 kvp kv)) (k0_pay133 (k0_pay128 kvp kv)) (k0_pay136 k0_pay2 q) (k0_pay137 sk) (k0_pay141 k0_pay2 (k0_pay126 B) (k0_pay127 kvp kv) q sk) (k0_pay142 k0_pay2 (k0_pay126 B) (k0_pay127 kvp kv) q sk)) (k0_pay145 g) (k0_pay146 k0_pay2 (k0_pay126 B) (k0_pay131 (k0_pay127 kvp kv)) (k0_pay132 (k0_pay128 kvp kv)) (k0_pay133 (k0_pay128 kvp kv)) (k0_pay136 k0_pay2 q) (k0_pay137 sk) (k0_pay141 k0_pay2 (k0_pay126 B) (k0_pay127 kvp kv) q sk) (k0_pay142 k0_pay2 (k0_pay126 B) (k0_pay127 kvp kv) q sk)) = blkY kvp kv q sk B g := rfl

/-- The eighth block's rows. -/
theorem sameO7 : k0_pay168 k0_pay2 (k0_pay155 kvp kv) (k0_pay156 kvp kv) (k0_pay160 k0_pay2 (k0_pay148 B) (k0_pay153 kvp kv) q sk) (k0_pay164 k0_pay2 (k0_pay148 B) (k0_pay154 kvp kv) q sk) (k0_pay165 k0_pay2 (k0_pay148 B) (k0_pay154 kvp kv) q sk) (k0_pay166 k0_pay2 (k0_pay148 B) (k0_pay154 kvp kv) q sk) = blkO kvp kv q sk B := rfl

/-- The eighth block's normalised rows. -/
theorem sameY7 : k0_pay1 (k0_pay167 k0_pay2 (k0_pay155 kvp kv) (k0_pay156 kvp kv) (k0_pay160 k0_pay2 (k0_pay148 B) (k0_pay153 kvp kv) q sk) (k0_pay164 k0_pay2 (k0_pay148 B) (k0_pay154 kvp kv) q sk) (k0_pay165 k0_pay2 (k0_pay148 B) (k0_pay154 kvp kv) q sk) (k0_pay166 k0_pay2 (k0_pay148 B) (k0_pay154 kvp kv) q sk)) (k0_pay169 g) (k0_pay170 k0_pay2 (k0_pay155 kvp kv) (k0_pay156 kvp kv) (k0_pay160 k0_pay2 (k0_pay148 B) (k0_pay153 kvp kv) q sk) (k0_pay164 k0_pay2 (k0_pay148 B) (k0_pay154 kvp kv) q sk) (k0_pay165 k0_pay2 (k0_pay148 B) (k0_pay154 kvp kv) q sk) (k0_pay166 k0_pay2 (k0_pay148 B) (k0_pay154 kvp kv) q sk)) (FloatOps.ofBits FTy.f32 0x44000000#32) = blkY kvp kv q sk B g := rfl

end Cert.AttnFwdGrad

end
-- ==== Proof.AttnFwdRead.lean ====
/-
  The attention's forward call: what a grid point's block of 128 queries computes, read at an index.
-/
module

public import proofs.«01_k».proof.Defs
public import proofs.«01_k».proof.Proof.Sums
public import proofs.«01_k».proof.Proof.Rms
public import proofs.«01_k».proof.Proof.Attn
public import proofs.«01_k».proof.Proof.AttnFwdBlocks
public import proofs.«01_k».proof.Proof.Layers
public import proofs.«01_k».proof.Proof.Gen.AttnFwdIdeal.Value
public import proofs.«01_k».proof.Proof.Gen.AttnFwdRefIdeal
public import proofs.«01_k».proof.Proof.Gen.AttnFwdRefIdeal.Read
public import Idealize.ShloMosaic.Lib.Pipeline.ValueKit
public import Idealize.ShloMosaic.Lib.Pointwise
public import Idealize.ShloMosaic.Lib.KernelVsHost
public import Idealize.ShloMosaic.Lib.IdealHost

@[expose] public section

set_option maxRecDepth 16384

noncomputable section

open Idealize.ShloMosaic Idealize.ShloMosaic.TcCoe Idealize.SL.Sem Idealize.ShloMosaic.StableHlo

namespace Cert.AttnFwdGrad

open Cert.AttnFwdIdeal Cert.AttnFwdIdeal.Gen Cert.Attn

/-- Whether a lane is one of the first 64. -/
theorem lane_lt : ∀ l : Fin 128, IntOp.cmpi .slt (BitVec.ofNat 32 l.val) 64#32 = if l.val < 64 then 1#1 else 0#1 := by decide +kernel

/-- The tests on a lane of the first 64 and of the last. -/
theorem lane_half : ∀ d : Fin 64, IntOp.cmpi .slt (BitVec.ofNat 32 d.val) 64#32 = 1#1 ∧ IntOp.cmpi .slt (BitVec.ofNat 32 (64 + d.val)) 64#32 = 0#1
    ∧ IntOp.cmpi .sge (BitVec.ofNat 32 d.val) 64#32 = 0#1 ∧ IntOp.cmpi .sge (BitVec.ofNat 32 (64 + d.val)) 64#32 = 1#1 := by decide +kernel

/-- A selection whose test holds, and one whose test fails. -/
theorem select_one {α : Type} (x y : α) : Scalar.select 1#1 x y = x := rfl
theorem select_zero {α : Type} (x y : α) : Scalar.select 0#1 x y = y := rfl

/-- A band of keys or values: the block in front, then the block's own. -/
def band (kvp kv : FVec Ideal S128x256 .bf16) (c : Fin 256) (l : Fin 256) : EReal :=
  if h : c.val < 128 then kvp (ix2 ⟨c.val, h⟩ l) else kv (ix2 ⟨c.val - 128, by omega⟩ l)

variable (kvp kv : FVec Ideal S128x256 .bf16) (q : FVec Ideal S128x512 .bf16) (sk : FVec Ideal S1x1024 .f32) (B : FVec Ideal S1x256x512 .f32) (g : FVec Ideal S1x512 .f32)

/-- The keys of the first head pair, first lanes. -/
theorem pay8_lo (c : Fin 256) (d : Fin 64) : k0_pay8 (F := Ideal) kvp kv (ix2 c ⟨d.val, by omega⟩) = band kvp kv c ⟨d.val, by omega⟩ := by
  pointwise [k0_pay8, k0_pay4, k0_pay6]
  simp only [(lane_half d).1, (lane_half d).2.1, (lane_half d).2.2.1, (lane_half d).2.2.2, select_one, select_zero, show (64 + d.val + 128 - 64) % 128 = d.val by omega, show (d.val + 128 - 64) % 128 = 64 + d.val by omega, show 128 + (64 + d.val) = 192 + d.val by omega]
  rfl

/-- The keys of the first head pair, last lanes. -/
theorem pay8_hi (c : Fin 256) (d : Fin 64) : k0_pay8 (F := Ideal) kvp kv (ix2 c ⟨64 + d.val, by omega⟩) = band kvp kv c ⟨d.val, by omega⟩ := by
  pointwise [k0_pay8, k0_pay4, k0_pay6]
  simp only [(lane_half d).1, (lane_half d).2.1, (lane_half d).2.2.1, (lane_half d).2.2.2, select_one, select_zero, show (64 + d.val + 128 - 64) % 128 = d.val by omega, show (d.val + 128 - 64) % 128 = 64 + d.val by omega, show 128 + (64 + d.val) = 192 + d.val by omega]
  rfl

/-- The keys of the second head pair, first lanes. -/
theorem pay9_lo (c : Fin 256) (d : Fin 64) : k0_pay9 (F := Ideal) kvp kv (ix2 c ⟨d.val, by omega⟩) = band kvp kv c ⟨64 + d.val, by omega⟩ := by
  pointwise [k0_pay9, k0_pay4, k0_pay6]
  simp only [(lane_half d).1, (lane_half d).2.1, (lane_half d).2.2.1, (lane_half d).2.2.2, select_one, select_zero, show (64 + d.val + 128 - 64) % 128 = d.val by omega, show (d.val + 128 - 64) % 128 = 64 + d.val by omega, show 128 + (64 + d.val) = 192 + d.val by omega]
  rfl

/-- The keys of the second head pair, last lanes. -/
theorem pay9_hi (c : Fin 256) (d : Fin 64) : k0_pay9 (F := Ideal) kvp kv (ix2 c ⟨64 + d.val, by omega⟩) = band kvp kv c ⟨64 + d.val, by omega⟩ := by
  pointwise [k0_pay9, k0_pay4, k0_pay6]
  simp only [(lane_half d).1, (lane_half d).2.1, (lane_half d).2.2.1, (lane_half d).2.2.2, select_one, select_zero, show (64 + d.val + 128 - 64) % 128 = d.val by omega, show (d.val + 128 - 64) % 128 = 64 + d.val by omega, show 128 + (64 + d.val) = 192 + d.val by omega]
  rfl

/-- The values of the first head pair, first lanes. -/
theorem pay10_lo (c : Fin 256) (d : Fin 64) : k0_pay10 (F := Ideal) kvp kv (ix2 c ⟨d.val, by omega⟩) = band kvp kv c ⟨128 + d.val, by omega⟩ := by
  pointwise [k0_pay10, k0_pay5, k0_pay7]
  simp only [(lane_half d).1, (lane_half d).2.1, (lane_half d).2.2.1, (lane_half d).2.2.2, select_one, select_zero, show (64 + d.val + 128 - 64) % 128 = d.val by omega, show (d.val + 128 - 64) % 128 = 64 + d.val by omega, show 128 + (64 + d.val) = 192 + d.val by omega]
  rfl

/-- The values of the first head pair, last lanes. -/
theorem pay10_hi (c : Fin 256) (d : Fin 64) : k0_pay10 (F := Ideal) kvp kv (ix2 c ⟨64 + d.val, by omega⟩) = band kvp kv c ⟨128 + d.val, by omega⟩ := by
  pointwise [k0_pay10, k0_pay5, k0_pay7]
  simp only [(lane_half d).1, (lane_half d).2.1, (lane_half d).2.2.1, (lane_half d).2.2.2, select_one, select_zero, show (64 + d.val + 128 - 64) % 128 = d.val by omega, show (d.val + 128 - 64) % 128 = 64 + d.val by omega, show 128 + (64 + d.val) = 192 + d.val by omega]
  rfl

/-- The values of the second head pair, first lanes. -/
theorem pay11_lo (c : Fin 256) (d : Fin 64) : k0_pay11 (F := Ideal) kvp kv (ix2 c ⟨d.val, by omega⟩) = band kvp kv c ⟨192 + d.val, by omega⟩ := by
  pointwise [k0_pay11, k0_pay5, k0_pay7]
  simp only [(lane_half d).1, (lane_half d).2.1, (lane_half d).2.2.1, (lane_half d).2.2.2, select_one, select_zero, show (64 + d.val + 128 - 64) % 128 = d.val by omega, show (d.val + 128 - 64) % 128 = 64 + d.val by omega, show 128 + (64 + d.val) = 192 + d.val by omega]
  rfl

/-- The values of the second head pair, last lanes. -/
theorem pay11_hi (c : Fin 256) (d : Fin 64) : k0_pay11 (F := Ideal) kvp kv (ix2 c ⟨64 + d.val, by omega⟩) = band kvp kv c ⟨192 + d.val, by omega⟩ := by
  pointwise [k0_pay11, k0_pay5, k0_pay7]
  simp only [(lane_half d).1, (lane_half d).2.1, (lane_half d).2.2.1, (lane_half d).2.2.2, select_one, select_zero, show (64 + d.val + 128 - 64) % 128 = d.val by omega, show (d.val + 128 - 64) % 128 = 64 + d.val by omega, show 128 + (64 + d.val) = 192 + d.val by omega]
  rfl

/-- The queries of head 0, among the lanes of its pair. -/
theorem stack00 (r : Fin 128) (d : Fin 64) : k0_pay14 (F := Ideal) q (ix2 ⟨r.val, by omega⟩ ⟨d.val, by omega⟩) = q (ix2 r ⟨d.val, by omega⟩) * ((1 / 8 : ℝ) : EReal)
    ∧ k0_pay14 (F := Ideal) q (ix2 ⟨r.val, by omega⟩ ⟨64 + d.val, by omega⟩) = 0 := by
  constructor
  all_goals
    pointwise [k0_pay14, k0_pay12, k0_pay13, k0_pay2]
    simp only [(lane_half d).1, (lane_half d).2.1, select_one, select_zero, eighth_bf16, Ideal.ofBits_zero_bf16, show 128 + r.val - 128 = r.val by omega, show 256 + r.val - 128 = 128 + r.val by omega, show 384 + r.val - 128 = 256 + r.val by omega, show ¬ (128 + r.val < 128) by omega, show ¬ (256 + r.val < 128) by omega, show ¬ (384 + r.val < 128) by omega, r.isLt, dite_true, dite_false, ↓reduceDIte, ↓reduceIte, show 128 + (64 + d.val) = 192 + d.val by omega, show 256 + (64 + d.val) = 320 + d.val by omega, show 384 + (64 + d.val) = 448 + d.val by omega]

/-- The queries of head 1, among the lanes of its pair. -/
theorem stack01 (r : Fin 128) (d : Fin 64) : k0_pay14 (F := Ideal) q (ix2 ⟨128 + r.val, by omega⟩ ⟨d.val, by omega⟩) = 0
    ∧ k0_pay14 (F := Ideal) q (ix2 ⟨128 + r.val, by omega⟩ ⟨64 + d.val, by omega⟩) = q (ix2 r ⟨64 + d.val, by omega⟩) * ((1 / 8 : ℝ) : EReal) := by
  constructor
  all_goals
    pointwise [k0_pay14, k0_pay12, k0_pay13, k0_pay2]
    simp only [(lane_half d).1, (lane_half d).2.1, select_one, select_zero, eighth_bf16, Ideal.ofBits_zero_bf16, show 128 + r.val - 128 = r.val by omega, show 256 + r.val - 128 = 128 + r.val by omega, show 384 + r.val - 128 = 256 + r.val by omega, show ¬ (128 + r.val < 128) by omega, show ¬ (256 + r.val < 128) by omega, show ¬ (384 + r.val < 128) by omega, r.isLt, dite_true, dite_false, ↓reduceDIte, ↓reduceIte, show 128 + (64 + d.val) = 192 + d.val by omega, show 256 + (64 + d.val) = 320 + d.val by omega, show 384 + (64 + d.val) = 448 + d.val by omega]

/-- The queries of head 2, among the lanes of its pair. -/
theorem stack02 (r : Fin 128) (d : Fin 64) : k0_pay14 (F := Ideal) q (ix2 ⟨256 + r.val, by omega⟩ ⟨d.val, by omega⟩) = q (ix2 r ⟨128 + d.val, by omega⟩) * ((1 / 8 : ℝ) : EReal)
    ∧ k0_pay14 (F := Ideal) q (ix2 ⟨256 + r.val, by omega⟩ ⟨64 + d.val, by omega⟩) = 0 := by
  constructor
  all_goals
    pointwise [k0_pay14, k0_pay12, k0_pay13, k0_pay2]
    simp only [(lane_half d).1, (lane_half d).2.1, select_one, select_zero, eighth_bf16, Ideal.ofBits_zero_bf16, show 128 + r.val - 128 = r.val by omega, show 256 + r.val - 128 = 128 + r.val by omega, show 384 + r.val - 128 = 256 + r.val by omega, show ¬ (128 + r.val < 128) by omega, show ¬ (256 + r.val < 128) by omega, show ¬ (384 + r.val < 128) by omega, r.isLt, dite_true, dite_false, ↓reduceDIte, ↓reduceIte, show 128 + (64 + d.val) = 192 + d.val by omega, show 256 + (64 + d.val) = 320 + d.val by omega, show 384 + (64 + d.val) = 448 + d.val by omega]

/-- The queries of head 3, among the lanes of its pair. -/
theorem stack03 (r : Fin 128) (d : Fin 64) : k0_pay14 (F := Ideal) q (ix2 ⟨384 + r.val, by omega⟩ ⟨d.val, by omega⟩) = 0
    ∧ k0_pay14 (F := Ideal) q (ix2 ⟨384 + r.val, by omega⟩ ⟨64 + d.val, by omega⟩) = q (ix2 r ⟨192 + d.val, by omega⟩) * ((1 / 8 : ℝ) : EReal) := by
  constructor
  all_goals
    pointwise [k0_pay14, k0_pay12, k0_pay13, k0_pay2]
    simp only [(lane_half d).1, (lane_half d).2.1, select_one, select_zero, eighth_bf16, Ideal.ofBits_zero_bf16, show 128 + r.val - 128 = r.val by omega, show 256 + r.val - 128 = 128 + r.val by omega, show 384 + r.val - 128 = 256 + r.val by omega, show ¬ (128 + r.val < 128) by omega, show ¬ (256 + r.val < 128) by omega, show ¬ (384 + r.val < 128) by omega, r.isLt, dite_true, dite_false, ↓reduceDIte, ↓reduceIte, show 128 + (64 + d.val) = 192 + d.val by omega, show 256 + (64 + d.val) = 320 + d.val by omega, show 384 + (64 + d.val) = 448 + d.val by omega]

/-- The queries of head 4, among the lanes of its pair. -/
theorem stack10 (r : Fin 128) (d : Fin 64) : k0_pay31 (F := Ideal) k0_pay2 q (ix2 ⟨r.val, by omega⟩ ⟨d.val, by omega⟩) = q (ix2 r ⟨256 + d.val, by omega⟩) * ((1 / 8 : ℝ) : EReal)
    ∧ k0_pay31 (F := Ideal) k0_pay2 q (ix2 ⟨r.val, by omega⟩ ⟨64 + d.val, by omega⟩) = 0 := by
  constructor
  all_goals
    pointwise [k0_pay31, k0_pay29, k0_pay30, k0_pay2]
    simp only [(lane_half d).1, (lane_half d).2.1, select_one, select_zero, eighth_bf16, Ideal.ofBits_zero_bf16, show 128 + r.val - 128 = r.val by omega, show 256 + r.val - 128 = 128 + r.val by omega, show 384 + r.val - 128 = 256 + r.val by omega, show ¬ (128 + r.val < 128) by omega, show ¬ (256 + r.val < 128) by omega, show ¬ (384 + r.val < 128) by omega, r.isLt, dite_true, dite_false, ↓reduceDIte, ↓reduceIte, show 128 + (64 + d.val) = 192 + d.val by omega, show 256 + (64 + d.val) = 320 + d.val by omega, show 384 + (64 + d.val) = 448 + d.val by omega]

/-- The queries of head 5, among the lanes of its pair. -/
theorem stack11 (r : Fin 128) (d : Fin 64) : k0_pay31 (F := Ideal) k0_pay2 q (ix2 ⟨128 + r.val, by omega⟩ ⟨d.val, by omega⟩) = 0
    ∧ k0_pay31 (F := Ideal) k0_pay2 q (ix2 ⟨128 + r.val, by omega⟩ ⟨64 + d.val, by omega⟩) = q (ix2 r ⟨320 + d.val, by omega⟩) * ((1 / 8 : ℝ) : EReal) := by
  constructor
  all_goals
    pointwise [k0_pay31, k0_pay29, k0_pay30, k0_pay2]
    simp only [(lane_half d).1, (lane_half d).2.1, select_one, select_zero, eighth_bf16, Ideal.ofBits_zero_bf16, show 128 + r.val - 128 = r.val by omega, show 256 + r.val - 128 = 128 + r.val by omega, show 384 + r.val - 128 = 256 + r.val by omega, show ¬ (128 + r.val < 128) by omega, show ¬ (256 + r.val < 128) by omega, show ¬ (384 + r.val < 128) by omega, r.isLt, dite_true, dite_false, ↓reduceDIte, ↓reduceIte, show 128 + (64 + d.val) = 192 + d.val by omega, show 256 + (64 + d.val) = 320 + d.val by omega, show 384 + (64 + d.val) = 448 + d.val by omega]

/-- The queries of head 6, among the lanes of its pair. -/
theorem stack12 (r : Fin 128) (d : Fin 64) : k0_pay31 (F := Ideal) k0_pay2 q (ix2 ⟨256 + r.val, by omega⟩ ⟨d.val, by omega⟩) = q (ix2 r ⟨384 + d.val, by omega⟩) * ((1 / 8 : ℝ) : EReal)
    ∧ k0_pay31 (F := Ideal) k0_pay2 q (ix2 ⟨256 + r.val, by omega⟩ ⟨64 + d.val, by omega⟩) = 0 := by
  constructor
  all_goals
    pointwise [k0_pay31, k0_pay29, k0_pay30, k0_pay2]
    simp only [(lane_half d).1, (lane_half d).2.1, select_one, select_zero, eighth_bf16, Ideal.ofBits_zero_bf16, show 128 + r.val - 128 = r.val by omega, show 256 + r.val - 128 = 128 + r.val by omega, show 384 + r.val - 128 = 256 + r.val by omega, show ¬ (128 + r.val < 128) by omega, show ¬ (256 + r.val < 128) by omega, show ¬ (384 + r.val < 128) by omega, r.isLt, dite_true, dite_false, ↓reduceDIte, ↓reduceIte, show 128 + (64 + d.val) = 192 + d.val by omega, show 256 + (64 + d.val) = 320 + d.val by omega, show 384 + (64 + d.val) = 448 + d.val by omega]

/-- The queries of head 7, among the lanes of its pair. -/
theorem stack13 (r : Fin 128) (d : Fin 64) : k0_pay31 (F := Ideal) k0_pay2 q (ix2 ⟨384 + r.val, by omega⟩ ⟨d.val, by omega⟩) = 0
    ∧ k0_pay31 (F := Ideal) k0_pay2 q (ix2 ⟨384 + r.val, by omega⟩ ⟨64 + d.val, by omega⟩) = q (ix2 r ⟨448 + d.val, by omega⟩) * ((1 / 8 : ℝ) : EReal) := by
  constructor
  all_goals
    pointwise [k0_pay31, k0_pay29, k0_pay30, k0_pay2]
    simp only [(lane_half d).1, (lane_half d).2.1, select_one, select_zero, eighth_bf16, Ideal.ofBits_zero_bf16, show 128 + r.val - 128 = r.val by omega, show 256 + r.val - 128 = 128 + r.val by omega, show 384 + r.val - 128 = 256 + r.val by omega, show ¬ (128 + r.val < 128) by omega, show ¬ (256 + r.val < 128) by omega, show ¬ (384 + r.val < 128) by omega, r.isLt, dite_true, dite_false, ↓reduceDIte, ↓reduceIte, show 128 + (64 + d.val) = 192 + d.val by omega, show 256 + (64 + d.val) = 320 + d.val by omega, show 384 + (64 + d.val) = 448 + d.val by omega]

/-- A pair of heads' scores, four stacked, with the mask added. -/
def sc (kx : FVec Ideal S256x128 .bf16) (qx : FVec Ideal S512x128 .bf16) (b : FVec Ideal S256x512 .f32) : FVec Ideal S256x512 .f32 :=
  addf (matmul dot_S256x128_S512x128_S256x512_1_1_0_0_n_n none kx qx (constant S256x512 .f32 0x00000000#32)) b

/-- The largest of a column and its sink. -/
def mx (s : FVec Ideal S256x512 .f32) (a : FVec Ideal S1x512 .f32) : FVec Ideal S1x512 .f32 :=
  maximumf (shapeCast S1x512 (multiReduction .maximumf [0] S512 s 0xFF800000#32 reduces_S256x512_S512 (.inl rfl) rfl) shapeCasts_S512_S1x512) a

/-- A column's weights. -/
def ex (s : FVec Ideal S256x512 .f32) (a : FVec Ideal S1x512 .f32) : FVec Ideal S256x512 .f32 :=
  exp (subf s (broadcastTo S256x512 (mx s a) broadcasts_S1x512_S256x512))

/-- A column's denominator. -/
def dn (s : FVec Ideal S256x512 .f32) (a : FVec Ideal S1x512 .f32) : FVec Ideal S1x512 .f32 :=
  addf (shapeCast S1x512 (multiReduction .add [0] S512 (ex s a) 0x00000000#32 reduces_S256x512_S512 (.inl rfl) rfl) shapeCasts_S512_S1x512) (exp (subf a (mx s a)))

/-- A column's shares. -/
def pr (s : FVec Ideal S256x512 .f32) (a : FVec Ideal S1x512 .f32) : FVec Ideal S256x512 .f32 :=
  mulf (ex s a) (broadcastTo S256x512 (divf (broadcast S1x512 (Scalar.ofBits .f32 0x3F800000#32)) (dn s a)) broadcasts_S1x512_S256x512)

/-- The first pair's weighted values, in these words. -/
theorem pay16_eq (b : FVec Ideal S256x512 .f32) (kx vx : FVec Ideal S256x128 .bf16) (qx : FVec Ideal S512x128 .bf16) :
    k0_pay16 b kx vx qx sk = matmul dot_S256x512_S256x128_S512x128_0_0_1_1_n_n none (truncf .bf16 (pr (sc kx qx b) (k0_pay34 sk)) bitsLt_bf16_f32) vx (constant S512x128 .f32 0x00000000#32) := rfl

/-- The second pair's shares, in these words. -/
theorem pay17_eq (b : FVec Ideal S256x512 .f32) (kx : FVec Ideal S256x128 .bf16) :
    k0_pay17 k0_pay2 b kx (k0_pay12 q) k0_pay13 sk = truncf .bf16 (pr (sc kx (k0_pay31 k0_pay2 q) b) (k0_pay57 sk)) bitsLt_bf16_f32 := rfl

/-- The scores at an index. -/
theorem sc_apply (kx : FVec Ideal S256x128 .bf16) (qx : FVec Ideal S512x128 .bf16) (b : FVec Ideal S256x512 .f32) (c : Fin 256) (ρ : Fin 512) :
    sc kx qx b (ix2 c ρ) = (∑ l : Fin 128, kx (ix2 c l) * qx (ix2 ρ l)) + b (ix2 c ρ) := by
  pointwise [sc]

/-- The largest at an index. -/
theorem mx_apply (s : FVec Ideal S256x512 .f32) (a : FVec Ideal S1x512 .f32) (ρ : Fin 512) :
    mx s a (ix2 0 ρ) = top (fun c => s (ix2 c ρ)) (a (ix2 0 ρ)) := by
  pointwise [mx]
  rw [bot_f32]; rfl

/-- The weights at an index. -/
theorem ex_apply (s : FVec Ideal S256x512 .f32) (a : FVec Ideal S1x512 .f32) (c : Fin 256) (ρ : Fin 512) :
    ex s a (ix2 c ρ) = wt (fun c => s (ix2 c ρ)) (a (ix2 0 ρ)) c := by
  pointwise [ex]
  rw [mx_apply]; rfl

/-- The denominator at an index. -/
theorem dn_apply (s : FVec Ideal S256x512 .f32) (a : FVec Ideal S1x512 .f32) (ρ : Fin 512) :
    dn s a (ix2 0 ρ) = den (fun c => s (ix2 c ρ)) (a (ix2 0 ρ)) := by
  pointwise [dn]
  rw [mx_apply]
  simp only [ex_apply]; rfl

/-- The shares at an index. -/
theorem pr_apply (s : FVec Ideal S256x512 .f32) (a : FVec Ideal S1x512 .f32) (c : Fin 256) (ρ : Fin 512) (h : Fine (fun c => s (ix2 c ρ)) (a (ix2 0 ρ))) :
    pr s a (ix2 c ρ) = share (fun c => s (ix2 c ρ)) (a (ix2 0 ρ)) c := by
  pointwise [pr]
  rw [ex_apply, dn_apply, mul_recip h]; rfl

/-- A head's scores with the mask added, from a band of keys and the queries. -/
def scores (b : FVec Ideal S256x512 .f32) (h : Fin 2) (p : Fin 4) (r : Fin 128) (c : Fin 256) : EReal :=
  (∑ d : Fin 64, band kvp kv c ⟨64 * h.val + d.val, by omega⟩ * q (ix2 r ⟨256 * h.val + 64 * p.val + d.val, by omega⟩)) * ((1 / 8 : ℝ) : EReal)
    + b (ix2 c ⟨128 * p.val + r.val, by omega⟩)

/-- The scores of head 0. -/
theorem scores00 (b : FVec Ideal S256x512 .f32) (r : Fin 128) (c : Fin 256) : sc (k0_pay8 kvp kv) (k0_pay14 q) b (ix2 c ⟨r.val, by omega⟩) = scores kvp kv q b 0 0 r c := by
  rw [sc_apply, collapse_lo (fun d => pay8_lo kvp kv c d) (fun d => (stack00 q r d).1) (fun d => (stack00 q r d).2)]
  simp [scores]

/-- The scores of head 1. -/
theorem scores01 (b : FVec Ideal S256x512 .f32) (r : Fin 128) (c : Fin 256) : sc (k0_pay8 kvp kv) (k0_pay14 q) b (ix2 c ⟨128 + r.val, by omega⟩) = scores kvp kv q b 0 1 r c := by
  rw [sc_apply, collapse_hi (fun d => pay8_hi kvp kv c d) (fun d => (stack01 q r d).2) (fun d => (stack01 q r d).1)]
  simp [scores]

/-- The scores of head 2. -/
theorem scores02 (b : FVec Ideal S256x512 .f32) (r : Fin 128) (c : Fin 256) : sc (k0_pay8 kvp kv) (k0_pay14 q) b (ix2 c ⟨256 + r.val, by omega⟩) = scores kvp kv q b 0 2 r c := by
  rw [sc_apply, collapse_lo (fun d => pay8_lo kvp kv c d) (fun d => (stack02 q r d).1) (fun d => (stack02 q r d).2)]
  simp [scores]

/-- The scores of head 3. -/
theorem scores03 (b : FVec Ideal S256x512 .f32) (r : Fin 128) (c : Fin 256) : sc (k0_pay8 kvp kv) (k0_pay14 q) b (ix2 c ⟨384 + r.val, by omega⟩) = scores kvp kv q b 0 3 r c := by
  rw [sc_apply, collapse_hi (fun d => pay8_hi kvp kv c d) (fun d => (stack03 q r d).2) (fun d => (stack03 q r d).1)]
  simp [scores]

/-- The scores of head 4. -/
theorem scores10 (b : FVec Ideal S256x512 .f32) (r : Fin 128) (c : Fin 256) : sc (k0_pay9 kvp kv) (k0_pay31 k0_pay2 q) b (ix2 c ⟨r.val, by omega⟩) = scores kvp kv q b 1 0 r c := by
  rw [sc_apply, collapse_lo (fun d => pay9_lo kvp kv c d) (fun d => (stack10 q r d).1) (fun d => (stack10 q r d).2)]
  simp [scores]

/-- The scores of head 5. -/
theorem scores11 (b : FVec Ideal S256x512 .f32) (r : Fin 128) (c : Fin 256) : sc (k0_pay9 kvp kv) (k0_pay31 k0_pay2 q) b (ix2 c ⟨128 + r.val, by omega⟩) = scores kvp kv q b 1 1 r c := by
  rw [sc_apply, collapse_hi (fun d => pay9_hi kvp kv c d) (fun d => (stack11 q r d).2) (fun d => (stack11 q r d).1)]
  simp [scores]

/-- The scores of head 6. -/
theorem scores12 (b : FVec Ideal S256x512 .f32) (r : Fin 128) (c : Fin 256) : sc (k0_pay9 kvp kv) (k0_pay31 k0_pay2 q) b (ix2 c ⟨256 + r.val, by omega⟩) = scores kvp kv q b 1 2 r c := by
  rw [sc_apply, collapse_lo (fun d => pay9_lo kvp kv c d) (fun d => (stack12 q r d).1) (fun d => (stack12 q r d).2)]
  simp [scores]

/-- The scores of head 7. -/
theorem scores13 (b : FVec Ideal S256x512 .f32) (r : Fin 128) (c : Fin 256) : sc (k0_pay9 kvp kv) (k0_pay31 k0_pay2 q) b (ix2 c ⟨384 + r.val, by omega⟩) = scores kvp kv q b 1 3 r c := by
  rw [sc_apply, collapse_hi (fun d => pay9_hi kvp kv c d) (fun d => (stack13 q r d).2) (fun d => (stack13 q r d).1)]
  simp [scores]

/-- Where the columns of head 0 come from. -/
theorem place00 (vx : FVec Ideal S256x128 .bf16) (w0 : FVec Ideal S512x128 .f32) (w : FVec Ideal S256x512 .bf16) (r : Fin 128) (d : Fin 64) :
    k0_pay18 (F := Ideal) k0_pay2 vx w0 w (constant S512x128 .f32 0#32) (ix2 r ⟨d.val, by omega⟩) = w0 (ix2 ⟨r.val, by omega⟩ ⟨d.val, by omega⟩) := by
  pointwise [k0_pay18, k0_pay2]
  simp only [r.isLt, show d.val < 128 by omega, show 64 + d.val < 128 by omega, show ¬ (128 + d.val < 128) by omega, show ¬ (192 + d.val < 128) by omega, show ¬ (256 + d.val < 128) by omega, show ¬ (320 + d.val < 128) by omega, show ¬ (384 + d.val < 128) by omega, show ¬ (448 + d.val < 128) by omega, show 128 + d.val - 128 = d.val by omega, show 192 + d.val - 128 = 64 + d.val by omega, show 256 + d.val - 128 = 128 + d.val by omega, show 320 + d.val - 128 = 192 + d.val by omega, show 384 + d.val - 128 = 256 + d.val by omega, show 448 + d.val - 128 = 320 + d.val by omega, dite_true, dite_false, ↓reduceDIte, ↓reduceIte]
  simp only [(lane_half d).1, (lane_half d).2.1, select_one, select_zero]

/-- Where the columns of head 1 come from. -/
theorem place01 (vx : FVec Ideal S256x128 .bf16) (w0 : FVec Ideal S512x128 .f32) (w : FVec Ideal S256x512 .bf16) (r : Fin 128) (d : Fin 64) :
    k0_pay18 (F := Ideal) k0_pay2 vx w0 w (constant S512x128 .f32 0#32) (ix2 r ⟨64 + d.val, by omega⟩) = w0 (ix2 ⟨128 + r.val, by omega⟩ ⟨64 + d.val, by omega⟩) := by
  pointwise [k0_pay18, k0_pay2]
  simp only [r.isLt, show d.val < 128 by omega, show 64 + d.val < 128 by omega, show ¬ (128 + d.val < 128) by omega, show ¬ (192 + d.val < 128) by omega, show ¬ (256 + d.val < 128) by omega, show ¬ (320 + d.val < 128) by omega, show ¬ (384 + d.val < 128) by omega, show ¬ (448 + d.val < 128) by omega, show 128 + d.val - 128 = d.val by omega, show 192 + d.val - 128 = 64 + d.val by omega, show 256 + d.val - 128 = 128 + d.val by omega, show 320 + d.val - 128 = 192 + d.val by omega, show 384 + d.val - 128 = 256 + d.val by omega, show 448 + d.val - 128 = 320 + d.val by omega, dite_true, dite_false, ↓reduceDIte, ↓reduceIte]
  simp only [(lane_half d).1, (lane_half d).2.1, select_one, select_zero]

/-- Where the columns of head 2 come from. -/
theorem place02 (vx : FVec Ideal S256x128 .bf16) (w0 : FVec Ideal S512x128 .f32) (w : FVec Ideal S256x512 .bf16) (r : Fin 128) (d : Fin 64) :
    k0_pay18 (F := Ideal) k0_pay2 vx w0 w (constant S512x128 .f32 0#32) (ix2 r ⟨128 + d.val, by omega⟩) = w0 (ix2 ⟨256 + r.val, by omega⟩ ⟨d.val, by omega⟩) := by
  pointwise [k0_pay18, k0_pay2]
  simp only [r.isLt, show d.val < 128 by omega, show 64 + d.val < 128 by omega, show ¬ (128 + d.val < 128) by omega, show ¬ (192 + d.val < 128) by omega, show ¬ (256 + d.val < 128) by omega, show ¬ (320 + d.val < 128) by omega, show ¬ (384 + d.val < 128) by omega, show ¬ (448 + d.val < 128) by omega, show 128 + d.val - 128 = d.val by omega, show 192 + d.val - 128 = 64 + d.val by omega, show 256 + d.val - 128 = 128 + d.val by omega, show 320 + d.val - 128 = 192 + d.val by omega, show 384 + d.val - 128 = 256 + d.val by omega, show 448 + d.val - 128 = 320 + d.val by omega, dite_true, dite_false, ↓reduceDIte, ↓reduceIte]
  simp only [(lane_half d).1, (lane_half d).2.1, select_one, select_zero]

/-- Where the columns of head 3 come from. -/
theorem place03 (vx : FVec Ideal S256x128 .bf16) (w0 : FVec Ideal S512x128 .f32) (w : FVec Ideal S256x512 .bf16) (r : Fin 128) (d : Fin 64) :
    k0_pay18 (F := Ideal) k0_pay2 vx w0 w (constant S512x128 .f32 0#32) (ix2 r ⟨192 + d.val, by omega⟩) = w0 (ix2 ⟨384 + r.val, by omega⟩ ⟨64 + d.val, by omega⟩) := by
  pointwise [k0_pay18, k0_pay2]
  simp only [r.isLt, show d.val < 128 by omega, show 64 + d.val < 128 by omega, show ¬ (128 + d.val < 128) by omega, show ¬ (192 + d.val < 128) by omega, show ¬ (256 + d.val < 128) by omega, show ¬ (320 + d.val < 128) by omega, show ¬ (384 + d.val < 128) by omega, show ¬ (448 + d.val < 128) by omega, show 128 + d.val - 128 = d.val by omega, show 192 + d.val - 128 = 64 + d.val by omega, show 256 + d.val - 128 = 128 + d.val by omega, show 320 + d.val - 128 = 192 + d.val by omega, show 384 + d.val - 128 = 256 + d.val by omega, show 448 + d.val - 128 = 320 + d.val by omega, dite_true, dite_false, ↓reduceDIte, ↓reduceIte]
  simp only [(lane_half d).1, (lane_half d).2.1, select_one, select_zero]

/-- Where the columns of head 4 come from. -/
theorem place10 (vx : FVec Ideal S256x128 .bf16) (w0 : FVec Ideal S512x128 .f32) (w : FVec Ideal S256x512 .bf16) (r : Fin 128) (d : Fin 64) :
    k0_pay18 (F := Ideal) k0_pay2 vx w0 w (constant S512x128 .f32 0#32) (ix2 r ⟨256 + d.val, by omega⟩) = ∑ c : Fin 256, w (ix2 c ⟨r.val, by omega⟩) * vx (ix2 c ⟨d.val, by omega⟩) := by
  pointwise [k0_pay18, k0_pay2]
  simp only [r.isLt, show d.val < 128 by omega, show 64 + d.val < 128 by omega, show ¬ (128 + d.val < 128) by omega, show ¬ (192 + d.val < 128) by omega, show ¬ (256 + d.val < 128) by omega, show ¬ (320 + d.val < 128) by omega, show ¬ (384 + d.val < 128) by omega, show ¬ (448 + d.val < 128) by omega, show 128 + d.val - 128 = d.val by omega, show 192 + d.val - 128 = 64 + d.val by omega, show 256 + d.val - 128 = 128 + d.val by omega, show 320 + d.val - 128 = 192 + d.val by omega, show 384 + d.val - 128 = 256 + d.val by omega, show 448 + d.val - 128 = 320 + d.val by omega, dite_true, dite_false, ↓reduceDIte, ↓reduceIte]
  simp only [(lane_half d).1, (lane_half d).2.1, select_one, select_zero]

/-- Where the columns of head 5 come from. -/
theorem place11 (vx : FVec Ideal S256x128 .bf16) (w0 : FVec Ideal S512x128 .f32) (w : FVec Ideal S256x512 .bf16) (r : Fin 128) (d : Fin 64) :
    k0_pay18 (F := Ideal) k0_pay2 vx w0 w (constant S512x128 .f32 0#32) (ix2 r ⟨320 + d.val, by omega⟩) = ∑ c : Fin 256, w (ix2 c ⟨128 + r.val, by omega⟩) * vx (ix2 c ⟨64 + d.val, by omega⟩) := by
  pointwise [k0_pay18, k0_pay2]
  simp only [r.isLt, show d.val < 128 by omega, show 64 + d.val < 128 by omega, show ¬ (128 + d.val < 128) by omega, show ¬ (192 + d.val < 128) by omega, show ¬ (256 + d.val < 128) by omega, show ¬ (320 + d.val < 128) by omega, show ¬ (384 + d.val < 128) by omega, show ¬ (448 + d.val < 128) by omega, show 128 + d.val - 128 = d.val by omega, show 192 + d.val - 128 = 64 + d.val by omega, show 256 + d.val - 128 = 128 + d.val by omega, show 320 + d.val - 128 = 192 + d.val by omega, show 384 + d.val - 128 = 256 + d.val by omega, show 448 + d.val - 128 = 320 + d.val by omega, dite_true, dite_false, ↓reduceDIte, ↓reduceIte]
  simp only [(lane_half d).1, (lane_half d).2.1, select_one, select_zero]

/-- Where the columns of head 6 come from. -/
theorem place12 (vx : FVec Ideal S256x128 .bf16) (w0 : FVec Ideal S512x128 .f32) (w : FVec Ideal S256x512 .bf16) (r : Fin 128) (d : Fin 64) :
    k0_pay18 (F := Ideal) k0_pay2 vx w0 w (constant S512x128 .f32 0#32) (ix2 r ⟨384 + d.val, by omega⟩) = ∑ c : Fin 256, w (ix2 c ⟨256 + r.val, by omega⟩) * vx (ix2 c ⟨d.val, by omega⟩) := by
  pointwise [k0_pay18, k0_pay2]
  simp only [r.isLt, show d.val < 128 by omega, show 64 + d.val < 128 by omega, show ¬ (128 + d.val < 128) by omega, show ¬ (192 + d.val < 128) by omega, show ¬ (256 + d.val < 128) by omega, show ¬ (320 + d.val < 128) by omega, show ¬ (384 + d.val < 128) by omega, show ¬ (448 + d.val < 128) by omega, show 128 + d.val - 128 = d.val by omega, show 192 + d.val - 128 = 64 + d.val by omega, show 256 + d.val - 128 = 128 + d.val by omega, show 320 + d.val - 128 = 192 + d.val by omega, show 384 + d.val - 128 = 256 + d.val by omega, show 448 + d.val - 128 = 320 + d.val by omega, dite_true, dite_false, ↓reduceDIte, ↓reduceIte]
  simp only [(lane_half d).1, (lane_half d).2.1, select_one, select_zero]

/-- Where the columns of head 7 come from. -/
theorem place13 (vx : FVec Ideal S256x128 .bf16) (w0 : FVec Ideal S512x128 .f32) (w : FVec Ideal S256x512 .bf16) (r : Fin 128) (d : Fin 64) :
    k0_pay18 (F := Ideal) k0_pay2 vx w0 w (constant S512x128 .f32 0#32) (ix2 r ⟨448 + d.val, by omega⟩) = ∑ c : Fin 256, w (ix2 c ⟨384 + r.val, by omega⟩) * vx (ix2 c ⟨64 + d.val, by omega⟩) := by
  pointwise [k0_pay18, k0_pay2]
  simp only [r.isLt, show d.val < 128 by omega, show 64 + d.val < 128 by omega, show ¬ (128 + d.val < 128) by omega, show ¬ (192 + d.val < 128) by omega, show ¬ (256 + d.val < 128) by omega, show ¬ (320 + d.val < 128) by omega, show ¬ (384 + d.val < 128) by omega, show ¬ (448 + d.val < 128) by omega, show 128 + d.val - 128 = d.val by omega, show 192 + d.val - 128 = 64 + d.val by omega, show 256 + d.val - 128 = 128 + d.val by omega, show 320 + d.val - 128 = 192 + d.val by omega, show 384 + d.val - 128 = 256 + d.val by omega, show 448 + d.val - 128 = 320 + d.val by omega, dite_true, dite_false, ↓reduceDIte, ↓reduceIte]
  simp only [(lane_half d).1, (lane_half d).2.1, select_one, select_zero]

/-- A head's sink, as the kernel has it for a row. -/
def sinkOf (h : Fin 2) (p : Fin 4) (r : Fin 128) : EReal := sk (ix2 0 ⟨512 * h.val + 128 * p.val + r.val, by omega⟩)

/-- A head's result at a row and a lane. -/
def headOut (h : Fin 2) (p : Fin 4) (r : Fin 128) (d : Fin 64) : EReal :=
  attend (scores kvp kv q (k0_pay3 B) h p r) (sinkOf sk h p r) (fun c => band kvp kv c ⟨128 + 64 * h.val + d.val, by omega⟩)

/-- The sinks of the first pair of heads. -/
theorem sinks0 (ρ : Fin 512) : k0_pay34 (F := Ideal) sk (ix2 0 ρ) = sk (ix2 0 ⟨ρ.val, by omega⟩) := by
  pointwise [k0_pay34, k0_pay32]

/-- The sinks of the second. -/
theorem sinks1 (ρ : Fin 512) : k0_pay57 (F := Ideal) sk (ix2 0 ρ) = sk (ix2 0 ⟨512 + ρ.val, by omega⟩) := by
  pointwise [k0_pay57, k0_pay54]

/-- A block's rows before they are rounded. -/
def blkF : FVec Ideal S128x512 .f32 :=
  k0_pay18 k0_pay2 (k0_pay11 kvp kv) (k0_pay16 (k0_pay3 B) (k0_pay8 kvp kv) (k0_pay10 kvp kv) (k0_pay14 q) sk) (k0_pay17 k0_pay2 (k0_pay3 B) (k0_pay9 kvp kv) (k0_pay12 q) k0_pay13 sk) (constant S512x128 FTy.f32 0#32)

/-- The weighted values at an index. -/
theorem values_apply (w : FVec Ideal S256x512 .f32) (vx : FVec Ideal S256x128 .bf16) (ρ : Fin 512) (l : Fin 128) :
    matmul dot_S256x512_S256x128_S512x128_0_0_1_1_n_n none (truncf .bf16 w bitsLt_bf16_f32) vx (constant S512x128 .f32 0x00000000#32) (ix2 ρ l)
      = ∑ c : Fin 256, w (ix2 c ρ) * vx (ix2 c l) := by
  pointwise

/-- The shares of head 0. -/
theorem share00 (r : Fin 128) (c : Fin 256) (hF : Fine (scores kvp kv q (k0_pay3 B) 0 0 r) (sinkOf sk 0 0 r)) :
    pr (sc (k0_pay8 kvp kv) (k0_pay14 q) (k0_pay3 B)) (k0_pay34 sk) (ix2 c ⟨r.val, by omega⟩) = share (scores kvp kv q (k0_pay3 B) 0 0 r) (sinkOf sk 0 0 r) c := by
  have e1 : (fun c => sc (k0_pay8 kvp kv) (k0_pay14 q) (k0_pay3 B) (ix2 c ⟨r.val, by omega⟩)) = scores kvp kv q (k0_pay3 B) 0 0 r := funext (scores00 kvp kv q (k0_pay3 B) r)
  have e2 : k0_pay34 (F := Ideal) sk (ix2 0 ⟨r.val, by omega⟩) = sinkOf sk 0 0 r := by rw [sinks0]; simp [sinkOf, ← Nat.add_assoc]
  have e := pr_apply (sc (k0_pay8 kvp kv) (k0_pay14 q) (k0_pay3 B)) (k0_pay34 sk) c ⟨r.val, by omega⟩ (by rw [e1, e2]; exact hF)
  rwa [e1, e2] at e

/-- The result of head 0. -/
theorem out00 (r : Fin 128) (d : Fin 64) (hF : Fine (scores kvp kv q (k0_pay3 B) 0 0 r) (sinkOf sk 0 0 r)) :
    blkF kvp kv q sk B (ix2 r ⟨d.val, by omega⟩) = headOut kvp kv q sk B 0 0 r d := by
  rw [blkF, place00]
  rw [pay16_eq, values_apply]
  unfold headOut attend
  refine Finset.sum_congr rfl fun c _ => ?_
  rw [share00 kvp kv q sk B r c hF, pay10_lo, mul_comm]
  simp

/-- The shares of head 1. -/
theorem share01 (r : Fin 128) (c : Fin 256) (hF : Fine (scores kvp kv q (k0_pay3 B) 0 1 r) (sinkOf sk 0 1 r)) :
    pr (sc (k0_pay8 kvp kv) (k0_pay14 q) (k0_pay3 B)) (k0_pay34 sk) (ix2 c ⟨128 + r.val, by omega⟩) = share (scores kvp kv q (k0_pay3 B) 0 1 r) (sinkOf sk 0 1 r) c := by
  have e1 : (fun c => sc (k0_pay8 kvp kv) (k0_pay14 q) (k0_pay3 B) (ix2 c ⟨128 + r.val, by omega⟩)) = scores kvp kv q (k0_pay3 B) 0 1 r := funext (scores01 kvp kv q (k0_pay3 B) r)
  have e2 : k0_pay34 (F := Ideal) sk (ix2 0 ⟨128 + r.val, by omega⟩) = sinkOf sk 0 1 r := by rw [sinks0]; simp [sinkOf, ← Nat.add_assoc]
  have e := pr_apply (sc (k0_pay8 kvp kv) (k0_pay14 q) (k0_pay3 B)) (k0_pay34 sk) c ⟨128 + r.val, by omega⟩ (by rw [e1, e2]; exact hF)
  rwa [e1, e2] at e

/-- The result of head 1. -/
theorem out01 (r : Fin 128) (d : Fin 64) (hF : Fine (scores kvp kv q (k0_pay3 B) 0 1 r) (sinkOf sk 0 1 r)) :
    blkF kvp kv q sk B (ix2 r ⟨64 + d.val, by omega⟩) = headOut kvp kv q sk B 0 1 r d := by
  rw [blkF, place01]
  rw [pay16_eq, values_apply]
  unfold headOut attend
  refine Finset.sum_congr rfl fun c _ => ?_
  rw [share01 kvp kv q sk B r c hF, pay10_hi, mul_comm]
  simp

/-- The shares of head 2. -/
theorem share02 (r : Fin 128) (c : Fin 256) (hF : Fine (scores kvp kv q (k0_pay3 B) 0 2 r) (sinkOf sk 0 2 r)) :
    pr (sc (k0_pay8 kvp kv) (k0_pay14 q) (k0_pay3 B)) (k0_pay34 sk) (ix2 c ⟨256 + r.val, by omega⟩) = share (scores kvp kv q (k0_pay3 B) 0 2 r) (sinkOf sk 0 2 r) c := by
  have e1 : (fun c => sc (k0_pay8 kvp kv) (k0_pay14 q) (k0_pay3 B) (ix2 c ⟨256 + r.val, by omega⟩)) = scores kvp kv q (k0_pay3 B) 0 2 r := funext (scores02 kvp kv q (k0_pay3 B) r)
  have e2 : k0_pay34 (F := Ideal) sk (ix2 0 ⟨256 + r.val, by omega⟩) = sinkOf sk 0 2 r := by rw [sinks0]; simp [sinkOf, ← Nat.add_assoc]
  have e := pr_apply (sc (k0_pay8 kvp kv) (k0_pay14 q) (k0_pay3 B)) (k0_pay34 sk) c ⟨256 + r.val, by omega⟩ (by rw [e1, e2]; exact hF)
  rwa [e1, e2] at e

/-- The result of head 2. -/
theorem out02 (r : Fin 128) (d : Fin 64) (hF : Fine (scores kvp kv q (k0_pay3 B) 0 2 r) (sinkOf sk 0 2 r)) :
    blkF kvp kv q sk B (ix2 r ⟨128 + d.val, by omega⟩) = headOut kvp kv q sk B 0 2 r d := by
  rw [blkF, place02]
  rw [pay16_eq, values_apply]
  unfold headOut attend
  refine Finset.sum_congr rfl fun c _ => ?_
  rw [share02 kvp kv q sk B r c hF, pay10_lo, mul_comm]
  simp

/-- The shares of head 3. -/
theorem share03 (r : Fin 128) (c : Fin 256) (hF : Fine (scores kvp kv q (k0_pay3 B) 0 3 r) (sinkOf sk 0 3 r)) :
    pr (sc (k0_pay8 kvp kv) (k0_pay14 q) (k0_pay3 B)) (k0_pay34 sk) (ix2 c ⟨384 + r.val, by omega⟩) = share (scores kvp kv q (k0_pay3 B) 0 3 r) (sinkOf sk 0 3 r) c := by
  have e1 : (fun c => sc (k0_pay8 kvp kv) (k0_pay14 q) (k0_pay3 B) (ix2 c ⟨384 + r.val, by omega⟩)) = scores kvp kv q (k0_pay3 B) 0 3 r := funext (scores03 kvp kv q (k0_pay3 B) r)
  have e2 : k0_pay34 (F := Ideal) sk (ix2 0 ⟨384 + r.val, by omega⟩) = sinkOf sk 0 3 r := by rw [sinks0]; simp [sinkOf, ← Nat.add_assoc]
  have e := pr_apply (sc (k0_pay8 kvp kv) (k0_pay14 q) (k0_pay3 B)) (k0_pay34 sk) c ⟨384 + r.val, by omega⟩ (by rw [e1, e2]; exact hF)
  rwa [e1, e2] at e

/-- The result of head 3. -/
theorem out03 (r : Fin 128) (d : Fin 64) (hF : Fine (scores kvp kv q (k0_pay3 B) 0 3 r) (sinkOf sk 0 3 r)) :
    blkF kvp kv q sk B (ix2 r ⟨192 + d.val, by omega⟩) = headOut kvp kv q sk B 0 3 r d := by
  rw [blkF, place03]
  rw [pay16_eq, values_apply]
  unfold headOut attend
  refine Finset.sum_congr rfl fun c _ => ?_
  rw [share03 kvp kv q sk B r c hF, pay10_hi, mul_comm]
  simp

/-- The shares of head 4. -/
theorem share10 (r : Fin 128) (c : Fin 256) (hF : Fine (scores kvp kv q (k0_pay3 B) 1 0 r) (sinkOf sk 1 0 r)) :
    pr (sc (k0_pay9 kvp kv) (k0_pay31 k0_pay2 q) (k0_pay3 B)) (k0_pay57 sk) (ix2 c ⟨r.val, by omega⟩) = share (scores kvp kv q (k0_pay3 B) 1 0 r) (sinkOf sk 1 0 r) c := by
  have e1 : (fun c => sc (k0_pay9 kvp kv) (k0_pay31 k0_pay2 q) (k0_pay3 B) (ix2 c ⟨r.val, by omega⟩)) = scores kvp kv q (k0_pay3 B) 1 0 r := funext (scores10 kvp kv q (k0_pay3 B) r)
  have e2 : k0_pay57 (F := Ideal) sk (ix2 0 ⟨r.val, by omega⟩) = sinkOf sk 1 0 r := by rw [sinks1]; simp [sinkOf, ← Nat.add_assoc]
  have e := pr_apply (sc (k0_pay9 kvp kv) (k0_pay31 k0_pay2 q) (k0_pay3 B)) (k0_pay57 sk) c ⟨r.val, by omega⟩ (by rw [e1, e2]; exact hF)
  rwa [e1, e2] at e

/-- The result of head 4. -/
theorem out10 (r : Fin 128) (d : Fin 64) (hF : Fine (scores kvp kv q (k0_pay3 B) 1 0 r) (sinkOf sk 1 0 r)) :
    blkF kvp kv q sk B (ix2 r ⟨256 + d.val, by omega⟩) = headOut kvp kv q sk B 1 0 r d := by
  rw [blkF, place10]
  unfold headOut attend
  refine Finset.sum_congr rfl fun c _ => ?_
  rw [pay17_eq]
  refine (congrArg₂ (· * ·) (share10 kvp kv q sk B r c hF) (pay11_lo kvp kv c d)).trans ?_
  rw [mul_comm]
  simp

/-- The shares of head 5. -/
theorem share11 (r : Fin 128) (c : Fin 256) (hF : Fine (scores kvp kv q (k0_pay3 B) 1 1 r) (sinkOf sk 1 1 r)) :
    pr (sc (k0_pay9 kvp kv) (k0_pay31 k0_pay2 q) (k0_pay3 B)) (k0_pay57 sk) (ix2 c ⟨128 + r.val, by omega⟩) = share (scores kvp kv q (k0_pay3 B) 1 1 r) (sinkOf sk 1 1 r) c := by
  have e1 : (fun c => sc (k0_pay9 kvp kv) (k0_pay31 k0_pay2 q) (k0_pay3 B) (ix2 c ⟨128 + r.val, by omega⟩)) = scores kvp kv q (k0_pay3 B) 1 1 r := funext (scores11 kvp kv q (k0_pay3 B) r)
  have e2 : k0_pay57 (F := Ideal) sk (ix2 0 ⟨128 + r.val, by omega⟩) = sinkOf sk 1 1 r := by rw [sinks1]; simp [sinkOf, ← Nat.add_assoc]
  have e := pr_apply (sc (k0_pay9 kvp kv) (k0_pay31 k0_pay2 q) (k0_pay3 B)) (k0_pay57 sk) c ⟨128 + r.val, by omega⟩ (by rw [e1, e2]; exact hF)
  rwa [e1, e2] at e

/-- The result of head 5. -/
theorem out11 (r : Fin 128) (d : Fin 64) (hF : Fine (scores kvp kv q (k0_pay3 B) 1 1 r) (sinkOf sk 1 1 r)) :
    blkF kvp kv q sk B (ix2 r ⟨320 + d.val, by omega⟩) = headOut kvp kv q sk B 1 1 r d := by
  rw [blkF, place11]
  unfold headOut attend
  refine Finset.sum_congr rfl fun c _ => ?_
  rw [pay17_eq]
  refine (congrArg₂ (· * ·) (share11 kvp kv q sk B r c hF) (pay11_hi kvp kv c d)).trans ?_
  rw [mul_comm]
  simp

/-- The shares of head 6. -/
theorem share12 (r : Fin 128) (c : Fin 256) (hF : Fine (scores kvp kv q (k0_pay3 B) 1 2 r) (sinkOf sk 1 2 r)) :
    pr (sc (k0_pay9 kvp kv) (k0_pay31 k0_pay2 q) (k0_pay3 B)) (k0_pay57 sk) (ix2 c ⟨256 + r.val, by omega⟩) = share (scores kvp kv q (k0_pay3 B) 1 2 r) (sinkOf sk 1 2 r) c := by
  have e1 : (fun c => sc (k0_pay9 kvp kv) (k0_pay31 k0_pay2 q) (k0_pay3 B) (ix2 c ⟨256 + r.val, by omega⟩)) = scores kvp kv q (k0_pay3 B) 1 2 r := funext (scores12 kvp kv q (k0_pay3 B) r)
  have e2 : k0_pay57 (F := Ideal) sk (ix2 0 ⟨256 + r.val, by omega⟩) = sinkOf sk 1 2 r := by rw [sinks1]; simp [sinkOf, ← Nat.add_assoc]
  have e := pr_apply (sc (k0_pay9 kvp kv) (k0_pay31 k0_pay2 q) (k0_pay3 B)) (k0_pay57 sk) c ⟨256 + r.val, by omega⟩ (by rw [e1, e2]; exact hF)
  rwa [e1, e2] at e

/-- The result of head 6. -/
theorem out12 (r : Fin 128) (d : Fin 64) (hF : Fine (scores kvp kv q (k0_pay3 B) 1 2 r) (sinkOf sk 1 2 r)) :
    blkF kvp kv q sk B (ix2 r ⟨384 + d.val, by omega⟩) = headOut kvp kv q sk B 1 2 r d := by
  rw [blkF, place12]
  unfold headOut attend
  refine Finset.sum_congr rfl fun c _ => ?_
  rw [pay17_eq]
  refine (congrArg₂ (· * ·) (share12 kvp kv q sk B r c hF) (pay11_lo kvp kv c d)).trans ?_
  rw [mul_comm]
  simp

/-- The shares of head 7. -/
theorem share13 (r : Fin 128) (c : Fin 256) (hF : Fine (scores kvp kv q (k0_pay3 B) 1 3 r) (sinkOf sk 1 3 r)) :
    pr (sc (k0_pay9 kvp kv) (k0_pay31 k0_pay2 q) (k0_pay3 B)) (k0_pay57 sk) (ix2 c ⟨384 + r.val, by omega⟩) = share (scores kvp kv q (k0_pay3 B) 1 3 r) (sinkOf sk 1 3 r) c := by
  have e1 : (fun c => sc (k0_pay9 kvp kv) (k0_pay31 k0_pay2 q) (k0_pay3 B) (ix2 c ⟨384 + r.val, by omega⟩)) = scores kvp kv q (k0_pay3 B) 1 3 r := funext (scores13 kvp kv q (k0_pay3 B) r)
  have e2 : k0_pay57 (F := Ideal) sk (ix2 0 ⟨384 + r.val, by omega⟩) = sinkOf sk 1 3 r := by rw [sinks1]; simp [sinkOf, ← Nat.add_assoc]
  have e := pr_apply (sc (k0_pay9 kvp kv) (k0_pay31 k0_pay2 q) (k0_pay3 B)) (k0_pay57 sk) c ⟨384 + r.val, by omega⟩ (by rw [e1, e2]; exact hF)
  rwa [e1, e2] at e

/-- The result of head 7. -/
theorem out13 (r : Fin 128) (d : Fin 64) (hF : Fine (scores kvp kv q (k0_pay3 B) 1 3 r) (sinkOf sk 1 3 r)) :
    blkF kvp kv q sk B (ix2 r ⟨448 + d.val, by omega⟩) = headOut kvp kv q sk B 1 3 r d := by
  rw [blkF, place13]
  unfold headOut attend
  refine Finset.sum_congr rfl fun c _ => ?_
  rw [pay17_eq]
  refine (congrArg₂ (· * ·) (share13 kvp kv q sk B r c hF) (pay11_hi kvp kv c d)).trans ?_
  rw [mul_comm]
  simp

/-- A block's rows before they are rounded, by head. -/
theorem blkF_apply (h : Fin 2) (p : Fin 4) (r : Fin 128) (d : Fin 64) (hF : Fine (scores kvp kv q (k0_pay3 B) h p r) (sinkOf sk h p r)) :
    blkF kvp kv q sk B (ix2 r ⟨256 * h.val + 64 * p.val + d.val, by omega⟩) = headOut kvp kv q sk B h p r d := by
  fin_cases h <;> fin_cases p
  · have e := out00 kvp kv q sk B r d hF
    simpa using e
  · have e := out01 kvp kv q sk B r d hF
    simpa using e
  · have e := out02 kvp kv q sk B r d hF
    simpa using e
  · have e := out03 kvp kv q sk B r d hF
    simpa using e
  · have e := out10 kvp kv q sk B r d hF
    simpa using e
  · have e := out11 kvp kv q sk B r d hF
    simpa using e
  · have e := out12 kvp kv q sk B r d hF
    simpa using e
  · have e := out13 kvp kv q sk B r d hF
    simpa using e

/-- A block's stored rows are those rows. -/
theorem blkO_apply (i : S128x512.Idx) : blkO kvp kv q sk B i = blkF kvp kv q sk B i := rfl

/-- Rows normalised by their root mean square and scaled. -/
def normed (w : FVec Ideal S128x512 .f32) : FVec Ideal S128x512 .f32 :=
  mulf (mulf w (broadcastTo S128x512 (rsqrt (addf (divf (shapeCast S128x1 (multiReduction .add [1] S128 (mulf w w) 0x00000000#32 reduces_S128x512_S128 (.inl rfl) rfl) shapeCasts_S128_S128x1) (broadcast S128x1 (Scalar.ofBits .f32 0x44000000#32))) (broadcast S128x1 (Scalar.ofBits .f32 0x358637BD#32)))) broadcasts_S128x1_S128x512)) (broadcastTo S128x512 (shapeCast S1x512 g shapeCasts_S1x512_S1x512) broadcasts_S1x512_S128x512)

/-- A block's normalised rows, in these words. -/
theorem blkY_eq (i : S128x512.Idx) : blkY kvp kv q sk B g i = normed g (blkF kvp kv q sk B) i := rfl

/-- The normalised rows at an index. -/
theorem normed_apply (w : FVec Ideal S128x512 .f32) (r : Fin 128) (j : Fin 512) : normed g w (ix2 r j)
    = w (ix2 r j) * Ideal.rsqrt (Ideal.div (∑ k : Fin 512, w (ix2 r k) * w (ix2 r k)) (Ideal.ofBits .f32 0x44000000#32) + Ideal.ofBits .f32 0x358637BD#32) * g (ix2 0 j) := by
  pointwise [normed]

end Cert.AttnFwdGrad

end
-- ==== Proof.AttnFwdRefBand.lean ====
/-
  The attention's forward call: the plain lines' bands of keys and values, their scores and their mask, at an index.
-/
module

public import proofs.«01_k».proof.Defs
public import proofs.«01_k».proof.Proof.Sums
public import proofs.«01_k».proof.Proof.Rms
public import proofs.«01_k».proof.Proof.Attn
public import proofs.«01_k».proof.Proof.Layers
public import proofs.«01_k».proof.Proof.Gen.AttnFwdRefIdeal
public import proofs.«01_k».proof.Proof.Gen.AttnFwdRefIdeal.Read
public import Idealize.ShloMosaic.Lib.Pipeline.ValueKit
public import Idealize.ShloMosaic.Lib.Pointwise
public import Idealize.ShloMosaic.Lib.KernelVsHost
public import Idealize.ShloMosaic.Lib.IdealHost

@[expose] public section

set_option maxRecDepth 16384

noncomputable section

open Idealize.ShloMosaic Idealize.ShloMosaic.TcCoe Idealize.SL.Sem Idealize.ShloMosaic.StableHlo

namespace Cert.Attn

/-- The maximum over the last of five axes, at an index. -/
theorem max_last {n0 n1 n2 n3 n4 : ℕ} {u : Shape} (v : FVec Ideal ⟨5, ![n0, n1, n2, n3, n4]⟩ .f32) (c : FVec Ideal u .f32)
    (hR : (⟨5, ![n0, n1, n2, n3, n4]⟩ : Shape).ReducesTo [4] ⟨4, ![n0, n1, n2, n3]⟩) (hu : 0 < u.numel) (a : Fin n0) (b : Fin n1) (d : Fin n2) (e : Fin n3) :
    Host.reduce FloatOps.maximumf v c hR hu (ix4 a b d e) = Finset.univ.fold max (c (Shape.Idx.first hu)) (fun k => v (ix5 a b d e k)) := by
  refine (Host.reduce_eq_fold _ _ _ _ _ _).trans ?_
  exact Shape.ReducesTo.fold_fiber_r5_a4 _ _ _ _ _

/-- Whether key `c` of block `n`'s band counts for the block's query `r`. -/
def Seen (n : Fin 64) (r : Fin 128) (c : Fin 256) : Prop := (r.val < c.val ∧ c.val ≤ r.val + 128) ∧ (0 < n.val ∨ 128 ≤ c.val)

instance (n : Fin 64) (r : Fin 128) : DecidablePred (Seen n r) := fun _ => inferInstanceAs (Decidable (_ ∧ _))

end Cert.Attn

namespace Cert.AttnFwdGrad

open Cert.AttnFwdRefIdeal Cert.AttnFwdRefIdeal.Read Cert.Attn

variable (x0 : FVec Ideal S8192x1792 .bf16) (x1 : FVec Ideal S8 .f32) (x2 : FVec Ideal S512 .f32)

/-- A block's band of keys (from column 512) or values (from column 640): zeros in front of the first block. -/
def refBand (off : ℕ) (ho : off ≤ 640) (n : Fin 64) (h : Fin 2) (c : Fin 256) (d : Fin 64) : EReal :=
  if hc : c.val < 128 then (if n.val < 1 then 0 else x0 (ix2 ⟨(n.val - 1) * 128 + c.val, by omega⟩ ⟨off + (h.val * 64 + d.val), by omega⟩))
  else x0 (ix2 ⟨n.val * 128 + (c.val - 128), by omega⟩ ⟨off + (h.val * 64 + d.val), by omega⟩)

/-- The keys' band. -/
theorem v11_apply (n : Fin 64) (h : Fin 2) (c : Fin 256) (d : Fin 64) :
    val_main_v11 (F := Ideal) x0 (ix4 n c h d) = refBand x0 512 (by omega) n h c d := by
  pointwise [val_main_v11, val_main_v10, val_main_v9, val_main_v8, val_main_cst, val_main_v7, val_main_v5, val_main_v2, val_main_v0]
  rfl

/-- The values' band. -/
theorem v16_apply (n : Fin 64) (h : Fin 2) (c : Fin 256) (d : Fin 64) :
    val_main_v16 (F := Ideal) x0 (ix4 n c h d) = refBand x0 640 (by omega) n h c d := by
  pointwise [val_main_v16, val_main_v15, val_main_v14, val_main_v13, val_main_cst_0, val_main_v12, val_main_v6, val_main_v3, val_main_v0]
  rfl

/-- The scores. -/
theorem v20_apply (n : Fin 64) (h : Fin 2) (g : Fin 4) (r : Fin 128) (c : Fin 256) :
    val_main_v20 (F := Ideal) x0 (ix5 n h g r c) = (∑ d : Fin 64, refBand x0 512 (by omega) n h c d * x0 (ix2 ⟨n.val * 128 + r.val, by omega⟩ ⟨h.val * 256 + g.val * 64 + d.val, by omega⟩)) * ((1 / 8 : ℝ) : EReal) := by
  pointwise [val_main_v20, val_main_v19, val_main_cst_1, val_main_v18, val_main_v17, val_main_v4, val_main_v1, val_main_v0]
  simp only [v11_apply, eighth_f32]

/-- Where a query stands behind a key, whatever the block. -/
theorem mask_rc : ∀ (r : Fin 128) (c : Fin 256), IntOp.andi (IntOp.cmpi .sge (BitVec.ofNat 32 r.val + 128#32 - BitVec.ofNat 32 c.val) 0#32) (IntOp.cmpi .slt (BitVec.ofNat 32 r.val + 128#32 - BitVec.ofNat 32 c.val) 128#32)
    = if r.val < c.val ∧ c.val ≤ r.val + 128 then 1#1 else 0#1 := by decide +kernel

/-- Where a key stands in the sequence. -/
theorem mask_nc : ∀ (n : Fin 64) (c : Fin 256), IntOp.cmpi .sge ((BitVec.ofNat 32 n.val - 1#32) * 128#32 + BitVec.ofNat 32 c.val) 0#32
    = if 0 < n.val ∨ 128 ≤ c.val then 1#1 else 0#1 := by decide +kernel

/-- A query's position. -/
theorem v29_apply (n : Fin 64) (r : Fin 128) : val_main_v29 (F := Ideal) (ix2 n r) = BitVec.ofNat 32 n.val * 128#32 + BitVec.ofNat 32 r.val := by
  pointwise [val_main_v29, val_main_v28, val_main_v27, val_main_v26, val_main_v25, val_main_v24, val_main_v23, val_main_c, val_main_v22, val_main_v21]
  rfl

/-- A key's position. -/
theorem v38_apply (n : Fin 64) (c : Fin 256) : val_main_v38 (F := Ideal) (ix2 n c) = (BitVec.ofNat 32 n.val - 1#32) * 128#32 + BitVec.ofNat 32 c.val := by
  pointwise [val_main_v38, val_main_v37, val_main_v36, val_main_v35, val_main_v34, val_main_v33, val_main_v32, val_main_c_3, val_main_v31, val_main_v30, val_main_c_2, val_main_v22, val_main_v21]
  rfl

/-- The block's number drops out of a difference of positions. -/
theorem behind (n r c k : BitVec 32) : n * k + r - ((n - 1) * k + c) = r + k - c := by grind

/-- How far the key stands behind the query. -/
theorem v43_apply (n : Fin 64) (r : Fin 128) (c : Fin 256) : val_main_v43 (F := Ideal) (ix3 n r c) = BitVec.ofNat 32 r.val + 128#32 - BitVec.ofNat 32 c.val := by
  have e : val_main_v43 (F := Ideal) (ix3 n r c) = val_main_v29 (F := Ideal) (ix2 n r) - val_main_v38 (F := Ideal) (ix2 n c) := by
    pointwise [val_main_v43, val_main_v42, val_main_v41, val_main_v40, val_main_v39]
    rfl
  rw [e, v29_apply, v38_apply]
  exact behind _ _ _ _

/-- The mask. -/
theorem v53_apply (n : Fin 64) (r : Fin 128) (c : Fin 256) : val_main_v53 (F := Ideal) (ix3 n r c) = if Seen n r c then 1#1 else 0#1 := by
  have e : val_main_v53 (F := Ideal) (ix3 n r c) = IntOp.andi (IntOp.andi (IntOp.cmpi .sge (val_main_v43 (F := Ideal) (ix3 n r c)) 0#32) (IntOp.cmpi .slt (val_main_v43 (F := Ideal) (ix3 n r c)) 128#32)) (IntOp.cmpi .sge (val_main_v38 (F := Ideal) (ix2 n c)) 0#32) := by
    pointwise [val_main_v53, val_main_v52, val_main_v51, val_main_v50, val_main_c_6, val_main_v49, val_main_v48, val_main_v47, val_main_v46, val_main_c_5, val_main_v45, val_main_v44, val_main_c_4]
  rw [e, v43_apply, v38_apply, mask_rc, mask_nc]
  by_cases h1 : r.val < c.val ∧ c.val ≤ r.val + 128
  · by_cases h2 : 0 < n.val ∨ 128 ≤ c.val
    · rw [if_pos h1, if_pos h2, if_pos (show Seen n r c from ⟨h1, h2⟩)]; rfl
    · rw [if_pos h1, if_neg h2, if_neg (fun h : Seen n r c => h2 h.2)]; rfl
  · rw [if_neg h1, if_neg (fun h : Seen n r c => h1 h.1)]
    by_cases h2 : 0 < n.val ∨ 128 ≤ c.val
    · rw [if_pos h2]; rfl
    · rw [if_neg h2]; rfl

end Cert.AttnFwdGrad

end
-- ==== Proof.AttnFwdRefRead.lean ====
/-
  The attention's forward call: the plain lines' shares, rows and normalised rows, at an index.
-/
module

public import proofs.«01_k».proof.Defs
public import proofs.«01_k».proof.Proof.Sums
public import proofs.«01_k».proof.Proof.Rms
public import proofs.«01_k».proof.Proof.Attn
public import proofs.«01_k».proof.Proof.AttnFwdRefBand
public import proofs.«01_k».proof.Proof.Layers
public import proofs.«01_k».proof.Proof.Gen.AttnFwdRefIdeal
public import proofs.«01_k».proof.Proof.Gen.AttnFwdRefIdeal.Read
public import Idealize.ShloMosaic.Lib.Pipeline.ValueKit
public import Idealize.ShloMosaic.Lib.Pointwise
public import Idealize.ShloMosaic.Lib.KernelVsHost
public import Idealize.ShloMosaic.Lib.IdealHost

@[expose] public section

set_option maxRecDepth 16384

noncomputable section

open Idealize.ShloMosaic Idealize.ShloMosaic.TcCoe Idealize.SL.Sem Idealize.ShloMosaic.StableHlo

namespace Cert.AttnFwdGrad

open Cert.AttnFwdRefIdeal Cert.AttnFwdRefIdeal.Read Cert.Attn

variable (x0 : FVec Ideal S8192x1792 .bf16) (x1 : FVec Ideal S8 .f32) (x2 : FVec Ideal S512 .f32)

/-- The query of a head. -/
def refQuery (n : Fin 64) (h : Fin 2) (g : Fin 4) (r : Fin 128) (d : Fin 64) : EReal :=
  x0 (ix2 ⟨n.val * 128 + r.val, by omega⟩ ⟨h.val * 256 + g.val * 64 + d.val, by omega⟩)

/-- The masked scores. -/
theorem v55_apply (n : Fin 64) (h : Fin 2) (g : Fin 4) (r : Fin 128) (c : Fin 256) :
    val_main_v55 (F := Ideal) x0 (ix5 n h g r c) = score (refBand x0 512 (by omega) n h) (refQuery x0 n h g r) (Seen n r) c := by
  have e : val_main_v55 (F := Ideal) x0 (ix5 n h g r c) = Scalar.select (val_main_v53 (F := Ideal) (ix3 n r c)) (val_main_v20 (F := Ideal) x0 (ix5 n h g r c)) (Ideal.ofBits .f32 0xFF800000#32) := by
    pointwise [val_main_v55, val_main_call0_v2, val_main_call0_v1, val_main_call0_v0, val_main_cst_7, val_main_v54]
    rfl
  rw [e, v53_apply, v20_apply, bot_f32]
  by_cases hs : Seen n r c
  · rw [if_pos hs, score, if_pos hs]; rfl
  · rw [if_neg hs, score, if_neg hs]; rfl

/-- A head's sink. -/
def refSink (h : Fin 2) (g : Fin 4) : EReal := x1 (ix1 ⟨h.val * 4 + g.val, by omega⟩)

/-- The largest of a row's scores. -/
theorem v58_apply (n : Fin 64) (h : Fin 2) (g : Fin 4) (r : Fin 128) : val_main_v58 (F := Ideal) x0 (ix4 n h g r) = Finset.fold max ⊥ (score (refBand x0 512 (by omega) n h) (refQuery x0 n h g r) (Seen n r)) Finset.univ := by
  unfold val_main_v58
  rw [max_last]
  simp only [v55_apply]
  exact congrArg (fun b => Finset.fold max b _ Finset.univ) bot_f32

/-- The sink, spread over the rows. -/
theorem v60_apply (n : Fin 64) (h : Fin 2) (g : Fin 4) (r : Fin 128) : val_main_v60 (F := Ideal) x1 (ix5 n h g r 0) = refSink x1 h g := by
  unfold refSink
  pointwise [val_main_v60, val_main_v57, val_main_v56]

/-- The largest of a row's scores, with a last axis of one. -/
theorem v59_apply (n : Fin 64) (h : Fin 2) (g : Fin 4) (r : Fin 128) : val_main_v59 (F := Ideal) x0 (ix5 n h g r 0) = val_main_v58 (F := Ideal) x0 (ix4 n h g r) := by
  unfold val_main_v59
  generalize val_main_v58 (F := Ideal) x0 = w
  pointwise

/-- The largest of a row's scores and its sink. -/
theorem v61_apply (n : Fin 64) (h : Fin 2) (g : Fin 4) (r : Fin 128) :
    val_main_v61 (F := Ideal) x0 x1 (ix5 n h g r 0) = top (score (refBand x0 512 (by omega) n h) (refQuery x0 n h g r) (Seen n r)) (refSink x1 h g) := by
  unfold val_main_v61
  refine (maximumf_apply _ _ _).trans ?_
  rw [v59_apply, v60_apply, v58_apply]
  exact rfl

/-- The weights. -/
theorem v64_apply (n : Fin 64) (h : Fin 2) (g : Fin 4) (r : Fin 128) (c : Fin 256) :
    val_main_v64 (F := Ideal) x0 x1 (ix5 n h g r c) = wt (score (refBand x0 512 (by omega) n h) (refQuery x0 n h g r) (Seen n r)) (refSink x1 h g) c := by
  have e : val_main_v64 (F := Ideal) x0 x1 (ix5 n h g r c) = Ideal.exp (val_main_v55 (F := Ideal) x0 (ix5 n h g r c) - val_main_v61 (F := Ideal) x0 x1 (ix5 n h g r 0)) := by
    pointwise [val_main_v64, val_main_v63, val_main_v62]
  rw [e, v55_apply, v61_apply]; rfl

/-- The denominator. -/
theorem v70_apply (n : Fin 64) (h : Fin 2) (g : Fin 4) (r : Fin 128) :
    val_main_v70 (F := Ideal) x0 x1 (ix5 n h g r 0) = den (score (refBand x0 512 (by omega) n h) (refQuery x0 n h g r) (Seen n r)) (refSink x1 h g) := by
  have e : val_main_v70 (F := Ideal) x0 x1 (ix5 n h g r 0) = (∑ c : Fin 256, val_main_v64 (F := Ideal) x0 x1 (ix5 n h g r c)) + Ideal.exp (refSink x1 h g - val_main_v61 (F := Ideal) x0 x1 (ix5 n h g r 0)) := by
    unfold refSink
    pointwise [val_main_v70, val_main_v69, val_main_v68, val_main_v67, val_main_v66, val_main_v65, val_main_cst_9, val_main_v57, val_main_v56]
  rw [e, v61_apply]
  simp only [v64_apply]; rfl

/-- The shares. -/
theorem v72_apply (n : Fin 64) (h : Fin 2) (g : Fin 4) (r : Fin 128) (c : Fin 256) :
    val_main_v72 (F := Ideal) x0 x1 (ix5 n h g r c) = share (score (refBand x0 512 (by omega) n h) (refQuery x0 n h g r) (Seen n r)) (refSink x1 h g) c := by
  have e : val_main_v72 (F := Ideal) x0 x1 (ix5 n h g r c) = Ideal.div (val_main_v64 (F := Ideal) x0 x1 (ix5 n h g r c)) (val_main_v70 (F := Ideal) x0 x1 (ix5 n h g r 0)) := by
    pointwise [val_main_v72, val_main_v71]
  rw [e, v64_apply, v70_apply]; rfl

/-- A head's result at a row and a lane. -/
def refHead (n : Fin 64) (h : Fin 2) (g : Fin 4) (r : Fin 128) (d : Fin 64) : EReal :=
  attend (score (refBand x0 512 (by omega) n h) (refQuery x0 n h g r) (Seen n r)) (refSink x1 h g) (fun c => refBand x0 640 (by omega) n h c d)

/-- A head's result. -/
theorem v73_apply (n : Fin 64) (h : Fin 2) (g : Fin 4) (r : Fin 128) (d : Fin 64) :
    val_main_v74 (F := Ideal) x0 x1 (ix5 n r h g d) = refHead x0 x1 n h g r d := by
  pointwise [val_main_v74, val_main_v73]
  simp only [v16_apply, v72_apply]; rfl

/-- The rows. -/
theorem v75_apply (n : Fin 64) (h : Fin 2) (g : Fin 4) (r : Fin 128) (d : Fin 64) :
    val_main_v75 (F := Ideal) x0 x1 (ix2 ⟨128 * n.val + r.val, by omega⟩ ⟨256 * h.val + 64 * g.val + d.val, by omega⟩) = refHead x0 x1 n h g r d := by
  rw [← v73_apply]
  pointwise [val_main_v75]

/-- The normalised rows. -/
theorem v90_apply (s : Fin 8192) (j : Fin 512) : val_main_v90 (F := Ideal) x0 x1 x2 (ix2 s j)
    = val_main_v75 (F := Ideal) x0 x1 (ix2 s j) * Ideal.rsqrt (Ideal.div (∑ k : Fin 512, val_main_v75 (F := Ideal) x0 x1 (ix2 s k) * val_main_v75 (F := Ideal) x0 x1 (ix2 s k)) (Ideal.ofBits .f32 0x44000000#32) + Ideal.ofBits .f32 0x358637BD#32) * x2 (ix1 j) := by
  pointwise [val_main_v90, val_main_v89, val_main_v88, val_main_v87, val_main_v86, val_main_v85, val_main_v84, val_main_v83, val_main_v82, val_main_cst_12, val_main_v81, val_main_v80, val_main_cst_11, val_main_v79, val_main_v78, val_main_cst_10, val_main_v77]

end Cert.AttnFwdGrad

end
-- ==== Proof.AttnFwdMatch.lean ====
/-
  The attention's forward call: a block of 128 queries gives the plain lines' rows, where it is handed the block's rows, the
  keys and values in front, the heads' sinks and the mask.
-/
module

public import proofs.«01_k».proof.Defs
public import proofs.«01_k».proof.Proof.Sums
public import proofs.«01_k».proof.Proof.Rms
public import proofs.«01_k».proof.Proof.Attn
public import proofs.«01_k».proof.Proof.AttnFwdRead
public import proofs.«01_k».proof.Proof.AttnFwdRefRead
public import proofs.«01_k».proof.Proof.Layers
public import proofs.«01_k».proof.Proof.Gen.AttnFwdIdeal.Value
public import proofs.«01_k».proof.Proof.Gen.AttnFwdRefIdeal
public import proofs.«01_k».proof.Proof.Gen.AttnFwdRefIdeal.Read
public import Idealize.ShloMosaic.Lib.Pipeline.ValueKit
public import Idealize.ShloMosaic.Lib.Pointwise
public import Idealize.ShloMosaic.Lib.KernelVsHost
public import Idealize.ShloMosaic.Lib.IdealHost

@[expose] public section

set_option maxRecDepth 16384

noncomputable section

open Idealize.ShloMosaic Idealize.ShloMosaic.TcCoe Idealize.SL.Sem Idealize.ShloMosaic.StableHlo

namespace Cert.AttnFwdGrad

open Cert.AttnFwdIdeal Cert.AttnFwdIdeal.Gen Cert.Attn

/-- The queries and keys are finite and no sink is `+∞`. -/
def Finite (z : FVec Ideal S8192x1792 .bf16) (s : FVec Ideal S8 .f32) : Prop :=
  (∀ (i : Fin 8192) (j : Fin 1792), j.val < 640 → IsReal (z (ix2 i j))) ∧ ∀ h : Fin 8, s (ix1 h) ≠ ⊤

/-- What a block of queries is handed: the keys and values in front and its own, its queries, the sinks and the mask. -/
structure Handed (z : FVec Ideal S8192x1792 .bf16) (s : FVec Ideal S8 .f32) (n : Fin 64) (kvp kv : FVec Ideal S128x256 .bf16)
    (q : FVec Ideal S128x512 .bf16) (sk : FVec Ideal S1x1024 .f32) (B : FVec Ideal S1x256x512 .f32) : Prop where
  front : 0 < n.val → ∀ (r : Fin 128) (l : Fin 256), kvp (ix2 r l) = z (ix2 ⟨128 * (n.val - 1) + r.val, by omega⟩ ⟨512 + l.val, by omega⟩)
  own : ∀ (r : Fin 128) (l : Fin 256), kv (ix2 r l) = z (ix2 ⟨128 * n.val + r.val, by omega⟩ ⟨512 + l.val, by omega⟩)
  query : ∀ (r : Fin 128) (j : Fin 512), q (ix2 r j) = z (ix2 ⟨128 * n.val + r.val, by omega⟩ ⟨j.val, by omega⟩)
  sink : ∀ (h : Fin 8) (r : Fin 128), sk (ix2 0 ⟨128 * h.val + r.val, by omega⟩) = s (ix1 h)
  mask : ∀ (c : Fin 256) (p : Fin 4) (r : Fin 128), B (ix3 0 c ⟨128 * p.val + r.val, by omega⟩) = if Seen n r c then 0 else ⊥

variable {z : FVec Ideal S8192x1792 .bf16} {s : FVec Ideal S8 .f32} {n : Fin 64} {kvp kv : FVec Ideal S128x256 .bf16}
  {q : FVec Ideal S128x512 .bf16} {sk : FVec Ideal S1x1024 .f32} {B : FVec Ideal S1x256x512 .f32}

/-- The keys a query sees are the plain lines'. -/
theorem band_keys (H : Handed z s n kvp kv q sk B) {r : Fin 128} {c : Fin 256} (hs : Seen n r c) (h : Fin 2) (d : Fin 64) :
    band kvp kv c ⟨64 * h.val + d.val, by omega⟩ = refBand z 512 (by omega) n h c d := by
  unfold band refBand
  by_cases hc : c.val < 128
  · have hn : 0 < n.val := by rcases hs.2 with h | h <;> omega
    rw [dif_pos hc, dif_pos hc, if_neg (by omega), H.front hn]
    simp only [Nat.mul_comm]
  · rw [dif_neg hc, dif_neg hc, H.own]
    simp only [Nat.mul_comm]

/-- The values a query sees are the plain lines'. -/
theorem band_values (H : Handed z s n kvp kv q sk B) {r : Fin 128} {c : Fin 256} (hs : Seen n r c) (h : Fin 2) (d : Fin 64) :
    band kvp kv c ⟨128 + 64 * h.val + d.val, by omega⟩ = refBand z 640 (by omega) n h c d := by
  unfold band refBand
  by_cases hc : c.val < 128
  · have hn : 0 < n.val := by rcases hs.2 with h | h <;> omega
    rw [dif_pos hc, dif_pos hc, if_neg (by omega), H.front hn]
    refine congrArg z (congrArg₂ ix2 (Fin.ext ?_) (Fin.ext ?_)) <;> simp only [] <;> omega
  · rw [dif_neg hc, dif_neg hc, H.own]
    refine congrArg z (congrArg₂ ix2 (Fin.ext ?_) (Fin.ext ?_)) <;> simp only [] <;> omega

/-- The scores are the plain lines'. -/
theorem scores_eq (H : Handed z s n kvp kv q sk B) (h : Fin 2) (p : Fin 4) (r : Fin 128) :
    scores kvp kv q (k0_pay3 B) h p r = score (refBand z 512 (by omega) n h) (refQuery z n h p r) (Seen n r) := by
  funext c
  have e : k0_pay3 (F := Ideal) B (ix2 c ⟨128 * p.val + r.val, by omega⟩) = if Seen n r c then 0 else ⊥ := by
    rw [← H.mask c p r]
    pointwise [k0_pay3]
  unfold scores score
  rw [e]
  by_cases hs : Seen n r c
  · rw [if_pos hs, if_pos hs, add_zero]
    refine congrArg (· * ((1 / 8 : ℝ) : EReal)) (Finset.sum_congr rfl fun d _ => ?_)
    rw [band_keys H hs, H.query]
    unfold refQuery
    refine congrArg _ (congrArg z (congrArg₂ ix2 (Fin.ext ?_) (Fin.ext ?_))) <;> simp only [] <;> omega
  · rw [if_neg hs, if_neg hs, EReal.add_bot]

/-- The sinks are the plain lines'. -/
theorem sink_eq (H : Handed z s n kvp kv q sk B) (h : Fin 2) (p : Fin 4) (r : Fin 128) : sinkOf sk h p r = refSink s h p := by
  have e := H.sink ⟨4 * h.val + p.val, by omega⟩ r
  unfold sinkOf refSink
  refine Eq.trans (congrArg sk (congrArg₂ ix2 rfl (Fin.ext ?_))) (e.trans (congrArg s (congrArg ix1 (Fin.ext ?_)))) <;> simp only [] <;> omega

/-- The plain lines' scores of finite queries and keys have a real largest. -/
theorem fine (hz : Finite z s) (n : Fin 64) (h : Fin 2) (p : Fin 4) (r : Fin 128) :
    Fine (score (refBand z 512 (by omega) n h) (refQuery z n h p r) (Seen n r)) (refSink s h p) := by
  refine score_fine (fun c d _ => ?_) (fun d => hz.1 _ _ (by simp only []; omega)) (hz.2 _) ⟨⟨r.val + 128, by omega⟩, ?_⟩
  · unfold refBand
    split_ifs
    · exact ⟨EReal.zero_ne_top, EReal.zero_ne_bot⟩
    · exact hz.1 _ _ (by simp only []; omega)
    · exact hz.1 _ _ (by simp only []; omega)
  · refine ⟨⟨?_, ?_⟩, Or.inr ?_⟩ <;> simp only [] <;> omega

/-- A head's result is the plain lines'. -/
theorem head_eq (hz : Finite z s) (H : Handed z s n kvp kv q sk B) (h : Fin 2) (p : Fin 4) (r : Fin 128) (d : Fin 64) :
    headOut kvp kv q sk B h p r d = refHead z s n h p r d := by
  unfold headOut refHead
  rw [scores_eq H, sink_eq H]
  refine attend_congr (fine hz n h p r) fun c hc => ?_
  refine band_values H (r := r) (by_contra fun hs => hc ?_) h d
  rw [score, if_neg hs]

/-- A block's rows are the plain lines'. -/
theorem rows_eq (hz : Finite z s) (H : Handed z s n kvp kv q sk B) (r : Fin 128) (j : Fin 512) :
    blkF kvp kv q sk B (ix2 r j) = Cert.AttnFwdRefIdeal.Read.val_main_v75 (F := Ideal) z s (ix2 ⟨128 * n.val + r.val, by omega⟩ j) := by
  obtain ⟨h, p, d, rfl⟩ : ∃ (h : Fin 2) (p : Fin 4) (d : Fin 64), j = ⟨256 * h.val + 64 * p.val + d.val, by omega⟩ :=
    ⟨⟨j.val / 256, by omega⟩, ⟨j.val / 64 % 4, by omega⟩, ⟨j.val % 64, by omega⟩, Fin.ext (by simp only []; omega)⟩
  have hF : Fine (scores kvp kv q (k0_pay3 B) h p r) (sinkOf sk h p r) := by
    rw [scores_eq H, sink_eq H]; exact fine hz n h p r
  exact (blkF_apply kvp kv q sk B h p r d hF).trans ((head_eq hz H h p r d).trans (v75_apply z s n h p r d).symm)

/-- A block's stored rows. -/
theorem stored_eq (hz : Finite z s) (H : Handed z s n kvp kv q sk B) (r : Fin 128) (j : Fin 512) :
    blkO kvp kv q sk B (ix2 r j) = Cert.AttnFwdRefIdeal.Read.val_main_v75 (F := Ideal) z s (ix2 ⟨128 * n.val + r.val, by omega⟩ j) :=
  (blkO_apply kvp kv q sk B _).trans (rows_eq hz H r j)

/-- A block's normalised rows. -/
theorem normed_eq (hz : Finite z s) (H : Handed z s n kvp kv q sk B) (g : FVec Ideal S512 .f32) (g' : FVec Ideal S1x512 .f32)
    (hg : ∀ j, g' (ix2 0 j) = g (ix1 j)) (r : Fin 128) (j : Fin 512) :
    blkY kvp kv q sk B g' (ix2 r j) = Cert.AttnFwdRefIdeal.Read.val_main_v90 (F := Ideal) z s g (ix2 ⟨128 * n.val + r.val, by omega⟩ j) := by
  rw [blkY_eq, normed_apply, v90_apply, hg]
  simp only [rows_eq hz H]

end Cert.AttnFwdGrad

end
-- ==== Proof.AttnFwdHost.lean ====
/-
  The attention's forward call: what the host hands the kernel, and the windows' blocks.
-/
module

public import proofs.«01_k».proof.Defs
public import proofs.«01_k».proof.Proof.Sums
public import proofs.«01_k».proof.Proof.Rms
public import proofs.«01_k».proof.Proof.Attn
public import proofs.«01_k».proof.Proof.AttnFwdRead
public import proofs.«01_k».proof.Proof.AttnFwdRefRead
public import proofs.«01_k».proof.Proof.AttnFwdMatch
public import proofs.«01_k».proof.Proof.Layers
public import proofs.«01_k».proof.Proof.Gen.AttnFwdIdeal.Value
public import proofs.«01_k».proof.Proof.Gen.AttnFwdRefIdeal
public import proofs.«01_k».proof.Proof.Gen.AttnFwdRefIdeal.Read
public import Idealize.ShloMosaic.Lib.Pipeline.ValueKit
public import Idealize.ShloMosaic.Lib.Pointwise
public import Idealize.ShloMosaic.Lib.KernelVsHost
public import Idealize.ShloMosaic.Lib.IdealHost

@[expose] public section

set_option maxRecDepth 16384

noncomputable section

open Idealize.ShloMosaic Idealize.ShloMosaic.TcCoe Idealize.SL.Sem Idealize.ShloMosaic.StableHlo

namespace Cert.AttnFwdGrad

open Cert.AttnFwdIdeal Cert.AttnFwdIdeal.Gen Cert.Attn

variable (m : (l : Loc nD τ sig) → Buf (Elt Ideal) l)

/-- The sinks as the region reads them: each of the eight, 128 times. -/
theorem entry2 (c : Dev nD) (h : Fin 8) (r : Fin 128) :
    (V m c main_v2 : FVec Ideal S1x1024 .f32) (ix2 0 ⟨128 * h.val + r.val, by omega⟩) = (m ((c : Thread nD τ).loc main_arg1) : FVec Ideal S8 .f32) (ix1 h) := by
  unfold V
  simp only [hostOps0, List.flatten_cons, List.flatten_nil, List.cons_append, List.nil_append, List.append_nil,
    TRef.nullary, TRef.unary, TRef.binary, TRef.ternary]
  entry_read
  pointwise
  exact congrArg (m ((c : Thread nD τ).loc main_arg1) : FVec Ideal S8 .f32) (congrArg ix1 (Fin.ext (by simp only []; omega)))

/-- The norm's scale as the region reads it. -/
theorem entry28 (c : Dev nD) (j : Fin 512) :
    (V m c main_v28 : FVec Ideal S1x512 .f32) (ix2 0 j) = (m ((c : Thread nD τ).loc main_arg2) : FVec Ideal S512 .f32) (ix1 j) := by
  unfold V
  simp only [hostOps0, List.flatten_cons, List.flatten_nil, List.cons_append, List.nil_append, List.append_nil,
    TRef.nullary, TRef.unary, TRef.binary, TRef.ternary]
  entry_read
  pointwise

/-- Where a query stands behind a key, and where the key stands in the sequence. -/
theorem mask_kernel : ∀ (r : Fin 128) (k : Fin 256), IntOp.andi (IntOp.cmpi .sgt (BitVec.ofNat 32 k.val) (BitVec.ofNat 32 r.val)) (IntOp.cmpi .sle (BitVec.ofNat 32 k.val) (BitVec.ofNat 32 r.val + 128#32))
    = if r.val < k.val ∧ k.val ≤ r.val + 128 then 1#1 else 0#1 := by decide +kernel

/-- Where the key stands in the block itself. -/
theorem mask_own : ∀ k : Fin 256, IntOp.cmpi .sge (BitVec.ofNat 32 k.val) 128#32 = if 128 ≤ k.val then 1#1 else 0#1 := by decide +kernel

/-- The mask as the region reads it: two, the first block's and any other's; zero where the query sees the key, `-∞` elsewhere. -/
theorem entry27 (c : Dev nD) (n : Fin 64) (b : Fin 2) (hb : b.val = min n.val 1) (k : Fin 256) (p : Fin 4) (r : Fin 128) :
    (V m c main_v27 : FVec Ideal S2x256x512 .f32) (ix3 b k ⟨128 * p.val + r.val, by omega⟩) = if Seen n r k then (0 : EReal) else (⊥ : EReal) := by
  unfold V
  simp only [hostOps0, List.flatten_cons, List.flatten_nil, List.cons_append, List.nil_append, List.append_nil,
    TRef.nullary, TRef.unary, TRef.binary, TRef.ternary]
  entry_read
  pointwise
  simp only [TRef.ofBuf, TRef.toBuf, cast_eq]
  obtain rfl | rfl : b = 0 ∨ b = 1 := by omega
  · pointwise
    rw [show IntOp.addi (BitVec.ofNat 32 r.val) 128#32 = BitVec.ofNat 32 r.val + 128#32 from rfl, mask_kernel, mask_own, bot_f32]
    have hn : n.val = 0 := by have : (0 : ℕ) = min n.val 1 := hb; omega
    by_cases h1 : r.val < k.val ∧ k.val ≤ r.val + 128
    · by_cases h2 : 128 ≤ k.val
      · rw [if_pos h1, if_pos h2, if_pos (show Seen n r k from ⟨h1, Or.inr h2⟩)]; rfl
      · rw [if_pos h1, if_neg h2, if_neg (fun h : Seen n r k => by rcases h.2 with h | h <;> omega)]; rfl
    · rw [if_neg h1, if_neg (fun h : Seen n r k => h1 h.1)]
      by_cases h2 : 128 ≤ k.val
      · rw [if_pos h2]; rfl
      · rw [if_neg h2]; rfl
  · pointwise
    rw [show IntOp.addi (BitVec.ofNat 32 r.val) 128#32 = BitVec.ofNat 32 r.val + 128#32 from rfl, mask_kernel, bot_f32]
    have hn : 0 < n.val := by have : (1 : ℕ) = min n.val 1 := hb; omega
    by_cases h1 : r.val < k.val ∧ k.val ≤ r.val + 128
    · rw [if_pos h1, if_pos (show Seen n r k from ⟨h1, Or.inl hn⟩)]; rfl
    · rw [if_neg h1, if_neg (fun h : Seen n r k => h1 h.1)]; rfl

/-- Where each window's block lies at point `t`. -/
theorem idx : ∀ t : Fin grid0.N, win0_0.index t = ![t.val, 0] ∧ win0_1.index t = ![t.val, 2] ∧ win0_2.index t = ![8 * t.val - 1, 2]
    ∧ win0_3.index t = ![0, 0] ∧ win0_4.index t = ![0, 0, 0] ∧ win0_5.index t = ![0, 0] ∧ win0_6.index t = ![t.val, 0] ∧ win0_7.index t = ![t.val, 0]
    ∧ k0_off1 (grid0.coords t) = ![min t.val 1, 0, 0] := by decide +kernel

/-- Row `r` of block `t`. -/
def row (t : Fin cfg0.N) (r : Fin 1024) : Fin 8192 := ⟨1024 * t.val + r.val, by have := t.isLt; have : t.val < 8 := this; omega⟩

/-- The projected activations. -/
abbrev zOf (c : Dev nD) : FVec Ideal S8192x1792 .bf16 := m ((c : Thread nD τ).loc main_arg0)

/-- A point's block of the queries. -/
theorem blk0 (c : Dev nD) (t : Fin cfg0.N) (r : Fin 1024) (j : Fin 512) :
    (X0_0 m c t : FVec Ideal S1024x512 .bf16) (ix2 r j) = zOf m c (ix2 (row t r) ⟨j.val, by omega⟩) := by
  unfold X0_0 Pipeline.Window.fill
  rw [dif_pos (moved0_0 t _)]
  blk_ext [iblk, V, idx t, row]

/-- A point's block of the keys and values. -/
theorem blk1 (c : Dev nD) (t : Fin cfg0.N) (r : Fin 1024) (j : Fin 256) :
    (iblk m c 1 t : FVec Ideal S1024x256 .bf16) (ix2 r j) = zOf m c (ix2 (row t r) ⟨512 + j.val, by omega⟩) := by
  blk_ext [iblk, V, idx t, row]

/-- The block of keys and values in front of a point's. -/
theorem blk2 (c : Dev nD) (t : Fin cfg0.N) (r : Fin 128) (j : Fin 256) :
    (iblk m c 2 t : FVec Ideal S128x256 .bf16) (ix2 r j)
      = zOf m c (ix2 ⟨128 * (8 * t.val - 1) + r.val, by have := t.isLt; have : t.val < 8 := this; omega⟩ ⟨512 + j.val, by omega⟩) := by
  blk_ext [iblk, V, idx t, row]

/-- The block of the sinks. -/
theorem blk3 (c : Dev nD) (t : Fin cfg0.N) (h : Fin 8) (r : Fin 128) :
    (iblk m c 3 t : FVec Ideal S1x1024 .f32) (ix2 0 ⟨128 * h.val + r.val, by omega⟩) = (m ((c : Thread nD τ).loc main_arg1) : FVec Ideal S8 .f32) (ix1 h) := by
  rw [← entry2 m c h r]
  blk_ext [iblk, idx t]

/-- The block of the mask. -/
theorem blk4 (c : Dev nD) (t : Fin cfg0.N) (n : Fin 64) (b : Fin 2) (hb : b.val = min n.val 1) (k : Fin 256) (p : Fin 4) (r : Fin 128) :
    (iblk m c 4 t : FVec Ideal S2x256x512 .f32) (ix3 b k ⟨128 * p.val + r.val, by omega⟩) = if Seen n r k then (0 : EReal) else (⊥ : EReal) := by
  rw [← entry27 m c n b hb k p r]
  blk_ext [iblk, idx t]

/-- The block of the norm's scale. -/
theorem blk5 (c : Dev nD) (t : Fin cfg0.N) (j : Fin 512) :
    (iblk m c 5 t : FVec Ideal S1x512 .f32) (ix2 0 j) = (m ((c : Thread nD τ).loc main_arg2) : FVec Ideal S512 .f32) (ix1 j) := by
  rw [← entry28 m c j]
  blk_ext [iblk, idx t]

/-- Rows `o` on of a block of keys and values. -/
theorem ld_kv (x : FVec Ideal S1024x256 .bf16) (o : ℕ) (h) (r : Fin 128) (j : Fin 256) (ho : o + 128 ≤ 1024) :
    View.ld (Val := Elt Ideal) (e' := EltTy.bf16) x (Rect.unit ![o, 0] ![128, 256] h) (ix2 r j) = x (ix2 ⟨o + r.val, by omega⟩ j) := by
  refine View.ld_unit_apply_of _ _ _ _ _ _ fun a => ?_
  match a with
  | ⟨0, _⟩ => simp
  | ⟨1, _⟩ => simp

/-- Rows `o` on of a block of queries. -/
theorem ld_q (x : FVec Ideal S1024x512 .bf16) (o : ℕ) (h) (r : Fin 128) (j : Fin 512) (ho : o + 128 ≤ 1024) :
    View.ld (Val := Elt Ideal) (e' := EltTy.bf16) x (Rect.unit ![o, 0] ![128, 512] h) (ix2 r j) = x (ix2 ⟨o + r.val, by omega⟩ j) := by
  refine View.ld_unit_apply_of _ _ _ _ _ _ fun a => ?_
  match a with
  | ⟨0, _⟩ => simp
  | ⟨1, _⟩ => simp

/-- One of the two masks. -/
theorem ld_mask (x : FVec Ideal S2x256x512 .f32) (off : Fin 3 → ℕ) (b : Fin 2) (hoff : off = ![b.val, 0, 0]) (h) (k : Fin 256) (j : Fin 512) :
    View.ld (Val := Elt Ideal) (e' := EltTy.f32) x (Rect.unit off ![1, 256, 512] h) (ix3 0 k j) = x (ix3 b k j) := by
  subst hoff
  refine View.ld_unit_apply_of _ _ _ _ _ _ fun a => ?_
  match a with
  | ⟨0, _⟩ => simp
  | ⟨1, _⟩ => simp
  | ⟨2, _⟩ => simp

/-- Block `b` of point `t`, of the whole sequence's. -/
def seqBlock (t : Fin cfg0.N) (b : Fin 8) : Fin 64 := ⟨8 * t.val + b.val, by have := t.isLt; have : t.val < 8 := this; omega⟩

/-- What a point's first block is handed. -/
theorem handed0 (c : Dev nD) (t : Fin cfg0.N) (h1) (h2) (h3) :
    Handed (zOf m c) (m ((c : Thread nD τ).loc main_arg1)) (seqBlock t 0) (iblk m c 2 t : FVec Ideal S128x256 .bf16)
      (View.ld (Val := Elt Ideal) (e' := EltTy.bf16) (iblk m c 1 t : FVec Ideal S1024x256 .bf16) (Rect.unit ![0, 0] ![128, 256] h1))
      (View.ld (Val := Elt Ideal) (e' := EltTy.bf16) (X0_0 m c t : FVec Ideal S1024x512 .bf16) (Rect.unit ![0, 0] ![128, 512] h2))
      (iblk m c 3 t : FVec Ideal S1x1024 .f32)
      (View.ld (Val := Elt Ideal) (e' := EltTy.f32) (iblk m c 4 t : FVec Ideal S2x256x512 .f32) (Rect.unit (k0_off1 (grid0.coords t)) ![1, 256, 512] h3)) where
  front _ r l := (blk2 m c t r l).trans (congrArg (zOf m c) (congrArg₂ ix2 (Fin.ext (by simp only [seqBlock]; rfl)) rfl))
  own r l := (ld_kv _ 0 h1 r l (by omega)).trans ((blk1 m c t _ l).trans (congrArg (zOf m c) (congrArg₂ ix2 (Fin.ext (by simp only [seqBlock, row, Fin.val_zero]; omega)) rfl)))
  query r l := (ld_q _ 0 h2 r l (by omega)).trans ((blk0 m c t _ l).trans (congrArg (zOf m c) (congrArg₂ ix2 (Fin.ext (by simp only [seqBlock, row, Fin.val_zero]; omega)) rfl)))
  sink h r := blk3 m c t h r
  mask k p r := (ld_mask _ _ ⟨min t.val 1, by omega⟩ (idx t).2.2.2.2.2.2.2.2 h3 k _).trans (blk4 m c t (seqBlock t 0) _ (by simp only [seqBlock, Fin.val_zero]; omega) k p r)

/-- What a point's later blocks are handed. -/
theorem handed (c : Dev nD) (t : Fin cfg0.N) (b : Fin 8) (hb : 0 < b.val) (o o' : ℕ) (ho : o = 128 * b.val) (ho' : o' + 128 = 128 * b.val) (h0) (h1) (h2) (h3) :
    Handed (zOf m c) (m ((c : Thread nD τ).loc main_arg1)) (seqBlock t b)
      (View.ld (Val := Elt Ideal) (e' := EltTy.bf16) (iblk m c 1 t : FVec Ideal S1024x256 .bf16) (Rect.unit ![o', 0] ![128, 256] h0))
      (View.ld (Val := Elt Ideal) (e' := EltTy.bf16) (iblk m c 1 t : FVec Ideal S1024x256 .bf16) (Rect.unit ![o, 0] ![128, 256] h1))
      (View.ld (Val := Elt Ideal) (e' := EltTy.bf16) (X0_0 m c t : FVec Ideal S1024x512 .bf16) (Rect.unit ![o, 0] ![128, 512] h2))
      (iblk m c 3 t : FVec Ideal S1x1024 .f32)
      (View.ld (Val := Elt Ideal) (e' := EltTy.f32) (iblk m c 4 t : FVec Ideal S2x256x512 .f32) (Rect.unit ![1, 0, 0] ![1, 256, 512] h3)) where
  front _ r l := (ld_kv _ o' h0 r l (by omega)).trans ((blk1 m c t _ l).trans (congrArg (zOf m c) (congrArg₂ ix2 (Fin.ext (by simp only [seqBlock, row]; omega)) rfl)))
  own r l := (ld_kv _ o h1 r l (by omega)).trans ((blk1 m c t _ l).trans (congrArg (zOf m c) (congrArg₂ ix2 (Fin.ext (by simp only [seqBlock, row]; omega)) rfl)))
  query r l := (ld_q _ o h2 r l (by omega)).trans ((blk0 m c t _ l).trans (congrArg (zOf m c) (congrArg₂ ix2 (Fin.ext (by simp only [seqBlock, row]; omega)) rfl)))
  sink h r := blk3 m c t h r
  mask k p r := (ld_mask _ _ 1 rfl h3 k _).trans (blk4 m c t (seqBlock t b) 1 (by simp only [seqBlock]; omega) k p r)

end Cert.AttnFwdGrad

end
-- ==== Proof.AttnFwdValue.lean ====
/-
  The attention's forward call: each grid point's eight blocks, its two results after the run at an index, the precondition
  read, and the value claim.
-/
module

public import proofs.«01_k».proof.Defs
public import proofs.«01_k».proof.Proof.Sums
public import proofs.«01_k».proof.Proof.Rms
public import proofs.«01_k».proof.Proof.Attn
public import proofs.«01_k».proof.Proof.AttnFwdRead
public import proofs.«01_k».proof.Proof.AttnFwdRefRead
public import proofs.«01_k».proof.Proof.AttnFwdMatch
public import proofs.«01_k».proof.Proof.AttnFwdBlocks
public import proofs.«01_k».proof.Proof.AttnFwdHost
public import proofs.«01_k».proof.Proof.Gen.Pre_finite_scores
public import Idealize.ShloMosaic.Lib.ReduceAll
public import proofs.«01_k».proof.Proof.Layers
public import proofs.«01_k».proof.Proof.Gen.AttnFwdIdeal.Value
public import proofs.«01_k».proof.Proof.Gen.AttnFwdRefIdeal
public import proofs.«01_k».proof.Proof.Gen.AttnFwdRefIdeal.Read
public import Idealize.ShloMosaic.Lib.Pipeline.ValueKit
public import Idealize.ShloMosaic.Lib.Pointwise
public import Idealize.ShloMosaic.Lib.KernelVsHost
public import Idealize.ShloMosaic.Lib.IdealHost

@[expose] public section

set_option maxRecDepth 16384

noncomputable section

open Idealize.ShloMosaic Idealize.ShloMosaic.TcCoe Idealize.SL.Sem Idealize.ShloMosaic.StableHlo

namespace Cert.AttnFwdGrad

open Cert.AttnFwdIdeal Cert.AttnFwdIdeal.Gen Cert.Attn

variable (m : (l : Loc nD τ sig) → Buf (Elt Ideal) l)

/-- The heads' sinks. -/
abbrev sOf (c : Dev nD) : FVec Ideal S8 .f32 := m ((c : Thread nD τ).loc main_arg1)
/-- The norm's scale. -/
abbrev gOf (c : Dev nD) : FVec Ideal S512 .f32 := m ((c : Thread nD τ).loc main_arg2)
/-- The attention's rows. -/
abbrev oOf (c : Dev nD) : FVec Ideal S8192x512 .f32 := Cert.AttnFwdRefIdeal.Read.val_main_v75 (F := Ideal) (zOf m c) (sOf m c)
/-- The normalised rows. -/
abbrev yOf (c : Dev nD) : FVec Ideal S8192x512 .bf16 := Cert.AttnFwdRefIdeal.Read.val_main_v90 (F := Ideal) (zOf m c) (sOf m c) (gOf m c)

/-- A row of a block is a row of the point's. -/
theorem place (t : Fin cfg0.N) (b : Fin 8) (o : ℕ) (ho : o = 128 * b.val) (x : S128x512.Idx) (r : Fin 1024) (l : Fin 512) (h0 : r.val = o + (x 0).val) (h1 : l.val = (x 1).val) :
    (ix2 ⟨128 * (seqBlock t b).val + (x 0).val, by have := (x 0).isLt; have : (x 0).val < 128 := this; omega⟩ (x 1) : S8192x512.Idx) = ix2 (row t r) l := by
  obtain rfl : l = x 1 := Fin.ext h1
  exact congrArg₂ ix2 (Fin.ext (by simp only [seqBlock, row]; omega)) rfl

/-- The attention's rows after point `t`. -/
theorem outs6 (c : Dev nD) (hz : Finite (zOf m c) (sOf m c)) (t : Fin cfg0.N) (r : Fin 1024) (l : Fin 512) :
    ((outsAt0 m c t).1 : FVec Ideal S1024x512 .bf16) (ix2 r l) = oOf m c (ix2 (row t r) l) := by
  unfold outsAt0 out0_A_6
  frame_out
  canon_tiles x h
  · rw [eq_ix2 x]
    refine (congrFun (sameO7 _ _ _ _ _) _).trans ?_
    exact (stored_eq hz (handed m c t 7 (by decide) 896 768 rfl rfl _ _ _ _) (x 0) (x 1)).trans (congrArg _ (place t 7 896 rfl x r l (by simpa using h0) (by simpa using h1)))
  · rw [eq_ix2 x]
    refine (congrFun (sameO6 _ _ _ _ _) _).trans ?_
    exact (stored_eq hz (handed m c t 6 (by decide) 768 640 rfl rfl _ _ _ _) (x 0) (x 1)).trans (congrArg _ (place t 6 768 rfl x r l (by simpa using h0) (by simpa using h1)))
  · rw [eq_ix2 x]
    refine (congrFun (sameO5 _ _ _ _ _) _).trans ?_
    exact (stored_eq hz (handed m c t 5 (by decide) 640 512 rfl rfl _ _ _ _) (x 0) (x 1)).trans (congrArg _ (place t 5 640 rfl x r l (by simpa using h0) (by simpa using h1)))
  · rw [eq_ix2 x]
    refine (congrFun (sameO4 _ _ _ _ _) _).trans ?_
    exact (stored_eq hz (handed m c t 4 (by decide) 512 384 rfl rfl _ _ _ _) (x 0) (x 1)).trans (congrArg _ (place t 4 512 rfl x r l (by simpa using h0) (by simpa using h1)))
  · rw [eq_ix2 x]
    refine (congrFun (sameO3 _ _ _ _ _) _).trans ?_
    exact (stored_eq hz (handed m c t 3 (by decide) 384 256 rfl rfl _ _ _ _) (x 0) (x 1)).trans (congrArg _ (place t 3 384 rfl x r l (by simpa using h0) (by simpa using h1)))
  · rw [eq_ix2 x]
    refine (congrFun (sameO2 _ _ _ _ _) _).trans ?_
    exact (stored_eq hz (handed m c t 2 (by decide) 256 128 rfl rfl _ _ _ _) (x 0) (x 1)).trans (congrArg _ (place t 2 256 rfl x r l (by simpa using h0) (by simpa using h1)))
  · rw [eq_ix2 x]
    refine (congrFun (sameO1 _ _ _ _ _) _).trans ?_
    exact (stored_eq hz (handed m c t 1 (by decide) 128 0 rfl rfl _ _ _ _) (x 0) (x 1)).trans (congrArg _ (place t 1 128 rfl x r l (by simpa using h0) (by simpa using h1)))
  · rw [eq_ix2 x]
    exact (stored_eq hz (handed0 m c t _ _ _) (x 0) (x 1)).trans (congrArg _ (place t 0 0 rfl x r l (by simpa using h0) (by simpa using h1)))

/-- The normalised rows after point `t`. -/
theorem outs7 (c : Dev nD) (hz : Finite (zOf m c) (sOf m c)) (t : Fin cfg0.N) (r : Fin 1024) (l : Fin 512) :
    ((outsAt0 m c t).2 : FVec Ideal S1024x512 .bf16) (ix2 r l) = yOf m c (ix2 (row t r) l) := by
  unfold outsAt0 out0_A_7
  frame_out
  canon_tiles x h
  · rw [eq_ix2 x]
    refine (congrFun (sameY7 _ _ _ _ _ _) _).trans ?_
    exact (normed_eq hz (handed m c t 7 (by decide) 896 768 rfl rfl _ _ _ _) (gOf m c) _ (blk5 m c t) (x 0) (x 1)).trans (congrArg _ (place t 7 896 rfl x r l (by simpa using h0) (by simpa using h1)))
  · rw [eq_ix2 x]
    refine (congrFun (sameY6 _ _ _ _ _ _) _).trans ?_
    exact (normed_eq hz (handed m c t 6 (by decide) 768 640 rfl rfl _ _ _ _) (gOf m c) _ (blk5 m c t) (x 0) (x 1)).trans (congrArg _ (place t 6 768 rfl x r l (by simpa using h0) (by simpa using h1)))
  · rw [eq_ix2 x]
    refine (congrFun (sameY5 _ _ _ _ _ _) _).trans ?_
    exact (normed_eq hz (handed m c t 5 (by decide) 640 512 rfl rfl _ _ _ _) (gOf m c) _ (blk5 m c t) (x 0) (x 1)).trans (congrArg _ (place t 5 640 rfl x r l (by simpa using h0) (by simpa using h1)))
  · rw [eq_ix2 x]
    refine (congrFun (sameY4 _ _ _ _ _ _) _).trans ?_
    exact (normed_eq hz (handed m c t 4 (by decide) 512 384 rfl rfl _ _ _ _) (gOf m c) _ (blk5 m c t) (x 0) (x 1)).trans (congrArg _ (place t 4 512 rfl x r l (by simpa using h0) (by simpa using h1)))
  · rw [eq_ix2 x]
    refine (congrFun (sameY3 _ _ _ _ _ _) _).trans ?_
    exact (normed_eq hz (handed m c t 3 (by decide) 384 256 rfl rfl _ _ _ _) (gOf m c) _ (blk5 m c t) (x 0) (x 1)).trans (congrArg _ (place t 3 384 rfl x r l (by simpa using h0) (by simpa using h1)))
  · rw [eq_ix2 x]
    refine (congrFun (sameY2 _ _ _ _ _ _) _).trans ?_
    exact (normed_eq hz (handed m c t 2 (by decide) 256 128 rfl rfl _ _ _ _) (gOf m c) _ (blk5 m c t) (x 0) (x 1)).trans (congrArg _ (place t 2 256 rfl x r l (by simpa using h0) (by simpa using h1)))
  · rw [eq_ix2 x]
    refine (congrFun (sameY1 _ _ _ _ _ _) _).trans ?_
    exact (normed_eq hz (handed m c t 1 (by decide) 128 0 rfl rfl _ _ _ _) (gOf m c) _ (blk5 m c t) (x 0) (x 1)).trans (congrArg _ (place t 1 128 rfl x r l (by simpa using h0) (by simpa using h1)))
  · rw [eq_ix2 x]
    exact (normed_eq hz (handed0 m c t _ _ _) (gOf m c) _ (blk5 m c t) (x 0) (x 1)).trans (congrArg _ (place t 0 0 rfl x r l (by simpa using h0) (by simpa using h1)))

/-- The attention's rows, whole. -/
theorem arr6 (c : Dev nD) (hz : Finite (zOf m c) (sOf m c)) : (dats m 0 c).arrAt 6 cfg0.N = oOf m c := by
  refine (dats m 0 c).arrAt_eq_of_covers 6 _ (by decide +kernel) fun t hf y => ?_
  obtain ⟨r, j, rfl⟩ : ∃ r j, y = ix2 r j := ⟨_, _, eq_ix2 y⟩
  blk_simp
  rw [after0_6]
  refine (outs6 m c hz t r j).trans (congrArg (oOf m c) ((congrArg₂ ix2 (Fin.ext ?_) (Fin.ext ?_)).trans (eq_ix2 _).symm))
  all_goals blk_simp [idx t]
  all_goals (try simp only [row]; omega)

/-- The normalised rows, whole. -/
theorem arr7 (c : Dev nD) (hz : Finite (zOf m c) (sOf m c)) : (dats m 0 c).arrAt 7 cfg0.N = yOf m c := by
  refine (dats m 0 c).arrAt_eq_of_covers 7 _ (by decide +kernel) fun t hf y => ?_
  obtain ⟨r, j, rfl⟩ : ∃ r j, y = ix2 r j := ⟨_, _, eq_ix2 y⟩
  blk_simp
  rw [after0_7]
  refine (outs7 m c hz t r j).trans (congrArg (yOf m c) ((congrArg₂ ix2 (Fin.ext ?_) (Fin.ext ?_)).trans (eq_ix2 _).symm))
  all_goals blk_simp [idx t]
  all_goals (try simp only [row]; omega)

/-- A comparison's bit that is one. -/
theorem ofBool_one (b : Bool) (h : BitVec.ofBool b = 1#1) : b = true := by
  cases b
  · exact absurd h (by decide)
  · rfl

/-- Below `+∞` in absolute value is real. -/
theorem real_of_abs (x : EReal) (h : max x (-x) < ⊤) : IsReal x := by
  constructor
  · rintro rfl
    exact absurd h (by simp)
  · rintro rfl
    exact absurd h (by simp)

/-- The precondition: the queries and keys are finite and no sink is `+∞`. -/
theorem finite_of_pre (h : Cert.Pre_AttnFwdIdeal_finite_scores (hPre_finite_scores := Cert.Pre_finite_scores.Gen.facts) m) (c : Dev nD) : Finite (zOf m c) (sOf m c) := by
  have e := congrFun (h c) ix0
  dsimp only [Cert.Pre_finite_scores.fn] at e
  have e2 := IntOp.andi_eq_one.1 e
  obtain ⟨ez, es⟩ := e2
  constructor
  · intro i j hj
    have q := Host.reduce_andi_all _ _ _ _ _ ez (ix2 i ⟨j.val, hj⟩)
    revert q
    pointwise
    rw [top_f32]
    intro q
    exact real_of_abs _ (of_decide_eq_true (ofBool_one _ q))
  · intro h
    have q := Host.reduce_andi_all _ _ _ _ _ es (ix1 h)
    revert q
    pointwise
    rw [top_f32]
    intro q
    exact (of_decide_eq_true (ofBool_one _ q)).ne

end Cert.AttnFwdGrad

namespace Cert.AttnFwdGrad

open Cert.AttnFwdRefIdeal Cert.AttnFwdRefIdeal.Read

/-- The plain lines leave their arguments and stop quietly: they use no semaphore. -/
theorem plainFrame : Cert.quiescent_AttnFwdRefIdeal (hAttnFwdRefIdeal := Cert.AttnFwdRefIdeal.Gen.facts) := fun m ρ _ =>
  (θ_run _ _ _).mono (fun r h => ⟨fun c => (h c).2.2, sem_eq_zero_of_no_sems (by decide) r.2⟩) (Cert.AttnFwdRefIdeal.Value.run m ρ)

/-- Over the reals with infinities, the call and the plain lines have the same results, where the scores are finite. -/
theorem algebraic : Cert.algebraic_AttnFwdIdeal_AttnFwdRefIdeal_pre_finite_scores (hAttnFwdIdeal := Cert.AttnFwdIdeal.Gen.facts)
    (hAttnFwdRefIdeal := Cert.AttnFwdRefIdeal.Gen.facts) (hPre_finite_scores := Cert.Pre_finite_scores.Gen.facts) := by
  intro m g m' g' hp hm
  have hz := finite_of_pre m hp
  refine ⟨fun c => oOf m c, fun c => yOf m c, ?_, ?_⟩
  · refine (θ_run _ _ _).mono (fun r h c => ?_) (Cert.AttnFwdIdeal.Value.run_blocks m g)
    obtain ⟨h0, h1, ha⟩ := h c
    exact ⟨h0.trans (arr6 m c (hz c)), h1.trans (arr7 m c (hz c)), ha⟩
  · refine (θ_run _ _ _).mono (fun r h c => ?_) (Cert.AttnFwdRefIdeal.Value.run m' g')
    obtain ⟨h0, h1, ha⟩ := h c
    obtain ⟨e0, e1, e2⟩ := hm c
    refine ⟨(h0.trans (val_main_v76_eq _ _)).trans ?_, (h1.trans (val_main_v90_eq _ _)).trans ?_, ha⟩
    · rw [e0, e1]; rfl
    · rw [e0, e1, e2]

end Cert.AttnFwdGrad

end
-- ==== Proof.Adam.lean ====
/-
  One step of the optimiser for a single weight, over the reals with infinities.
-/
module

public import Idealize.ShloMosaic.Lib.IdealHost

@[expose] public section

noncomputable section

open Idealize.ShloMosaic

namespace Cert.Adam

/-- The new mean of the gradients: nine tenths of the old one `m` and a tenth of the gradient `g`. -/
def mean (g m : EReal) : EReal := Ideal.ofBits .f32 0x3F666666#32 * m + Ideal.ofBits .f32 0x3DCCCCCD#32 * g

/-- The new mean of the squared gradients: 0.999 of the old one `v` and 0.001 of the gradient's square. -/
def square (g v : EReal) : EReal := Ideal.ofBits .f32 0x3F7FBE77#32 * v + Ideal.ofBits .f32 0x3A83126F#32 * (g * g)

/-- The weight's change: −0.001 of the mean over the root of the squares' mean, both freed of their start at zero by the
    divisors 1 − 0.9¹⁰ and 1 − 0.999¹⁰, with 0.01 of the weight `w` added. -/
def change (w g m v : EReal) : EReal :=
  Ideal.ofBits .f32 0xBA83126F#32
    * (Ideal.div (Ideal.div (mean g m) (Ideal.ofBits .f32 0x3F26BD02#32))
        (Ideal.sqrt (Ideal.div (square g v) (Ideal.ofBits .f32 0x3C231ACC#32)) + Ideal.ofBits .f32 0x322BCC77#32)
      + Ideal.ofBits .f32 0x3C23D70A#32 * w)

end Cert.Adam

end
-- ==== Proof.AdamUpValue.lean ====
/-
  The optimiser's step of the feed-forward layer's weights: each grid point opened, the four results after the run at an index, the plain
  lines read at an index, and the value claim.
-/
module

public import proofs.«01_k».proof.Defs
public import proofs.«01_k».proof.Proof.Adam
public import proofs.«01_k».proof.Proof.Gen.AdamUpIdeal.Value
public import proofs.«01_k».proof.Proof.Gen.AdamUpRefIdeal
public import proofs.«01_k».proof.Proof.Gen.AdamUpRefIdeal.Read
public import Idealize.ShloMosaic.Lib.Pipeline.ValueKit
public import Idealize.ShloMosaic.Lib.Pointwise
public import Idealize.ShloMosaic.Lib.KernelVsHost
public import Idealize.ShloMosaic.Lib.IdealHost

@[expose] public section

set_option maxRecDepth 16384

noncomputable section

open Idealize.ShloMosaic Idealize.ShloMosaic.TcCoe Idealize.SL.Sem Idealize.ShloMosaic.StableHlo

namespace Cert.AdamUpGrad

open Cert.AdamUpIdeal Cert.AdamUpIdeal.Gen Cert.Adam

variable (m : (l : Loc nD τ sig) → Buf (Elt Ideal) l)

/-- Where each window's block lies at point `t`: all eight move together. -/
theorem idx : ∀ t : Fin grid0.N, win0_0.index t = ![t.val / 2, t.val % 2, 0] ∧ win0_1.index t = ![t.val / 2, t.val % 2, 0] ∧ win0_2.index t = ![t.val / 2, t.val % 2, 0] ∧ win0_3.index t = ![t.val / 2, t.val % 2, 0] ∧ win0_4.index t = ![t.val / 2, t.val % 2, 0] ∧ win0_5.index t = ![t.val / 2, t.val % 2, 0] ∧ win0_6.index t = ![t.val / 2, t.val % 2, 0] ∧ win0_7.index t = ![t.val / 2, t.val % 2, 0] := by decide +kernel

/-- A block of the new mean of the gradients at an index. -/
theorem mean_apply (g mm : FVec Ideal S1x512x1024 .f32) (r : Fin 512) (j : Fin 1024) :
    k0_pay1 (F := Ideal) g mm (ix3 0 r j) = mean (g (ix3 0 r j)) (mm (ix3 0 r j)) := by
  pointwise [k0_pay1]
  rfl

/-- A block of the new mean of the squared gradients at an index. -/
theorem square_apply (g v : FVec Ideal S1x512x1024 .f32) (r : Fin 512) (j : Fin 1024) :
    k0_pay2 (F := Ideal) g v (ix3 0 r j) = square (g (ix3 0 r j)) (v (ix3 0 r j)) := by
  pointwise [k0_pay2]
  rfl

/-- A block of the weights' change at an index. -/
theorem change_apply (g w mm v : FVec Ideal S1x512x1024 .f32) (r : Fin 512) (j : Fin 1024) :
    k0_pay3 (F := Ideal) g w mm v (ix3 0 r j) = change (w (ix3 0 r j)) (g (ix3 0 r j)) (mm (ix3 0 r j)) (v (ix3 0 r j)) := by
  pointwise [k0_pay3, k0_pay1, k0_pay2]
  rfl

/-! The arguments at a layer, a row and a column. -/

/-- The weights. -/
def wOf (c : Dev nD) (l : Fin 2) (s : Fin 1024) (j : Fin 1024) : EReal := (m ((c : Thread nD τ).loc main_arg0) : FVec Ideal S2x1024x1024 .f32) (ix3 l s j)
/-- The gradient. -/
def gOf (c : Dev nD) (l : Fin 2) (s : Fin 1024) (j : Fin 1024) : EReal := (m ((c : Thread nD τ).loc main_arg1) : FVec Ideal S2x1024x1024 .f32) (ix3 l s j)
/-- The mean of the gradients. -/
def mOf (c : Dev nD) (l : Fin 2) (s : Fin 1024) (j : Fin 1024) : EReal := (m ((c : Thread nD τ).loc main_arg2) : FVec Ideal S2x1024x1024 .f32) (ix3 l s j)
/-- The mean of the squared gradients. -/
def vOf (c : Dev nD) (l : Fin 2) (s : Fin 1024) (j : Fin 1024) : EReal := (m ((c : Thread nD τ).loc main_arg3) : FVec Ideal S2x1024x1024 .f32) (ix3 l s j)

/-- The layer of block `t`. -/
def layer (t : Fin cfg0.N) : Fin 2 := ⟨t.val / 2, by have := t.isLt; have : t.val < 4 := this; omega⟩

/-- Row `r` of block `t`. -/
def row (t : Fin cfg0.N) (r : Fin 512) : Fin 1024 := ⟨512 * (t.val % 2) + r.val, by have := t.isLt; have : t.val < 4 := this; omega⟩

/-- A point's block of the weights. -/
theorem blk0 (c : Dev nD) (t : Fin cfg0.N) (r : Fin 512) (j : Fin 1024) :
    (iblk m c 0 t : FVec Ideal S1x512x1024 .f32) (ix3 0 r j) = wOf m c (layer t) (row t r) j := by
  unfold wOf
  blk_ext [iblk, V, idx t, row, layer]

/-- A point's block of the gradient. -/
theorem blk1 (c : Dev nD) (t : Fin cfg0.N) (r : Fin 512) (j : Fin 1024) :
    (iblk m c 1 t : FVec Ideal S1x512x1024 .f32) (ix3 0 r j) = gOf m c (layer t) (row t r) j := by
  unfold gOf
  blk_ext [iblk, V, idx t, row, layer]

/-- A point's block of the mean of the gradients. -/
theorem blk2 (c : Dev nD) (t : Fin cfg0.N) (r : Fin 512) (j : Fin 1024) :
    (iblk m c 2 t : FVec Ideal S1x512x1024 .f32) (ix3 0 r j) = mOf m c (layer t) (row t r) j := by
  unfold mOf
  blk_ext [iblk, V, idx t, row, layer]

/-- A point's block of the mean of the squared gradients. -/
theorem blk3 (c : Dev nD) (t : Fin cfg0.N) (r : Fin 512) (j : Fin 1024) :
    (iblk m c 3 t : FVec Ideal S1x512x1024 .f32) (ix3 0 r j) = vOf m c (layer t) (row t r) j := by
  unfold vOf
  blk_ext [iblk, V, idx t, row, layer]

/-- The change of the weights. -/
def changes (c : Dev nD) (l : Fin 2) (s : Fin 1024) (j : Fin 1024) : EReal := change (wOf m c l s j) (gOf m c l s j) (mOf m c l s j) (vOf m c l s j)

/-- The new mean of the gradients. -/
def means (c : Dev nD) (l : Fin 2) (s : Fin 1024) (j : Fin 1024) : EReal := mean (gOf m c l s j) (mOf m c l s j)

/-- The new mean of the squared gradients. -/
def squares (c : Dev nD) (l : Fin 2) (s : Fin 1024) (j : Fin 1024) : EReal := square (gOf m c l s j) (vOf m c l s j)

/-- A block of the gradient, unchanged, after point `t`. -/
theorem outs4 (c : Dev nD) (t : Fin cfg0.N) (r : Fin 512) (j : Fin 1024) :
    ((dats m 0 c).after 4 t : FVec Ideal S1x512x1024 .f32) (ix3 0 r j) = gOf m c (layer t) (row t r) j := by
  rw [after0_4]
  unfold out0_4
  frame_out
  exact blk1 m c t r j

/-- The gradient, unchanged, as a whole array. -/
theorem arr4 (c : Dev nD) : (dats m 0 c).arrAt 4 cfg0.N = fun i : S2x1024x1024.Idx => gOf m c (i 0) (i 1) (i 2) := by
  refine (dats m 0 c).arrAt_eq_of_covers 4 _ (by decide +kernel) fun t hf y => ?_
  obtain ⟨z, r, j, rfl⟩ : ∃ z r j, y = ix3 z r j := ⟨_, _, _, eq_ix3 y⟩
  obtain rfl : z = 0 := Fin.eq_zero z
  blk_simp
  refine (outs4 m c t r j).trans (congr (congr (congrArg (gOf m c) (Fin.ext ?_)) (Fin.ext ?_)) (Fin.ext ?_))
  all_goals blk_simp [idx t]
  all_goals (first | (simp only [row, layer]; done) | (simp only [row, layer]; omega) | skip)

/-- A block of the change of the weights, after point `t`. -/
theorem outs5 (c : Dev nD) (t : Fin cfg0.N) (r : Fin 512) (j : Fin 1024) :
    ((dats m 0 c).after 5 t : FVec Ideal S1x512x1024 .f32) (ix3 0 r j) = changes m c (layer t) (row t r) j := by
  rw [after0_5]
  unfold out0_5
  frame_out
  refine (change_apply _ _ _ _ r j).trans ?_
  unfold changes
  simp only [blk0, blk1, blk2, blk3]

/-- The change of the weights, as a whole array. -/
theorem arr5 (c : Dev nD) : (dats m 0 c).arrAt 5 cfg0.N = fun i : S2x1024x1024.Idx => changes m c (i 0) (i 1) (i 2) := by
  refine (dats m 0 c).arrAt_eq_of_covers 5 _ (by decide +kernel) fun t hf y => ?_
  obtain ⟨z, r, j, rfl⟩ : ∃ z r j, y = ix3 z r j := ⟨_, _, _, eq_ix3 y⟩
  obtain rfl : z = 0 := Fin.eq_zero z
  blk_simp
  refine (outs5 m c t r j).trans (congr (congr (congrArg (changes m c) (Fin.ext ?_)) (Fin.ext ?_)) (Fin.ext ?_))
  all_goals blk_simp [idx t]
  all_goals (first | (simp only [row, layer]; done) | (simp only [row, layer]; omega) | skip)

/-- A block of the new mean of the gradients, after point `t`. -/
theorem outs6 (c : Dev nD) (t : Fin cfg0.N) (r : Fin 512) (j : Fin 1024) :
    ((dats m 0 c).after 6 t : FVec Ideal S1x512x1024 .f32) (ix3 0 r j) = means m c (layer t) (row t r) j := by
  rw [after0_6]
  unfold out0_6
  frame_out
  refine (mean_apply _ _ r j).trans ?_
  unfold means
  simp only [blk0, blk1, blk2, blk3]

/-- The new mean of the gradients, as a whole array. -/
theorem arr6 (c : Dev nD) : (dats m 0 c).arrAt 6 cfg0.N = fun i : S2x1024x1024.Idx => means m c (i 0) (i 1) (i 2) := by
  refine (dats m 0 c).arrAt_eq_of_covers 6 _ (by decide +kernel) fun t hf y => ?_
  obtain ⟨z, r, j, rfl⟩ : ∃ z r j, y = ix3 z r j := ⟨_, _, _, eq_ix3 y⟩
  obtain rfl : z = 0 := Fin.eq_zero z
  blk_simp
  refine (outs6 m c t r j).trans (congr (congr (congrArg (means m c) (Fin.ext ?_)) (Fin.ext ?_)) (Fin.ext ?_))
  all_goals blk_simp [idx t]
  all_goals (first | (simp only [row, layer]; done) | (simp only [row, layer]; omega) | skip)

/-- A block of the new mean of the squared gradients, after point `t`. -/
theorem outs7 (c : Dev nD) (t : Fin cfg0.N) (r : Fin 512) (j : Fin 1024) :
    ((dats m 0 c).after 7 t : FVec Ideal S1x512x1024 .f32) (ix3 0 r j) = squares m c (layer t) (row t r) j := by
  rw [after0_7]
  unfold out0_7
  frame_out
  refine (square_apply _ _ r j).trans ?_
  unfold squares
  simp only [blk0, blk1, blk2, blk3]

/-- The new mean of the squared gradients, as a whole array. -/
theorem arr7 (c : Dev nD) : (dats m 0 c).arrAt 7 cfg0.N = fun i : S2x1024x1024.Idx => squares m c (i 0) (i 1) (i 2) := by
  refine (dats m 0 c).arrAt_eq_of_covers 7 _ (by decide +kernel) fun t hf y => ?_
  obtain ⟨z, r, j, rfl⟩ : ∃ z r j, y = ix3 z r j := ⟨_, _, _, eq_ix3 y⟩
  obtain rfl : z = 0 := Fin.eq_zero z
  blk_simp
  refine (outs7 m c t r j).trans (congr (congr (congrArg (squares m c) (Fin.ext ?_)) (Fin.ext ?_)) (Fin.ext ?_))
  all_goals blk_simp [idx t]
  all_goals (first | (simp only [row, layer]; done) | (simp only [row, layer]; omega) | skip)

end Cert.AdamUpGrad

namespace Cert.AdamUpGrad

open Cert.AdamUpRefIdeal Cert.AdamUpRefIdeal.Read Cert.Adam

/-- The plain change of the weights at an index. -/
theorem plain23_apply (x0 : FVec Ideal S2x1024x1024 .f32) (x1 : FVec Ideal S2x1024x1024 .f32) (x2 : FVec Ideal S2x1024x1024 .f32) (x3 : FVec Ideal S2x1024x1024 .f32) (l : Fin 2) (s : Fin 1024) (j : Fin 1024) :
    val_main_v23 (F := Ideal) x0 x1 x2 x3 (ix3 l s j) = change (x0 (ix3 l s j)) (x1 (ix3 l s j)) (x2 (ix3 l s j)) (x3 (ix3 l s j)) := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

/-- The plain change of the weights as a whole array. -/
theorem plain23 (x0 : FVec Ideal S2x1024x1024 .f32) (x1 : FVec Ideal S2x1024x1024 .f32) (x2 : FVec Ideal S2x1024x1024 .f32) (x3 : FVec Ideal S2x1024x1024 .f32) :
    val_main_v23 (F := Ideal) x0 x1 x2 x3 = fun i : S2x1024x1024.Idx => (fun (l : Fin 2) (s : Fin 1024) (j : Fin 1024) => change (x0 (ix3 l s j)) (x1 (ix3 l s j)) (x2 (ix3 l s j)) (x3 (ix3 l s j))) (i 0) (i 1) (i 2) :=
  funext fun i => (congrArg _ (eq_ix3 i)).trans (plain23_apply x0 x1 x2 x3 (i 0) (i 1) (i 2))

/-- The plain new mean of the gradients at an index. -/
theorem plain4_apply (x1 : FVec Ideal S2x1024x1024 .f32) (x2 : FVec Ideal S2x1024x1024 .f32) (l : Fin 2) (s : Fin 1024) (j : Fin 1024) :
    val_main_v4 (F := Ideal) x1 x2 (ix3 l s j) = mean (x1 (ix3 l s j)) (x2 (ix3 l s j)) := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

/-- The plain new mean of the gradients as a whole array. -/
theorem plain4 (x1 : FVec Ideal S2x1024x1024 .f32) (x2 : FVec Ideal S2x1024x1024 .f32) :
    val_main_v4 (F := Ideal) x1 x2 = fun i : S2x1024x1024.Idx => (fun (l : Fin 2) (s : Fin 1024) (j : Fin 1024) => mean (x1 (ix3 l s j)) (x2 (ix3 l s j))) (i 0) (i 1) (i 2) :=
  funext fun i => (congrArg _ (eq_ix3 i)).trans (plain4_apply x1 x2 (i 0) (i 1) (i 2))

/-- The plain new mean of the squared gradients at an index. -/
theorem plain10_apply (x1 : FVec Ideal S2x1024x1024 .f32) (x3 : FVec Ideal S2x1024x1024 .f32) (l : Fin 2) (s : Fin 1024) (j : Fin 1024) :
    val_main_v10 (F := Ideal) x1 x3 (ix3 l s j) = square (x1 (ix3 l s j)) (x3 (ix3 l s j)) := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

/-- The plain new mean of the squared gradients as a whole array. -/
theorem plain10 (x1 : FVec Ideal S2x1024x1024 .f32) (x3 : FVec Ideal S2x1024x1024 .f32) :
    val_main_v10 (F := Ideal) x1 x3 = fun i : S2x1024x1024.Idx => (fun (l : Fin 2) (s : Fin 1024) (j : Fin 1024) => square (x1 (ix3 l s j)) (x3 (ix3 l s j))) (i 0) (i 1) (i 2) :=
  funext fun i => (congrArg _ (eq_ix3 i)).trans (plain10_apply x1 x3 (i 0) (i 1) (i 2))

/-- The plain lines leave their arguments and stop quietly: they use no semaphore. -/
theorem plainFrame : Cert.quiescent_AdamUpRefIdeal (hAdamUpRefIdeal := Cert.AdamUpRefIdeal.Gen.facts) := fun m ρ _ =>
  (θ_run _ _ _).mono (fun r h => ⟨fun c => (h c).2.2.2.2, sem_eq_zero_of_no_sems (by decide) r.2⟩) (Cert.AdamUpRefIdeal.Value.run m ρ)

/-- Over the reals with infinities, the call and the plain lines have the same four results. -/
theorem algebraic : Cert.algebraic_AdamUpIdeal_AdamUpRefIdeal (hAdamUpIdeal := Cert.AdamUpIdeal.Gen.facts) (hAdamUpRefIdeal := Cert.AdamUpRefIdeal.Gen.facts) := by
  intro m g m' g' _ hm
  refine ⟨fun c => fun i : Cert.AdamUpIdeal.S2x1024x1024.Idx => gOf m c (i 0) (i 1) (i 2),
    fun c => fun i : Cert.AdamUpIdeal.S2x1024x1024.Idx => changes m c (i 0) (i 1) (i 2),
    fun c => fun i : Cert.AdamUpIdeal.S2x1024x1024.Idx => means m c (i 0) (i 1) (i 2),
    fun c => fun i : Cert.AdamUpIdeal.S2x1024x1024.Idx => squares m c (i 0) (i 1) (i 2), ?_, ?_⟩
  · refine (θ_run _ _ _).mono (fun r h c => ?_) (Cert.AdamUpIdeal.Value.run_blocks m g)
    obtain ⟨h0, h1, h2, h3, ha⟩ := h c
    exact ⟨h0.trans (arr4 m c), h1.trans (arr5 m c), h2.trans (arr6 m c), h3.trans (arr7 m c), ha⟩
  · refine (θ_run _ _ _).mono (fun r h c => ?_) (Cert.AdamUpRefIdeal.Value.run m' g')
    obtain ⟨h0, h1, h2, h3, ha⟩ := h c
    obtain ⟨e0, e1, e2, e3⟩ := hm c
    refine ⟨h0.trans ?_, (h1.trans (val_main_v23_eq _ _ _ _)).trans ?_, (h2.trans (val_main_v4_eq _ _)).trans ?_,
      (h3.trans (val_main_v10_eq _ _)).trans ?_, ha⟩
    · rw [e1]
      exact funext fun i => congrArg (m ((c.tc : Thread Cert.AdamUpIdeal.nD Cert.AdamUpIdeal.τ).loc Cert.AdamUpIdeal.main_arg1)) (eq_ix3 i)
    · refine (plain23 _ _ _ _).trans ?_
      rw [e0, e1, e2, e3]; rfl
    · refine (plain4 _ _).trans ?_
      rw [e1, e2]; rfl
    · refine (plain10 _ _).trans ?_
      rw [e1, e3]; rfl

end Cert.AdamUpGrad

end
-- ==== Proof.AdamOutValue.lean ====
/-
  The optimiser's step of the output projection's weights: each grid point opened, the four results after the run at an index, the plain
  lines read at an index, and the value claim.
-/
module

public import proofs.«01_k».proof.Defs
public import proofs.«01_k».proof.Proof.Adam
public import proofs.«01_k».proof.Proof.Gen.AdamOutIdeal.Value
public import proofs.«01_k».proof.Proof.Gen.AdamOutRefIdeal
public import proofs.«01_k».proof.Proof.Gen.AdamOutRefIdeal.Read
public import Idealize.ShloMosaic.Lib.Pipeline.ValueKit
public import Idealize.ShloMosaic.Lib.Pointwise
public import Idealize.ShloMosaic.Lib.KernelVsHost
public import Idealize.ShloMosaic.Lib.IdealHost

@[expose] public section

set_option maxRecDepth 16384

noncomputable section

open Idealize.ShloMosaic Idealize.ShloMosaic.TcCoe Idealize.SL.Sem Idealize.ShloMosaic.StableHlo

namespace Cert.AdamOutGrad

open Cert.AdamOutIdeal Cert.AdamOutIdeal.Gen Cert.Adam

variable (m : (l : Loc nD τ sig) → Buf (Elt Ideal) l)

/-- Where each window's block lies at point `t`: all eight move together. -/
theorem idx : ∀ t : Fin grid0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] := by decide +kernel

/-- A block of the new mean of the gradients at an index. -/
theorem mean_apply (g mm : FVec Ideal S1x256x1024 .f32) (r : Fin 256) (j : Fin 1024) :
    k0_pay1 (F := Ideal) g mm (ix3 0 r j) = mean (g (ix3 0 r j)) (mm (ix3 0 r j)) := by
  pointwise [k0_pay1]
  rfl

/-- A block of the new mean of the squared gradients at an index. -/
theorem square_apply (g v : FVec Ideal S1x256x1024 .f32) (r : Fin 256) (j : Fin 1024) :
    k0_pay2 (F := Ideal) g v (ix3 0 r j) = square (g (ix3 0 r j)) (v (ix3 0 r j)) := by
  pointwise [k0_pay2]
  rfl

/-- A block of the weights' change at an index. -/
theorem change_apply (g w mm v : FVec Ideal S1x256x1024 .f32) (r : Fin 256) (j : Fin 1024) :
    k0_pay3 (F := Ideal) g w mm v (ix3 0 r j) = change (w (ix3 0 r j)) (g (ix3 0 r j)) (mm (ix3 0 r j)) (v (ix3 0 r j)) := by
  pointwise [k0_pay3, k0_pay1, k0_pay2]
  rfl

/-! The arguments at a layer, a row and a column. -/

/-- The weights. -/
def wOf (c : Dev nD) (l : Fin 2) (s : Fin 256) (j : Fin 1024) : EReal := (m ((c : Thread nD τ).loc main_arg0) : FVec Ideal S2x256x1024 .f32) (ix3 l s j)
/-- The gradient. -/
def gOf (c : Dev nD) (l : Fin 2) (s : Fin 256) (j : Fin 1024) : EReal := (m ((c : Thread nD τ).loc main_arg1) : FVec Ideal S2x256x1024 .f32) (ix3 l s j)
/-- The mean of the gradients. -/
def mOf (c : Dev nD) (l : Fin 2) (s : Fin 256) (j : Fin 1024) : EReal := (m ((c : Thread nD τ).loc main_arg2) : FVec Ideal S2x256x1024 .f32) (ix3 l s j)
/-- The mean of the squared gradients. -/
def vOf (c : Dev nD) (l : Fin 2) (s : Fin 256) (j : Fin 1024) : EReal := (m ((c : Thread nD τ).loc main_arg3) : FVec Ideal S2x256x1024 .f32) (ix3 l s j)

/-- The layer of block `t`. -/
def layer (t : Fin cfg0.N) : Fin 2 := ⟨t.val, by have := t.isLt; have : t.val < 2 := this; omega⟩

/-- Row `r` of block `t`. -/
def row (t : Fin cfg0.N) (r : Fin 256) : Fin 256 := ⟨r.val, by have := t.isLt; have : t.val < 2 := this; omega⟩

/-- A point's block of the weights. -/
theorem blk0 (c : Dev nD) (t : Fin cfg0.N) (r : Fin 256) (j : Fin 1024) :
    (iblk m c 0 t : FVec Ideal S1x256x1024 .f32) (ix3 0 r j) = wOf m c (layer t) (row t r) j := by
  unfold wOf
  blk_ext [iblk, V, idx t, row, layer]

/-- A point's block of the gradient. -/
theorem blk1 (c : Dev nD) (t : Fin cfg0.N) (r : Fin 256) (j : Fin 1024) :
    (iblk m c 1 t : FVec Ideal S1x256x1024 .f32) (ix3 0 r j) = gOf m c (layer t) (row t r) j := by
  unfold gOf
  blk_ext [iblk, V, idx t, row, layer]

/-- A point's block of the mean of the gradients. -/
theorem blk2 (c : Dev nD) (t : Fin cfg0.N) (r : Fin 256) (j : Fin 1024) :
    (iblk m c 2 t : FVec Ideal S1x256x1024 .f32) (ix3 0 r j) = mOf m c (layer t) (row t r) j := by
  unfold mOf
  blk_ext [iblk, V, idx t, row, layer]

/-- A point's block of the mean of the squared gradients. -/
theorem blk3 (c : Dev nD) (t : Fin cfg0.N) (r : Fin 256) (j : Fin 1024) :
    (iblk m c 3 t : FVec Ideal S1x256x1024 .f32) (ix3 0 r j) = vOf m c (layer t) (row t r) j := by
  unfold vOf
  blk_ext [iblk, V, idx t, row, layer]

/-- The change of the weights. -/
def changes (c : Dev nD) (l : Fin 2) (s : Fin 256) (j : Fin 1024) : EReal := change (wOf m c l s j) (gOf m c l s j) (mOf m c l s j) (vOf m c l s j)

/-- The new mean of the gradients. -/
def means (c : Dev nD) (l : Fin 2) (s : Fin 256) (j : Fin 1024) : EReal := mean (gOf m c l s j) (mOf m c l s j)

/-- The new mean of the squared gradients. -/
def squares (c : Dev nD) (l : Fin 2) (s : Fin 256) (j : Fin 1024) : EReal := square (gOf m c l s j) (vOf m c l s j)

/-- A block of the gradient, unchanged, after point `t`. -/
theorem outs4 (c : Dev nD) (t : Fin cfg0.N) (r : Fin 256) (j : Fin 1024) :
    ((dats m 0 c).after 4 t : FVec Ideal S1x256x1024 .f32) (ix3 0 r j) = gOf m c (layer t) (row t r) j := by
  rw [after0_4]
  unfold out0_4
  frame_out
  exact blk1 m c t r j

/-- The gradient, unchanged, as a whole array. -/
theorem arr4 (c : Dev nD) : (dats m 0 c).arrAt 4 cfg0.N = fun i : S2x256x1024.Idx => gOf m c (i 0) (i 1) (i 2) := by
  refine (dats m 0 c).arrAt_eq_of_covers 4 _ (by decide +kernel) fun t hf y => ?_
  obtain ⟨z, r, j, rfl⟩ : ∃ z r j, y = ix3 z r j := ⟨_, _, _, eq_ix3 y⟩
  obtain rfl : z = 0 := Fin.eq_zero z
  blk_simp
  refine (outs4 m c t r j).trans (congr (congr (congrArg (gOf m c) (Fin.ext ?_)) (Fin.ext ?_)) (Fin.ext ?_))
  all_goals blk_simp [idx t]
  all_goals (first | (simp only [row, layer]; done) | (simp only [row, layer]; omega) | skip)

/-- A block of the change of the weights, after point `t`. -/
theorem outs5 (c : Dev nD) (t : Fin cfg0.N) (r : Fin 256) (j : Fin 1024) :
    ((dats m 0 c).after 5 t : FVec Ideal S1x256x1024 .f32) (ix3 0 r j) = changes m c (layer t) (row t r) j := by
  rw [after0_5]
  unfold out0_5
  frame_out
  refine (change_apply _ _ _ _ r j).trans ?_
  unfold changes
  simp only [blk0, blk1, blk2, blk3]

/-- The change of the weights, as a whole array. -/
theorem arr5 (c : Dev nD) : (dats m 0 c).arrAt 5 cfg0.N = fun i : S2x256x1024.Idx => changes m c (i 0) (i 1) (i 2) := by
  refine (dats m 0 c).arrAt_eq_of_covers 5 _ (by decide +kernel) fun t hf y => ?_
  obtain ⟨z, r, j, rfl⟩ : ∃ z r j, y = ix3 z r j := ⟨_, _, _, eq_ix3 y⟩
  obtain rfl : z = 0 := Fin.eq_zero z
  blk_simp
  refine (outs5 m c t r j).trans (congr (congr (congrArg (changes m c) (Fin.ext ?_)) (Fin.ext ?_)) (Fin.ext ?_))
  all_goals blk_simp [idx t]
  all_goals (first | (simp only [row, layer]; done) | (simp only [row, layer]; omega) | skip)

/-- A block of the new mean of the gradients, after point `t`. -/
theorem outs6 (c : Dev nD) (t : Fin cfg0.N) (r : Fin 256) (j : Fin 1024) :
    ((dats m 0 c).after 6 t : FVec Ideal S1x256x1024 .f32) (ix3 0 r j) = means m c (layer t) (row t r) j := by
  rw [after0_6]
  unfold out0_6
  frame_out
  refine (mean_apply _ _ r j).trans ?_
  unfold means
  simp only [blk0, blk1, blk2, blk3]

/-- The new mean of the gradients, as a whole array. -/
theorem arr6 (c : Dev nD) : (dats m 0 c).arrAt 6 cfg0.N = fun i : S2x256x1024.Idx => means m c (i 0) (i 1) (i 2) := by
  refine (dats m 0 c).arrAt_eq_of_covers 6 _ (by decide +kernel) fun t hf y => ?_
  obtain ⟨z, r, j, rfl⟩ : ∃ z r j, y = ix3 z r j := ⟨_, _, _, eq_ix3 y⟩
  obtain rfl : z = 0 := Fin.eq_zero z
  blk_simp
  refine (outs6 m c t r j).trans (congr (congr (congrArg (means m c) (Fin.ext ?_)) (Fin.ext ?_)) (Fin.ext ?_))
  all_goals blk_simp [idx t]
  all_goals (first | (simp only [row, layer]; done) | (simp only [row, layer]; omega) | skip)

/-- A block of the new mean of the squared gradients, after point `t`. -/
theorem outs7 (c : Dev nD) (t : Fin cfg0.N) (r : Fin 256) (j : Fin 1024) :
    ((dats m 0 c).after 7 t : FVec Ideal S1x256x1024 .f32) (ix3 0 r j) = squares m c (layer t) (row t r) j := by
  rw [after0_7]
  unfold out0_7
  frame_out
  refine (square_apply _ _ r j).trans ?_
  unfold squares
  simp only [blk0, blk1, blk2, blk3]

/-- The new mean of the squared gradients, as a whole array. -/
theorem arr7 (c : Dev nD) : (dats m 0 c).arrAt 7 cfg0.N = fun i : S2x256x1024.Idx => squares m c (i 0) (i 1) (i 2) := by
  refine (dats m 0 c).arrAt_eq_of_covers 7 _ (by decide +kernel) fun t hf y => ?_
  obtain ⟨z, r, j, rfl⟩ : ∃ z r j, y = ix3 z r j := ⟨_, _, _, eq_ix3 y⟩
  obtain rfl : z = 0 := Fin.eq_zero z
  blk_simp
  refine (outs7 m c t r j).trans (congr (congr (congrArg (squares m c) (Fin.ext ?_)) (Fin.ext ?_)) (Fin.ext ?_))
  all_goals blk_simp [idx t]
  all_goals (first | (simp only [row, layer]; done) | (simp only [row, layer]; omega) | skip)

end Cert.AdamOutGrad

namespace Cert.AdamOutGrad

open Cert.AdamOutRefIdeal Cert.AdamOutRefIdeal.Read Cert.Adam

/-- The plain change of the weights at an index. -/
theorem plain23_apply (x0 : FVec Ideal S2x256x1024 .f32) (x1 : FVec Ideal S2x256x1024 .f32) (x2 : FVec Ideal S2x256x1024 .f32) (x3 : FVec Ideal S2x256x1024 .f32) (l : Fin 2) (s : Fin 256) (j : Fin 1024) :
    val_main_v23 (F := Ideal) x0 x1 x2 x3 (ix3 l s j) = change (x0 (ix3 l s j)) (x1 (ix3 l s j)) (x2 (ix3 l s j)) (x3 (ix3 l s j)) := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

/-- The plain change of the weights as a whole array. -/
theorem plain23 (x0 : FVec Ideal S2x256x1024 .f32) (x1 : FVec Ideal S2x256x1024 .f32) (x2 : FVec Ideal S2x256x1024 .f32) (x3 : FVec Ideal S2x256x1024 .f32) :
    val_main_v23 (F := Ideal) x0 x1 x2 x3 = fun i : S2x256x1024.Idx => (fun (l : Fin 2) (s : Fin 256) (j : Fin 1024) => change (x0 (ix3 l s j)) (x1 (ix3 l s j)) (x2 (ix3 l s j)) (x3 (ix3 l s j))) (i 0) (i 1) (i 2) :=
  funext fun i => (congrArg _ (eq_ix3 i)).trans (plain23_apply x0 x1 x2 x3 (i 0) (i 1) (i 2))

/-- The plain new mean of the gradients at an index. -/
theorem plain4_apply (x1 : FVec Ideal S2x256x1024 .f32) (x2 : FVec Ideal S2x256x1024 .f32) (l : Fin 2) (s : Fin 256) (j : Fin 1024) :
    val_main_v4 (F := Ideal) x1 x2 (ix3 l s j) = mean (x1 (ix3 l s j)) (x2 (ix3 l s j)) := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

/-- The plain new mean of the gradients as a whole array. -/
theorem plain4 (x1 : FVec Ideal S2x256x1024 .f32) (x2 : FVec Ideal S2x256x1024 .f32) :
    val_main_v4 (F := Ideal) x1 x2 = fun i : S2x256x1024.Idx => (fun (l : Fin 2) (s : Fin 256) (j : Fin 1024) => mean (x1 (ix3 l s j)) (x2 (ix3 l s j))) (i 0) (i 1) (i 2) :=
  funext fun i => (congrArg _ (eq_ix3 i)).trans (plain4_apply x1 x2 (i 0) (i 1) (i 2))

/-- The plain new mean of the squared gradients at an index. -/
theorem plain10_apply (x1 : FVec Ideal S2x256x1024 .f32) (x3 : FVec Ideal S2x256x1024 .f32) (l : Fin 2) (s : Fin 256) (j : Fin 1024) :
    val_main_v10 (F := Ideal) x1 x3 (ix3 l s j) = square (x1 (ix3 l s j)) (x3 (ix3 l s j)) := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

/-- The plain new mean of the squared gradients as a whole array. -/
theorem plain10 (x1 : FVec Ideal S2x256x1024 .f32) (x3 : FVec Ideal S2x256x1024 .f32) :
    val_main_v10 (F := Ideal) x1 x3 = fun i : S2x256x1024.Idx => (fun (l : Fin 2) (s : Fin 256) (j : Fin 1024) => square (x1 (ix3 l s j)) (x3 (ix3 l s j))) (i 0) (i 1) (i 2) :=
  funext fun i => (congrArg _ (eq_ix3 i)).trans (plain10_apply x1 x3 (i 0) (i 1) (i 2))

/-- The plain lines leave their arguments and stop quietly: they use no semaphore. -/
theorem plainFrame : Cert.quiescent_AdamOutRefIdeal (hAdamOutRefIdeal := Cert.AdamOutRefIdeal.Gen.facts) := fun m ρ _ =>
  (θ_run _ _ _).mono (fun r h => ⟨fun c => (h c).2.2.2.2, sem_eq_zero_of_no_sems (by decide) r.2⟩) (Cert.AdamOutRefIdeal.Value.run m ρ)

/-- Over the reals with infinities, the call and the plain lines have the same four results. -/
theorem algebraic : Cert.algebraic_AdamOutIdeal_AdamOutRefIdeal (hAdamOutIdeal := Cert.AdamOutIdeal.Gen.facts) (hAdamOutRefIdeal := Cert.AdamOutRefIdeal.Gen.facts) := by
  intro m g m' g' _ hm
  refine ⟨fun c => fun i : Cert.AdamOutIdeal.S2x256x1024.Idx => gOf m c (i 0) (i 1) (i 2),
    fun c => fun i : Cert.AdamOutIdeal.S2x256x1024.Idx => changes m c (i 0) (i 1) (i 2),
    fun c => fun i : Cert.AdamOutIdeal.S2x256x1024.Idx => means m c (i 0) (i 1) (i 2),
    fun c => fun i : Cert.AdamOutIdeal.S2x256x1024.Idx => squares m c (i 0) (i 1) (i 2), ?_, ?_⟩
  · refine (θ_run _ _ _).mono (fun r h c => ?_) (Cert.AdamOutIdeal.Value.run_blocks m g)
    obtain ⟨h0, h1, h2, h3, ha⟩ := h c
    exact ⟨h0.trans (arr4 m c), h1.trans (arr5 m c), h2.trans (arr6 m c), h3.trans (arr7 m c), ha⟩
  · refine (θ_run _ _ _).mono (fun r h c => ?_) (Cert.AdamOutRefIdeal.Value.run m' g')
    obtain ⟨h0, h1, h2, h3, ha⟩ := h c
    obtain ⟨e0, e1, e2, e3⟩ := hm c
    refine ⟨h0.trans ?_, (h1.trans (val_main_v23_eq _ _ _ _)).trans ?_, (h2.trans (val_main_v4_eq _ _)).trans ?_,
      (h3.trans (val_main_v10_eq _ _)).trans ?_, ha⟩
    · rw [e1]
      exact funext fun i => congrArg (m ((c.tc : Thread Cert.AdamOutIdeal.nD Cert.AdamOutIdeal.τ).loc Cert.AdamOutIdeal.main_arg1)) (eq_ix3 i)
    · refine (plain23 _ _ _ _).trans ?_
      rw [e0, e1, e2, e3]; rfl
    · refine (plain4 _ _).trans ?_
      rw [e1, e2]; rfl
    · refine (plain10 _ _).trans ?_
      rw [e1, e3]; rfl

end Cert.AdamOutGrad

end
-- ==== Proof.AdamInValue.lean ====
/-
  The optimiser's step of the input projection's weights: each grid point opened, the four results after the run at an index, the plain
  lines read at an index, and the value claim.
-/
module

public import proofs.«01_k».proof.Defs
public import proofs.«01_k».proof.Proof.Adam
public import proofs.«01_k».proof.Proof.Gen.AdamInIdeal.Value
public import proofs.«01_k».proof.Proof.Gen.AdamInRefIdeal
public import proofs.«01_k».proof.Proof.Gen.AdamInRefIdeal.Read
public import Idealize.ShloMosaic.Lib.Pipeline.ValueKit
public import Idealize.ShloMosaic.Lib.Pointwise
public import Idealize.ShloMosaic.Lib.KernelVsHost
public import Idealize.ShloMosaic.Lib.IdealHost

@[expose] public section

set_option maxRecDepth 16384

noncomputable section

open Idealize.ShloMosaic Idealize.ShloMosaic.TcCoe Idealize.SL.Sem Idealize.ShloMosaic.StableHlo

namespace Cert.AdamInGrad

open Cert.AdamInIdeal Cert.AdamInIdeal.Gen Cert.Adam

variable (m : (l : Loc nD τ sig) → Buf (Elt Ideal) l)

/-- Where each window's block lies at point `t`: all eight move together. -/
theorem idx : ∀ t : Fin grid0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] := by decide +kernel

/-- A block of the new mean of the gradients at an index. -/
theorem mean_apply (g mm : FVec Ideal S1x448x1024 .f32) (r : Fin 448) (j : Fin 1024) :
    k0_pay1 (F := Ideal) g mm (ix3 0 r j) = mean (g (ix3 0 r j)) (mm (ix3 0 r j)) := by
  pointwise [k0_pay1]
  rfl

/-- A block of the new mean of the squared gradients at an index. -/
theorem square_apply (g v : FVec Ideal S1x448x1024 .f32) (r : Fin 448) (j : Fin 1024) :
    k0_pay2 (F := Ideal) g v (ix3 0 r j) = square (g (ix3 0 r j)) (v (ix3 0 r j)) := by
  pointwise [k0_pay2]
  rfl

/-- A block of the weights' change at an index. -/
theorem change_apply (g w mm v : FVec Ideal S1x448x1024 .f32) (r : Fin 448) (j : Fin 1024) :
    k0_pay3 (F := Ideal) g w mm v (ix3 0 r j) = change (w (ix3 0 r j)) (g (ix3 0 r j)) (mm (ix3 0 r j)) (v (ix3 0 r j)) := by
  pointwise [k0_pay3, k0_pay1, k0_pay2]
  rfl

/-! The arguments at a layer, a row and a column of the call's own layout, whose rows are the columns of the weights. -/

/-- The weights. -/
def wOf (c : Dev nD) (l : Fin 2) (s : Fin 448) (j : Fin 1024) : EReal := (m ((c : Thread nD τ).loc main_arg0) : FVec Ideal S2x1024x448 .f32) (ix3 l j s)
/-- The gradient. -/
def gOf (c : Dev nD) (l : Fin 2) (s : Fin 448) (j : Fin 1024) : EReal := (m ((c : Thread nD τ).loc main_arg1) : FVec Ideal S2x448x1024 .f32) (ix3 l s j)
/-- The mean of the gradients. -/
def mOf (c : Dev nD) (l : Fin 2) (s : Fin 448) (j : Fin 1024) : EReal := (m ((c : Thread nD τ).loc main_arg2) : FVec Ideal S2x1024x448 .f32) (ix3 l j s)
/-- The mean of the squared gradients. -/
def vOf (c : Dev nD) (l : Fin 2) (s : Fin 448) (j : Fin 1024) : EReal := (m ((c : Thread nD τ).loc main_arg3) : FVec Ideal S2x1024x448 .f32) (ix3 l j s)

/-- The weights as the region reads it: transposed. -/
theorem entry0 (c : Dev nD) (l : Fin 2) (s : Fin 448) (j : Fin 1024) : (V m c main_v0 : FVec Ideal S2x448x1024 .f32) (ix3 l s j) = wOf m c l s j := by
  unfold wOf V
  simp only [hostOps0, List.flatten_cons, List.flatten_nil, List.cons_append, List.nil_append, List.append_nil,
    TRef.nullary, TRef.unary, TRef.binary, TRef.ternary]
  entry_read
  pointwise

/-- The mean of the gradients as the region reads it: transposed. -/
theorem entry2 (c : Dev nD) (l : Fin 2) (s : Fin 448) (j : Fin 1024) : (V m c main_v1 : FVec Ideal S2x448x1024 .f32) (ix3 l s j) = mOf m c l s j := by
  unfold mOf V
  simp only [hostOps0, List.flatten_cons, List.flatten_nil, List.cons_append, List.nil_append, List.append_nil,
    TRef.nullary, TRef.unary, TRef.binary, TRef.ternary]
  entry_read
  pointwise

/-- The mean of the squared gradients as the region reads it: transposed. -/
theorem entry3 (c : Dev nD) (l : Fin 2) (s : Fin 448) (j : Fin 1024) : (V m c main_v2 : FVec Ideal S2x448x1024 .f32) (ix3 l s j) = vOf m c l s j := by
  unfold vOf V
  simp only [hostOps0, List.flatten_cons, List.flatten_nil, List.cons_append, List.nil_append, List.append_nil,
    TRef.nullary, TRef.unary, TRef.binary, TRef.ternary]
  entry_read
  pointwise

/-- The layer of block `t`. -/
def layer (t : Fin cfg0.N) : Fin 2 := ⟨t.val, by have := t.isLt; have : t.val < 2 := this; omega⟩

/-- Row `r` of block `t`. -/
def row (t : Fin cfg0.N) (r : Fin 448) : Fin 448 := ⟨r.val, by have := t.isLt; have : t.val < 2 := this; omega⟩

/-- A point's block of the weights. -/
theorem blk0 (c : Dev nD) (t : Fin cfg0.N) (r : Fin 448) (j : Fin 1024) :
    (iblk m c 0 t : FVec Ideal S1x448x1024 .f32) (ix3 0 r j) = wOf m c (layer t) (row t r) j := by
  rw [← entry0 m c (layer t) (row t r) j]
  blk_ext [iblk, idx t, row, layer]

/-- A point's block of the gradient. -/
theorem blk1 (c : Dev nD) (t : Fin cfg0.N) (r : Fin 448) (j : Fin 1024) :
    (iblk m c 1 t : FVec Ideal S1x448x1024 .f32) (ix3 0 r j) = gOf m c (layer t) (row t r) j := by
  unfold gOf
  blk_ext [iblk, V, idx t, row, layer]

/-- A point's block of the mean of the gradients. -/
theorem blk2 (c : Dev nD) (t : Fin cfg0.N) (r : Fin 448) (j : Fin 1024) :
    (iblk m c 2 t : FVec Ideal S1x448x1024 .f32) (ix3 0 r j) = mOf m c (layer t) (row t r) j := by
  rw [← entry2 m c (layer t) (row t r) j]
  blk_ext [iblk, idx t, row, layer]

/-- A point's block of the mean of the squared gradients. -/
theorem blk3 (c : Dev nD) (t : Fin cfg0.N) (r : Fin 448) (j : Fin 1024) :
    (iblk m c 3 t : FVec Ideal S1x448x1024 .f32) (ix3 0 r j) = vOf m c (layer t) (row t r) j := by
  rw [← entry3 m c (layer t) (row t r) j]
  blk_ext [iblk, idx t, row, layer]

/-- The change of the weights. -/
def changes (c : Dev nD) (l : Fin 2) (s : Fin 448) (j : Fin 1024) : EReal := change (wOf m c l s j) (gOf m c l s j) (mOf m c l s j) (vOf m c l s j)

/-- The new mean of the gradients. -/
def means (c : Dev nD) (l : Fin 2) (s : Fin 448) (j : Fin 1024) : EReal := mean (gOf m c l s j) (mOf m c l s j)

/-- The new mean of the squared gradients. -/
def squares (c : Dev nD) (l : Fin 2) (s : Fin 448) (j : Fin 1024) : EReal := square (gOf m c l s j) (vOf m c l s j)

/-- A block of the gradient, unchanged, after point `t`. -/
theorem outs4 (c : Dev nD) (t : Fin cfg0.N) (r : Fin 448) (j : Fin 1024) :
    ((dats m 0 c).after 4 t : FVec Ideal S1x448x1024 .f32) (ix3 0 r j) = gOf m c (layer t) (row t r) j := by
  rw [after0_4]
  unfold out0_4
  frame_out
  exact blk1 m c t r j

/-- The gradient, unchanged, as a whole array. -/
theorem arr4 (c : Dev nD) : (dats m 0 c).arrAt 4 cfg0.N = fun i : S2x448x1024.Idx => gOf m c (i 0) (i 1) (i 2) := by
  refine (dats m 0 c).arrAt_eq_of_covers 4 _ (by decide +kernel) fun t hf y => ?_
  obtain ⟨z, r, j, rfl⟩ : ∃ z r j, y = ix3 z r j := ⟨_, _, _, eq_ix3 y⟩
  obtain rfl : z = 0 := Fin.eq_zero z
  blk_simp
  refine (outs4 m c t r j).trans (congr (congr (congrArg (gOf m c) (Fin.ext ?_)) (Fin.ext ?_)) (Fin.ext ?_))
  all_goals blk_simp [idx t]
  all_goals (first | (simp only [row, layer]; done) | (simp only [row, layer]; omega) | skip)

/-- A block of the change of the weights, after point `t`. -/
theorem outs5 (c : Dev nD) (t : Fin cfg0.N) (r : Fin 448) (j : Fin 1024) :
    ((dats m 0 c).after 5 t : FVec Ideal S1x448x1024 .f32) (ix3 0 r j) = changes m c (layer t) (row t r) j := by
  rw [after0_5]
  unfold out0_5
  frame_out
  refine (change_apply _ _ _ _ r j).trans ?_
  unfold changes
  simp only [blk0, blk1, blk2, blk3]

/-- The change of the weights, as a whole array. -/
theorem arr5 (c : Dev nD) : (dats m 0 c).arrAt 5 cfg0.N = fun i : S2x448x1024.Idx => changes m c (i 0) (i 1) (i 2) := by
  refine (dats m 0 c).arrAt_eq_of_covers 5 _ (by decide +kernel) fun t hf y => ?_
  obtain ⟨z, r, j, rfl⟩ : ∃ z r j, y = ix3 z r j := ⟨_, _, _, eq_ix3 y⟩
  obtain rfl : z = 0 := Fin.eq_zero z
  blk_simp
  refine (outs5 m c t r j).trans (congr (congr (congrArg (changes m c) (Fin.ext ?_)) (Fin.ext ?_)) (Fin.ext ?_))
  all_goals blk_simp [idx t]
  all_goals (first | (simp only [row, layer]; done) | (simp only [row, layer]; omega) | skip)

/-- A block of the new mean of the gradients, after point `t`. -/
theorem outs6 (c : Dev nD) (t : Fin cfg0.N) (r : Fin 448) (j : Fin 1024) :
    ((dats m 0 c).after 6 t : FVec Ideal S1x448x1024 .f32) (ix3 0 r j) = means m c (layer t) (row t r) j := by
  rw [after0_6]
  unfold out0_6
  frame_out
  refine (mean_apply _ _ r j).trans ?_
  unfold means
  simp only [blk0, blk1, blk2, blk3]

/-- The new mean of the gradients, as a whole array. -/
theorem arr6 (c : Dev nD) : (dats m 0 c).arrAt 6 cfg0.N = fun i : S2x448x1024.Idx => means m c (i 0) (i 1) (i 2) := by
  refine (dats m 0 c).arrAt_eq_of_covers 6 _ (by decide +kernel) fun t hf y => ?_
  obtain ⟨z, r, j, rfl⟩ : ∃ z r j, y = ix3 z r j := ⟨_, _, _, eq_ix3 y⟩
  obtain rfl : z = 0 := Fin.eq_zero z
  blk_simp
  refine (outs6 m c t r j).trans (congr (congr (congrArg (means m c) (Fin.ext ?_)) (Fin.ext ?_)) (Fin.ext ?_))
  all_goals blk_simp [idx t]
  all_goals (first | (simp only [row, layer]; done) | (simp only [row, layer]; omega) | skip)

/-- A block of the new mean of the squared gradients, after point `t`. -/
theorem outs7 (c : Dev nD) (t : Fin cfg0.N) (r : Fin 448) (j : Fin 1024) :
    ((dats m 0 c).after 7 t : FVec Ideal S1x448x1024 .f32) (ix3 0 r j) = squares m c (layer t) (row t r) j := by
  rw [after0_7]
  unfold out0_7
  frame_out
  refine (square_apply _ _ r j).trans ?_
  unfold squares
  simp only [blk0, blk1, blk2, blk3]

/-- The new mean of the squared gradients, as a whole array. -/
theorem arr7 (c : Dev nD) : (dats m 0 c).arrAt 7 cfg0.N = fun i : S2x448x1024.Idx => squares m c (i 0) (i 1) (i 2) := by
  refine (dats m 0 c).arrAt_eq_of_covers 7 _ (by decide +kernel) fun t hf y => ?_
  obtain ⟨z, r, j, rfl⟩ : ∃ z r j, y = ix3 z r j := ⟨_, _, _, eq_ix3 y⟩
  obtain rfl : z = 0 := Fin.eq_zero z
  blk_simp
  refine (outs7 m c t r j).trans (congr (congr (congrArg (squares m c) (Fin.ext ?_)) (Fin.ext ?_)) (Fin.ext ?_))
  all_goals blk_simp [idx t]
  all_goals (first | (simp only [row, layer]; done) | (simp only [row, layer]; omega) | skip)

end Cert.AdamInGrad

namespace Cert.AdamInGrad

open Cert.AdamInRefIdeal Cert.AdamInRefIdeal.Read Cert.Adam

/-- The plain change of the weights at an index. -/
theorem plain25_apply (x0 : FVec Ideal S2x1024x448 .f32) (x1 : FVec Ideal S2x448x1024 .f32) (x2 : FVec Ideal S2x1024x448 .f32) (x3 : FVec Ideal S2x1024x448 .f32) (l : Fin 2) (s : Fin 448) (j : Fin 1024) :
    val_main_v25 (F := Ideal) x0 x1 x2 x3 (ix3 l s j) = change (x0 (ix3 l j s)) (x1 (ix3 l s j)) (x2 (ix3 l j s)) (x3 (ix3 l j s)) := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

/-- The plain change of the weights as a whole array. -/
theorem plain25 (x0 : FVec Ideal S2x1024x448 .f32) (x1 : FVec Ideal S2x448x1024 .f32) (x2 : FVec Ideal S2x1024x448 .f32) (x3 : FVec Ideal S2x1024x448 .f32) :
    val_main_v25 (F := Ideal) x0 x1 x2 x3 = fun i : S2x448x1024.Idx => (fun (l : Fin 2) (s : Fin 448) (j : Fin 1024) => change (x0 (ix3 l j s)) (x1 (ix3 l s j)) (x2 (ix3 l j s)) (x3 (ix3 l j s))) (i 0) (i 1) (i 2) :=
  funext fun i => (congrArg _ (eq_ix3 i)).trans (plain25_apply x0 x1 x2 x3 (i 0) (i 1) (i 2))

/-- The plain new mean of the gradients at an index. -/
theorem plain26_apply (x1 : FVec Ideal S2x448x1024 .f32) (x2 : FVec Ideal S2x1024x448 .f32) (l : Fin 2) (s : Fin 448) (j : Fin 1024) :
    val_main_v26 (F := Ideal) x1 x2 (ix3 l s j) = mean (x1 (ix3 l s j)) (x2 (ix3 l j s)) := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

/-- The plain new mean of the gradients as a whole array. -/
theorem plain26 (x1 : FVec Ideal S2x448x1024 .f32) (x2 : FVec Ideal S2x1024x448 .f32) :
    val_main_v26 (F := Ideal) x1 x2 = fun i : S2x448x1024.Idx => (fun (l : Fin 2) (s : Fin 448) (j : Fin 1024) => mean (x1 (ix3 l s j)) (x2 (ix3 l j s))) (i 0) (i 1) (i 2) :=
  funext fun i => (congrArg _ (eq_ix3 i)).trans (plain26_apply x1 x2 (i 0) (i 1) (i 2))

/-- The plain new mean of the squared gradients at an index. -/
theorem plain27_apply (x1 : FVec Ideal S2x448x1024 .f32) (x3 : FVec Ideal S2x1024x448 .f32) (l : Fin 2) (s : Fin 448) (j : Fin 1024) :
    val_main_v27 (F := Ideal) x1 x3 (ix3 l s j) = square (x1 (ix3 l s j)) (x3 (ix3 l j s)) := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl

/-- The plain new mean of the squared gradients as a whole array. -/
theorem plain27 (x1 : FVec Ideal S2x448x1024 .f32) (x3 : FVec Ideal S2x1024x448 .f32) :
    val_main_v27 (F := Ideal) x1 x3 = fun i : S2x448x1024.Idx => (fun (l : Fin 2) (s : Fin 448) (j : Fin 1024) => square (x1 (ix3 l s j)) (x3 (ix3 l j s))) (i 0) (i 1) (i 2) :=
  funext fun i => (congrArg _ (eq_ix3 i)).trans (plain27_apply x1 x3 (i 0) (i 1) (i 2))

/-- The plain lines leave their arguments and stop quietly: they use no semaphore. -/
theorem plainFrame : Cert.quiescent_AdamInRefIdeal (hAdamInRefIdeal := Cert.AdamInRefIdeal.Gen.facts) := fun m ρ _ =>
  (θ_run _ _ _).mono (fun r h => ⟨fun c => (h c).2.2.2.2, sem_eq_zero_of_no_sems (by decide) r.2⟩) (Cert.AdamInRefIdeal.Value.run m ρ)

/-- Over the reals with infinities, the call and the plain lines have the same four results. -/
theorem algebraic : Cert.algebraic_AdamInIdeal_AdamInRefIdeal (hAdamInIdeal := Cert.AdamInIdeal.Gen.facts) (hAdamInRefIdeal := Cert.AdamInRefIdeal.Gen.facts) := by
  intro m g m' g' _ hm
  refine ⟨fun c => fun i : Cert.AdamInIdeal.S2x448x1024.Idx => gOf m c (i 0) (i 1) (i 2),
    fun c => fun i : Cert.AdamInIdeal.S2x448x1024.Idx => changes m c (i 0) (i 1) (i 2),
    fun c => fun i : Cert.AdamInIdeal.S2x448x1024.Idx => means m c (i 0) (i 1) (i 2),
    fun c => fun i : Cert.AdamInIdeal.S2x448x1024.Idx => squares m c (i 0) (i 1) (i 2), ?_, ?_⟩
  · refine (θ_run _ _ _).mono (fun r h c => ?_) (Cert.AdamInIdeal.Value.run_blocks m g)
    obtain ⟨h0, h1, h2, h3, ha⟩ := h c
    exact ⟨h0.trans (arr4 m c), h1.trans (arr5 m c), h2.trans (arr6 m c), h3.trans (arr7 m c), ha⟩
  · refine (θ_run _ _ _).mono (fun r h c => ?_) (Cert.AdamInRefIdeal.Value.run m' g')
    obtain ⟨h0, h1, h2, h3, ha⟩ := h c
    obtain ⟨e0, e1, e2, e3⟩ := hm c
    refine ⟨h0.trans ?_, (h1.trans (val_main_v25_eq _ _ _ _)).trans ?_, (h2.trans (val_main_v26_eq _ _)).trans ?_,
      (h3.trans (val_main_v27_eq _ _)).trans ?_, ha⟩
    · rw [e1]
      exact funext fun i => congrArg (m ((c.tc : Thread Cert.AdamInIdeal.nD Cert.AdamInIdeal.τ).loc Cert.AdamInIdeal.main_arg1)) (eq_ix3 i)
    · refine (plain25 _ _ _ _).trans ?_
      rw [e0, e1, e2, e3]; rfl
    · refine (plain26 _ _).trans ?_
      rw [e1, e2]; rfl
    · refine (plain27 _ _).trans ?_
      rw [e1, e3]; rfl

end Cert.AdamInGrad

end
-- ==== Proof.lean ====
/-
  The certificate: every call runs, leaves its arguments and stops quietly; its reading over the reals with infinities is
  its own text; and there it computes what the plain mathematics computes.
-/
module

public import proofs.«01_k».proof.Defs
public import proofs.«01_k».proof.Proof.Gen.Conv
public import proofs.«01_k».proof.Proof.Gen.ConvIdeal
public import proofs.«01_k».proof.Proof.Gen.Conv.Skeleton
public import proofs.«01_k».proof.Proof.Gen.ConvIdeal.Skeleton
public import proofs.«01_k».proof.Proof.Gen.Conv.Launch
public import proofs.«01_k».proof.Proof.Gen.ConvIdeal.Launch
public import proofs.«01_k».proof.Proof.Gen.Conv.Points
public import proofs.«01_k».proof.Proof.Gen.ConvIdeal.Points
public import proofs.«01_k».proof.Proof.Gen.Conv.Frame
public import proofs.«01_k».proof.Proof.Gen.ConvIdeal.Frame
public import proofs.«01_k».proof.Proof.Gen.ConvRefIdeal
public import proofs.«01_k».proof.Proof.Gen.ConvIdeal.Value
public import proofs.«01_k».proof.Proof.Gen.ConvRefIdeal.Read
public import proofs.«01_k».proof.Proof.ConvValue
public import proofs.«01_k».proof.Proof.Gen.MlpAct
public import proofs.«01_k».proof.Proof.Gen.MlpActIdeal
public import proofs.«01_k».proof.Proof.Gen.MlpAct.Skeleton
public import proofs.«01_k».proof.Proof.Gen.MlpActIdeal.Skeleton
public import proofs.«01_k».proof.Proof.Gen.MlpAct.Launch
public import proofs.«01_k».proof.Proof.Gen.MlpActIdeal.Launch
public import proofs.«01_k».proof.Proof.Gen.MlpAct.Points
public import proofs.«01_k».proof.Proof.Gen.MlpActIdeal.Points
public import proofs.«01_k».proof.Proof.Gen.MlpAct.Frame
public import proofs.«01_k».proof.Proof.Gen.MlpActIdeal.Frame
public import proofs.«01_k».proof.Proof.Gen.MlpActRefIdeal
public import proofs.«01_k».proof.Proof.Gen.MlpActIdeal.Value
public import proofs.«01_k».proof.Proof.Gen.MlpActRefIdeal.Read
public import proofs.«01_k».proof.Proof.MlpActValue
public import proofs.«01_k».proof.Proof.Gen.MlpW
public import proofs.«01_k».proof.Proof.Gen.MlpWIdeal
public import proofs.«01_k».proof.Proof.Gen.MlpW.Skeleton
public import proofs.«01_k».proof.Proof.Gen.MlpWIdeal.Skeleton
public import proofs.«01_k».proof.Proof.Gen.MlpW.Launch
public import proofs.«01_k».proof.Proof.Gen.MlpWIdeal.Launch
public import proofs.«01_k».proof.Proof.Gen.MlpW.Points
public import proofs.«01_k».proof.Proof.Gen.MlpWIdeal.Points
public import proofs.«01_k».proof.Proof.Gen.MlpW.Frame
public import proofs.«01_k».proof.Proof.Gen.MlpWIdeal.Frame
public import proofs.«01_k».proof.Proof.Gen.MlpWRefIdeal
public import proofs.«01_k».proof.Proof.Gen.MlpWIdeal.Value
public import proofs.«01_k».proof.Proof.Gen.MlpWRefIdeal.Read
public import proofs.«01_k».proof.Proof.MlpWValue
public import proofs.«01_k».proof.Proof.Gen.OutProj
public import proofs.«01_k».proof.Proof.Gen.OutProjIdeal
public import proofs.«01_k».proof.Proof.Gen.OutProj.Skeleton
public import proofs.«01_k».proof.Proof.Gen.OutProjIdeal.Skeleton
public import proofs.«01_k».proof.Proof.Gen.OutProj.Launch
public import proofs.«01_k».proof.Proof.Gen.OutProjIdeal.Launch
public import proofs.«01_k».proof.Proof.Gen.OutProj.Points
public import proofs.«01_k».proof.Proof.Gen.OutProjIdeal.Points
public import proofs.«01_k».proof.Proof.Gen.OutProj.Frame
public import proofs.«01_k».proof.Proof.Gen.OutProjIdeal.Frame
public import proofs.«01_k».proof.Proof.Gen.OutProjRefIdeal
public import proofs.«01_k».proof.Proof.Gen.OutProjIdeal.Value
public import proofs.«01_k».proof.Proof.Gen.OutProjRefIdeal.Read
public import proofs.«01_k».proof.Proof.OutProjValue
public import proofs.«01_k».proof.Proof.Gen.InProj
public import proofs.«01_k».proof.Proof.Gen.InProjIdeal
public import proofs.«01_k».proof.Proof.Gen.InProj.Skeleton
public import proofs.«01_k».proof.Proof.Gen.InProjIdeal.Skeleton
public import proofs.«01_k».proof.Proof.Gen.InProj.Launch
public import proofs.«01_k».proof.Proof.Gen.InProjIdeal.Launch
public import proofs.«01_k».proof.Proof.Gen.InProj.Points
public import proofs.«01_k».proof.Proof.Gen.InProjIdeal.Points
public import proofs.«01_k».proof.Proof.Gen.InProj.Frame
public import proofs.«01_k».proof.Proof.Gen.InProjIdeal.Frame
public import proofs.«01_k».proof.Proof.Gen.InProjRefIdeal
public import proofs.«01_k».proof.Proof.Gen.InProjIdeal.Value
public import proofs.«01_k».proof.Proof.Gen.InProjRefIdeal.Read
public import proofs.«01_k».proof.Proof.InProjValue
public import proofs.«01_k».proof.Proof.Gen.InFwd
public import proofs.«01_k».proof.Proof.Gen.InFwdIdeal
public import proofs.«01_k».proof.Proof.Gen.InFwd.Skeleton
public import proofs.«01_k».proof.Proof.Gen.InFwdIdeal.Skeleton
public import proofs.«01_k».proof.Proof.Gen.InFwd.Launch
public import proofs.«01_k».proof.Proof.Gen.InFwdIdeal.Launch
public import proofs.«01_k».proof.Proof.Gen.InFwd.Points
public import proofs.«01_k».proof.Proof.Gen.InFwdIdeal.Points
public import proofs.«01_k».proof.Proof.Gen.InFwd.Frame
public import proofs.«01_k».proof.Proof.Gen.InFwdIdeal.Frame
public import proofs.«01_k».proof.Proof.Gen.InFwdRefIdeal
public import proofs.«01_k».proof.Proof.Gen.InFwdIdeal.Value
public import proofs.«01_k».proof.Proof.Gen.InFwdRefIdeal.Read
public import proofs.«01_k».proof.Proof.InFwdValue
public import proofs.«01_k».proof.Proof.Gen.OutFwd
public import proofs.«01_k».proof.Proof.Gen.OutFwdIdeal
public import proofs.«01_k».proof.Proof.Gen.OutFwd.Skeleton
public import proofs.«01_k».proof.Proof.Gen.OutFwdIdeal.Skeleton
public import proofs.«01_k».proof.Proof.Gen.OutFwd.Launch
public import proofs.«01_k».proof.Proof.Gen.OutFwdIdeal.Launch
public import proofs.«01_k».proof.Proof.Gen.OutFwd.Points
public import proofs.«01_k».proof.Proof.Gen.OutFwdIdeal.Points
public import proofs.«01_k».proof.Proof.Gen.OutFwd.Frame
public import proofs.«01_k».proof.Proof.Gen.OutFwdIdeal.Frame
public import proofs.«01_k».proof.Proof.Gen.OutFwdRefIdeal
public import proofs.«01_k».proof.Proof.Gen.OutFwdIdeal.Value
public import proofs.«01_k».proof.Proof.Gen.OutFwdRefIdeal.Read
public import proofs.«01_k».proof.Proof.OutFwdValue
public import proofs.«01_k».proof.Proof.Gen.MlpFwd
public import proofs.«01_k».proof.Proof.Gen.MlpFwdIdeal
public import proofs.«01_k».proof.Proof.Gen.MlpFwd.Skeleton
public import proofs.«01_k».proof.Proof.Gen.MlpFwdIdeal.Skeleton
public import proofs.«01_k».proof.Proof.Gen.MlpFwd.Launch
public import proofs.«01_k».proof.Proof.Gen.MlpFwdIdeal.Launch
public import proofs.«01_k».proof.Proof.Gen.MlpFwd.Points
public import proofs.«01_k».proof.Proof.Gen.MlpFwdIdeal.Points
public import proofs.«01_k».proof.Proof.Gen.MlpFwd.Frame
public import proofs.«01_k».proof.Proof.Gen.MlpFwdIdeal.Frame
public import proofs.«01_k».proof.Proof.Gen.MlpFwdRefIdeal
public import proofs.«01_k».proof.Proof.Gen.MlpFwdIdeal.Value
public import proofs.«01_k».proof.Proof.Gen.MlpFwdRefIdeal.Read
public import proofs.«01_k».proof.Proof.MlpFwdValue
public import proofs.«01_k».proof.Proof.Gen.LastFwd
public import proofs.«01_k».proof.Proof.Gen.LastFwdIdeal
public import proofs.«01_k».proof.Proof.Gen.LastFwd.Skeleton
public import proofs.«01_k».proof.Proof.Gen.LastFwdIdeal.Skeleton
public import proofs.«01_k».proof.Proof.Gen.LastFwd.Launch
public import proofs.«01_k».proof.Proof.Gen.LastFwdIdeal.Launch
public import proofs.«01_k».proof.Proof.Gen.LastFwd.Points
public import proofs.«01_k».proof.Proof.Gen.LastFwdIdeal.Points
public import proofs.«01_k».proof.Proof.Gen.LastFwd.Frame
public import proofs.«01_k».proof.Proof.Gen.LastFwdIdeal.Frame
public import proofs.«01_k».proof.Proof.Gen.LastFwdRefIdeal
public import proofs.«01_k».proof.Proof.Gen.LastFwdIdeal.Value
public import proofs.«01_k».proof.Proof.Gen.LastFwdRefIdeal.Read
public import proofs.«01_k».proof.Proof.LastFwdValue
public import proofs.«01_k».proof.Proof.Gen.AttnFwd
public import proofs.«01_k».proof.Proof.Gen.AttnFwdIdeal
public import proofs.«01_k».proof.Proof.Gen.AttnFwd.Skeleton
public import proofs.«01_k».proof.Proof.Gen.AttnFwdIdeal.Skeleton
public import proofs.«01_k».proof.Proof.Gen.AttnFwd.Launch
public import proofs.«01_k».proof.Proof.Gen.AttnFwdIdeal.Launch
public import proofs.«01_k».proof.Proof.Gen.AttnFwd.Points
public import proofs.«01_k».proof.Proof.Gen.AttnFwdIdeal.Points
public import proofs.«01_k».proof.Proof.Gen.AttnFwd.Frame
public import proofs.«01_k».proof.Proof.Gen.AttnFwdIdeal.Frame
public import proofs.«01_k».proof.Proof.Gen.AttnFwdRefIdeal
public import proofs.«01_k».proof.Proof.Gen.AttnFwdIdeal.Value
public import proofs.«01_k».proof.Proof.Gen.AttnFwdRefIdeal.Read
public import proofs.«01_k».proof.Proof.AttnFwdValue
public import proofs.«01_k».proof.Proof.Gen.AdamUp
public import proofs.«01_k».proof.Proof.Gen.AdamUpIdeal
public import proofs.«01_k».proof.Proof.Gen.AdamUp.Skeleton
public import proofs.«01_k».proof.Proof.Gen.AdamUpIdeal.Skeleton
public import proofs.«01_k».proof.Proof.Gen.AdamUp.Launch
public import proofs.«01_k».proof.Proof.Gen.AdamUpIdeal.Launch
public import proofs.«01_k».proof.Proof.Gen.AdamUp.Points
public import proofs.«01_k».proof.Proof.Gen.AdamUpIdeal.Points
public import proofs.«01_k».proof.Proof.Gen.AdamUp.Frame
public import proofs.«01_k».proof.Proof.Gen.AdamUpIdeal.Frame
public import proofs.«01_k».proof.Proof.Gen.AdamUpRefIdeal
public import proofs.«01_k».proof.Proof.Gen.AdamUpIdeal.Value
public import proofs.«01_k».proof.Proof.Gen.AdamUpRefIdeal.Read
public import proofs.«01_k».proof.Proof.AdamUpValue
public import proofs.«01_k».proof.Proof.Gen.AdamOut
public import proofs.«01_k».proof.Proof.Gen.AdamOutIdeal
public import proofs.«01_k».proof.Proof.Gen.AdamOut.Skeleton
public import proofs.«01_k».proof.Proof.Gen.AdamOutIdeal.Skeleton
public import proofs.«01_k».proof.Proof.Gen.AdamOut.Launch
public import proofs.«01_k».proof.Proof.Gen.AdamOutIdeal.Launch
public import proofs.«01_k».proof.Proof.Gen.AdamOut.Points
public import proofs.«01_k».proof.Proof.Gen.AdamOutIdeal.Points
public import proofs.«01_k».proof.Proof.Gen.AdamOut.Frame
public import proofs.«01_k».proof.Proof.Gen.AdamOutIdeal.Frame
public import proofs.«01_k».proof.Proof.Gen.AdamOutRefIdeal
public import proofs.«01_k».proof.Proof.Gen.AdamOutIdeal.Value
public import proofs.«01_k».proof.Proof.Gen.AdamOutRefIdeal.Read
public import proofs.«01_k».proof.Proof.AdamOutValue
public import proofs.«01_k».proof.Proof.Gen.AdamIn
public import proofs.«01_k».proof.Proof.Gen.AdamInIdeal
public import proofs.«01_k».proof.Proof.Gen.AdamIn.Skeleton
public import proofs.«01_k».proof.Proof.Gen.AdamInIdeal.Skeleton
public import proofs.«01_k».proof.Proof.Gen.AdamIn.Launch
public import proofs.«01_k».proof.Proof.Gen.AdamInIdeal.Launch
public import proofs.«01_k».proof.Proof.Gen.AdamIn.Points
public import proofs.«01_k».proof.Proof.Gen.AdamInIdeal.Points
public import proofs.«01_k».proof.Proof.Gen.AdamIn.Frame
public import proofs.«01_k».proof.Proof.Gen.AdamInIdeal.Frame
public import proofs.«01_k».proof.Proof.Gen.AdamInRefIdeal
public import proofs.«01_k».proof.Proof.Gen.AdamInIdeal.Value
public import proofs.«01_k».proof.Proof.Gen.AdamInRefIdeal.Read
public import proofs.«01_k».proof.Proof.AdamInValue
public import proofs.«01_k».proof.Proof.Gen.Pre_finite_scores
public import Idealize.ShloMosaic.Adequacy
public import Idealize.ShloMosaic.Init

@[expose] public section

noncomputable section

namespace Cert.Proof

open Idealize.ShloMosaic Idealize.SL.Sem Cert.Conv

/-- The certificate's claims. -/
theorem claim : Cert.Claim := ⟨
  Cert.Conv.Gen.facts,
  Cert.ConvIdeal.Gen.facts,
  Cert.ConvRefIdeal.Gen.facts,
  Cert.MlpAct.Gen.facts,
  Cert.MlpActIdeal.Gen.facts,
  Cert.MlpActRefIdeal.Gen.facts,
  Cert.MlpW.Gen.facts,
  Cert.MlpWIdeal.Gen.facts,
  Cert.MlpWRefIdeal.Gen.facts,
  Cert.OutProj.Gen.facts,
  Cert.OutProjIdeal.Gen.facts,
  Cert.OutProjRefIdeal.Gen.facts,
  Cert.InProj.Gen.facts,
  Cert.InProjIdeal.Gen.facts,
  Cert.InProjRefIdeal.Gen.facts,
  Cert.InFwd.Gen.facts,
  Cert.InFwdIdeal.Gen.facts,
  Cert.InFwdRefIdeal.Gen.facts,
  Cert.OutFwd.Gen.facts,
  Cert.OutFwdIdeal.Gen.facts,
  Cert.OutFwdRefIdeal.Gen.facts,
  Cert.MlpFwd.Gen.facts,
  Cert.MlpFwdIdeal.Gen.facts,
  Cert.MlpFwdRefIdeal.Gen.facts,
  Cert.LastFwd.Gen.facts,
  Cert.LastFwdIdeal.Gen.facts,
  Cert.LastFwdRefIdeal.Gen.facts,
  Cert.AttnFwd.Gen.facts,
  Cert.AttnFwdIdeal.Gen.facts,
  Cert.AttnFwdRefIdeal.Gen.facts,
  Cert.AdamUp.Gen.facts,
  Cert.AdamUpIdeal.Gen.facts,
  Cert.AdamUpRefIdeal.Gen.facts,
  Cert.AdamOut.Gen.facts,
  Cert.AdamOutIdeal.Gen.facts,
  Cert.AdamOutRefIdeal.Gen.facts,
  Cert.AdamIn.Gen.facts,
  Cert.AdamInIdeal.Gen.facts,
  Cert.AdamInRefIdeal.Gen.facts,
  Cert.Pre_finite_scores.Gen.facts,
  fun m ρ _ => Cert.Conv.Gen.frame m ρ,
  fun m ρ _ => Cert.ConvIdeal.Gen.frame m ρ,
  Cert.ConvGrad.plainFrame,
  fun m ρ _ => Cert.MlpAct.Gen.frame m ρ,
  fun m ρ _ => Cert.MlpActIdeal.Gen.frame m ρ,
  Cert.MlpActGrad.plainFrame,
  fun m ρ _ => Cert.MlpW.Gen.frame m ρ,
  fun m ρ _ => Cert.MlpWIdeal.Gen.frame m ρ,
  Cert.MlpWGrad.plainFrame,
  fun m ρ _ => Cert.OutProj.Gen.frame m ρ,
  fun m ρ _ => Cert.OutProjIdeal.Gen.frame m ρ,
  Cert.OutProjGrad.plainFrame,
  fun m ρ _ => Cert.InProj.Gen.frame m ρ,
  fun m ρ _ => Cert.InProjIdeal.Gen.frame m ρ,
  Cert.InProjGrad.plainFrame,
  fun m ρ _ => Cert.InFwd.Gen.frame m ρ,
  fun m ρ _ => Cert.InFwdIdeal.Gen.frame m ρ,
  Cert.InFwdGrad.plainFrame,
  fun m ρ _ => Cert.OutFwd.Gen.frame m ρ,
  fun m ρ _ => Cert.OutFwdIdeal.Gen.frame m ρ,
  Cert.OutFwdGrad.plainFrame,
  fun m ρ _ => Cert.MlpFwd.Gen.frame m ρ,
  fun m ρ _ => Cert.MlpFwdIdeal.Gen.frame m ρ,
  Cert.MlpFwdGrad.plainFrame,
  fun m ρ _ => Cert.LastFwd.Gen.frame m ρ,
  fun m ρ _ => Cert.LastFwdIdeal.Gen.frame m ρ,
  Cert.LastFwdGrad.plainFrame,
  fun m ρ _ => Cert.AttnFwd.Gen.frame m ρ,
  fun m ρ _ => Cert.AttnFwdIdeal.Gen.frame m ρ,
  fun m ρ _ => Cert.AttnFwdIdeal.Gen.frame m ρ,
  Cert.AttnFwdGrad.plainFrame,
  fun m ρ _ => Cert.AttnFwdGrad.plainFrame m ρ trivial,
  fun m ρ _ => Cert.AdamUp.Gen.frame m ρ,
  fun m ρ _ => Cert.AdamUpIdeal.Gen.frame m ρ,
  Cert.AdamUpGrad.plainFrame,
  fun m ρ _ => Cert.AdamOut.Gen.frame m ρ,
  fun m ρ _ => Cert.AdamOutIdeal.Gen.frame m ρ,
  Cert.AdamOutGrad.plainFrame,
  fun m ρ _ => Cert.AdamIn.Gen.frame m ρ,
  fun m ρ _ => Cert.AdamInIdeal.Gen.frame m ρ,
  Cert.AdamInGrad.plainFrame,
  trivial,
  Cert.ConvGrad.algebraic,
  trivial,
  Cert.MlpActGrad.algebraic,
  trivial,
  Cert.MlpWGrad.algebraic,
  trivial,
  Cert.OutProjGrad.algebraic,
  trivial,
  Cert.InProjGrad.algebraic,
  trivial,
  Cert.InFwdGrad.algebraic,
  trivial,
  Cert.OutFwdGrad.algebraic,
  trivial,
  Cert.MlpFwdGrad.algebraic,
  trivial,
  Cert.LastFwdGrad.algebraic,
  trivial,
  Cert.AttnFwdGrad.algebraic,
  trivial,
  Cert.AdamUpGrad.algebraic,
  trivial,
  Cert.AdamOutGrad.algebraic,
  trivial,
  Cert.AdamInGrad.algebraic⟩

end Cert.Proof

end
